-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeReferenceIdeal (m : (ℓ : Loc Cert.MoeReferenceIdeal.nD Cert.MoeReferenceIdeal.τ Cert.MoeReferenceIdeal.sig) → Buf (Elt Ideal) ℓ) : Prop :=
  True

def Pre_Moe1 (m : (ℓ : Loc Cert.Moe1.nD Cert.Moe1.τ Cert.Moe1.sig) → Buf (Elt Bits) ℓ) : Prop :=
  True

def Pre_Moe1Ideal (m : (ℓ : Loc Cert.Moe1Ideal.nD Cert.Moe1Ideal.τ Cert.Moe1Ideal.sig) → Buf (Elt Ideal) ℓ) : Prop :=
  True

def Pre_Moe1ReferenceIdeal (m : (ℓ : Loc Cert.Moe1ReferenceIdeal.nD Cert.Moe1ReferenceIdeal.τ Cert.Moe1ReferenceIdeal.sig) → Buf (Elt Ideal) ℓ) : Prop :=
  True

def Pre_Moe2 (m : (ℓ : Loc Cert.Moe2.nD Cert.Moe2.τ Cert.Moe2.sig) → Buf (Elt Bits) ℓ) : Prop :=
  True

def Pre_Moe2Ideal (m : (ℓ : Loc Cert.Moe2Ideal.nD Cert.Moe2Ideal.τ Cert.Moe2Ideal.sig) → Buf (Elt Ideal) ℓ) : Prop :=
  True

def Pre_Moe2ReferenceIdeal (m : (ℓ : Loc Cert.Moe2ReferenceIdeal.nD Cert.Moe2ReferenceIdeal.τ Cert.Moe2ReferenceIdeal.sig) → Buf (Elt Ideal) ℓ) : Prop :=
  True

def Pre_Moe3 (m : (ℓ : Loc Cert.Moe3.nD Cert.Moe3.τ Cert.Moe3.sig) → Buf (Elt Bits) ℓ) : Prop :=
  True

def Pre_Moe3Ideal (m : (ℓ : Loc Cert.Moe3Ideal.nD Cert.Moe3Ideal.τ Cert.Moe3Ideal.sig) → Buf (Elt Ideal) ℓ) : Prop :=
  True

def Pre_Moe3ReferenceIdeal (m : (ℓ : Loc Cert.Moe3ReferenceIdeal.nD Cert.Moe3ReferenceIdeal.τ Cert.Moe3ReferenceIdeal.sig) → Buf (Elt Ideal) ℓ) : Prop :=
  True

def Pre_Hyena (m : (ℓ : Loc Cert.Hyena.nD Cert.Hyena.τ Cert.Hyena.sig) → Buf (Elt Bits) ℓ) : Prop :=
  True

def Pre_HyenaIdeal (m : (ℓ : Loc Cert.HyenaIdeal.nD Cert.HyenaIdeal.τ Cert.HyenaIdeal.sig) → Buf (Elt Ideal) ℓ) : Prop :=
  True

def Pre_HyenaReferenceIdeal (m : (ℓ : Loc Cert.HyenaReferenceIdeal.nD Cert.HyenaReferenceIdeal.τ Cert.HyenaReferenceIdeal.sig) → Buf (Elt Ideal) ℓ) : Prop :=
  True

def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaReferenceIdeal (m : (ℓ : Loc Cert.GqaReferenceIdeal.nD Cert.GqaReferenceIdeal.τ Cert.GqaReferenceIdeal.sig) → Buf (Elt Ideal) ℓ) : Prop :=
  True

def Pre_Mlstm (m : (ℓ : Loc Cert.Mlstm.nD Cert.Mlstm.τ Cert.Mlstm.sig) → Buf (Elt Bits) ℓ) : Prop :=
  True

def Pre_MlstmIdeal (m : (ℓ : Loc Cert.MlstmIdeal.nD Cert.MlstmIdeal.τ Cert.MlstmIdeal.sig) → Buf (Elt Ideal) ℓ) : Prop :=
  True

def Pre_MlstmReferenceIdeal (m : (ℓ : Loc Cert.MlstmReferenceIdeal.nD Cert.MlstmReferenceIdeal.τ Cert.MlstmReferenceIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4))
      ∧ r.2.sem = fun _ => 0)

def quiescent_MoeReferenceIdeal [hMoeReferenceIdeal : Cert.MoeReferenceIdeal.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4))
      ∧ r.2.sem = fun _ => 0)

def quiescent_Moe1 [hMoe1 : Cert.Moe1.Facts] : Prop :=
  ∀ (m : (ℓ : Loc Cert.Moe1.nD Cert.Moe1.τ Cert.Moe1.sig) → Buf (Elt Bits) ℓ) (g : Dev Cert.Moe1.nD → PrngReg), Pre_Moe1 m →
    θ_run (Cert.Moe1.defs (F := Bits)) (onTc (τ := Cert.Moe1.τ) (Cert.Moe1.main (F := Bits))) ⟨m, fun _ => 0, g⟩ (fun r => (∀ c : Dev Cert.Moe1.nD,
      r.2.mem ((c.tc : Thread Cert.Moe1.nD Cert.Moe1.τ).loc Cert.Moe1.main_arg0) = m ((c.tc : Thread Cert.Moe1.nD Cert.Moe1.τ).loc Cert.Moe1.main_arg0)
      ∧ r.2.mem ((c.tc : Thread Cert.Moe1.nD Cert.Moe1.τ).loc Cert.Moe1.main_arg1) = m ((c.tc : Thread Cert.Moe1.nD Cert.Moe1.τ).loc Cert.Moe1.main_arg1)
      ∧ r.2.mem ((c.tc : Thread Cert.Moe1.nD Cert.Moe1.τ).loc Cert.Moe1.main_arg2) = m ((c.tc : Thread Cert.Moe1.nD Cert.Moe1.τ).loc Cert.Moe1.main_arg2)
      ∧ r.2.mem ((c.tc : Thread Cert.Moe1.nD Cert.Moe1.τ).loc Cert.Moe1.main_arg3) = m ((c.tc : Thread Cert.Moe1.nD Cert.Moe1.τ).loc Cert.Moe1.main_arg3)
      ∧ r.2.mem ((c.tc : Thread Cert.Moe1.nD Cert.Moe1.τ).loc Cert.Moe1.main_arg4) = m ((c.tc : Thread Cert.Moe1.nD Cert.Moe1.τ).loc Cert.Moe1.main_arg4))
      ∧ r.2.sem = fun _ => 0)

def quiescent_Moe1Ideal [hMoe1Ideal : Cert.Moe1Ideal.Facts] : Prop :=
  ∀ (m : (ℓ : Loc Cert.Moe1Ideal.nD Cert.Moe1Ideal.τ Cert.Moe1Ideal.sig) → Buf (Elt Ideal) ℓ) (g : Dev Cert.Moe1Ideal.nD → PrngReg), Pre_Moe1Ideal m →
    θ_run (Cert.Moe1Ideal.defs (F := Ideal)) (onTc (τ := Cert.Moe1Ideal.τ) (Cert.Moe1Ideal.main (F := Ideal))) ⟨m, fun _ => 0, g⟩ (fun r => (∀ c : Dev Cert.Moe1Ideal.nD,
      r.2.mem ((c.tc : Thread Cert.Moe1Ideal.nD Cert.Moe1Ideal.τ).loc Cert.Moe1Ideal.main_arg0) = m ((c.tc : Thread Cert.Moe1Ideal.nD Cert.Moe1Ideal.τ).loc Cert.Moe1Ideal.main_arg0)
      ∧ r.2.mem ((c.tc : Thread Cert.Moe1Ideal.nD Cert.Moe1Ideal.τ).loc Cert.Moe1Ideal.main_arg1) = m ((c.tc : Thread Cert.Moe1Ideal.nD Cert.Moe1Ideal.τ).loc Cert.Moe1Ideal.main_arg1)
      ∧ r.2.mem ((c.tc : Thread Cert.Moe1Ideal.nD Cert.Moe1Ideal.τ).loc Cert.Moe1Ideal.main_arg2) = m ((c.tc : Thread Cert.Moe1Ideal.nD Cert.Moe1Ideal.τ).loc Cert.Moe1Ideal.main_arg2)
      ∧ r.2.mem ((c.tc : Thread Cert.Moe1Ideal.nD Cert.Moe1Ideal.τ).loc Cert.Moe1Ideal.main_arg3) = m ((c.tc : Thread Cert.Moe1Ideal.nD Cert.Moe1Ideal.τ).loc Cert.Moe1Ideal.main_arg3)
      ∧ r.2.mem ((c.tc : Thread Cert.Moe1Ideal.nD Cert.Moe1Ideal.τ).loc Cert.Moe1Ideal.main_arg4) = m ((c.tc : Thread Cert.Moe1Ideal.nD Cert.Moe1Ideal.τ).loc Cert.Moe1Ideal.main_arg4))
      ∧ r.2.sem = fun _ => 0)

def quiescent_Moe1ReferenceIdeal [hMoe1ReferenceIdeal : Cert.Moe1ReferenceIdeal.Facts] : Prop :=
  ∀ (m : (ℓ : Loc Cert.Moe1ReferenceIdeal.nD Cert.Moe1ReferenceIdeal.τ Cert.Moe1ReferenceIdeal.sig) → Buf (Elt Ideal) ℓ) (g : Dev Cert.Moe1ReferenceIdeal.nD → PrngReg), Pre_Moe1ReferenceIdeal m →
    θ_run (Cert.Moe1ReferenceIdeal.defs (F := Ideal)) (onTc (τ := Cert.Moe1ReferenceIdeal.τ) (Cert.Moe1ReferenceIdeal.main (F := Ideal))) ⟨m, fun _ => 0, g⟩ (fun r => (∀ c : Dev Cert.Moe1ReferenceIdeal.nD,
      r.2.mem ((c.tc : Thread Cert.Moe1ReferenceIdeal.nD Cert.Moe1ReferenceIdeal.τ).loc Cert.Moe1ReferenceIdeal.main_arg0) = m ((c.tc : Thread Cert.Moe1ReferenceIdeal.nD Cert.Moe1ReferenceIdeal.τ).loc Cert.Moe1ReferenceIdeal.main_arg0)
      ∧ r.2.mem ((c.tc : Thread Cert.Moe1ReferenceIdeal.nD Cert.Moe1ReferenceIdeal.τ).loc Cert.Moe1ReferenceIdeal.main_arg1) = m ((c.tc : Thread Cert.Moe1ReferenceIdeal.nD Cert.Moe1ReferenceIdeal.τ).loc Cert.Moe1ReferenceIdeal.main_arg1)
      ∧ r.2.mem ((c.tc : Thread Cert.Moe1ReferenceIdeal.nD Cert.Moe1ReferenceIdeal.τ).loc Cert.Moe1ReferenceIdeal.main_arg2) = m ((c.tc : Thread Cert.Moe1ReferenceIdeal.nD Cert.Moe1ReferenceIdeal.τ).loc Cert.Moe1ReferenceIdeal.main_arg2)
      ∧ r.2.mem ((c.tc : Thread Cert.Moe1ReferenceIdeal.nD Cert.Moe1ReferenceIdeal.τ).loc Cert.Moe1ReferenceIdeal.main_arg3) = m ((c.tc : Thread Cert.Moe1ReferenceIdeal.nD Cert.Moe1ReferenceIdeal.τ).loc Cert.Moe1ReferenceIdeal.main_arg3)
      ∧ r.2.mem ((c.tc : Thread Cert.Moe1ReferenceIdeal.nD Cert.Moe1ReferenceIdeal.τ).loc Cert.Moe1ReferenceIdeal.main_arg4) = m ((c.tc : Thread Cert.Moe1ReferenceIdeal.nD Cert.Moe1ReferenceIdeal.τ).loc Cert.Moe1ReferenceIdeal.main_arg4))
      ∧ r.2.sem = fun _ => 0)

def quiescent_Moe2 [hMoe2 : Cert.Moe2.Facts] : Prop :=
  ∀ (m : (ℓ : Loc Cert.Moe2.nD Cert.Moe2.τ Cert.Moe2.sig) → Buf (Elt Bits) ℓ) (g : Dev Cert.Moe2.nD → PrngReg), Pre_Moe2 m →
    θ_run (Cert.Moe2.defs (F := Bits)) (onTc (τ := Cert.Moe2.τ) (Cert.Moe2.main (F := Bits))) ⟨m, fun _ => 0, g⟩ (fun r => (∀ c : Dev Cert.Moe2.nD,
      r.2.mem ((c.tc : Thread Cert.Moe2.nD Cert.Moe2.τ).loc Cert.Moe2.main_arg0) = m ((c.tc : Thread Cert.Moe2.nD Cert.Moe2.τ).loc Cert.Moe2.main_arg0)
      ∧ r.2.mem ((c.tc : Thread Cert.Moe2.nD Cert.Moe2.τ).loc Cert.Moe2.main_arg1) = m ((c.tc : Thread Cert.Moe2.nD Cert.Moe2.τ).loc Cert.Moe2.main_arg1)
      ∧ r.2.mem ((c.tc : Thread Cert.Moe2.nD Cert.Moe2.τ).loc Cert.Moe2.main_arg2) = m ((c.tc : Thread Cert.Moe2.nD Cert.Moe2.τ).loc Cert.Moe2.main_arg2)
      ∧ r.2.mem ((c.tc : Thread Cert.Moe2.nD Cert.Moe2.τ).loc Cert.Moe2.main_arg3) = m ((c.tc : Thread Cert.Moe2.nD Cert.Moe2.τ).loc Cert.Moe2.main_arg3)
      ∧ r.2.mem ((c.tc : Thread Cert.Moe2.nD Cert.Moe2.τ).loc Cert.Moe2.main_arg4) = m ((c.tc : Thread Cert.Moe2.nD Cert.Moe2.τ).loc Cert.Moe2.main_arg4))
      ∧ r.2.sem = fun _ => 0)

def quiescent_Moe2Ideal [hMoe2Ideal : Cert.Moe2Ideal.Facts] : Prop :=
  ∀ (m : (ℓ : Loc Cert.Moe2Ideal.nD Cert.Moe2Ideal.τ Cert.Moe2Ideal.sig) → Buf (Elt Ideal) ℓ) (g : Dev Cert.Moe2Ideal.nD → PrngReg), Pre_Moe2Ideal m →
    θ_run (Cert.Moe2Ideal.defs (F := Ideal)) (onTc (τ := Cert.Moe2Ideal.τ) (Cert.Moe2Ideal.main (F := Ideal))) ⟨m, fun _ => 0, g⟩ (fun r => (∀ c : Dev Cert.Moe2Ideal.nD,
      r.2.mem ((c.tc : Thread Cert.Moe2Ideal.nD Cert.Moe2Ideal.τ).loc Cert.Moe2Ideal.main_arg0) = m ((c.tc : Thread Cert.Moe2Ideal.nD Cert.Moe2Ideal.τ).loc Cert.Moe2Ideal.main_arg0)
      ∧ r.2.mem ((c.tc : Thread Cert.Moe2Ideal.nD Cert.Moe2Ideal.τ).loc Cert.Moe2Ideal.main_arg1) = m ((c.tc : Thread Cert.Moe2Ideal.nD Cert.Moe2Ideal.τ).loc Cert.Moe2Ideal.main_arg1)
      ∧ r.2.mem ((c.tc : Thread Cert.Moe2Ideal.nD Cert.Moe2Ideal.τ).loc Cert.Moe2Ideal.main_arg2) = m ((c.tc : Thread Cert.Moe2Ideal.nD Cert.Moe2Ideal.τ).loc Cert.Moe2Ideal.main_arg2)
      ∧ r.2.mem ((c.tc : Thread Cert.Moe2Ideal.nD Cert.Moe2Ideal.τ).loc Cert.Moe2Ideal.main_arg3) = m ((c.tc : Thread Cert.Moe2Ideal.nD Cert.Moe2Ideal.τ).loc Cert.Moe2Ideal.main_arg3)
      ∧ r.2.mem ((c.tc : Thread Cert.Moe2Ideal.nD Cert.Moe2Ideal.τ).loc Cert.Moe2Ideal.main_arg4) = m ((c.tc : Thread Cert.Moe2Ideal.nD Cert.Moe2Ideal.τ).loc Cert.Moe2Ideal.main_arg4))
      ∧ r.2.sem = fun _ => 0)

def quiescent_Moe2ReferenceIdeal [hMoe2ReferenceIdeal : Cert.Moe2ReferenceIdeal.Facts] : Prop :=
  ∀ (m : (ℓ : Loc Cert.Moe2ReferenceIdeal.nD Cert.Moe2ReferenceIdeal.τ Cert.Moe2ReferenceIdeal.sig) → Buf (Elt Ideal) ℓ) (g : Dev Cert.Moe2ReferenceIdeal.nD → PrngReg), Pre_Moe2ReferenceIdeal m →
    θ_run (Cert.Moe2ReferenceIdeal.defs (F := Ideal)) (onTc (τ := Cert.Moe2ReferenceIdeal.τ) (Cert.Moe2ReferenceIdeal.main (F := Ideal))) ⟨m, fun _ => 0, g⟩ (fun r => (∀ c : Dev Cert.Moe2ReferenceIdeal.nD,
      r.2.mem ((c.tc : Thread Cert.Moe2ReferenceIdeal.nD Cert.Moe2ReferenceIdeal.τ).loc Cert.Moe2ReferenceIdeal.main_arg0) = m ((c.tc : Thread Cert.Moe2ReferenceIdeal.nD Cert.Moe2ReferenceIdeal.τ).loc Cert.Moe2ReferenceIdeal.main_arg0)
      ∧ r.2.mem ((c.tc : Thread Cert.Moe2ReferenceIdeal.nD Cert.Moe2ReferenceIdeal.τ).loc Cert.Moe2ReferenceIdeal.main_arg1) = m ((c.tc : Thread Cert.Moe2ReferenceIdeal.nD Cert.Moe2ReferenceIdeal.τ).loc Cert.Moe2ReferenceIdeal.main_arg1)
      ∧ r.2.mem ((c.tc : Thread Cert.Moe2ReferenceIdeal.nD Cert.Moe2ReferenceIdeal.τ).loc Cert.Moe2ReferenceIdeal.main_arg2) = m ((c.tc : Thread Cert.Moe2ReferenceIdeal.nD Cert.Moe2ReferenceIdeal.τ).loc Cert.Moe2ReferenceIdeal.main_arg2)
      ∧ r.2.mem ((c.tc : Thread Cert.Moe2ReferenceIdeal.nD Cert.Moe2ReferenceIdeal.τ).loc Cert.Moe2ReferenceIdeal.main_arg3) = m ((c.tc : Thread Cert.Moe2ReferenceIdeal.nD Cert.Moe2ReferenceIdeal.τ).loc Cert.Moe2ReferenceIdeal.main_arg3)
      ∧ r.2.mem ((c.tc : Thread Cert.Moe2ReferenceIdeal.nD Cert.Moe2ReferenceIdeal.τ).loc Cert.Moe2ReferenceIdeal.main_arg4) = m ((c.tc : Thread Cert.Moe2ReferenceIdeal.nD Cert.Moe2ReferenceIdeal.τ).loc Cert.Moe2ReferenceIdeal.main_arg4))
      ∧ r.2.sem = fun _ => 0)

def quiescent_Moe3 [hMoe3 : Cert.Moe3.Facts] : Prop :=
  ∀ (m : (ℓ : Loc Cert.Moe3.nD Cert.Moe3.τ Cert.Moe3.sig) → Buf (Elt Bits) ℓ) (g : Dev Cert.Moe3.nD → PrngReg), Pre_Moe3 m →
    θ_run (Cert.Moe3.defs (F := Bits)) (onTc (τ := Cert.Moe3.τ) (Cert.Moe3.main (F := Bits))) ⟨m, fun _ => 0, g⟩ (fun r => (∀ c : Dev Cert.Moe3.nD,
      r.2.mem ((c.tc : Thread Cert.Moe3.nD Cert.Moe3.τ).loc Cert.Moe3.main_arg0) = m ((c.tc : Thread Cert.Moe3.nD Cert.Moe3.τ).loc Cert.Moe3.main_arg0)
      ∧ r.2.mem ((c.tc : Thread Cert.Moe3.nD Cert.Moe3.τ).loc Cert.Moe3.main_arg1) = m ((c.tc : Thread Cert.Moe3.nD Cert.Moe3.τ).loc Cert.Moe3.main_arg1)
      ∧ r.2.mem ((c.tc : Thread Cert.Moe3.nD Cert.Moe3.τ).loc Cert.Moe3.main_arg2) = m ((c.tc : Thread Cert.Moe3.nD Cert.Moe3.τ).loc Cert.Moe3.main_arg2)
      ∧ r.2.mem ((c.tc : Thread Cert.Moe3.nD Cert.Moe3.τ).loc Cert.Moe3.main_arg3) = m ((c.tc : Thread Cert.Moe3.nD Cert.Moe3.τ).loc Cert.Moe3.main_arg3)
      ∧ r.2.mem ((c.tc : Thread Cert.Moe3.nD Cert.Moe3.τ).loc Cert.Moe3.main_arg4) = m ((c.tc : Thread Cert.Moe3.nD Cert.Moe3.τ).loc Cert.Moe3.main_arg4))
      ∧ r.2.sem = fun _ => 0)

def quiescent_Moe3Ideal [hMoe3Ideal : Cert.Moe3Ideal.Facts] : Prop :=
  ∀ (m : (ℓ : Loc Cert.Moe3Ideal.nD Cert.Moe3Ideal.τ Cert.Moe3Ideal.sig) → Buf (Elt Ideal) ℓ) (g : Dev Cert.Moe3Ideal.nD → PrngReg), Pre_Moe3Ideal m →
    θ_run (Cert.Moe3Ideal.defs (F := Ideal)) (onTc (τ := Cert.Moe3Ideal.τ) (Cert.Moe3Ideal.main (F := Ideal))) ⟨m, fun _ => 0, g⟩ (fun r => (∀ c : Dev Cert.Moe3Ideal.nD,
      r.2.mem ((c.tc : Thread Cert.Moe3Ideal.nD Cert.Moe3Ideal.τ).loc Cert.Moe3Ideal.main_arg0) = m ((c.tc : Thread Cert.Moe3Ideal.nD Cert.Moe3Ideal.τ).loc Cert.Moe3Ideal.main_arg0)
      ∧ r.2.mem ((c.tc : Thread Cert.Moe3Ideal.nD Cert.Moe3Ideal.τ).loc Cert.Moe3Ideal.main_arg1) = m ((c.tc : Thread Cert.Moe3Ideal.nD Cert.Moe3Ideal.τ).loc Cert.Moe3Ideal.main_arg1)
      ∧ r.2.mem ((c.tc : Thread Cert.Moe3Ideal.nD Cert.Moe3Ideal.τ).loc Cert.Moe3Ideal.main_arg2) = m ((c.tc : Thread Cert.Moe3Ideal.nD Cert.Moe3Ideal.τ).loc Cert.Moe3Ideal.main_arg2)
      ∧ r.2.mem ((c.tc : Thread Cert.Moe3Ideal.nD Cert.Moe3Ideal.τ).loc Cert.Moe3Ideal.main_arg3) = m ((c.tc : Thread Cert.Moe3Ideal.nD Cert.Moe3Ideal.τ).loc Cert.Moe3Ideal.main_arg3)
      ∧ r.2.mem ((c.tc : Thread Cert.Moe3Ideal.nD Cert.Moe3Ideal.τ).loc Cert.Moe3Ideal.main_arg4) = m ((c.tc : Thread Cert.Moe3Ideal.nD Cert.Moe3Ideal.τ).loc Cert.Moe3Ideal.main_arg4))
      ∧ r.2.sem = fun _ => 0)

def quiescent_Moe3ReferenceIdeal [hMoe3ReferenceIdeal : Cert.Moe3ReferenceIdeal.Facts] : Prop :=
  ∀ (m : (ℓ : Loc Cert.Moe3ReferenceIdeal.nD Cert.Moe3ReferenceIdeal.τ Cert.Moe3ReferenceIdeal.sig) → Buf (Elt Ideal) ℓ) (g : Dev Cert.Moe3ReferenceIdeal.nD → PrngReg), Pre_Moe3ReferenceIdeal m →
    θ_run (Cert.Moe3ReferenceIdeal.defs (F := Ideal)) (onTc (τ := Cert.Moe3ReferenceIdeal.τ) (Cert.Moe3ReferenceIdeal.main (F := Ideal))) ⟨m, fun _ => 0, g⟩ (fun r => (∀ c : Dev Cert.Moe3ReferenceIdeal.nD,
      r.2.mem ((c.tc : Thread Cert.Moe3ReferenceIdeal.nD Cert.Moe3ReferenceIdeal.τ).loc Cert.Moe3ReferenceIdeal.main_arg0) = m ((c.tc : Thread Cert.Moe3ReferenceIdeal.nD Cert.Moe3ReferenceIdeal.τ).loc Cert.Moe3ReferenceIdeal.main_arg0)
      ∧ r.2.mem ((c.tc : Thread Cert.Moe3ReferenceIdeal.nD Cert.Moe3ReferenceIdeal.τ).loc Cert.Moe3ReferenceIdeal.main_arg1) = m ((c.tc : Thread Cert.Moe3ReferenceIdeal.nD Cert.Moe3ReferenceIdeal.τ).loc Cert.Moe3ReferenceIdeal.main_arg1)
      ∧ r.2.mem ((c.tc : Thread Cert.Moe3ReferenceIdeal.nD Cert.Moe3ReferenceIdeal.τ).loc Cert.Moe3ReferenceIdeal.main_arg2) = m ((c.tc : Thread Cert.Moe3ReferenceIdeal.nD Cert.Moe3ReferenceIdeal.τ).loc Cert.Moe3ReferenceIdeal.main_arg2)
      ∧ r.2.mem ((c.tc : Thread Cert.Moe3ReferenceIdeal.nD Cert.Moe3ReferenceIdeal.τ).loc Cert.Moe3ReferenceIdeal.main_arg3) = m ((c.tc : Thread Cert.Moe3ReferenceIdeal.nD Cert.Moe3ReferenceIdeal.τ).loc Cert.Moe3ReferenceIdeal.main_arg3)
      ∧ r.2.mem ((c.tc : Thread Cert.Moe3ReferenceIdeal.nD Cert.Moe3ReferenceIdeal.τ).loc Cert.Moe3ReferenceIdeal.main_arg4) = m ((c.tc : Thread Cert.Moe3ReferenceIdeal.nD Cert.Moe3ReferenceIdeal.τ).loc Cert.Moe3ReferenceIdeal.main_arg4))
      ∧ r.2.sem = fun _ => 0)

def quiescent_Hyena [hHyena : Cert.Hyena.Facts] : Prop :=
  ∀ (m : (ℓ : Loc Cert.Hyena.nD Cert.Hyena.τ Cert.Hyena.sig) → Buf (Elt Bits) ℓ) (g : Dev Cert.Hyena.nD → PrngReg), Pre_Hyena m →
    θ_run (Cert.Hyena.defs (F := Bits)) (onTc (τ := Cert.Hyena.τ) (Cert.Hyena.main (F := Bits))) ⟨m, fun _ => 0, g⟩ (fun r => (∀ c : Dev Cert.Hyena.nD,
      r.2.mem ((c.tc : Thread Cert.Hyena.nD Cert.Hyena.τ).loc Cert.Hyena.main_arg0) = m ((c.tc : Thread Cert.Hyena.nD Cert.Hyena.τ).loc Cert.Hyena.main_arg0)
      ∧ r.2.mem ((c.tc : Thread Cert.Hyena.nD Cert.Hyena.τ).loc Cert.Hyena.main_arg1) = m ((c.tc : Thread Cert.Hyena.nD Cert.Hyena.τ).loc Cert.Hyena.main_arg1)
      ∧ r.2.mem ((c.tc : Thread Cert.Hyena.nD Cert.Hyena.τ).loc Cert.Hyena.main_arg2) = m ((c.tc : Thread Cert.Hyena.nD Cert.Hyena.τ).loc Cert.Hyena.main_arg2)
      ∧ r.2.mem ((c.tc : Thread Cert.Hyena.nD Cert.Hyena.τ).loc Cert.Hyena.main_arg3) = m ((c.tc : Thread Cert.Hyena.nD Cert.Hyena.τ).loc Cert.Hyena.main_arg3)
      ∧ r.2.mem ((c.tc : Thread Cert.Hyena.nD Cert.Hyena.τ).loc Cert.Hyena.main_arg4) = m ((c.tc : Thread Cert.Hyena.nD Cert.Hyena.τ).loc Cert.Hyena.main_arg4)
      ∧ r.2.mem ((c.tc : Thread Cert.Hyena.nD Cert.Hyena.τ).loc Cert.Hyena.main_arg5) = m ((c.tc : Thread Cert.Hyena.nD Cert.Hyena.τ).loc Cert.Hyena.main_arg5))
      ∧ r.2.sem = fun _ => 0)

def quiescent_HyenaIdeal [hHyenaIdeal : Cert.HyenaIdeal.Facts] : Prop :=
  ∀ (m : (ℓ : Loc Cert.HyenaIdeal.nD Cert.HyenaIdeal.τ Cert.HyenaIdeal.sig) → Buf (Elt Ideal) ℓ) (g : Dev Cert.HyenaIdeal.nD → PrngReg), Pre_HyenaIdeal m →
    θ_run (Cert.HyenaIdeal.defs (F := Ideal)) (onTc (τ := Cert.HyenaIdeal.τ) (Cert.HyenaIdeal.main (F := Ideal))) ⟨m, fun _ => 0, g⟩ (fun r => (∀ c : Dev Cert.HyenaIdeal.nD,
      r.2.mem ((c.tc : Thread Cert.HyenaIdeal.nD Cert.HyenaIdeal.τ).loc Cert.HyenaIdeal.main_arg0) = m ((c.tc : Thread Cert.HyenaIdeal.nD Cert.HyenaIdeal.τ).loc Cert.HyenaIdeal.main_arg0)
      ∧ r.2.mem ((c.tc : Thread Cert.HyenaIdeal.nD Cert.HyenaIdeal.τ).loc Cert.HyenaIdeal.main_arg1) = m ((c.tc : Thread Cert.HyenaIdeal.nD Cert.HyenaIdeal.τ).loc Cert.HyenaIdeal.main_arg1)
      ∧ r.2.mem ((c.tc : Thread Cert.HyenaIdeal.nD Cert.HyenaIdeal.τ).loc Cert.HyenaIdeal.main_arg2) = m ((c.tc : Thread Cert.HyenaIdeal.nD Cert.HyenaIdeal.τ).loc Cert.HyenaIdeal.main_arg2)
      ∧ r.2.mem ((c.tc : Thread Cert.HyenaIdeal.nD Cert.HyenaIdeal.τ).loc Cert.HyenaIdeal.main_arg3) = m ((c.tc : Thread Cert.HyenaIdeal.nD Cert.HyenaIdeal.τ).loc Cert.HyenaIdeal.main_arg3)
      ∧ r.2.mem ((c.tc : Thread Cert.HyenaIdeal.nD Cert.HyenaIdeal.τ).loc Cert.HyenaIdeal.main_arg4) = m ((c.tc : Thread Cert.HyenaIdeal.nD Cert.HyenaIdeal.τ).loc Cert.HyenaIdeal.main_arg4)
      ∧ r.2.mem ((c.tc : Thread Cert.HyenaIdeal.nD Cert.HyenaIdeal.τ).loc Cert.HyenaIdeal.main_arg5) = m ((c.tc : Thread Cert.HyenaIdeal.nD Cert.HyenaIdeal.τ).loc Cert.HyenaIdeal.main_arg5))
      ∧ r.2.sem = fun _ => 0)

def quiescent_HyenaReferenceIdeal [hHyenaReferenceIdeal : Cert.HyenaReferenceIdeal.Facts] : Prop :=
  ∀ (m : (ℓ : Loc Cert.HyenaReferenceIdeal.nD Cert.HyenaReferenceIdeal.τ Cert.HyenaReferenceIdeal.sig) → Buf (Elt Ideal) ℓ) (g : Dev Cert.HyenaReferenceIdeal.nD → PrngReg), Pre_HyenaReferenceIdeal m →
    θ_run (Cert.HyenaReferenceIdeal.defs (F := Ideal)) (onTc (τ := Cert.HyenaReferenceIdeal.τ) (Cert.HyenaReferenceIdeal.main (F := Ideal))) ⟨m, fun _ => 0, g⟩ (fun r => (∀ c : Dev Cert.HyenaReferenceIdeal.nD,
      r.2.mem ((c.tc : Thread Cert.HyenaReferenceIdeal.nD Cert.HyenaReferenceIdeal.τ).loc Cert.HyenaReferenceIdeal.main_arg0) = m ((c.tc : Thread Cert.HyenaReferenceIdeal.nD Cert.HyenaReferenceIdeal.τ).loc Cert.HyenaReferenceIdeal.main_arg0)
      ∧ r.2.mem ((c.tc : Thread Cert.HyenaReferenceIdeal.nD Cert.HyenaReferenceIdeal.τ).loc Cert.HyenaReferenceIdeal.main_arg1) = m ((c.tc : Thread Cert.HyenaReferenceIdeal.nD Cert.HyenaReferenceIdeal.τ).loc Cert.HyenaReferenceIdeal.main_arg1)
      ∧ r.2.mem ((c.tc : Thread Cert.HyenaReferenceIdeal.nD Cert.HyenaReferenceIdeal.τ).loc Cert.HyenaReferenceIdeal.main_arg2) = m ((c.tc : Thread Cert.HyenaReferenceIdeal.nD Cert.HyenaReferenceIdeal.τ).loc Cert.HyenaReferenceIdeal.main_arg2)
      ∧ r.2.mem ((c.tc : Thread Cert.HyenaReferenceIdeal.nD Cert.HyenaReferenceIdeal.τ).loc Cert.HyenaReferenceIdeal.main_arg3) = m ((c.tc : Thread Cert.HyenaReferenceIdeal.nD Cert.HyenaReferenceIdeal.τ).loc Cert.HyenaReferenceIdeal.main_arg3)
      ∧ r.2.mem ((c.tc : Thread Cert.HyenaReferenceIdeal.nD Cert.HyenaReferenceIdeal.τ).loc Cert.HyenaReferenceIdeal.main_arg4) = m ((c.tc : Thread Cert.HyenaReferenceIdeal.nD Cert.HyenaReferenceIdeal.τ).loc Cert.HyenaReferenceIdeal.main_arg4)
      ∧ r.2.mem ((c.tc : Thread Cert.HyenaReferenceIdeal.nD Cert.HyenaReferenceIdeal.τ).loc Cert.HyenaReferenceIdeal.main_arg5) = m ((c.tc : Thread Cert.HyenaReferenceIdeal.nD Cert.HyenaReferenceIdeal.τ).loc Cert.HyenaReferenceIdeal.main_arg5))
      ∧ r.2.sem = fun _ => 0)

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1)
      ∧ r.2.mem ((c.tc : Thread Cert.Gqa.nD Cert.Gqa.τ).loc Cert.Gqa.main_arg2) = m ((c.tc : Thread Cert.Gqa.nD Cert.Gqa.τ).loc Cert.Gqa.main_arg2)
      ∧ r.2.mem ((c.tc : Thread Cert.Gqa.nD Cert.Gqa.τ).loc Cert.Gqa.main_arg3) = m ((c.tc : Thread Cert.Gqa.nD Cert.Gqa.τ).loc Cert.Gqa.main_arg3)
      ∧ r.2.mem ((c.tc : Thread Cert.Gqa.nD Cert.Gqa.τ).loc Cert.Gqa.main_arg4) = m ((c.tc : Thread Cert.Gqa.nD Cert.Gqa.τ).loc Cert.Gqa.main_arg4))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
      ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4))
      ∧ r.2.sem = fun _ => 0)

def quiescent_GqaReferenceIdeal [hGqaReferenceIdeal : Cert.GqaReferenceIdeal.Facts] : Prop :=
  ∀ (m : (ℓ : Loc Cert.GqaReferenceIdeal.nD Cert.GqaReferenceIdeal.τ Cert.GqaReferenceIdeal.sig) → Buf (Elt Ideal) ℓ) (g : Dev Cert.GqaReferenceIdeal.nD → PrngReg), Pre_GqaReferenceIdeal m →
    θ_run (Cert.GqaReferenceIdeal.defs (F := Ideal)) (onTc (τ := Cert.GqaReferenceIdeal.τ) (Cert.GqaReferenceIdeal.main (F := Ideal))) ⟨m, fun _ => 0, g⟩ (fun r => (∀ c : Dev Cert.GqaReferenceIdeal.nD,
      r.2.mem ((c.tc : Thread Cert.GqaReferenceIdeal.nD Cert.GqaReferenceIdeal.τ).loc Cert.GqaReferenceIdeal.main_arg0) = m ((c.tc : Thread Cert.GqaReferenceIdeal.nD Cert.GqaReferenceIdeal.τ).loc Cert.GqaReferenceIdeal.main_arg0)
      ∧ r.2.mem ((c.tc : Thread Cert.GqaReferenceIdeal.nD Cert.GqaReferenceIdeal.τ).loc Cert.GqaReferenceIdeal.main_arg1) = m ((c.tc : Thread Cert.GqaReferenceIdeal.nD Cert.GqaReferenceIdeal.τ).loc Cert.GqaReferenceIdeal.main_arg1)
      ∧ r.2.mem ((c.tc : Thread Cert.GqaReferenceIdeal.nD Cert.GqaReferenceIdeal.τ).loc Cert.GqaReferenceIdeal.main_arg2) = m ((c.tc : Thread Cert.GqaReferenceIdeal.nD Cert.GqaReferenceIdeal.τ).loc Cert.GqaReferenceIdeal.main_arg2)
      ∧ r.2.mem ((c.tc : Thread Cert.GqaReferenceIdeal.nD Cert.GqaReferenceIdeal.τ).loc Cert.GqaReferenceIdeal.main_arg3) = m ((c.tc : Thread Cert.GqaReferenceIdeal.nD Cert.GqaReferenceIdeal.τ).loc Cert.GqaReferenceIdeal.main_arg3)
      ∧ r.2.mem ((c.tc : Thread Cert.GqaReferenceIdeal.nD Cert.GqaReferenceIdeal.τ).loc Cert.GqaReferenceIdeal.main_arg4) = m ((c.tc : Thread Cert.GqaReferenceIdeal.nD Cert.GqaReferenceIdeal.τ).loc Cert.GqaReferenceIdeal.main_arg4))
      ∧ r.2.sem = fun _ => 0)

def quiescent_Mlstm [hMlstm : Cert.Mlstm.Facts] : Prop :=
  ∀ (m : (ℓ : Loc Cert.Mlstm.nD Cert.Mlstm.τ Cert.Mlstm.sig) → Buf (Elt Bits) ℓ) (g : Dev Cert.Mlstm.nD → PrngReg), Pre_Mlstm m →
    θ_run (Cert.Mlstm.defs (F := Bits)) (onTc (τ := Cert.Mlstm.τ) (Cert.Mlstm.main (F := Bits))) ⟨m, fun _ => 0, g⟩ (fun r => (∀ c : Dev Cert.Mlstm.nD,
      r.2.mem ((c.tc : Thread Cert.Mlstm.nD Cert.Mlstm.τ).loc Cert.Mlstm.main_arg0) = m ((c.tc : Thread Cert.Mlstm.nD Cert.Mlstm.τ).loc Cert.Mlstm.main_arg0)
      ∧ r.2.mem ((c.tc : Thread Cert.Mlstm.nD Cert.Mlstm.τ).loc Cert.Mlstm.main_arg1) = m ((c.tc : Thread Cert.Mlstm.nD Cert.Mlstm.τ).loc Cert.Mlstm.main_arg1)
      ∧ r.2.mem ((c.tc : Thread Cert.Mlstm.nD Cert.Mlstm.τ).loc Cert.Mlstm.main_arg2) = m ((c.tc : Thread Cert.Mlstm.nD Cert.Mlstm.τ).loc Cert.Mlstm.main_arg2)
      ∧ r.2.mem ((c.tc : Thread Cert.Mlstm.nD Cert.Mlstm.τ).loc Cert.Mlstm.main_arg3) = m ((c.tc : Thread Cert.Mlstm.nD Cert.Mlstm.τ).loc Cert.Mlstm.main_arg3)
      ∧ r.2.mem ((c.tc : Thread Cert.Mlstm.nD Cert.Mlstm.τ).loc Cert.Mlstm.main_arg4) = m ((c.tc : Thread Cert.Mlstm.nD Cert.Mlstm.τ).loc Cert.Mlstm.main_arg4)
      ∧ r.2.mem ((c.tc : Thread Cert.Mlstm.nD Cert.Mlstm.τ).loc Cert.Mlstm.main_arg5) = m ((c.tc : Thread Cert.Mlstm.nD Cert.Mlstm.τ).loc Cert.Mlstm.main_arg5)
      ∧ r.2.mem ((c.tc : Thread Cert.Mlstm.nD Cert.Mlstm.τ).loc Cert.Mlstm.main_arg6) = m ((c.tc : Thread Cert.Mlstm.nD Cert.Mlstm.τ).loc Cert.Mlstm.main_arg6)
      ∧ r.2.mem ((c.tc : Thread Cert.Mlstm.nD Cert.Mlstm.τ).loc Cert.Mlstm.main_arg7) = m ((c.tc : Thread Cert.Mlstm.nD Cert.Mlstm.τ).loc Cert.Mlstm.main_arg7)
      ∧ r.2.mem ((c.tc : Thread Cert.Mlstm.nD Cert.Mlstm.τ).loc Cert.Mlstm.main_arg8) = m ((c.tc : Thread Cert.Mlstm.nD Cert.Mlstm.τ).loc Cert.Mlstm.main_arg8)
      ∧ r.2.mem ((c.tc : Thread Cert.Mlstm.nD Cert.Mlstm.τ).loc Cert.Mlstm.main_arg9) = m ((c.tc : Thread Cert.Mlstm.nD Cert.Mlstm.τ).loc Cert.Mlstm.main_arg9))
      ∧ r.2.sem = fun _ => 0)

def quiescent_MlstmIdeal [hMlstmIdeal : Cert.MlstmIdeal.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
      ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
      ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4)
      ∧ r.2.mem ((c.tc : Thread Cert.MlstmIdeal.nD Cert.MlstmIdeal.τ).loc Cert.MlstmIdeal.main_arg5) = m ((c.tc : Thread Cert.MlstmIdeal.nD Cert.MlstmIdeal.τ).loc Cert.MlstmIdeal.main_arg5)
      ∧ r.2.mem ((c.tc : Thread Cert.MlstmIdeal.nD Cert.MlstmIdeal.τ).loc Cert.MlstmIdeal.main_arg6) = m ((c.tc : Thread Cert.MlstmIdeal.nD Cert.MlstmIdeal.τ).loc Cert.MlstmIdeal.main_arg6)
      ∧ r.2.mem ((c.tc : Thread Cert.MlstmIdeal.nD Cert.MlstmIdeal.τ).loc Cert.MlstmIdeal.main_arg7) = m ((c.tc : Thread Cert.MlstmIdeal.nD Cert.MlstmIdeal.τ).loc Cert.MlstmIdeal.main_arg7)
      ∧ r.2.mem ((c.tc : Thread Cert.MlstmIdeal.nD Cert.MlstmIdeal.τ).loc Cert.MlstmIdeal.main_arg8) = m ((c.tc : Thread Cert.MlstmIdeal.nD Cert.MlstmIdeal.τ).loc Cert.MlstmIdeal.main_arg8)
      ∧ r.2.mem ((c.tc : Thread Cert.MlstmIdeal.nD Cert.MlstmIdeal.τ).loc Cert.MlstmIdeal.main_arg9) = m ((c.tc : Thread Cert.MlstmIdeal.nD Cert.MlstmIdeal.τ).loc Cert.MlstmIdeal.main_arg9))
      ∧ r.2.sem = fun _ => 0)

def quiescent_MlstmReferenceIdeal [hMlstmReferenceIdeal : Cert.MlstmReferenceIdeal.Facts] : Prop :=
  ∀ (m : (ℓ : Loc Cert.MlstmReferenceIdeal.nD Cert.MlstmReferenceIdeal.τ Cert.MlstmReferenceIdeal.sig) → Buf (Elt Ideal) ℓ) (g : Dev Cert.MlstmReferenceIdeal.nD → PrngReg), Pre_MlstmReferenceIdeal m →
    θ_run (Cert.MlstmReferenceIdeal.defs (F := Ideal)) (onTc (τ := Cert.MlstmReferenceIdeal.τ) (Cert.MlstmReferenceIdeal.main (F := Ideal))) ⟨m, fun _ => 0, g⟩ (fun r => (∀ c : Dev Cert.MlstmReferenceIdeal.nD,
      r.2.mem ((c.tc : Thread Cert.MlstmReferenceIdeal.nD Cert.MlstmReferenceIdeal.τ).loc Cert.MlstmReferenceIdeal.main_arg0) = m ((c.tc : Thread Cert.MlstmReferenceIdeal.nD Cert.MlstmReferenceIdeal.τ).loc Cert.MlstmReferenceIdeal.main_arg0)
      ∧ r.2.mem ((c.tc : Thread Cert.MlstmReferenceIdeal.nD Cert.MlstmReferenceIdeal.τ).loc Cert.MlstmReferenceIdeal.main_arg1) = m ((c.tc : Thread Cert.MlstmReferenceIdeal.nD Cert.MlstmReferenceIdeal.τ).loc Cert.MlstmReferenceIdeal.main_arg1)
      ∧ r.2.mem ((c.tc : Thread Cert.MlstmReferenceIdeal.nD Cert.MlstmReferenceIdeal.τ).loc Cert.MlstmReferenceIdeal.main_arg2) = m ((c.tc : Thread Cert.MlstmReferenceIdeal.nD Cert.MlstmReferenceIdeal.τ).loc Cert.MlstmReferenceIdeal.main_arg2)
      ∧ r.2.mem ((c.tc : Thread Cert.MlstmReferenceIdeal.nD Cert.MlstmReferenceIdeal.τ).loc Cert.MlstmReferenceIdeal.main_arg3) = m ((c.tc : Thread Cert.MlstmReferenceIdeal.nD Cert.MlstmReferenceIdeal.τ).loc Cert.MlstmReferenceIdeal.main_arg3)
      ∧ r.2.mem ((c.tc : Thread Cert.MlstmReferenceIdeal.nD Cert.MlstmReferenceIdeal.τ).loc Cert.MlstmReferenceIdeal.main_arg4) = m ((c.tc : Thread Cert.MlstmReferenceIdeal.nD Cert.MlstmReferenceIdeal.τ).loc Cert.MlstmReferenceIdeal.main_arg4)
      ∧ r.2.mem ((c.tc : Thread Cert.MlstmReferenceIdeal.nD Cert.MlstmReferenceIdeal.τ).loc Cert.MlstmReferenceIdeal.main_arg5) = m ((c.tc : Thread Cert.MlstmReferenceIdeal.nD Cert.MlstmReferenceIdeal.τ).loc Cert.MlstmReferenceIdeal.main_arg5)
      ∧ r.2.mem ((c.tc : Thread Cert.MlstmReferenceIdeal.nD Cert.MlstmReferenceIdeal.τ).loc Cert.MlstmReferenceIdeal.main_arg6) = m ((c.tc : Thread Cert.MlstmReferenceIdeal.nD Cert.MlstmReferenceIdeal.τ).loc Cert.MlstmReferenceIdeal.main_arg6)
      ∧ r.2.mem ((c.tc : Thread Cert.MlstmReferenceIdeal.nD Cert.MlstmReferenceIdeal.τ).loc Cert.MlstmReferenceIdeal.main_arg7) = m ((c.tc : Thread Cert.MlstmReferenceIdeal.nD Cert.MlstmReferenceIdeal.τ).loc Cert.MlstmReferenceIdeal.main_arg7)
      ∧ r.2.mem ((c.tc : Thread Cert.MlstmReferenceIdeal.nD Cert.MlstmReferenceIdeal.τ).loc Cert.MlstmReferenceIdeal.main_arg8) = m ((c.tc : Thread Cert.MlstmReferenceIdeal.nD Cert.MlstmReferenceIdeal.τ).loc Cert.MlstmReferenceIdeal.main_arg8)
      ∧ r.2.mem ((c.tc : Thread Cert.MlstmReferenceIdeal.nD Cert.MlstmReferenceIdeal.τ).loc Cert.MlstmReferenceIdeal.main_arg9) = m ((c.tc : Thread Cert.MlstmReferenceIdeal.nD Cert.MlstmReferenceIdeal.τ).loc Cert.MlstmReferenceIdeal.main_arg9))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5)
      ∧ r.2.mem ((c.tc : Thread Cert.Gate.nD Cert.Gate.τ).loc Cert.Gate.main_arg6) = m ((c.tc : Thread Cert.Gate.nD Cert.Gate.τ).loc Cert.Gate.main_arg6)
      ∧ r.2.mem ((c.tc : Thread Cert.Gate.nD Cert.Gate.τ).loc Cert.Gate.main_arg7) = m ((c.tc : Thread Cert.Gate.nD Cert.Gate.τ).loc Cert.Gate.main_arg7)
      ∧ r.2.mem ((c.tc : Thread Cert.Gate.nD Cert.Gate.τ).loc Cert.Gate.main_arg8) = m ((c.tc : Thread Cert.Gate.nD Cert.Gate.τ).loc Cert.Gate.main_arg8))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
      ∧ r.2.mem ((c.tc : Thread Cert.GateIdeal.nD Cert.GateIdeal.τ).loc Cert.GateIdeal.main_arg6) = m ((c.tc : Thread Cert.GateIdeal.nD Cert.GateIdeal.τ).loc Cert.GateIdeal.main_arg6)
      ∧ r.2.mem ((c.tc : Thread Cert.GateIdeal.nD Cert.GateIdeal.τ).loc Cert.GateIdeal.main_arg7) = m ((c.tc : Thread Cert.GateIdeal.nD Cert.GateIdeal.τ).loc Cert.GateIdeal.main_arg7)
      ∧ r.2.mem ((c.tc : Thread Cert.GateIdeal.nD Cert.GateIdeal.τ).loc Cert.GateIdeal.main_arg8) = m ((c.tc : Thread Cert.GateIdeal.nD Cert.GateIdeal.τ).loc Cert.GateIdeal.main_arg8))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4)
      ∧ r.2.mem ((c.tc : Thread Cert.GateReferenceIdeal.nD Cert.GateReferenceIdeal.τ).loc Cert.GateReferenceIdeal.main_arg5) = m ((c.tc : Thread Cert.GateReferenceIdeal.nD Cert.GateReferenceIdeal.τ).loc Cert.GateReferenceIdeal.main_arg5)
      ∧ r.2.mem ((c.tc : Thread Cert.GateReferenceIdeal.nD Cert.GateReferenceIdeal.τ).loc Cert.GateReferenceIdeal.main_arg6) = m ((c.tc : Thread Cert.GateReferenceIdeal.nD Cert.GateReferenceIdeal.τ).loc Cert.GateReferenceIdeal.main_arg6)
      ∧ r.2.mem ((c.tc : Thread Cert.GateReferenceIdeal.nD Cert.GateReferenceIdeal.τ).loc Cert.GateReferenceIdeal.main_arg7) = m ((c.tc : Thread Cert.GateReferenceIdeal.nD Cert.GateReferenceIdeal.τ).loc Cert.GateReferenceIdeal.main_arg7)
      ∧ r.2.mem ((c.tc : Thread Cert.GateReferenceIdeal.nD Cert.GateReferenceIdeal.τ).loc Cert.GateReferenceIdeal.main_arg8) = m ((c.tc : Thread Cert.GateReferenceIdeal.nD Cert.GateReferenceIdeal.τ).loc Cert.GateReferenceIdeal.main_arg8))
      ∧ r.2.sem = fun _ => 0)

def preserves_Kernel_KernelIdeal : Prop :=
  IdealRules.named_const.Statement Cert.KernelIdeal.κ "exp2_scale" .f32 0x3E0293EE#32 (((Real.sqrt 128)⁻¹ * (Real.log 2)⁻¹ : ℝ) : EReal)
  ∧ IdealRules.named_const.Statement Cert.KernelIdeal.κ "scale" .f32 0x3DB504F3#32 (((Real.sqrt 128)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Moe_MoeIdeal : Prop :=
  True

def algebraic_MoeIdeal_MoeReferenceIdeal [hMoeIdeal : Cert.MoeIdeal.Facts] [hMoeReferenceIdeal : Cert.MoeReferenceIdeal.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeReferenceIdeal.nD Cert.MoeReferenceIdeal.τ Cert.MoeReferenceIdeal.sig) → Buf (Elt Ideal) ℓ) (g' : Dev Cert.MoeReferenceIdeal.nD → PrngReg), Pre_MoeIdeal m →
    (∀ c : Dev Cert.MoeIdeal.nD,
      m' ((c.tc : Thread Cert.MoeReferenceIdeal.nD Cert.MoeReferenceIdeal.τ).loc Cert.MoeReferenceIdeal.main_arg0) = m ((c.tc : Thread Cert.MoeIdeal.nD Cert.MoeIdeal.τ).loc Cert.MoeIdeal.main_arg0)
      ∧ m' ((c.tc : Thread Cert.MoeReferenceIdeal.nD Cert.MoeReferenceIdeal.τ).loc Cert.MoeReferenceIdeal.main_arg1) = m ((c.tc : Thread Cert.MoeIdeal.nD Cert.MoeIdeal.τ).loc Cert.MoeIdeal.main_arg1)
      ∧ m' ((c.tc : Thread Cert.MoeReferenceIdeal.nD Cert.MoeReferenceIdeal.τ).loc Cert.MoeReferenceIdeal.main_arg2) = m ((c.tc : Thread Cert.MoeIdeal.nD Cert.MoeIdeal.τ).loc Cert.MoeIdeal.main_arg2)
      ∧ m' ((c.tc : Thread Cert.MoeReferenceIdeal.nD Cert.MoeReferenceIdeal.τ).loc Cert.MoeReferenceIdeal.main_arg3) = m ((c.tc : Thread Cert.MoeIdeal.nD Cert.MoeIdeal.τ).loc Cert.MoeIdeal.main_arg3)
      ∧ m' ((c.tc : Thread Cert.MoeReferenceIdeal.nD Cert.MoeReferenceIdeal.τ).loc Cert.MoeReferenceIdeal.main_arg4) = m ((c.tc : Thread Cert.MoeIdeal.nD Cert.MoeIdeal.τ).loc Cert.MoeIdeal.main_arg4)) →
    ∃ (v0 : (c : Dev Cert.MoeIdeal.nD) → Buf (Elt Ideal) ((c.tc : Thread Cert.MoeIdeal.nD Cert.MoeIdeal.τ).loc Cert.MoeIdeal.main_v16)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v16) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4))
      ∧ θ_run (Cert.MoeReferenceIdeal.defs (F := Ideal)) (onTc (τ := Cert.MoeReferenceIdeal.τ) (Cert.MoeReferenceIdeal.main (F := Ideal))) ⟨m', fun _ => 0, g'⟩ (fun r => ∀ c : Dev Cert.MoeReferenceIdeal.nD,
          r.2.mem ((c.tc : Thread Cert.MoeReferenceIdeal.nD Cert.MoeReferenceIdeal.τ).loc Cert.MoeReferenceIdeal.main_v48) = v0 c
          ∧ r.2.mem ((c.tc : Thread Cert.MoeReferenceIdeal.nD Cert.MoeReferenceIdeal.τ).loc Cert.MoeReferenceIdeal.main_arg0) = m' ((c.tc : Thread Cert.MoeReferenceIdeal.nD Cert.MoeReferenceIdeal.τ).loc Cert.MoeReferenceIdeal.main_arg0)
          ∧ r.2.mem ((c.tc : Thread Cert.MoeReferenceIdeal.nD Cert.MoeReferenceIdeal.τ).loc Cert.MoeReferenceIdeal.main_arg1) = m' ((c.tc : Thread Cert.MoeReferenceIdeal.nD Cert.MoeReferenceIdeal.τ).loc Cert.MoeReferenceIdeal.main_arg1)
          ∧ r.2.mem ((c.tc : Thread Cert.MoeReferenceIdeal.nD Cert.MoeReferenceIdeal.τ).loc Cert.MoeReferenceIdeal.main_arg2) = m' ((c.tc : Thread Cert.MoeReferenceIdeal.nD Cert.MoeReferenceIdeal.τ).loc Cert.MoeReferenceIdeal.main_arg2)
          ∧ r.2.mem ((c.tc : Thread Cert.MoeReferenceIdeal.nD Cert.MoeReferenceIdeal.τ).loc Cert.MoeReferenceIdeal.main_arg3) = m' ((c.tc : Thread Cert.MoeReferenceIdeal.nD Cert.MoeReferenceIdeal.τ).loc Cert.MoeReferenceIdeal.main_arg3)
          ∧ r.2.mem ((c.tc : Thread Cert.MoeReferenceIdeal.nD Cert.MoeReferenceIdeal.τ).loc Cert.MoeReferenceIdeal.main_arg4) = m' ((c.tc : Thread Cert.MoeReferenceIdeal.nD Cert.MoeReferenceIdeal.τ).loc Cert.MoeReferenceIdeal.main_arg4))

def preserves_Moe1_Moe1Ideal : Prop :=
  True

def algebraic_Moe1Ideal_Moe1ReferenceIdeal [hMoe1Ideal : Cert.Moe1Ideal.Facts] [hMoe1ReferenceIdeal : Cert.Moe1ReferenceIdeal.Facts] : Prop :=
  ∀ (m : (ℓ : Loc Cert.Moe1Ideal.nD Cert.Moe1Ideal.τ Cert.Moe1Ideal.sig) → Buf (Elt Ideal) ℓ) (g : Dev Cert.Moe1Ideal.nD → PrngReg)
    (m' : (ℓ : Loc Cert.Moe1ReferenceIdeal.nD Cert.Moe1ReferenceIdeal.τ Cert.Moe1ReferenceIdeal.sig) → Buf (Elt Ideal) ℓ) (g' : Dev Cert.Moe1ReferenceIdeal.nD → PrngReg), Pre_Moe1Ideal m →
    (∀ c : Dev Cert.Moe1Ideal.nD,
      m' ((c.tc : Thread Cert.Moe1ReferenceIdeal.nD Cert.Moe1ReferenceIdeal.τ).loc Cert.Moe1ReferenceIdeal.main_arg0) = m ((c.tc : Thread Cert.Moe1Ideal.nD Cert.Moe1Ideal.τ).loc Cert.Moe1Ideal.main_arg0)
      ∧ m' ((c.tc : Thread Cert.Moe1ReferenceIdeal.nD Cert.Moe1ReferenceIdeal.τ).loc Cert.Moe1ReferenceIdeal.main_arg1) = m ((c.tc : Thread Cert.Moe1Ideal.nD Cert.Moe1Ideal.τ).loc Cert.Moe1Ideal.main_arg1)
      ∧ m' ((c.tc : Thread Cert.Moe1ReferenceIdeal.nD Cert.Moe1ReferenceIdeal.τ).loc Cert.Moe1ReferenceIdeal.main_arg2) = m ((c.tc : Thread Cert.Moe1Ideal.nD Cert.Moe1Ideal.τ).loc Cert.Moe1Ideal.main_arg2)
      ∧ m' ((c.tc : Thread Cert.Moe1ReferenceIdeal.nD Cert.Moe1ReferenceIdeal.τ).loc Cert.Moe1ReferenceIdeal.main_arg3) = m ((c.tc : Thread Cert.Moe1Ideal.nD Cert.Moe1Ideal.τ).loc Cert.Moe1Ideal.main_arg3)
      ∧ m' ((c.tc : Thread Cert.Moe1ReferenceIdeal.nD Cert.Moe1ReferenceIdeal.τ).loc Cert.Moe1ReferenceIdeal.main_arg4) = m ((c.tc : Thread Cert.Moe1Ideal.nD Cert.Moe1Ideal.τ).loc Cert.Moe1Ideal.main_arg4)) →
    ∃ (v0 : (c : Dev Cert.Moe1Ideal.nD) → Buf (Elt Ideal) ((c.tc : Thread Cert.Moe1Ideal.nD Cert.Moe1Ideal.τ).loc Cert.Moe1Ideal.main_v16)),
      θ_run (Cert.Moe1Ideal.defs (F := Ideal)) (onTc (τ := Cert.Moe1Ideal.τ) (Cert.Moe1Ideal.main (F := Ideal))) ⟨m, fun _ => 0, g⟩ (fun r => ∀ c : Dev Cert.Moe1Ideal.nD,
          r.2.mem ((c.tc : Thread Cert.Moe1Ideal.nD Cert.Moe1Ideal.τ).loc Cert.Moe1Ideal.main_v16) = v0 c
          ∧ r.2.mem ((c.tc : Thread Cert.Moe1Ideal.nD Cert.Moe1Ideal.τ).loc Cert.Moe1Ideal.main_arg0) = m ((c.tc : Thread Cert.Moe1Ideal.nD Cert.Moe1Ideal.τ).loc Cert.Moe1Ideal.main_arg0)
          ∧ r.2.mem ((c.tc : Thread Cert.Moe1Ideal.nD Cert.Moe1Ideal.τ).loc Cert.Moe1Ideal.main_arg1) = m ((c.tc : Thread Cert.Moe1Ideal.nD Cert.Moe1Ideal.τ).loc Cert.Moe1Ideal.main_arg1)
          ∧ r.2.mem ((c.tc : Thread Cert.Moe1Ideal.nD Cert.Moe1Ideal.τ).loc Cert.Moe1Ideal.main_arg2) = m ((c.tc : Thread Cert.Moe1Ideal.nD Cert.Moe1Ideal.τ).loc Cert.Moe1Ideal.main_arg2)
          ∧ r.2.mem ((c.tc : Thread Cert.Moe1Ideal.nD Cert.Moe1Ideal.τ).loc Cert.Moe1Ideal.main_arg3) = m ((c.tc : Thread Cert.Moe1Ideal.nD Cert.Moe1Ideal.τ).loc Cert.Moe1Ideal.main_arg3)
          ∧ r.2.mem ((c.tc : Thread Cert.Moe1Ideal.nD Cert.Moe1Ideal.τ).loc Cert.Moe1Ideal.main_arg4) = m ((c.tc : Thread Cert.Moe1Ideal.nD Cert.Moe1Ideal.τ).loc Cert.Moe1Ideal.main_arg4))
      ∧ θ_run (Cert.Moe1ReferenceIdeal.defs (F := Ideal)) (onTc (τ := Cert.Moe1ReferenceIdeal.τ) (Cert.Moe1ReferenceIdeal.main (F := Ideal))) ⟨m', fun _ => 0, g'⟩ (fun r => ∀ c : Dev Cert.Moe1ReferenceIdeal.nD,
          r.2.mem ((c.tc : Thread Cert.Moe1ReferenceIdeal.nD Cert.Moe1ReferenceIdeal.τ).loc Cert.Moe1ReferenceIdeal.main_v48) = v0 c
          ∧ r.2.mem ((c.tc : Thread Cert.Moe1ReferenceIdeal.nD Cert.Moe1ReferenceIdeal.τ).loc Cert.Moe1ReferenceIdeal.main_arg0) = m' ((c.tc : Thread Cert.Moe1ReferenceIdeal.nD Cert.Moe1ReferenceIdeal.τ).loc Cert.Moe1ReferenceIdeal.main_arg0)
          ∧ r.2.mem ((c.tc : Thread Cert.Moe1ReferenceIdeal.nD Cert.Moe1ReferenceIdeal.τ).loc Cert.Moe1ReferenceIdeal.main_arg1) = m' ((c.tc : Thread Cert.Moe1ReferenceIdeal.nD Cert.Moe1ReferenceIdeal.τ).loc Cert.Moe1ReferenceIdeal.main_arg1)
          ∧ r.2.mem ((c.tc : Thread Cert.Moe1ReferenceIdeal.nD Cert.Moe1ReferenceIdeal.τ).loc Cert.Moe1ReferenceIdeal.main_arg2) = m' ((c.tc : Thread Cert.Moe1ReferenceIdeal.nD Cert.Moe1ReferenceIdeal.τ).loc Cert.Moe1ReferenceIdeal.main_arg2)
          ∧ r.2.mem ((c.tc : Thread Cert.Moe1ReferenceIdeal.nD Cert.Moe1ReferenceIdeal.τ).loc Cert.Moe1ReferenceIdeal.main_arg3) = m' ((c.tc : Thread Cert.Moe1ReferenceIdeal.nD Cert.Moe1ReferenceIdeal.τ).loc Cert.Moe1ReferenceIdeal.main_arg3)
          ∧ r.2.mem ((c.tc : Thread Cert.Moe1ReferenceIdeal.nD Cert.Moe1ReferenceIdeal.τ).loc Cert.Moe1ReferenceIdeal.main_arg4) = m' ((c.tc : Thread Cert.Moe1ReferenceIdeal.nD Cert.Moe1ReferenceIdeal.τ).loc Cert.Moe1ReferenceIdeal.main_arg4))

def preserves_Moe2_Moe2Ideal : Prop :=
  True

def algebraic_Moe2Ideal_Moe2ReferenceIdeal [hMoe2Ideal : Cert.Moe2Ideal.Facts] [hMoe2ReferenceIdeal : Cert.Moe2ReferenceIdeal.Facts] : Prop :=
  ∀ (m : (ℓ : Loc Cert.Moe2Ideal.nD Cert.Moe2Ideal.τ Cert.Moe2Ideal.sig) → Buf (Elt Ideal) ℓ) (g : Dev Cert.Moe2Ideal.nD → PrngReg)
    (m' : (ℓ : Loc Cert.Moe2ReferenceIdeal.nD Cert.Moe2ReferenceIdeal.τ Cert.Moe2ReferenceIdeal.sig) → Buf (Elt Ideal) ℓ) (g' : Dev Cert.Moe2ReferenceIdeal.nD → PrngReg), Pre_Moe2Ideal m →
    (∀ c : Dev Cert.Moe2Ideal.nD,
      m' ((c.tc : Thread Cert.Moe2ReferenceIdeal.nD Cert.Moe2ReferenceIdeal.τ).loc Cert.Moe2ReferenceIdeal.main_arg0) = m ((c.tc : Thread Cert.Moe2Ideal.nD Cert.Moe2Ideal.τ).loc Cert.Moe2Ideal.main_arg0)
      ∧ m' ((c.tc : Thread Cert.Moe2ReferenceIdeal.nD Cert.Moe2ReferenceIdeal.τ).loc Cert.Moe2ReferenceIdeal.main_arg1) = m ((c.tc : Thread Cert.Moe2Ideal.nD Cert.Moe2Ideal.τ).loc Cert.Moe2Ideal.main_arg1)
      ∧ m' ((c.tc : Thread Cert.Moe2ReferenceIdeal.nD Cert.Moe2ReferenceIdeal.τ).loc Cert.Moe2ReferenceIdeal.main_arg2) = m ((c.tc : Thread Cert.Moe2Ideal.nD Cert.Moe2Ideal.τ).loc Cert.Moe2Ideal.main_arg2)
      ∧ m' ((c.tc : Thread Cert.Moe2ReferenceIdeal.nD Cert.Moe2ReferenceIdeal.τ).loc Cert.Moe2ReferenceIdeal.main_arg3) = m ((c.tc : Thread Cert.Moe2Ideal.nD Cert.Moe2Ideal.τ).loc Cert.Moe2Ideal.main_arg3)
      ∧ m' ((c.tc : Thread Cert.Moe2ReferenceIdeal.nD Cert.Moe2ReferenceIdeal.τ).loc Cert.Moe2ReferenceIdeal.main_arg4) = m ((c.tc : Thread Cert.Moe2Ideal.nD Cert.Moe2Ideal.τ).loc Cert.Moe2Ideal.main_arg4)) →
    ∃ (v0 : (c : Dev Cert.Moe2Ideal.nD) → Buf (Elt Ideal) ((c.tc : Thread Cert.Moe2Ideal.nD Cert.Moe2Ideal.τ).loc Cert.Moe2Ideal.main_v16)),
      θ_run (Cert.Moe2Ideal.defs (F := Ideal)) (onTc (τ := Cert.Moe2Ideal.τ) (Cert.Moe2Ideal.main (F := Ideal))) ⟨m, fun _ => 0, g⟩ (fun r => ∀ c : Dev Cert.Moe2Ideal.nD,
          r.2.mem ((c.tc : Thread Cert.Moe2Ideal.nD Cert.Moe2Ideal.τ).loc Cert.Moe2Ideal.main_v16) = v0 c
          ∧ r.2.mem ((c.tc : Thread Cert.Moe2Ideal.nD Cert.Moe2Ideal.τ).loc Cert.Moe2Ideal.main_arg0) = m ((c.tc : Thread Cert.Moe2Ideal.nD Cert.Moe2Ideal.τ).loc Cert.Moe2Ideal.main_arg0)
          ∧ r.2.mem ((c.tc : Thread Cert.Moe2Ideal.nD Cert.Moe2Ideal.τ).loc Cert.Moe2Ideal.main_arg1) = m ((c.tc : Thread Cert.Moe2Ideal.nD Cert.Moe2Ideal.τ).loc Cert.Moe2Ideal.main_arg1)
          ∧ r.2.mem ((c.tc : Thread Cert.Moe2Ideal.nD Cert.Moe2Ideal.τ).loc Cert.Moe2Ideal.main_arg2) = m ((c.tc : Thread Cert.Moe2Ideal.nD Cert.Moe2Ideal.τ).loc Cert.Moe2Ideal.main_arg2)
          ∧ r.2.mem ((c.tc : Thread Cert.Moe2Ideal.nD Cert.Moe2Ideal.τ).loc Cert.Moe2Ideal.main_arg3) = m ((c.tc : Thread Cert.Moe2Ideal.nD Cert.Moe2Ideal.τ).loc Cert.Moe2Ideal.main_arg3)
          ∧ r.2.mem ((c.tc : Thread Cert.Moe2Ideal.nD Cert.Moe2Ideal.τ).loc Cert.Moe2Ideal.main_arg4) = m ((c.tc : Thread Cert.Moe2Ideal.nD Cert.Moe2Ideal.τ).loc Cert.Moe2Ideal.main_arg4))
      ∧ θ_run (Cert.Moe2ReferenceIdeal.defs (F := Ideal)) (onTc (τ := Cert.Moe2ReferenceIdeal.τ) (Cert.Moe2ReferenceIdeal.main (F := Ideal))) ⟨m', fun _ => 0, g'⟩ (fun r => ∀ c : Dev Cert.Moe2ReferenceIdeal.nD,
          r.2.mem ((c.tc : Thread Cert.Moe2ReferenceIdeal.nD Cert.Moe2ReferenceIdeal.τ).loc Cert.Moe2ReferenceIdeal.main_v48) = v0 c
          ∧ r.2.mem ((c.tc : Thread Cert.Moe2ReferenceIdeal.nD Cert.Moe2ReferenceIdeal.τ).loc Cert.Moe2ReferenceIdeal.main_arg0) = m' ((c.tc : Thread Cert.Moe2ReferenceIdeal.nD Cert.Moe2ReferenceIdeal.τ).loc Cert.Moe2ReferenceIdeal.main_arg0)
          ∧ r.2.mem ((c.tc : Thread Cert.Moe2ReferenceIdeal.nD Cert.Moe2ReferenceIdeal.τ).loc Cert.Moe2ReferenceIdeal.main_arg1) = m' ((c.tc : Thread Cert.Moe2ReferenceIdeal.nD Cert.Moe2ReferenceIdeal.τ).loc Cert.Moe2ReferenceIdeal.main_arg1)
          ∧ r.2.mem ((c.tc : Thread Cert.Moe2ReferenceIdeal.nD Cert.Moe2ReferenceIdeal.τ).loc Cert.Moe2ReferenceIdeal.main_arg2) = m' ((c.tc : Thread Cert.Moe2ReferenceIdeal.nD Cert.Moe2ReferenceIdeal.τ).loc Cert.Moe2ReferenceIdeal.main_arg2)
          ∧ r.2.mem ((c.tc : Thread Cert.Moe2ReferenceIdeal.nD Cert.Moe2ReferenceIdeal.τ).loc Cert.Moe2ReferenceIdeal.main_arg3) = m' ((c.tc : Thread Cert.Moe2ReferenceIdeal.nD Cert.Moe2ReferenceIdeal.τ).loc Cert.Moe2ReferenceIdeal.main_arg3)
          ∧ r.2.mem ((c.tc : Thread Cert.Moe2ReferenceIdeal.nD Cert.Moe2ReferenceIdeal.τ).loc Cert.Moe2ReferenceIdeal.main_arg4) = m' ((c.tc : Thread Cert.Moe2ReferenceIdeal.nD Cert.Moe2ReferenceIdeal.τ).loc Cert.Moe2ReferenceIdeal.main_arg4))

def preserves_Moe3_Moe3Ideal : Prop :=
  True

def algebraic_Moe3Ideal_Moe3ReferenceIdeal [hMoe3Ideal : Cert.Moe3Ideal.Facts] [hMoe3ReferenceIdeal : Cert.Moe3ReferenceIdeal.Facts] : Prop :=
  ∀ (m : (ℓ : Loc Cert.Moe3Ideal.nD Cert.Moe3Ideal.τ Cert.Moe3Ideal.sig) → Buf (Elt Ideal) ℓ) (g : Dev Cert.Moe3Ideal.nD → PrngReg)
    (m' : (ℓ : Loc Cert.Moe3ReferenceIdeal.nD Cert.Moe3ReferenceIdeal.τ Cert.Moe3ReferenceIdeal.sig) → Buf (Elt Ideal) ℓ) (g' : Dev Cert.Moe3ReferenceIdeal.nD → PrngReg), Pre_Moe3Ideal m →
    (∀ c : Dev Cert.Moe3Ideal.nD,
      m' ((c.tc : Thread Cert.Moe3ReferenceIdeal.nD Cert.Moe3ReferenceIdeal.τ).loc Cert.Moe3ReferenceIdeal.main_arg0) = m ((c.tc : Thread Cert.Moe3Ideal.nD Cert.Moe3Ideal.τ).loc Cert.Moe3Ideal.main_arg0)
      ∧ m' ((c.tc : Thread Cert.Moe3ReferenceIdeal.nD Cert.Moe3ReferenceIdeal.τ).loc Cert.Moe3ReferenceIdeal.main_arg1) = m ((c.tc : Thread Cert.Moe3Ideal.nD Cert.Moe3Ideal.τ).loc Cert.Moe3Ideal.main_arg1)
      ∧ m' ((c.tc : Thread Cert.Moe3ReferenceIdeal.nD Cert.Moe3ReferenceIdeal.τ).loc Cert.Moe3ReferenceIdeal.main_arg2) = m ((c.tc : Thread Cert.Moe3Ideal.nD Cert.Moe3Ideal.τ).loc Cert.Moe3Ideal.main_arg2)
      ∧ m' ((c.tc : Thread Cert.Moe3ReferenceIdeal.nD Cert.Moe3ReferenceIdeal.τ).loc Cert.Moe3ReferenceIdeal.main_arg3) = m ((c.tc : Thread Cert.Moe3Ideal.nD Cert.Moe3Ideal.τ).loc Cert.Moe3Ideal.main_arg3)
      ∧ m' ((c.tc : Thread Cert.Moe3ReferenceIdeal.nD Cert.Moe3ReferenceIdeal.τ).loc Cert.Moe3ReferenceIdeal.main_arg4) = m ((c.tc : Thread Cert.Moe3Ideal.nD Cert.Moe3Ideal.τ).loc Cert.Moe3Ideal.main_arg4)) →
    ∃ (v0 : (c : Dev Cert.Moe3Ideal.nD) → Buf (Elt Ideal) ((c.tc : Thread Cert.Moe3Ideal.nD Cert.Moe3Ideal.τ).loc Cert.Moe3Ideal.main_v16)),
      θ_run (Cert.Moe3Ideal.defs (F := Ideal)) (onTc (τ := Cert.Moe3Ideal.τ) (Cert.Moe3Ideal.main (F := Ideal))) ⟨m, fun _ => 0, g⟩ (fun r => ∀ c : Dev Cert.Moe3Ideal.nD,
          r.2.mem ((c.tc : Thread Cert.Moe3Ideal.nD Cert.Moe3Ideal.τ).loc Cert.Moe3Ideal.main_v16) = v0 c
          ∧ r.2.mem ((c.tc : Thread Cert.Moe3Ideal.nD Cert.Moe3Ideal.τ).loc Cert.Moe3Ideal.main_arg0) = m ((c.tc : Thread Cert.Moe3Ideal.nD Cert.Moe3Ideal.τ).loc Cert.Moe3Ideal.main_arg0)
          ∧ r.2.mem ((c.tc : Thread Cert.Moe3Ideal.nD Cert.Moe3Ideal.τ).loc Cert.Moe3Ideal.main_arg1) = m ((c.tc : Thread Cert.Moe3Ideal.nD Cert.Moe3Ideal.τ).loc Cert.Moe3Ideal.main_arg1)
          ∧ r.2.mem ((c.tc : Thread Cert.Moe3Ideal.nD Cert.Moe3Ideal.τ).loc Cert.Moe3Ideal.main_arg2) = m ((c.tc : Thread Cert.Moe3Ideal.nD Cert.Moe3Ideal.τ).loc Cert.Moe3Ideal.main_arg2)
          ∧ r.2.mem ((c.tc : Thread Cert.Moe3Ideal.nD Cert.Moe3Ideal.τ).loc Cert.Moe3Ideal.main_arg3) = m ((c.tc : Thread Cert.Moe3Ideal.nD Cert.Moe3Ideal.τ).loc Cert.Moe3Ideal.main_arg3)
          ∧ r.2.mem ((c.tc : Thread Cert.Moe3Ideal.nD Cert.Moe3Ideal.τ).loc Cert.Moe3Ideal.main_arg4) = m ((c.tc : Thread Cert.Moe3Ideal.nD Cert.Moe3Ideal.τ).loc Cert.Moe3Ideal.main_arg4))
      ∧ θ_run (Cert.Moe3ReferenceIdeal.defs (F := Ideal)) (onTc (τ := Cert.Moe3ReferenceIdeal.τ) (Cert.Moe3ReferenceIdeal.main (F := Ideal))) ⟨m', fun _ => 0, g'⟩ (fun r => ∀ c : Dev Cert.Moe3ReferenceIdeal.nD,
          r.2.mem ((c.tc : Thread Cert.Moe3ReferenceIdeal.nD Cert.Moe3ReferenceIdeal.τ).loc Cert.Moe3ReferenceIdeal.main_v48) = v0 c
          ∧ r.2.mem ((c.tc : Thread Cert.Moe3ReferenceIdeal.nD Cert.Moe3ReferenceIdeal.τ).loc Cert.Moe3ReferenceIdeal.main_arg0) = m' ((c.tc : Thread Cert.Moe3ReferenceIdeal.nD Cert.Moe3ReferenceIdeal.τ).loc Cert.Moe3ReferenceIdeal.main_arg0)
          ∧ r.2.mem ((c.tc : Thread Cert.Moe3ReferenceIdeal.nD Cert.Moe3ReferenceIdeal.τ).loc Cert.Moe3ReferenceIdeal.main_arg1) = m' ((c.tc : Thread Cert.Moe3ReferenceIdeal.nD Cert.Moe3ReferenceIdeal.τ).loc Cert.Moe3ReferenceIdeal.main_arg1)
          ∧ r.2.mem ((c.tc : Thread Cert.Moe3ReferenceIdeal.nD Cert.Moe3ReferenceIdeal.τ).loc Cert.Moe3ReferenceIdeal.main_arg2) = m' ((c.tc : Thread Cert.Moe3ReferenceIdeal.nD Cert.Moe3ReferenceIdeal.τ).loc Cert.Moe3ReferenceIdeal.main_arg2)
          ∧ r.2.mem ((c.tc : Thread Cert.Moe3ReferenceIdeal.nD Cert.Moe3ReferenceIdeal.τ).loc Cert.Moe3ReferenceIdeal.main_arg3) = m' ((c.tc : Thread Cert.Moe3ReferenceIdeal.nD Cert.Moe3ReferenceIdeal.τ).loc Cert.Moe3ReferenceIdeal.main_arg3)
          ∧ r.2.mem ((c.tc : Thread Cert.Moe3ReferenceIdeal.nD Cert.Moe3ReferenceIdeal.τ).loc Cert.Moe3ReferenceIdeal.main_arg4) = m' ((c.tc : Thread Cert.Moe3ReferenceIdeal.nD Cert.Moe3ReferenceIdeal.τ).loc Cert.Moe3ReferenceIdeal.main_arg4))

def preserves_Hyena_HyenaIdeal : Prop :=
  True

def algebraic_HyenaIdeal_HyenaReferenceIdeal [hHyenaIdeal : Cert.HyenaIdeal.Facts] [hHyenaReferenceIdeal : Cert.HyenaReferenceIdeal.Facts] : Prop :=
  ∀ (m : (ℓ : Loc Cert.HyenaIdeal.nD Cert.HyenaIdeal.τ Cert.HyenaIdeal.sig) → Buf (Elt Ideal) ℓ) (g : Dev Cert.HyenaIdeal.nD → PrngReg)
    (m' : (ℓ : Loc Cert.HyenaReferenceIdeal.nD Cert.HyenaReferenceIdeal.τ Cert.HyenaReferenceIdeal.sig) → Buf (Elt Ideal) ℓ) (g' : Dev Cert.HyenaReferenceIdeal.nD → PrngReg), Pre_HyenaIdeal m →
    (∀ c : Dev Cert.HyenaIdeal.nD,
      m' ((c.tc : Thread Cert.HyenaReferenceIdeal.nD Cert.HyenaReferenceIdeal.τ).loc Cert.HyenaReferenceIdeal.main_arg0) = m ((c.tc : Thread Cert.HyenaIdeal.nD Cert.HyenaIdeal.τ).loc Cert.HyenaIdeal.main_arg0)
      ∧ m' ((c.tc : Thread Cert.HyenaReferenceIdeal.nD Cert.HyenaReferenceIdeal.τ).loc Cert.HyenaReferenceIdeal.main_arg1) = m ((c.tc : Thread Cert.HyenaIdeal.nD Cert.HyenaIdeal.τ).loc Cert.HyenaIdeal.main_arg1)
      ∧ m' ((c.tc : Thread Cert.HyenaReferenceIdeal.nD Cert.HyenaReferenceIdeal.τ).loc Cert.HyenaReferenceIdeal.main_arg2) = m ((c.tc : Thread Cert.HyenaIdeal.nD Cert.HyenaIdeal.τ).loc Cert.HyenaIdeal.main_arg2)
      ∧ m' ((c.tc : Thread Cert.HyenaReferenceIdeal.nD Cert.HyenaReferenceIdeal.τ).loc Cert.HyenaReferenceIdeal.main_arg3) = m ((c.tc : Thread Cert.HyenaIdeal.nD Cert.HyenaIdeal.τ).loc Cert.HyenaIdeal.main_arg3)
      ∧ m' ((c.tc : Thread Cert.HyenaReferenceIdeal.nD Cert.HyenaReferenceIdeal.τ).loc Cert.HyenaReferenceIdeal.main_arg4) = m ((c.tc : Thread Cert.HyenaIdeal.nD Cert.HyenaIdeal.τ).loc Cert.HyenaIdeal.main_arg4)
      ∧ m' ((c.tc : Thread Cert.HyenaReferenceIdeal.nD Cert.HyenaReferenceIdeal.τ).loc Cert.HyenaReferenceIdeal.main_arg5) = m ((c.tc : Thread Cert.HyenaIdeal.nD Cert.HyenaIdeal.τ).loc Cert.HyenaIdeal.main_arg5)) →
    ∃ (v0 : (c : Dev Cert.HyenaIdeal.nD) → Buf (Elt Ideal) ((c.tc : Thread Cert.HyenaIdeal.nD Cert.HyenaIdeal.τ).loc Cert.HyenaIdeal.main_v4_0)) (v1 : (c : Dev Cert.HyenaIdeal.nD) → Buf (Elt Ideal) ((c.tc : Thread Cert.HyenaIdeal.nD Cert.HyenaIdeal.τ).loc Cert.HyenaIdeal.main_v4_1)),
      θ_run (Cert.HyenaIdeal.defs (F := Ideal)) (onTc (τ := Cert.HyenaIdeal.τ) (Cert.HyenaIdeal.main (F := Ideal))) ⟨m, fun _ => 0, g⟩ (fun r => ∀ c : Dev Cert.HyenaIdeal.nD,
          r.2.mem ((c.tc : Thread Cert.HyenaIdeal.nD Cert.HyenaIdeal.τ).loc Cert.HyenaIdeal.main_v4_0) = v0 c
          ∧ r.2.mem ((c.tc : Thread Cert.HyenaIdeal.nD Cert.HyenaIdeal.τ).loc Cert.HyenaIdeal.main_v4_1) = v1 c
          ∧ r.2.mem ((c.tc : Thread Cert.HyenaIdeal.nD Cert.HyenaIdeal.τ).loc Cert.HyenaIdeal.main_arg0) = m ((c.tc : Thread Cert.HyenaIdeal.nD Cert.HyenaIdeal.τ).loc Cert.HyenaIdeal.main_arg0)
          ∧ r.2.mem ((c.tc : Thread Cert.HyenaIdeal.nD Cert.HyenaIdeal.τ).loc Cert.HyenaIdeal.main_arg1) = m ((c.tc : Thread Cert.HyenaIdeal.nD Cert.HyenaIdeal.τ).loc Cert.HyenaIdeal.main_arg1)
          ∧ r.2.mem ((c.tc : Thread Cert.HyenaIdeal.nD Cert.HyenaIdeal.τ).loc Cert.HyenaIdeal.main_arg2) = m ((c.tc : Thread Cert.HyenaIdeal.nD Cert.HyenaIdeal.τ).loc Cert.HyenaIdeal.main_arg2)
          ∧ r.2.mem ((c.tc : Thread Cert.HyenaIdeal.nD Cert.HyenaIdeal.τ).loc Cert.HyenaIdeal.main_arg3) = m ((c.tc : Thread Cert.HyenaIdeal.nD Cert.HyenaIdeal.τ).loc Cert.HyenaIdeal.main_arg3)
          ∧ r.2.mem ((c.tc : Thread Cert.HyenaIdeal.nD Cert.HyenaIdeal.τ).loc Cert.HyenaIdeal.main_arg4) = m ((c.tc : Thread Cert.HyenaIdeal.nD Cert.HyenaIdeal.τ).loc Cert.HyenaIdeal.main_arg4)
          ∧ r.2.mem ((c.tc : Thread Cert.HyenaIdeal.nD Cert.HyenaIdeal.τ).loc Cert.HyenaIdeal.main_arg5) = m ((c.tc : Thread Cert.HyenaIdeal.nD Cert.HyenaIdeal.τ).loc Cert.HyenaIdeal.main_arg5))
      ∧ θ_run (Cert.HyenaReferenceIdeal.defs (F := Ideal)) (onTc (τ := Cert.HyenaReferenceIdeal.τ) (Cert.HyenaReferenceIdeal.main (F := Ideal))) ⟨m', fun _ => 0, g'⟩ (fun r => ∀ c : Dev Cert.HyenaReferenceIdeal.nD,
          r.2.mem ((c.tc : Thread Cert.HyenaReferenceIdeal.nD Cert.HyenaReferenceIdeal.τ).loc Cert.HyenaReferenceIdeal.main_v44) = v0 c
          ∧ r.2.mem ((c.tc : Thread Cert.HyenaReferenceIdeal.nD Cert.HyenaReferenceIdeal.τ).loc Cert.HyenaReferenceIdeal.main_v46) = v1 c
          ∧ r.2.mem ((c.tc : Thread Cert.HyenaReferenceIdeal.nD Cert.HyenaReferenceIdeal.τ).loc Cert.HyenaReferenceIdeal.main_arg0) = m' ((c.tc : Thread Cert.HyenaReferenceIdeal.nD Cert.HyenaReferenceIdeal.τ).loc Cert.HyenaReferenceIdeal.main_arg0)
          ∧ r.2.mem ((c.tc : Thread Cert.HyenaReferenceIdeal.nD Cert.HyenaReferenceIdeal.τ).loc Cert.HyenaReferenceIdeal.main_arg1) = m' ((c.tc : Thread Cert.HyenaReferenceIdeal.nD Cert.HyenaReferenceIdeal.τ).loc Cert.HyenaReferenceIdeal.main_arg1)
          ∧ r.2.mem ((c.tc : Thread Cert.HyenaReferenceIdeal.nD Cert.HyenaReferenceIdeal.τ).loc Cert.HyenaReferenceIdeal.main_arg2) = m' ((c.tc : Thread Cert.HyenaReferenceIdeal.nD Cert.HyenaReferenceIdeal.τ).loc Cert.HyenaReferenceIdeal.main_arg2)
          ∧ r.2.mem ((c.tc : Thread Cert.HyenaReferenceIdeal.nD Cert.HyenaReferenceIdeal.τ).loc Cert.HyenaReferenceIdeal.main_arg3) = m' ((c.tc : Thread Cert.HyenaReferenceIdeal.nD Cert.HyenaReferenceIdeal.τ).loc Cert.HyenaReferenceIdeal.main_arg3)
          ∧ r.2.mem ((c.tc : Thread Cert.HyenaReferenceIdeal.nD Cert.HyenaReferenceIdeal.τ).loc Cert.HyenaReferenceIdeal.main_arg4) = m' ((c.tc : Thread Cert.HyenaReferenceIdeal.nD Cert.HyenaReferenceIdeal.τ).loc Cert.HyenaReferenceIdeal.main_arg4)
          ∧ r.2.mem ((c.tc : Thread Cert.HyenaReferenceIdeal.nD Cert.HyenaReferenceIdeal.τ).loc Cert.HyenaReferenceIdeal.main_arg5) = m' ((c.tc : Thread Cert.HyenaReferenceIdeal.nD Cert.HyenaReferenceIdeal.τ).loc Cert.HyenaReferenceIdeal.main_arg5))

def preserves_Gqa_GqaIdeal : Prop :=
  True

def algebraic_GqaIdeal_GqaReferenceIdeal [hGqaIdeal : Cert.GqaIdeal.Facts] [hGqaReferenceIdeal : Cert.GqaReferenceIdeal.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaReferenceIdeal.nD Cert.GqaReferenceIdeal.τ Cert.GqaReferenceIdeal.sig) → Buf (Elt Ideal) ℓ) (g' : Dev Cert.GqaReferenceIdeal.nD → PrngReg), Pre_GqaIdeal m →
    (∀ c : Dev Cert.GqaIdeal.nD,
      m' ((c.tc : Thread Cert.GqaReferenceIdeal.nD Cert.GqaReferenceIdeal.τ).loc Cert.GqaReferenceIdeal.main_arg0) = m ((c.tc : Thread Cert.GqaIdeal.nD Cert.GqaIdeal.τ).loc Cert.GqaIdeal.main_arg0)
      ∧ m' ((c.tc : Thread Cert.GqaReferenceIdeal.nD Cert.GqaReferenceIdeal.τ).loc Cert.GqaReferenceIdeal.main_arg1) = m ((c.tc : Thread Cert.GqaIdeal.nD Cert.GqaIdeal.τ).loc Cert.GqaIdeal.main_arg1)
      ∧ m' ((c.tc : Thread Cert.GqaReferenceIdeal.nD Cert.GqaReferenceIdeal.τ).loc Cert.GqaReferenceIdeal.main_arg2) = m ((c.tc : Thread Cert.GqaIdeal.nD Cert.GqaIdeal.τ).loc Cert.GqaIdeal.main_arg2)
      ∧ m' ((c.tc : Thread Cert.GqaReferenceIdeal.nD Cert.GqaReferenceIdeal.τ).loc Cert.GqaReferenceIdeal.main_arg3) = m ((c.tc : Thread Cert.GqaIdeal.nD Cert.GqaIdeal.τ).loc Cert.GqaIdeal.main_arg3)
      ∧ m' ((c.tc : Thread Cert.GqaReferenceIdeal.nD Cert.GqaReferenceIdeal.τ).loc Cert.GqaReferenceIdeal.main_arg4) = m ((c.tc : Thread Cert.GqaIdeal.nD Cert.GqaIdeal.τ).loc Cert.GqaIdeal.main_arg4)) →
    ∃ (v0 : (c : Dev Cert.GqaIdeal.nD) → Buf (Elt Ideal) ((c.tc : Thread Cert.GqaIdeal.nD Cert.GqaIdeal.τ).loc Cert.GqaIdeal.main_v4_0)) (v1 : (c : Dev Cert.GqaIdeal.nD) → Buf (Elt Ideal) ((c.tc : Thread Cert.GqaIdeal.nD Cert.GqaIdeal.τ).loc Cert.GqaIdeal.main_v4_1)) (v2 : (c : Dev Cert.GqaIdeal.nD) → Buf (Elt Ideal) ((c.tc : Thread Cert.GqaIdeal.nD Cert.GqaIdeal.τ).loc Cert.GqaIdeal.main_v4_2)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v4_0) = v0 c
          ∧ r.2.mem ((c.tc : Thread Cert.GqaIdeal.nD Cert.GqaIdeal.τ).loc Cert.GqaIdeal.main_v4_1) = v1 c
          ∧ r.2.mem ((c.tc : Thread Cert.GqaIdeal.nD Cert.GqaIdeal.τ).loc Cert.GqaIdeal.main_v4_2) = v2 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
          ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
          ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
          ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4))
      ∧ θ_run (Cert.GqaReferenceIdeal.defs (F := Ideal)) (onTc (τ := Cert.GqaReferenceIdeal.τ) (Cert.GqaReferenceIdeal.main (F := Ideal))) ⟨m', fun _ => 0, g'⟩ (fun r => ∀ c : Dev Cert.GqaReferenceIdeal.nD,
          r.2.mem ((c.tc : Thread Cert.GqaReferenceIdeal.nD Cert.GqaReferenceIdeal.τ).loc Cert.GqaReferenceIdeal.main_v2) = v0 c
          ∧ r.2.mem ((c.tc : Thread Cert.GqaReferenceIdeal.nD Cert.GqaReferenceIdeal.τ).loc Cert.GqaReferenceIdeal.main_v28) = v1 c
          ∧ r.2.mem ((c.tc : Thread Cert.GqaReferenceIdeal.nD Cert.GqaReferenceIdeal.τ).loc Cert.GqaReferenceIdeal.main_v29) = v2 c
          ∧ r.2.mem ((c.tc : Thread Cert.GqaReferenceIdeal.nD Cert.GqaReferenceIdeal.τ).loc Cert.GqaReferenceIdeal.main_arg0) = m' ((c.tc : Thread Cert.GqaReferenceIdeal.nD Cert.GqaReferenceIdeal.τ).loc Cert.GqaReferenceIdeal.main_arg0)
          ∧ r.2.mem ((c.tc : Thread Cert.GqaReferenceIdeal.nD Cert.GqaReferenceIdeal.τ).loc Cert.GqaReferenceIdeal.main_arg1) = m' ((c.tc : Thread Cert.GqaReferenceIdeal.nD Cert.GqaReferenceIdeal.τ).loc Cert.GqaReferenceIdeal.main_arg1)
          ∧ r.2.mem ((c.tc : Thread Cert.GqaReferenceIdeal.nD Cert.GqaReferenceIdeal.τ).loc Cert.GqaReferenceIdeal.main_arg2) = m' ((c.tc : Thread Cert.GqaReferenceIdeal.nD Cert.GqaReferenceIdeal.τ).loc Cert.GqaReferenceIdeal.main_arg2)
          ∧ r.2.mem ((c.tc : Thread Cert.GqaReferenceIdeal.nD Cert.GqaReferenceIdeal.τ).loc Cert.GqaReferenceIdeal.main_arg3) = m' ((c.tc : Thread Cert.GqaReferenceIdeal.nD Cert.GqaReferenceIdeal.τ).loc Cert.GqaReferenceIdeal.main_arg3)
          ∧ r.2.mem ((c.tc : Thread Cert.GqaReferenceIdeal.nD Cert.GqaReferenceIdeal.τ).loc Cert.GqaReferenceIdeal.main_arg4) = m' ((c.tc : Thread Cert.GqaReferenceIdeal.nD Cert.GqaReferenceIdeal.τ).loc Cert.GqaReferenceIdeal.main_arg4))

def preserves_Mlstm_MlstmIdeal : Prop :=
  True

def algebraic_MlstmIdeal_MlstmReferenceIdeal [hMlstmIdeal : Cert.MlstmIdeal.Facts] [hMlstmReferenceIdeal : Cert.MlstmReferenceIdeal.Facts] : Prop :=
  ∀ (m : (ℓ : Loc Cert.MlstmIdeal.nD Cert.MlstmIdeal.τ Cert.MlstmIdeal.sig) → Buf (Elt Ideal) ℓ) (g : Dev Cert.MlstmIdeal.nD → PrngReg)
    (m' : (ℓ : Loc Cert.MlstmReferenceIdeal.nD Cert.MlstmReferenceIdeal.τ Cert.MlstmReferenceIdeal.sig) → Buf (Elt Ideal) ℓ) (g' : Dev Cert.MlstmReferenceIdeal.nD → PrngReg), Pre_MlstmIdeal m →
    (∀ c : Dev Cert.MlstmIdeal.nD,
      m' ((c.tc : Thread Cert.MlstmReferenceIdeal.nD Cert.MlstmReferenceIdeal.τ).loc Cert.MlstmReferenceIdeal.main_arg0) = m ((c.tc : Thread Cert.MlstmIdeal.nD Cert.MlstmIdeal.τ).loc Cert.MlstmIdeal.main_arg0)
      ∧ m' ((c.tc : Thread Cert.MlstmReferenceIdeal.nD Cert.MlstmReferenceIdeal.τ).loc Cert.MlstmReferenceIdeal.main_arg1) = m ((c.tc : Thread Cert.MlstmIdeal.nD Cert.MlstmIdeal.τ).loc Cert.MlstmIdeal.main_arg1)
      ∧ m' ((c.tc : Thread Cert.MlstmReferenceIdeal.nD Cert.MlstmReferenceIdeal.τ).loc Cert.MlstmReferenceIdeal.main_arg2) = m ((c.tc : Thread Cert.MlstmIdeal.nD Cert.MlstmIdeal.τ).loc Cert.MlstmIdeal.main_arg2)
      ∧ m' ((c.tc : Thread Cert.MlstmReferenceIdeal.nD Cert.MlstmReferenceIdeal.τ).loc Cert.MlstmReferenceIdeal.main_arg3) = m ((c.tc : Thread Cert.MlstmIdeal.nD Cert.MlstmIdeal.τ).loc Cert.MlstmIdeal.main_arg3)
      ∧ m' ((c.tc : Thread Cert.MlstmReferenceIdeal.nD Cert.MlstmReferenceIdeal.τ).loc Cert.MlstmReferenceIdeal.main_arg4) = m ((c.tc : Thread Cert.MlstmIdeal.nD Cert.MlstmIdeal.τ).loc Cert.MlstmIdeal.main_arg4)
      ∧ m' ((c.tc : Thread Cert.MlstmReferenceIdeal.nD Cert.MlstmReferenceIdeal.τ).loc Cert.MlstmReferenceIdeal.main_arg5) = m ((c.tc : Thread Cert.MlstmIdeal.nD Cert.MlstmIdeal.τ).loc Cert.MlstmIdeal.main_arg5)
      ∧ m' ((c.tc : Thread Cert.MlstmReferenceIdeal.nD Cert.MlstmReferenceIdeal.τ).loc Cert.MlstmReferenceIdeal.main_arg6) = m ((c.tc : Thread Cert.MlstmIdeal.nD Cert.MlstmIdeal.τ).loc Cert.MlstmIdeal.main_arg6)
      ∧ m' ((c.tc : Thread Cert.MlstmReferenceIdeal.nD Cert.MlstmReferenceIdeal.τ).loc Cert.MlstmReferenceIdeal.main_arg7) = m ((c.tc : Thread Cert.MlstmIdeal.nD Cert.MlstmIdeal.τ).loc Cert.MlstmIdeal.main_arg7)
      ∧ m' ((c.tc : Thread Cert.MlstmReferenceIdeal.nD Cert.MlstmReferenceIdeal.τ).loc Cert.MlstmReferenceIdeal.main_arg8) = m ((c.tc : Thread Cert.MlstmIdeal.nD Cert.MlstmIdeal.τ).loc Cert.MlstmIdeal.main_arg8)
      ∧ m' ((c.tc : Thread Cert.MlstmReferenceIdeal.nD Cert.MlstmReferenceIdeal.τ).loc Cert.MlstmReferenceIdeal.main_arg9) = m ((c.tc : Thread Cert.MlstmIdeal.nD Cert.MlstmIdeal.τ).loc Cert.MlstmIdeal.main_arg9)) →
    ∃ (v0 : (c : Dev Cert.MlstmIdeal.nD) → Buf (Elt Ideal) ((c.tc : Thread Cert.MlstmIdeal.nD Cert.MlstmIdeal.τ).loc Cert.MlstmIdeal.main_v6_0)) (v1 : (c : Dev Cert.MlstmIdeal.nD) → Buf (Elt Ideal) ((c.tc : Thread Cert.MlstmIdeal.nD Cert.MlstmIdeal.τ).loc Cert.MlstmIdeal.main_v6_1)) (v2 : (c : Dev Cert.MlstmIdeal.nD) → Buf (Elt Ideal) ((c.tc : Thread Cert.MlstmIdeal.nD Cert.MlstmIdeal.τ).loc Cert.MlstmIdeal.main_v6_2)),
      θ_run (Cert.MlstmIdeal.defs (F := Ideal)) (onTc (τ := Cert.MlstmIdeal.τ) (Cert.MlstmIdeal.main (F := Ideal))) ⟨m, fun _ => 0, g⟩ (fun r => ∀ c : Dev Cert.MlstmIdeal.nD,
          r.2.mem ((c.tc : Thread Cert.MlstmIdeal.nD Cert.MlstmIdeal.τ).loc Cert.MlstmIdeal.main_v6_0) = v0 c
          ∧ r.2.mem ((c.tc : Thread Cert.MlstmIdeal.nD Cert.MlstmIdeal.τ).loc Cert.MlstmIdeal.main_v6_1) = v1 c
          ∧ r.2.mem ((c.tc : Thread Cert.MlstmIdeal.nD Cert.MlstmIdeal.τ).loc Cert.MlstmIdeal.main_v6_2) = v2 c
          ∧ r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
          ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
          ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
          ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
          ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4)
          ∧ r.2.mem ((c.tc : Thread Cert.MlstmIdeal.nD Cert.MlstmIdeal.τ).loc Cert.MlstmIdeal.main_arg5) = m ((c.tc : Thread Cert.MlstmIdeal.nD Cert.MlstmIdeal.τ).loc Cert.MlstmIdeal.main_arg5)
          ∧ r.2.mem ((c.tc : Thread Cert.MlstmIdeal.nD Cert.MlstmIdeal.τ).loc Cert.MlstmIdeal.main_arg6) = m ((c.tc : Thread Cert.MlstmIdeal.nD Cert.MlstmIdeal.τ).loc Cert.MlstmIdeal.main_arg6)
          ∧ r.2.mem ((c.tc : Thread Cert.MlstmIdeal.nD Cert.MlstmIdeal.τ).loc Cert.MlstmIdeal.main_arg7) = m ((c.tc : Thread Cert.MlstmIdeal.nD Cert.MlstmIdeal.τ).loc Cert.MlstmIdeal.main_arg7)
          ∧ r.2.mem ((c.tc : Thread Cert.MlstmIdeal.nD Cert.MlstmIdeal.τ).loc Cert.MlstmIdeal.main_arg8) = m ((c.tc : Thread Cert.MlstmIdeal.nD Cert.MlstmIdeal.τ).loc Cert.MlstmIdeal.main_arg8)
          ∧ r.2.mem ((c.tc : Thread Cert.MlstmIdeal.nD Cert.MlstmIdeal.τ).loc Cert.MlstmIdeal.main_arg9) = m ((c.tc : Thread Cert.MlstmIdeal.nD Cert.MlstmIdeal.τ).loc Cert.MlstmIdeal.main_arg9))
      ∧ θ_run (Cert.MlstmReferenceIdeal.defs (F := Ideal)) (onTc (τ := Cert.MlstmReferenceIdeal.τ) (Cert.MlstmReferenceIdeal.main (F := Ideal))) ⟨m', fun _ => 0, g'⟩ (fun r => ∀ c : Dev Cert.MlstmReferenceIdeal.nD,
          r.2.mem ((c.tc : Thread Cert.MlstmReferenceIdeal.nD Cert.MlstmReferenceIdeal.τ).loc Cert.MlstmReferenceIdeal.main_v23) = v0 c
          ∧ r.2.mem ((c.tc : Thread Cert.MlstmReferenceIdeal.nD Cert.MlstmReferenceIdeal.τ).loc Cert.MlstmReferenceIdeal.main_v49) = v1 c
          ∧ r.2.mem ((c.tc : Thread Cert.MlstmReferenceIdeal.nD Cert.MlstmReferenceIdeal.τ).loc Cert.MlstmReferenceIdeal.main_v50) = v2 c
          ∧ r.2.mem ((c.tc : Thread Cert.MlstmReferenceIdeal.nD Cert.MlstmReferenceIdeal.τ).loc Cert.MlstmReferenceIdeal.main_arg0) = m' ((c.tc : Thread Cert.MlstmReferenceIdeal.nD Cert.MlstmReferenceIdeal.τ).loc Cert.MlstmReferenceIdeal.main_arg0)
          ∧ r.2.mem ((c.tc : Thread Cert.MlstmReferenceIdeal.nD Cert.MlstmReferenceIdeal.τ).loc Cert.MlstmReferenceIdeal.main_arg1) = m' ((c.tc : Thread Cert.MlstmReferenceIdeal.nD Cert.MlstmReferenceIdeal.τ).loc Cert.MlstmReferenceIdeal.main_arg1)
          ∧ r.2.mem ((c.tc : Thread Cert.MlstmReferenceIdeal.nD Cert.MlstmReferenceIdeal.τ).loc Cert.MlstmReferenceIdeal.main_arg2) = m' ((c.tc : Thread Cert.MlstmReferenceIdeal.nD Cert.MlstmReferenceIdeal.τ).loc Cert.MlstmReferenceIdeal.main_arg2)
          ∧ r.2.mem ((c.tc : Thread Cert.MlstmReferenceIdeal.nD Cert.MlstmReferenceIdeal.τ).loc Cert.MlstmReferenceIdeal.main_arg3) = m' ((c.tc : Thread Cert.MlstmReferenceIdeal.nD Cert.MlstmReferenceIdeal.τ).loc Cert.MlstmReferenceIdeal.main_arg3)
          ∧ r.2.mem ((c.tc : Thread Cert.MlstmReferenceIdeal.nD Cert.MlstmReferenceIdeal.τ).loc Cert.MlstmReferenceIdeal.main_arg4) = m' ((c.tc : Thread Cert.MlstmReferenceIdeal.nD Cert.MlstmReferenceIdeal.τ).loc Cert.MlstmReferenceIdeal.main_arg4)
          ∧ r.2.mem ((c.tc : Thread Cert.MlstmReferenceIdeal.nD Cert.MlstmReferenceIdeal.τ).loc Cert.MlstmReferenceIdeal.main_arg5) = m' ((c.tc : Thread Cert.MlstmReferenceIdeal.nD Cert.MlstmReferenceIdeal.τ).loc Cert.MlstmReferenceIdeal.main_arg5)
          ∧ r.2.mem ((c.tc : Thread Cert.MlstmReferenceIdeal.nD Cert.MlstmReferenceIdeal.τ).loc Cert.MlstmReferenceIdeal.main_arg6) = m' ((c.tc : Thread Cert.MlstmReferenceIdeal.nD Cert.MlstmReferenceIdeal.τ).loc Cert.MlstmReferenceIdeal.main_arg6)
          ∧ r.2.mem ((c.tc : Thread Cert.MlstmReferenceIdeal.nD Cert.MlstmReferenceIdeal.τ).loc Cert.MlstmReferenceIdeal.main_arg7) = m' ((c.tc : Thread Cert.MlstmReferenceIdeal.nD Cert.MlstmReferenceIdeal.τ).loc Cert.MlstmReferenceIdeal.main_arg7)
          ∧ r.2.mem ((c.tc : Thread Cert.MlstmReferenceIdeal.nD Cert.MlstmReferenceIdeal.τ).loc Cert.MlstmReferenceIdeal.main_arg8) = m' ((c.tc : Thread Cert.MlstmReferenceIdeal.nD Cert.MlstmReferenceIdeal.τ).loc Cert.MlstmReferenceIdeal.main_arg8)
          ∧ r.2.mem ((c.tc : Thread Cert.MlstmReferenceIdeal.nD Cert.MlstmReferenceIdeal.τ).loc Cert.MlstmReferenceIdeal.main_arg9) = m' ((c.tc : Thread Cert.MlstmReferenceIdeal.nD Cert.MlstmReferenceIdeal.τ).loc Cert.MlstmReferenceIdeal.main_arg9))

def preserves_Gate_GateIdeal : Prop :=
  True

def algebraic_GateIdeal_GateReferenceIdeal [hGateIdeal : Cert.GateIdeal.Facts] [hGateReferenceIdeal : Cert.GateReferenceIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)
      ∧ m' ((c.tc : Thread Cert.GateReferenceIdeal.nD Cert.GateReferenceIdeal.τ).loc Cert.GateReferenceIdeal.main_arg2) = m ((c.tc : Thread Cert.GateIdeal.nD Cert.GateIdeal.τ).loc Cert.GateIdeal.main_arg2)
      ∧ m' ((c.tc : Thread Cert.GateReferenceIdeal.nD Cert.GateReferenceIdeal.τ).loc Cert.GateReferenceIdeal.main_arg3) = m ((c.tc : Thread Cert.GateIdeal.nD Cert.GateIdeal.τ).loc Cert.GateIdeal.main_arg3)
      ∧ m' ((c.tc : Thread Cert.GateReferenceIdeal.nD Cert.GateReferenceIdeal.τ).loc Cert.GateReferenceIdeal.main_arg4) = m ((c.tc : Thread Cert.GateIdeal.nD Cert.GateIdeal.τ).loc Cert.GateIdeal.main_arg4)
      ∧ m' ((c.tc : Thread Cert.GateReferenceIdeal.nD Cert.GateReferenceIdeal.τ).loc Cert.GateReferenceIdeal.main_arg5) = m ((c.tc : Thread Cert.GateIdeal.nD Cert.GateIdeal.τ).loc Cert.GateIdeal.main_arg5)
      ∧ m' ((c.tc : Thread Cert.GateReferenceIdeal.nD Cert.GateReferenceIdeal.τ).loc Cert.GateReferenceIdeal.main_arg6) = m ((c.tc : Thread Cert.GateIdeal.nD Cert.GateIdeal.τ).loc Cert.GateIdeal.main_arg6)
      ∧ m' ((c.tc : Thread Cert.GateReferenceIdeal.nD Cert.GateReferenceIdeal.τ).loc Cert.GateReferenceIdeal.main_arg7) = m ((c.tc : Thread Cert.GateIdeal.nD Cert.GateIdeal.τ).loc Cert.GateIdeal.main_arg7)
      ∧ m' ((c.tc : Thread Cert.GateReferenceIdeal.nD Cert.GateReferenceIdeal.τ).loc Cert.GateReferenceIdeal.main_arg8) = m ((c.tc : Thread Cert.GateIdeal.nD Cert.GateIdeal.τ).loc Cert.GateIdeal.main_arg8)) →
    ∃ (v0 : (c : Dev Cert.GateIdeal.nD) → Buf (Elt Ideal) ((c.tc : Thread Cert.GateIdeal.nD Cert.GateIdeal.τ).loc Cert.GateIdeal.main_v5_0)) (v1 : (c : Dev Cert.GateIdeal.nD) → Buf (Elt Ideal) ((c.tc : Thread Cert.GateIdeal.nD Cert.GateIdeal.τ).loc Cert.GateIdeal.main_v5_1)) (v2 : (c : Dev Cert.GateIdeal.nD) → Buf (Elt Ideal) ((c.tc : Thread Cert.GateIdeal.nD Cert.GateIdeal.τ).loc Cert.GateIdeal.main_v5_2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v5_0) = v0 c
          ∧ r.2.mem ((c.tc : Thread Cert.GateIdeal.nD Cert.GateIdeal.τ).loc Cert.GateIdeal.main_v5_1) = v1 c
          ∧ r.2.mem ((c.tc : Thread Cert.GateIdeal.nD Cert.GateIdeal.τ).loc Cert.GateIdeal.main_v5_2) = v2 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
          ∧ r.2.mem ((c.tc : Thread Cert.GateIdeal.nD Cert.GateIdeal.τ).loc Cert.GateIdeal.main_arg6) = m ((c.tc : Thread Cert.GateIdeal.nD Cert.GateIdeal.τ).loc Cert.GateIdeal.main_arg6)
          ∧ r.2.mem ((c.tc : Thread Cert.GateIdeal.nD Cert.GateIdeal.τ).loc Cert.GateIdeal.main_arg7) = m ((c.tc : Thread Cert.GateIdeal.nD Cert.GateIdeal.τ).loc Cert.GateIdeal.main_arg7)
          ∧ r.2.mem ((c.tc : Thread Cert.GateIdeal.nD Cert.GateIdeal.τ).loc Cert.GateIdeal.main_arg8) = m ((c.tc : Thread Cert.GateIdeal.nD Cert.GateIdeal.τ).loc Cert.GateIdeal.main_arg8))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v9) = v0 c
          ∧ r.2.mem ((c.tc : Thread Cert.GateReferenceIdeal.nD Cert.GateReferenceIdeal.τ).loc Cert.GateReferenceIdeal.main_v35) = v1 c
          ∧ r.2.mem ((c.tc : Thread Cert.GateReferenceIdeal.nD Cert.GateReferenceIdeal.τ).loc Cert.GateReferenceIdeal.main_v36) = v2 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3)
          ∧ r.2.mem ((c.tc : Thread Cert.GateReferenceIdeal.nD Cert.GateReferenceIdeal.τ).loc Cert.GateReferenceIdeal.main_arg4) = m' ((c.tc : Thread Cert.GateReferenceIdeal.nD Cert.GateReferenceIdeal.τ).loc Cert.GateReferenceIdeal.main_arg4)
          ∧ r.2.mem ((c.tc : Thread Cert.GateReferenceIdeal.nD Cert.GateReferenceIdeal.τ).loc Cert.GateReferenceIdeal.main_arg5) = m' ((c.tc : Thread Cert.GateReferenceIdeal.nD Cert.GateReferenceIdeal.τ).loc Cert.GateReferenceIdeal.main_arg5)
          ∧ r.2.mem ((c.tc : Thread Cert.GateReferenceIdeal.nD Cert.GateReferenceIdeal.τ).loc Cert.GateReferenceIdeal.main_arg6) = m' ((c.tc : Thread Cert.GateReferenceIdeal.nD Cert.GateReferenceIdeal.τ).loc Cert.GateReferenceIdeal.main_arg6)
          ∧ r.2.mem ((c.tc : Thread Cert.GateReferenceIdeal.nD Cert.GateReferenceIdeal.τ).loc Cert.GateReferenceIdeal.main_arg7) = m' ((c.tc : Thread Cert.GateReferenceIdeal.nD Cert.GateReferenceIdeal.τ).loc Cert.GateReferenceIdeal.main_arg7)
          ∧ r.2.mem ((c.tc : Thread Cert.GateReferenceIdeal.nD Cert.GateReferenceIdeal.τ).loc Cert.GateReferenceIdeal.main_arg8) = m' ((c.tc : Thread Cert.GateReferenceIdeal.nD Cert.GateReferenceIdeal.τ).loc Cert.GateReferenceIdeal.main_arg8))

def Claim : Prop :=
  ∃ (hKernel : Cert.Kernel.Facts) (hKernelIdeal : Cert.KernelIdeal.Facts) (hReferenceIdeal : Cert.ReferenceIdeal.Facts) (hMoe : Cert.Moe.Facts) (hMoeIdeal : Cert.MoeIdeal.Facts) (hMoeReferenceIdeal : Cert.MoeReferenceIdeal.Facts) (hMoe1 : Cert.Moe1.Facts) (hMoe1Ideal : Cert.Moe1Ideal.Facts) (hMoe1ReferenceIdeal : Cert.Moe1ReferenceIdeal.Facts) (hMoe2 : Cert.Moe2.Facts) (hMoe2Ideal : Cert.Moe2Ideal.Facts) (hMoe2ReferenceIdeal : Cert.Moe2ReferenceIdeal.Facts) (hMoe3 : Cert.Moe3.Facts) (hMoe3Ideal : Cert.Moe3Ideal.Facts) (hMoe3ReferenceIdeal : Cert.Moe3ReferenceIdeal.Facts) (hHyena : Cert.Hyena.Facts) (hHyenaIdeal : Cert.HyenaIdeal.Facts) (hHyenaReferenceIdeal : Cert.HyenaReferenceIdeal.Facts) (hGqa : Cert.Gqa.Facts) (hGqaIdeal : Cert.GqaIdeal.Facts) (hGqaReferenceIdeal : Cert.GqaReferenceIdeal.Facts) (hMlstm : Cert.Mlstm.Facts) (hMlstmIdeal : Cert.MlstmIdeal.Facts) (hMlstmReferenceIdeal : Cert.MlstmReferenceIdeal.Facts) (hGate : Cert.Gate.Facts) (hGateIdeal : Cert.GateIdeal.Facts) (hGateReferenceIdeal : Cert.GateReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Moe (hMoe := hMoe)
    ∧ quiescent_MoeIdeal (hMoeIdeal := hMoeIdeal)
    ∧ quiescent_MoeReferenceIdeal (hMoeReferenceIdeal := hMoeReferenceIdeal)
    ∧ quiescent_Moe1 (hMoe1 := hMoe1)
    ∧ quiescent_Moe1Ideal (hMoe1Ideal := hMoe1Ideal)
    ∧ quiescent_Moe1ReferenceIdeal (hMoe1ReferenceIdeal := hMoe1ReferenceIdeal)
    ∧ quiescent_Moe2 (hMoe2 := hMoe2)
    ∧ quiescent_Moe2Ideal (hMoe2Ideal := hMoe2Ideal)
    ∧ quiescent_Moe2ReferenceIdeal (hMoe2ReferenceIdeal := hMoe2ReferenceIdeal)
    ∧ quiescent_Moe3 (hMoe3 := hMoe3)
    ∧ quiescent_Moe3Ideal (hMoe3Ideal := hMoe3Ideal)
    ∧ quiescent_Moe3ReferenceIdeal (hMoe3ReferenceIdeal := hMoe3ReferenceIdeal)
    ∧ quiescent_Hyena (hHyena := hHyena)
    ∧ quiescent_HyenaIdeal (hHyenaIdeal := hHyenaIdeal)
    ∧ quiescent_HyenaReferenceIdeal (hHyenaReferenceIdeal := hHyenaReferenceIdeal)
    ∧ quiescent_Gqa (hGqa := hGqa)
    ∧ quiescent_GqaIdeal (hGqaIdeal := hGqaIdeal)
    ∧ quiescent_GqaReferenceIdeal (hGqaReferenceIdeal := hGqaReferenceIdeal)
    ∧ quiescent_Mlstm (hMlstm := hMlstm)
    ∧ quiescent_MlstmIdeal (hMlstmIdeal := hMlstmIdeal)
    ∧ quiescent_MlstmReferenceIdeal (hMlstmReferenceIdeal := hMlstmReferenceIdeal)
    ∧ quiescent_Gate (hGate := hGate)
    ∧ quiescent_GateIdeal (hGateIdeal := hGateIdeal)
    ∧ quiescent_GateReferenceIdeal (hGateReferenceIdeal := hGateReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Moe_MoeIdeal
    ∧ algebraic_MoeIdeal_MoeReferenceIdeal (hMoeIdeal := hMoeIdeal) (hMoeReferenceIdeal := hMoeReferenceIdeal)
    ∧ preserves_Moe1_Moe1Ideal
    ∧ algebraic_Moe1Ideal_Moe1ReferenceIdeal (hMoe1Ideal := hMoe1Ideal) (hMoe1ReferenceIdeal := hMoe1ReferenceIdeal)
    ∧ preserves_Moe2_Moe2Ideal
    ∧ algebraic_Moe2Ideal_Moe2ReferenceIdeal (hMoe2Ideal := hMoe2Ideal) (hMoe2ReferenceIdeal := hMoe2ReferenceIdeal)
    ∧ preserves_Moe3_Moe3Ideal
    ∧ algebraic_Moe3Ideal_Moe3ReferenceIdeal (hMoe3Ideal := hMoe3Ideal) (hMoe3ReferenceIdeal := hMoe3ReferenceIdeal)
    ∧ preserves_Hyena_HyenaIdeal
    ∧ algebraic_HyenaIdeal_HyenaReferenceIdeal (hHyenaIdeal := hHyenaIdeal) (hHyenaReferenceIdeal := hHyenaReferenceIdeal)
    ∧ preserves_Gqa_GqaIdeal
    ∧ algebraic_GqaIdeal_GqaReferenceIdeal (hGqaIdeal := hGqaIdeal) (hGqaReferenceIdeal := hGqaReferenceIdeal)
    ∧ preserves_Mlstm_MlstmIdeal
    ∧ algebraic_MlstmIdeal_MlstmReferenceIdeal (hMlstmIdeal := hMlstmIdeal) (hMlstmReferenceIdeal := hMlstmReferenceIdeal)
    ∧ preserves_Gate_GateIdeal
    ∧ algebraic_GateIdeal_GateReferenceIdeal (hGateIdeal := hGateIdeal) (hGateReferenceIdeal := hGateReferenceIdeal)
-- ==== Pre_finite.lean ====
abbrev S81920x1024 : Shape := ⟨2, ![81920, 1024]⟩
abbrev S81920x256 : Shape := ⟨2, ![81920, 256]⟩
abbrev S81920x1280 : Shape := ⟨2, ![81920, 1280]⟩
abbrev S_ : Shape := ⟨0, ![]⟩

class Facts : Prop where
  concatenates_S81920x1024_S81920x256_S81920x1280_d1 : Shape.Concatenates [S81920x1024, S81920x256] S81920x1280 1
  bitsLt_bf16_f32 : FTy.bits .bf16 < FTy.bits .f32
  bcast_S_S81920x1280 : S_.BroadcastsInDim S81920x1280 (![] : Fin 0 → Fin S81920x1280.rank)

variable [Facts]

def fn {F : FTy → Type} [FloatOps F] (main_arg0 : FVec F S81920x1024 .bf16) (main_arg1 : FVec F S81920x256 .bf16) (main_arg2 : FVec F S81920x256 .bf16) : IVec S81920x1280 1 :=
  let main_v0 : FVec F S81920x1280 .bf16 := (fun a b => concatenate S81920x1280 1 [⟨S81920x1024, a⟩, ⟨S81920x256, b⟩] concatenates_S81920x1024_S81920x256_S81920x1280_d1) main_arg0 main_arg1
  let main_v1 : FVec F S81920x1280 .f32 := (extf .f32 · bitsLt_bf16_f32) main_v0
  let main_v2 : FVec F S81920x1280 .f32 := Host.absf main_v1
  let main_cst : FVec F S_ .f32 := constant S_ .f32 0x7F800000#32
  let main_v3 : FVec F S81920x1280 .f32 := broadcastInDim S81920x1280 ![] bcast_S_S81920x1280 main_cst
  let main_v4 : IVec S81920x1280 1 := cmpf .olt main_v2 main_v3
  main_v4
-- ==== Kernel.lean ====
abbrev S81920x1024 : Shape := ⟨2, ![81920, 1024]⟩
abbrev S81920x256 : Shape := ⟨2, ![81920, 256]⟩
abbrev S1024x512 : Shape := ⟨2, ![1024, 512]⟩
abbrev S8192x128 : Shape := ⟨2, ![8192, 128]⟩
abbrev S4x1024x128 : Shape := ⟨3, ![4, 1024, 128]⟩
abbrev S4x1024x1 : Shape := ⟨3, ![4, 1024, 1]⟩
abbrev S8x128 : Shape := ⟨2, ![8, 128]⟩
abbrev S1x1 : Shape := ⟨2, ![1, 1]⟩
abbrev S512x128 : Shape := ⟨2, ![512, 128]⟩
abbrev S512 : Shape := ⟨1, ![512]⟩
abbrev S512x1 : Shape := ⟨2, ![512, 1]⟩
abbrev S1 : Shape := ⟨1, ![1]⟩
abbrev S1024x128 : Shape := ⟨2, ![1024, 128]⟩
abbrev S1024 : Shape := ⟨1, ![1024]⟩
abbrev S1024x1 : Shape := ⟨2, ![1024, 1]⟩
abbrev S1x1024x128 : Shape := ⟨3, ![1, 1024, 128]⟩
abbrev S2048x128 : Shape := ⟨2, ![2048, 128]⟩
abbrev S1024x2048 : Shape := ⟨2, ![1024, 2048]⟩
abbrev S1x1024x1 : Shape := ⟨3, ![1, 1024, 1]⟩

abbrev nBuf : Space → Nat
  | .hbm => 4
  | .vmem => 14
  | .smem => 0
  | _ => 0

abbrev bufTy : (tb : Table) → Fin (tcTables nBuf tb) → BufTy
  | .hbm, ⟨0, _⟩ => ⟨S81920x1024, .bf16⟩
  | .hbm, ⟨1, _⟩ => ⟨S81920x256, .bf16⟩
  | .hbm, ⟨2, _⟩ => ⟨S81920x256, .bf16⟩
  | .hbm, ⟨3, _⟩ => ⟨S81920x1024, .bf16⟩
  | .local _ .vmem, ⟨0, _⟩ => ⟨S1024x512, .bf16⟩
  | .local _ .vmem, ⟨1, _⟩ => ⟨S1024x512, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1024x512, .bf16⟩
  | .local _ .vmem, ⟨7, _⟩ => ⟨S1024x512, .bf16⟩
  | .local _ .vmem, ⟨8, _⟩ => ⟨S4x1024x128, .f32⟩
  | .local _ .vmem, ⟨9, _⟩ => ⟨S4x1024x128, .f32⟩
  | .local _ .vmem, ⟨10, _⟩ => ⟨S4x1024x128, .f32⟩
  | .local _ .vmem, ⟨11, _⟩ => ⟨S4x1024x1, .f32⟩
  | .local _ .vmem, ⟨12, _⟩ => ⟨S4x1024x1, .f32⟩
  | .local _ .vmem, ⟨13, _⟩ => ⟨S8x128, .f32⟩
  | _, _ => ⟨S81920x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![10, 2, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_37 : BitVec 32 := 0#32
  let c16_i32 : BitVec 32 := 16#32
  let v95 : BitVec 32 := Scalar.addi c0_i32_37 c16_i32
  let c1_i32 : BitVec 32 := 1#32
  ⟨c0_i32_37, v95, c1_i32⟩
def k0_mult1 (k0_t1 : Fin k0_t1_loop.trips) : BitVec 32 :=
  let c0_i32_37 : BitVec 32 := 0#32
  let c1_i32 : BitVec 32 := 1#32
  let arg13 : BitVec 32 := Scf.iv c0_i32_37 c1_i32 k0_t1
  let c512_i32 : BitVec 32 := 512#32
  let v102 : BitVec 32 := Scalar.muli arg13 c512_i32
  v102
def k0_off1 (k0_t1 : Fin k0_t1_loop.trips) : Fin 2 → Nat :=
  let c0_i32_37 : BitVec 32 := 0#32
  let c1_i32 : BitVec 32 := 1#32
  let arg13 : BitVec 32 := Scf.iv c0_i32_37 c1_i32 k0_t1
  let c512_i32 : BitVec 32 := 512#32
  let v102 : BitVec 32 := Scalar.muli arg13 c512_i32
  let v103 : BitVec 32 := v102
  let v104 : Index := Scalar.indexCast v103
  let c0_41 : Index := 0#32
  ![v104.toNat, 0]
@[reducible] def k0_t2_loop : Scf.Loop 32 :=
  let c0_i32_44 : BitVec 32 := 0#32
  let c4_i32 : BitVec 32 := 4#32
  let v102 : BitVec 32 := Scalar.addi c0_i32_44 c4_i32
  let c1_i32 : BitVec 32 := 1#32
  ⟨c0_i32_44, v102, c1_i32⟩
def k0_mult2 (k0_t2 : Fin k0_t2_loop.trips) : BitVec 32 :=
  let c0_i32_44 : BitVec 32 := 0#32
  let c1_i32 : BitVec 32 := 1#32
  let arg13 : BitVec 32 := Scf.iv c0_i32_44 c1_i32 k0_t2
  let c2048_i32 : BitVec 32 := 2048#32
  let v143 : BitVec 32 := Scalar.muli arg13 c2048_i32
  v143
def k0_off2 (k0_t2 : Fin k0_t2_loop.trips) : Fin 2 → Nat :=
  let c0_i32_44 : BitVec 32 := 0#32
  let c1_i32 : BitVec 32 := 1#32
  let arg13 : BitVec 32 := Scf.iv c0_i32_44 c1_i32 k0_t2
  let c2048_i32 : BitVec 32 := 2048#32
  let v143 : BitVec 32 := Scalar.muli arg13 c2048_i32
  let v144 : BitVec 32 := v143
  let v145 : Index := Scalar.indexCast v144
  let c0_82 : Index := 0#32
  ![v145.toNat, 0]
@[reducible] def k0_t3_loop : Scf.Loop 32 :=
  let c0_i32_48 : BitVec 32 := 0#32
  let c16_i32 : BitVec 32 := 16#32
  let v106 : BitVec 32 := Scalar.addi c0_i32_48 c16_i32
  let c1_i32 : BitVec 32 := 1#32
  ⟨c0_i32_48, v106, c1_i32⟩
def k0_mult3 (k0_t3 : Fin k0_t3_loop.trips) : BitVec 32 :=
  let c0_i32_48 : BitVec 32 := 0#32
  let c1_i32 : BitVec 32 := 1#32
  let arg13 : BitVec 32 := Scf.iv c0_i32_48 c1_i32 k0_t3
  let c512_i32 : BitVec 32 := 512#32
  let v139 : BitVec 32 := Scalar.muli arg13 c512_i32
  v139
def k0_off3 (k0_t3 : Fin k0_t3_loop.trips) : Fin 2 → Nat :=
  let c0_i32_48 : BitVec 32 := 0#32
  let c1_i32 : BitVec 32 := 1#32
  let arg13 : BitVec 32 := Scf.iv c0_i32_48 c1_i32 k0_t3
  let c512_i32 : BitVec 32 := 512#32
  let v139 : BitVec 32 := Scalar.muli arg13 c512_i32
  let v140 : BitVec 32 := v139
  let v141 : Index := Scalar.indexCast v140
  let c0_82 : Index := 0#32
  ![v141.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "exp2_scale" => some (((Real.sqrt 128)⁻¹ * (Real.log 2)⁻¹ : ℝ) : EReal)
  | "scale" => some (((Real.sqrt 128)⁻¹ : ℝ) : EReal)
  | _ => none
-- ==== ReferenceIdeal.lean ====
abbrev S81920x1024 : Shape := ⟨2, ![81920, 1024]⟩
abbrev S81920x256 : Shape := ⟨2, ![81920, 256]⟩
abbrev S10x8192x2x4x128 : Shape := ⟨5, ![10, 8192, 2, 4, 128]⟩
abbrev S10x8192x2x128 : Shape := ⟨4, ![10, 8192, 2, 128]⟩
abbrev S10x2x8192x8192x4 : Shape := ⟨5, ![10, 2, 8192, 8192, 4]⟩
abbrev S10x2x4x8192x8192 : Shape := ⟨5, ![10, 2, 4, 8192, 8192]⟩
abbrev S_ : Shape := ⟨0, ![]⟩
abbrev S10x2x4x8192 : Shape := ⟨4, ![10, 2, 4, 8192]⟩
abbrev S10x2x4x8192x1 : Shape := ⟨5, ![10, 2, 4, 8192, 1]⟩
abbrev S10x2x128x4x8192 : Shape := ⟨5, ![10, 2, 128, 4, 8192]⟩

abbrev nBuf : Space → Nat
  | .hbm => 31
  | .vmem => 0
  | .smem => 0
  | _ => 0

abbrev bufTy : (tb : Table) → Fin (tcTables nBuf tb) → BufTy
  | .hbm, ⟨0, _⟩ => ⟨S81920x1024, .bf16⟩
  | .hbm, ⟨1, _⟩ => ⟨S81920x256, .bf16⟩
  | .hbm, ⟨2, _⟩ => ⟨S81920x256, .bf16⟩
  | .hbm, ⟨3, _⟩ => ⟨S10x8192x2x4x128, .bf16⟩
  | .hbm, ⟨4, _⟩ => ⟨S10x8192x2x128, .bf16⟩
  | .hbm, ⟨5, _⟩ => ⟨S10x8192x2x128, .bf16⟩
  | .hbm, ⟨6, _⟩ => ⟨S10x2x8192x8192x4, .f32⟩
  | .hbm, ⟨7, _⟩ => ⟨S10x2x4x8192x8192, .f32⟩
  | .hbm, ⟨8, _⟩ => ⟨S_, .f32⟩
  | .hbm, ⟨9, _⟩ => ⟨S_, .f32⟩
  | .hbm, ⟨10, _⟩ => ⟨S10x2x4x8192x8192, .f32⟩
  | .hbm, ⟨11, _⟩ => ⟨S10x2x4x8192x8192, .f32⟩
  | .hbm, ⟨12, _⟩ => ⟨S_, .f32⟩
  | .hbm, ⟨13, _⟩ => ⟨S10x2x4x8192, .f32⟩
  | .hbm, ⟨14, _⟩ => ⟨S_, .f32⟩
  | .hbm, ⟨15, _⟩ => ⟨S10x2x4x8192, .f32⟩
  | .hbm, ⟨16, _⟩ => ⟨S10x2x4x8192, .f32⟩
  | .hbm, ⟨17, _⟩ => ⟨S10x2x4x8192x1, .f32⟩
  | .hbm, ⟨18, _⟩ => ⟨S10x2x4x8192x8192, .f32⟩
  | .hbm, ⟨19, _⟩ => ⟨S10x2x4x8192x8192, .f32⟩
  | .hbm, ⟨20, _⟩ => ⟨S10x2x4x8192x8192, .f32⟩
  | .hbm, ⟨21, _⟩ => ⟨S_, .f32⟩
  | .hbm, ⟨22, _⟩ => ⟨S10x2x4x8192, .f32⟩
  | .hbm, ⟨23, _⟩ => ⟨S10x2x4x8192x1, .f32⟩
  | .hbm, ⟨24, _⟩ => ⟨S10x2x4x8192x8192, .f32⟩
  | .hbm, ⟨25, _⟩ => ⟨S10x2x4x8192x8192, .f32⟩
  | .hbm, ⟨26, _⟩ => ⟨S10x2x4x8192x8192, .bf16⟩
  | .hbm, ⟨27, _⟩ => ⟨S10x2x128x4x8192, .f32⟩
  | .hbm, ⟨28, _⟩ => ⟨S10x8192x2x4x128, .f32⟩
  | .hbm, ⟨29, _⟩ => ⟨S81920x1024, .f32⟩
  | .hbm, ⟨30, _⟩ => ⟨S81920x1024, .bf16⟩
  | _, _ => ⟨S81920x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Moe.lean ====
abbrev S81920x1024 : Shape := ⟨2, ![81920, 1024]⟩
abbrev S16x81920 : Shape := ⟨2, ![16, 81920]⟩
abbrev S4x16x1024x1024 : Shape := ⟨4, ![4, 16, 1024, 1024]⟩
abbrev S16x16384 : Shape := ⟨2, ![16, 16384]⟩
abbrev S16x2048 : Shape := ⟨2, ![16, 2048]⟩
abbrev S_ : Shape := ⟨0, ![]⟩
abbrev S16x65536 : Shape := ⟨2, ![16, 65536]⟩
abbrev S16x8192 : Shape := ⟨2, ![16, 8192]⟩
abbrev S16x10240 : Shape := ⟨2, ![16, 10240]⟩
abbrev S16x10240x1 : Shape := ⟨3, ![16, 10240, 1]⟩
abbrev S16x10240x1024 : Shape := ⟨3, ![16, 10240, 1024]⟩
abbrev S16x1x10240 : Shape := ⟨3, ![16, 1, 10240]⟩
abbrev S1x512x1024 : Shape := ⟨3, ![1, 512, 1024]⟩
abbrev S1x1x512 : Shape := ⟨3, ![1, 1, 512]⟩
abbrev S1x1x1024x1024 : Shape := ⟨4, ![1, 1, 1024, 1024]⟩
abbrev S1024x1024 : Shape := ⟨2, ![1024, 1024]⟩
abbrev S512x1024 : Shape := ⟨2, ![512, 1024]⟩
abbrev S512x512 : Shape := ⟨2, ![512, 512]⟩
abbrev S1x512 : Shape := ⟨2, ![1, 512]⟩
abbrev S512 : Shape := ⟨1, ![512]⟩
abbrev S512x1 : Shape := ⟨2, ![512, 1]⟩

abbrev nBuf : Space → Nat
  | .hbm => 30
  | .vmem => 15
  | .smem => 0
  | _ => 0

abbrev bufTy : (tb : Table) → Fin (tcTables nBuf tb) → BufTy
  | .hbm, ⟨0, _⟩ => ⟨S81920x1024, .bf16⟩
  | .hbm, ⟨1, _⟩ => ⟨S16x81920, .f32⟩
  | .hbm, ⟨2, _⟩ => ⟨S4x16x1024x1024, .f32⟩
  | .hbm, ⟨3, _⟩ => ⟨S4x16x1024x1024, .f32⟩
  | .hbm, ⟨4, _⟩ => ⟨S4x16x1024x1024, .f32⟩
  | .hbm, ⟨5, _⟩ => ⟨S16x16384, .f32⟩
  | .hbm, ⟨6, _⟩ => ⟨S16x2048, .f32⟩
  | .hbm, ⟨7, _⟩ => ⟨S16x2048, .i32⟩
  | .hbm, ⟨8, _⟩ => ⟨S_, .i32⟩
  | .hbm, ⟨9, _⟩ => ⟨S16x2048, .i32⟩
  | .hbm, ⟨10, _⟩ => ⟨S16x2048, .i32⟩
  | .hbm, ⟨11, _⟩ => ⟨S16x65536, .f32⟩
  | .hbm, ⟨12, _⟩ => ⟨S16x8192, .f32⟩
  | .hbm, ⟨13, _⟩ => ⟨S16x8192, .i32⟩
  | .hbm, ⟨14, _⟩ => ⟨S_, .i32⟩
  | .hbm, ⟨15, _⟩ => ⟨S16x8192, .i32⟩
  | .hbm, ⟨16, _⟩ => ⟨S16x8192, .i32⟩
  | .hbm, ⟨17, _⟩ => ⟨S16x10240, .i32⟩
  | .hbm, ⟨18, _⟩ => ⟨S_, .i32⟩
  | .hbm, ⟨19, _⟩ => ⟨S16x10240, .i32⟩
  | .hbm, ⟨20, _⟩ => ⟨S16x10240, .i1⟩
  | .hbm, ⟨21, _⟩ => ⟨S_, .i32⟩
  | .hbm, ⟨22, _⟩ => ⟨S16x10240, .i32⟩
  | .hbm, ⟨23, _⟩ => ⟨S16x10240, .i32⟩
  | .hbm, ⟨24, _⟩ => ⟨S16x10240, .i32⟩
  | .hbm, ⟨25, _⟩ => ⟨S16x10240x1, .i32⟩
  | .hbm, ⟨26, _⟩ => ⟨S16x10240x1024, .bf16⟩
  | .hbm, ⟨27, _⟩ => ⟨S16x10240, .f32⟩
  | .hbm, ⟨28, _⟩ => ⟨S16x1x10240, .f32⟩
  | .hbm, ⟨29, _⟩ => ⟨S16x10240x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x1x512, .f32⟩
  | .local _ .vmem, ⟨3, _⟩ => ⟨S1x1x512, .f32⟩
  | .local _ .vmem, ⟨4, _⟩ => ⟨S1x1x1024x1024, .f32⟩
  | .local _ .vmem, ⟨5, _⟩ => ⟨S1x1x1024x1024, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1024x1024, .f32⟩
  | .local _ .vmem, ⟨9, _⟩ => ⟨S1x1x1024x1024, .f32⟩
  | .local _ .vmem, ⟨10, _⟩ => ⟨S1x512x1024, .bf16⟩
  | .local _ .vmem, ⟨11, _⟩ => ⟨S1x512x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | _, _ => ⟨S81920x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_values : Ref sig .tc := ⟨.hbm, 6, rfl⟩
abbrev main_indices : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_values_0 : Ref sig .tc := ⟨.hbm, 12, rfl⟩
abbrev main_indices_1 : Ref sig .tc := ⟨.hbm, 13, rfl⟩
abbrev main_c_2 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_3 : Ref sig .tc := ⟨.hbm, 18, rfl⟩
abbrev main_v7 : Ref sig .tc := ⟨.hbm, 19, rfl⟩
abbrev main_v8 : Ref sig .tc := ⟨.hbm, 20, rfl⟩
abbrev main_c_4 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 20], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MoeReferenceIdeal.lean ====
abbrev S81920x1024 : Shape := ⟨2, ![81920, 1024]⟩
abbrev S16x81920 : Shape := ⟨2, ![16, 81920]⟩
abbrev S4x16x1024x1024 : Shape := ⟨4, ![4, 16, 1024, 1024]⟩
abbrev S16384x1024 : Shape := ⟨2, ![16384, 1024]⟩
abbrev S16x16384 : Shape := ⟨2, ![16, 16384]⟩
abbrev S1x16x1024x1024 : Shape := ⟨4, ![1, 16, 1024, 1024]⟩
abbrev S16x1024x1024 : Shape := ⟨3, ![16, 1024, 1024]⟩
abbrev S16x2048 : Shape := ⟨2, ![16, 2048]⟩
abbrev S_ : Shape := ⟨0, ![]⟩
abbrev S16x2048x1 : Shape := ⟨3, ![16, 2048, 1]⟩
abbrev S16x2048x1024 : Shape := ⟨3, ![16, 2048, 1024]⟩
abbrev S65536x1024 : Shape := ⟨2, ![65536, 1024]⟩
abbrev S16x65536 : Shape := ⟨2, ![16, 65536]⟩
abbrev S16x8192 : Shape := ⟨2, ![16, 8192]⟩
abbrev S16x8192x1 : Shape := ⟨3, ![16, 8192, 1]⟩
abbrev S16x8192x1024 : Shape := ⟨3, ![16, 8192, 1024]⟩
abbrev S16x10240x1024 : Shape := ⟨3, ![16, 10240, 1024]⟩

abbrev nBuf : Space → Nat
  | .hbm => 78
  | .vmem => 0
  | .smem => 0
  | _ => 0

abbrev bufTy : (tb : Table) → Fin (tcTables nBuf tb) → BufTy
  | .hbm, ⟨0, _⟩ => ⟨S81920x1024, .bf16⟩
  | .hbm, ⟨1, _⟩ => ⟨S16x81920, .f32⟩
  | .hbm, ⟨2, _⟩ => ⟨S4x16x1024x1024, .f32⟩
  | .hbm, ⟨3, _⟩ => ⟨S4x16x1024x1024, .f32⟩
  | .hbm, ⟨4, _⟩ => ⟨S4x16x1024x1024, .f32⟩
  | .hbm, ⟨5, _⟩ => ⟨S81920x1024, .f32⟩
  | .hbm, ⟨6, _⟩ => ⟨S16384x1024, .f32⟩
  | .hbm, ⟨7, _⟩ => ⟨S16x16384, .f32⟩
  | .hbm, ⟨8, _⟩ => ⟨S1x16x1024x1024, .f32⟩
  | .hbm, ⟨9, _⟩ => ⟨S16x1024x1024, .f32⟩
  | .hbm, ⟨10, _⟩ => ⟨S1x16x1024x1024, .f32⟩
  | .hbm, ⟨11, _⟩ => ⟨S16x1024x1024, .f32⟩
  | .hbm, ⟨12, _⟩ => ⟨S1x16x1024x1024, .f32⟩
  | .hbm, ⟨13, _⟩ => ⟨S16x1024x1024, .f32⟩
  | .hbm, ⟨14, _⟩ => ⟨S16x2048, .f32⟩
  | .hbm, ⟨15, _⟩ => ⟨S16x2048, .i32⟩
  | .hbm, ⟨16, _⟩ => ⟨S_, .i32⟩
  | .hbm, ⟨17, _⟩ => ⟨S16x2048, .i32⟩
  | .hbm, ⟨18, _⟩ => ⟨S16x2048, .i1⟩
  | .hbm, ⟨19, _⟩ => ⟨S_, .i32⟩
  | .hbm, ⟨20, _⟩ => ⟨S16x2048, .i32⟩
  | .hbm, ⟨21, _⟩ => ⟨S16x2048, .i32⟩
  | .hbm, ⟨22, _⟩ => ⟨S16x2048, .i32⟩
  | .hbm, ⟨23, _⟩ => ⟨S16x2048x1, .i32⟩
  | .hbm, ⟨24, _⟩ => ⟨S16x2048x1024, .f32⟩
  | .hbm, ⟨25, _⟩ => ⟨S16x2048x1024, .f32⟩
  | .hbm, ⟨26, _⟩ => ⟨S16x2048x1024, .f32⟩
  | .hbm, ⟨27, _⟩ => ⟨S16x2048x1024, .f32⟩
  | .hbm, ⟨28, _⟩ => ⟨S_, .f32⟩
  | .hbm, ⟨29, _⟩ => ⟨S16x2048x1024, .f32⟩
  | .hbm, ⟨30, _⟩ => ⟨S16x2048x1024, .f32⟩
  | .hbm, ⟨31, _⟩ => ⟨S_, .f32⟩
  | .hbm, ⟨32, _⟩ => ⟨S16x2048x1024, .f32⟩
  | .hbm, ⟨33, _⟩ => ⟨S16x2048x1024, .f32⟩
  | .hbm, ⟨34, _⟩ => ⟨S16x2048x1024, .f32⟩
  | .hbm, ⟨35, _⟩ => ⟨S16x2048x1024, .f32⟩
  | .hbm, ⟨36, _⟩ => ⟨S16x2048x1024, .f32⟩
  | .hbm, ⟨37, _⟩ => ⟨S16x2048x1024, .f32⟩
  | .hbm, ⟨38, _⟩ => ⟨S16x2048x1, .f32⟩
  | .hbm, ⟨39, _⟩ => ⟨S16x2048x1024, .f32⟩
  | .hbm, ⟨40, _⟩ => ⟨S16x2048x1024, .f32⟩
  | .hbm, ⟨41, _⟩ => ⟨S65536x1024, .f32⟩
  | .hbm, ⟨42, _⟩ => ⟨S16x65536, .f32⟩
  | .hbm, ⟨43, _⟩ => ⟨S1x16x1024x1024, .f32⟩
  | .hbm, ⟨44, _⟩ => ⟨S16x1024x1024, .f32⟩
  | .hbm, ⟨45, _⟩ => ⟨S1x16x1024x1024, .f32⟩
  | .hbm, ⟨46, _⟩ => ⟨S16x1024x1024, .f32⟩
  | .hbm, ⟨47, _⟩ => ⟨S1x16x1024x1024, .f32⟩
  | .hbm, ⟨48, _⟩ => ⟨S16x1024x1024, .f32⟩
  | .hbm, ⟨49, _⟩ => ⟨S16x8192, .f32⟩
  | .hbm, ⟨50, _⟩ => ⟨S16x8192, .i32⟩
  | .hbm, ⟨51, _⟩ => ⟨S_, .i32⟩
  | .hbm, ⟨52, _⟩ => ⟨S16x8192, .i32⟩
  | .hbm, ⟨53, _⟩ => ⟨S16x8192, .i1⟩
  | .hbm, ⟨54, _⟩ => ⟨S_, .i32⟩
  | .hbm, ⟨55, _⟩ => ⟨S16x8192, .i32⟩
  | .hbm, ⟨56, _⟩ => ⟨S16x8192, .i32⟩
  | .hbm, ⟨57, _⟩ => ⟨S16x8192, .i32⟩
  | .hbm, ⟨58, _⟩ => ⟨S16x8192x1, .i32⟩
  | .hbm, ⟨59, _⟩ => ⟨S16x8192x1024, .f32⟩
  | .hbm, ⟨60, _⟩ => ⟨S16x8192x1024, .f32⟩
  | .hbm, ⟨61, _⟩ => ⟨S16x8192x1024, .f32⟩
  | .hbm, ⟨62, _⟩ => ⟨S16x8192x1024, .f32⟩
  | .hbm, ⟨63, _⟩ => ⟨S_, .f32⟩
  | .hbm, ⟨64, _⟩ => ⟨S16x8192x1024, .f32⟩
  | .hbm, ⟨65, _⟩ => ⟨S16x8192x1024, .f32⟩
  | .hbm, ⟨66, _⟩ => ⟨S_, .f32⟩
  | .hbm, ⟨67, _⟩ => ⟨S16x8192x1024, .f32⟩
  | .hbm, ⟨68, _⟩ => ⟨S16x8192x1024, .f32⟩
  | .hbm, ⟨69, _⟩ => ⟨S16x8192x1024, .f32⟩
  | .hbm, ⟨70, _⟩ => ⟨S16x8192x1024, .f32⟩
  | .hbm, ⟨71, _⟩ => ⟨S16x8192x1024, .f32⟩
  | .hbm, ⟨72, _⟩ => ⟨S16x8192x1024, .f32⟩
  | .hbm, ⟨73, _⟩ => ⟨S16x8192x1, .f32⟩
  | .hbm, ⟨74, _⟩ => ⟨S16x8192x1024, .f32⟩
  | .hbm, ⟨75, _⟩ => ⟨S16x8192x1024, .f32⟩
  | .hbm, ⟨76, _⟩ => ⟨S16x10240x1024, .f32⟩
  | .hbm, ⟨77, _⟩ => ⟨S16x10240x1024, .bf16⟩
  | _, _ => ⟨S81920x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_values : Ref sig .tc := ⟨.hbm, 14, rfl⟩
abbrev main_indices : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_values_1 : Ref sig .tc := ⟨.hbm, 49, rfl⟩
abbrev main_indices_2 : Ref sig .tc := ⟨.hbm, 50, rfl⟩
abbrev main_c_3 : Ref sig .tc := ⟨.hbm, 51, rfl⟩
abbrev main_v32 : Ref sig .tc := ⟨.hbm, 52, rfl⟩
abbrev main_v33 : Ref sig .tc := ⟨.hbm, 53, rfl⟩
abbrev main_c_4 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_call1_v5 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩

abbrev nD : Nat := 1
abbrev τ : Topo := Topo.v7x

variable {F : FTy → Type} [FloatOps F]
-- ==== Moe1.lean ====
abbrev S81920x1024 : Shape := ⟨2, ![81920, 1024]⟩
abbrev S16x81920 : Shape := ⟨2, ![16, 81920]⟩
abbrev S4x16x1024x1024 : Shape := ⟨4, ![4, 16, 1024, 1024]⟩
abbrev S16x16384 : Shape := ⟨2, ![16, 16384]⟩
abbrev S16x2048 : Shape := ⟨2, ![16, 2048]⟩
abbrev S_ : Shape := ⟨0, ![]⟩
abbrev S16x65536 : Shape := ⟨2, ![16, 65536]⟩
abbrev S16x8192 : Shape := ⟨2, ![16, 8192]⟩
abbrev S16x10240 : Shape := ⟨2, ![16, 10240]⟩
abbrev S16x10240x1 : Shape := ⟨3, ![16, 10240, 1]⟩
abbrev S16x10240x1024 : Shape := ⟨3, ![16, 10240, 1024]⟩
abbrev S16x1x10240 : Shape := ⟨3, ![16, 1, 10240]⟩
abbrev S1x512x1024 : Shape := ⟨3, ![1, 512, 1024]⟩
abbrev S1x1x512 : Shape := ⟨3, ![1, 1, 512]⟩
abbrev S1x1x1024x1024 : Shape := ⟨4, ![1, 1, 1024, 1024]⟩
abbrev S1024x1024 : Shape := ⟨2, ![1024, 1024]⟩
abbrev S512x1024 : Shape := ⟨2, ![512, 1024]⟩
abbrev S512x512 : Shape := ⟨2, ![512, 512]⟩
abbrev S1x512 : Shape := ⟨2, ![1, 512]⟩
abbrev S512 : Shape := ⟨1, ![512]⟩
abbrev S512x1 : Shape := ⟨2, ![512, 1]⟩

abbrev nBuf : Space → Nat
  | .hbm => 30
  | .vmem => 15
  | .smem => 0
  | _ => 0

abbrev bufTy : (tb : Table) → Fin (tcTables nBuf tb) → BufTy
  | .hbm, ⟨0, _⟩ => ⟨S81920x1024, .bf16⟩
  | .hbm, ⟨1, _⟩ => ⟨S16x81920, .f32⟩
  | .hbm, ⟨2, _⟩ => ⟨S4x16x1024x1024, .f32⟩
  | .hbm, ⟨3, _⟩ => ⟨S4x16x1024x1024, .f32⟩
  | .hbm, ⟨4, _⟩ => ⟨S4x16x1024x1024, .f32⟩
  | .hbm, ⟨5, _⟩ => ⟨S16x16384, .f32⟩
  | .hbm, ⟨6, _⟩ => ⟨S16x2048, .f32⟩
  | .hbm, ⟨7, _⟩ => ⟨S16x2048, .i32⟩
  | .hbm, ⟨8, _⟩ => ⟨S_, .i32⟩
  | .hbm, ⟨9, _⟩ => ⟨S16x2048, .i32⟩
  | .hbm, ⟨10, _⟩ => ⟨S16x2048, .i32⟩
  | .hbm, ⟨11, _⟩ => ⟨S16x65536, .f32⟩
  | .hbm, ⟨12, _⟩ => ⟨S16x8192, .f32⟩
  | .hbm, ⟨13, _⟩ => ⟨S16x8192, .i32⟩
  | .hbm, ⟨14, _⟩ => ⟨S_, .i32⟩
  | .hbm, ⟨15, _⟩ => ⟨S16x8192, .i32⟩
  | .hbm, ⟨16, _⟩ => ⟨S16x8192, .i32⟩
  | .hbm, ⟨17, _⟩ => ⟨S16x10240, .i32⟩
  | .hbm, ⟨18, _⟩ => ⟨S_, .i32⟩
  | .hbm, ⟨19, _⟩ => ⟨S16x10240, .i32⟩
  | .hbm, ⟨20, _⟩ => ⟨S16x10240, .i1⟩
  | .hbm, ⟨21, _⟩ => ⟨S_, .i32⟩
  | .hbm, ⟨22, _⟩ => ⟨S16x10240, .i32⟩
  | .hbm, ⟨23, _⟩ => ⟨S16x10240, .i32⟩
  | .hbm, ⟨24, _⟩ => ⟨S16x10240, .i32⟩
  | .hbm, ⟨25, _⟩ => ⟨S16x10240x1, .i32⟩
  | .hbm, ⟨26, _⟩ => ⟨S16x10240x1024, .bf16⟩
  | .hbm, ⟨27, _⟩ => ⟨S16x10240, .f32⟩
  | .hbm, ⟨28, _⟩ => ⟨S16x1x10240, .f32⟩
  | .hbm, ⟨29, _⟩ => ⟨S16x10240x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x1x512, .f32⟩
  | .local _ .vmem, ⟨3, _⟩ => ⟨S1x1x512, .f32⟩
  | .local _ .vmem, ⟨4, _⟩ => ⟨S1x1x1024x1024, .f32⟩
  | .local _ .vmem, ⟨5, _⟩ => ⟨S1x1x1024x1024, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1024x1024, .f32⟩
  | .local _ .vmem, ⟨9, _⟩ => ⟨S1x1x1024x1024, .f32⟩
  | .local _ .vmem, ⟨10, _⟩ => ⟨S1x512x1024, .bf16⟩
  | .local _ .vmem, ⟨11, _⟩ => ⟨S1x512x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | _, _ => ⟨S81920x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_values : Ref sig .tc := ⟨.hbm, 6, rfl⟩
abbrev main_indices : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_values_0 : Ref sig .tc := ⟨.hbm, 12, rfl⟩
abbrev main_indices_1 : Ref sig .tc := ⟨.hbm, 13, rfl⟩
abbrev main_c_2 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_3 : Ref sig .tc := ⟨.hbm, 18, rfl⟩
abbrev main_v7 : Ref sig .tc := ⟨.hbm, 19, rfl⟩
abbrev main_v8 : Ref sig .tc := ⟨.hbm, 20, rfl⟩
abbrev main_c_4 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 20], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Moe1ReferenceIdeal.lean ====
abbrev S81920x1024 : Shape := ⟨2, ![81920, 1024]⟩
abbrev S16x81920 : Shape := ⟨2, ![16, 81920]⟩
abbrev S4x16x1024x1024 : Shape := ⟨4, ![4, 16, 1024, 1024]⟩
abbrev S16384x1024 : Shape := ⟨2, ![16384, 1024]⟩
abbrev S16x16384 : Shape := ⟨2, ![16, 16384]⟩
abbrev S1x16x1024x1024 : Shape := ⟨4, ![1, 16, 1024, 1024]⟩
abbrev S16x1024x1024 : Shape := ⟨3, ![16, 1024, 1024]⟩
abbrev S16x2048 : Shape := ⟨2, ![16, 2048]⟩
abbrev S_ : Shape := ⟨0, ![]⟩
abbrev S16x2048x1 : Shape := ⟨3, ![16, 2048, 1]⟩
abbrev S16x2048x1024 : Shape := ⟨3, ![16, 2048, 1024]⟩
abbrev S65536x1024 : Shape := ⟨2, ![65536, 1024]⟩
abbrev S16x65536 : Shape := ⟨2, ![16, 65536]⟩
abbrev S16x8192 : Shape := ⟨2, ![16, 8192]⟩
abbrev S16x8192x1 : Shape := ⟨3, ![16, 8192, 1]⟩
abbrev S16x8192x1024 : Shape := ⟨3, ![16, 8192, 1024]⟩
abbrev S16x10240x1024 : Shape := ⟨3, ![16, 10240, 1024]⟩

abbrev nBuf : Space → Nat
  | .hbm => 78
  | .vmem => 0
  | .smem => 0
  | _ => 0

abbrev bufTy : (tb : Table) → Fin (tcTables nBuf tb) → BufTy
  | .hbm, ⟨0, _⟩ => ⟨S81920x1024, .bf16⟩
  | .hbm, ⟨1, _⟩ => ⟨S16x81920, .f32⟩
  | .hbm, ⟨2, _⟩ => ⟨S4x16x1024x1024, .f32⟩
  | .hbm, ⟨3, _⟩ => ⟨S4x16x1024x1024, .f32⟩
  | .hbm, ⟨4, _⟩ => ⟨S4x16x1024x1024, .f32⟩
  | .hbm, ⟨5, _⟩ => ⟨S81920x1024, .f32⟩
  | .hbm, ⟨6, _⟩ => ⟨S16384x1024, .f32⟩
  | .hbm, ⟨7, _⟩ => ⟨S16x16384, .f32⟩
  | .hbm, ⟨8, _⟩ => ⟨S1x16x1024x1024, .f32⟩
  | .hbm, ⟨9, _⟩ => ⟨S16x1024x1024, .f32⟩
  | .hbm, ⟨10, _⟩ => ⟨S1x16x1024x1024, .f32⟩
  | .hbm, ⟨11, _⟩ => ⟨S16x1024x1024, .f32⟩
  | .hbm, ⟨12, _⟩ => ⟨S1x16x1024x1024, .f32⟩
  | .hbm, ⟨13, _⟩ => ⟨S16x1024x1024, .f32⟩
  | .hbm, ⟨14, _⟩ => ⟨S16x2048, .f32⟩
  | .hbm, ⟨15, _⟩ => ⟨S16x2048, .i32⟩
  | .hbm, ⟨16, _⟩ => ⟨S_, .i32⟩
  | .hbm, ⟨17, _⟩ => ⟨S16x2048, .i32⟩
  | .hbm, ⟨18, _⟩ => ⟨S16x2048, .i1⟩
  | .hbm, ⟨19, _⟩ => ⟨S_, .i32⟩
  | .hbm, ⟨20, _⟩ => ⟨S16x2048, .i32⟩
  | .hbm, ⟨21, _⟩ => ⟨S16x2048, .i32⟩
  | .hbm, ⟨22, _⟩ => ⟨S16x2048, .i32⟩
  | .hbm, ⟨23, _⟩ => ⟨S16x2048x1, .i32⟩
  | .hbm, ⟨24, _⟩ => ⟨S16x2048x1024, .f32⟩
  | .hbm, ⟨25, _⟩ => ⟨S16x2048x1024, .f32⟩
  | .hbm, ⟨26, _⟩ => ⟨S16x2048x1024, .f32⟩
  | .hbm, ⟨27, _⟩ => ⟨S16x2048x1024, .f32⟩
  | .hbm, ⟨28, _⟩ => ⟨S_, .f32⟩
  | .hbm, ⟨29, _⟩ => ⟨S16x2048x1024, .f32⟩
  | .hbm, ⟨30, _⟩ => ⟨S16x2048x1024, .f32⟩
  | .hbm, ⟨31, _⟩ => ⟨S_, .f32⟩
  | .hbm, ⟨32, _⟩ => ⟨S16x2048x1024, .f32⟩
  | .hbm, ⟨33, _⟩ => ⟨S16x2048x1024, .f32⟩
  | .hbm, ⟨34, _⟩ => ⟨S16x2048x1024, .f32⟩
  | .hbm, ⟨35, _⟩ => ⟨S16x2048x1024, .f32⟩
  | .hbm, ⟨36, _⟩ => ⟨S16x2048x1024, .f32⟩
  | .hbm, ⟨37, _⟩ => ⟨S16x2048x1024, .f32⟩
  | .hbm, ⟨38, _⟩ => ⟨S16x2048x1, .f32⟩
  | .hbm, ⟨39, _⟩ => ⟨S16x2048x1024, .f32⟩
  | .hbm, ⟨40, _⟩ => ⟨S16x2048x1024, .f32⟩
  | .hbm, ⟨41, _⟩ => ⟨S65536x1024, .f32⟩
  | .hbm, ⟨42, _⟩ => ⟨S16x65536, .f32⟩
  | .hbm, ⟨43, _⟩ => ⟨S1x16x1024x1024, .f32⟩
  | .hbm, ⟨44, _⟩ => ⟨S16x1024x1024, .f32⟩
  | .hbm, ⟨45, _⟩ => ⟨S1x16x1024x1024, .f32⟩
  | .hbm, ⟨46, _⟩ => ⟨S16x1024x1024, .f32⟩
  | .hbm, ⟨47, _⟩ => ⟨S1x16x1024x1024, .f32⟩
  | .hbm, ⟨48, _⟩ => ⟨S16x1024x1024, .f32⟩
  | .hbm, ⟨49, _⟩ => ⟨S16x8192, .f32⟩
  | .hbm, ⟨50, _⟩ => ⟨S16x8192, .i32⟩
  | .hbm, ⟨51, _⟩ => ⟨S_, .i32⟩
  | .hbm, ⟨52, _⟩ => ⟨S16x8192, .i32⟩
  | .hbm, ⟨53, _⟩ => ⟨S16x8192, .i1⟩
  | .hbm, ⟨54, _⟩ => ⟨S_, .i32⟩
  | .hbm, ⟨55, _⟩ => ⟨S16x8192, .i32⟩
  | .hbm, ⟨56, _⟩ => ⟨S16x8192, .i32⟩
  | .hbm, ⟨57, _⟩ => ⟨S16x8192, .i32⟩
  | .hbm, ⟨58, _⟩ => ⟨S16x8192x1, .i32⟩
  | .hbm, ⟨59, _⟩ => ⟨S16x8192x1024, .f32⟩
  | .hbm, ⟨60, _⟩ => ⟨S16x8192x1024, .f32⟩
  | .hbm, ⟨61, _⟩ => ⟨S16x8192x1024, .f32⟩
  | .hbm, ⟨62, _⟩ => ⟨S16x8192x1024, .f32⟩
  | .hbm, ⟨63, _⟩ => ⟨S_, .f32⟩
  | .hbm, ⟨64, _⟩ => ⟨S16x8192x1024, .f32⟩
  | .hbm, ⟨65, _⟩ => ⟨S16x8192x1024, .f32⟩
  | .hbm, ⟨66, _⟩ => ⟨S_, .f32⟩
  | .hbm, ⟨67, _⟩ => ⟨S16x8192x1024, .f32⟩
  | .hbm, ⟨68, _⟩ => ⟨S16x8192x1024, .f32⟩
  | .hbm, ⟨69, _⟩ => ⟨S16x8192x1024, .f32⟩
  | .hbm, ⟨70, _⟩ => ⟨S16x8192x1024, .f32⟩
  | .hbm, ⟨71, _⟩ => ⟨S16x8192x1024, .f32⟩
  | .hbm, ⟨72, _⟩ => ⟨S16x8192x1024, .f32⟩
  | .hbm, ⟨73, _⟩ => ⟨S16x8192x1, .f32⟩
  | .hbm, ⟨74, _⟩ => ⟨S16x8192x1024, .f32⟩
  | .hbm, ⟨75, _⟩ => ⟨S16x8192x1024, .f32⟩
  | .hbm, ⟨76, _⟩ => ⟨S16x10240x1024, .f32⟩
  | .hbm, ⟨77, _⟩ => ⟨S16x10240x1024, .bf16⟩
  | _, _ => ⟨S81920x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_values : Ref sig .tc := ⟨.hbm, 14, rfl⟩
abbrev main_indices : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_values_1 : Ref sig .tc := ⟨.hbm, 49, rfl⟩
abbrev main_indices_2 : Ref sig .tc := ⟨.hbm, 50, rfl⟩
abbrev main_c_3 : Ref sig .tc := ⟨.hbm, 51, rfl⟩
abbrev main_v32 : Ref sig .tc := ⟨.hbm, 52, rfl⟩
abbrev main_v33 : Ref sig .tc := ⟨.hbm, 53, rfl⟩
abbrev main_c_4 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_call1_v5 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩

abbrev nD : Nat := 1
abbrev τ : Topo := Topo.v7x

variable {F : FTy → Type} [FloatOps F]
-- ==== Moe2.lean ====
abbrev S81920x1024 : Shape := ⟨2, ![81920, 1024]⟩
abbrev S16x81920 : Shape := ⟨2, ![16, 81920]⟩
abbrev S4x16x1024x1024 : Shape := ⟨4, ![4, 16, 1024, 1024]⟩
abbrev S16x16384 : Shape := ⟨2, ![16, 16384]⟩
abbrev S16x2048 : Shape := ⟨2, ![16, 2048]⟩
abbrev S_ : Shape := ⟨0, ![]⟩
abbrev S16x65536 : Shape := ⟨2, ![16, 65536]⟩
abbrev S16x8192 : Shape := ⟨2, ![16, 8192]⟩
abbrev S16x10240 : Shape := ⟨2, ![16, 10240]⟩
abbrev S16x10240x1 : Shape := ⟨3, ![16, 10240, 1]⟩
abbrev S16x10240x1024 : Shape := ⟨3, ![16, 10240, 1024]⟩
abbrev S16x1x10240 : Shape := ⟨3, ![16, 1, 10240]⟩
abbrev S1x512x1024 : Shape := ⟨3, ![1, 512, 1024]⟩
abbrev S1x1x512 : Shape := ⟨3, ![1, 1, 512]⟩
abbrev S1x1x1024x1024 : Shape := ⟨4, ![1, 1, 1024, 1024]⟩
abbrev S1024x1024 : Shape := ⟨2, ![1024, 1024]⟩
abbrev S512x1024 : Shape := ⟨2, ![512, 1024]⟩
abbrev S512x512 : Shape := ⟨2, ![512, 512]⟩
abbrev S1x512 : Shape := ⟨2, ![1, 512]⟩
abbrev S512 : Shape := ⟨1, ![512]⟩
abbrev S512x1 : Shape := ⟨2, ![512, 1]⟩

abbrev nBuf : Space → Nat
  | .hbm => 30
  | .vmem => 15
  | .smem => 0
  | _ => 0

abbrev bufTy : (tb : Table) → Fin (tcTables nBuf tb) → BufTy
  | .hbm, ⟨0, _⟩ => ⟨S81920x1024, .bf16⟩
  | .hbm, ⟨1, _⟩ => ⟨S16x81920, .f32⟩
  | .hbm, ⟨2, _⟩ => ⟨S4x16x1024x1024, .f32⟩
  | .hbm, ⟨3, _⟩ => ⟨S4x16x1024x1024, .f32⟩
  | .hbm, ⟨4, _⟩ => ⟨S4x16x1024x1024, .f32⟩
  | .hbm, ⟨5, _⟩ => ⟨S16x16384, .f32⟩
  | .hbm, ⟨6, _⟩ => ⟨S16x2048, .f32⟩
  | .hbm, ⟨7, _⟩ => ⟨S16x2048, .i32⟩
  | .hbm, ⟨8, _⟩ => ⟨S_, .i32⟩
  | .hbm, ⟨9, _⟩ => ⟨S16x2048, .i32⟩
  | .hbm, ⟨10, _⟩ => ⟨S16x2048, .i32⟩
  | .hbm, ⟨11, _⟩ => ⟨S16x65536, .f32⟩
  | .hbm, ⟨12, _⟩ => ⟨S16x8192, .f32⟩
  | .hbm, ⟨13, _⟩ => ⟨S16x8192, .i32⟩
  | .hbm, ⟨14, _⟩ => ⟨S_, .i32⟩
  | .hbm, ⟨15, _⟩ => ⟨S16x8192, .i32⟩
  | .hbm, ⟨16, _⟩ => ⟨S16x8192, .i32⟩
  | .hbm, ⟨17, _⟩ => ⟨S16x10240, .i32⟩
  | .hbm, ⟨18, _⟩ => ⟨S_, .i32⟩
  | .hbm, ⟨19, _⟩ => ⟨S16x10240, .i32⟩
  | .hbm, ⟨20, _⟩ => ⟨S16x10240, .i1⟩
  | .hbm, ⟨21, _⟩ => ⟨S_, .i32⟩
  | .hbm, ⟨22, _⟩ => ⟨S16x10240, .i32⟩
  | .hbm, ⟨23, _⟩ => ⟨S16x10240, .i32⟩
  | .hbm, ⟨24, _⟩ => ⟨S16x10240, .i32⟩
  | .hbm, ⟨25, _⟩ => ⟨S16x10240x1, .i32⟩
  | .hbm, ⟨26, _⟩ => ⟨S16x10240x1024, .bf16⟩
  | .hbm, ⟨27, _⟩ => ⟨S16x10240, .f32⟩
  | .hbm, ⟨28, _⟩ => ⟨S16x1x10240, .f32⟩
  | .hbm, ⟨29, _⟩ => ⟨S16x10240x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x1x512, .f32⟩
  | .local _ .vmem, ⟨3, _⟩ => ⟨S1x1x512, .f32⟩
  | .local _ .vmem, ⟨4, _⟩ => ⟨S1x1x1024x1024, .f32⟩
  | .local _ .vmem, ⟨5, _⟩ => ⟨S1x1x1024x1024, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1024x1024, .f32⟩
  | .local _ .vmem, ⟨9, _⟩ => ⟨S1x1x1024x1024, .f32⟩
  | .local _ .vmem, ⟨10, _⟩ => ⟨S1x512x1024, .bf16⟩
  | .local _ .vmem, ⟨11, _⟩ => ⟨S1x512x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | _, _ => ⟨S81920x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_values : Ref sig .tc := ⟨.hbm, 6, rfl⟩
abbrev main_indices : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_values_0 : Ref sig .tc := ⟨.hbm, 12, rfl⟩
abbrev main_indices_1 : Ref sig .tc := ⟨.hbm, 13, rfl⟩
abbrev main_c_2 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_3 : Ref sig .tc := ⟨.hbm, 18, rfl⟩
abbrev main_v7 : Ref sig .tc := ⟨.hbm, 19, rfl⟩
abbrev main_v8 : Ref sig .tc := ⟨.hbm, 20, rfl⟩
abbrev main_c_4 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 20], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Moe2ReferenceIdeal.lean ====
abbrev S81920x1024 : Shape := ⟨2, ![81920, 1024]⟩
abbrev S16x81920 : Shape := ⟨2, ![16, 81920]⟩
abbrev S4x16x1024x1024 : Shape := ⟨4, ![4, 16, 1024, 1024]⟩
abbrev S16384x1024 : Shape := ⟨2, ![16384, 1024]⟩
abbrev S16x16384 : Shape := ⟨2, ![16, 16384]⟩
abbrev S1x16x1024x1024 : Shape := ⟨4, ![1, 16, 1024, 1024]⟩
abbrev S16x1024x1024 : Shape := ⟨3, ![16, 1024, 1024]⟩
abbrev S16x2048 : Shape := ⟨2, ![16, 2048]⟩
abbrev S_ : Shape := ⟨0, ![]⟩
abbrev S16x2048x1 : Shape := ⟨3, ![16, 2048, 1]⟩
abbrev S16x2048x1024 : Shape := ⟨3, ![16, 2048, 1024]⟩
abbrev S65536x1024 : Shape := ⟨2, ![65536, 1024]⟩
abbrev S16x65536 : Shape := ⟨2, ![16, 65536]⟩
abbrev S16x8192 : Shape := ⟨2, ![16, 8192]⟩
abbrev S16x8192x1 : Shape := ⟨3, ![16, 8192, 1]⟩
abbrev S16x8192x1024 : Shape := ⟨3, ![16, 8192, 1024]⟩
abbrev S16x10240x1024 : Shape := ⟨3, ![16, 10240, 1024]⟩

abbrev nBuf : Space → Nat
  | .hbm => 78
  | .vmem => 0
  | .smem => 0
  | _ => 0

abbrev bufTy : (tb : Table) → Fin (tcTables nBuf tb) → BufTy
  | .hbm, ⟨0, _⟩ => ⟨S81920x1024, .bf16⟩
  | .hbm, ⟨1, _⟩ => ⟨S16x81920, .f32⟩
  | .hbm, ⟨2, _⟩ => ⟨S4x16x1024x1024, .f32⟩
  | .hbm, ⟨3, _⟩ => ⟨S4x16x1024x1024, .f32⟩
  | .hbm, ⟨4, _⟩ => ⟨S4x16x1024x1024, .f32⟩
  | .hbm, ⟨5, _⟩ => ⟨S81920x1024, .f32⟩
  | .hbm, ⟨6, _⟩ => ⟨S16384x1024, .f32⟩
  | .hbm, ⟨7, _⟩ => ⟨S16x16384, .f32⟩
  | .hbm, ⟨8, _⟩ => ⟨S1x16x1024x1024, .f32⟩
  | .hbm, ⟨9, _⟩ => ⟨S16x1024x1024, .f32⟩
  | .hbm, ⟨10, _⟩ => ⟨S1x16x1024x1024, .f32⟩
  | .hbm, ⟨11, _⟩ => ⟨S16x1024x1024, .f32⟩
  | .hbm, ⟨12, _⟩ => ⟨S1x16x1024x1024, .f32⟩
  | .hbm, ⟨13, _⟩ => ⟨S16x1024x1024, .f32⟩
  | .hbm, ⟨14, _⟩ => ⟨S16x2048, .f32⟩
  | .hbm, ⟨15, _⟩ => ⟨S16x2048, .i32⟩
  | .hbm, ⟨16, _⟩ => ⟨S_, .i32⟩
  | .hbm, ⟨17, _⟩ => ⟨S16x2048, .i32⟩
  | .hbm, ⟨18, _⟩ => ⟨S16x2048, .i1⟩
  | .hbm, ⟨19, _⟩ => ⟨S_, .i32⟩
  | .hbm, ⟨20, _⟩ => ⟨S16x2048, .i32⟩
  | .hbm, ⟨21, _⟩ => ⟨S16x2048, .i32⟩
  | .hbm, ⟨22, _⟩ => ⟨S16x2048, .i32⟩
  | .hbm, ⟨23, _⟩ => ⟨S16x2048x1, .i32⟩
  | .hbm, ⟨24, _⟩ => ⟨S16x2048x1024, .f32⟩
  | .hbm, ⟨25, _⟩ => ⟨S16x2048x1024, .f32⟩
  | .hbm, ⟨26, _⟩ => ⟨S16x2048x1024, .f32⟩
  | .hbm, ⟨27, _⟩ => ⟨S16x2048x1024, .f32⟩
  | .hbm, ⟨28, _⟩ => ⟨S_, .f32⟩
  | .hbm, ⟨29, _⟩ => ⟨S16x2048x1024, .f32⟩
  | .hbm, ⟨30, _⟩ => ⟨S16x2048x1024, .f32⟩
  | .hbm, ⟨31, _⟩ => ⟨S_, .f32⟩
  | .hbm, ⟨32, _⟩ => ⟨S16x2048x1024, .f32⟩
  | .hbm, ⟨33, _⟩ => ⟨S16x2048x1024, .f32⟩
  | .hbm, ⟨34, _⟩ => ⟨S16x2048x1024, .f32⟩
  | .hbm, ⟨35, _⟩ => ⟨S16x2048x1024, .f32⟩
  | .hbm, ⟨36, _⟩ => ⟨S16x2048x1024, .f32⟩
  | .hbm, ⟨37, _⟩ => ⟨S16x2048x1024, .f32⟩
  | .hbm, ⟨38, _⟩ => ⟨S16x2048x1, .f32⟩
  | .hbm, ⟨39, _⟩ => ⟨S16x2048x1024, .f32⟩
  | .hbm, ⟨40, _⟩ => ⟨S16x2048x1024, .f32⟩
  | .hbm, ⟨41, _⟩ => ⟨S65536x1024, .f32⟩
  | .hbm, ⟨42, _⟩ => ⟨S16x65536, .f32⟩
  | .hbm, ⟨43, _⟩ => ⟨S1x16x1024x1024, .f32⟩
  | .hbm, ⟨44, _⟩ => ⟨S16x1024x1024, .f32⟩
  | .hbm, ⟨45, _⟩ => ⟨S1x16x1024x1024, .f32⟩
  | .hbm, ⟨46, _⟩ => ⟨S16x1024x1024, .f32⟩
  | .hbm, ⟨47, _⟩ => ⟨S1x16x1024x1024, .f32⟩
  | .hbm, ⟨48, _⟩ => ⟨S16x1024x1024, .f32⟩
  | .hbm, ⟨49, _⟩ => ⟨S16x8192, .f32⟩
  | .hbm, ⟨50, _⟩ => ⟨S16x8192, .i32⟩
  | .hbm, ⟨51, _⟩ => ⟨S_, .i32⟩
  | .hbm, ⟨52, _⟩ => ⟨S16x8192, .i32⟩
  | .hbm, ⟨53, _⟩ => ⟨S16x8192, .i1⟩
  | .hbm, ⟨54, _⟩ => ⟨S_, .i32⟩
  | .hbm, ⟨55, _⟩ => ⟨S16x8192, .i32⟩
  | .hbm, ⟨56, _⟩ => ⟨S16x8192, .i32⟩
  | .hbm, ⟨57, _⟩ => ⟨S16x8192, .i32⟩
  | .hbm, ⟨58, _⟩ => ⟨S16x8192x1, .i32⟩
  | .hbm, ⟨59, _⟩ => ⟨S16x8192x1024, .f32⟩
  | .hbm, ⟨60, _⟩ => ⟨S16x8192x1024, .f32⟩
  | .hbm, ⟨61, _⟩ => ⟨S16x8192x1024, .f32⟩
  | .hbm, ⟨62, _⟩ => ⟨S16x8192x1024, .f32⟩
  | .hbm, ⟨63, _⟩ => ⟨S_, .f32⟩
  | .hbm, ⟨64, _⟩ => ⟨S16x8192x1024, .f32⟩
  | .hbm, ⟨65, _⟩ => ⟨S16x8192x1024, .f32⟩
  | .hbm, ⟨66, _⟩ => ⟨S_, .f32⟩
  | .hbm, ⟨67, _⟩ => ⟨S16x8192x1024, .f32⟩
  | .hbm, ⟨68, _⟩ => ⟨S16x8192x1024, .f32⟩
  | .hbm, ⟨69, _⟩ => ⟨S16x8192x1024, .f32⟩
  | .hbm, ⟨70, _⟩ => ⟨S16x8192x1024, .f32⟩
  | .hbm, ⟨71, _⟩ => ⟨S16x8192x1024, .f32⟩
  | .hbm, ⟨72, _⟩ => ⟨S16x8192x1024, .f32⟩
  | .hbm, ⟨73, _⟩ => ⟨S16x8192x1, .f32⟩
  | .hbm, ⟨74, _⟩ => ⟨S16x8192x1024, .f32⟩
  | .hbm, ⟨75, _⟩ => ⟨S16x8192x1024, .f32⟩
  | .hbm, ⟨76, _⟩ => ⟨S16x10240x1024, .f32⟩
  | .hbm, ⟨77, _⟩ => ⟨S16x10240x1024, .bf16⟩
  | _, _ => ⟨S81920x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_values : Ref sig .tc := ⟨.hbm, 14, rfl⟩
abbrev main_indices : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_values_1 : Ref sig .tc := ⟨.hbm, 49, rfl⟩
abbrev main_indices_2 : Ref sig .tc := ⟨.hbm, 50, rfl⟩
abbrev main_c_3 : Ref sig .tc := ⟨.hbm, 51, rfl⟩
abbrev main_v32 : Ref sig .tc := ⟨.hbm, 52, rfl⟩
abbrev main_v33 : Ref sig .tc := ⟨.hbm, 53, rfl⟩
abbrev main_c_4 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_call1_v5 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩

abbrev nD : Nat := 1
abbrev τ : Topo := Topo.v7x

variable {F : FTy → Type} [FloatOps F]
-- ==== Moe3.lean ====
abbrev S81920x1024 : Shape := ⟨2, ![81920, 1024]⟩
abbrev S16x81920 : Shape := ⟨2, ![16, 81920]⟩
abbrev S4x16x1024x1024 : Shape := ⟨4, ![4, 16, 1024, 1024]⟩
abbrev S16x16384 : Shape := ⟨2, ![16, 16384]⟩
abbrev S16x2048 : Shape := ⟨2, ![16, 2048]⟩
abbrev S_ : Shape := ⟨0, ![]⟩
abbrev S16x65536 : Shape := ⟨2, ![16, 65536]⟩
abbrev S16x8192 : Shape := ⟨2, ![16, 8192]⟩
abbrev S16x10240 : Shape := ⟨2, ![16, 10240]⟩
abbrev S16x10240x1 : Shape := ⟨3, ![16, 10240, 1]⟩
abbrev S16x10240x1024 : Shape := ⟨3, ![16, 10240, 1024]⟩
abbrev S16x1x10240 : Shape := ⟨3, ![16, 1, 10240]⟩
abbrev S1x512x1024 : Shape := ⟨3, ![1, 512, 1024]⟩
abbrev S1x1x512 : Shape := ⟨3, ![1, 1, 512]⟩
abbrev S1x1x1024x1024 : Shape := ⟨4, ![1, 1, 1024, 1024]⟩
abbrev S1024x1024 : Shape := ⟨2, ![1024, 1024]⟩
abbrev S512x1024 : Shape := ⟨2, ![512, 1024]⟩
abbrev S512x512 : Shape := ⟨2, ![512, 512]⟩
abbrev S1x512 : Shape := ⟨2, ![1, 512]⟩
abbrev S512 : Shape := ⟨1, ![512]⟩
abbrev S512x1 : Shape := ⟨2, ![512, 1]⟩

abbrev nBuf : Space → Nat
  | .hbm => 30
  | .vmem => 15
  | .smem => 0
  | _ => 0

abbrev bufTy : (tb : Table) → Fin (tcTables nBuf tb) → BufTy
  | .hbm, ⟨0, _⟩ => ⟨S81920x1024, .bf16⟩
  | .hbm, ⟨1, _⟩ => ⟨S16x81920, .f32⟩
  | .hbm, ⟨2, _⟩ => ⟨S4x16x1024x1024, .f32⟩
  | .hbm, ⟨3, _⟩ => ⟨S4x16x1024x1024, .f32⟩
  | .hbm, ⟨4, _⟩ => ⟨S4x16x1024x1024, .f32⟩
  | .hbm, ⟨5, _⟩ => ⟨S16x16384, .f32⟩
  | .hbm, ⟨6, _⟩ => ⟨S16x2048, .f32⟩
  | .hbm, ⟨7, _⟩ => ⟨S16x2048, .i32⟩
  | .hbm, ⟨8, _⟩ => ⟨S_, .i32⟩
  | .hbm, ⟨9, _⟩ => ⟨S16x2048, .i32⟩
  | .hbm, ⟨10, _⟩ => ⟨S16x2048, .i32⟩
  | .hbm, ⟨11, _⟩ => ⟨S16x65536, .f32⟩
  | .hbm, ⟨12, _⟩ => ⟨S16x8192, .f32⟩
  | .hbm, ⟨13, _⟩ => ⟨S16x8192, .i32⟩
  | .hbm, ⟨14, _⟩ => ⟨S_, .i32⟩
  | .hbm, ⟨15, _⟩ => ⟨S16x8192, .i32⟩
  | .hbm, ⟨16, _⟩ => ⟨S16x8192, .i32⟩
  | .hbm, ⟨17, _⟩ => ⟨S16x10240, .i32⟩
  | .hbm, ⟨18, _⟩ => ⟨S_, .i32⟩
  | .hbm, ⟨19, _⟩ => ⟨S16x10240, .i32⟩
  | .hbm, ⟨20, _⟩ => ⟨S16x10240, .i1⟩
  | .hbm, ⟨21, _⟩ => ⟨S_, .i32⟩
  | .hbm, ⟨22, _⟩ => ⟨S16x10240, .i32⟩
  | .hbm, ⟨23, _⟩ => ⟨S16x10240, .i32⟩
  | .hbm, ⟨24, _⟩ => ⟨S16x10240, .i32⟩
  | .hbm, ⟨25, _⟩ => ⟨S16x10240x1, .i32⟩
  | .hbm, ⟨26, _⟩ => ⟨S16x10240x1024, .bf16⟩
  | .hbm, ⟨27, _⟩ => ⟨S16x10240, .f32⟩
  | .hbm, ⟨28, _⟩ => ⟨S16x1x10240, .f32⟩
  | .hbm, ⟨29, _⟩ => ⟨S16x10240x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x1x512, .f32⟩
  | .local _ .vmem, ⟨3, _⟩ => ⟨S1x1x512, .f32⟩
  | .local _ .vmem, ⟨4, _⟩ => ⟨S1x1x1024x1024, .f32⟩
  | .local _ .vmem, ⟨5, _⟩ => ⟨S1x1x1024x1024, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1024x1024, .f32⟩
  | .local _ .vmem, ⟨9, _⟩ => ⟨S1x1x1024x1024, .f32⟩
  | .local _ .vmem, ⟨10, _⟩ => ⟨S1x512x1024, .bf16⟩
  | .local _ .vmem, ⟨11, _⟩ => ⟨S1x512x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | _, _ => ⟨S81920x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_values : Ref sig .tc := ⟨.hbm, 6, rfl⟩
abbrev main_indices : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_values_0 : Ref sig .tc := ⟨.hbm, 12, rfl⟩
abbrev main_indices_1 : Ref sig .tc := ⟨.hbm, 13, rfl⟩
abbrev main_c_2 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_3 : Ref sig .tc := ⟨.hbm, 18, rfl⟩
abbrev main_v7 : Ref sig .tc := ⟨.hbm, 19, rfl⟩
abbrev main_v8 : Ref sig .tc := ⟨.hbm, 20, rfl⟩
abbrev main_c_4 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 20], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Moe3ReferenceIdeal.lean ====
abbrev S81920x1024 : Shape := ⟨2, ![81920, 1024]⟩
abbrev S16x81920 : Shape := ⟨2, ![16, 81920]⟩
abbrev S4x16x1024x1024 : Shape := ⟨4, ![4, 16, 1024, 1024]⟩
abbrev S16384x1024 : Shape := ⟨2, ![16384, 1024]⟩
abbrev S16x16384 : Shape := ⟨2, ![16, 16384]⟩
abbrev S1x16x1024x1024 : Shape := ⟨4, ![1, 16, 1024, 1024]⟩
abbrev S16x1024x1024 : Shape := ⟨3, ![16, 1024, 1024]⟩
abbrev S16x2048 : Shape := ⟨2, ![16, 2048]⟩
abbrev S_ : Shape := ⟨0, ![]⟩
abbrev S16x2048x1 : Shape := ⟨3, ![16, 2048, 1]⟩
abbrev S16x2048x1024 : Shape := ⟨3, ![16, 2048, 1024]⟩
abbrev S65536x1024 : Shape := ⟨2, ![65536, 1024]⟩
abbrev S16x65536 : Shape := ⟨2, ![16, 65536]⟩
abbrev S16x8192 : Shape := ⟨2, ![16, 8192]⟩
abbrev S16x8192x1 : Shape := ⟨3, ![16, 8192, 1]⟩
abbrev S16x8192x1024 : Shape := ⟨3, ![16, 8192, 1024]⟩
abbrev S16x10240x1024 : Shape := ⟨3, ![16, 10240, 1024]⟩

abbrev nBuf : Space → Nat
  | .hbm => 78
  | .vmem => 0
  | .smem => 0
  | _ => 0

abbrev bufTy : (tb : Table) → Fin (tcTables nBuf tb) → BufTy
  | .hbm, ⟨0, _⟩ => ⟨S81920x1024, .bf16⟩
  | .hbm, ⟨1, _⟩ => ⟨S16x81920, .f32⟩
  | .hbm, ⟨2, _⟩ => ⟨S4x16x1024x1024, .f32⟩
  | .hbm, ⟨3, _⟩ => ⟨S4x16x1024x1024, .f32⟩
  | .hbm, ⟨4, _⟩ => ⟨S4x16x1024x1024, .f32⟩
  | .hbm, ⟨5, _⟩ => ⟨S81920x1024, .f32⟩
  | .hbm, ⟨6, _⟩ => ⟨S16384x1024, .f32⟩
  | .hbm, ⟨7, _⟩ => ⟨S16x16384, .f32⟩
  | .hbm, ⟨8, _⟩ => ⟨S1x16x1024x1024, .f32⟩
  | .hbm, ⟨9, _⟩ => ⟨S16x1024x1024, .f32⟩
  | .hbm, ⟨10, _⟩ => ⟨S1x16x1024x1024, .f32⟩
  | .hbm, ⟨11, _⟩ => ⟨S16x1024x1024, .f32⟩
  | .hbm, ⟨12, _⟩ => ⟨S1x16x1024x1024, .f32⟩
  | .hbm, ⟨13, _⟩ => ⟨S16x1024x1024, .f32⟩
  | .hbm, ⟨14, _⟩ => ⟨S16x2048, .f32⟩
  | .hbm, ⟨15, _⟩ => ⟨S16x2048, .i32⟩
  | .hbm, ⟨16, _⟩ => ⟨S_, .i32⟩
  | .hbm, ⟨17, _⟩ => ⟨S16x2048, .i32⟩
  | .hbm, ⟨18, _⟩ => ⟨S16x2048, .i1⟩
  | .hbm, ⟨19, _⟩ => ⟨S_, .i32⟩
  | .hbm, ⟨20, _⟩ => ⟨S16x2048, .i32⟩
  | .hbm, ⟨21, _⟩ => ⟨S16x2048, .i32⟩
  | .hbm, ⟨22, _⟩ => ⟨S16x2048, .i32⟩
  | .hbm, ⟨23, _⟩ => ⟨S16x2048x1, .i32⟩
  | .hbm, ⟨24, _⟩ => ⟨S16x2048x1024, .f32⟩
  | .hbm, ⟨25, _⟩ => ⟨S16x2048x1024, .f32⟩
  | .hbm, ⟨26, _⟩ => ⟨S16x2048x1024, .f32⟩
  | .hbm, ⟨27, _⟩ => ⟨S16x2048x1024, .f32⟩
  | .hbm, ⟨28, _⟩ => ⟨S_, .f32⟩
  | .hbm, ⟨29, _⟩ => ⟨S16x2048x1024, .f32⟩
  | .hbm, ⟨30, _⟩ => ⟨S16x2048x1024, .f32⟩
  | .hbm, ⟨31, _⟩ => ⟨S_, .f32⟩
  | .hbm, ⟨32, _⟩ => ⟨S16x2048x1024, .f32⟩
  | .hbm, ⟨33, _⟩ => ⟨S16x2048x1024, .f32⟩
  | .hbm, ⟨34, _⟩ => ⟨S16x2048x1024, .f32⟩
  | .hbm, ⟨35, _⟩ => ⟨S16x2048x1024, .f32⟩
  | .hbm, ⟨36, _⟩ => ⟨S16x2048x1024, .f32⟩
  | .hbm, ⟨37, _⟩ => ⟨S16x2048x1024, .f32⟩
  | .hbm, ⟨38, _⟩ => ⟨S16x2048x1, .f32⟩
  | .hbm, ⟨39, _⟩ => ⟨S16x2048x1024, .f32⟩
  | .hbm, ⟨40, _⟩ => ⟨S16x2048x1024, .f32⟩
  | .hbm, ⟨41, _⟩ => ⟨S65536x1024, .f32⟩
  | .hbm, ⟨42, _⟩ => ⟨S16x65536, .f32⟩
  | .hbm, ⟨43, _⟩ => ⟨S1x16x1024x1024, .f32⟩
  | .hbm, ⟨44, _⟩ => ⟨S16x1024x1024, .f32⟩
  | .hbm, ⟨45, _⟩ => ⟨S1x16x1024x1024, .f32⟩
  | .hbm, ⟨46, _⟩ => ⟨S16x1024x1024, .f32⟩
  | .hbm, ⟨47, _⟩ => ⟨S1x16x1024x1024, .f32⟩
  | .hbm, ⟨48, _⟩ => ⟨S16x1024x1024, .f32⟩
  | .hbm, ⟨49, _⟩ => ⟨S16x8192, .f32⟩
  | .hbm, ⟨50, _⟩ => ⟨S16x8192, .i32⟩
  | .hbm, ⟨51, _⟩ => ⟨S_, .i32⟩
  | .hbm, ⟨52, _⟩ => ⟨S16x8192, .i32⟩
  | .hbm, ⟨53, _⟩ => ⟨S16x8192, .i1⟩
  | .hbm, ⟨54, _⟩ => ⟨S_, .i32⟩
  | .hbm, ⟨55, _⟩ => ⟨S16x8192, .i32⟩
  | .hbm, ⟨56, _⟩ => ⟨S16x8192, .i32⟩
  | .hbm, ⟨57, _⟩ => ⟨S16x8192, .i32⟩
  | .hbm, ⟨58, _⟩ => ⟨S16x8192x1, .i32⟩
  | .hbm, ⟨59, _⟩ => ⟨S16x8192x1024, .f32⟩
  | .hbm, ⟨60, _⟩ => ⟨S16x8192x1024, .f32⟩
  | .hbm, ⟨61, _⟩ => ⟨S16x8192x1024, .f32⟩
  | .hbm, ⟨62, _⟩ => ⟨S16x8192x1024, .f32⟩
  | .hbm, ⟨63, _⟩ => ⟨S_, .f32⟩
  | .hbm, ⟨64, _⟩ => ⟨S16x8192x1024, .f32⟩
  | .hbm, ⟨65, _⟩ => ⟨S16x8192x1024, .f32⟩
  | .hbm, ⟨66, _⟩ => ⟨S_, .f32⟩
  | .hbm, ⟨67, _⟩ => ⟨S16x8192x1024, .f32⟩
  | .hbm, ⟨68, _⟩ => ⟨S16x8192x1024, .f32⟩
  | .hbm, ⟨69, _⟩ => ⟨S16x8192x1024, .f32⟩
  | .hbm, ⟨70, _⟩ => ⟨S16x8192x1024, .f32⟩
  | .hbm, ⟨71, _⟩ => ⟨S16x8192x1024, .f32⟩
  | .hbm, ⟨72, _⟩ => ⟨S16x8192x1024, .f32⟩
  | .hbm, ⟨73, _⟩ => ⟨S16x8192x1, .f32⟩
  | .hbm, ⟨74, _⟩ => ⟨S16x8192x1024, .f32⟩
  | .hbm, ⟨75, _⟩ => ⟨S16x8192x1024, .f32⟩
  | .hbm, ⟨76, _⟩ => ⟨S16x10240x1024, .f32⟩
  | .hbm, ⟨77, _⟩ => ⟨S16x10240x1024, .bf16⟩
  | _, _ => ⟨S81920x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_values : Ref sig .tc := ⟨.hbm, 14, rfl⟩
abbrev main_indices : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_values_1 : Ref sig .tc := ⟨.hbm, 49, rfl⟩
abbrev main_indices_2 : Ref sig .tc := ⟨.hbm, 50, rfl⟩
abbrev main_c_3 : Ref sig .tc := ⟨.hbm, 51, rfl⟩
abbrev main_v32 : Ref sig .tc := ⟨.hbm, 52, rfl⟩
abbrev main_v33 : Ref sig .tc := ⟨.hbm, 53, rfl⟩
abbrev main_c_4 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_call1_v5 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩

abbrev nD : Nat := 1
abbrev τ : Topo := Topo.v7x

variable {F : FTy → Type} [FloatOps F]
-- ==== Hyena.lean ====
abbrev S81920x1024 : Shape := ⟨2, ![81920, 1024]⟩
abbrev S1024 : Shape := ⟨1, ![1024]⟩
abbrev S1024x3072 : Shape := ⟨2, ![1024, 3072]⟩
abbrev S3072 : Shape := ⟨1, ![3072]⟩
abbrev S3x3072 : Shape := ⟨2, ![3, 3072]⟩
abbrev S1x1024 : Shape := ⟨2, ![1, 1024]⟩
abbrev S1x3072 : Shape := ⟨2, ![1, 3072]⟩
abbrev S512x1024 : Shape := ⟨2, ![512, 1024]⟩
abbrev S8x1024 : Shape := ⟨2, ![8, 1024]⟩
abbrev S528x1024 : Shape := ⟨2, ![528, 1024]⟩
abbrev S528 : Shape := ⟨1, ![528]⟩
abbrev S528x1 : Shape := ⟨2, ![528, 1]⟩
abbrev S512x1 : Shape := ⟨2, ![512, 1]⟩
abbrev S1024x512 : Shape := ⟨2, ![1024, 512]⟩
abbrev S528x512 : Shape := ⟨2, ![528, 512]⟩
abbrev S1x512 : Shape := ⟨2, ![1, 512]⟩
abbrev S512x512 : Shape := ⟨2, ![512, 512]⟩
abbrev S3x512 : Shape := ⟨2, ![3, 512]⟩

abbrev nBuf : Space → Nat
  | .hbm => 12
  | .vmem => 15
  | .smem => 0
  | _ => 0

abbrev bufTy : (tb : Table) → Fin (tcTables nBuf tb) → BufTy
  | .hbm, ⟨0, _⟩ => ⟨S81920x1024, .f32⟩
  | .hbm, ⟨1, _⟩ => ⟨S1024, .f32⟩
  | .hbm, ⟨2, _⟩ => ⟨S1024x3072, .f32⟩
  | .hbm, ⟨3, _⟩ => ⟨S3072, .f32⟩
  | .hbm, ⟨4, _⟩ => ⟨S3x3072, .f32⟩
  | .hbm, ⟨5, _⟩ => ⟨S3072, .f32⟩
  | .hbm, ⟨6, _⟩ => ⟨S1x1024, .f32⟩
  | .hbm, ⟨7, _⟩ => ⟨S1024x3072, .bf16⟩
  | .hbm, ⟨8, _⟩ => ⟨S1x3072, .f32⟩
  | .hbm, ⟨9, _⟩ => ⟨S1x3072, .f32⟩
  | .hbm, ⟨10, _⟩ => ⟨S81920x1024, .f32⟩
  | .hbm, ⟨11, _⟩ => ⟨S81920x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1024x3072, .bf16⟩
  | .local _ .vmem, ⟨8, _⟩ => ⟨S1x3072, .f32⟩
  | .local _ .vmem, ⟨9, _⟩ => ⟨S3x3072, .f32⟩
  | .local _ .vmem, ⟨10, _⟩ => ⟨S1x3072, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S81920x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c10239_i32 : BitVec 32 := 10239#32
  let v2 : BitVec 32 := Scalar.minsi v1 c10239_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== HyenaReferenceIdeal.lean ====
abbrev S81920x1024 : Shape := ⟨2, ![81920, 1024]⟩
abbrev S1024 : Shape := ⟨1, ![1024]⟩
abbrev S1024x3072 : Shape := ⟨2, ![1024, 3072]⟩
abbrev S3072 : Shape := ⟨1, ![3072]⟩
abbrev S3x3072 : Shape := ⟨2, ![3, 3072]⟩
abbrev S10x8192x1024 : Shape := ⟨3, ![10, 8192, 1024]⟩
abbrev S_ : Shape := ⟨0, ![]⟩
abbrev S10x8192 : Shape := ⟨2, ![10, 8192]⟩
abbrev S10x8192x1 : Shape := ⟨3, ![10, 8192, 1]⟩
abbrev S1x1x1024 : Shape := ⟨3, ![1, 1, 1024]⟩
abbrev S10x8192x3072 : Shape := ⟨3, ![10, 8192, 3072]⟩
abbrev S1x1x3072 : Shape := ⟨3, ![1, 1, 3072]⟩
abbrev S10x8194x3072 : Shape := ⟨3, ![10, 8194, 3072]⟩
abbrev S1x3072 : Shape := ⟨2, ![1, 3072]⟩

abbrev nBuf : Space → Nat
  | .hbm => 58
  | .vmem => 0
  | .smem => 0
  | _ => 0

abbrev bufTy : (tb : Table) → Fin (tcTables nBuf tb) → BufTy
  | .hbm, ⟨0, _⟩ => ⟨S81920x1024, .f32⟩
  | .hbm, ⟨1, _⟩ => ⟨S1024, .f32⟩
  | .hbm, ⟨2, _⟩ => ⟨S1024x3072, .f32⟩
  | .hbm, ⟨3, _⟩ => ⟨S3072, .f32⟩
  | .hbm, ⟨4, _⟩ => ⟨S3x3072, .f32⟩
  | .hbm, ⟨5, _⟩ => ⟨S3072, .f32⟩
  | .hbm, ⟨6, _⟩ => ⟨S10x8192x1024, .f32⟩
  | .hbm, ⟨7, _⟩ => ⟨S10x8192x1024, .f32⟩
  | .hbm, ⟨8, _⟩ => ⟨S_, .f32⟩
  | .hbm, ⟨9, _⟩ => ⟨S10x8192, .f32⟩
  | .hbm, ⟨10, _⟩ => ⟨S10x8192x1, .f32⟩
  | .hbm, ⟨11, _⟩ => ⟨S_, .f32⟩
  | .hbm, ⟨12, _⟩ => ⟨S10x8192x1, .f32⟩
  | .hbm, ⟨13, _⟩ => ⟨S10x8192x1, .f32⟩
  | .hbm, ⟨14, _⟩ => ⟨S_, .f32⟩
  | .hbm, ⟨15, _⟩ => ⟨S10x8192x1, .f32⟩
  | .hbm, ⟨16, _⟩ => ⟨S10x8192x1, .f32⟩
  | .hbm, ⟨17, _⟩ => ⟨S10x8192x1, .f32⟩
  | .hbm, ⟨18, _⟩ => ⟨S10x8192x1024, .f32⟩
  | .hbm, ⟨19, _⟩ => ⟨S10x8192x1024, .f32⟩
  | .hbm, ⟨20, _⟩ => ⟨S1x1x1024, .f32⟩
  | .hbm, ⟨21, _⟩ => ⟨S10x8192x1024, .f32⟩
  | .hbm, ⟨22, _⟩ => ⟨S10x8192x1024, .f32⟩
  | .hbm, ⟨23, _⟩ => ⟨S10x8192x3072, .f32⟩
  | .hbm, ⟨24, _⟩ => ⟨S1x1x3072, .f32⟩
  | .hbm, ⟨25, _⟩ => ⟨S10x8192x3072, .f32⟩
  | .hbm, ⟨26, _⟩ => ⟨S10x8192x3072, .f32⟩
  | .hbm, ⟨27, _⟩ => ⟨S_, .i32⟩
  | .hbm, ⟨28, _⟩ => ⟨S_, .f32⟩
  | .hbm, ⟨29, _⟩ => ⟨S10x8194x3072, .f32⟩
  | .hbm, ⟨30, _⟩ => ⟨S10x8192x3072, .f32⟩
  | .hbm, ⟨31, _⟩ => ⟨S1x3072, .f32⟩
  | .hbm, ⟨32, _⟩ => ⟨S3072, .f32⟩
  | .hbm, ⟨33, _⟩ => ⟨S1x1x3072, .f32⟩
  | .hbm, ⟨34, _⟩ => ⟨S10x8192x3072, .f32⟩
  | .hbm, ⟨35, _⟩ => ⟨S10x8192x3072, .f32⟩
  | .hbm, ⟨36, _⟩ => ⟨S1x3072, .f32⟩
  | .hbm, ⟨37, _⟩ => ⟨S3072, .f32⟩
  | .hbm, ⟨38, _⟩ => ⟨S1x1x3072, .f32⟩
  | .hbm, ⟨39, _⟩ => ⟨S10x8192x3072, .f32⟩
  | .hbm, ⟨40, _⟩ => ⟨S10x8192x3072, .f32⟩
  | .hbm, ⟨41, _⟩ => ⟨S10x8192x3072, .f32⟩
  | .hbm, ⟨42, _⟩ => ⟨S10x8192x3072, .f32⟩
  | .hbm, ⟨43, _⟩ => ⟨S1x3072, .f32⟩
  | .hbm, ⟨44, _⟩ => ⟨S3072, .f32⟩
  | .hbm, ⟨45, _⟩ => ⟨S1x1x3072, .f32⟩
  | .hbm, ⟨46, _⟩ => ⟨S10x8192x3072, .f32⟩
  | .hbm, ⟨47, _⟩ => ⟨S10x8192x3072, .f32⟩
  | .hbm, ⟨48, _⟩ => ⟨S10x8192x3072, .f32⟩
  | .hbm, ⟨49, _⟩ => ⟨S1x1x3072, .f32⟩
  | .hbm, ⟨50, _⟩ => ⟨S10x8192x3072, .f32⟩
  | .hbm, ⟨51, _⟩ => ⟨S10x8192x3072, .f32⟩
  | .hbm, ⟨52, _⟩ => ⟨S10x8192x1024, .f32⟩
  | .hbm, ⟨53, _⟩ => ⟨S10x8192x1024, .f32⟩
  | .hbm, ⟨54, _⟩ => ⟨S10x8192x1024, .f32⟩
  | .hbm, ⟨55, _⟩ => ⟨S81920x1024, .f32⟩
  | .hbm, ⟨56, _⟩ => ⟨S10x8192x1024, .f32⟩
  | .hbm, ⟨57, _⟩ => ⟨S81920x1024, .f32⟩
  | _, _ => ⟨S81920x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_call0_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩

abbrev nD : Nat := 1
abbrev τ : Topo := Topo.v7x

variable {F : FTy → Type} [FloatOps F]
-- ==== Gqa.lean ====
abbrev S81920x1024 : Shape := ⟨2, ![81920, 1024]⟩
abbrev S1024x1024 : Shape := ⟨2, ![1024, 1024]⟩
abbrev S1024 : Shape := ⟨1, ![1024]⟩
abbrev S1024x16 : Shape := ⟨2, ![1024, 16]⟩
abbrev S_ : Shape := ⟨0, ![]⟩
abbrev S1x1024 : Shape := ⟨2, ![1, 1024]⟩
abbrev S16x1024 : Shape := ⟨2, ![16, 1024]⟩
abbrev S16x81920 : Shape := ⟨2, ![16, 81920]⟩
abbrev S512x1024 : Shape := ⟨2, ![512, 1024]⟩
abbrev S16x512 : Shape := ⟨2, ![16, 512]⟩
abbrev S512x512 : Shape := ⟨2, ![512, 512]⟩
abbrev S1x512 : Shape := ⟨2, ![1, 512]⟩
abbrev S1024x512 : Shape := ⟨2, ![1024, 512]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S81920x1024, .bf16⟩
  | .hbm, ⟨1, _⟩ => ⟨S1024x1024, .f32⟩
  | .hbm, ⟨2, _⟩ => ⟨S81920x1024, .f32⟩
  | .hbm, ⟨3, _⟩ => ⟨S1024, .f32⟩
  | .hbm, ⟨4, _⟩ => ⟨S1024x16, .f32⟩
  | .hbm, ⟨5, _⟩ => ⟨S_, .f32⟩
  | .hbm, ⟨6, _⟩ => ⟨S1x1024, .f32⟩
  | .hbm, ⟨7, _⟩ => ⟨S1024x1024, .bf16⟩
  | .hbm, ⟨8, _⟩ => ⟨S1x1024, .f32⟩
  | .hbm, ⟨9, _⟩ => ⟨S16x1024, .f32⟩
  | .hbm, ⟨10, _⟩ => ⟨S81920x1024, .f32⟩
  | .hbm, ⟨11, _⟩ => ⟨S81920x1024, .bf16⟩
  | .hbm, ⟨12, _⟩ => ⟨S16x81920, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S16x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S16x512, .f32⟩
  | .local _ .vmem, ⟨13, _⟩ => ⟨S16x512, .f32⟩
  | _, _ => ⟨S81920x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GqaReferenceIdeal.lean ====
abbrev S81920x1024 : Shape := ⟨2, ![81920, 1024]⟩
abbrev S1024x1024 : Shape := ⟨2, ![1024, 1024]⟩
abbrev S1024 : Shape := ⟨1, ![1024]⟩
abbrev S1024x16 : Shape := ⟨2, ![1024, 16]⟩
abbrev S_ : Shape := ⟨0, ![]⟩
abbrev S81920 : Shape := ⟨1, ![81920]⟩
abbrev S81920x1 : Shape := ⟨2, ![81920, 1]⟩
abbrev S1x1024 : Shape := ⟨2, ![1, 1024]⟩
abbrev S81920x16 : Shape := ⟨2, ![81920, 16]⟩
abbrev S16x81920 : Shape := ⟨2, ![16, 81920]⟩

abbrev nBuf : Space → Nat
  | .hbm => 41
  | .vmem => 0
  | .smem => 0
  | _ => 0

abbrev bufTy : (tb : Table) → Fin (tcTables nBuf tb) → BufTy
  | .hbm, ⟨0, _⟩ => ⟨S81920x1024, .bf16⟩
  | .hbm, ⟨1, _⟩ => ⟨S1024x1024, .f32⟩
  | .hbm, ⟨2, _⟩ => ⟨S81920x1024, .f32⟩
  | .hbm, ⟨3, _⟩ => ⟨S1024, .f32⟩
  | .hbm, ⟨4, _⟩ => ⟨S1024x16, .f32⟩
  | .hbm, ⟨5, _⟩ => ⟨S81920x1024, .f32⟩
  | .hbm, ⟨6, _⟩ => ⟨S81920x1024, .f32⟩
  | .hbm, ⟨7, _⟩ => ⟨S81920x1024, .f32⟩
  | .hbm, ⟨8, _⟩ => ⟨S81920x1024, .f32⟩
  | .hbm, ⟨9, _⟩ => ⟨S_, .f32⟩
  | .hbm, ⟨10, _⟩ => ⟨S81920, .f32⟩
  | .hbm, ⟨11, _⟩ => ⟨S81920x1, .f32⟩
  | .hbm, ⟨12, _⟩ => ⟨S_, .f32⟩
  | .hbm, ⟨13, _⟩ => ⟨S81920x1, .f32⟩
  | .hbm, ⟨14, _⟩ => ⟨S81920x1, .f32⟩
  | .hbm, ⟨15, _⟩ => ⟨S_, .f32⟩
  | .hbm, ⟨16, _⟩ => ⟨S81920x1, .f32⟩
  | .hbm, ⟨17, _⟩ => ⟨S81920x1, .f32⟩
  | .hbm, ⟨18, _⟩ => ⟨S81920x1, .f32⟩
  | .hbm, ⟨19, _⟩ => ⟨S81920x1024, .f32⟩
  | .hbm, ⟨20, _⟩ => ⟨S81920x1024, .f32⟩
  | .hbm, ⟨21, _⟩ => ⟨S1x1024, .f32⟩
  | .hbm, ⟨22, _⟩ => ⟨S81920x1024, .f32⟩
  | .hbm, ⟨23, _⟩ => ⟨S81920x1024, .f32⟩
  | .hbm, ⟨24, _⟩ => ⟨S81920x16, .f32⟩
  | .hbm, ⟨25, _⟩ => ⟨S_, .f32⟩
  | .hbm, ⟨26, _⟩ => ⟨S81920, .f32⟩
  | .hbm, ⟨27, _⟩ => ⟨S_, .f32⟩
  | .hbm, ⟨28, _⟩ => ⟨S81920, .f32⟩
  | .hbm, ⟨29, _⟩ => ⟨S81920, .f32⟩
  | .hbm, ⟨30, _⟩ => ⟨S81920x1, .f32⟩
  | .hbm, ⟨31, _⟩ => ⟨S81920x16, .f32⟩
  | .hbm, ⟨32, _⟩ => ⟨S81920x16, .f32⟩
  | .hbm, ⟨33, _⟩ => ⟨S81920x16, .f32⟩
  | .hbm, ⟨34, _⟩ => ⟨S_, .f32⟩
  | .hbm, ⟨35, _⟩ => ⟨S81920, .f32⟩
  | .hbm, ⟨36, _⟩ => ⟨S81920x1, .f32⟩
  | .hbm, ⟨37, _⟩ => ⟨S81920x16, .f32⟩
  | .hbm, ⟨38, _⟩ => ⟨S81920x16, .f32⟩
  | .hbm, ⟨39, _⟩ => ⟨S81920x1024, .bf16⟩
  | .hbm, ⟨40, _⟩ => ⟨S16x81920, .f32⟩
  | _, _ => ⟨S81920x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Mlstm.lean ====
abbrev S81920x2048 : Shape := ⟨2, ![81920, 2048]⟩
abbrev S2048 : Shape := ⟨1, ![2048]⟩
abbrev S2048x1024 : Shape := ⟨2, ![2048, 1024]⟩
abbrev S81920x1024 : Shape := ⟨2, ![81920, 1024]⟩
abbrev S1024 : Shape := ⟨1, ![1024]⟩
abbrev S1024x16 : Shape := ⟨2, ![1024, 16]⟩
abbrev S1x2048 : Shape := ⟨2, ![1, 2048]⟩
abbrev S_ : Shape := ⟨0, ![]⟩
abbrev S1x1024 : Shape := ⟨2, ![1, 1024]⟩
abbrev S16x1024 : Shape := ⟨2, ![16, 1024]⟩
abbrev S16x81920 : Shape := ⟨2, ![16, 81920]⟩
abbrev S256x2048 : Shape := ⟨2, ![256, 2048]⟩
abbrev S256x1024 : Shape := ⟨2, ![256, 1024]⟩
abbrev S16x256 : Shape := ⟨2, ![16, 256]⟩
abbrev S256x512 : Shape := ⟨2, ![256, 512]⟩
abbrev S1x512 : Shape := ⟨2, ![1, 512]⟩
abbrev S256 : Shape := ⟨1, ![256]⟩
abbrev S256x1 : Shape := ⟨2, ![256, 1]⟩
abbrev S2048x512 : Shape := ⟨2, ![2048, 512]⟩
abbrev S1x256 : Shape := ⟨2, ![1, 256]⟩

abbrev nBuf : Space → Nat
  | .hbm => 20
  | .vmem => 22
  | .smem => 0
  | _ => 0

abbrev bufTy : (tb : Table) → Fin (tcTables nBuf tb) → BufTy
  | .hbm, ⟨0, _⟩ => ⟨S81920x2048, .f32⟩
  | .hbm, ⟨1, _⟩ => ⟨S81920x2048, .f32⟩
  | .hbm, ⟨2, _⟩ => ⟨S81920x2048, .f32⟩
  | .hbm, ⟨3, _⟩ => ⟨S81920x2048, .f32⟩
  | .hbm, ⟨4, _⟩ => ⟨S2048, .f32⟩
  | .hbm, ⟨5, _⟩ => ⟨S2048, .f32⟩
  | .hbm, ⟨6, _⟩ => ⟨S2048x1024, .f32⟩
  | .hbm, ⟨7, _⟩ => ⟨S81920x1024, .f32⟩
  | .hbm, ⟨8, _⟩ => ⟨S1024, .f32⟩
  | .hbm, ⟨9, _⟩ => ⟨S1024x16, .f32⟩
  | .hbm, ⟨10, _⟩ => ⟨S1x2048, .f32⟩
  | .hbm, ⟨11, _⟩ => ⟨S1x2048, .f32⟩
  | .hbm, ⟨12, _⟩ => ⟨S_, .f32⟩
  | .hbm, ⟨13, _⟩ => ⟨S1x1024, .f32⟩
  | .hbm, ⟨14, _⟩ => ⟨S2048x1024, .bf16⟩
  | .hbm, ⟨15, _⟩ => ⟨S1x1024, .f32⟩
  | .hbm, ⟨16, _⟩ => ⟨S16x1024, .f32⟩
  | .hbm, ⟨17, _⟩ => ⟨S81920x1024, .f32⟩
  | .hbm, ⟨18, _⟩ => ⟨S81920x1024, .bf16⟩
  | .hbm, ⟨19, _⟩ => ⟨S16x81920, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S2048x1024, .bf16⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S16x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S16x256, .f32⟩
  | .local _ .vmem, ⟨21, _⟩ => ⟨S16x256, .f32⟩
  | _, _ => ⟨S81920x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![320], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MlstmReferenceIdeal.lean ====
abbrev S81920x2048 : Shape := ⟨2, ![81920, 2048]⟩
abbrev S2048 : Shape := ⟨1, ![2048]⟩
abbrev S2048x1024 : Shape := ⟨2, ![2048, 1024]⟩
abbrev S81920x1024 : Shape := ⟨2, ![81920, 1024]⟩
abbrev S1024 : Shape := ⟨1, ![1024]⟩
abbrev S1024x16 : Shape := ⟨2, ![1024, 16]⟩
abbrev S81920x4x512 : Shape := ⟨3, ![81920, 4, 512]⟩
abbrev S4x512 : Shape := ⟨2, ![4, 512]⟩
abbrev S_ : Shape := ⟨0, ![]⟩
abbrev S81920x4 : Shape := ⟨2, ![81920, 4]⟩
abbrev S81920x4x1 : Shape := ⟨3, ![81920, 4, 1]⟩
abbrev S1x4x512 : Shape := ⟨3, ![1, 4, 512]⟩
abbrev S1x2048 : Shape := ⟨2, ![1, 2048]⟩
abbrev S81920 : Shape := ⟨1, ![81920]⟩
abbrev S81920x1 : Shape := ⟨2, ![81920, 1]⟩
abbrev S1x1024 : Shape := ⟨2, ![1, 1024]⟩
abbrev S81920x16 : Shape := ⟨2, ![81920, 16]⟩
abbrev S16x81920 : Shape := ⟨2, ![16, 81920]⟩

abbrev nBuf : Space → Nat
  | .hbm => 70
  | .vmem => 0
  | .smem => 0
  | _ => 0

abbrev bufTy : (tb : Table) → Fin (tcTables nBuf tb) → BufTy
  | .hbm, ⟨0, _⟩ => ⟨S81920x2048, .f32⟩
  | .hbm, ⟨1, _⟩ => ⟨S81920x2048, .f32⟩
  | .hbm, ⟨2, _⟩ => ⟨S81920x2048, .f32⟩
  | .hbm, ⟨3, _⟩ => ⟨S81920x2048, .f32⟩
  | .hbm, ⟨4, _⟩ => ⟨S2048, .f32⟩
  | .hbm, ⟨5, _⟩ => ⟨S2048, .f32⟩
  | .hbm, ⟨6, _⟩ => ⟨S2048x1024, .f32⟩
  | .hbm, ⟨7, _⟩ => ⟨S81920x1024, .f32⟩
  | .hbm, ⟨8, _⟩ => ⟨S1024, .f32⟩
  | .hbm, ⟨9, _⟩ => ⟨S1024x16, .f32⟩
  | .hbm, ⟨10, _⟩ => ⟨S81920x2048, .f32⟩
  | .hbm, ⟨11, _⟩ => ⟨S81920x4x512, .f32⟩
  | .hbm, ⟨12, _⟩ => ⟨S4x512, .f32⟩
  | .hbm, ⟨13, _⟩ => ⟨S81920x4x512, .f32⟩
  | .hbm, ⟨14, _⟩ => ⟨S_, .f32⟩
  | .hbm, ⟨15, _⟩ => ⟨S81920x4, .f32⟩
  | .hbm, ⟨16, _⟩ => ⟨S81920x4x1, .f32⟩
  | .hbm, ⟨17, _⟩ => ⟨S_, .f32⟩
  | .hbm, ⟨18, _⟩ => ⟨S81920x4x1, .f32⟩
  | .hbm, ⟨19, _⟩ => ⟨S81920x4x1, .f32⟩
  | .hbm, ⟨20, _⟩ => ⟨S_, .f32⟩
  | .hbm, ⟨21, _⟩ => ⟨S81920x4x1, .f32⟩
  | .hbm, ⟨22, _⟩ => ⟨S81920x4x1, .f32⟩
  | .hbm, ⟨23, _⟩ => ⟨S81920x4x1, .f32⟩
  | .hbm, ⟨24, _⟩ => ⟨S81920x4x512, .f32⟩
  | .hbm, ⟨25, _⟩ => ⟨S81920x4x512, .f32⟩
  | .hbm, ⟨26, _⟩ => ⟨S1x4x512, .f32⟩
  | .hbm, ⟨27, _⟩ => ⟨S81920x4x512, .f32⟩
  | .hbm, ⟨28, _⟩ => ⟨S81920x4x512, .f32⟩
  | .hbm, ⟨29, _⟩ => ⟨S81920x2048, .f32⟩
  | .hbm, ⟨30, _⟩ => ⟨S1x2048, .f32⟩
  | .hbm, ⟨31, _⟩ => ⟨S81920x2048, .f32⟩
  | .hbm, ⟨32, _⟩ => ⟨S81920x2048, .f32⟩
  | .hbm, ⟨33, _⟩ => ⟨S81920x2048, .f32⟩
  | .hbm, ⟨34, _⟩ => ⟨S81920x2048, .f32⟩
  | .hbm, ⟨35, _⟩ => ⟨S81920x1024, .f32⟩
  | .hbm, ⟨36, _⟩ => ⟨S81920x1024, .f32⟩
  | .hbm, ⟨37, _⟩ => ⟨S81920x1024, .f32⟩
  | .hbm, ⟨38, _⟩ => ⟨S_, .f32⟩
  | .hbm, ⟨39, _⟩ => ⟨S81920, .f32⟩
  | .hbm, ⟨40, _⟩ => ⟨S81920x1, .f32⟩
  | .hbm, ⟨41, _⟩ => ⟨S_, .f32⟩
  | .hbm, ⟨42, _⟩ => ⟨S81920x1, .f32⟩
  | .hbm, ⟨43, _⟩ => ⟨S81920x1, .f32⟩
  | .hbm, ⟨44, _⟩ => ⟨S_, .f32⟩
  | .hbm, ⟨45, _⟩ => ⟨S81920x1, .f32⟩
  | .hbm, ⟨46, _⟩ => ⟨S81920x1, .f32⟩
  | .hbm, ⟨47, _⟩ => ⟨S81920x1, .f32⟩
  | .hbm, ⟨48, _⟩ => ⟨S81920x1024, .f32⟩
  | .hbm, ⟨49, _⟩ => ⟨S81920x1024, .f32⟩
  | .hbm, ⟨50, _⟩ => ⟨S1x1024, .f32⟩
  | .hbm, ⟨51, _⟩ => ⟨S81920x1024, .f32⟩
  | .hbm, ⟨52, _⟩ => ⟨S81920x1024, .f32⟩
  | .hbm, ⟨53, _⟩ => ⟨S81920x16, .f32⟩
  | .hbm, ⟨54, _⟩ => ⟨S_, .f32⟩
  | .hbm, ⟨55, _⟩ => ⟨S81920, .f32⟩
  | .hbm, ⟨56, _⟩ => ⟨S_, .f32⟩
  | .hbm, ⟨57, _⟩ => ⟨S81920, .f32⟩
  | .hbm, ⟨58, _⟩ => ⟨S81920, .f32⟩
  | .hbm, ⟨59, _⟩ => ⟨S81920x1, .f32⟩
  | .hbm, ⟨60, _⟩ => ⟨S81920x16, .f32⟩
  | .hbm, ⟨61, _⟩ => ⟨S81920x16, .f32⟩
  | .hbm, ⟨62, _⟩ => ⟨S81920x16, .f32⟩
  | .hbm, ⟨63, _⟩ => ⟨S_, .f32⟩
  | .hbm, ⟨64, _⟩ => ⟨S81920, .f32⟩
  | .hbm, ⟨65, _⟩ => ⟨S81920x1, .f32⟩
  | .hbm, ⟨66, _⟩ => ⟨S81920x16, .f32⟩
  | .hbm, ⟨67, _⟩ => ⟨S81920x16, .f32⟩
  | .hbm, ⟨68, _⟩ => ⟨S81920x1024, .bf16⟩
  | .hbm, ⟨69, _⟩ => ⟨S16x81920, .f32⟩
  | _, _ => ⟨S81920x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Gate.lean ====
abbrev S81920x1024 : Shape := ⟨2, ![81920, 1024]⟩
abbrev S1024 : Shape := ⟨1, ![1024]⟩
abbrev S1024x1024 : Shape := ⟨2, ![1024, 1024]⟩
abbrev S1024x16 : Shape := ⟨2, ![1024, 16]⟩
abbrev S1x1024 : Shape := ⟨2, ![1, 1024]⟩
abbrev S16x1024 : Shape := ⟨2, ![16, 1024]⟩
abbrev S16x81920 : Shape := ⟨2, ![16, 81920]⟩
abbrev S512x1024 : Shape := ⟨2, ![512, 1024]⟩
abbrev S16x512 : Shape := ⟨2, ![16, 512]⟩
abbrev S512x512 : Shape := ⟨2, ![512, 512]⟩
abbrev S1x512 : Shape := ⟨2, ![1, 512]⟩
abbrev S1024x512 : Shape := ⟨2, ![1024, 512]⟩
abbrev S512 : Shape := ⟨1, ![512]⟩
abbrev S512x1 : Shape := ⟨2, ![512, 1]⟩

abbrev nBuf : Space → Nat
  | .hbm => 17
  | .vmem => 19
  | .smem => 0
  | _ => 0

abbrev bufTy : (tb : Table) → Fin (tcTables nBuf tb) → BufTy
  | .hbm, ⟨0, _⟩ => ⟨S81920x1024, .f32⟩
  | .hbm, ⟨1, _⟩ => ⟨S81920x1024, .f32⟩
  | .hbm, ⟨2, _⟩ => ⟨S81920x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S81920x1024, .f32⟩
  | .hbm, ⟨7, _⟩ => ⟨S1024, .f32⟩
  | .hbm, ⟨8, _⟩ => ⟨S1024x16, .f32⟩
  | .hbm, ⟨9, _⟩ => ⟨S1x1024, .f32⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S16x1024, .f32⟩
  | .hbm, ⟨14, _⟩ => ⟨S81920x1024, .f32⟩
  | .hbm, ⟨15, _⟩ => ⟨S81920x1024, .bf16⟩
  | .hbm, ⟨16, _⟩ => ⟨S16x81920, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1024x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S16x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S16x512, .f32⟩
  | .local _ .vmem, ⟨18, _⟩ => ⟨S16x512, .f32⟩
  | _, _ => ⟨S81920x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== GateReferenceIdeal.lean ====
abbrev S81920x1024 : Shape := ⟨2, ![81920, 1024]⟩
abbrev S1024 : Shape := ⟨1, ![1024]⟩
abbrev S1024x1024 : Shape := ⟨2, ![1024, 1024]⟩
abbrev S1024x16 : Shape := ⟨2, ![1024, 16]⟩
abbrev S1x1024 : Shape := ⟨2, ![1, 1024]⟩
abbrev S_ : Shape := ⟨0, ![]⟩
abbrev S81920 : Shape := ⟨1, ![81920]⟩
abbrev S81920x1 : Shape := ⟨2, ![81920, 1]⟩
abbrev S81920x16 : Shape := ⟨2, ![81920, 16]⟩
abbrev S16x81920 : Shape := ⟨2, ![16, 81920]⟩

abbrev nBuf : Space → Nat
  | .hbm => 52
  | .vmem => 0
  | .smem => 0
  | _ => 0

abbrev bufTy : (tb : Table) → Fin (tcTables nBuf tb) → BufTy
  | .hbm, ⟨0, _⟩ => ⟨S81920x1024, .f32⟩
  | .hbm, ⟨1, _⟩ => ⟨S81920x1024, .f32⟩
  | .hbm, ⟨2, _⟩ => ⟨S81920x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S81920x1024, .f32⟩
  | .hbm, ⟨7, _⟩ => ⟨S1024, .f32⟩
  | .hbm, ⟨8, _⟩ => ⟨S1024x16, .f32⟩
  | .hbm, ⟨9, _⟩ => ⟨S1x1024, .f32⟩
  | .hbm, ⟨10, _⟩ => ⟨S81920x1024, .f32⟩
  | .hbm, ⟨11, _⟩ => ⟨S81920x1024, .f32⟩
  | .hbm, ⟨12, _⟩ => ⟨S81920x1024, .f32⟩
  | .hbm, ⟨13, _⟩ => ⟨S81920x1024, .f32⟩
  | .hbm, ⟨14, _⟩ => ⟨S81920x1024, .f32⟩
  | .hbm, ⟨15, _⟩ => ⟨S1x1024, .f32⟩
  | .hbm, ⟨16, _⟩ => ⟨S81920x1024, .f32⟩
  | .hbm, ⟨17, _⟩ => ⟨S81920x1024, .f32⟩
  | .hbm, ⟨18, _⟩ => ⟨S81920x1024, .f32⟩
  | .hbm, ⟨19, _⟩ => ⟨S81920x1024, .f32⟩
  | .hbm, ⟨20, _⟩ => ⟨S_, .f32⟩
  | .hbm, ⟨21, _⟩ => ⟨S81920, .f32⟩
  | .hbm, ⟨22, _⟩ => ⟨S81920x1, .f32⟩
  | .hbm, ⟨23, _⟩ => ⟨S_, .f32⟩
  | .hbm, ⟨24, _⟩ => ⟨S81920x1, .f32⟩
  | .hbm, ⟨25, _⟩ => ⟨S81920x1, .f32⟩
  | .hbm, ⟨26, _⟩ => ⟨S_, .f32⟩
  | .hbm, ⟨27, _⟩ => ⟨S81920x1, .f32⟩
  | .hbm, ⟨28, _⟩ => ⟨S81920x1, .f32⟩
  | .hbm, ⟨29, _⟩ => ⟨S81920x1, .f32⟩
  | .hbm, ⟨30, _⟩ => ⟨S81920x1024, .f32⟩
  | .hbm, ⟨31, _⟩ => ⟨S81920x1024, .f32⟩
  | .hbm, ⟨32, _⟩ => ⟨S1x1024, .f32⟩
  | .hbm, ⟨33, _⟩ => ⟨S81920x1024, .f32⟩
  | .hbm, ⟨34, _⟩ => ⟨S81920x1024, .f32⟩
  | .hbm, ⟨35, _⟩ => ⟨S81920x16, .f32⟩
  | .hbm, ⟨36, _⟩ => ⟨S_, .f32⟩
  | .hbm, ⟨37, _⟩ => ⟨S81920, .f32⟩
  | .hbm, ⟨38, _⟩ => ⟨S_, .f32⟩
  | .hbm, ⟨39, _⟩ => ⟨S81920, .f32⟩
  | .hbm, ⟨40, _⟩ => ⟨S81920, .f32⟩
  | .hbm, ⟨41, _⟩ => ⟨S81920x1, .f32⟩
  | .hbm, ⟨42, _⟩ => ⟨S81920x16, .f32⟩
  | .hbm, ⟨43, _⟩ => ⟨S81920x16, .f32⟩
  | .hbm, ⟨44, _⟩ => ⟨S81920x16, .f32⟩
  | .hbm, ⟨45, _⟩ => ⟨S_, .f32⟩
  | .hbm, ⟨46, _⟩ => ⟨S81920, .f32⟩
  | .hbm, ⟨47, _⟩ => ⟨S81920x1, .f32⟩
  | .hbm, ⟨48, _⟩ => ⟨S81920x16, .f32⟩
  | .hbm, ⟨49, _⟩ => ⟨S81920x16, .f32⟩
  | .hbm, ⟨50, _⟩ => ⟨S81920x1024, .bf16⟩
  | .hbm, ⟨51, _⟩ => ⟨S16x81920, .f32⟩
  | _, _ => ⟨S81920x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== Proof.Flash.Block.lean ====
module

public import proofs.«01_k».proof.Proof.Gen.KernelIdeal.Skeleton
public import Idealize.ShloMosaic.Lib.Pipeline.FrameBody

@[expose] public section

/-! # What the attention computes on one query block

The block's four heads are columns `128·h …` of the query block; the accumulators have one slab a head. Two formulas,
one a branch: the sums of `exp2 (s·c − off)` with a fixed offset, and the running maximum with rescaled sums. -/

noncomputable section

namespace Cert.KernelIdeal.Flash

open Cert.KernelIdeal Cert.KernelIdeal.Gen
open Idealize.ShloMosaic

variable {F : FTy → Type} [FloatOps F] [Named F]

theorem inb_head (h : Fin 4) : ∀ a, (![0, 128 * h.val] : Fin S1024x512.rank → ℕ) a + S1024x128.size a ≤ S1024x512.size a := by
  revert h; decide
theorem inb_wide (h : Fin 4) : ∀ a, (![h.val, 0, 0] : Fin S4x1024x128.rank → ℕ) a + S1x1024x128.size a ≤ S4x1024x128.size a := by
  revert h; decide
theorem inb_thin (h : Fin 4) : ∀ a, (![h.val, 0, 0] : Fin S4x1024x1.rank → ℕ) a + S1x1024x1.size a ≤ S4x1024x1.size a := by
  revert h; decide

/-- Head `h`'s columns of the query block. -/
def qHead (q : Vec F S1024x512 .bf16) (h : Fin 4) : Vec F S1024x128 .bf16 :=
  View.ld q (Rect.unit ![0, 128 * h.val] S1024x128.size (inb_head h))

/-- Head `h`'s slab of a 128-lane scratch. -/
def wide (x : Vec F S4x1024x128 .f32) (h : Fin 4) : Vec F S1x1024x128 .f32 :=
  View.ld x (Rect.unit ![h.val, 0, 0] S1x1024x128.size (inb_wide h))

/-- Head `h`'s slab of a one-lane scratch. -/
def thin (x : Vec F S4x1024x1 .f32) (h : Fin 4) : Vec F S1x1024x1 .f32 :=
  View.ld x (Rect.unit ![h.val, 0, 0] S1x1024x1.size (inb_thin h))

/-- The first entry of the scratch that holds the greatest squared norm of a key. -/
def first (kn : Vec F S8x128 .f32) : Vec F S1x1 .f32 := View.ld kn (Rect.unit ![0, 0] S1x1.size inb_S8x128_S1x1_0_0)

section Norm

/-- The keys of trip `n` of the loop that measures them. -/
def keysN (i : grid0.Coords) (h1 : k0_cond1 i = 1#1) (k : Vec F S8192x128 .bf16) (n : Fin k0_t1_loop.trips) : Vec F S512x128 .bf16 :=
  View.ld k (Rect.unit (s := S8192x128) (k0_off1 n) S512x128.size (k0_off1_inb i n h1))

/-- The greatest squared norm among the keys of the trips before `n`. -/
def normAfter (i : grid0.Coords) (h1 : k0_cond1 i = 1#1) (k : Vec F S8192x128 .bf16) : ℕ → FVec F S1x1 .f32
  | 0 => k0_pay69
  | n + 1 => if hn : n < k0_t1_loop.trips then k0_pay70 (normAfter i h1 k n) (keysN i h1 k ⟨n, hn⟩) else normAfter i h1 k n

/-- The scratch that holds it, after the block that measures the keys. -/
def norms (i : grid0.Coords) (h1 : k0_cond1 i = 1#1) (k : Vec F S8192x128 .bf16) : Vec F S8x128 .f32 :=
  k0_pay71 (normAfter i h1 k k0_t1_loop.trips)

end Norm

/-- Head `h`'s offsets: the bound `‖q‖·max‖k‖` of each row's scores, in units of `exp2`'s argument. -/
def offset (kn : Vec F S8x128 .f32) (q : Vec F S1024x512 .bf16) (h : Fin 4) : Vec F S1x1024x128 .f32 :=
  k0_pay74 (first kn) (qHead q h)

/-- The greatest bound of the block, scaled. -/
def bound (kn : Vec F S8x128 .f32) (q : Vec F S1024x512 .bf16) : F .f32 :=
  k0_pay2 (k0_pay79 (first kn) (k0_pay73 (first kn) (qHead q 0)) (k0_pay76 (first kn) (qHead q 1)) (qHead q 2))
    (k0_pay82 (first kn) (qHead q 3))

/-- The fixed offset is taken. -/
def isFast (kn : Vec F S8x128 .f32) (q : Vec F S1024x512 .bf16) : Prop :=
  Scalar.cmpi .ne (Scalar.extui (Scalar.cmpf .ole (bound kn q) (Scalar.ofBits .f32 0x42200000#32)) : BitVec 32) 0#32 = 1#1

section Fast

/-- Keys or values of trip `n` of the loop over 2048 rows. -/
def rows2048 (k : Vec F S8192x128 .bf16) (n : Fin k0_t2_loop.trips) : Vec F S2048x128 .bf16 :=
  View.ld k (Rect.unit (s := S8192x128) (k0_off2 n) S2048x128.size (k0_off2_inb n))

/-- Head `h`'s sum of weighted values after `n` trips, with the offsets `off`. -/
def accFast (q : Vec F S1024x512 .bf16) (k v : Vec F S8192x128 .bf16) (off : Fin 4 → Vec F S1x1024x128 .f32) (h : Fin 4) :
    ℕ → Vec F S1x1024x128 .f32
  | 0 => wide k0_pay24 h
  | n + 1 => if hn : n < k0_t2_loop.trips then
      k0_pay11 (rows2048 v ⟨n, hn⟩) (k0_pay8 (rows2048 k ⟨n, hn⟩) (qHead q h) (off h)) (accFast q k v off h n)
    else accFast q k v off h n

/-- Head `h`'s lane-wise sums of weights after `n` trips, with the offsets `off`. -/
def sumFast (q : Vec F S1024x512 .bf16) (k : Vec F S8192x128 .bf16) (off : Fin 4 → Vec F S1x1024x128 .f32) (h : Fin 4) :
    ℕ → Vec F S1x1024x128 .f32
  | 0 => wide k0_pay25 h
  | n + 1 => if hn : n < k0_t2_loop.trips then
      k0_pay10 (k0_pay9 (rows2048 k ⟨n, hn⟩) (qHead q h) (off h)) (sumFast q k off h n)
    else sumFast q k off h n

/-- Head `h`'s result by the fixed offset. -/
def headFast (q : Vec F S1024x512 .bf16) (k v : Vec F S8192x128 .bf16) (off : Fin 4 → Vec F S1x1024x128 .f32) (h : Fin 4) :
    Vec F S1024x128 .bf16 :=
  k0_pay3 (sumFast q k off h k0_t2_loop.trips) (accFast q k v off h k0_t2_loop.trips)

end Fast

section Slow

/-- Keys or values of trip `n` of the loop over 512 rows. -/
def rows512 (k : Vec F S8192x128 .bf16) (n : Fin k0_t3_loop.trips) : Vec F S512x128 .bf16 :=
  View.ld k (Rect.unit (s := S8192x128) (k0_off3 n) S512x128.size (k0_off3_inb n))

/-- Head `h`'s running maximum after `n` trips. -/
def maxSlow (q : Vec F S1024x512 .bf16) (k : Vec F S8192x128 .bf16) (h : Fin 4) : ℕ → Vec F S1x1024x1 .f32
  | 0 => thin k0_pay59 h
  | n + 1 => if hn : n < k0_t3_loop.trips then
      k0_pay46 (k0_pay40 (rows512 k ⟨n, hn⟩) (qHead q h) (maxSlow q k h n))
    else maxSlow q k h n

/-- Head `h`'s sum of weights after `n` trips, relative to the running maximum. -/
def sumSlow (q : Vec F S1024x512 .bf16) (k : Vec F S8192x128 .bf16) (h : Fin 4) : ℕ → Vec F S1x1024x1 .f32
  | 0 => thin k0_pay60 h
  | n + 1 => if hn : n < k0_t3_loop.trips then
      k0_pay44 (k0_pay43 (rows512 k ⟨n, hn⟩) (qHead q h) (maxSlow q k h n) (sumSlow q k h n))
    else sumSlow q k h n

/-- Head `h`'s sum of weighted values after `n` trips, relative to the running maximum. -/
def accSlow (q : Vec F S1024x512 .bf16) (k v : Vec F S8192x128 .bf16) (h : Fin 4) : ℕ → Vec F S1x1024x128 .f32
  | 0 => wide k0_pay61 h
  | n + 1 => if hn : n < k0_t3_loop.trips then
      k0_pay45 (rows512 v ⟨n, hn⟩) (k0_pay41 (rows512 k ⟨n, hn⟩) (qHead q h) (maxSlow q k h n))
        (k0_pay42 (rows512 k ⟨n, hn⟩) (qHead q h) (maxSlow q k h n)) (accSlow q k v h n)
    else accSlow q k v h n

/-- Head `h`'s result by the running maximum. -/
def headSlow (q : Vec F S1024x512 .bf16) (k v : Vec F S8192x128 .bf16) (h : Fin 4) : Vec F S1024x128 .bf16 :=
  k0_pay6 (accSlow q k v h k0_t3_loop.trips) (sumSlow q k h k0_t3_loop.trips)

end Slow

open Classical in
/-- Head `h`'s result. -/
def headOut (kn : Vec F S8x128 .f32) (q : Vec F S1024x512 .bf16) (k v : Vec F S8192x128 .bf16) (h : Fin 4) : Vec F S1024x128 .bf16 :=
  if isFast kn q then headFast q k v (offset kn q) h else headSlow q k v h

/-- An entry's place within its head's columns. -/
def within (y : S1024x512.Idx) : S1024x128.Idx := fun a => match a with
  | ⟨0, _⟩ => y 0
  | ⟨1, _⟩ => ⟨(y 1).val % 128, Nat.mod_lt _ (by norm_num)⟩

/-- The block of results: head `h` in the columns `128·h …`. -/
def block (H : Fin 4 → Vec F S1024x128 .bf16) : Vec F S1024x512 .bf16 := fun y =>
  H ⟨(y 1).val / 128, by have : (y 1).val < 512 := (y 1).isLt; omega⟩ (within y)

end Cert.KernelIdeal.Flash

end
-- ==== Proof.Flash.Slabs.lean ====
module

public import proofs.«01_k».proof.Proof.Flash.Block
public import Idealize.ShloMosaic.Lib.WritesUnit
public import Idealize.ShloMosaic.Lib.VecWindow

@[expose] public section

/-! # Reading one head's slab of what was written -/

noncomputable section

namespace Cert.KernelIdeal.Flash

open Cert.KernelIdeal Cert.KernelIdeal.Gen
open Idealize.ShloMosaic

variable {F : FTy → Type} [FloatOps F] [Named F]

/-- A slab just written is what was written. -/
theorem wide_hit (v : View sig .tc .vmem S4x1024x128 .f32) (f : v.ty.Contents (Elt F)) (h : Fin 4) {off : Fin S4x1024x128.rank → ℕ}
    (inb : ∀ a, off a + S1x1024x128.size a ≤ S4x1024x128.size a) (w : Vec F S1x1024x128 .f32) (L : List (View.Piece (Elt F) S4x1024x128 .f32))
    (hoff : off = ![h.val, 0, 0]) :
    wide (v.read (Elt F) (v.writes (Elt F) f ((⟨Rect.unit off S1x1024x128.size inb, w⟩ : View.Piece (Elt F) S4x1024x128 .f32) :: L))) h = w := by
  funext y
  refine View.read_writes_cons_unit_of_mem v f inb w L _ y hoff fun a => ?_
  show (![h.val, 0, 0] : Fin 3 → ℕ) a + 1 * (y a).val = _
  rw [Nat.one_mul]

/-- A write to another head's slab leaves a head's slab. -/
theorem wide_miss (v : View sig .tc .vmem S4x1024x128 .f32) (f : v.ty.Contents (Elt F)) (h : Fin 4) {off : Fin S4x1024x128.rank → ℕ} (j : ℕ)
    (inb : ∀ a, off a + S1x1024x128.size a ≤ S4x1024x128.size a) (w : Vec F S1x1024x128 .f32) (L : List (View.Piece (Elt F) S4x1024x128 .f32))
    (hoff : off = ![j, 0, 0]) (hj : h.val ≠ j) :
    wide (v.read (Elt F) (v.writes (Elt F) f ((⟨Rect.unit off S1x1024x128.size inb, w⟩ : View.Piece (Elt F) S4x1024x128 .f32) :: L))) h
      = wide (v.read (Elt F) (v.writes (Elt F) f L)) h := by
  funext y
  refine View.read_writes_cons_unit_of_not_mem v f inb w L _ hoff 0 ?_
  have hy : (y 0).val < 1 := (y 0).isLt
  show (h.val + 1 * (y 0).val < j) ∨ j + 1 ≤ h.val + 1 * (y 0).val
  omega

/-- A slab just written is what was written. -/
theorem thin_hit (v : View sig .tc .vmem S4x1024x1 .f32) (f : v.ty.Contents (Elt F)) (h : Fin 4) {off : Fin S4x1024x1.rank → ℕ}
    (inb : ∀ a, off a + S1x1024x1.size a ≤ S4x1024x1.size a) (w : Vec F S1x1024x1 .f32) (L : List (View.Piece (Elt F) S4x1024x1 .f32))
    (hoff : off = ![h.val, 0, 0]) :
    thin (v.read (Elt F) (v.writes (Elt F) f ((⟨Rect.unit off S1x1024x1.size inb, w⟩ : View.Piece (Elt F) S4x1024x1 .f32) :: L))) h = w := by
  funext y
  refine View.read_writes_cons_unit_of_mem v f inb w L _ y hoff fun a => ?_
  show (![h.val, 0, 0] : Fin 3 → ℕ) a + 1 * (y a).val = _
  rw [Nat.one_mul]

/-- A write to another head's slab leaves a head's slab. -/
theorem thin_miss (v : View sig .tc .vmem S4x1024x1 .f32) (f : v.ty.Contents (Elt F)) (h : Fin 4) {off : Fin S4x1024x1.rank → ℕ} (j : ℕ)
    (inb : ∀ a, off a + S1x1024x1.size a ≤ S4x1024x1.size a) (w : Vec F S1x1024x1 .f32) (L : List (View.Piece (Elt F) S4x1024x1 .f32))
    (hoff : off = ![j, 0, 0]) (hj : h.val ≠ j) :
    thin (v.read (Elt F) (v.writes (Elt F) f ((⟨Rect.unit off S1x1024x1.size inb, w⟩ : View.Piece (Elt F) S4x1024x1 .f32) :: L))) h
      = thin (v.read (Elt F) (v.writes (Elt F) f L)) h := by
  funext y
  refine View.read_writes_cons_unit_of_not_mem v f inb w L _ hoff 0 ?_
  have hy : (y 0).val < 1 := (y 0).isLt
  show (h.val + 1 * (y 0).val < j) ∨ j + 1 ≤ h.val + 1 * (y 0).val
  omega

/-- Four slabs written one after the other. -/
theorem wide_four (v : View sig .tc .vmem S4x1024x128 .f32) (f : v.ty.Contents (Elt F)) (w : Fin 4 → Vec F S1x1024x128 .f32) (h : Fin 4) :
    wide (v.read (Elt F) (v.writes (Elt F) f
      [(⟨Rect.unit ![3, 0, 0] S1x1024x128.size (inb_wide 3), w 3⟩ : View.Piece (Elt F) S4x1024x128 .f32),
        (⟨Rect.unit ![2, 0, 0] S1x1024x128.size (inb_wide 2), w 2⟩ : View.Piece (Elt F) S4x1024x128 .f32),
        (⟨Rect.unit ![1, 0, 0] S1x1024x128.size (inb_wide 1), w 1⟩ : View.Piece (Elt F) S4x1024x128 .f32),
        (⟨Rect.unit ![0, 0, 0] S1x1024x128.size (inb_wide 0), w 0⟩ : View.Piece (Elt F) S4x1024x128 .f32)])) h = w h := by
  match h with
  | 0 => exact (wide_miss _ _ 0 3 _ _ _ rfl (by decide)).trans ((wide_miss _ _ 0 2 _ _ _ rfl (by decide)).trans ((wide_miss _ _ 0 1 _ _ _ rfl (by decide)).trans (wide_hit _ _ 0 _ _ _ rfl)))
  | 1 => exact (wide_miss _ _ 1 3 _ _ _ rfl (by decide)).trans ((wide_miss _ _ 1 2 _ _ _ rfl (by decide)).trans (wide_hit _ _ 1 _ _ _ rfl))
  | 2 => exact (wide_miss _ _ 2 3 _ _ _ rfl (by decide)).trans (wide_hit _ _ 2 _ _ _ rfl)
  | 3 => exact wide_hit _ _ 3 _ _ _ rfl

/-- The four heads' results, one after the other, are the block. -/
theorem block_writes (v : View sig .tc .vmem S1024x512 .bf16) (f : v.ty.Contents (Elt F)) (H : Fin 4 → Vec F S1024x128 .bf16)
    (L : List (View.Piece (Elt F) S1024x512 .bf16))
    (i0 i1 i2 i3) (w0 w1 w2 w3 : Vec F S1024x128 .bf16) (e0 : w0 = H 0) (e1 : w1 = H 1) (e2 : w2 = H 2) (e3 : w3 = H 3) :
    v.read (Elt F) (v.writes (Elt F) f
      (((⟨Rect.unit ![0, 384] S1024x128.size i3, w3⟩ : View.Piece (Elt F) S1024x512 .bf16) ::
        (⟨Rect.unit ![0, 256] S1024x128.size i2, w2⟩ : View.Piece (Elt F) S1024x512 .bf16) ::
        (⟨Rect.unit ![0, 128] S1024x128.size i1, w1⟩ : View.Piece (Elt F) S1024x512 .bf16) ::
        (⟨Rect.unit ![0, 0] S1024x128.size i0, w0⟩ : View.Piece (Elt F) S1024x512 .bf16) :: L)))
      = block H := by
  subst e0 e1 e2 e3
  funext y
  have hy : (y 1).val < 512 := (y 1).isLt
  have hb : ∀ (h : Fin 4), (y 1).val / 128 = h.val → block H y = H h (within y) := fun h e => by
    unfold block
    rw [show (⟨(y 1).val / 128, by omega⟩ : Fin 4) = h from Fin.ext e]
  have hm : ∀ (o : ℕ), o ≤ (y 1).val → (y 1).val < o + 128 → o % 128 = 0 → ∀ a : Fin 2, (y a).val = (![0, o] : Fin 2 → ℕ) a +
      (within y a).val := fun o h1 h2 h3 a => by
    match a with
    | ⟨0, _⟩ => exact (Nat.zero_add _).symm
    | ⟨1, _⟩ =>
      show (y 1).val = o + (y 1).val % 128
      omega
  by_cases h3 : 384 ≤ (y 1).val
  · rw [hb 3 (by show _ = 3; omega)]
    exact View.read_writes_cons_unit_of_mem v f i3 _ _ y _ rfl (hm 384 h3 (by omega) (by norm_num))
  rw [View.read_writes_cons_unit_of_not_mem v f i3 _ _ y rfl 1 (Or.inl (by show (y 1).val < 384; omega))]
  by_cases h2 : 256 ≤ (y 1).val
  · rw [hb 2 (by show _ = 2; omega)]
    exact View.read_writes_cons_unit_of_mem v f i2 _ _ y _ rfl (hm 256 h2 (by omega) (by norm_num))
  rw [View.read_writes_cons_unit_of_not_mem v f i2 _ _ y rfl 1 (Or.inl (by show (y 1).val < 256; omega))]
  by_cases h1 : 128 ≤ (y 1).val
  · rw [hb 1 (by show _ = 1; omega)]
    exact View.read_writes_cons_unit_of_mem v f i1 _ _ y _ rfl (hm 128 h1 (by omega) (by norm_num))
  rw [View.read_writes_cons_unit_of_not_mem v f i1 _ _ y rfl 1 (Or.inl (by show (y 1).val < 128; omega))]
  rw [hb 0 (by show _ = 0; omega)]
  exact View.read_writes_cons_unit_of_mem v f i0 _ _ y _ rfl (hm 0 (by omega) (by omega) (by norm_num))

end Cert.KernelIdeal.Flash

end
-- ==== Proof.Flash.Trips.lean ====
module

public import proofs.«01_k».proof.Proof.Flash.Block
public import proofs.«01_k».proof.Proof.Gen.KernelIdeal.Loops
public import proofs.«01_k».proof.Proof.Flash.Slabs

@[expose] public section

/-! # What the two loops leave in the accumulators, head by head -/

noncomputable section

namespace Cert.KernelIdeal.Flash

open Cert.KernelIdeal Cert.KernelIdeal.Gen
open Idealize.ShloMosaic

variable {F : FTy → Type} [FloatOps F] [Named F]
  (𝒱 : Variants) (c : Dev nD) (bd : Option 𝒱.V) (i : grid0.Coords)
  (arg3 : Memref sig .tc .vmem S1024x512 .bf16) (harg3 : arg3.IsWhole) (arg4 : Memref sig .tc .vmem S8192x128 .bf16) (harg4 : arg4.IsWhole)
  (arg5 : Memref sig .tc .vmem S8192x128 .bf16) (harg5 : arg5.IsWhole) (arg6 : Memref sig .tc .vmem S1024x512 .bf16) (harg6 : arg6.IsWhole)
  (arg7 : Memref sig .tc .vmem S4x1024x128 .f32) (harg7 : arg7.IsWhole) (arg8 : Memref sig .tc .vmem S4x1024x128 .f32) (harg8 : arg8.IsWhole)
  (arg9 : Memref sig .tc .vmem S4x1024x128 .f32) (harg9 : arg9.IsWhole) (arg10 : Memref sig .tc .vmem S4x1024x1 .f32) (harg10 : arg10.IsWhole)
  (arg11 : Memref sig .tc .vmem S4x1024x1 .f32) (harg11 : arg11.IsWhole) (arg12 : Memref sig .tc .vmem S8x128 .f32) (harg12 : arg12.IsWhole)

/-- The loop that measures the keys. -/
theorem loop_norm (h1 : k0_cond1 i = 1#1) (X4 : BufTy.Contents (Elt F) arg4.view.ty) (n : ℕ) (hn : n ≤ k0_t1_loop.trips) :
    st_k0_t1 𝒱 c bd i arg3 harg3 arg4 harg4 arg5 harg5 arg6 harg6 arg7 harg7 arg8 harg8 arg9 harg9
      arg10 harg10 arg11 harg11 arg12 harg12 h1 X4 k0_pay69 n = normAfter i h1 (arg4.view.read (Elt F) X4) n := by
  induction n with
  | zero => rfl
  | succ n ih =>
    rw [st_k0_t1_succ 𝒱 c bd i arg3 harg3 arg4 harg4 arg5 harg5 arg6 harg6 arg7 harg7 arg8 harg8 arg9 harg9
      arg10 harg10 arg11 harg11 arg12 harg12 h1 X4 k0_pay69 ⟨n, by omega⟩, ih (by omega), normAfter, dif_pos (show n < k0_t1_loop.trips by omega)]
    unfold tripR_k0_t1 trip_k0_t1
    rfl

section Fast

variable (X3 : BufTy.Contents (Elt F) arg3.view.ty) (X4 : BufTy.Contents (Elt F) arg4.view.ty) (X5 : BufTy.Contents (Elt F) arg5.view.ty)
  (X8 : BufTy.Contents (Elt F) arg8.view.ty) (f7 : BufTy.Contents (Elt F) arg7.view.ty) (f9 : BufTy.Contents (Elt F) arg9.view.ty)

/-- One trip's sums of weights. -/
theorem trip_sum (n : Fin k0_t2_loop.trips) (h : Fin 4) :
    wide (arg9.view.read (Elt F) (arg9.view.writes (Elt F) f9 (tripL_k0_t2 𝒱 c bd i arg3 harg3 arg4 harg4 arg5 harg5 arg6 harg6 arg7 harg7 arg8 harg8 arg9 harg9
      arg10 harg10 arg11 harg11 arg12 harg12 X3 X4 X5 X8 n f7 f9).2)) h
      = k0_pay10 (k0_pay9 (rows2048 (arg4.view.read (Elt F) X4) n) (qHead (arg3.view.read (Elt F) X3) h) (wide (arg8.view.read (Elt F) X8) h)) (wide (arg9.view.read (Elt F) f9) h) := by
  unfold tripL_k0_t2 trip_k0_t2
  dsimp only
  match h with
  | 0 =>
    exact (wide_miss _ _ 0 3 _ _ _ rfl (by decide)).trans ((wide_miss _ _ 0 2 _ _ _ rfl (by decide)).trans ((wide_miss _ _ 0 1 _ _ _ rfl (by decide)).trans ((wide_hit _ _ 0 _ _ _ rfl).trans rfl)))
  | 1 =>
    exact (wide_miss _ _ 1 3 _ _ _ rfl (by decide)).trans ((wide_miss _ _ 1 2 _ _ _ rfl (by decide)).trans ((wide_hit _ _ 1 _ _ _ rfl).trans rfl))
  | 2 =>
    exact (wide_miss _ _ 2 3 _ _ _ rfl (by decide)).trans ((wide_hit _ _ 2 _ _ _ rfl).trans rfl)
  | 3 =>
    exact (wide_hit _ _ 3 _ _ _ rfl).trans rfl

/-- One trip's sums of weighted values. -/
theorem trip_acc (n : Fin k0_t2_loop.trips) (h : Fin 4) :
    wide (arg7.view.read (Elt F) (arg7.view.writes (Elt F) f7 (tripL_k0_t2 𝒱 c bd i arg3 harg3 arg4 harg4 arg5 harg5 arg6 harg6 arg7 harg7 arg8 harg8 arg9 harg9
      arg10 harg10 arg11 harg11 arg12 harg12 X3 X4 X5 X8 n f7 f9).1)) h
      = k0_pay11 (rows2048 (arg5.view.read (Elt F) X5) n) (k0_pay8 (rows2048 (arg4.view.read (Elt F) X4) n) (qHead (arg3.view.read (Elt F) X3) h) (wide (arg8.view.read (Elt F) X8) h)) (wide (arg7.view.read (Elt F) f7) h) := by
  unfold tripL_k0_t2 trip_k0_t2
  dsimp only
  match h with
  | 0 =>
    exact (wide_miss _ _ 0 3 _ _ _ rfl (by decide)).trans ((wide_miss _ _ 0 2 _ _ _ rfl (by decide)).trans ((wide_miss _ _ 0 1 _ _ _ rfl (by decide)).trans ((wide_hit _ _ 0 _ _ _ rfl).trans rfl)))
  | 1 =>
    exact (wide_miss _ _ 1 3 _ _ _ rfl (by decide)).trans ((wide_miss _ _ 1 2 _ _ _ rfl (by decide)).trans ((wide_hit _ _ 1 _ _ _ rfl).trans rfl))
  | 2 =>
    exact (wide_miss _ _ 2 3 _ _ _ rfl (by decide)).trans ((wide_hit _ _ 2 _ _ _ rfl).trans rfl)
  | 3 =>
    exact (wide_hit _ _ 3 _ _ _ rfl).trans rfl

/-- After `n` trips the accumulators hold the sums over the keys of those trips. -/
theorem loop_fast (hz7 : ∀ h, wide (arg7.view.read (Elt F) f7) h = wide k0_pay24 h) (hz9 : ∀ h, wide (arg9.view.read (Elt F) f9) h = wide k0_pay25 h)
    (n : ℕ) (hn : n ≤ k0_t2_loop.trips) (h : Fin 4) :
    wide (arg7.view.read (Elt F) (arg7.view.writes (Elt F) f7 (pb_k0_t2 𝒱 c bd i arg3 harg3 arg4 harg4 arg5 harg5 arg6 harg6 arg7 harg7 arg8 harg8 arg9 harg9
      arg10 harg10 arg11 harg11 arg12 harg12 X3 X4 X5 X8 f7 f9 n).1)) h
        = accFast (arg3.view.read (Elt F) X3) (arg4.view.read (Elt F) X4) (arg5.view.read (Elt F) X5) (fun h => wide (arg8.view.read (Elt F) X8) h) h n
      ∧ wide (arg9.view.read (Elt F) (arg9.view.writes (Elt F) f9 (pb_k0_t2 𝒱 c bd i arg3 harg3 arg4 harg4 arg5 harg5 arg6 harg6 arg7 harg7 arg8 harg8 arg9 harg9
      arg10 harg10 arg11 harg11 arg12 harg12 X3 X4 X5 X8 f7 f9 n).2)) h
        = sumFast (arg3.view.read (Elt F) X3) (arg4.view.read (Elt F) X4) (fun h => wide (arg8.view.read (Elt F) X8) h) h n := by
  induction n with
  | zero => exact ⟨hz7 h, hz9 h⟩
  | succ n ih =>
    obtain ⟨ha, hs⟩ := ih (by omega)
    rw [pb_k0_t2_succ 𝒱 c bd i arg3 harg3 arg4 harg4 arg5 harg5 arg6 harg6 arg7 harg7 arg8 harg8 arg9 harg9
      arg10 harg10 arg11 harg11 arg12 harg12 X3 X4 X5 X8 f7 f9 ⟨n, by omega⟩]
    constructor
    · rw [View.writes_append]
      refine (trip_acc 𝒱 c bd i arg3 harg3 arg4 harg4 arg5 harg5 arg6 harg6 arg7 harg7 arg8 harg8 arg9 harg9
      arg10 harg10 arg11 harg11 arg12 harg12 X3 X4 X5 X8 _ _ ⟨n, by omega⟩ h).trans ?_
      rw [ha, accFast, dif_pos (show n < k0_t2_loop.trips by omega)]
    · rw [View.writes_append]
      refine (trip_sum 𝒱 c bd i arg3 harg3 arg4 harg4 arg5 harg5 arg6 harg6 arg7 harg7 arg8 harg8 arg9 harg9
      arg10 harg10 arg11 harg11 arg12 harg12 X3 X4 X5 X8 _ _ ⟨n, by omega⟩ h).trans ?_
      rw [hs, sumFast, dif_pos (show n < k0_t2_loop.trips by omega)]

omit f7 f9 in
/-- A head's result, from the accumulators as the loop leaves them. -/
theorem head_fast (kn : Vec F S8x128 .f32) (L7 L9 : List (View.Piece (Elt F) S4x1024x128 .f32))
    (hO : ∀ h, wide (arg8.view.read (Elt F) X8) h = offset kn (arg3.view.read (Elt F) X3) h)
    (hz7 : ∀ h, wide (arg7.view.read (Elt F) (arg7.view.writes (Elt F) arg7.view.junk L7)) h = wide k0_pay24 h)
    (hz9 : ∀ h, wide (arg9.view.read (Elt F) (arg9.view.writes (Elt F) arg9.view.junk L9)) h = wide k0_pay25 h)
    (hb : isFast kn (arg3.view.read (Elt F) X3)) (h : Fin 4) :
    k0_pay3 (arg9.view.readCov ((pb_k0_t2 𝒱 c bd i arg3 harg3 arg4 harg4 arg5 harg5 arg6 harg6 arg7 harg7 arg8 harg8 arg9 harg9
      arg10 harg10 arg11 harg11 arg12 harg12 X3 X4 X5 X8 (arg7.view.writes (Elt F) arg7.view.junk L7) (arg9.view.writes (Elt F) arg9.view.junk L9) k0_t2_loop.trips).2 ++ L9) (Rect.unit (s := S4x1024x128) ![h.val, 0, 0] S1x1024x128.size (inb_wide h)).toLoadRect)
        (arg7.view.readCov ((pb_k0_t2 𝒱 c bd i arg3 harg3 arg4 harg4 arg5 harg5 arg6 harg6 arg7 harg7 arg8 harg8 arg9 harg9
      arg10 harg10 arg11 harg11 arg12 harg12 X3 X4 X5 X8 (arg7.view.writes (Elt F) arg7.view.junk L7) (arg9.view.writes (Elt F) arg9.view.junk L9) k0_t2_loop.trips).1 ++ L7) (Rect.unit (s := S4x1024x128) ![h.val, 0, 0] S1x1024x128.size (inb_wide h)).toLoadRect)
      = headOut kn (arg3.view.read (Elt F) X3) (arg4.view.read (Elt F) X4) (arg5.view.read (Elt F) X5) h := by
  obtain ⟨ha, hs⟩ := loop_fast 𝒱 c bd i arg3 harg3 arg4 harg4 arg5 harg5 arg6 harg6 arg7 harg7 arg8 harg8 arg9 harg9
      arg10 harg10 arg11 harg11 arg12 harg12 X3 X4 X5 X8 _ _ hz7 hz9 k0_t2_loop.trips le_rfl h
  rw [← View.writes_append] at ha hs
  have hO' : (fun h => wide (arg8.view.read (Elt F) X8) h) = offset kn (arg3.view.read (Elt F) X3) := funext hO
  rw [hO'] at ha hs
  unfold headOut
  rw [if_pos hb]
  exact congrArg₂ k0_pay3 hs ha

end Fast

section Slow

variable (X3 : BufTy.Contents (Elt F) arg3.view.ty) (X4 : BufTy.Contents (Elt F) arg4.view.ty) (X5 : BufTy.Contents (Elt F) arg5.view.ty)
  (f7 : BufTy.Contents (Elt F) arg7.view.ty) (f10 : BufTy.Contents (Elt F) arg10.view.ty) (f11 : BufTy.Contents (Elt F) arg11.view.ty)

/-- One trip's running maxima. -/
theorem trip_max (n : Fin k0_t3_loop.trips) (h : Fin 4) :
    thin (arg10.view.read (Elt F) (arg10.view.writes (Elt F) f10 (tripL_k0_t3 𝒱 c bd i arg3 harg3 arg4 harg4 arg5 harg5 arg6 harg6 arg7 harg7 arg8 harg8 arg9 harg9
      arg10 harg10 arg11 harg11 arg12 harg12 X3 X4 X5 n f7 f10 f11).2.1)) h
      = k0_pay46 (k0_pay40 (rows512 (arg4.view.read (Elt F) X4) n) (qHead (arg3.view.read (Elt F) X3) h) (thin (arg10.view.read (Elt F) f10) h)) := by
  unfold tripL_k0_t3 trip_k0_t3
  dsimp only
  match h with
  | 0 =>
    exact (thin_miss _ _ 0 3 _ _ _ rfl (by decide)).trans ((thin_miss _ _ 0 2 _ _ _ rfl (by decide)).trans ((thin_miss _ _ 0 1 _ _ _ rfl (by decide)).trans ((thin_hit _ _ 0 _ _ _ rfl).trans rfl)))
  | 1 =>
    exact (thin_miss _ _ 1 3 _ _ _ rfl (by decide)).trans ((thin_miss _ _ 1 2 _ _ _ rfl (by decide)).trans ((thin_hit _ _ 1 _ _ _ rfl).trans rfl))
  | 2 =>
    exact (thin_miss _ _ 2 3 _ _ _ rfl (by decide)).trans ((thin_hit _ _ 2 _ _ _ rfl).trans rfl)
  | 3 =>
    exact (thin_hit _ _ 3 _ _ _ rfl).trans rfl

/-- One trip's sums of weights, by the running maximum. -/
theorem trip_weight (n : Fin k0_t3_loop.trips) (h : Fin 4) :
    thin (arg11.view.read (Elt F) (arg11.view.writes (Elt F) f11 (tripL_k0_t3 𝒱 c bd i arg3 harg3 arg4 harg4 arg5 harg5 arg6 harg6 arg7 harg7 arg8 harg8 arg9 harg9
      arg10 harg10 arg11 harg11 arg12 harg12 X3 X4 X5 n f7 f10 f11).2.2)) h
      = k0_pay44 (k0_pay43 (rows512 (arg4.view.read (Elt F) X4) n) (qHead (arg3.view.read (Elt F) X3) h) (thin (arg10.view.read (Elt F) f10) h) (thin (arg11.view.read (Elt F) f11) h)) := by
  unfold tripL_k0_t3 trip_k0_t3
  dsimp only
  match h with
  | 0 =>
    exact (thin_miss _ _ 0 3 _ _ _ rfl (by decide)).trans ((thin_miss _ _ 0 2 _ _ _ rfl (by decide)).trans ((thin_miss _ _ 0 1 _ _ _ rfl (by decide)).trans ((thin_hit _ _ 0 _ _ _ rfl).trans rfl)))
  | 1 =>
    exact (thin_miss _ _ 1 3 _ _ _ rfl (by decide)).trans ((thin_miss _ _ 1 2 _ _ _ rfl (by decide)).trans ((thin_hit _ _ 1 _ _ _ rfl).trans rfl))
  | 2 =>
    exact (thin_miss _ _ 2 3 _ _ _ rfl (by decide)).trans ((thin_hit _ _ 2 _ _ _ rfl).trans rfl)
  | 3 =>
    exact (thin_hit _ _ 3 _ _ _ rfl).trans rfl

/-- One trip's sums of weighted values, by the running maximum. -/
theorem trip_value (n : Fin k0_t3_loop.trips) (h : Fin 4) :
    wide (arg7.view.read (Elt F) (arg7.view.writes (Elt F) f7 (tripL_k0_t3 𝒱 c bd i arg3 harg3 arg4 harg4 arg5 harg5 arg6 harg6 arg7 harg7 arg8 harg8 arg9 harg9
      arg10 harg10 arg11 harg11 arg12 harg12 X3 X4 X5 n f7 f10 f11).1)) h
      = k0_pay45 (rows512 (arg5.view.read (Elt F) X5) n) (k0_pay41 (rows512 (arg4.view.read (Elt F) X4) n) (qHead (arg3.view.read (Elt F) X3) h) (thin (arg10.view.read (Elt F) f10) h)) (k0_pay42 (rows512 (arg4.view.read (Elt F) X4) n) (qHead (arg3.view.read (Elt F) X3) h) (thin (arg10.view.read (Elt F) f10) h)) (wide (arg7.view.read (Elt F) f7) h) := by
  unfold tripL_k0_t3 trip_k0_t3
  dsimp only
  match h with
  | 0 =>
    exact (wide_miss _ _ 0 3 _ _ _ rfl (by decide)).trans ((wide_miss _ _ 0 2 _ _ _ rfl (by decide)).trans ((wide_miss _ _ 0 1 _ _ _ rfl (by decide)).trans ((wide_hit _ _ 0 _ _ _ rfl).trans rfl)))
  | 1 =>
    exact (wide_miss _ _ 1 3 _ _ _ rfl (by decide)).trans ((wide_miss _ _ 1 2 _ _ _ rfl (by decide)).trans ((wide_hit _ _ 1 _ _ _ rfl).trans rfl))
  | 2 =>
    exact (wide_miss _ _ 2 3 _ _ _ rfl (by decide)).trans ((wide_hit _ _ 2 _ _ _ rfl).trans rfl)
  | 3 =>
    exact (wide_hit _ _ 3 _ _ _ rfl).trans rfl

/-- After `n` trips the accumulators hold the running maxima and the sums relative to them. -/
theorem loop_slow (hz7 : ∀ h, wide (arg7.view.read (Elt F) f7) h = wide k0_pay61 h) (hz10 : ∀ h, thin (arg10.view.read (Elt F) f10) h = thin k0_pay59 h)
    (hz11 : ∀ h, thin (arg11.view.read (Elt F) f11) h = thin k0_pay60 h) (n : ℕ) (hn : n ≤ k0_t3_loop.trips) (h : Fin 4) :
    wide (arg7.view.read (Elt F) (arg7.view.writes (Elt F) f7 (pb_k0_t3 𝒱 c bd i arg3 harg3 arg4 harg4 arg5 harg5 arg6 harg6 arg7 harg7 arg8 harg8 arg9 harg9
      arg10 harg10 arg11 harg11 arg12 harg12 X3 X4 X5 f7 f10 f11 n).1)) h = accSlow (arg3.view.read (Elt F) X3) (arg4.view.read (Elt F) X4) (arg5.view.read (Elt F) X5) h n
      ∧ thin (arg10.view.read (Elt F) (arg10.view.writes (Elt F) f10 (pb_k0_t3 𝒱 c bd i arg3 harg3 arg4 harg4 arg5 harg5 arg6 harg6 arg7 harg7 arg8 harg8 arg9 harg9
      arg10 harg10 arg11 harg11 arg12 harg12 X3 X4 X5 f7 f10 f11 n).2.1)) h = maxSlow (arg3.view.read (Elt F) X3) (arg4.view.read (Elt F) X4) h n
      ∧ thin (arg11.view.read (Elt F) (arg11.view.writes (Elt F) f11 (pb_k0_t3 𝒱 c bd i arg3 harg3 arg4 harg4 arg5 harg5 arg6 harg6 arg7 harg7 arg8 harg8 arg9 harg9
      arg10 harg10 arg11 harg11 arg12 harg12 X3 X4 X5 f7 f10 f11 n).2.2)) h = sumSlow (arg3.view.read (Elt F) X3) (arg4.view.read (Elt F) X4) h n := by
  induction n with
  | zero => exact ⟨hz7 h, hz10 h, hz11 h⟩
  | succ n ih =>
    obtain ⟨ha, hm, hs⟩ := ih (by omega)
    rw [pb_k0_t3_succ 𝒱 c bd i arg3 harg3 arg4 harg4 arg5 harg5 arg6 harg6 arg7 harg7 arg8 harg8 arg9 harg9
      arg10 harg10 arg11 harg11 arg12 harg12 X3 X4 X5 f7 f10 f11 ⟨n, by omega⟩]
    refine ⟨?_, ?_, ?_⟩
    · rw [View.writes_append]
      refine (trip_value 𝒱 c bd i arg3 harg3 arg4 harg4 arg5 harg5 arg6 harg6 arg7 harg7 arg8 harg8 arg9 harg9
      arg10 harg10 arg11 harg11 arg12 harg12 X3 X4 X5 _ _ _ ⟨n, by omega⟩ h).trans ?_
      rw [ha, hm, accSlow, dif_pos (show n < k0_t3_loop.trips by omega)]
    · rw [View.writes_append]
      refine (trip_max 𝒱 c bd i arg3 harg3 arg4 harg4 arg5 harg5 arg6 harg6 arg7 harg7 arg8 harg8 arg9 harg9
      arg10 harg10 arg11 harg11 arg12 harg12 X3 X4 X5 _ _ _ ⟨n, by omega⟩ h).trans ?_
      rw [hm, maxSlow, dif_pos (show n < k0_t3_loop.trips by omega)]
    · rw [View.writes_append]
      refine (trip_weight 𝒱 c bd i arg3 harg3 arg4 harg4 arg5 harg5 arg6 harg6 arg7 harg7 arg8 harg8 arg9 harg9
      arg10 harg10 arg11 harg11 arg12 harg12 X3 X4 X5 _ _ _ ⟨n, by omega⟩ h).trans ?_
      rw [hm, hs, sumSlow, dif_pos (show n < k0_t3_loop.trips by omega)]

omit f7 f10 f11 in
/-- A head's result, from the accumulators as the loop leaves them. -/
theorem head_slow (kn : Vec F S8x128 .f32) (L7 : List (View.Piece (Elt F) S4x1024x128 .f32)) (L10 L11 : List (View.Piece (Elt F) S4x1024x1 .f32))
    (hz7 : ∀ h, wide (arg7.view.read (Elt F) (arg7.view.writes (Elt F) arg7.view.junk L7)) h = wide k0_pay61 h)
    (hz10 : ∀ h, thin (arg10.view.read (Elt F) (arg10.view.writes (Elt F) arg10.view.junk L10)) h = thin k0_pay59 h)
    (hz11 : ∀ h, thin (arg11.view.read (Elt F) (arg11.view.writes (Elt F) arg11.view.junk L11)) h = thin k0_pay60 h)
    (hb : ¬ isFast kn (arg3.view.read (Elt F) X3)) (h : Fin 4) :
    k0_pay6 (arg7.view.readCov ((pb_k0_t3 𝒱 c bd i arg3 harg3 arg4 harg4 arg5 harg5 arg6 harg6 arg7 harg7 arg8 harg8 arg9 harg9
      arg10 harg10 arg11 harg11 arg12 harg12 X3 X4 X5 (arg7.view.writes (Elt F) arg7.view.junk L7) (arg10.view.writes (Elt F) arg10.view.junk L10) (arg11.view.writes (Elt F) arg11.view.junk L11) k0_t3_loop.trips).1 ++ L7) (Rect.unit (s := S4x1024x128) ![h.val, 0, 0] S1x1024x128.size (inb_wide h)).toLoadRect)
        (arg11.view.readCov ((pb_k0_t3 𝒱 c bd i arg3 harg3 arg4 harg4 arg5 harg5 arg6 harg6 arg7 harg7 arg8 harg8 arg9 harg9
      arg10 harg10 arg11 harg11 arg12 harg12 X3 X4 X5 (arg7.view.writes (Elt F) arg7.view.junk L7) (arg10.view.writes (Elt F) arg10.view.junk L10) (arg11.view.writes (Elt F) arg11.view.junk L11) k0_t3_loop.trips).2.2 ++ L11) (Rect.unit (s := S4x1024x1) ![h.val, 0, 0] S1x1024x1.size (inb_thin h)).toLoadRect)
      = headOut kn (arg3.view.read (Elt F) X3) (arg4.view.read (Elt F) X4) (arg5.view.read (Elt F) X5) h := by
  obtain ⟨ha, hm, hs⟩ := loop_slow 𝒱 c bd i arg3 harg3 arg4 harg4 arg5 harg5 arg6 harg6 arg7 harg7 arg8 harg8 arg9 harg9
      arg10 harg10 arg11 harg11 arg12 harg12 X3 X4 X5 _ _ _ hz7 hz10 hz11 k0_t3_loop.trips le_rfl h
  rw [← View.writes_append] at ha hs
  unfold headOut
  rw [if_neg hb]
  exact congrArg₂ k0_pay6 ha hs

end Slow

end Cert.KernelIdeal.Flash

end
-- ==== Proof.Flash.Run.lean ====
module

public import proofs.«01_k».proof.Proof.Gen.KernelIdeal.Frame
public import proofs.«01_k».proof.Proof.Flash.Trips
public import proofs.«01_k».proof.Proof.Gen.KernelIdeal.Points
public import proofs.«01_k».proof.Proof.Gen.KernelIdeal.Launch
public import Idealize.ShloMosaic.Lib.Pipeline.FrameBody

@[expose] public section

set_option maxRecDepth 16384

/-! # The attention's body at one grid point

At the first query block of a request the keys are measured; then one of the two branches runs. Either way the block
written is `block (headOut …)`. -/

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
    (arg3 : Memref sig .tc .vmem S1024x512 .bf16) (harg3 : arg3.IsWhole) (arg4 : Memref sig .tc .vmem S8192x128 .bf16) (harg4 : arg4.IsWhole)
    (arg5 : Memref sig .tc .vmem S8192x128 .bf16) (harg5 : arg5.IsWhole) (arg6 : Memref sig .tc .vmem S1024x512 .bf16) (harg6 : arg6.IsWhole)
    (arg7 : Memref sig .tc .vmem S4x1024x128 .f32) (harg7 : arg7.IsWhole) (arg8 : Memref sig .tc .vmem S4x1024x128 .f32) (harg8 : arg8.IsWhole)
    (arg9 : Memref sig .tc .vmem S4x1024x128 .f32) (harg9 : arg9.IsWhole) (arg10 : Memref sig .tc .vmem S4x1024x1 .f32) (harg10 : arg10.IsWhole)
    (arg11 : Memref sig .tc .vmem S4x1024x1 .f32) (harg11 : arg11.IsWhole) (arg12 : Memref sig .tc .vmem S8x128 .f32) (harg12 : arg12.IsWhole)
    (q : Vec F S1024x512 .bf16) (k v : Vec F S8192x128 .bf16) (kn : Vec F S8x128 .f32)

/-- What the body is given, with the measured norm in `arg12`. -/
abbrev given : sProp 𝕄 :=
  iprop(owns (c : Thread nD τ) arg3 fullShare q ∗ owns (c : Thread nD τ) arg4 fullShare k ∗ owns (c : Thread nD τ) arg5 fullShare v
    ∗ (∃ d, owns (c : Thread nD τ) arg6 fullShare d) ∗ (∃ d, owns (c : Thread nD τ) arg7 fullShare d) ∗ (∃ d, owns (c : Thread nD τ) arg8 fullShare d)
    ∗ (∃ d, owns (c : Thread nD τ) arg9 fullShare d) ∗ (∃ d, owns (c : Thread nD τ) arg10 fullShare d) ∗ (∃ d, owns (c : Thread nD τ) arg11 fullShare d)
    ∗ owns (c : Thread nD τ) arg12 fullShare kn)

/-- What the body leaves, with the norm `kn` it used. -/
def left : sProp 𝕄 :=
  iprop(owns (c : Thread nD τ) arg3 fullShare q ∗ owns (c : Thread nD τ) arg4 fullShare k ∗ owns (c : Thread nD τ) arg5 fullShare v
    ∗ owns (c : Thread nD τ) arg6 fullShare (block (headOut kn q k v))
    ∗ (∃ d, owns (c : Thread nD τ) arg7 fullShare d) ∗ (∃ d, owns (c : Thread nD τ) arg8 fullShare d)
    ∗ (∃ d, owns (c : Thread nD τ) arg9 fullShare d) ∗ (∃ d, owns (c : Thread nD τ) arg10 fullShare d) ∗ (∃ d, owns (c : Thread nD τ) arg11 fullShare d)
    ∗ owns (c : Thread nD τ) arg12 fullShare kn)

variable {s : Shape} {e : EltTy}

/-- What is held is held at some value. -/
theorem owns_some (a : Memref sig .tc .vmem s e) (f : BufTy.Contents (Elt F) a.view.ty) :
    (a.view.loc (c : Thread nD τ) ↦[a.view.set]{fullShare} f : sProp 𝕄) ⊢ iprop(∃ d, owns (c : Thread nD τ) a fullShare d) := by
  unfold owns
  iintro H
  iexists (a.view.read (Elt F) f); iexists f
  isplitr [H]
  · ipureintro; rfl
  iexact H

/-- What is held is held at what it reads. -/
theorem owns_at (a : Memref sig .tc .vmem s e) (f : BufTy.Contents (Elt F) a.view.ty) (x : Vec F s e) (h : a.view.read (Elt F) f = x) :
    (a.view.loc (c : Thread nD τ) ↦[a.view.set]{fullShare} f : sProp 𝕄) ⊢ owns (c : Thread nD τ) a fullShare x := by
  unfold owns
  iintro H
  iexists f
  isplitr [H]
  · ipureintro; exact h
  iexact H

/-- The same, the reading shown afterwards. -/
theorem owns_of (a : Memref sig .tc .vmem s e) (f : BufTy.Contents (Elt F) a.view.ty) (x : Vec F s e) :
    iprop((a.view.loc (c : Thread nD τ) ↦[a.view.set]{fullShare} f) ∗ ⌜a.view.read (Elt F) f = x⌝ : sProp 𝕄) ⊢ owns (c : Thread nD τ) a fullShare x := by
  iintro ⟨H, %h⟩
  iapply (owns_at c a f x h)
  iexact H

theorem slow_off (b : BitVec 1) (h : Scalar.cmpi .ne (Scalar.extui b : BitVec 32) 0#32 = 1#1) :
    ¬ Scalar.cmpi .ne (Scalar.extui (Scalar.xori b 1#1) : BitVec 32) 0#32 = 1#1 := by
  revert b; decide

theorem slow_on (b : BitVec 1) (h : ¬ Scalar.cmpi .ne (Scalar.extui b : BitVec 32) 0#32 = 1#1) :
    Scalar.cmpi .ne (Scalar.extui (Scalar.xori b 1#1) : BitVec 32) 0#32 = 1#1 := by
  revert b; decide

set_option maxHeartbeats 4000000 in
theorem runLater (hc0 : ¬ k0_cond1 i = 1#1) (E : Set ℕ) (K : PUnit → sProp 𝕄) :
    iprop(given c arg3 arg4 arg5 arg6 arg7 arg8 arg9 arg10 arg11 arg12 q k v kn
        ∗ (left c arg3 arg4 arg5 arg6 arg7 arg8 arg9 arg10 arg11 arg12 q k v kn -∗ K ⟨⟩))
      ⊢ wp frame (wpE (defs₀ (F := F)) Variants.none c none) E (cc0__flash_kernel i arg3 harg3 arg4 harg4 arg5 harg5 arg6 harg6 arg7 harg7 arg8 harg8 arg9 harg9 arg10 harg10 arg11 harg11 arg12 harg12) K := by
  simp only [cc0__flash_kernel_eq_skeleton]; unfold cc0__flash_kernel_skel
  unfold given owns
  iintro ⟨⟨⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%f12, %hf12, H12⟩⟩, Hk⟩
  subst hf3 hf4 hf5 hf12
  by_cases hb : isFast (arg12.view.read (Elt F) f12) (arg3.view.read (Elt F) f3)
  · sl_exec (disch := first | sl_exact hc0 | exact hb | exact slow_off _ hb)
    have hO : ∀ h, wide (arg8.view.read (Elt F) (arg8.view.writes (Elt F) arg8.view.junk (runLater.sl.H8_4 c arg3 arg12 f3 f12))) h
        = offset (arg12.view.read (Elt F) f12) (arg3.view.read (Elt F) f3) h := fun h =>
      wide_four arg8.view _ (offset (arg12.view.read (Elt F) f12) (arg3.view.read (Elt F) f3)) h
    have hz7 : ∀ h, wide (arg7.view.read (Elt F) (arg7.view.writes (Elt F) arg7.view.junk runLater.sl.H7_1)) h = wide k0_pay24 h := fun h =>
      congrArg (wide · h) (View.read_writes_full arg7.view _ _ _ _)
    have hz9 : ∀ h, wide (arg9.view.read (Elt F) (arg9.view.writes (Elt F) arg9.view.junk runLater.sl.H9_1)) h = wide k0_pay25 h := fun h =>
      congrArg (wide · h) (View.read_writes_full arg9.view _ _ _ _)
    have hh := head_fast Variants.none c none i arg3 harg3 arg4 harg4 arg5 harg5 arg6 harg6 arg7 harg7 arg8 harg8 arg9 harg9 arg10 harg10 arg11 harg11 arg12 harg12
      f3 f4 f5 _ _ _ _ hO hz7 hz9 hb
    sl_step
    iapply Hk
    unfold left
    isplitl [H3]
    · iapply (owns_at c arg3 f3 _ rfl); iexact H3
    isplitl [H4]
    · iapply (owns_at c arg4 f4 _ rfl); iexact H4
    isplitl [H5]
    · iapply (owns_at c arg5 f5 _ rfl); iexact H5
    isplitl [H6]
    · iapply (owns_of c arg6 _ _)
      isplitl [H6]
      · iexact H6
      ipureintro
      refine block_writes arg6.view f6 _ [] _ _ _ _ _ _ _ _ ?_ ?_ ?_ ?_
      · unfold runLater.sl.v103 runLater.sl.v107
        exact hh 0
      · unfold runLater.sl.r_7
        exact hh 1
      · unfold runLater.sl.v123 runLater.sl.v127
        exact hh 2
      · unfold runLater.sl.v133 runLater.sl.v137
        exact hh 3
    isplitl [H7]
    · iapply (owns_some c arg7 _); iexact H7
    isplitl [H8]
    · iapply (owns_some c arg8 _); iexact H8
    isplitl [H9]
    · iapply (owns_some c arg9 _); iexact H9
    isplitl [H10]
    · iapply (owns_some c arg10 _); iexact H10
    isplitl [H11]
    · iapply (owns_some c arg11 _); iexact H11
    iapply (owns_at c arg12 f12 _ rfl); iexact H12
  · sl_exec (disch := first | sl_exact hc0 | exact hb | exact slow_on _ hb)
    have hz7 : ∀ h, wide (arg7.view.read (Elt F) (arg7.view.writes (Elt F) arg7.view.junk runLater.sl.H7_1_1)) h = wide k0_pay61 h := fun h =>
      congrArg (wide · h) (View.read_writes_full arg7.view _ _ _ _)
    have hz10 : ∀ h, thin (arg10.view.read (Elt F) (arg10.view.writes (Elt F) arg10.view.junk runLater.sl.H10_1)) h = thin k0_pay59 h := fun h =>
      congrArg (thin · h) (View.read_writes_full arg10.view _ _ _ _)
    have hz11 : ∀ h, thin (arg11.view.read (Elt F) (arg11.view.writes (Elt F) arg11.view.junk runLater.sl.H11_1)) h = thin k0_pay60 h := fun h =>
      congrArg (thin · h) (View.read_writes_full arg11.view _ _ _ _)
    have hh := head_slow Variants.none c none i arg3 harg3 arg4 harg4 arg5 harg5 arg6 harg6 arg7 harg7 arg8 harg8 arg9 harg9 arg10 harg10 arg11 harg11 arg12 harg12
      f3 f4 f5 _ _ _ _ hz7 hz10 hz11 hb
    sl_step
    iapply Hk
    unfold left
    isplitl [H3]
    · iapply (owns_at c arg3 f3 _ rfl); iexact H3
    isplitl [H4]
    · iapply (owns_at c arg4 f4 _ rfl); iexact H4
    isplitl [H5]
    · iapply (owns_at c arg5 f5 _ rfl); iexact H5
    isplitl [H6]
    · iapply (owns_of c arg6 _ _)
      isplitl [H6]
      · iexact H6
      ipureintro
      refine block_writes arg6.view f6 _ [] _ _ _ _ _ _ _ _ ?_ ?_ ?_ ?_
      · unfold runLater.sl.v107_1 runLater.sl.v109
        exact hh 0
      · unfold runLater.sl.r_15 runLater.sl.r_16
        exact hh 1
      · unfold runLater.sl.v123_1 runLater.sl.v125
        exact hh 2
      · unfold runLater.sl.v131 runLater.sl.v133_1
        exact hh 3
    isplitl [H7]
    · iapply (owns_some c arg7 _); iexact H7
    isplitl [H8]
    · iapply (owns_some c arg8 _); iexact H8
    isplitl [H9]
    · iapply (owns_some c arg9 _); iexact H9
    isplitl [H10]
    · iapply (owns_some c arg10 _); iexact H10
    isplitl [H11]
    · iapply (owns_some c arg11 _); iexact H11
    iapply (owns_at c arg12 f12 _ rfl); iexact H12
set_option maxHeartbeats 4000000 in
theorem runFirst (hc0 : k0_cond1 i = 1#1) (E : Set ℕ) (K : PUnit → sProp 𝕄) :
    iprop(given c arg3 arg4 arg5 arg6 arg7 arg8 arg9 arg10 arg11 arg12 q k v kn
        ∗ (left c arg3 arg4 arg5 arg6 arg7 arg8 arg9 arg10 arg11 arg12 q k v (norms i hc0 k) -∗ K ⟨⟩))
      ⊢ wp frame (wpE (defs₀ (F := F)) Variants.none c none) E (cc0__flash_kernel i arg3 harg3 arg4 harg4 arg5 harg5 arg6 harg6 arg7 harg7 arg8 harg8 arg9 harg9 arg10 harg10 arg11 harg11 arg12 harg12) K := by
  simp only [cc0__flash_kernel_eq_skeleton]; unfold cc0__flash_kernel_skel
  unfold given owns
  iintro ⟨⟨⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%f12, %hf12, H12⟩⟩, Hk⟩
  subst hf3 hf4 hf5 hf12
  have hkn : arg12.view.read (Elt F) (arg12.view.writes (Elt F) arg12.view.junk
      [(⟨Rect.unit ![0, 0] S8x128.size inb_S8x128_S8x128_0_0, k0_pay71 (st_k0_t1 Variants.none c none i arg3 harg3 arg4 harg4 arg5 harg5 arg6 harg6 arg7 harg7 arg8 harg8 arg9 harg9 arg10 harg10 arg11 harg11 arg12 harg12 hc0 f4 k0_pay69 k0_t1_loop.trips)⟩ : View.Piece (Elt F) S8x128 .f32)]) = norms i hc0 (arg4.view.read (Elt F) f4) := by
    refine (View.read_writes_full arg12.view _ _ _ _).trans ?_
    unfold norms
    rw [loop_norm Variants.none c none i arg3 harg3 arg4 harg4 arg5 harg5 arg6 harg6 arg7 harg7 arg8 harg8 arg9 harg9 arg10 harg10 arg11 harg11 arg12 harg12 hc0 f4 _ le_rfl]
  rw [← hkn]
  by_cases hb : isFast (arg12.view.read (Elt F) (arg12.view.writes (Elt F) arg12.view.junk
      [(⟨Rect.unit ![0, 0] S8x128.size inb_S8x128_S8x128_0_0, k0_pay71 (st_k0_t1 Variants.none c none i arg3 harg3 arg4 harg4 arg5 harg5 arg6 harg6 arg7 harg7 arg8 harg8 arg9 harg9 arg10 harg10 arg11 harg11 arg12 harg12 hc0 f4 k0_pay69 k0_t1_loop.trips)⟩ : View.Piece (Elt F) S8x128 .f32)])) (arg3.view.read (Elt F) f3)
  · sl_exec (disch := first | sl_exact hc0 | exact hb | exact slow_off _ hb)
    have hO : ∀ h, wide (arg8.view.read (Elt F) (arg8.view.writes (Elt F) arg8.view.junk (runFirst.sl.H8_4 c i arg3 harg3 arg4 harg4 arg5 harg5 arg6 harg6 arg7 harg7 arg8 harg8 arg9 harg9 arg10 harg10 arg11 harg11 arg12 harg12 hc0 f3 f4))) h
        = offset (arg12.view.read (Elt F) (arg12.view.writes (Elt F) arg12.view.junk
      [(⟨Rect.unit ![0, 0] S8x128.size inb_S8x128_S8x128_0_0, k0_pay71 (st_k0_t1 Variants.none c none i arg3 harg3 arg4 harg4 arg5 harg5 arg6 harg6 arg7 harg7 arg8 harg8 arg9 harg9 arg10 harg10 arg11 harg11 arg12 harg12 hc0 f4 k0_pay69 k0_t1_loop.trips)⟩ : View.Piece (Elt F) S8x128 .f32)])) (arg3.view.read (Elt F) f3) h := fun h =>
      wide_four arg8.view _ (offset (arg12.view.read (Elt F) (arg12.view.writes (Elt F) arg12.view.junk
      [(⟨Rect.unit ![0, 0] S8x128.size inb_S8x128_S8x128_0_0, k0_pay71 (st_k0_t1 Variants.none c none i arg3 harg3 arg4 harg4 arg5 harg5 arg6 harg6 arg7 harg7 arg8 harg8 arg9 harg9 arg10 harg10 arg11 harg11 arg12 harg12 hc0 f4 k0_pay69 k0_t1_loop.trips)⟩ : View.Piece (Elt F) S8x128 .f32)])) (arg3.view.read (Elt F) f3)) h
    have hz7 : ∀ h, wide (arg7.view.read (Elt F) (arg7.view.writes (Elt F) arg7.view.junk runFirst.sl.H7_1)) h = wide k0_pay24 h := fun h =>
      congrArg (wide · h) (View.read_writes_full arg7.view _ _ _ _)
    have hz9 : ∀ h, wide (arg9.view.read (Elt F) (arg9.view.writes (Elt F) arg9.view.junk runFirst.sl.H9_1)) h = wide k0_pay25 h := fun h =>
      congrArg (wide · h) (View.read_writes_full arg9.view _ _ _ _)
    have hh := head_fast Variants.none c none i arg3 harg3 arg4 harg4 arg5 harg5 arg6 harg6 arg7 harg7 arg8 harg8 arg9 harg9 arg10 harg10 arg11 harg11 arg12 harg12
      f3 f4 f5 _ _ _ _ hO hz7 hz9 hb
    sl_step
    iapply Hk
    unfold left
    isplitl [H3]
    · iapply (owns_at c arg3 f3 _ rfl); iexact H3
    isplitl [H4]
    · iapply (owns_at c arg4 f4 _ rfl); iexact H4
    isplitl [H5]
    · iapply (owns_at c arg5 f5 _ rfl); iexact H5
    isplitl [H6]
    · iapply (owns_of c arg6 _ _)
      isplitl [H6]
      · iexact H6
      ipureintro
      refine block_writes arg6.view f6 _ [] _ _ _ _ _ _ _ _ ?_ ?_ ?_ ?_
      · unfold runFirst.sl.v103 runFirst.sl.v107
        exact hh 0
      · unfold runFirst.sl.r_6
        exact hh 1
      · unfold runFirst.sl.v123 runFirst.sl.v127
        exact hh 2
      · unfold runFirst.sl.v133 runFirst.sl.v137
        exact hh 3
    isplitl [H7]
    · iapply (owns_some c arg7 _); iexact H7
    isplitl [H8]
    · iapply (owns_some c arg8 _); iexact H8
    isplitl [H9]
    · iapply (owns_some c arg9 _); iexact H9
    isplitl [H10]
    · iapply (owns_some c arg10 _); iexact H10
    isplitl [H11]
    · iapply (owns_some c arg11 _); iexact H11
    iapply (owns_of c arg12 _ _)
    isplitl [H12]
    · iexact H12
    ipureintro
    rfl
  · sl_exec (disch := first | sl_exact hc0 | exact hb | exact slow_on _ hb)
    have hz7 : ∀ h, wide (arg7.view.read (Elt F) (arg7.view.writes (Elt F) arg7.view.junk runFirst.sl.H7_1_1)) h = wide k0_pay61 h := fun h =>
      congrArg (wide · h) (View.read_writes_full arg7.view _ _ _ _)
    have hz10 : ∀ h, thin (arg10.view.read (Elt F) (arg10.view.writes (Elt F) arg10.view.junk runFirst.sl.H10_1)) h = thin k0_pay59 h := fun h =>
      congrArg (thin · h) (View.read_writes_full arg10.view _ _ _ _)
    have hz11 : ∀ h, thin (arg11.view.read (Elt F) (arg11.view.writes (Elt F) arg11.view.junk runFirst.sl.H11_1)) h = thin k0_pay60 h := fun h =>
      congrArg (thin · h) (View.read_writes_full arg11.view _ _ _ _)
    have hh := head_slow Variants.none c none i arg3 harg3 arg4 harg4 arg5 harg5 arg6 harg6 arg7 harg7 arg8 harg8 arg9 harg9 arg10 harg10 arg11 harg11 arg12 harg12
      f3 f4 f5 _ _ _ _ hz7 hz10 hz11 hb
    sl_step
    iapply Hk
    unfold left
    isplitl [H3]
    · iapply (owns_at c arg3 f3 _ rfl); iexact H3
    isplitl [H4]
    · iapply (owns_at c arg4 f4 _ rfl); iexact H4
    isplitl [H5]
    · iapply (owns_at c arg5 f5 _ rfl); iexact H5
    isplitl [H6]
    · iapply (owns_of c arg6 _ _)
      isplitl [H6]
      · iexact H6
      ipureintro
      refine block_writes arg6.view f6 _ [] _ _ _ _ _ _ _ _ ?_ ?_ ?_ ?_
      · unfold runFirst.sl.v107_1 runFirst.sl.v109
        exact hh 0
      · unfold runFirst.sl.r_13 runFirst.sl.r_14
        exact hh 1
      · unfold runFirst.sl.v123_1 runFirst.sl.v125
        exact hh 2
      · unfold runFirst.sl.v131 runFirst.sl.v133_1
        exact hh 3
    isplitl [H7]
    · iapply (owns_some c arg7 _); iexact H7
    isplitl [H8]
    · iapply (owns_some c arg8 _); iexact H8
    isplitl [H9]
    · iapply (owns_some c arg9 _); iexact H9
    isplitl [H10]
    · iapply (owns_some c arg10 _); iexact H10
    isplitl [H11]
    · iapply (owns_some c arg11 _); iexact H11
    iapply (owns_of c arg12 _ _)
    isplitl [H12]
    · iexact H12
    ipureintro
    rfl

end Cert.KernelIdeal.Flash

end
-- ==== Proof.Flash.Launch.lean ====
module

public import Idealize.ShloMosaic.Lib.Claim
public import proofs.«01_k».proof.Proof.Gen.KernelIdeal.Frame
public import proofs.«01_k».proof.Proof.Flash.Run
public import Idealize.ShloMosaic.Lib.Pipeline.FrameBody

@[expose] public section

set_option maxRecDepth 16384

/-! # The attention's launch

The greatest squared norm of a request's keys is carried between its query blocks; every block is written once. -/

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The first query block of a request. -/
theorem first_iff (t : Fin cfg0.N) : k0_cond1 (grid0.coords t) = 1#1 ↔ t.val % 8 = 0 := by
  have ht : t.val < 160 := Nat.lt_of_lt_of_eq t.isLt N_0
  have e2 : (grid0.coords t 2).val = t.val / 1 % 8 := Pipeline.Grid.coords_val t 2 (by decide) rfl
  simp only [k0_cond1, e2]
  word_cmp

/-- The measured norm after the body at position `n`. -/
def normAt (c : Dev nD) : (n : ℕ) → n < cfg0.N → Vec F S8x128 .f32
  | 0, hn => norms (grid0.coords ⟨0, hn⟩) ((first_iff ⟨0, hn⟩).mpr rfl) (iblk m c 1 ⟨0, hn⟩)
  | n + 1, hn =>
    if h : (n + 1) % 8 = 0 then norms (grid0.coords ⟨n + 1, hn⟩) ((first_iff ⟨n + 1, hn⟩).mpr h) (iblk m c 1 ⟨n + 1, hn⟩)
    else normAt c n (Nat.lt_of_succ_lt hn)

theorem normAt_first (c : Dev nD) (t : Fin cfg0.N) (h : t.val % 8 = 0) :
    normAt m c t.val t.isLt = norms (grid0.coords t) ((first_iff t).mpr h) (iblk m c 1 t) := by
  obtain ⟨n, hn⟩ := t
  cases n with
  | zero => rfl
  | succ n => exact dif_pos h

theorem normAt_later (c : Dev nD) (t : Fin cfg0.N) (h : ¬ t.val % 8 = 0) :
    normAt m c t.val t.isLt = normAt m c (t.val - 1) (Nat.lt_of_le_of_lt (Nat.sub_le _ _) t.isLt) := by
  obtain ⟨n, hn⟩ := t
  cases n with
  | zero => exact absurd (Nat.zero_mod 8) h
  | succ n => exact dif_neg h

/-- The block written at point `t`. -/
def outAt (c : Dev nD) (t : Fin cfg0.N) : Vec F S1024x512 .bf16 :=
  block (headOut (normAt m c t.val t.isLt) (iblk m c 0 t) (iblk m c 1 t) (iblk m c 2 t))

theorem PhiA0_eq (c : Dev nD) :
    (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA; rw [scopedRest0_eq]; simp only [owns_whole]; try rfl

/-- What is held before position `n`: the scratch, the norm in its own after a first point. -/
def PhiS (c : Dev nD) : (n : ℕ) → n ≤ cfg0.N → sProp 𝕄
  | 0, _ => Pipeline.ΦA spec0 c
  | n + 1, hn => iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ owns (c : Thread nD τ) (Memref.whole cc0_scratch5) fullShare (normAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ owns (c : Thread nD τ) (Memref.whole cc0_scratch5) fullShare (normAt m c n hn)) ∗ (∃ r, prngReg c r)) := rfl

theorem PhiS_pos (c : Dev nD) (n : ℕ) (h : n ≤ cfg0.N) (hz : n ≠ 0) :
    PhiS m c n h = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ owns (c : Thread nD τ) (Memref.whole cc0_scratch5) fullShare (normAt m c (n - 1) (by omega))) ∗ (∃ r, prngReg c r)) := by
  cases n with
  | zero => exact absurd rfl hz
  | succ n => rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- Before a first point the norm's scratch holds anything. -/
theorem Phi_forget (c : Dev nD) (n : ℕ) (h : n ≤ cfg0.N) : PhiS m c n h ⊢ iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  cases n with
  | zero => rw [PhiS_zero m c 0 h rfl, PhiA0_eq]
  | succ n =>
    rw [PhiS_succ]
    iintro ⟨⟨HS0, HS1, HS2, HS3, HS4, HS5⟩, Hg⟩
    isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexists _; iexact HS5
    iexact Hg

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl, after0_0, after0_1, after0_2, after0_3]
  rw [show (dats m 0 c).Φ t.succ = PhiS m c (t.val + 1) t.isLt from rfl, PhiS_succ, PhiS_castSucc m c t]
  unfold outAt
  by_cases h0 : t.val % 8 = 0
  · rw [normAt_first m c t h0]
    iintro ⟨HP, Ho, ⟨%d0, H0⟩, ⟨%d1, H1⟩, ⟨%d2, H2⟩, ⟨%d3, H3⟩⟩
    ihave HP := (Phi_forget m c t.val _) $$ HP
    icases HP with ⟨⟨HS0, HS1, HS2, HS3, HS4, ⟨%d5, HS5⟩⟩, Hg⟩
    iapply (runFirst c (grid0.coords t) _ _ _ _ _ _ _ _ _ _ _ _ _ _ _ _ _ _ _ _ (iblk m c 0 t) (iblk m c 1 t) (iblk m c 2 t) d5 ((first_iff t).mpr h0) Set.univ _)
    isplitl [H0 H1 H2 H3 HS0 HS1 HS2 HS3 HS4 HS5]
    · unfold given
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HS3]; · iexact HS3
      isplitl [HS4]; · iexact HS4
      iexact HS5
    iintro Hleft
    unfold left
    icases Hleft with ⟨H0, H1, H2, H3, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    iexact H3
  · rw [normAt_later m c t h0, PhiS_pos m c _ _ (fun hz => h0 (by rw [hz]))]
    iintro ⟨⟨⟨HS0, HS1, HS2, HS3, HS4, HS5⟩, Hg⟩, Ho, ⟨%d0, H0⟩, ⟨%d1, H1⟩, ⟨%d2, H2⟩, ⟨%d3, H3⟩⟩
    iapply (runLater c (grid0.coords t) _ _ _ _ _ _ _ _ _ _ _ _ _ _ _ _ _ _ _ _ (iblk m c 0 t) (iblk m c 1 t) (iblk m c 2 t) _ (fun h => h0 ((first_iff t).mp h)) Set.univ _)
    isplitl [H0 H1 H2 H3 HS0 HS1 HS2 HS3 HS4 HS5]
    · unfold given
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HS3]; · iexact HS3
      isplitl [HS4]; · iexact HS4
      iexact HS5
    iintro Hleft
    unfold left
    icases Hleft with ⟨H0, H1, H2, H3, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    iexact H3

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  rw [show (dats m 0 c).Φ (Fin.last cfg0.N) = PhiS m c cfg0.N le_rfl from rfl, PhiA0_eq]
  exact Phi_forget m c _ _

set_option backward.isDefEq.respectTransparency.types false in
/-- The launch: every array ends at what the proof data give, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.KernelIdeal.Flash

end
-- ==== Proof.Flash.Frames.lean ====
module

public import proofs.«01_k».proof.Proof.Flash.Launch
public import proofs.«01_k».proof.Proof.Gen.Kernel.Frame
public import proofs.«01_k».proof.Defs

@[expose] public section

set_option maxRecDepth 16384

/-! # The launch's frame at bit patterns -/

noncomputable section

namespace Cert.KernelIdeal.Flash

open Idealize.ShloMosaic Idealize.SL.Sem

/-- A named constant at bit patterns is its pattern. -/
abbrev namedBits : Named Bits := ⟨fun _ _ {φ} b => FloatOps.ofBits φ b⟩

attribute [local instance] namedBits

/-- With a named constant read as its own word, the two bodies are one text. -/
theorem body_bits : @Cert.Kernel.cc0__flash_kernel Bits _ _ = @cc0__flash_kernel Bits _ _ _ := rfl

theorem defs0_bits : @Cert.Kernel.defs₀ Bits _ _ = @defs₀ Bits _ _ _ := by
  unfold Cert.Kernel.defs₀ defs₀
  refine congrArg Defs.onTc ?_
  funext l a
  match l, a with
  | 0, (t, s) => rfl
  | ⟨n + 1, h⟩, _ => exact absurd h (Nat.not_lt.2 (Nat.le_add_left _ _))

theorem defs_bits : @Cert.Kernel.defs Bits _ _ = @defs Bits _ _ _ :=
  congrArg (Pipeline.defs pcfgs) defs0_bits

theorem quiescent_bits : Cert.quiescent_Kernel := fun m ρ _ => by
  have h := frame (F := Bits) m ρ
  rw [← defs_bits] at h
  exact h

end Cert.KernelIdeal.Flash

end
-- ==== Proof.Flash.Softmax.lean ====
module

public import Idealize.ShloMosaic.PureOps.Ideal.Laws
public import Mathlib.Analysis.SpecialFunctions.Pow.Real

@[expose] public section

/-! # Softmax-weighted sums, over the extended reals

The weights are positive real numbers, the values any extended reals. Both ways of taking the sum — a fixed offset, and
a running maximum with rescaling — give `attend`. -/

noncomputable section

namespace Cert.Attention

open Idealize.ShloMosaic

/-- A constant nonnegative real factor distributes over a sum. -/
theorem sum_scale {ι : Type} (s : Finset ι) (a : ℝ) (ha : 0 ≤ a) (f : ι → EReal) :
    ∑ i ∈ s, (a : EReal) * f i = (a : EReal) * ∑ i ∈ s, f i := by
  classical
  induction s using Finset.induction_on with
  | empty => simp
  | insert i s hi ih =>
    rw [Finset.sum_insert hi, Finset.sum_insert hi, ih,
      EReal.left_distrib_of_nonneg_of_ne_top (EReal.coe_nonneg.mpr ha) (EReal.coe_ne_top a)]

theorem coe_sum {ι : Type} (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

theorem coe_max (a b : ℝ) : max (a : EReal) (b : EReal) = ((max a b : ℝ) : EReal) :=
  ((EReal.coe_strictMono.monotone).map_max).symm

/-- The greatest of finitely many reals, begun at `⊥`, is a real. -/
theorem fold_max_real {ι : Type} [Fintype ι] [Nonempty ι] (f : ι → EReal) (h : ∀ i, ∃ r : ℝ, f i = r) :
    ∃ r : ℝ, Finset.fold max ⊥ f Finset.univ = r := by
  classical
  have key : ∀ s : Finset ι, s.Nonempty → ∃ r : ℝ, Finset.fold max ⊥ f s = r := fun s hs => by
    induction hs using Finset.Nonempty.cons_induction with
    | singleton i =>
      obtain ⟨r, hr⟩ := h i
      exact ⟨r, by rw [Finset.fold_singleton, hr]; simp⟩
    | cons i s hi hs ih =>
      obtain ⟨r, hr⟩ := h i
      obtain ⟨r', hr'⟩ := ih
      exact ⟨max r r', by rw [Finset.fold_cons, hr, hr', coe_max]⟩
  exact key _ Finset.univ_nonempty

/-- The softmax-weighted sum of the values `v`, of scores `s` divided by `√128`. -/
def attend (s : Fin 8192 → ℝ) (v : Fin 8192 → EReal) : EReal :=
  ∑ j, ((Real.exp (s j / Real.sqrt 128) / ∑ i, Real.exp (s i / Real.sqrt 128) : ℝ) : EReal) * v j

/-- Dividing at the end, by weights known up to a common factor `a`. -/
theorem attend_of_scaled (s : Fin 8192 → ℝ) (v : Fin 8192 → EReal) (a : ℝ) (ha : 0 < a) :
    Ideal.div (∑ j, ((a * Real.exp (s j / Real.sqrt 128) : ℝ) : EReal) * v j)
      ((∑ j, a * Real.exp (s j / Real.sqrt 128) : ℝ) : EReal) = attend s v := by
  have hL : 0 < ∑ i, Real.exp (s i / Real.sqrt 128) :=
    Finset.sum_pos (fun i _ => Real.exp_pos _) Finset.univ_nonempty
  rw [← Finset.mul_sum, Ideal.div_coe (by positivity), EReal.mul_comm, ← sum_scale _ _ (by positivity)]
  refine Finset.sum_congr rfl fun j _ => ?_
  rw [← mul_assoc, ← EReal.coe_mul]
  congr 2
  field_simp

/-- `exp2`'s scale: `1 / (√128 · log 2)`. -/
def scale2 : ℝ := (Real.sqrt 128)⁻¹ * (Real.log 2)⁻¹

theorem scale2_pos : 0 < scale2 := by
  unfold scale2
  have := Real.log_pos (by norm_num : (1 : ℝ) < 2)
  positivity

theorem exp2_scale (x y : ℝ) : Real.rpow 2 (x * scale2 - y) = Real.rpow 2 (-y) * Real.exp (x / Real.sqrt 128) := by
  have hl := Real.log_pos (by norm_num : (1 : ℝ) < 2)
  show (2 : ℝ) ^ (x * scale2 - y) = 2 ^ (-y) * Real.exp (x / Real.sqrt 128)
  rw [sub_eq_add_neg, Real.rpow_add (by norm_num), mul_comm]
  congr 1
  rw [Real.rpow_def_of_pos (by norm_num)]
  congr 1
  unfold scale2
  field_simp

/-- The sum over the first `n` pieces of `w` places each. -/
def upto {M : Type} [AddCommMonoid M] (f : Fin 8192 → M) (N : ℕ) : M :=
  ∑ j ∈ Finset.range N, if h : j < 8192 then f ⟨j, h⟩ else 0

theorem upto_zero {M : Type} [AddCommMonoid M] (f : Fin 8192 → M) : upto f 0 = 0 := Finset.sum_range_zero _

theorem upto_all {M : Type} [AddCommMonoid M] (f : Fin 8192 → M) : upto f 8192 = ∑ j, f j := by
  unfold upto
  rw [Finset.sum_range]
  exact Finset.sum_congr rfl fun j _ => dif_pos j.isLt

theorem upto_add {M : Type} [AddCommMonoid M] (f : Fin 8192 → M) (N w : ℕ) (h : N + w ≤ 8192) :
    upto f (N + w) = upto f N + ∑ r : Fin w, f ⟨N + r.val, by have := r.isLt; omega⟩ := by
  unfold upto
  rw [Finset.sum_range_add, Finset.sum_range (n := w)]
  exact congrArg (_ + ·) (Finset.sum_congr rfl fun r _ => dif_pos _)

theorem coe_upto (f : Fin 8192 → ℝ) (N : ℕ) : upto (fun j => ((f j : ℝ) : EReal)) N = ((upto f N : ℝ) : EReal) := by
  unfold upto
  rw [← coe_sum]
  refine Finset.sum_congr rfl fun j _ => ?_
  split
  · rfl
  · rfl

theorem upto_scale (f : Fin 8192 → EReal) (a : ℝ) (ha : 0 ≤ a) (N : ℕ) :
    upto (fun j => (a : EReal) * f j) N = (a : EReal) * upto f N := by
  unfold upto
  rw [← sum_scale _ _ ha]
  refine Finset.sum_congr rfl fun j _ => ?_
  split
  · rfl
  · rw [mul_zero]

/-- The running maximum's state after the first `N` keys: nothing yet, or a real maximum with both sums relative to it. -/
def Running (s : Fin 8192 → ℝ) (v : Fin 8192 → EReal) (N : ℕ) (mx l a : EReal) : Prop :=
  (N = 0 ∧ mx = ⊥ ∧ l = 0 ∧ a = 0) ∨ ∃ μ : ℝ, mx = μ
    ∧ l = upto (fun j => ((Real.rpow 2 (s j * scale2 - μ * scale2) : ℝ) : EReal)) N
    ∧ a = upto (fun j => ((Real.rpow 2 (s j * scale2 - μ * scale2) : ℝ) : EReal) * v j) N

/-- One piece of keys more, with the new maximum `mx'` any real. -/
theorem Running.step {s : Fin 8192 → ℝ} {v : Fin 8192 → EReal} {N : ℕ} {mx l a : EReal} (h : Running s v N mx l a)
    (w : ℕ) (hw : N + w ≤ 8192) (b : ℝ) :
    Running s v (N + w) (max mx b)
      (Ideal.exp2 ((mx - max mx b) * (scale2 : EReal)) * l
        + ∑ r : Fin w, Ideal.exp2 ((s ⟨N + r.val, by have := r.isLt; omega⟩ : EReal) * (scale2 : EReal) - max mx b * (scale2 : EReal)))
      (Ideal.exp2 ((mx - max mx b) * (scale2 : EReal)) * a
        + ∑ r : Fin w, Ideal.exp2 ((s ⟨N + r.val, by have := r.isLt; omega⟩ : EReal) * (scale2 : EReal) - max mx b * (scale2 : EReal))
          * v ⟨N + r.val, by have := r.isLt; omega⟩) := by
  have piece : ∀ (μ : ℝ) (j : Fin 8192), Ideal.exp2 ((s j : EReal) * (scale2 : EReal) - (μ : EReal) * (scale2 : EReal))
      = ((Real.rpow 2 (s j * scale2 - μ * scale2) : ℝ) : EReal) := fun μ j => by
    rw [← EReal.coe_mul, ← EReal.coe_mul, ← EReal.coe_sub, Ideal.exp2_coe]
  right
  rcases h with ⟨rfl, rfl, rfl, rfl⟩ | ⟨μ, rfl, rfl, rfl⟩
  · refine ⟨b, by simp, ?_, ?_⟩
    · rw [upto_add _ _ _ hw, upto_zero, mul_zero, max_eq_right bot_le]
      simp only [piece]
    · rw [upto_add _ _ _ hw, upto_zero, mul_zero, max_eq_right bot_le]
      simp only [piece]
  · rw [coe_max]
    have hα : Ideal.exp2 (((μ : EReal) - ((max μ b : ℝ) : EReal)) * (scale2 : EReal))
        = ((Real.rpow 2 ((μ - max μ b) * scale2) : ℝ) : EReal) := by
      rw [← EReal.coe_sub, ← EReal.coe_mul, Ideal.exp2_coe]
    have hm : ∀ x : ℝ, Real.rpow 2 ((μ - max μ b) * scale2) * Real.rpow 2 (x * scale2 - μ * scale2)
        = Real.rpow 2 (x * scale2 - max μ b * scale2) := fun x => by
      show (2 : ℝ) ^ ((μ - max μ b) * scale2) * (2 : ℝ) ^ (x * scale2 - μ * scale2) = (2 : ℝ) ^ (x * scale2 - max μ b * scale2)
      rw [← Real.rpow_add (by norm_num)]
      congr 1
      ring
    have hp : (0 : ℝ) ≤ Real.rpow 2 ((μ - max μ b) * scale2) := Real.rpow_nonneg (by norm_num) _
    refine ⟨max μ b, rfl, ?_, ?_⟩
    · rw [upto_add _ _ _ hw, hα, ← upto_scale _ _ hp]
      simp only [piece]
      simp only [← EReal.coe_mul, hm]
    · rw [upto_add _ _ _ hw, hα, ← upto_scale _ _ hp]
      simp only [piece]
      simp only [← mul_assoc, ← EReal.coe_mul, hm]

/-- After all keys the quotient is the attention. -/
theorem Running.end {s : Fin 8192 → ℝ} {v : Fin 8192 → EReal} {mx l a : EReal} (h : Running s v 8192 mx l a) :
    Ideal.div a l = attend s v := by
  refine h.elim (fun h0 => absurd h0.1 (Nat.succ_ne_zero 8191)) fun ⟨μ, hm, hl, ha⟩ => ?_
  · rw [hl, ha, coe_upto, upto_all (M := ℝ), upto_all (M := EReal)]
    simp only [exp2_scale]
    exact attend_of_scaled s v _ (Real.rpow_pos_of_pos (by norm_num) _)

/-- The fixed offset `o`, any real: the quotient of the two sums is the attention. -/
theorem attend_fixed (s : Fin 8192 → ℝ) (v : Fin 8192 → EReal) (o : ℝ) :
    Ideal.div (∑ j, Ideal.exp2 ((s j : EReal) * (scale2 : EReal) - (o : EReal)) * v j)
      (∑ j, Ideal.exp2 ((s j : EReal) * (scale2 : EReal) - (o : EReal))) = attend s v := by
  have piece : ∀ j : Fin 8192, Ideal.exp2 ((s j : EReal) * (scale2 : EReal) - (o : EReal))
      = ((Real.rpow 2 (-o) * Real.exp (s j / Real.sqrt 128) : ℝ) : EReal) := fun j => by
    rw [← EReal.coe_mul, ← EReal.coe_sub, Ideal.exp2_coe, exp2_scale]
  simp only [piece]
  rw [coe_sum]
  exact attend_of_scaled s v _ (Real.rpow_pos_of_pos (by norm_num) _)

/-- The reference's weights: exponentials relative to any real `M`, normalised before the sum. -/
theorem attend_normalised (s : Fin 8192 → ℝ) (v : Fin 8192 → EReal) (M : ℝ) :
    ∑ j, v j * Ideal.div (Ideal.exp (Ideal.div (s j : EReal) (Ideal.sqrt ((128 : ℝ) : EReal)) - (M : EReal)))
        (∑ i, Ideal.exp (Ideal.div (s i : EReal) (Ideal.sqrt ((128 : ℝ) : EReal)) - (M : EReal))) = attend s v := by
  have hs : Ideal.sqrt ((128 : ℝ) : EReal) = ((Real.sqrt 128 : ℝ) : EReal) := by
    rw [Ideal.sqrt_coe, if_neg (by norm_num)]
  have h0 : Real.sqrt 128 ≠ 0 := (Real.sqrt_pos.mpr (by norm_num)).ne'
  have piece : ∀ j : Fin 8192, Ideal.exp (Ideal.div (s j : EReal) (Ideal.sqrt ((128 : ℝ) : EReal)) - (M : EReal))
      = ((Real.exp (-M) * Real.exp (s j / Real.sqrt 128) : ℝ) : EReal) := fun j => by
    rw [hs, Ideal.div_coe h0, ← EReal.coe_mul, ← EReal.coe_sub, Ideal.exp_coe, ← Real.exp_add]
    congr 2
    ring
  have hL : 0 < ∑ i, Real.exp (s i / Real.sqrt 128) :=
    Finset.sum_pos (fun i _ => Real.exp_pos _) Finset.univ_nonempty
  have hM := Real.exp_pos (-M)
  simp only [piece]
  rw [coe_sum, ← Finset.mul_sum]
  unfold attend
  refine Finset.sum_congr rfl fun j _ => ?_
  rw [Ideal.div_coe (by positivity), EReal.mul_comm, ← EReal.coe_mul]
  congr 2
  field_simp

/-- The attention's result at row `R`, column `C`: rows go by requests of 8192, columns by heads of 128, four query heads
a key head. -/
def answer (q : Fin 81920 → Fin 1024 → ℝ) (k : Fin 81920 → Fin 256 → ℝ) (v : Fin 81920 → Fin 256 → EReal)
    (R : Fin 81920) (C : Fin 1024) : EReal :=
  attend
    (fun j => ∑ y : Fin 128, q R ⟨128 * (C.val / 128) + y.val, by have := C.isLt; have := y.isLt; omega⟩
      * k ⟨8192 * (R.val / 8192) + j.val, by have := R.isLt; have := j.isLt; omega⟩
          ⟨128 * (C.val / 512) + y.val, by have := C.isLt; have := y.isLt; omega⟩)
    (fun j => v ⟨8192 * (R.val / 8192) + j.val, by have := R.isLt; have := j.isLt; omega⟩
      ⟨128 * (C.val / 512) + C.val % 128, by have := C.isLt; omega⟩)

end Cert.Attention

end
-- ==== Proof.Flash.Payload.lean ====
module

public import proofs.«01_k».proof.Proof.Flash.Block
public import proofs.«01_k».proof.Proof.Flash.Softmax
public import Idealize.ShloMosaic.PureOps.IdealRules
public import Idealize.ShloMosaic.Lib.Pipeline.Value
public import Idealize.ShloMosaic.Lib.Pointwise

@[expose] public section

set_option maxRecDepth 16384

/-! # The steps of the attention, at an entry -/

noncomputable section

namespace Cert.KernelIdeal.Flash

open Cert.KernelIdeal Cert.KernelIdeal.Gen Cert.Attention
open Idealize.ShloMosaic

theorem named_scale : Named.named (F := Ideal) κ "exp2_scale" (φ := .f32) 0x3E0293EE#32 = ((scale2 : ℝ) : EReal) := by
  show (κ "exp2_scale").getD _ = _
  rw [show κ "exp2_scale" = some ((scale2 : ℝ) : EReal) from rfl]
  rfl

/-- Minus infinity, where a maximum begins. -/
theorem minus_infinity : Ideal.ofBits .f32 0xFF800000#32 = ⊥ := by simp [Ideal.ofBits, Ideal.ieee]

theorem qHead_at (q : Vec Ideal S1024x512 .bf16) (h : Fin 4) (r : Fin 1024) (d : Fin 128) :
    qHead q h (ix2 r d) = q (ix2 r ⟨128 * h.val + d.val, by have := h.isLt; have := d.isLt; omega⟩) := by
  pointwise [qHead]

section Slow

variable (k v : Vec Ideal S512x128 .bf16) (q : Vec Ideal S1024x128 .bf16) (mx l : Vec Ideal S1x1024x1 .f32)
  (acc : Vec Ideal S1x1024x128 .f32) (r : Fin 1024) (d : Fin 128)

/-- The greatest score of row `r` among the trip's keys. -/
abbrev best : EReal := Finset.fold max ⊥ (fun x : Fin 512 => ∑ y : Fin 128, q (ix2 r y) * k (ix2 x y)) Finset.univ

theorem pay40_at : k0_pay40 (F := Ideal) k q mx (ix2 r 0) = max (mx (ix3 0 r 0)) (best k q r) := by
  pointwise [k0_pay40, k0_pay39, k0_pay38]
  rw [minus_infinity]

theorem pay46_at (x : FVec Ideal S1024x1 .f32) : k0_pay46 x (ix3 0 r 0) = x (ix2 r 0) := by pointwise [k0_pay46]
theorem pay44_at (x : FVec Ideal S1024x1 .f32) : k0_pay44 x (ix3 0 r 0) = x (ix2 r 0) := by pointwise [k0_pay44]

theorem pay41_at : k0_pay41 (F := Ideal) k q mx (ix2 r 0)
    = Ideal.exp2 ((mx (ix3 0 r 0) - max (mx (ix3 0 r 0)) (best k q r)) * ((scale2 : ℝ) : EReal)) := by
  unfold k0_pay41
  have h := pay40_at k q mx r
  generalize k0_pay40 (F := Ideal) k q mx = x at *
  rw [← h]
  pointwise [k0_pay39]
  rw [named_scale]
  rfl

theorem pay42_at (j : Fin 512) : k0_pay42 (F := Ideal) k q mx (ix2 r j)
    = Ideal.exp2 ((∑ y : Fin 128, q (ix2 r y) * k (ix2 j y)) * ((scale2 : ℝ) : EReal)
        - max (mx (ix3 0 r 0)) (best k q r) * ((scale2 : ℝ) : EReal)) := by
  unfold k0_pay42
  have h := pay40_at k q mx r
  generalize k0_pay40 (F := Ideal) k q mx = x at *
  rw [← h]
  pointwise [k0_pay38]
  rw [named_scale]
  rfl

theorem pay43_at : k0_pay43 (F := Ideal) k q mx l (ix2 r 0)
    = k0_pay41 (F := Ideal) k q mx (ix2 r 0) * l (ix3 0 r 0) + ∑ x : Fin 512, k0_pay42 (F := Ideal) k q mx (ix2 r x) := by
  unfold k0_pay43
  generalize k0_pay41 (F := Ideal) k q mx = a
  generalize k0_pay42 (F := Ideal) k q mx = b
  pointwise

theorem pay45_at (a : FVec Ideal S1024x1 .f32) (p : FVec Ideal S1024x512 .f32) :
    k0_pay45 (F := Ideal) v a p acc (ix3 0 r d) = a (ix2 r 0) * acc (ix3 0 r d) + ∑ x : Fin 512, p (ix2 r x) * v (ix2 x d) := by
  pointwise [k0_pay45]

theorem pay6_at : k0_pay6 (F := Ideal) acc l (ix2 r d) = Ideal.div (acc (ix3 0 r d)) (l (ix3 0 r 0)) := by pointwise [k0_pay6]

end Slow

section Fast

variable (k v : Vec Ideal S2048x128 .bf16) (q : Vec Ideal S1024x128 .bf16) (off l : Vec Ideal S1x1024x128 .f32)
  (acc : Vec Ideal S1x1024x128 .f32) (r : Fin 1024) (d : Fin 128)

theorem pay8_at (x : Fin 2048) : k0_pay8 (F := Ideal) k q off (ix2 r x)
    = Ideal.exp2 ((∑ y : Fin 128, q (ix2 r y) * k (ix2 x y)) * ((scale2 : ℝ) : EReal)
        - off (ix3 0 r ⟨x.val % 128, Nat.mod_lt _ (by norm_num)⟩)) := by
  have h := concatenate_replicate_apply (t := S1024x2048) 1 16 (shapeCast S1024x128 off shapeCasts_S1x1024x128_S1024x128)
    concatenates_S1024x128_S1024x128_S1024x128_S1024x128_S1024x128_S1024x128_S1024x128_S1024x128_S1024x128_S1024x128_S1024x128_S1024x128_S1024x128_S1024x128_S1024x128_S1024x128_S1024x2048_d1
    rfl (ix2 r x) (ix2 r ⟨x.val % 128, Nat.mod_lt _ (by norm_num)⟩) rfl
    (fun b hb => by match b with | ⟨0, _⟩ => rfl | ⟨1, _⟩ => exact absurd rfl hb)
  refine (congrArg (fun z : EReal => Ideal.exp2 ((mulf (F := Ideal) (matmul dot_S1024x128_S2048x128_S1024x2048_1_1_0_0_n_n none q k
    (constant S1024x2048 .f32 0x00000000#32)) (broadcast S1024x2048 (Named.named κ "exp2_scale" (φ := .f32) 0x3E0293EE#32)) (ix2 r x) : EReal) - z)) h).trans ?_
  pointwise
  rw [named_scale]

theorem pay9_at : k0_pay9 (F := Ideal) k q off (ix2 r d)
    = ∑ t : Fin 16, k0_pay8 (F := Ideal) k q off (ix2 r ⟨128 * t.val + d.val, by have := t.isLt; have := d.isLt; omega⟩) := by
  unfold k0_pay9
  generalize k0_pay8 (F := Ideal) k q off = p
  pointwise
  simp only [Fin.sum_univ_castSucc, Finset.univ_eq_empty, Finset.sum_empty, zero_add, Fin.val_castSucc, Fin.val_last, Nat.mul_zero,
    Nat.zero_add]

theorem pay10_at (x : FVec Ideal S1024x128 .f32) : k0_pay10 (F := Ideal) x l (ix3 0 r d) = l (ix3 0 r d) + x (ix2 r d) := by
  pointwise [k0_pay10]

theorem pay11_at (p : FVec Ideal S1024x2048 .f32) :
    k0_pay11 (F := Ideal) v p acc (ix3 0 r d) = acc (ix3 0 r d) + ∑ x : Fin 2048, p (ix2 r x) * v (ix2 x d) := by
  pointwise [k0_pay11]

theorem pay3_at : k0_pay3 (F := Ideal) l acc (ix2 r d) = Ideal.div (acc (ix3 0 r d)) (∑ x : Fin 128, l (ix3 0 r x)) := by
  pointwise [k0_pay3]

end Fast

section Bound

variable (kn : Vec Ideal S1x1 .f32) (q : Vec Ideal S1024x128 .bf16) (r : Fin 1024) (d : Fin 128)

theorem pay72_at : k0_pay72 (F := Ideal) kn q (ix2 r 0)
    = Ideal.sqrt ((∑ x : Fin 128, q (ix2 r x) * q (ix2 r x)) * kn (ix2 0 0)) * Ideal.ofBits .f32 0x3F8020C5#32 := by
  pointwise [k0_pay72]

theorem pay74_at : k0_pay74 (F := Ideal) kn q (ix3 0 r d)
    = k0_pay72 (F := Ideal) kn q (ix2 r 0) * ((scale2 : ℝ) : EReal) := by
  unfold k0_pay74
  generalize k0_pay72 (F := Ideal) kn q = x
  pointwise
  rw [named_scale]

theorem pay70_at (k : Vec Ideal S512x128 .bf16) : k0_pay70 (F := Ideal) kn k (ix2 0 0)
    = max (kn (ix2 0 0)) (Finset.fold max ⊥ (fun x : Fin 512 => ∑ y : Fin 128, k (ix2 x y) * k (ix2 x y)) Finset.univ) := by
  pointwise [k0_pay70]
  rw [minus_infinity]

theorem pay71_at (x : FVec Ideal S1x1 .f32) : first (F := Ideal) (k0_pay71 x) (ix2 0 0) = x (ix2 0 0) := by
  pointwise [first, k0_pay71]

theorem pay69_at : k0_pay69 (F := Ideal) (ix2 0 0) = 0 := by
  pointwise [k0_pay69]

theorem pay59_at (h : Fin 4) : thin (F := Ideal) (k0_pay59 (F := Ideal)) h (ix3 0 r 0) = ⊥ := by
  pointwise [thin, k0_pay59]
  exact minus_infinity
theorem pay60_at (h : Fin 4) : thin (F := Ideal) (k0_pay60 (F := Ideal)) h (ix3 0 r 0) = 0 := by
  pointwise [thin, k0_pay60]
theorem pay61_at (h : Fin 4) : wide (F := Ideal) (k0_pay61 (F := Ideal)) h (ix3 0 r d) = 0 := by
  pointwise [wide, k0_pay61]
theorem pay24_at (h : Fin 4) : wide (F := Ideal) (k0_pay24 (F := Ideal)) h (ix3 0 r d) = 0 := by
  pointwise [wide, k0_pay24]
theorem pay25_at (h : Fin 4) : wide (F := Ideal) (k0_pay25 (F := Ideal)) h (ix3 0 r d) = 0 := by
  pointwise [wide, k0_pay25]

end Bound

end Cert.KernelIdeal.Flash

end
-- ==== Proof.Flash.Values.lean ====
module

public import proofs.«01_k».proof.Proof.Flash.Payload

@[expose] public section

set_option maxRecDepth 16384

/-! # One query block's results are the attention of its rows

The queries and keys are real, the values any extended reals. -/

noncomputable section

namespace Cert.KernelIdeal.Flash

open Cert.KernelIdeal Cert.KernelIdeal.Gen Cert.Attention
open Idealize.ShloMosaic

theorem trips1 : k0_t1_loop.trips = 16 := by decide
theorem trips2 : k0_t2_loop.trips = 4 := by decide
theorem trips3 : k0_t3_loop.trips = 16 := by decide

theorem bound1 (n : Fin k0_t1_loop.trips) : n.val < 16 := lt_of_lt_of_eq n.isLt trips1
theorem bound2 (n : Fin k0_t2_loop.trips) : n.val < 4 := lt_of_lt_of_eq n.isLt trips2
theorem bound3 (n : Fin k0_t3_loop.trips) : n.val < 16 := lt_of_lt_of_eq n.isLt trips3

theorem off1_eq (n : Fin k0_t1_loop.trips) : k0_off1 n = ![512 * n.val, 0] := by revert n; decide
theorem off2_eq (n : Fin k0_t2_loop.trips) : k0_off2 n = ![2048 * n.val, 0] := by revert n; decide
theorem off3_eq (n : Fin k0_t3_loop.trips) : k0_off3 n = ![512 * n.val, 0] := by revert n; decide

/-- The score of query row `r`, head `h`, against key `j`. -/
def score (q : S1024x512.Idx → ℝ) (k : S8192x128.Idx → ℝ) (h : Fin 4) (r : Fin 1024) (j : Fin 8192) : ℝ :=
  ∑ y : Fin 128, q (ix2 r ⟨128 * h.val + y.val, by have := h.isLt; have := y.isLt; omega⟩) * k (ix2 j y)

theorem rows_at {n w : ℕ} (k : Vec Ideal S8192x128 .bf16) (o : Fin 2 → ℕ) (ho : o = ![n, 0])
    (hb : ∀ a, o a + (![w, 128] : Fin 2 → ℕ) a ≤ S8192x128.size a) (x : Fin w) (d : Fin 128) (hx : n + x.val < 8192) :
    View.ld k (Rect.unit (s := S8192x128) o ![w, 128] hb) (ix2 x d) = k (ix2 ⟨n + x.val, hx⟩ d) := by
  subst ho
  show k _ = k _
  congr 1
  funext a
  match a with
  | ⟨0, _⟩ => exact Fin.ext (by show n + 1 * x.val = n + x.val; omega)
  | ⟨1, _⟩ => exact Fin.ext (by show 0 + 1 * d.val = d.val; omega)

theorem rows512_at (k : Vec Ideal S8192x128 .bf16) (n : Fin k0_t3_loop.trips) (x : Fin 512) (d : Fin 128) :
    rows512 k n (ix2 x d) = k (ix2 ⟨512 * n.val + x.val, by have := bound3 n; have := x.isLt; omega⟩ d) :=
  rows_at k _ (off3_eq n) _ x d _

theorem rows2048_at (k : Vec Ideal S8192x128 .bf16) (n : Fin k0_t2_loop.trips) (x : Fin 2048) (d : Fin 128) :
    rows2048 k n (ix2 x d) = k (ix2 ⟨2048 * n.val + x.val, by have := bound2 n; have := x.isLt; omega⟩ d) :=
  rows_at k _ (off2_eq n) _ x d _

theorem keysN_at (i : grid0.Coords) (h1 : k0_cond1 i = 1#1) (k : Vec Ideal S8192x128 .bf16) (n : Fin k0_t1_loop.trips)
    (x : Fin 512) (d : Fin 128) :
    keysN i h1 k n (ix2 x d) = k (ix2 ⟨512 * n.val + x.val, by have := bound1 n; have := x.isLt; omega⟩ d) :=
  rows_at k _ (off1_eq n) _ x d _

variable (q : Vec Ideal S1024x512 .bf16) (k v : Vec Ideal S8192x128 .bf16) (q' : S1024x512.Idx → ℝ) (k' : S8192x128.Idx → ℝ)
  (hq : ∀ i, q i = ((q' i : ℝ) : EReal)) (hk : ∀ i, k i = ((k' i : ℝ) : EReal))
  (h : Fin 4) (r : Fin 1024) (d : Fin 128)

/-- The values of lane `d`. -/
abbrev lane : Fin 8192 → EReal := fun j => v (ix2 j d)

include hq hk

theorem dot_real (j : Fin 8192) : ∑ y : Fin 128, qHead q h (ix2 r y) * k (ix2 j y) = ((score q' k' h r j : ℝ) : EReal) := by
  unfold score
  rw [← coe_sum]
  refine Finset.sum_congr rfl fun y _ => ?_
  rw [qHead_at, hq, hk, EReal.coe_mul]

/-! ## The running maximum -/

theorem running (n : ℕ) (hn : n ≤ 16) :
    Running (score q' k' h r) (lane v d) (512 * n) (maxSlow q k h n (ix3 0 r 0)) (sumSlow q k h n (ix3 0 r 0))
      (accSlow q k v h n (ix3 0 r d)) := by
  induction n with
  | zero => exact .inl ⟨rfl, pay59_at r h, pay60_at r h, pay61_at r d h⟩
  | succ n ih =>
    have hn' : n < k0_t3_loop.trips := by rw [trips3]; omega
    have ih := ih (by omega)
    have hd : ∀ x : Fin 512, ∑ y : Fin 128, qHead q h (ix2 r y) * rows512 k ⟨n, hn'⟩ (ix2 x y)
        = ((score q' k' h r ⟨512 * n + x.val, by have := x.isLt; omega⟩ : ℝ) : EReal) := fun x => by
      simp only [rows512_at]
      exact dot_real q k q' k' hq hk h r _
    obtain ⟨b, hb⟩ : ∃ b : ℝ, best (rows512 k ⟨n, hn'⟩) (qHead q h) r = b := fold_max_real _ fun x => ⟨_, hd x⟩
    have step := ih.step 512 (by omega) b
    rw [maxSlow, sumSlow, accSlow, dif_pos hn', dif_pos hn', dif_pos hn', pay46_at, pay44_at, pay43_at, pay45_at, pay40_at]
    simp only [pay41_at, pay42_at, hd, hb]
    simp only [rows512_at]
    exact step

theorem headSlow_at : headSlow q k v h (ix2 r d) = attend (score q' k' h r) (lane v d) := by
  unfold headSlow
  rw [pay6_at, trips3]
  exact (running q k v q' k' hq hk h r d 16 le_rfl).end

/-! ## The fixed offset -/

section Fast

variable (off : Fin 4 → Vec Ideal S1x1024x128 .f32) (o : ℝ) (ho : ∀ x, off h (ix3 0 r x) = ((o : ℝ) : EReal))

/-- Key `j`'s weight. -/
abbrev weight (s : Fin 8192 → ℝ) (o : ℝ) (j : Fin 8192) : EReal := Ideal.exp2 ((s j : EReal) * ((scale2 : ℝ) : EReal) - (o : EReal))

include ho

theorem weight_at (n : Fin k0_t2_loop.trips) (x : Fin 2048) :
    k0_pay8 (rows2048 k n) (qHead q h) (off h) (ix2 r x)
      = weight (score q' k' h r) o ⟨2048 * n.val + x.val, by have := bound2 n; have := x.isLt; omega⟩ := by
  rw [pay8_at, ho]
  simp only [rows2048_at]
  rw [dot_real q k q' k' hq hk h r]

theorem accFast_at (n : ℕ) (hn : n ≤ 4) :
    accFast q k v off h n (ix3 0 r d) = upto (fun j => weight (score q' k' h r) o j * lane v d j) (2048 * n) := by
  induction n with
  | zero => exact (pay24_at r d h).trans (upto_zero _).symm
  | succ n ih =>
    have hn' : n < k0_t2_loop.trips := by rw [trips2]; omega
    rw [accFast, dif_pos hn', pay11_at, ih (by omega), show 2048 * (n + 1) = 2048 * n + 2048 from rfl, upto_add _ _ _ (by omega)]
    simp only [weight_at q k q' k' hq hk h r off o ho, rows2048_at]

omit hq hk ho in
theorem sum_lanes {M : Type} [AddCommMonoid M] (f : Fin 2048 → M) :
    ∑ x : Fin 2048, f x = ∑ l : Fin 128, ∑ t : Fin 16, f ⟨128 * t.val + l.val, by have := t.isLt; have := l.isLt; omega⟩ := by
  rw [Finset.sum_comm, ← Finset.sum_product', ← (finProdFinEquiv (m := 16) (n := 128)).sum_comp]
  refine Finset.sum_congr rfl fun p _ => congrArg f (Fin.ext ?_)
  show p.2.val + 128 * p.1.val = 128 * p.1.val + p.2.val
  exact Nat.add_comm _ _

theorem sumFast_at (n : ℕ) (hn : n ≤ 4) :
    ∑ l : Fin 128, sumFast q k off h n (ix3 0 r l) = upto (weight (score q' k' h r) o) (2048 * n) := by
  induction n with
  | zero => exact (Finset.sum_congr rfl fun l _ => pay25_at r l h).trans (Finset.sum_const_zero.trans (upto_zero _).symm)
  | succ n ih =>
    have hn' : n < k0_t2_loop.trips := by rw [trips2]; omega
    rw [show 2048 * (n + 1) = 2048 * n + 2048 from rfl, upto_add _ _ _ (by omega), ← ih (by omega), sum_lanes,
      ← Finset.sum_add_distrib]
    refine Finset.sum_congr rfl fun l _ => ?_
    rw [sumFast, dif_pos hn', pay10_at, pay9_at]
    simp only [weight_at q k q' k' hq hk h r off o ho]

theorem headFast_at : headFast q k v off h (ix2 r d) = attend (score q' k' h r) (lane v d) := by
  unfold headFast
  rw [pay3_at, trips2, sumFast_at q k q' k' hq hk h r off o ho 4 le_rfl, accFast_at q k v q' k' hq hk h r d off o ho 4 le_rfl,
    show 2048 * 4 = 8192 from rfl, upto_all, upto_all]
  exact attend_fixed _ _ o

end Fast

/-! ## The bound -/

section Bound

omit hk in
theorem offset_real (kn : Vec Ideal S8x128 .f32) (a : ℝ) (ha : 0 ≤ a) (hkn : first kn (ix2 0 0) = ((a : ℝ) : EReal)) :
    ∃ o : ℝ, ∀ x : Fin 128, offset kn q h (ix3 0 r x) = ((o : ℝ) : EReal) := by
  have hs : ∑ x : Fin 128, qHead q h (ix2 r x) * qHead q h (ix2 r x)
      = ((∑ x : Fin 128, q' (ix2 r ⟨128 * h.val + x.val, by have := h.isLt; have := x.isLt; omega⟩)
          * q' (ix2 r ⟨128 * h.val + x.val, by have := h.isLt; have := x.isLt; omega⟩) : ℝ) : EReal) := by
    rw [← coe_sum]
    refine Finset.sum_congr rfl fun x _ => ?_
    rw [qHead_at, hq, EReal.coe_mul]
  obtain ⟨b, hb⟩ : ∃ b : ℝ, Ideal.ofBits .f32 0x3F8020C5#32 = (b : EReal) := by
    refine ⟨8396997 * ((2 : ℝ) ^ 23)⁻¹, ?_⟩
    simp [Ideal.ofBits, Ideal.ieee]
  have hp : 0 ≤ ∑ x : Fin 128, q' (ix2 r ⟨128 * h.val + x.val, by have := h.isLt; have := x.isLt; omega⟩)
          * q' (ix2 r ⟨128 * h.val + x.val, by have := h.isLt; have := x.isLt; omega⟩) :=
    Finset.sum_nonneg fun x _ => mul_self_nonneg _
  refine ⟨Real.sqrt ((∑ x : Fin 128, q' (ix2 r ⟨128 * h.val + x.val, by have := h.isLt; have := x.isLt; omega⟩)
          * q' (ix2 r ⟨128 * h.val + x.val, by have := h.isLt; have := x.isLt; omega⟩)) * a) * b * scale2, fun x => ?_⟩
  unfold offset
  rw [pay74_at, pay72_at, hs, hkn, hb, ← EReal.coe_mul, Ideal.sqrt_coe, if_neg (not_lt.mpr (mul_nonneg hp ha)),
    ← EReal.coe_mul, ← EReal.coe_mul]

omit hq in
theorem norms_real (i : grid0.Coords) (h1 : k0_cond1 i = 1#1) :
    ∃ a : ℝ, 0 ≤ a ∧ first (norms i h1 k) (ix2 0 0) = ((a : ℝ) : EReal) := by
  have key : ∀ n : ℕ, n ≤ 16 → ∃ a : ℝ, 0 ≤ a ∧ normAfter i h1 k n (ix2 0 0) = ((a : ℝ) : EReal) := fun n => by
    induction n with
    | zero => exact fun _ => ⟨0, le_rfl, pay69_at⟩
    | succ n ih =>
      intro hn
      have hn' : n < k0_t1_loop.trips := by rw [trips1]; omega
      obtain ⟨a, ha, e⟩ := ih (by omega)
      obtain ⟨b, hb⟩ := fold_max_real (fun x : Fin 512 => ∑ y : Fin 128, keysN i h1 k ⟨n, hn'⟩ (ix2 x y) * keysN i h1 k ⟨n, hn'⟩ (ix2 x y))
        fun x => by
          simp only [keysN_at, hk, ← EReal.coe_mul]
          exact ⟨_, coe_sum _ _⟩
      refine ⟨max a b, le_max_of_le_left ha, ?_⟩
      rw [normAfter, dif_pos hn', pay70_at, e, hb, coe_max]
  unfold norms
  rw [trips1, pay71_at]
  exact key 16 le_rfl

end Bound

/-- Both branches give the attention. -/
theorem headOut_at (kn : Vec Ideal S8x128 .f32) (a : ℝ) (ha : 0 ≤ a) (hkn : first kn (ix2 0 0) = ((a : ℝ) : EReal)) :
    headOut kn q k v h (ix2 r d) = attend (score q' k' h r) (lane v d) := by
  unfold headOut
  split
  · obtain ⟨o, ho⟩ := offset_real q q' hq h r kn a ha hkn
    exact headFast_at q k v q' k' hq hk h r d (offset kn q) o ho
  · exact headSlow_at q k v q' k' hq hk h r d

end Cert.KernelIdeal.Flash

end
-- ==== Proof.Flash.Output.lean ====
module

public import proofs.«01_k».proof.Proof.Flash.Launch
public import proofs.«01_k».proof.Proof.Flash.Values
public import proofs.«01_k».proof.Proof.Gen.KernelIdeal.Points
public import Idealize.ShloMosaic.Lib.Pipeline.Value

@[expose] public section

set_option maxRecDepth 16384

/-! # The launch's result is the attention of the whole arrays -/

noncomputable section

namespace Cert.KernelIdeal.Flash

open Cert.KernelIdeal Cert.KernelIdeal.Gen Cert.Attention
open Idealize.ShloMosaic Idealize.ShloMosaic.TcCoe Idealize.SL.Sem

variable (m : (ℓ : Loc nD τ sig) → Buf (Elt Ideal) ℓ) (ρ : Dev nD → PrngReg)

theorem lt_N (t : Fin cfg0.N) : t.val < 160 := Nat.lt_of_lt_of_eq t.isLt N_0

/-! ## The blocks -/

theorem index_q : ∀ t : Fin cfg0.N, win0_0.index t (0 : Fin 2) = 8 * (t.val / 16) + t.val % 8 ∧ win0_0.index t (1 : Fin 2) = t.val / 8 % 2 :=
  (by decide +kernel : ∀ t : Fin grid0.N, win0_0.index t (0 : Fin 2) = 8 * (t.val / 16) + t.val % 8 ∧ win0_0.index t (1 : Fin 2) = t.val / 8 % 2)
theorem index_k : ∀ t : Fin cfg0.N, win0_1.index t (0 : Fin 2) = t.val / 16 ∧ win0_1.index t (1 : Fin 2) = t.val / 8 % 2 :=
  (by decide +kernel : ∀ t : Fin grid0.N, win0_1.index t (0 : Fin 2) = t.val / 16 ∧ win0_1.index t (1 : Fin 2) = t.val / 8 % 2)
theorem index_v : ∀ t : Fin cfg0.N, win0_2.index t (0 : Fin 2) = t.val / 16 ∧ win0_2.index t (1 : Fin 2) = t.val / 8 % 2 :=
  (by decide +kernel : ∀ t : Fin grid0.N, win0_2.index t (0 : Fin 2) = t.val / 16 ∧ win0_2.index t (1 : Fin 2) = t.val / 8 % 2)
theorem index_o : ∀ t : Fin cfg0.N, win0_3.index t (0 : Fin 2) = 8 * (t.val / 16) + t.val % 8 ∧ win0_3.index t (1 : Fin 2) = t.val / 8 % 2 :=
  (by decide +kernel : ∀ t : Fin grid0.N, win0_3.index t (0 : Fin 2) = 8 * (t.val / 16) + t.val % 8 ∧ win0_3.index t (1 : Fin 2) = t.val / 8 % 2)

/-- The array row of row `r` of point `t`'s query block. -/
def rowQ (t : Fin cfg0.N) (r : Fin 1024) : Fin 81920 :=
  ⟨1024 * (8 * (t.val / 16) + t.val % 8) + r.val, by have := lt_N t; have := r.isLt; omega⟩
/-- The array column of column `e` of point `t`'s query block. -/
def colQ (t : Fin cfg0.N) (e : Fin 512) : Fin 1024 := ⟨512 * (t.val / 8 % 2) + e.val, by have := e.isLt; omega⟩
/-- The array row of key `j` of point `t`'s request. -/
def rowK (t : Fin cfg0.N) (j : Fin 8192) : Fin 81920 := ⟨8192 * (t.val / 16) + j.val, by have := lt_N t; have := j.isLt; omega⟩
/-- The array column of lane `d` of point `t`'s key head. -/
def colK (t : Fin cfg0.N) (d : Fin 128) : Fin 256 := ⟨128 * (t.val / 8 % 2) + d.val, by have := d.isLt; omega⟩

theorem iblk_q (c : Dev nD) (t : Fin cfg0.N) (i : S1024x512.Idx) :
    iblk m c 0 t i = m ((c : Thread nD τ).loc main_arg0) (ix2 (rowQ t (i 0)) (colQ t (i 1))) := by
  obtain ⟨e0, e1⟩ := index_q t
  show m ((c : Thread nD τ).loc main_arg0) _ = _
  congr 1
  funext a
  match a with
  | ⟨0, _⟩ => exact Fin.ext (by show win0_0.index t (0 : Fin 2) * 1024 + 1 * (i 0).val = 1024 * _ + (i 0).val; rw [e0]; omega)
  | ⟨1, _⟩ => exact Fin.ext (by show win0_0.index t (1 : Fin 2) * 512 + 1 * (i 1).val = 512 * _ + (i 1).val; rw [e1]; omega)

theorem iblk_k (c : Dev nD) (t : Fin cfg0.N) (i : S8192x128.Idx) :
    iblk m c 1 t i = m ((c : Thread nD τ).loc main_arg1) (ix2 (rowK t (i 0)) (colK t (i 1))) := by
  obtain ⟨e0, e1⟩ := index_k t
  show m ((c : Thread nD τ).loc main_arg1) _ = _
  congr 1
  funext a
  match a with
  | ⟨0, _⟩ => exact Fin.ext (by show win0_1.index t (0 : Fin 2) * 8192 + 1 * (i 0).val = 8192 * _ + (i 0).val; rw [e0]; omega)
  | ⟨1, _⟩ => exact Fin.ext (by show win0_1.index t (1 : Fin 2) * 128 + 1 * (i 1).val = 128 * _ + (i 1).val; rw [e1]; omega)

theorem iblk_v (c : Dev nD) (t : Fin cfg0.N) (i : S8192x128.Idx) :
    iblk m c 2 t i = m ((c : Thread nD τ).loc main_arg2) (ix2 (rowK t (i 0)) (colK t (i 1))) := by
  obtain ⟨e0, e1⟩ := index_v t
  show m ((c : Thread nD τ).loc main_arg2) _ = _
  congr 1
  funext a
  match a with
  | ⟨0, _⟩ => exact Fin.ext (by show win0_2.index t (0 : Fin 2) * 8192 + 1 * (i 0).val = 8192 * _ + (i 0).val; rw [e0]; omega)
  | ⟨1, _⟩ => exact Fin.ext (by show win0_2.index t (1 : Fin 2) * 128 + 1 * (i 1).val = 128 * _ + (i 1).val; rw [e1]; omega)

/-! ## What a point leaves -/

section Real

variable (c : Dev nD) (Q : Fin 81920 → Fin 1024 → ℝ) (K : Fin 81920 → Fin 256 → ℝ)
  (hQ : ∀ R C, m ((c : Thread nD τ).loc main_arg0) (ix2 R C) = ((Q R C : ℝ) : EReal))
  (hK : ∀ R C, m ((c : Thread nD τ).loc main_arg1) (ix2 R C) = ((K R C : ℝ) : EReal))

include hK in
theorem norm_real : ∀ (n : ℕ) (hn : n < cfg0.N), ∃ a : ℝ, 0 ≤ a ∧ first (normAt m c n hn) (ix2 0 0) = ((a : ℝ) : EReal) := fun n => by
  have here : ∀ t : Fin cfg0.N, ∀ h1, ∃ a : ℝ, 0 ≤ a ∧ first (norms (grid0.coords t) h1 (iblk m c 1 t)) (ix2 0 0) = ((a : ℝ) : EReal) :=
    fun t h1 => norms_real (iblk m c 1 t) (fun i => K (rowK t (i 0)) (colK t (i 1))) (fun i => (iblk_k m c t i).trans (hK _ _)) _ h1
  induction n with
  | zero =>
    intro hn
    have e := normAt_first m c ⟨0, hn⟩ rfl
    dsimp only at e
    rw [e]
    exact here _ _
  | succ n ih =>
    intro hn
    by_cases h : (n + 1) % 8 = 0
    · have e := normAt_first m c ⟨n + 1, hn⟩ h
      dsimp only at e
      rw [e]
      exact here _ _
    · have e := normAt_later m c ⟨n + 1, hn⟩ h
      dsimp only at e
      rw [e]
      exact ih _

include hQ hK in
theorem outAt_at (t : Fin cfg0.N) (i : S1024x512.Idx) :
    outAt m c t i = answer Q K (fun R C => m ((c : Thread nD τ).loc main_arg2) (ix2 R C)) (rowQ t (i 0)) (colQ t (i 1)) := by
  obtain ⟨a, ha, hn⟩ := norm_real m c K hK t.val t.isLt
  have h0 : (i 0).val < 1024 := (i 0).isLt
  have h1 : (i 1).val < 512 := (i 1).isLt
  have ht := lt_N t
  have key := headOut_at (iblk m c 0 t) (iblk m c 1 t) (iblk m c 2 t) (fun i => Q (rowQ t (i 0)) (colQ t (i 1)))
    (fun i => K (rowK t (i 0)) (colK t (i 1))) (fun i => (iblk_q m c t i).trans (hQ _ _)) (fun i => (iblk_k m c t i).trans (hK _ _))
    ⟨(i 1).val / 128, by omega⟩ (i 0) ⟨(i 1).val % 128, Nat.mod_lt _ (by decide)⟩ (normAt m c t.val t.isLt) a ha hn
  refine Eq.trans ?_ (key.trans ?_)
  · unfold outAt block
    congr 1
    funext b
    match b with
    | ⟨0, _⟩ => rfl
    | ⟨1, _⟩ => rfl
  · unfold answer
    have eR : (rowQ t (i 0)).val / 8192 = t.val / 16 := by
      show (1024 * (8 * (t.val / 16) + t.val % 8) + (i 0).val) / 8192 = _; omega
    have eh : (colQ t (i 1)).val / 128 = 4 * (t.val / 8 % 2) + (i 1).val / 128 := by
      show (512 * (t.val / 8 % 2) + (i 1).val) / 128 = _; omega
    have ek : (colQ t (i 1)).val / 512 = t.val / 8 % 2 := by
      show (512 * (t.val / 8 % 2) + (i 1).val) / 512 = _; omega
    have ed : (colQ t (i 1)).val % 128 = (i 1).val % 128 := by
      show (512 * (t.val / 8 % 2) + (i 1).val) % 128 = _; omega
    congr 1
    · funext j
      unfold score
      refine Finset.sum_congr rfl fun y _ => ?_
      refine congrArg₂ _ (congrArg (Q _) (Fin.ext ?_)) (congrArg₂ K (Fin.ext ?_) (Fin.ext ?_))
      · show 512 * (t.val / 8 % 2) + (128 * ((i 1).val / 128) + y.val) = 128 * ((colQ t (i 1)).val / 128) + y.val
        rw [eh]; omega
      · show 8192 * (t.val / 16) + j.val = 8192 * ((rowQ t (i 0)).val / 8192) + j.val
        rw [eR]
      · show 128 * (t.val / 8 % 2) + y.val = 128 * ((colQ t (i 1)).val / 512) + y.val
        rw [ek]
    · funext j
      refine (iblk_v m c t _).trans ?_
      refine congrArg₂ (fun R C => m ((c : Thread nD τ).loc main_arg2) (ix2 R C)) (Fin.ext ?_) (Fin.ext ?_)
      · show 8192 * (t.val / 16) + j.val = 8192 * ((rowQ t (i 0)).val / 8192) + j.val
        rw [eR]
      · show 128 * (t.val / 8 % 2) + (i 1).val % 128 = 128 * ((colQ t (i 1)).val / 512) + (colQ t (i 1)).val % 128
        rw [ek, ed]

/-! ## The whole array -/

/-- The attention of the whole arrays. -/
def whole : Buf (Elt Ideal) ((c : Thread nD τ).loc main_v0) := fun i =>
  answer Q K (fun R C => m ((c : Thread nD τ).loc main_arg2) (ix2 R C)) (i 0) (i 1)

include hQ hK in
theorem flushed_eq (t : Fin cfg0.N) (hf : (cfg0.win 3).flush t = true) :
    (dats m 0 c).flushed 3 t = ((cfg0.win 3).blk t).view.read (Elt Ideal) (whole m c Q K) := by
  show (cfg0.win 3).cut (grid0.coords t) ((dats m 0 c).after 3 t) = _
  rw [after0_3]
  obtain ⟨e0, e1⟩ := index_o t
  funext y
  refine (outAt_at m c Q K hQ hK t y).trans ?_
  refine congrArg₂ (answer Q K (fun R C => m ((c : Thread nD τ).loc main_arg2) (ix2 R C))) (Fin.ext ?_) (Fin.ext ?_)
  · show 1024 * (8 * (t.val / 16) + t.val % 8) + (y 0).val = win0_3.index t (0 : Fin 2) * 1024 + 1 * (y 0).val
    rw [e0]; omega
  · show 512 * (t.val / 8 % 2) + (y 1).val = win0_3.index t (1 : Fin 2) * 512 + 1 * (y 1).val
    rw [e1]; omega

theorem covered (i : S81920x1024.Idx) : ∃ t : Fin cfg0.N, (cfg0.win 3).flush t = true ∧ i ∈ ((cfg0.win 3).blk t).view.set := by
  have h0 : (i 0).val < 81920 := (i 0).isLt
  have h1 : (i 1).val < 1024 := (i 1).isLt
  have hl : 16 * ((i 0).val / 8192) + 8 * ((i 1).val / 512) + (i 0).val / 1024 % 8 < 160 := by omega
  let t : Fin cfg0.N := ⟨16 * ((i 0).val / 8192) + 8 * ((i 1).val / 512) + (i 0).val / 1024 % 8, Nat.lt_of_lt_of_eq hl N_0.symm⟩
  have ht : t.val = 16 * ((i 0).val / 8192) + 8 * ((i 1).val / 512) + (i 0).val / 1024 % 8 := rfl
  obtain ⟨e0, e1⟩ := index_o t
  refine ⟨t, flush0_3 t, ?_⟩
  show i ∈ ((View.whole main_v0).slice (win0_3.rect t)).set
  rw [View.set_slice_whole, Rect.mem_set_unit]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

end Real

/-- The run: the result is the attention, the arguments unchanged. -/
theorem run (Q : Dev nD → Fin 81920 → Fin 1024 → ℝ) (K : Dev nD → Fin 81920 → Fin 256 → ℝ)
    (hQ : ∀ (c : Dev nD) R C, m ((c : Thread nD τ).loc main_arg0) (ix2 R C) = ((Q c R C : ℝ) : EReal))
    (hK : ∀ (c : Dev nD) R C, m ((c : Thread nD τ).loc main_arg1) (ix2 R C) = ((K c R C : ℝ) : EReal)) :
    θ_run defs (onTc (τ := τ) (main (F := Ideal))) ⟨m, fun _ => 0, ρ⟩ (fun r => ∀ c : Dev nD,
      r.2.mem ((c.tc : Thread nD τ).loc main_v0) = whole m c (Q c) (K c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.2.1 c).1 3).trans ((dats m 0 c).arrAt_eq_of_cover 3 _
      (fun t hf => flushed_eq m c (Q c) (K c) (hQ c) (hK c) t hf) covered), h.1.1 c⟩)
    (θ_run_and (frame m ρ) ((θ_run defs _ _).mono (fun _ h => h) (run_main_quiescent m ρ)))

end Cert.KernelIdeal.Flash

end
-- ==== Proof.Flash.Reference.lean ====
module

public import proofs.«01_k».proof.Proof.Flash.Softmax
public import proofs.«01_k».proof.Proof.Gen.ReferenceIdeal.Read
public import Idealize.ShloMosaic.Lib.Pointwise

@[expose] public section

set_option maxRecDepth 16384

/-! # The reference at an index: the attention of the whole arrays -/

noncomputable section

namespace Cert.ReferenceIdeal.Flash

open Cert.ReferenceIdeal Cert.ReferenceIdeal.Gen Cert.ReferenceIdeal.Read Cert.Attention
open Idealize.ShloMosaic

theorem word_128 : Ideal.ofBits .f32 0x43000000#32 = ((128 : ℝ) : EReal) := by
  simp [Ideal.ofBits, Ideal.ieee]
  rw [← EReal.coe_mul]
  norm_num
theorem word_bottom : Ideal.ofBits .f32 0xFF800000#32 = ⊥ := by simp [Ideal.ofBits, Ideal.ieee]
theorem word_zero : Ideal.ofBits .f32 0x00000000#32 = 0 := by simp [Ideal.ofBits, Ideal.ieee]

variable (x0 : FVec Ideal S81920x1024 .bf16) (x1 x2 : FVec Ideal S81920x256 .bf16)
  (Q : Fin 81920 → Fin 1024 → ℝ) (K : Fin 81920 → Fin 256 → ℝ)
  (hQ : ∀ R C, x0 (ix2 R C) = ((Q R C : ℝ) : EReal)) (hK : ∀ R C, x1 (ix2 R C) = ((K R C : ℝ) : EReal))
  (b : Fin 10) (kv : Fin 2) (g : Fin 4) (l : Fin 8192)

/-- The score of query `l` of request `b`, head `g` of key head `kv`, against key `j`. -/
def score (j : Fin 8192) : ℝ :=
  ∑ y : Fin 128, Q ⟨8192 * b.val + l.val, by have := b.isLt; have := l.isLt; omega⟩
      ⟨512 * kv.val + 128 * g.val + y.val, by have := kv.isLt; have := g.isLt; have := y.isLt; omega⟩
    * K ⟨8192 * b.val + j.val, by have := b.isLt; have := j.isLt; omega⟩
      ⟨128 * kv.val + y.val, by have := kv.isLt; have := y.isLt; omega⟩

include hQ hK

theorem v4_at (j : Fin 8192) : val_main_v4 (F := Ideal) x0 x1 (ix5 b kv g l j) = ((score Q K b kv g l j : ℝ) : EReal) := by
  have hb := b.isLt
  have hkv := kv.isLt
  have hg := g.isLt
  have hl := l.isLt
  have hj := j.isLt
  unfold score
  rw [val_main_v4_apply, val_main_v3_apply, ← coe_sum]
  refine Finset.sum_congr rfl fun y _ => ?_
  have hy := y.isLt
  rw [val_main_v1_apply, val_main_v0_apply, EReal.coe_mul, ← hQ, ← hK, mul_comm]
  refine congrArg₂ _ (congrArg x0 ?_) (congrArg x1 ?_)
  · funext a
    match a with
    | ⟨0, _⟩ => exact Fin.ext (by show ((((b.val * 8192 + l.val) * 2 + kv.val) * 4 + g.val) * 128 + y.val) / 1024 = 8192 * b.val + l.val; omega)
    | ⟨1, _⟩ => exact Fin.ext (by show ((((b.val * 8192 + l.val) * 2 + kv.val) * 4 + g.val) * 128 + y.val) % 1024 = 512 * kv.val + 128 * g.val + y.val; omega)
  · funext a
    match a with
    | ⟨0, _⟩ => exact Fin.ext (by show (((b.val * 8192 + j.val) * 2 + kv.val) * 128 + y.val) / 256 = 8192 * b.val + j.val; omega)
    | ⟨1, _⟩ => exact Fin.ext (by show (((b.val * 8192 + j.val) * 2 + kv.val) * 128 + y.val) % 256 = 128 * kv.val + y.val; omega)

theorem v7_at (j : Fin 8192) : val_main_v7 (F := Ideal) x0 x1 (ix5 b kv g l j)
    = Ideal.div ((score Q K b kv g l j : ℝ) : EReal) (Ideal.sqrt ((128 : ℝ) : EReal)) := by
  rw [val_main_v7_apply, v4_at x0 x1 Q K hQ hK, val_main_v6_apply, val_main_v5_apply, val_main_cst_apply]
  show Ideal.div _ (Ideal.sqrt (Ideal.ofBits .f32 0x43000000#32)) = _
  rw [word_128]

omit hQ hK in
theorem greatest_at (X : FVec Ideal S10x2x4x8192x8192 .f32) :
    Host.reduce FloatOps.maximumf X (val_main_cst_0 (F := Ideal)) reducesTo_S10x2x4x8192x8192_S10x2x4x8192_d4 h_S_ (ix4 b kv g l)
      = Finset.fold max ⊥ (fun j : Fin 8192 => X (ix5 b kv g l j)) Finset.univ := by
  unfold val_main_cst_0
  pointwise
  rw [word_bottom]

theorem v10_at : ∃ M : ℝ, val_main_v10 (F := Ideal) x0 x1 (ix4 b kv g l) = ((M : ℝ) : EReal) := by
  obtain ⟨M, hM⟩ := fold_max_real (fun j : Fin 8192 => val_main_v7 (F := Ideal) x0 x1 (ix5 b kv g l j)) fun j => by
    rw [v7_at x0 x1 Q K hQ hK, Ideal.sqrt_coe, if_neg (by norm_num), Ideal.div_coe (Real.sqrt_pos.mpr (by norm_num)).ne']
    exact ⟨_, (EReal.coe_mul _ _).symm⟩
  refine ⟨M, ?_⟩
  rw [val_main_v10_apply, val_main_v9_apply, val_main_cst_1_apply]
  unfold val_main_v8
  rw [greatest_at, hM]
  show max (Ideal.ofBits .f32 0xFF800000#32) _ = _
  rw [word_bottom]
  exact max_eq_right bot_le

theorem v14_at (M : ℝ) (hM : val_main_v10 (F := Ideal) x0 x1 (ix4 b kv g l) = ((M : ℝ) : EReal)) (j : Fin 8192) :
    val_main_v14 (F := Ideal) x0 x1 (ix5 b kv g l j)
      = Ideal.exp (Ideal.div ((score Q K b kv g l j : ℝ) : EReal) (Ideal.sqrt ((128 : ℝ) : EReal)) - (M : EReal)) := by
  have e : val_main_v12 (F := Ideal) x0 x1 (ix5 b kv g l j) = ((M : ℝ) : EReal) := by
    rw [val_main_v12_apply, val_main_v11_apply, ← hM]
    refine congrArg _ ?_
    funext a
    match a with
    | ⟨0, _⟩ => rfl
    | ⟨1, _⟩ => rfl
    | ⟨2, _⟩ => rfl
    | ⟨3, _⟩ => rfl
  rw [val_main_v14_apply, val_main_v13_apply, v7_at x0 x1 Q K hQ hK, e]
  rfl

theorem v17_at (M : ℝ) (hM : val_main_v10 (F := Ideal) x0 x1 (ix4 b kv g l) = ((M : ℝ) : EReal)) (j : Fin 8192) :
    val_main_v17 (F := Ideal) x0 x1 (ix5 b kv g l j)
      = ∑ i, Ideal.exp (Ideal.div ((score Q K b kv g l i : ℝ) : EReal) (Ideal.sqrt ((128 : ℝ) : EReal)) - (M : EReal)) := by
  rw [val_main_v17_apply, val_main_v16_apply, val_main_v15_apply, val_main_cst_2_apply]
  show Ideal.ofBits .f32 0x00000000#32 + _ = _
  rw [word_zero, zero_add]
  refine Finset.sum_congr rfl fun i _ => ?_
  rw [← v14_at x0 x1 Q K hQ hK b kv g l M hM i]
  refine congrArg _ ?_
  funext a
  match a with
  | ⟨0, _⟩ => rfl
  | ⟨1, _⟩ => rfl
  | ⟨2, _⟩ => rfl
  | ⟨3, _⟩ => rfl
  | ⟨4, _⟩ => rfl

theorem v20_at (d : Fin 128) : val_main_v20 (F := Ideal) x0 x1 x2 (ix5 b kv d g l)
    = attend (score Q K b kv g l) (fun j => x2 (ix2 ⟨8192 * b.val + j.val, by have := b.isLt; have := j.isLt; omega⟩
        ⟨128 * kv.val + d.val, by have := kv.isLt; have := d.isLt; omega⟩)) := by
  obtain ⟨M, hM⟩ := v10_at x0 x1 Q K hQ hK b kv g l
  rw [val_main_v20_apply, ← attend_normalised _ _ M]
  have hb := b.isLt
  have hkv := kv.isLt
  have hd := d.isLt
  refine Finset.sum_congr rfl fun j _ => ?_
  have hj := j.isLt
  refine congrArg₂ _ ?_ ?_
  · rw [val_main_v2_apply]
    refine congrArg x2 ?_
    funext a
    match a with
    | ⟨0, _⟩ => exact Fin.ext (by show (((b.val * 8192 + j.val) * 2 + kv.val) * 128 + d.val) / 256 = 8192 * b.val + j.val; omega)
    | ⟨1, _⟩ => exact Fin.ext (by show (((b.val * 8192 + j.val) * 2 + kv.val) * 128 + d.val) % 256 = 128 * kv.val + d.val; omega)
  · have ei : ridx_main_v20 (ix5 b kv d g l) j = ix5 b kv g l j := by
      funext a
      match a with
      | ⟨0, _⟩ => rfl
      | ⟨1, _⟩ => rfl
      | ⟨2, _⟩ => rfl
      | ⟨3, _⟩ => rfl
      | ⟨4, _⟩ => rfl
    rw [ei, val_main_v19_apply, val_main_v18_apply, v14_at x0 x1 Q K hQ hK b kv g l M hM j, v17_at x0 x1 Q K hQ hK b kv g l M hM j]
    rfl

/-- The reference's result. -/
theorem result_at (R : Fin 81920) (C : Fin 1024) :
    val_main_v23 (F := Ideal) x0 x1 x2 (ix2 R C) = answer Q K (fun R C => x2 (ix2 R C)) R C := by
  have hR := R.isLt
  have hC := C.isLt
  have key := v20_at x0 x1 x2 Q K hQ hK ⟨R.val / 8192, by omega⟩ ⟨C.val / 512, by omega⟩ ⟨C.val / 128 % 4, by omega⟩
    ⟨R.val % 8192, by omega⟩ ⟨C.val % 128, by omega⟩
  rw [val_main_v23_apply]
  show val_main_v22 (F := Ideal) x0 x1 x2 (ix2 R C) = _
  rw [val_main_v22_apply, val_main_v21_apply]
  refine Eq.trans (congrArg _ ?_) (key.trans ?_)
  · funext a
    match a with
    | ⟨0, _⟩ => exact Fin.ext (by show (R.val * 1024 + C.val) / 8388608 = R.val / 8192; omega)
    | ⟨1, _⟩ => exact Fin.ext (by show (R.val * 1024 + C.val) / 512 % 2 = C.val / 512; omega)
    | ⟨2, _⟩ => exact Fin.ext (by show (R.val * 1024 + C.val) % 128 = C.val % 128; omega)
    | ⟨3, _⟩ => exact Fin.ext (by show (R.val * 1024 + C.val) / 128 % 4 = C.val / 128 % 4; omega)
    | ⟨4, _⟩ => exact Fin.ext (by show (R.val * 1024 + C.val) / 1024 % 8192 = R.val % 8192; omega)
  · unfold answer
    congr 1
    funext j
    unfold score
    refine Finset.sum_congr rfl fun y _ => ?_
    refine congrArg₂ _ (congrArg₂ Q (Fin.ext ?_) (Fin.ext ?_)) rfl
    · show 8192 * (R.val / 8192) + R.val % 8192 = R.val; omega
    · show 512 * (C.val / 512) + 128 * (C.val / 128 % 4) + y.val = 128 * (C.val / 128) + y.val; omega

end Cert.ReferenceIdeal.Flash

end
-- ==== Proof.Flash.Finite.lean ====
module

public import proofs.«01_k».proof.Proof.Gen.Pre_finite
public import Idealize.ShloMosaic.Lib.Pipeline.Value
public import Idealize.ShloMosaic.Lib.Pointwise

@[expose] public section

set_option maxRecDepth 16384

/-! # What the precondition says: the queries and the keys are real numbers -/

noncomputable section

namespace Cert.Pre_finite.Flash

open Cert.Pre_finite Cert.Pre_finite.Gen
open Idealize.ShloMosaic

variable (q : FVec Ideal S81920x1024 .bf16) (k v : FVec Ideal S81920x256 .bf16)

/-- A number below infinity in absolute value is real. -/
theorem real_of_lt (x : EReal) (h : BitVec.ofBool (decide (FloatOps.absf (F := Ideal) (φ := .f32) x < Ideal.ofBits .f32 0x7F800000#32)) = 1#1) :
    ∃ r : ℝ, x = ((r : ℝ) : EReal) := by
  have ht : Ideal.ofBits .f32 0x7F800000#32 = ⊤ := by simp [Ideal.ofBits, Ideal.ieee]
  rw [ht] at h
  induction x with
  | bot =>
    have e : FloatOps.absf (F := Ideal) (φ := .f32) (⊥ : EReal) = (⊤ : EReal) := by
      show max (⊥ : EReal) (-⊥) = ⊤
      simp
    rw [e] at h
    simp at h
  | coe r => exact ⟨r, rfl⟩
  | top =>
    have e : FloatOps.absf (F := Ideal) (φ := .f32) (⊤ : EReal) = (⊤ : EReal) := by
      show max (⊤ : EReal) (-⊤) = ⊤
      simp
    rw [e] at h
    simp at h

theorem at_query (R : Fin 81920) (C : Fin 1024) :
    fn (F := Ideal) q k v (ix2 R ⟨C.val, by have := C.isLt; omega⟩)
      = BitVec.ofBool (decide (FloatOps.absf (F := Ideal) (φ := .f32) (q (ix2 R C)) < Ideal.ofBits .f32 0x7F800000#32)) := by
  unfold fn
  pointwise

theorem at_key (R : Fin 81920) (C : Fin 256) :
    fn (F := Ideal) q k v (ix2 R ⟨1024 + C.val, by have := C.isLt; omega⟩)
      = BitVec.ofBool (decide (FloatOps.absf (F := Ideal) (φ := .f32) (k (ix2 R C)) < Ideal.ofBits .f32 0x7F800000#32)) := by
  unfold fn
  pointwise

variable (h : fn (F := Ideal) q k v = fun _ => 1#1)

include h

theorem query_real (R : Fin 81920) (C : Fin 1024) : ∃ r : ℝ, q (ix2 R C) = ((r : ℝ) : EReal) :=
  real_of_lt _ ((at_query q k v R C).symm.trans (congrFun h _))

theorem key_real (R : Fin 81920) (C : Fin 256) : ∃ r : ℝ, k (ix2 R C) = ((r : ℝ) : EReal) :=
  real_of_lt _ ((at_key q k v R C).symm.trans (congrFun h _))

end Cert.Pre_finite.Flash

end
-- ==== Proof.Experts.Cases.lean ====
module

public import proofs.«01_k».proof.Proof.Gen.MoeIdeal.Value

@[expose] public section

set_option maxRecDepth 16384

/-! # What one grid point of the expert FFN leaves behind

The first tile of an expert casts the three weight blocks into scratch and then computes its tile from them; the
other tiles of the expert compute from the scratch as they find it. So after every point the scratch holds the casts
of the point's own weight blocks, and the output block is the tile formula of the point's own input blocks. -/

noncomputable section

namespace Cert.MoeIdeal.Experts

open Cert.MoeIdeal Cert.MoeIdeal.Gen Cert.MoeIdeal.Value
open Idealize.ShloMosaic Idealize.ShloMosaic.TcCoe Idealize.ShloMosaic.Tactic Idealize.SL.Sem

variable {F : FTy → Type} [FloatOps F]

theorem offs2 : (![0, 0] : Fin S1024x1024.rank → ℕ) = fun _ => 0 := by funext a; fin_cases a <;> rfl
theorem offs3 : (![0, 0, 0] : Fin S1x512x1024.rank → ℕ) = fun _ => 0 := by funext a; fin_cases a <;> rfl
theorem offs3g : (![0, 0, 0] : Fin S1x1x512.rank → ℕ) = fun _ => 0 := by funext a; fin_cases a <;> rfl
theorem offs4 : (![0, 0, 0, 0] : Fin S1x1x1024x1024.rank → ℕ) = fun _ => 0 := by funext a; fin_cases a <;> rfl

/-- A first tile leaves in scratch 0 the cast of its weight block. -/
theorem scratch_A_0 (c : Dev nD) (i : grid0.Coords)
    (a2 : Memref sig .tc .vmem S1x512x1024 .bf16) (h2 : a2.IsWhole)
    (a3 : Memref sig .tc .vmem S1x1x512 .f32) (h3 : a3.IsWhole)
    (a4 : Memref sig .tc .vmem S1x1x1024x1024 .f32) (h4 : a4.IsWhole)
    (a5 : Memref sig .tc .vmem S1x1x1024x1024 .f32) (h5 : a5.IsWhole)
    (a6 : Memref sig .tc .vmem S1x1x1024x1024 .f32) (h6 : a6.IsWhole)
    (a7 : Memref sig .tc .vmem S1x512x1024 .bf16) (h7 : a7.IsWhole)
    (a8 : Memref sig .tc .vmem S1024x1024 .bf16) (h8 : a8.IsWhole)
    (a9 : Memref sig .tc .vmem S1024x1024 .bf16) (h9 : a9.IsWhole)
    (a10 : Memref sig .tc .vmem S1024x1024 .bf16) (h10 : a10.IsWhole)
    (hc : cond0_0 i)
    (x0 : Vec F S1x512x1024 .bf16) (x1 : Vec F S1x1x512 .f32) (x2 x3 x4 : Vec F S1x1x1024x1024 .f32) :
    sout0_A_0 c i a2 h2 a3 h3 a4 h4 a5 h5 a6 h6 a7 h7 a8 h8 a9 h9 a10 h10 hc x0 x1 x2 x3 x4 = k0_pay1 x2 := by
  unfold sout0_A_0
  rw [View.read_writes_eq_canon _ _ _ (scover0_A_0 c i a2 h2 a3 h3 a4 h4 a5 h5 a6 h6 a7 h7 a8 h8 a9 h9 a10 h10 hc x0 x1 x2 x3 x4)]
  unfold kernelRun0_A
  dsimp only
  sl_unfold_words
  rw [View.canon_unit_zero (S := S1024x1024) offs2]
  simp only [View.readAt_eq_ld, h2.read_unread, h3.read_unread, h4.read_unread, h5.read_unread, h6.read_unread, View.ld_unit_zero (S := S1x512x1024) offs3,
    View.ld_unit_zero (S := S1x1x512) offs3g, View.ld_unit_zero (S := S1x1x1024x1024) offs4]

/-- A first tile leaves in scratch 1 the cast of its weight block. -/
theorem scratch_A_1 (c : Dev nD) (i : grid0.Coords)
    (a2 : Memref sig .tc .vmem S1x512x1024 .bf16) (h2 : a2.IsWhole)
    (a3 : Memref sig .tc .vmem S1x1x512 .f32) (h3 : a3.IsWhole)
    (a4 : Memref sig .tc .vmem S1x1x1024x1024 .f32) (h4 : a4.IsWhole)
    (a5 : Memref sig .tc .vmem S1x1x1024x1024 .f32) (h5 : a5.IsWhole)
    (a6 : Memref sig .tc .vmem S1x1x1024x1024 .f32) (h6 : a6.IsWhole)
    (a7 : Memref sig .tc .vmem S1x512x1024 .bf16) (h7 : a7.IsWhole)
    (a8 : Memref sig .tc .vmem S1024x1024 .bf16) (h8 : a8.IsWhole)
    (a9 : Memref sig .tc .vmem S1024x1024 .bf16) (h9 : a9.IsWhole)
    (a10 : Memref sig .tc .vmem S1024x1024 .bf16) (h10 : a10.IsWhole)
    (hc : cond0_0 i)
    (x0 : Vec F S1x512x1024 .bf16) (x1 : Vec F S1x1x512 .f32) (x2 x3 x4 : Vec F S1x1x1024x1024 .f32) :
    sout0_A_1 c i a2 h2 a3 h3 a4 h4 a5 h5 a6 h6 a7 h7 a8 h8 a9 h9 a10 h10 hc x0 x1 x2 x3 x4 = k0_pay2 x3 := by
  unfold sout0_A_1
  rw [View.read_writes_eq_canon _ _ _ (scover0_A_1 c i a2 h2 a3 h3 a4 h4 a5 h5 a6 h6 a7 h7 a8 h8 a9 h9 a10 h10 hc x0 x1 x2 x3 x4)]
  unfold kernelRun0_A
  dsimp only
  sl_unfold_words
  rw [View.canon_unit_zero (S := S1024x1024) offs2]
  simp only [View.readAt_eq_ld, h2.read_unread, h3.read_unread, h4.read_unread, h5.read_unread, h6.read_unread, View.ld_unit_zero (S := S1x512x1024) offs3,
    View.ld_unit_zero (S := S1x1x512) offs3g, View.ld_unit_zero (S := S1x1x1024x1024) offs4]

/-- A first tile leaves in scratch 2 the cast of its weight block. -/
theorem scratch_A_2 (c : Dev nD) (i : grid0.Coords)
    (a2 : Memref sig .tc .vmem S1x512x1024 .bf16) (h2 : a2.IsWhole)
    (a3 : Memref sig .tc .vmem S1x1x512 .f32) (h3 : a3.IsWhole)
    (a4 : Memref sig .tc .vmem S1x1x1024x1024 .f32) (h4 : a4.IsWhole)
    (a5 : Memref sig .tc .vmem S1x1x1024x1024 .f32) (h5 : a5.IsWhole)
    (a6 : Memref sig .tc .vmem S1x1x1024x1024 .f32) (h6 : a6.IsWhole)
    (a7 : Memref sig .tc .vmem S1x512x1024 .bf16) (h7 : a7.IsWhole)
    (a8 : Memref sig .tc .vmem S1024x1024 .bf16) (h8 : a8.IsWhole)
    (a9 : Memref sig .tc .vmem S1024x1024 .bf16) (h9 : a9.IsWhole)
    (a10 : Memref sig .tc .vmem S1024x1024 .bf16) (h10 : a10.IsWhole)
    (hc : cond0_0 i)
    (x0 : Vec F S1x512x1024 .bf16) (x1 : Vec F S1x1x512 .f32) (x2 x3 x4 : Vec F S1x1x1024x1024 .f32) :
    sout0_A_2 c i a2 h2 a3 h3 a4 h4 a5 h5 a6 h6 a7 h7 a8 h8 a9 h9 a10 h10 hc x0 x1 x2 x3 x4 = k0_pay3 x4 := by
  unfold sout0_A_2
  rw [View.read_writes_eq_canon _ _ _ (scover0_A_2 c i a2 h2 a3 h3 a4 h4 a5 h5 a6 h6 a7 h7 a8 h8 a9 h9 a10 h10 hc x0 x1 x2 x3 x4)]
  unfold kernelRun0_A
  dsimp only
  sl_unfold_words
  rw [View.canon_unit_zero (S := S1024x1024) offs2]
  simp only [View.readAt_eq_ld, h2.read_unread, h3.read_unread, h4.read_unread, h5.read_unread, h6.read_unread, View.ld_unit_zero (S := S1x512x1024) offs3,
    View.ld_unit_zero (S := S1x1x512) offs3g, View.ld_unit_zero (S := S1x1x1024x1024) offs4]

/-- A first tile's output: the tile formula over the weights it has just cast. -/
theorem tile_A (c : Dev nD) (i : grid0.Coords)
    (a2 : Memref sig .tc .vmem S1x512x1024 .bf16) (h2 : a2.IsWhole)
    (a3 : Memref sig .tc .vmem S1x1x512 .f32) (h3 : a3.IsWhole)
    (a4 : Memref sig .tc .vmem S1x1x1024x1024 .f32) (h4 : a4.IsWhole)
    (a5 : Memref sig .tc .vmem S1x1x1024x1024 .f32) (h5 : a5.IsWhole)
    (a6 : Memref sig .tc .vmem S1x1x1024x1024 .f32) (h6 : a6.IsWhole)
    (a7 : Memref sig .tc .vmem S1x512x1024 .bf16) (h7 : a7.IsWhole)
    (a8 : Memref sig .tc .vmem S1024x1024 .bf16) (h8 : a8.IsWhole)
    (a9 : Memref sig .tc .vmem S1024x1024 .bf16) (h9 : a9.IsWhole)
    (a10 : Memref sig .tc .vmem S1024x1024 .bf16) (h10 : a10.IsWhole)
    (hc : cond0_0 i)
    (x0 : Vec F S1x512x1024 .bf16) (x1 : Vec F S1x1x512 .f32) (x2 x3 x4 : Vec F S1x1x1024x1024 .f32) :
    out0_A_5 c i a2 h2 a3 h3 a4 h4 a5 h5 a6 h6 a7 h7 a8 h8 a9 h9 a10 h10 hc x0 x1 x2 x3 x4 = k0_pay4 x0 (k0_pay1 x2) (k0_pay2 x3) x1 (k0_pay3 x4) := by
  unfold out0_A_5
  rw [View.read_writes_eq_canon _ _ _ (cover0_A_5 c i a2 h2 a3 h3 a4 h4 a5 h5 a6 h6 a7 h7 a8 h8 a9 h9 a10 h10 hc x0 x1 x2 x3 x4)]
  unfold kernelRun0_A
  dsimp only
  sl_unfold_words
  rw [View.canon_unit_zero (S := S1x512x1024) offs3]
  simp only [View.readCov_unit_zero (S := S1024x1024) _ offs2]
  simp only [View.readAt_eq_ld, h2.read_unread, h3.read_unread, h4.read_unread, h5.read_unread, h6.read_unread, View.ld_unit_zero (S := S1x512x1024) offs3,
    View.ld_unit_zero (S := S1x1x512) offs3g, View.ld_unit_zero (S := S1x1x1024x1024) offs4]

/-- Any other tile's output: the tile formula over the scratch it finds. -/
theorem tile_B (c : Dev nD) (i : grid0.Coords)
    (a2 : Memref sig .tc .vmem S1x512x1024 .bf16) (h2 : a2.IsWhole)
    (a3 : Memref sig .tc .vmem S1x1x512 .f32) (h3 : a3.IsWhole)
    (a4 : Memref sig .tc .vmem S1x1x1024x1024 .f32) (h4 : a4.IsWhole)
    (a5 : Memref sig .tc .vmem S1x1x1024x1024 .f32) (h5 : a5.IsWhole)
    (a6 : Memref sig .tc .vmem S1x1x1024x1024 .f32) (h6 : a6.IsWhole)
    (a7 : Memref sig .tc .vmem S1x512x1024 .bf16) (h7 : a7.IsWhole)
    (a8 : Memref sig .tc .vmem S1024x1024 .bf16) (h8 : a8.IsWhole)
    (a9 : Memref sig .tc .vmem S1024x1024 .bf16) (h9 : a9.IsWhole)
    (a10 : Memref sig .tc .vmem S1024x1024 .bf16) (h10 : a10.IsWhole)
    (hc : ¬cond0_0 i)
    (x0 : Vec F S1x512x1024 .bf16) (x1 : Vec F S1x1x512 .f32) (x2 x3 x4 : Vec F S1x1x1024x1024 .f32)
    (y0 y1 y2 : Vec F S1024x1024 .bf16) :
    out0_B_5 c i a2 h2 a3 h3 a4 h4 a5 h5 a6 h6 a7 h7 a8 h8 a9 h9 a10 h10 hc x0 x1 x2 x3 x4 y0 y1 y2 = k0_pay4 x0 y0 y1 x1 y2 := by
  unfold out0_B_5
  rw [View.read_writes_eq_canon _ _ _ (cover0_B_5 c i a2 h2 a3 h3 a4 h4 a5 h5 a6 h6 a7 h7 a8 h8 a9 h9 a10 h10 hc x0 x1 x2 x3 x4 y0 y1 y2)]
  unfold kernelRun0_B
  dsimp only
  sl_unfold_words
  rw [View.canon_unit_zero (S := S1x512x1024) offs3]
  simp only [View.readAt_eq_ld, h2.read_unread, h3.read_unread, h4.read_unread, h5.read_unread, h6.read_unread, h8.read_unread, h9.read_unread, h10.read_unread, View.ld_unit_zero (S := S1x512x1024) offs3,
    View.ld_unit_zero (S := S1x1x512) offs3g, View.ld_unit_zero (S := S1024x1024) offs2, View.ld_unit_zero (S := S1x1x1024x1024) offs4]

variable (m : (ℓ : Loc nD τ sig) → Buf (Elt F) ℓ)

/-- The tile formula of point `t`'s input blocks, with the casts of its weight blocks. -/
def tile (c : Dev nD) (t : Fin cfg0.N) : Vec F S1x512x1024 .bf16 :=
  k0_pay4 (iblk m c 0 t) (k0_pay1 (iblk m c 2 t)) (k0_pay2 (iblk m c 3 t)) (iblk m c 1 t) (k0_pay3 (iblk m c 4 t))

/-- The printed index maps over the grid: point `t` is tile `t % 20` of expert `t / 20`. -/
theorem idx0 : ∀ t : Fin cfg0.N, win0_0.index t (0 : Fin 3) = t.val / 20 ∧ win0_0.index t (1 : Fin 3) = t.val % 20
    ∧ win0_0.index t (2 : Fin 3) = 0 := (by decide +kernel : ∀ t : Fin grid0.N, _)
theorem idx1 : ∀ t : Fin cfg0.N, win0_1.index t (0 : Fin 3) = t.val / 20 ∧ win0_1.index t (1 : Fin 3) = 0
    ∧ win0_1.index t (2 : Fin 3) = t.val % 20 := (by decide +kernel : ∀ t : Fin grid0.N, _)
theorem idx2 : ∀ t : Fin cfg0.N, win0_2.index t (0 : Fin 4) = 0 ∧ win0_2.index t (1 : Fin 4) = t.val / 20
    ∧ win0_2.index t (2 : Fin 4) = 0 ∧ win0_2.index t (3 : Fin 4) = 0 := (by decide +kernel : ∀ t : Fin grid0.N, _)
theorem idx3 : ∀ t : Fin cfg0.N, win0_3.index t (0 : Fin 4) = 0 ∧ win0_3.index t (1 : Fin 4) = t.val / 20
    ∧ win0_3.index t (2 : Fin 4) = 0 ∧ win0_3.index t (3 : Fin 4) = 0 := (by decide +kernel : ∀ t : Fin grid0.N, _)
theorem idx4 : ∀ t : Fin cfg0.N, win0_4.index t (0 : Fin 4) = 0 ∧ win0_4.index t (1 : Fin 4) = t.val / 20
    ∧ win0_4.index t (2 : Fin 4) = 0 ∧ win0_4.index t (3 : Fin 4) = 0 := (by decide +kernel : ∀ t : Fin grid0.N, _)

/-- Window 0's block at point `t`, read at an index. -/
theorem blk0 (c : Dev nD) (t : Fin cfg0.N) (z : S1x512x1024.Idx) (y : (S16x10240x1024).Idx)
    (hy0 : (y 0).val = t.val / 20)
    (hy1 : (y 1).val = 512 * (t.val % 20) + (z 1).val)
    (hy2 : (y 2).val = (z 2).val) :
    iblk m c 0 t z = V m c main_v13 y := by
  obtain ⟨e0, e1, e2⟩ := idx0 t
  have b0 : (((cfg0.win 0).blk t).view.emb z 0).val = win0_0.index t (0 : Fin 3) * 1 + 1 * (z 0).val := rfl
  have b1 : (((cfg0.win 0).blk t).view.emb z 1).val = win0_0.index t (1 : Fin 3) * 512 + 1 * (z 1).val := rfl
  have b2 : (((cfg0.win 0).blk t).view.emb z 2).val = win0_0.index t (2 : Fin 3) * 1024 + 1 * (z 2).val := rfl
  have z0 : (z 0).val < 1 := (z 0).isLt
  have z1 : (z 1).val < 512 := (z 1).isLt
  have z2 : (z 2).val < 1024 := (z 2).isLt
  have c0 : (((cfg0.win 0).blk t).view.emb z 0).val = (y 0).val := by rw [b0, hy0]; omega
  have c1 : (((cfg0.win 0).blk t).view.emb z 1).val = (y 1).val := by rw [b1, hy1]; omega
  have c2 : (((cfg0.win 0).blk t).view.emb z 2).val = (y 2).val := by rw [b2, hy2]; omega
  show V m c main_v13 (((cfg0.win 0).blk t).view.emb z) = V m c main_v13 y
  refine congrArg _ (funext fun a => Fin.ext ?_)
  match a with
  | ⟨0, _⟩ => exact c0
  | ⟨1, _⟩ => exact c1
  | ⟨2, _⟩ => exact c2

/-- Window 1's block at point `t`, read at an index. -/
theorem blk1 (c : Dev nD) (t : Fin cfg0.N) (z : S1x1x512.Idx) (y : (S16x1x10240).Idx)
    (hy0 : (y 0).val = t.val / 20)
    (hy1 : (y 1).val = 0)
    (hy2 : (y 2).val = 512 * (t.val % 20) + (z 2).val) :
    iblk m c 1 t z = V m c main_v15 y := by
  obtain ⟨e0, e1, e2⟩ := idx1 t
  have b0 : (((cfg0.win 1).blk t).view.emb z 0).val = win0_1.index t (0 : Fin 3) * 1 + 1 * (z 0).val := rfl
  have b1 : (((cfg0.win 1).blk t).view.emb z 1).val = win0_1.index t (1 : Fin 3) * 1 + 1 * (z 1).val := rfl
  have b2 : (((cfg0.win 1).blk t).view.emb z 2).val = win0_1.index t (2 : Fin 3) * 512 + 1 * (z 2).val := rfl
  have z0 : (z 0).val < 1 := (z 0).isLt
  have z1 : (z 1).val < 1 := (z 1).isLt
  have z2 : (z 2).val < 512 := (z 2).isLt
  have c0 : (((cfg0.win 1).blk t).view.emb z 0).val = (y 0).val := by rw [b0, hy0]; omega
  have c1 : (((cfg0.win 1).blk t).view.emb z 1).val = (y 1).val := by rw [b1, hy1]; omega
  have c2 : (((cfg0.win 1).blk t).view.emb z 2).val = (y 2).val := by rw [b2, hy2]; omega
  show V m c main_v15 (((cfg0.win 1).blk t).view.emb z) = V m c main_v15 y
  refine congrArg _ (funext fun a => Fin.ext ?_)
  match a with
  | ⟨0, _⟩ => exact c0
  | ⟨1, _⟩ => exact c1
  | ⟨2, _⟩ => exact c2

/-- Window 2's block at point `t`, read at an index. -/
theorem blk2 (c : Dev nD) (t : Fin cfg0.N) (z : S1x1x1024x1024.Idx) (y : (S4x16x1024x1024).Idx)
    (hy0 : (y 0).val = 0)
    (hy1 : (y 1).val = t.val / 20)
    (hy2 : (y 2).val = (z 2).val)
    (hy3 : (y 3).val = (z 3).val) :
    iblk m c 2 t z = V m c main_arg2 y := by
  obtain ⟨e0, e1, e2, e3⟩ := idx2 t
  have b0 : (((cfg0.win 2).blk t).view.emb z 0).val = win0_2.index t (0 : Fin 4) * 1 + 1 * (z 0).val := rfl
  have b1 : (((cfg0.win 2).blk t).view.emb z 1).val = win0_2.index t (1 : Fin 4) * 1 + 1 * (z 1).val := rfl
  have b2 : (((cfg0.win 2).blk t).view.emb z 2).val = win0_2.index t (2 : Fin 4) * 1024 + 1 * (z 2).val := rfl
  have b3 : (((cfg0.win 2).blk t).view.emb z 3).val = win0_2.index t (3 : Fin 4) * 1024 + 1 * (z 3).val := rfl
  have z0 : (z 0).val < 1 := (z 0).isLt
  have z1 : (z 1).val < 1 := (z 1).isLt
  have z2 : (z 2).val < 1024 := (z 2).isLt
  have z3 : (z 3).val < 1024 := (z 3).isLt
  have c0 : (((cfg0.win 2).blk t).view.emb z 0).val = (y 0).val := by rw [b0, hy0]; omega
  have c1 : (((cfg0.win 2).blk t).view.emb z 1).val = (y 1).val := by rw [b1, hy1]; omega
  have c2 : (((cfg0.win 2).blk t).view.emb z 2).val = (y 2).val := by rw [b2, hy2]; omega
  have c3 : (((cfg0.win 2).blk t).view.emb z 3).val = (y 3).val := by rw [b3, hy3]; omega
  show V m c main_arg2 (((cfg0.win 2).blk t).view.emb z) = V m c main_arg2 y
  refine congrArg _ (funext fun a => Fin.ext ?_)
  match a with
  | ⟨0, _⟩ => exact c0
  | ⟨1, _⟩ => exact c1
  | ⟨2, _⟩ => exact c2
  | ⟨3, _⟩ => exact c3

/-- Window 3's block at point `t`, read at an index. -/
theorem blk3 (c : Dev nD) (t : Fin cfg0.N) (z : S1x1x1024x1024.Idx) (y : (S4x16x1024x1024).Idx)
    (hy0 : (y 0).val = 0)
    (hy1 : (y 1).val = t.val / 20)
    (hy2 : (y 2).val = (z 2).val)
    (hy3 : (y 3).val = (z 3).val) :
    iblk m c 3 t z = V m c main_arg3 y := by
  obtain ⟨e0, e1, e2, e3⟩ := idx3 t
  have b0 : (((cfg0.win 3).blk t).view.emb z 0).val = win0_3.index t (0 : Fin 4) * 1 + 1 * (z 0).val := rfl
  have b1 : (((cfg0.win 3).blk t).view.emb z 1).val = win0_3.index t (1 : Fin 4) * 1 + 1 * (z 1).val := rfl
  have b2 : (((cfg0.win 3).blk t).view.emb z 2).val = win0_3.index t (2 : Fin 4) * 1024 + 1 * (z 2).val := rfl
  have b3 : (((cfg0.win 3).blk t).view.emb z 3).val = win0_3.index t (3 : Fin 4) * 1024 + 1 * (z 3).val := rfl
  have z0 : (z 0).val < 1 := (z 0).isLt
  have z1 : (z 1).val < 1 := (z 1).isLt
  have z2 : (z 2).val < 1024 := (z 2).isLt
  have z3 : (z 3).val < 1024 := (z 3).isLt
  have c0 : (((cfg0.win 3).blk t).view.emb z 0).val = (y 0).val := by rw [b0, hy0]; omega
  have c1 : (((cfg0.win 3).blk t).view.emb z 1).val = (y 1).val := by rw [b1, hy1]; omega
  have c2 : (((cfg0.win 3).blk t).view.emb z 2).val = (y 2).val := by rw [b2, hy2]; omega
  have c3 : (((cfg0.win 3).blk t).view.emb z 3).val = (y 3).val := by rw [b3, hy3]; omega
  show V m c main_arg3 (((cfg0.win 3).blk t).view.emb z) = V m c main_arg3 y
  refine congrArg _ (funext fun a => Fin.ext ?_)
  match a with
  | ⟨0, _⟩ => exact c0
  | ⟨1, _⟩ => exact c1
  | ⟨2, _⟩ => exact c2
  | ⟨3, _⟩ => exact c3

/-- Window 4's block at point `t`, read at an index. -/
theorem blk4 (c : Dev nD) (t : Fin cfg0.N) (z : S1x1x1024x1024.Idx) (y : (S4x16x1024x1024).Idx)
    (hy0 : (y 0).val = 0)
    (hy1 : (y 1).val = t.val / 20)
    (hy2 : (y 2).val = (z 2).val)
    (hy3 : (y 3).val = (z 3).val) :
    iblk m c 4 t z = V m c main_arg4 y := by
  obtain ⟨e0, e1, e2, e3⟩ := idx4 t
  have b0 : (((cfg0.win 4).blk t).view.emb z 0).val = win0_4.index t (0 : Fin 4) * 1 + 1 * (z 0).val := rfl
  have b1 : (((cfg0.win 4).blk t).view.emb z 1).val = win0_4.index t (1 : Fin 4) * 1 + 1 * (z 1).val := rfl
  have b2 : (((cfg0.win 4).blk t).view.emb z 2).val = win0_4.index t (2 : Fin 4) * 1024 + 1 * (z 2).val := rfl
  have b3 : (((cfg0.win 4).blk t).view.emb z 3).val = win0_4.index t (3 : Fin 4) * 1024 + 1 * (z 3).val := rfl
  have z0 : (z 0).val < 1 := (z 0).isLt
  have z1 : (z 1).val < 1 := (z 1).isLt
  have z2 : (z 2).val < 1024 := (z 2).isLt
  have z3 : (z 3).val < 1024 := (z 3).isLt
  have c0 : (((cfg0.win 4).blk t).view.emb z 0).val = (y 0).val := by rw [b0, hy0]; omega
  have c1 : (((cfg0.win 4).blk t).view.emb z 1).val = (y 1).val := by rw [b1, hy1]; omega
  have c2 : (((cfg0.win 4).blk t).view.emb z 2).val = (y 2).val := by rw [b2, hy2]; omega
  have c3 : (((cfg0.win 4).blk t).view.emb z 3).val = (y 3).val := by rw [b3, hy3]; omega
  show V m c main_arg4 (((cfg0.win 4).blk t).view.emb z) = V m c main_arg4 y
  refine congrArg _ (funext fun a => Fin.ext ?_)
  match a with
  | ⟨0, _⟩ => exact c0
  | ⟨1, _⟩ => exact c1
  | ⟨2, _⟩ => exact c2
  | ⟨3, _⟩ => exact c3

/-- Two points of one expert read the same block of window 2. -/
theorem same2 (c : Dev nD) (t t' : Fin cfg0.N) (h : t.val / 20 = t'.val / 20) : iblk m c 2 t = iblk m c 2 t' := by
  funext z
  have ht : t.val < 320 := lt_of_lt_of_eq t.isLt (show cfg0.N = 320 from N_0)
  let y : S4x16x1024x1024.Idx := fun a => match a with
    | ⟨0, _⟩ => ⟨0, by show 0 < 4; omega⟩
    | ⟨1, _⟩ => ⟨t.val / 20, by show t.val / 20 < 16; omega⟩
    | ⟨2, _⟩ => z 2
    | ⟨3, _⟩ => z 3
  exact (blk2 m c t z y rfl rfl rfl rfl).trans (blk2 m c t' z y rfl h rfl rfl).symm

/-- Two points of one expert read the same block of window 3. -/
theorem same3 (c : Dev nD) (t t' : Fin cfg0.N) (h : t.val / 20 = t'.val / 20) : iblk m c 3 t = iblk m c 3 t' := by
  funext z
  have ht : t.val < 320 := lt_of_lt_of_eq t.isLt (show cfg0.N = 320 from N_0)
  let y : S4x16x1024x1024.Idx := fun a => match a with
    | ⟨0, _⟩ => ⟨0, by show 0 < 4; omega⟩
    | ⟨1, _⟩ => ⟨t.val / 20, by show t.val / 20 < 16; omega⟩
    | ⟨2, _⟩ => z 2
    | ⟨3, _⟩ => z 3
  exact (blk3 m c t z y rfl rfl rfl rfl).trans (blk3 m c t' z y rfl h rfl rfl).symm

/-- Two points of one expert read the same block of window 4. -/
theorem same4 (c : Dev nD) (t t' : Fin cfg0.N) (h : t.val / 20 = t'.val / 20) : iblk m c 4 t = iblk m c 4 t' := by
  funext z
  have ht : t.val < 320 := lt_of_lt_of_eq t.isLt (show cfg0.N = 320 from N_0)
  let y : S4x16x1024x1024.Idx := fun a => match a with
    | ⟨0, _⟩ => ⟨0, by show 0 < 4; omega⟩
    | ⟨1, _⟩ => ⟨t.val / 20, by show t.val / 20 < 16; omega⟩
    | ⟨2, _⟩ => z 2
    | ⟨3, _⟩ => z 3
  exact (blk4 m c t z y rfl rfl rfl rfl).trans (blk4 m c t' z y rfl h rfl rfl).symm

/-- After every point: the tile formula in the output block, the casts of the weight blocks in scratch. -/
theorem outs_eq (c : Dev nD) : ∀ (n : ℕ) (h : n < cfg0.N), outsAt0 m c n h
    = (tile m c ⟨n, h⟩, k0_pay1 (iblk m c 2 ⟨n, h⟩), k0_pay2 (iblk m c 3 ⟨n, h⟩), k0_pay3 (iblk m c 4 ⟨n, h⟩)) := by
  have first : ∀ t : Fin cfg0.N, t.val % 20 = 0 → outsAt0 m c t.val t.isLt
      = (tile m c t, k0_pay1 (iblk m c 2 t), k0_pay2 (iblk m c 3 t), k0_pay3 (iblk m c 4 t)) := fun t h0 => by
    rw [outsAt0_A m c t h0, tile_A, scratch_A_0, scratch_A_1, scratch_A_2]
    rfl
  intro n
  induction n with
  | zero => exact fun h => first ⟨0, h⟩ rfl
  | succ n ih =>
    intro h
    by_cases h0 : (n + 1) % 20 = 0
    · exact first ⟨n + 1, h⟩ h0
    · have hd : (⟨n, Nat.lt_of_succ_lt h⟩ : Fin cfg0.N).val / 20 = (⟨n + 1, h⟩ : Fin cfg0.N).val / 20 := by
        show n / 20 = (n + 1) / 20
        omega
      rw [outsAt0_B m c ⟨n + 1, h⟩ h0, tile_B]
      unfold sout0_B_0 sout0_B_1 sout0_B_2 tile
      simp only [Nat.add_sub_cancel, ih (Nat.lt_of_succ_lt h), same2 m c _ _ hd, same3 m c _ _ hd, same4 m c _ _ hd]

/-- The result array at `(e, r, d)`: tile `r / 512` of expert `e`, at row `r % 512`. -/
theorem result_at (c : Dev nD) (i : S16x10240x1024.Idx) (t : Fin cfg0.N) (z : S1x512x1024.Idx)
    (ht : t.val = 20 * (i 0).val + (i 1).val / 512) (hz1 : (z 1).val = (i 1).val % 512) (hz2 : (z 2).val = (i 2).val) :
    G5 m c i = tile m c t z := by
  have i2 : (i 2).val < 1024 := (i 2).isLt
  have z0 : (z 0).val < 1 := (z 0).isLt
  have hp : pt5Of i = t.val := by
    show 20 * ((i 0).val / 1 - 0) + 1 * ((i 1).val / 512 - 0) + 1 * ((i 2).val / 1024 - 0) = t.val
    omega
  have hl : loc5Of i = z := funext fun a => Fin.ext (by
    match a with
    | ⟨0, _⟩ => show (i 0).val % 1 = (z 0).val; omega
    | ⟨1, _⟩ => exact hz1.symm
    | ⟨2, _⟩ => show (i 2).val % 1024 = (z 2).val; omega)
  unfold G5
  rw [dif_pos (by rw [hp]; exact t.isLt), hl, fold0_congr m c _ _ _ (by simpa using t.isLt) hp,
    ← outsAt0_sweep m c t.val t.isLt, outs_eq m c t.val t.isLt]

end Cert.MoeIdeal.Experts

end
-- ==== Proof.Experts.Tile.lean ====
module

public import proofs.«01_k».proof.Proof.Experts.Cases
public import Idealize.ShloMosaic.Lib.Pointwise

@[expose] public section

set_option maxRecDepth 16384

/-! # The tile formula at an index, over the extended reals -/

noncomputable section

namespace Cert.MoeIdeal.Experts

open Cert.MoeIdeal Cert.MoeIdeal.Gen
open Idealize.ShloMosaic

/-- One token through one expert, at output feature `d`: the gated hidden row against column `d` of the down
    projection, times the router's gate. -/
def ffn (x : Fin 1024 → EReal) (w1 w3 w2 : Fin 1024 → Fin 1024 → EReal) (gate : EReal) (d : Fin 1024) : EReal :=
  (∑ f, ((∑ k, x k * w1 k f) * Ideal.logistic (∑ k, x k * w1 k f) * ∑ k, x k * w3 k f) * w2 f d) * gate

/-- The diagonal of a square whose rows are all `g`, summed along a row, is `g` at that row: the way the tile turns
    its row of gates into a column. -/
theorem diag_sum (g : Fin 512 → EReal) (r : Fin 512) :
    (∑ x : Fin 512, Scalar.select (IntOp.cmpi CmpIPredicate.eq (BitVec.ofNat 32 r.val) (BitVec.ofNat 32 x.val)) (g x) 0)
      = g r := by
  have h : ∀ x : Fin 512, Scalar.select (IntOp.cmpi CmpIPredicate.eq (BitVec.ofNat 32 r.val) (BitVec.ofNat 32 x.val)) (g x) 0
      = if r = x then g x else 0 := fun x => by
    have hi : (BitVec.ofNat 32 r.val = BitVec.ofNat 32 x.val) ↔ r = x := by
      constructor
      · intro e
        have := congrArg BitVec.toNat e
        simp only [BitVec.toNat_ofNat] at this
        apply Fin.ext
        have := r.isLt
        have := x.isLt
        omega
      · rintro rfl; rfl
    by_cases hx : r = x
    · subst hx
      simp [Scalar.select, IntOp.cmpi]
    · have hb : ¬ (BitVec.ofNat 32 r.val = BitVec.ofNat 32 x.val) := fun e => hx (hi.mp e)
      rw [if_neg hx]
      show (if BitVec.ofBool (BitVec.ofNat 32 r.val == BitVec.ofNat 32 x.val) = 1#1 then g x else 0) = 0
      rw [beq_eq_false_iff_ne.mpr hb]
      rfl
  rw [Finset.sum_congr rfl fun x _ => h x]
  simp

theorem pay4_at (x : Vec Ideal S1x512x1024 .bf16) (a b w : Vec Ideal S1024x1024 .bf16) (g : Vec Ideal S1x1x512 .f32)
    (r : Fin 512) (d : Fin 1024) :
    k0_pay4 (F := Ideal) x a b g w (ix3 0 r d)
      = ffn (fun k => x (ix3 0 r k)) (fun k f => a (ix2 k f)) (fun k f => b (ix2 k f)) (fun f d => w (ix2 f d))
          (g (ix3 0 0 r)) d := by
  pointwise [k0_pay4]
  rw [diag_sum (fun k => g (ix3 0 0 k)) r]
  rfl

theorem pay1_at (x : Vec Ideal S1x1x1024x1024 .f32) (r d : Fin 1024) :
    k0_pay1 (F := Ideal) x (ix2 r d) = x (ix4 0 0 r d) := by pointwise [k0_pay1]
theorem pay2_at (x : Vec Ideal S1x1x1024x1024 .f32) (r d : Fin 1024) :
    k0_pay2 (F := Ideal) x (ix2 r d) = x (ix4 0 0 r d) := by pointwise [k0_pay2]
theorem pay3_at (x : Vec Ideal S1x1x1024x1024 .f32) (r d : Fin 1024) :
    k0_pay3 (F := Ideal) x (ix2 r d) = x (ix4 0 0 r d) := by pointwise [k0_pay3]

variable (m : (ℓ : Loc nD τ sig) → Buf (Elt Ideal) ℓ)

/-- The result array at `(e, r, d)`: the token gathered for that place, through expert `e`'s weights. -/
theorem result_ffn (c : Dev nD) (e : Fin 16) (r : Fin 10240) (d : Fin 1024) :
    Value.G5 m c (ix3 e r d)
      = ffn (fun k => V m c main_v13 (ix3 e r k)) (fun k f => V m c main_arg2 (ix4 0 e k f))
          (fun k f => V m c main_arg3 (ix4 0 e k f)) (fun f d => V m c main_arg4 (ix4 0 e f d))
          (V m c main_v15 (ix3 e 0 r)) d := by
  have he := e.isLt
  have hr := r.isLt
  have hd := Nat.div_add_mod r.val 512
  let t : Fin cfg0.N := ⟨20 * e.val + r.val / 512, lt_of_lt_of_eq (by omega) (show cfg0.N = 320 from N_0).symm⟩
  have tq : t.val / 20 = e.val := by show (20 * e.val + r.val / 512) / 20 = e.val; omega
  have tr : t.val % 20 = r.val / 512 := by show (20 * e.val + r.val / 512) % 20 = r.val / 512; omega
  let r' : Fin 512 := ⟨r.val % 512, Nat.mod_lt _ (by decide)⟩
  have row : 512 * (t.val % 20) + r'.val = r.val := by rw [tr]; exact hd
  rw [result_at m c (ix3 e r d) t (ix3 0 r' d) rfl rfl rfl]
  unfold tile
  rw [pay4_at]
  simp only [pay1_at, pay2_at, pay3_at]
  rw [show (fun k => iblk m c 0 t (ix3 0 r' k)) = fun k => V m c main_v13 (ix3 e r k) from
      funext fun k => blk0 m c t (ix3 0 r' k) (ix3 e r k) tq.symm row.symm rfl,
    show (fun k f => iblk m c 2 t (ix4 0 0 k f)) = fun k f => V m c main_arg2 (ix4 0 e k f) from
      funext fun k => funext fun f => blk2 m c t (ix4 0 0 k f) (ix4 0 e k f) rfl tq.symm rfl rfl,
    show (fun k f => iblk m c 3 t (ix4 0 0 k f)) = fun k f => V m c main_arg3 (ix4 0 e k f) from
      funext fun k => funext fun f => blk3 m c t (ix4 0 0 k f) (ix4 0 e k f) rfl tq.symm rfl rfl,
    show (fun f d => iblk m c 4 t (ix4 0 0 f d)) = fun f d => V m c main_arg4 (ix4 0 e f d) from
      funext fun k => funext fun f => blk4 m c t (ix4 0 0 k f) (ix4 0 e k f) rfl tq.symm rfl rfl,
    show iblk m c 1 t (ix3 0 0 r') = V m c main_v15 (ix3 e 0 r) from
      blk1 m c t (ix3 0 0 r') (ix3 e 0 r) tq.symm rfl row.symm]

end Cert.MoeIdeal.Experts

end
-- ==== Proof.Experts.Route.lean ====
module

public import Idealize.ShloMosaic.PureOps
public import Idealize.ShloMosaic.Lib.Pointwise
public import Idealize.ShloMosaic.Lib.Tactic.WordOmega

@[expose] public section

/-! # Reading a top-k and a row gather -/

noncomputable section

namespace Cert.Routing

open Idealize.ShloMosaic

/-- A top-k along the second axis of a matrix: each index it returns is the word of a position on that axis. -/
theorem topK_index {α : Type} {E n k : ℕ} (gt : α → α → BitVec 1) (x : (⟨2, ![E, n]⟩ : Shape).Idx → α)
    (h : (⟨2, ![E, n]⟩ : Shape).Slices (fun _ => 0) ⟨2, ![E, k]⟩) (j : (⟨2, ![E, k]⟩ : Shape).Idx) :
    ∃ p : Fin n, (Host.topK ⟨2, ![E, k]⟩ 1 gt x h).2 j = BitVec.ofNat 32 p.val := by
  unfold Host.topK Host.sort2
  have h1 : 1 < (⟨2, ![E, n]⟩ : Shape).rank := Nat.one_lt_two
  simp only [extractStridedSlice, dif_pos h1, iotaInDim, Shape.Idx.along, Function.update_self]
  exact ⟨_, rfl⟩

/-- The dimension numbers of "row `idx[e, j]` of the table, for every `e` and `j`". -/
abbrev rowDims (N E J C : ℕ)
    (wf : GatherDims.WF ⟨2, ![N, C]⟩ ⟨3, ![E, J, 1]⟩ ⟨3, ![E, J, C]⟩ [2] [0] [] [0] [] 2 ![1, C]) :
    GatherDims ⟨2, ![N, C]⟩ ⟨3, ![E, J, 1]⟩ ⟨3, ![E, J, C]⟩ where
  offsetDims := [2]
  collapsedSliceDims := [0]
  operandBatchingDims := []
  startIndicesBatchingDims := []
  startIndexMap := [0]
  indexVectorDim := 2
  sliceSizes := ![1, C]
  wf := wf

/-- A row gather at `(e, j, d)`, the index naming row `p` of the table: the table at `(p, d)`. -/
theorem gather_row {α : Type} {N E J C : ℕ}
    (wf : GatherDims.WF ⟨2, ![N, C]⟩ ⟨3, ![E, J, 1]⟩ ⟨3, ![E, J, C]⟩ [2] [0] [] [0] [] 2 ![1, C])
    (x : (⟨2, ![N, C]⟩ : Shape).Idx → α) (idx : IVec ⟨3, ![E, J, 1]⟩ 32) (e : Fin E) (j : Fin J) (d : Fin C) (p : Fin N)
    (hp : (idx (ix3 e j 0)).toInt = p.val) :
    Host.gather (rowDims N E J C wf) x idx (ix3 e j d) = x (ix2 p d) := by
  unfold Host.gather
  congr 1
  funext a
  refine Fin.ext ?_
  show (rowDims N E J C wf).start (ix3 e j d) idx a + (rowDims N E J C wf).batchCoord (ix3 e j d) a
      + (rowDims N E J C wf).offCoord (ix3 e j d) a = _
  match a with
  | ⟨0, _⟩ =>
    show (rowDims N E J C wf).start (ix3 e j d) idx 0 + (rowDims N E J C wf).batchCoord (ix3 e j d) 0
      + (rowDims N E J C wf).offCoord (ix3 e j d) 0 = p.val
    rw [GatherDims.batchCoord_eq_zero _ _ _ (fun h => by simp at h),
      GatherDims.offCoord_eq_zero _ _ _ (fun h => ((GatherDims.mem_sKept _ _).mp h).1 (List.mem_singleton.mpr rfl))]
    unfold GatherDims.start
    rw [dif_pos (show (0 : Fin 2) ∈ (rowDims N E J C wf).startIndexMap from List.mem_singleton.mpr rfl)]
    have hsi : (rowDims N E J C wf).siIdx (ix3 e j d) ⟨List.idxOf (0 : Fin 2) (rowDims N E J C wf).startIndexMap,
        List.idxOf_lt_length_iff.2 (List.mem_singleton.mpr rfl)⟩ = ix3 e j 0 := by
      funext b; refine Fin.ext ?_
      match b with
      | ⟨0, _⟩ => rfl
      | ⟨1, _⟩ => rfl
      | ⟨2, _⟩ => rfl
    rw [hsi, hp]
    show min (Int.toNat (p.val : ℤ)) (N - 1) + 0 + 0 = p.val
    have := p.isLt
    rw [Int.toNat_natCast]
    omega
  | ⟨1, _⟩ =>
    show (rowDims N E J C wf).start (ix3 e j d) idx 1 + (rowDims N E J C wf).batchCoord (ix3 e j d) 1
      + (rowDims N E J C wf).offCoord (ix3 e j d) 1 = d.val
    rw [GatherDims.batchCoord_eq_zero _ _ _ (fun h => by simp at h)]
    unfold GatherDims.start
    rw [dif_neg (show ¬ (1 : Fin 2) ∈ (rowDims N E J C wf).startIndexMap by simp)]
    unfold GatherDims.offCoord
    rw [dif_pos ((GatherDims.mem_sKept _ _).mpr ⟨by simp, by simp⟩)]
    show 0 + 0 + _ = d.val
    rw [Nat.zero_add]
    rfl

/-- The word of a small natural number, read signed. -/
theorem toInt_small (p : ℕ) (h : p < 2 ^ 31) : (BitVec.ofNat 32 p).toInt = p := by
  rw [BitVec.toInt_ofNat']
  exact Int.bmod_eq_of_le (by omega) (by omega)

/-- A position is not negative, so "count negative positions from the end" leaves it alone. -/
theorem wrap_word (p : ℕ) (n : BitVec 32) (h : p < 2 ^ 31) :
    Scalar.select (IntOp.cmpi CmpIPredicate.slt (BitVec.ofNat 32 p) 0#32) (IntOp.addi (BitVec.ofNat 32 p) n) (BitVec.ofNat 32 p)
      = BitVec.ofNat 32 p := by
  have h0 : ¬ (BitVec.ofNat 32 p).toInt < 0 := by rw [toInt_small p h]; omega
  show (if BitVec.ofBool ((BitVec.ofNat 32 p).slt 0#32) = 1#1 then _ else _) = _
  rw [show (BitVec.ofNat 32 p).slt 0#32 = false from decide_eq_false (by simpa using h0)]
  rfl

end Cert.Routing

end
-- ==== Proof.Experts.Entry.lean ====
module

public import proofs.«01_k».proof.Proof.Experts.Tile
public import proofs.«01_k».proof.Proof.Experts.Route
public import proofs.«01_k».proof.Proof.Gen.MoeReferenceIdeal.Read
public import Idealize.ShloMosaic.Lib.Claim

@[expose] public section

set_option maxRecDepth 16384

/-! # What the kernel's call finds: the gathered tokens and their gates

The kernel gathers from all tokens at once, at each group's positions shifted by the group's start. -/

noncomputable section

namespace Cert.MoeIdeal.Experts

open Cert.MoeIdeal Cert.MoeIdeal.Gen
open Idealize.ShloMosaic
open Cert.MoeReferenceIdeal.Read (val_main_values val_main_values_1 val_main_indices val_main_indices_2)

variable (m : (ℓ : Loc nD τ sig) → Buf (Elt Ideal) ℓ)

/-- The arguments, as plain arrays. -/
abbrev tokens (c : Dev nD) : FVec Ideal S81920x1024 .bf16 := m (c, Proc.tc.devRef main_arg0)
abbrev scores (c : Dev nD) : FVec Ideal S16x81920 .f32 := m (c, Proc.tc.devRef main_arg1)

theorem gates_first (c : Dev nD) (e : Fin 16) (r : Fin 10240) (h : r.val < 2048) :
    V m c main_v15 (ix3 e 0 r) = val_main_values (F := Ideal) (scores m c) (ix2 e ⟨r.val, h⟩) := by
  entry_read
  pointwise
  rw [dif_pos h]
  rfl

theorem gates_second (c : Dev nD) (e : Fin 16) (r : Fin 10240) (h : ¬ r.val < 2048) :
    V m c main_v15 (ix3 e 0 r)
      = val_main_values_1 (F := Ideal) (scores m c) (ix2 e ⟨r.val - 2048, by have := r.isLt; omega⟩) := by
  entry_read
  pointwise
  rw [dif_neg h]
  rfl

theorem gather_all (x : FVec Ideal S81920x1024 .bf16) (idx : IVec S16x10240x1 32) (e : Fin 16) (r : Fin 10240) (k : Fin 1024)
    (p : Fin 81920) (hp : (idx (ix3 e r 0)).toInt = (p.val : ℤ)) :
    Host.gather gather_S81920x1024_S16x10240x1_S16x10240x1024_2_0_n_n_0_2_11024 x idx (ix3 e r k) = x (ix2 p k) :=
  Cert.Routing.gather_row _ x idx e r k p hp

/-- The two groups' positions side by side, each shifted by its group's start. -/
abbrev places (A : IVec S16x2048 32) (B : IVec S16x8192 32) : IVec S16x10240 32 :=
  concatenate S16x10240 1
    [⟨S16x2048, addi A (broadcastInDim S16x2048 ![] bcast_S_S16x2048 (constantI S_ 32 0#32))⟩,
      ⟨S16x8192, addi B (broadcastInDim S16x8192 ![] bcast_S_S16x8192 (constantI S_ 32 16384#32))⟩]
    concatenates_S16x2048_S16x8192_S16x10240_d1

/-- The index the gather reads: negative positions would count from the end. -/
abbrev wrapped (C : IVec S16x10240 32) : IVec S16x10240x1 32 :=
  broadcastInDim S16x10240x1 ![0, 1] bcast_S16x10240_S16x10240x1_0_1
    (select (cmpi CmpIPredicate.slt C (broadcastInDim S16x10240 ![] bcast_S_S16x10240 (constantI S_ 32 0#32)))
      (addi C (broadcastInDim S16x10240 ![] bcast_S_S16x10240 (constantI S_ 32 81920#32))) C)

theorem wrapped_at (C : IVec S16x10240 32) (e : Fin 16) (r : Fin 10240) (p : ℕ) (hp : p < 2 ^ 31)
    (h : C (ix2 e r) = BitVec.ofNat 32 p) : (wrapped C (ix3 e r 0)).toInt = (p : ℤ) := by
  have hw : wrapped C (ix3 e r 0) = BitVec.ofNat 32 p := by
    unfold wrapped
    pointwise
    rw [h]
    exact Cert.Routing.wrap_word p _ hp
  rw [hw, Cert.Routing.toInt_small p hp]

theorem places_first (A : IVec S16x2048 32) (B : IVec S16x8192 32) (e : Fin 16) (r : Fin 10240) (h : r.val < 2048) (p : ℕ)
    (hA : A (ix2 e ⟨r.val, h⟩) = BitVec.ofNat 32 p) : places A B (ix2 e r) = BitVec.ofNat 32 p := by
  unfold places
  pointwise
  rw [dif_pos h, hA]
  exact BitVec.add_zero _

theorem places_second (A : IVec S16x2048 32) (B : IVec S16x8192 32) (e : Fin 16) (r : Fin 10240) (h : ¬ r.val < 2048) (p : ℕ)
    (hB : B (ix2 e ⟨r.val - 2048, by have := r.isLt; omega⟩) = BitVec.ofNat 32 p) :
    places A B (ix2 e r) = BitVec.ofNat 32 (p + 16384) := by
  unfold places
  pointwise
  rw [dif_neg h, hB]
  exact (BitVec.ofNat_add p 16384).symm

theorem toks_first (c : Dev nD) (e : Fin 16) (r : Fin 10240) (k : Fin 1024) (h : r.val < 2048) (p : Fin 16384)
    (hp : val_main_indices (F := Ideal) (scores m c) (ix2 e ⟨r.val, h⟩) = BitVec.ofNat 32 p.val) :
    V m c main_v13 (ix3 e r k) = tokens m c (ix2 ⟨p.val, by have := p.isLt; omega⟩ k) := by
  have hl := p.isLt
  entry_read
  have key := fun idx => gather_all (tokens m c) idx e r k ⟨p.val, by omega⟩
  refine key _ ?_
  exact wrapped_at (places _ _) e r p.val (by omega) (places_first _ _ e r h p.val hp)

theorem toks_second (c : Dev nD) (e : Fin 16) (r : Fin 10240) (k : Fin 1024) (h : ¬ r.val < 2048) (p : Fin 65536)
    (hp : val_main_indices_2 (F := Ideal) (scores m c) (ix2 e ⟨r.val - 2048, by have := r.isLt; omega⟩) = BitVec.ofNat 32 p.val) :
    V m c main_v13 (ix3 e r k) = tokens m c (ix2 ⟨p.val + 16384, by have := p.isLt; omega⟩ k) := by
  have hl := p.isLt
  entry_read
  have key := fun idx => gather_all (tokens m c) idx e r k ⟨p.val + 16384, by omega⟩
  refine key _ ?_
  exact wrapped_at (places _ _) e r (p.val + 16384) (by omega) (places_second _ _ e r h p.val hp)

end Cert.MoeIdeal.Experts

end
-- ==== Proof.Experts.Reference.lean ====
module

public import proofs.«01_k».proof.Proof.Experts.Entry

@[expose] public section

set_option maxRecDepth 16384

/-! # The reference at an index: each group's tokens through their expert -/

noncomputable section

namespace Cert.MoeReferenceIdeal.Experts

open Cert.MoeReferenceIdeal Cert.MoeReferenceIdeal.Gen Cert.MoeReferenceIdeal.Read
open Idealize.ShloMosaic
open Cert.MoeIdeal.Experts (ffn)

variable (x0 : FVec Ideal S81920x1024 .bf16) (x1 : FVec Ideal S16x81920 .f32) (x2 x3 x4 : FVec Ideal S4x16x1024x1024 .f32)

theorem group_first (e : Fin 16) (r : Fin 2048) (d : Fin 1024) :
    val_main_v23 (F := Ideal) x0 x1 x2 x3 x4 (ix3 e r d)
      = ffn (fun k => val_main_v15 (F := Ideal) x0 x1 (ix3 e r k)) (fun k f => x2 (ix4 0 e k f)) (fun k f => x3 (ix4 0 e k f))
          (fun f d => x4 (ix4 0 e f d)) (val_main_values (F := Ideal) x1 (ix2 e r)) d := by
  generalize hX : val_main_v15 (F := Ideal) x0 x1 = X
  generalize hG : val_main_values (F := Ideal) x1 = G
  unfold val_main_v23 val_main_v22 val_main_v21 val_main_v20 val_main_v19 val_main_v18 val_main_v17 val_main_call0_v5 val_main_call0_v4 val_main_call0_cst_0 val_main_call0_v3 val_main_call0_v2 val_main_call0_cst val_main_call0_v1 val_main_call0_v0 val_main_v16 val_main_v8 val_main_v7 val_main_v6 val_main_v5 val_main_v4 val_main_v3
  rw [hX, hG]
  pointwise
  rfl

theorem group_second (e : Fin 16) (r : Fin 8192) (d : Fin 1024) :
    val_main_v46 (F := Ideal) x0 x1 x2 x3 x4 (ix3 e r d)
      = ffn (fun k => val_main_v38 (F := Ideal) x0 x1 (ix3 e r k)) (fun k f => x2 (ix4 0 e k f)) (fun k f => x3 (ix4 0 e k f))
          (fun f d => x4 (ix4 0 e f d)) (val_main_values_1 (F := Ideal) x1 (ix2 e r)) d := by
  generalize hX : val_main_v38 (F := Ideal) x0 x1 = X
  generalize hG : val_main_values_1 (F := Ideal) x1 = G
  unfold val_main_v46 val_main_v45 val_main_v44 val_main_v43 val_main_v42 val_main_v41 val_main_v40 val_main_call1_v5 val_main_call1_v4 val_main_call1_cst_0 val_main_call1_v3 val_main_call1_v2 val_main_call1_cst val_main_call1_v1 val_main_call1_v0 val_main_v39 val_main_v31 val_main_v30 val_main_v29 val_main_v28 val_main_v27 val_main_v26
  rw [hX, hG]
  pointwise
  rfl

theorem gather_g1 (x : FVec Ideal S16384x1024 .f32) (idx : IVec S16x2048x1 32) (e : Fin 16) (r : Fin 2048) (k : Fin 1024)
    (p : Fin 16384) (hp : (idx (ix3 e r 0)).toInt = (p.val : ℤ)) :
    Host.gather gather_S16384x1024_S16x2048x1_S16x2048x1024_2_0_n_n_0_2_11024 x idx (ix3 e r k) = x (ix2 p k) :=
  Cert.Routing.gather_row _ x idx e r k p hp

theorem gather_g2 (x : FVec Ideal S65536x1024 .f32) (idx : IVec S16x8192x1 32) (e : Fin 16) (r : Fin 8192) (k : Fin 1024)
    (p : Fin 65536) (hp : (idx (ix3 e r 0)).toInt = (p.val : ℤ)) :
    Host.gather gather_S65536x1024_S16x8192x1_S16x8192x1024_2_0_n_n_0_2_11024 x idx (ix3 e r k) = x (ix2 p k) :=
  Cert.Routing.gather_row _ x idx e r k p hp

theorem toks_first (e : Fin 16) (r : Fin 2048) (k : Fin 1024) (p : Fin 16384)
    (hp : val_main_indices (F := Ideal) x1 (ix2 e r) = BitVec.ofNat 32 p.val) :
    val_main_v15 (F := Ideal) x0 x1 (ix3 e r k) = x0 (ix2 ⟨p.val, by have := p.isLt; omega⟩ k) := by
  have hl := p.isLt
  unfold val_main_v15
  have hi : val_main_v14 (F := Ideal) x1 (ix3 e r 0) = BitVec.ofNat 32 p.val := by
    generalize hG : val_main_indices (F := Ideal) x1 = G at hp
    unfold val_main_v14 val_main_v13 val_main_v12 val_main_v11 val_main_v10 val_main_v9 val_main_c val_main_c_0
    rw [hG]
    pointwise
    rw [hp]
    exact Cert.Routing.wrap_word p.val _ (by omega)
  refine (gather_g1 _ _ e r k p (by rw [hi, Cert.Routing.toInt_small p.val (by omega)])).trans ?_
  unfold val_main_v1 val_main_v0
  pointwise

theorem toks_second (e : Fin 16) (r : Fin 8192) (k : Fin 1024) (p : Fin 65536)
    (hp : val_main_indices_2 (F := Ideal) x1 (ix2 e r) = BitVec.ofNat 32 p.val) :
    val_main_v38 (F := Ideal) x0 x1 (ix3 e r k) = x0 (ix2 ⟨p.val + 16384, by have := p.isLt; omega⟩ k) := by
  have hl := p.isLt
  unfold val_main_v38
  have hi : val_main_v37 (F := Ideal) x1 (ix3 e r 0) = BitVec.ofNat 32 p.val := by
    generalize hG : val_main_indices_2 (F := Ideal) x1 = G at hp
    unfold val_main_v37 val_main_v36 val_main_v35 val_main_v34 val_main_v33 val_main_v32 val_main_c_3 val_main_c_4
    rw [hG]
    pointwise
    rw [hp]
    exact Cert.Routing.wrap_word p.val _ (by omega)
  refine (gather_g2 _ _ e r k p (by rw [hi, Cert.Routing.toInt_small p.val (by omega)])).trans ?_
  unfold val_main_v24 val_main_v0
  pointwise
  exact congrArg (fun q => x0 (ix2 q k)) (Fin.ext (Nat.add_comm _ _))

theorem reference_first (e : Fin 16) (r : Fin 10240) (h : r.val < 2048) (d : Fin 1024) :
    val_main_v48 (F := Ideal) x0 x1 x2 x3 x4 (ix3 e r d) = val_main_v23 (F := Ideal) x0 x1 x2 x3 x4 (ix3 e ⟨r.val, h⟩ d) := by
  unfold val_main_v48 val_main_v47
  pointwise
  rw [dif_pos h]

theorem reference_second (e : Fin 16) (r : Fin 10240) (h : ¬ r.val < 2048) (d : Fin 1024) :
    val_main_v48 (F := Ideal) x0 x1 x2 x3 x4 (ix3 e r d)
      = val_main_v46 (F := Ideal) x0 x1 x2 x3 x4 (ix3 e ⟨r.val - 2048, by have := r.isLt; omega⟩ d) := by
  unfold val_main_v48 val_main_v47
  pointwise
  rw [dif_neg h]

/-- The kernel's result array is the reference's, on the same arguments. -/
theorem same (m : (ℓ : Loc Cert.MoeIdeal.nD Cert.MoeIdeal.τ Cert.MoeIdeal.sig) → Buf (Elt Ideal) ℓ) (c : Dev Cert.MoeIdeal.nD)
    (e : Fin 16) (r : Fin 10240) (d : Fin 1024) :
    Cert.MoeIdeal.Value.G5 m c (ix3 e r d)
      = val_main_v48 (F := Ideal) (m (c, Proc.tc.devRef Cert.MoeIdeal.main_arg0)) (m (c, Proc.tc.devRef Cert.MoeIdeal.main_arg1))
          (m (c, Proc.tc.devRef Cert.MoeIdeal.main_arg2)) (m (c, Proc.tc.devRef Cert.MoeIdeal.main_arg3))
          (m (c, Proc.tc.devRef Cert.MoeIdeal.main_arg4)) (ix3 e r d) := by
  rw [Cert.MoeIdeal.Experts.result_ffn m c e r d]
  by_cases h : r.val < 2048
  · rw [reference_first _ _ _ _ _ e r h d, group_first]
    obtain ⟨p, hp⟩ := Cert.Routing.topK_index (FloatOps.cmpfTotal (F := Ideal) .gt)
      (val_main_v2 (F := Ideal) (m (c, Proc.tc.devRef Cert.MoeIdeal.main_arg1))) sliceFits_S16x16384_S16x2048 (ix2 e ⟨r.val, h⟩)
    have hx : (fun k => Cert.MoeIdeal.Gen.V m c Cert.MoeIdeal.main_v13 (ix3 e r k))
        = fun k => val_main_v15 (F := Ideal) (m (c, Proc.tc.devRef Cert.MoeIdeal.main_arg0)) (m (c, Proc.tc.devRef Cert.MoeIdeal.main_arg1))
            (ix3 e ⟨r.val, h⟩ k) := by
      funext k
      rw [toks_first _ _ e ⟨r.val, h⟩ k p hp]
      exact Cert.MoeIdeal.Experts.toks_first m c e r k h p hp
    rw [Cert.MoeIdeal.Experts.gates_first m c e r h]
    exact congrArg (fun x => ffn x _ _ _ _ d) hx
  · rw [reference_second _ _ _ _ _ e r h d, group_second]
    have hr := r.isLt
    obtain ⟨p, hp⟩ := Cert.Routing.topK_index (FloatOps.cmpfTotal (F := Ideal) .gt)
      (val_main_v25 (F := Ideal) (m (c, Proc.tc.devRef Cert.MoeIdeal.main_arg1))) sliceFits_S16x65536_S16x8192
      (ix2 e ⟨r.val - 2048, by omega⟩)
    have hx : (fun k => Cert.MoeIdeal.Gen.V m c Cert.MoeIdeal.main_v13 (ix3 e r k))
        = fun k => val_main_v38 (F := Ideal) (m (c, Proc.tc.devRef Cert.MoeIdeal.main_arg0)) (m (c, Proc.tc.devRef Cert.MoeIdeal.main_arg1))
            (ix3 e ⟨r.val - 2048, by omega⟩ k) := by
      funext k
      rw [toks_second _ _ e ⟨r.val - 2048, by omega⟩ k p hp]
      exact Cert.MoeIdeal.Experts.toks_second m c e r k h p hp
    rw [Cert.MoeIdeal.Experts.gates_second m c e r h]
    exact congrArg (fun x => ffn x _ _ _ _ d) hx

end Cert.MoeReferenceIdeal.Experts

end
-- ==== Proof.Layer1.Cases.lean ====
module

public import proofs.«01_k».proof.Proof.Gen.Moe1Ideal.Value

@[expose] public section

set_option maxRecDepth 16384

/-! # What one grid point of the expert FFN leaves behind

The first tile of an expert casts the three weight blocks into scratch and then computes its tile from them; the
other tiles of the expert compute from the scratch as they find it. So after every point the scratch holds the casts
of the point's own weight blocks, and the output block is the tile formula of the point's own input blocks. -/

noncomputable section

namespace Cert.Moe1Ideal.Experts

open Cert.Moe1Ideal Cert.Moe1Ideal.Gen Cert.Moe1Ideal.Value
open Idealize.ShloMosaic Idealize.ShloMosaic.TcCoe Idealize.ShloMosaic.Tactic Idealize.SL.Sem

variable {F : FTy → Type} [FloatOps F]

theorem offs2 : (![0, 0] : Fin S1024x1024.rank → ℕ) = fun _ => 0 := by funext a; fin_cases a <;> rfl
theorem offs3 : (![0, 0, 0] : Fin S1x512x1024.rank → ℕ) = fun _ => 0 := by funext a; fin_cases a <;> rfl
theorem offs3g : (![0, 0, 0] : Fin S1x1x512.rank → ℕ) = fun _ => 0 := by funext a; fin_cases a <;> rfl
theorem offs4 : (![0, 0, 0, 0] : Fin S1x1x1024x1024.rank → ℕ) = fun _ => 0 := by funext a; fin_cases a <;> rfl

/-- A first tile leaves in scratch 0 the cast of its weight block. -/
theorem scratch_A_0 (c : Dev nD) (i : grid0.Coords)
    (a2 : Memref sig .tc .vmem S1x512x1024 .bf16) (h2 : a2.IsWhole)
    (a3 : Memref sig .tc .vmem S1x1x512 .f32) (h3 : a3.IsWhole)
    (a4 : Memref sig .tc .vmem S1x1x1024x1024 .f32) (h4 : a4.IsWhole)
    (a5 : Memref sig .tc .vmem S1x1x1024x1024 .f32) (h5 : a5.IsWhole)
    (a6 : Memref sig .tc .vmem S1x1x1024x1024 .f32) (h6 : a6.IsWhole)
    (a7 : Memref sig .tc .vmem S1x512x1024 .bf16) (h7 : a7.IsWhole)
    (a8 : Memref sig .tc .vmem S1024x1024 .bf16) (h8 : a8.IsWhole)
    (a9 : Memref sig .tc .vmem S1024x1024 .bf16) (h9 : a9.IsWhole)
    (a10 : Memref sig .tc .vmem S1024x1024 .bf16) (h10 : a10.IsWhole)
    (hc : cond0_0 i)
    (x0 : Vec F S1x512x1024 .bf16) (x1 : Vec F S1x1x512 .f32) (x2 x3 x4 : Vec F S1x1x1024x1024 .f32) :
    sout0_A_0 c i a2 h2 a3 h3 a4 h4 a5 h5 a6 h6 a7 h7 a8 h8 a9 h9 a10 h10 hc x0 x1 x2 x3 x4 = k0_pay1 x2 := by
  unfold sout0_A_0
  rw [View.read_writes_eq_canon _ _ _ (scover0_A_0 c i a2 h2 a3 h3 a4 h4 a5 h5 a6 h6 a7 h7 a8 h8 a9 h9 a10 h10 hc x0 x1 x2 x3 x4)]
  unfold kernelRun0_A
  dsimp only
  sl_unfold_words
  rw [View.canon_unit_zero (S := S1024x1024) offs2]
  simp only [View.readAt_eq_ld, h2.read_unread, h3.read_unread, h4.read_unread, h5.read_unread, h6.read_unread, View.ld_unit_zero (S := S1x512x1024) offs3,
    View.ld_unit_zero (S := S1x1x512) offs3g, View.ld_unit_zero (S := S1x1x1024x1024) offs4]

/-- A first tile leaves in scratch 1 the cast of its weight block. -/
theorem scratch_A_1 (c : Dev nD) (i : grid0.Coords)
    (a2 : Memref sig .tc .vmem S1x512x1024 .bf16) (h2 : a2.IsWhole)
    (a3 : Memref sig .tc .vmem S1x1x512 .f32) (h3 : a3.IsWhole)
    (a4 : Memref sig .tc .vmem S1x1x1024x1024 .f32) (h4 : a4.IsWhole)
    (a5 : Memref sig .tc .vmem S1x1x1024x1024 .f32) (h5 : a5.IsWhole)
    (a6 : Memref sig .tc .vmem S1x1x1024x1024 .f32) (h6 : a6.IsWhole)
    (a7 : Memref sig .tc .vmem S1x512x1024 .bf16) (h7 : a7.IsWhole)
    (a8 : Memref sig .tc .vmem S1024x1024 .bf16) (h8 : a8.IsWhole)
    (a9 : Memref sig .tc .vmem S1024x1024 .bf16) (h9 : a9.IsWhole)
    (a10 : Memref sig .tc .vmem S1024x1024 .bf16) (h10 : a10.IsWhole)
    (hc : cond0_0 i)
    (x0 : Vec F S1x512x1024 .bf16) (x1 : Vec F S1x1x512 .f32) (x2 x3 x4 : Vec F S1x1x1024x1024 .f32) :
    sout0_A_1 c i a2 h2 a3 h3 a4 h4 a5 h5 a6 h6 a7 h7 a8 h8 a9 h9 a10 h10 hc x0 x1 x2 x3 x4 = k0_pay2 x3 := by
  unfold sout0_A_1
  rw [View.read_writes_eq_canon _ _ _ (scover0_A_1 c i a2 h2 a3 h3 a4 h4 a5 h5 a6 h6 a7 h7 a8 h8 a9 h9 a10 h10 hc x0 x1 x2 x3 x4)]
  unfold kernelRun0_A
  dsimp only
  sl_unfold_words
  rw [View.canon_unit_zero (S := S1024x1024) offs2]
  simp only [View.readAt_eq_ld, h2.read_unread, h3.read_unread, h4.read_unread, h5.read_unread, h6.read_unread, View.ld_unit_zero (S := S1x512x1024) offs3,
    View.ld_unit_zero (S := S1x1x512) offs3g, View.ld_unit_zero (S := S1x1x1024x1024) offs4]

/-- A first tile leaves in scratch 2 the cast of its weight block. -/
theorem scratch_A_2 (c : Dev nD) (i : grid0.Coords)
    (a2 : Memref sig .tc .vmem S1x512x1024 .bf16) (h2 : a2.IsWhole)
    (a3 : Memref sig .tc .vmem S1x1x512 .f32) (h3 : a3.IsWhole)
    (a4 : Memref sig .tc .vmem S1x1x1024x1024 .f32) (h4 : a4.IsWhole)
    (a5 : Memref sig .tc .vmem S1x1x1024x1024 .f32) (h5 : a5.IsWhole)
    (a6 : Memref sig .tc .vmem S1x1x1024x1024 .f32) (h6 : a6.IsWhole)
    (a7 : Memref sig .tc .vmem S1x512x1024 .bf16) (h7 : a7.IsWhole)
    (a8 : Memref sig .tc .vmem S1024x1024 .bf16) (h8 : a8.IsWhole)
    (a9 : Memref sig .tc .vmem S1024x1024 .bf16) (h9 : a9.IsWhole)
    (a10 : Memref sig .tc .vmem S1024x1024 .bf16) (h10 : a10.IsWhole)
    (hc : cond0_0 i)
    (x0 : Vec F S1x512x1024 .bf16) (x1 : Vec F S1x1x512 .f32) (x2 x3 x4 : Vec F S1x1x1024x1024 .f32) :
    sout0_A_2 c i a2 h2 a3 h3 a4 h4 a5 h5 a6 h6 a7 h7 a8 h8 a9 h9 a10 h10 hc x0 x1 x2 x3 x4 = k0_pay3 x4 := by
  unfold sout0_A_2
  rw [View.read_writes_eq_canon _ _ _ (scover0_A_2 c i a2 h2 a3 h3 a4 h4 a5 h5 a6 h6 a7 h7 a8 h8 a9 h9 a10 h10 hc x0 x1 x2 x3 x4)]
  unfold kernelRun0_A
  dsimp only
  sl_unfold_words
  rw [View.canon_unit_zero (S := S1024x1024) offs2]
  simp only [View.readAt_eq_ld, h2.read_unread, h3.read_unread, h4.read_unread, h5.read_unread, h6.read_unread, View.ld_unit_zero (S := S1x512x1024) offs3,
    View.ld_unit_zero (S := S1x1x512) offs3g, View.ld_unit_zero (S := S1x1x1024x1024) offs4]

/-- A first tile's output: the tile formula over the weights it has just cast. -/
theorem tile_A (c : Dev nD) (i : grid0.Coords)
    (a2 : Memref sig .tc .vmem S1x512x1024 .bf16) (h2 : a2.IsWhole)
    (a3 : Memref sig .tc .vmem S1x1x512 .f32) (h3 : a3.IsWhole)
    (a4 : Memref sig .tc .vmem S1x1x1024x1024 .f32) (h4 : a4.IsWhole)
    (a5 : Memref sig .tc .vmem S1x1x1024x1024 .f32) (h5 : a5.IsWhole)
    (a6 : Memref sig .tc .vmem S1x1x1024x1024 .f32) (h6 : a6.IsWhole)
    (a7 : Memref sig .tc .vmem S1x512x1024 .bf16) (h7 : a7.IsWhole)
    (a8 : Memref sig .tc .vmem S1024x1024 .bf16) (h8 : a8.IsWhole)
    (a9 : Memref sig .tc .vmem S1024x1024 .bf16) (h9 : a9.IsWhole)
    (a10 : Memref sig .tc .vmem S1024x1024 .bf16) (h10 : a10.IsWhole)
    (hc : cond0_0 i)
    (x0 : Vec F S1x512x1024 .bf16) (x1 : Vec F S1x1x512 .f32) (x2 x3 x4 : Vec F S1x1x1024x1024 .f32) :
    out0_A_5 c i a2 h2 a3 h3 a4 h4 a5 h5 a6 h6 a7 h7 a8 h8 a9 h9 a10 h10 hc x0 x1 x2 x3 x4 = k0_pay4 x0 (k0_pay1 x2) (k0_pay2 x3) x1 (k0_pay3 x4) := by
  unfold out0_A_5
  rw [View.read_writes_eq_canon _ _ _ (cover0_A_5 c i a2 h2 a3 h3 a4 h4 a5 h5 a6 h6 a7 h7 a8 h8 a9 h9 a10 h10 hc x0 x1 x2 x3 x4)]
  unfold kernelRun0_A
  dsimp only
  sl_unfold_words
  rw [View.canon_unit_zero (S := S1x512x1024) offs3]
  simp only [View.readCov_unit_zero (S := S1024x1024) _ offs2]
  simp only [View.readAt_eq_ld, h2.read_unread, h3.read_unread, h4.read_unread, h5.read_unread, h6.read_unread, View.ld_unit_zero (S := S1x512x1024) offs3,
    View.ld_unit_zero (S := S1x1x512) offs3g, View.ld_unit_zero (S := S1x1x1024x1024) offs4]

/-- Any other tile's output: the tile formula over the scratch it finds. -/
theorem tile_B (c : Dev nD) (i : grid0.Coords)
    (a2 : Memref sig .tc .vmem S1x512x1024 .bf16) (h2 : a2.IsWhole)
    (a3 : Memref sig .tc .vmem S1x1x512 .f32) (h3 : a3.IsWhole)
    (a4 : Memref sig .tc .vmem S1x1x1024x1024 .f32) (h4 : a4.IsWhole)
    (a5 : Memref sig .tc .vmem S1x1x1024x1024 .f32) (h5 : a5.IsWhole)
    (a6 : Memref sig .tc .vmem S1x1x1024x1024 .f32) (h6 : a6.IsWhole)
    (a7 : Memref sig .tc .vmem S1x512x1024 .bf16) (h7 : a7.IsWhole)
    (a8 : Memref sig .tc .vmem S1024x1024 .bf16) (h8 : a8.IsWhole)
    (a9 : Memref sig .tc .vmem S1024x1024 .bf16) (h9 : a9.IsWhole)
    (a10 : Memref sig .tc .vmem S1024x1024 .bf16) (h10 : a10.IsWhole)
    (hc : ¬cond0_0 i)
    (x0 : Vec F S1x512x1024 .bf16) (x1 : Vec F S1x1x512 .f32) (x2 x3 x4 : Vec F S1x1x1024x1024 .f32)
    (y0 y1 y2 : Vec F S1024x1024 .bf16) :
    out0_B_5 c i a2 h2 a3 h3 a4 h4 a5 h5 a6 h6 a7 h7 a8 h8 a9 h9 a10 h10 hc x0 x1 x2 x3 x4 y0 y1 y2 = k0_pay4 x0 y0 y1 x1 y2 := by
  unfold out0_B_5
  rw [View.read_writes_eq_canon _ _ _ (cover0_B_5 c i a2 h2 a3 h3 a4 h4 a5 h5 a6 h6 a7 h7 a8 h8 a9 h9 a10 h10 hc x0 x1 x2 x3 x4 y0 y1 y2)]
  unfold kernelRun0_B
  dsimp only
  sl_unfold_words
  rw [View.canon_unit_zero (S := S1x512x1024) offs3]
  simp only [View.readAt_eq_ld, h2.read_unread, h3.read_unread, h4.read_unread, h5.read_unread, h6.read_unread, h8.read_unread, h9.read_unread, h10.read_unread, View.ld_unit_zero (S := S1x512x1024) offs3,
    View.ld_unit_zero (S := S1x1x512) offs3g, View.ld_unit_zero (S := S1024x1024) offs2, View.ld_unit_zero (S := S1x1x1024x1024) offs4]

variable (m : (ℓ : Loc nD τ sig) → Buf (Elt F) ℓ)

/-- The tile formula of point `t`'s input blocks, with the casts of its weight blocks. -/
def tile (c : Dev nD) (t : Fin cfg0.N) : Vec F S1x512x1024 .bf16 :=
  k0_pay4 (iblk m c 0 t) (k0_pay1 (iblk m c 2 t)) (k0_pay2 (iblk m c 3 t)) (iblk m c 1 t) (k0_pay3 (iblk m c 4 t))

/-- The printed index maps over the grid: point `t` is tile `t % 20` of expert `t / 20`. -/
theorem idx0 : ∀ t : Fin cfg0.N, win0_0.index t (0 : Fin 3) = t.val / 20 ∧ win0_0.index t (1 : Fin 3) = t.val % 20
    ∧ win0_0.index t (2 : Fin 3) = 0 := (by decide +kernel : ∀ t : Fin grid0.N, _)
theorem idx1 : ∀ t : Fin cfg0.N, win0_1.index t (0 : Fin 3) = t.val / 20 ∧ win0_1.index t (1 : Fin 3) = 0
    ∧ win0_1.index t (2 : Fin 3) = t.val % 20 := (by decide +kernel : ∀ t : Fin grid0.N, _)
theorem idx2 : ∀ t : Fin cfg0.N, win0_2.index t (0 : Fin 4) = 1 ∧ win0_2.index t (1 : Fin 4) = t.val / 20
    ∧ win0_2.index t (2 : Fin 4) = 0 ∧ win0_2.index t (3 : Fin 4) = 0 := (by decide +kernel : ∀ t : Fin grid0.N, _)
theorem idx3 : ∀ t : Fin cfg0.N, win0_3.index t (0 : Fin 4) = 1 ∧ win0_3.index t (1 : Fin 4) = t.val / 20
    ∧ win0_3.index t (2 : Fin 4) = 0 ∧ win0_3.index t (3 : Fin 4) = 0 := (by decide +kernel : ∀ t : Fin grid0.N, _)
theorem idx4 : ∀ t : Fin cfg0.N, win0_4.index t (0 : Fin 4) = 1 ∧ win0_4.index t (1 : Fin 4) = t.val / 20
    ∧ win0_4.index t (2 : Fin 4) = 0 ∧ win0_4.index t (3 : Fin 4) = 0 := (by decide +kernel : ∀ t : Fin grid0.N, _)

/-- Window 0's block at point `t`, read at an index. -/
theorem blk0 (c : Dev nD) (t : Fin cfg0.N) (z : S1x512x1024.Idx) (y : (S16x10240x1024).Idx)
    (hy0 : (y 0).val = t.val / 20)
    (hy1 : (y 1).val = 512 * (t.val % 20) + (z 1).val)
    (hy2 : (y 2).val = (z 2).val) :
    iblk m c 0 t z = V m c main_v13 y := by
  obtain ⟨e0, e1, e2⟩ := idx0 t
  have b0 : (((cfg0.win 0).blk t).view.emb z 0).val = win0_0.index t (0 : Fin 3) * 1 + 1 * (z 0).val := rfl
  have b1 : (((cfg0.win 0).blk t).view.emb z 1).val = win0_0.index t (1 : Fin 3) * 512 + 1 * (z 1).val := rfl
  have b2 : (((cfg0.win 0).blk t).view.emb z 2).val = win0_0.index t (2 : Fin 3) * 1024 + 1 * (z 2).val := rfl
  have z0 : (z 0).val < 1 := (z 0).isLt
  have z1 : (z 1).val < 512 := (z 1).isLt
  have z2 : (z 2).val < 1024 := (z 2).isLt
  have c0 : (((cfg0.win 0).blk t).view.emb z 0).val = (y 0).val := by rw [b0, hy0]; omega
  have c1 : (((cfg0.win 0).blk t).view.emb z 1).val = (y 1).val := by rw [b1, hy1]; omega
  have c2 : (((cfg0.win 0).blk t).view.emb z 2).val = (y 2).val := by rw [b2, hy2]; omega
  show V m c main_v13 (((cfg0.win 0).blk t).view.emb z) = V m c main_v13 y
  refine congrArg _ (funext fun a => Fin.ext ?_)
  match a with
  | ⟨0, _⟩ => exact c0
  | ⟨1, _⟩ => exact c1
  | ⟨2, _⟩ => exact c2

/-- Window 1's block at point `t`, read at an index. -/
theorem blk1 (c : Dev nD) (t : Fin cfg0.N) (z : S1x1x512.Idx) (y : (S16x1x10240).Idx)
    (hy0 : (y 0).val = t.val / 20)
    (hy1 : (y 1).val = 0)
    (hy2 : (y 2).val = 512 * (t.val % 20) + (z 2).val) :
    iblk m c 1 t z = V m c main_v15 y := by
  obtain ⟨e0, e1, e2⟩ := idx1 t
  have b0 : (((cfg0.win 1).blk t).view.emb z 0).val = win0_1.index t (0 : Fin 3) * 1 + 1 * (z 0).val := rfl
  have b1 : (((cfg0.win 1).blk t).view.emb z 1).val = win0_1.index t (1 : Fin 3) * 1 + 1 * (z 1).val := rfl
  have b2 : (((cfg0.win 1).blk t).view.emb z 2).val = win0_1.index t (2 : Fin 3) * 512 + 1 * (z 2).val := rfl
  have z0 : (z 0).val < 1 := (z 0).isLt
  have z1 : (z 1).val < 1 := (z 1).isLt
  have z2 : (z 2).val < 512 := (z 2).isLt
  have c0 : (((cfg0.win 1).blk t).view.emb z 0).val = (y 0).val := by rw [b0, hy0]; omega
  have c1 : (((cfg0.win 1).blk t).view.emb z 1).val = (y 1).val := by rw [b1, hy1]; omega
  have c2 : (((cfg0.win 1).blk t).view.emb z 2).val = (y 2).val := by rw [b2, hy2]; omega
  show V m c main_v15 (((cfg0.win 1).blk t).view.emb z) = V m c main_v15 y
  refine congrArg _ (funext fun a => Fin.ext ?_)
  match a with
  | ⟨0, _⟩ => exact c0
  | ⟨1, _⟩ => exact c1
  | ⟨2, _⟩ => exact c2

/-- Window 2's block at point `t`, read at an index. -/
theorem blk2 (c : Dev nD) (t : Fin cfg0.N) (z : S1x1x1024x1024.Idx) (y : (S4x16x1024x1024).Idx)
    (hy0 : (y 0).val = 1)
    (hy1 : (y 1).val = t.val / 20)
    (hy2 : (y 2).val = (z 2).val)
    (hy3 : (y 3).val = (z 3).val) :
    iblk m c 2 t z = V m c main_arg2 y := by
  obtain ⟨e0, e1, e2, e3⟩ := idx2 t
  have b0 : (((cfg0.win 2).blk t).view.emb z 0).val = win0_2.index t (0 : Fin 4) * 1 + 1 * (z 0).val := rfl
  have b1 : (((cfg0.win 2).blk t).view.emb z 1).val = win0_2.index t (1 : Fin 4) * 1 + 1 * (z 1).val := rfl
  have b2 : (((cfg0.win 2).blk t).view.emb z 2).val = win0_2.index t (2 : Fin 4) * 1024 + 1 * (z 2).val := rfl
  have b3 : (((cfg0.win 2).blk t).view.emb z 3).val = win0_2.index t (3 : Fin 4) * 1024 + 1 * (z 3).val := rfl
  have z0 : (z 0).val < 1 := (z 0).isLt
  have z1 : (z 1).val < 1 := (z 1).isLt
  have z2 : (z 2).val < 1024 := (z 2).isLt
  have z3 : (z 3).val < 1024 := (z 3).isLt
  have c0 : (((cfg0.win 2).blk t).view.emb z 0).val = (y 0).val := by rw [b0, hy0]; omega
  have c1 : (((cfg0.win 2).blk t).view.emb z 1).val = (y 1).val := by rw [b1, hy1]; omega
  have c2 : (((cfg0.win 2).blk t).view.emb z 2).val = (y 2).val := by rw [b2, hy2]; omega
  have c3 : (((cfg0.win 2).blk t).view.emb z 3).val = (y 3).val := by rw [b3, hy3]; omega
  show V m c main_arg2 (((cfg0.win 2).blk t).view.emb z) = V m c main_arg2 y
  refine congrArg _ (funext fun a => Fin.ext ?_)
  match a with
  | ⟨0, _⟩ => exact c0
  | ⟨1, _⟩ => exact c1
  | ⟨2, _⟩ => exact c2
  | ⟨3, _⟩ => exact c3

/-- Window 3's block at point `t`, read at an index. -/
theorem blk3 (c : Dev nD) (t : Fin cfg0.N) (z : S1x1x1024x1024.Idx) (y : (S4x16x1024x1024).Idx)
    (hy0 : (y 0).val = 1)
    (hy1 : (y 1).val = t.val / 20)
    (hy2 : (y 2).val = (z 2).val)
    (hy3 : (y 3).val = (z 3).val) :
    iblk m c 3 t z = V m c main_arg3 y := by
  obtain ⟨e0, e1, e2, e3⟩ := idx3 t
  have b0 : (((cfg0.win 3).blk t).view.emb z 0).val = win0_3.index t (0 : Fin 4) * 1 + 1 * (z 0).val := rfl
  have b1 : (((cfg0.win 3).blk t).view.emb z 1).val = win0_3.index t (1 : Fin 4) * 1 + 1 * (z 1).val := rfl
  have b2 : (((cfg0.win 3).blk t).view.emb z 2).val = win0_3.index t (2 : Fin 4) * 1024 + 1 * (z 2).val := rfl
  have b3 : (((cfg0.win 3).blk t).view.emb z 3).val = win0_3.index t (3 : Fin 4) * 1024 + 1 * (z 3).val := rfl
  have z0 : (z 0).val < 1 := (z 0).isLt
  have z1 : (z 1).val < 1 := (z 1).isLt
  have z2 : (z 2).val < 1024 := (z 2).isLt
  have z3 : (z 3).val < 1024 := (z 3).isLt
  have c0 : (((cfg0.win 3).blk t).view.emb z 0).val = (y 0).val := by rw [b0, hy0]; omega
  have c1 : (((cfg0.win 3).blk t).view.emb z 1).val = (y 1).val := by rw [b1, hy1]; omega
  have c2 : (((cfg0.win 3).blk t).view.emb z 2).val = (y 2).val := by rw [b2, hy2]; omega
  have c3 : (((cfg0.win 3).blk t).view.emb z 3).val = (y 3).val := by rw [b3, hy3]; omega
  show V m c main_arg3 (((cfg0.win 3).blk t).view.emb z) = V m c main_arg3 y
  refine congrArg _ (funext fun a => Fin.ext ?_)
  match a with
  | ⟨0, _⟩ => exact c0
  | ⟨1, _⟩ => exact c1
  | ⟨2, _⟩ => exact c2
  | ⟨3, _⟩ => exact c3

/-- Window 4's block at point `t`, read at an index. -/
theorem blk4 (c : Dev nD) (t : Fin cfg0.N) (z : S1x1x1024x1024.Idx) (y : (S4x16x1024x1024).Idx)
    (hy0 : (y 0).val = 1)
    (hy1 : (y 1).val = t.val / 20)
    (hy2 : (y 2).val = (z 2).val)
    (hy3 : (y 3).val = (z 3).val) :
    iblk m c 4 t z = V m c main_arg4 y := by
  obtain ⟨e0, e1, e2, e3⟩ := idx4 t
  have b0 : (((cfg0.win 4).blk t).view.emb z 0).val = win0_4.index t (0 : Fin 4) * 1 + 1 * (z 0).val := rfl
  have b1 : (((cfg0.win 4).blk t).view.emb z 1).val = win0_4.index t (1 : Fin 4) * 1 + 1 * (z 1).val := rfl
  have b2 : (((cfg0.win 4).blk t).view.emb z 2).val = win0_4.index t (2 : Fin 4) * 1024 + 1 * (z 2).val := rfl
  have b3 : (((cfg0.win 4).blk t).view.emb z 3).val = win0_4.index t (3 : Fin 4) * 1024 + 1 * (z 3).val := rfl
  have z0 : (z 0).val < 1 := (z 0).isLt
  have z1 : (z 1).val < 1 := (z 1).isLt
  have z2 : (z 2).val < 1024 := (z 2).isLt
  have z3 : (z 3).val < 1024 := (z 3).isLt
  have c0 : (((cfg0.win 4).blk t).view.emb z 0).val = (y 0).val := by rw [b0, hy0]; omega
  have c1 : (((cfg0.win 4).blk t).view.emb z 1).val = (y 1).val := by rw [b1, hy1]; omega
  have c2 : (((cfg0.win 4).blk t).view.emb z 2).val = (y 2).val := by rw [b2, hy2]; omega
  have c3 : (((cfg0.win 4).blk t).view.emb z 3).val = (y 3).val := by rw [b3, hy3]; omega
  show V m c main_arg4 (((cfg0.win 4).blk t).view.emb z) = V m c main_arg4 y
  refine congrArg _ (funext fun a => Fin.ext ?_)
  match a with
  | ⟨0, _⟩ => exact c0
  | ⟨1, _⟩ => exact c1
  | ⟨2, _⟩ => exact c2
  | ⟨3, _⟩ => exact c3

/-- Two points of one expert read the same block of window 2. -/
theorem same2 (c : Dev nD) (t t' : Fin cfg0.N) (h : t.val / 20 = t'.val / 20) : iblk m c 2 t = iblk m c 2 t' := by
  funext z
  have ht : t.val < 320 := lt_of_lt_of_eq t.isLt (show cfg0.N = 320 from N_0)
  let y : S4x16x1024x1024.Idx := fun a => match a with
    | ⟨0, _⟩ => ⟨1, by show 1 < 4; omega⟩
    | ⟨1, _⟩ => ⟨t.val / 20, by show t.val / 20 < 16; omega⟩
    | ⟨2, _⟩ => z 2
    | ⟨3, _⟩ => z 3
  exact (blk2 m c t z y rfl rfl rfl rfl).trans (blk2 m c t' z y rfl h rfl rfl).symm

/-- Two points of one expert read the same block of window 3. -/
theorem same3 (c : Dev nD) (t t' : Fin cfg0.N) (h : t.val / 20 = t'.val / 20) : iblk m c 3 t = iblk m c 3 t' := by
  funext z
  have ht : t.val < 320 := lt_of_lt_of_eq t.isLt (show cfg0.N = 320 from N_0)
  let y : S4x16x1024x1024.Idx := fun a => match a with
    | ⟨0, _⟩ => ⟨1, by show 1 < 4; omega⟩
    | ⟨1, _⟩ => ⟨t.val / 20, by show t.val / 20 < 16; omega⟩
    | ⟨2, _⟩ => z 2
    | ⟨3, _⟩ => z 3
  exact (blk3 m c t z y rfl rfl rfl rfl).trans (blk3 m c t' z y rfl h rfl rfl).symm

/-- Two points of one expert read the same block of window 4. -/
theorem same4 (c : Dev nD) (t t' : Fin cfg0.N) (h : t.val / 20 = t'.val / 20) : iblk m c 4 t = iblk m c 4 t' := by
  funext z
  have ht : t.val < 320 := lt_of_lt_of_eq t.isLt (show cfg0.N = 320 from N_0)
  let y : S4x16x1024x1024.Idx := fun a => match a with
    | ⟨0, _⟩ => ⟨1, by show 1 < 4; omega⟩
    | ⟨1, _⟩ => ⟨t.val / 20, by show t.val / 20 < 16; omega⟩
    | ⟨2, _⟩ => z 2
    | ⟨3, _⟩ => z 3
  exact (blk4 m c t z y rfl rfl rfl rfl).trans (blk4 m c t' z y rfl h rfl rfl).symm

/-- After every point: the tile formula in the output block, the casts of the weight blocks in scratch. -/
theorem outs_eq (c : Dev nD) : ∀ (n : ℕ) (h : n < cfg0.N), outsAt0 m c n h
    = (tile m c ⟨n, h⟩, k0_pay1 (iblk m c 2 ⟨n, h⟩), k0_pay2 (iblk m c 3 ⟨n, h⟩), k0_pay3 (iblk m c 4 ⟨n, h⟩)) := by
  have first : ∀ t : Fin cfg0.N, t.val % 20 = 0 → outsAt0 m c t.val t.isLt
      = (tile m c t, k0_pay1 (iblk m c 2 t), k0_pay2 (iblk m c 3 t), k0_pay3 (iblk m c 4 t)) := fun t h0 => by
    rw [outsAt0_A m c t h0, tile_A, scratch_A_0, scratch_A_1, scratch_A_2]
    rfl
  intro n
  induction n with
  | zero => exact fun h => first ⟨0, h⟩ rfl
  | succ n ih =>
    intro h
    by_cases h0 : (n + 1) % 20 = 0
    · exact first ⟨n + 1, h⟩ h0
    · have hd : (⟨n, Nat.lt_of_succ_lt h⟩ : Fin cfg0.N).val / 20 = (⟨n + 1, h⟩ : Fin cfg0.N).val / 20 := by
        show n / 20 = (n + 1) / 20
        omega
      rw [outsAt0_B m c ⟨n + 1, h⟩ h0, tile_B]
      unfold sout0_B_0 sout0_B_1 sout0_B_2 tile
      simp only [Nat.add_sub_cancel, ih (Nat.lt_of_succ_lt h), same2 m c _ _ hd, same3 m c _ _ hd, same4 m c _ _ hd]

/-- The result array at `(e, r, d)`: tile `r / 512` of expert `e`, at row `r % 512`. -/
theorem result_at (c : Dev nD) (i : S16x10240x1024.Idx) (t : Fin cfg0.N) (z : S1x512x1024.Idx)
    (ht : t.val = 20 * (i 0).val + (i 1).val / 512) (hz1 : (z 1).val = (i 1).val % 512) (hz2 : (z 2).val = (i 2).val) :
    G5 m c i = tile m c t z := by
  have i2 : (i 2).val < 1024 := (i 2).isLt
  have z0 : (z 0).val < 1 := (z 0).isLt
  have hp : pt5Of i = t.val := by
    show 20 * ((i 0).val / 1 - 0) + 1 * ((i 1).val / 512 - 0) + 1 * ((i 2).val / 1024 - 0) = t.val
    omega
  have hl : loc5Of i = z := funext fun a => Fin.ext (by
    match a with
    | ⟨0, _⟩ => show (i 0).val % 1 = (z 0).val; omega
    | ⟨1, _⟩ => exact hz1.symm
    | ⟨2, _⟩ => show (i 2).val % 1024 = (z 2).val; omega)
  unfold G5
  rw [dif_pos (by rw [hp]; exact t.isLt), hl, fold0_congr m c _ _ _ (by simpa using t.isLt) hp,
    ← outsAt0_sweep m c t.val t.isLt, outs_eq m c t.val t.isLt]

end Cert.Moe1Ideal.Experts

end
-- ==== Proof.Layer1.Tile.lean ====
module

public import proofs.«01_k».proof.Proof.Layer1.Cases
public import proofs.«01_k».proof.Proof.Experts.Tile
public import Idealize.ShloMosaic.Lib.Pointwise

@[expose] public section

set_option maxRecDepth 16384

/-! # The tile formula at an index, over the extended reals -/

noncomputable section

namespace Cert.Moe1Ideal.Experts

open Cert.Moe1Ideal Cert.Moe1Ideal.Gen
open Idealize.ShloMosaic
open Cert.MoeIdeal.Experts (ffn diag_sum)

theorem pay4_at (x : Vec Ideal S1x512x1024 .bf16) (a b w : Vec Ideal S1024x1024 .bf16) (g : Vec Ideal S1x1x512 .f32)
    (r : Fin 512) (d : Fin 1024) :
    k0_pay4 (F := Ideal) x a b g w (ix3 0 r d)
      = ffn (fun k => x (ix3 0 r k)) (fun k f => a (ix2 k f)) (fun k f => b (ix2 k f)) (fun f d => w (ix2 f d))
          (g (ix3 0 0 r)) d := by
  pointwise [k0_pay4]
  rw [diag_sum (fun k => g (ix3 0 0 k)) r]
  rfl

theorem pay1_at (x : Vec Ideal S1x1x1024x1024 .f32) (r d : Fin 1024) :
    k0_pay1 (F := Ideal) x (ix2 r d) = x (ix4 0 0 r d) := by pointwise [k0_pay1]
theorem pay2_at (x : Vec Ideal S1x1x1024x1024 .f32) (r d : Fin 1024) :
    k0_pay2 (F := Ideal) x (ix2 r d) = x (ix4 0 0 r d) := by pointwise [k0_pay2]
theorem pay3_at (x : Vec Ideal S1x1x1024x1024 .f32) (r d : Fin 1024) :
    k0_pay3 (F := Ideal) x (ix2 r d) = x (ix4 0 0 r d) := by pointwise [k0_pay3]

variable (m : (ℓ : Loc nD τ sig) → Buf (Elt Ideal) ℓ)

/-- The result array at `(e, r, d)`: the token gathered for that place, through expert `e`'s weights. -/
theorem result_ffn (c : Dev nD) (e : Fin 16) (r : Fin 10240) (d : Fin 1024) :
    Value.G5 m c (ix3 e r d)
      = ffn (fun k => V m c main_v13 (ix3 e r k)) (fun k f => V m c main_arg2 (ix4 1 e k f))
          (fun k f => V m c main_arg3 (ix4 1 e k f)) (fun f d => V m c main_arg4 (ix4 1 e f d))
          (V m c main_v15 (ix3 e 0 r)) d := by
  have he := e.isLt
  have hr := r.isLt
  have hd := Nat.div_add_mod r.val 512
  let t : Fin cfg0.N := ⟨20 * e.val + r.val / 512, lt_of_lt_of_eq (by omega) (show cfg0.N = 320 from N_0).symm⟩
  have tq : t.val / 20 = e.val := by show (20 * e.val + r.val / 512) / 20 = e.val; omega
  have tr : t.val % 20 = r.val / 512 := by show (20 * e.val + r.val / 512) % 20 = r.val / 512; omega
  let r' : Fin 512 := ⟨r.val % 512, Nat.mod_lt _ (by decide)⟩
  have row : 512 * (t.val % 20) + r'.val = r.val := by rw [tr]; exact hd
  rw [result_at m c (ix3 e r d) t (ix3 0 r' d) rfl rfl rfl]
  unfold tile
  rw [pay4_at]
  simp only [pay1_at, pay2_at, pay3_at]
  rw [show (fun k => iblk m c 0 t (ix3 0 r' k)) = fun k => V m c main_v13 (ix3 e r k) from
      funext fun k => blk0 m c t (ix3 0 r' k) (ix3 e r k) tq.symm row.symm rfl,
    show (fun k f => iblk m c 2 t (ix4 0 0 k f)) = fun k f => V m c main_arg2 (ix4 1 e k f) from
      funext fun k => funext fun f => blk2 m c t (ix4 0 0 k f) (ix4 1 e k f) rfl tq.symm rfl rfl,
    show (fun k f => iblk m c 3 t (ix4 0 0 k f)) = fun k f => V m c main_arg3 (ix4 1 e k f) from
      funext fun k => funext fun f => blk3 m c t (ix4 0 0 k f) (ix4 1 e k f) rfl tq.symm rfl rfl,
    show (fun f d => iblk m c 4 t (ix4 0 0 f d)) = fun f d => V m c main_arg4 (ix4 1 e f d) from
      funext fun k => funext fun f => blk4 m c t (ix4 0 0 k f) (ix4 1 e k f) rfl tq.symm rfl rfl,
    show iblk m c 1 t (ix3 0 0 r') = V m c main_v15 (ix3 e 0 r) from
      blk1 m c t (ix3 0 0 r') (ix3 e 0 r) tq.symm rfl row.symm]

end Cert.Moe1Ideal.Experts

end
-- ==== Proof.Layer1.Entry.lean ====
module

public import proofs.«01_k».proof.Proof.Layer1.Tile
public import proofs.«01_k».proof.Proof.Experts.Route
public import proofs.«01_k».proof.Proof.Gen.Moe1ReferenceIdeal.Read
public import Idealize.ShloMosaic.Lib.Claim

@[expose] public section

set_option maxRecDepth 16384

/-! # What the kernel's call finds: the gathered tokens and their gates

The kernel gathers from all tokens at once, at each group's positions shifted by the group's start. -/

noncomputable section

namespace Cert.Moe1Ideal.Experts

open Cert.Moe1Ideal Cert.Moe1Ideal.Gen
open Idealize.ShloMosaic
open Cert.Moe1ReferenceIdeal.Read (val_main_values val_main_values_1 val_main_indices val_main_indices_2)

variable (m : (ℓ : Loc nD τ sig) → Buf (Elt Ideal) ℓ)

/-- The arguments, as plain arrays. -/
abbrev tokens (c : Dev nD) : FVec Ideal S81920x1024 .bf16 := m (c, Proc.tc.devRef main_arg0)
abbrev scores (c : Dev nD) : FVec Ideal S16x81920 .f32 := m (c, Proc.tc.devRef main_arg1)

theorem gates_first (c : Dev nD) (e : Fin 16) (r : Fin 10240) (h : r.val < 2048) :
    V m c main_v15 (ix3 e 0 r) = val_main_values (F := Ideal) (scores m c) (ix2 e ⟨r.val, h⟩) := by
  entry_read
  pointwise
  rw [dif_pos h]
  rfl

theorem gates_second (c : Dev nD) (e : Fin 16) (r : Fin 10240) (h : ¬ r.val < 2048) :
    V m c main_v15 (ix3 e 0 r)
      = val_main_values_1 (F := Ideal) (scores m c) (ix2 e ⟨r.val - 2048, by have := r.isLt; omega⟩) := by
  entry_read
  pointwise
  rw [dif_neg h]
  rfl

theorem gather_all (x : FVec Ideal S81920x1024 .bf16) (idx : IVec S16x10240x1 32) (e : Fin 16) (r : Fin 10240) (k : Fin 1024)
    (p : Fin 81920) (hp : (idx (ix3 e r 0)).toInt = (p.val : ℤ)) :
    Host.gather gather_S81920x1024_S16x10240x1_S16x10240x1024_2_0_n_n_0_2_11024 x idx (ix3 e r k) = x (ix2 p k) :=
  Cert.Routing.gather_row _ x idx e r k p hp

/-- The two groups' positions side by side, each shifted by its group's start. -/
abbrev places (A : IVec S16x2048 32) (B : IVec S16x8192 32) : IVec S16x10240 32 :=
  concatenate S16x10240 1
    [⟨S16x2048, addi A (broadcastInDim S16x2048 ![] bcast_S_S16x2048 (constantI S_ 32 0#32))⟩,
      ⟨S16x8192, addi B (broadcastInDim S16x8192 ![] bcast_S_S16x8192 (constantI S_ 32 16384#32))⟩]
    concatenates_S16x2048_S16x8192_S16x10240_d1

/-- The index the gather reads: negative positions would count from the end. -/
abbrev wrapped (C : IVec S16x10240 32) : IVec S16x10240x1 32 :=
  broadcastInDim S16x10240x1 ![0, 1] bcast_S16x10240_S16x10240x1_0_1
    (select (cmpi CmpIPredicate.slt C (broadcastInDim S16x10240 ![] bcast_S_S16x10240 (constantI S_ 32 0#32)))
      (addi C (broadcastInDim S16x10240 ![] bcast_S_S16x10240 (constantI S_ 32 81920#32))) C)

theorem wrapped_at (C : IVec S16x10240 32) (e : Fin 16) (r : Fin 10240) (p : ℕ) (hp : p < 2 ^ 31)
    (h : C (ix2 e r) = BitVec.ofNat 32 p) : (wrapped C (ix3 e r 0)).toInt = (p : ℤ) := by
  have hw : wrapped C (ix3 e r 0) = BitVec.ofNat 32 p := by
    unfold wrapped
    pointwise
    rw [h]
    exact Cert.Routing.wrap_word p _ hp
  rw [hw, Cert.Routing.toInt_small p hp]

theorem places_first (A : IVec S16x2048 32) (B : IVec S16x8192 32) (e : Fin 16) (r : Fin 10240) (h : r.val < 2048) (p : ℕ)
    (hA : A (ix2 e ⟨r.val, h⟩) = BitVec.ofNat 32 p) : places A B (ix2 e r) = BitVec.ofNat 32 p := by
  unfold places
  pointwise
  rw [dif_pos h, hA]
  exact BitVec.add_zero _

theorem places_second (A : IVec S16x2048 32) (B : IVec S16x8192 32) (e : Fin 16) (r : Fin 10240) (h : ¬ r.val < 2048) (p : ℕ)
    (hB : B (ix2 e ⟨r.val - 2048, by have := r.isLt; omega⟩) = BitVec.ofNat 32 p) :
    places A B (ix2 e r) = BitVec.ofNat 32 (p + 16384) := by
  unfold places
  pointwise
  rw [dif_neg h, hB]
  exact (BitVec.ofNat_add p 16384).symm

theorem toks_first (c : Dev nD) (e : Fin 16) (r : Fin 10240) (k : Fin 1024) (h : r.val < 2048) (p : Fin 16384)
    (hp : val_main_indices (F := Ideal) (scores m c) (ix2 e ⟨r.val, h⟩) = BitVec.ofNat 32 p.val) :
    V m c main_v13 (ix3 e r k) = tokens m c (ix2 ⟨p.val, by have := p.isLt; omega⟩ k) := by
  have hl := p.isLt
  entry_read
  have key := fun idx => gather_all (tokens m c) idx e r k ⟨p.val, by omega⟩
  refine key _ ?_
  exact wrapped_at (places _ _) e r p.val (by omega) (places_first _ _ e r h p.val hp)

theorem toks_second (c : Dev nD) (e : Fin 16) (r : Fin 10240) (k : Fin 1024) (h : ¬ r.val < 2048) (p : Fin 65536)
    (hp : val_main_indices_2 (F := Ideal) (scores m c) (ix2 e ⟨r.val - 2048, by have := r.isLt; omega⟩) = BitVec.ofNat 32 p.val) :
    V m c main_v13 (ix3 e r k) = tokens m c (ix2 ⟨p.val + 16384, by have := p.isLt; omega⟩ k) := by
  have hl := p.isLt
  entry_read
  have key := fun idx => gather_all (tokens m c) idx e r k ⟨p.val + 16384, by omega⟩
  refine key _ ?_
  exact wrapped_at (places _ _) e r (p.val + 16384) (by omega) (places_second _ _ e r h p.val hp)

end Cert.Moe1Ideal.Experts

end
-- ==== Proof.Layer1.Reference.lean ====
module

public import proofs.«01_k».proof.Proof.Layer1.Entry

@[expose] public section

set_option maxRecDepth 16384

/-! # The reference at an index: each group's tokens through their expert -/

noncomputable section

namespace Cert.Moe1ReferenceIdeal.Experts

open Cert.Moe1ReferenceIdeal Cert.Moe1ReferenceIdeal.Gen Cert.Moe1ReferenceIdeal.Read
open Idealize.ShloMosaic
open Cert.MoeIdeal.Experts (ffn)

variable (x0 : FVec Ideal S81920x1024 .bf16) (x1 : FVec Ideal S16x81920 .f32) (x2 x3 x4 : FVec Ideal S4x16x1024x1024 .f32)

theorem group_first (e : Fin 16) (r : Fin 2048) (d : Fin 1024) :
    val_main_v23 (F := Ideal) x0 x1 x2 x3 x4 (ix3 e r d)
      = ffn (fun k => val_main_v15 (F := Ideal) x0 x1 (ix3 e r k)) (fun k f => x2 (ix4 1 e k f)) (fun k f => x3 (ix4 1 e k f))
          (fun f d => x4 (ix4 1 e f d)) (val_main_values (F := Ideal) x1 (ix2 e r)) d := by
  generalize hX : val_main_v15 (F := Ideal) x0 x1 = X
  generalize hG : val_main_values (F := Ideal) x1 = G
  unfold val_main_v23 val_main_v22 val_main_v21 val_main_v20 val_main_v19 val_main_v18 val_main_v17 val_main_call0_v5 val_main_call0_v4 val_main_call0_cst_0 val_main_call0_v3 val_main_call0_v2 val_main_call0_cst val_main_call0_v1 val_main_call0_v0 val_main_v16 val_main_v8 val_main_v7 val_main_v6 val_main_v5 val_main_v4 val_main_v3
  rw [hX, hG]
  pointwise
  rfl

theorem group_second (e : Fin 16) (r : Fin 8192) (d : Fin 1024) :
    val_main_v46 (F := Ideal) x0 x1 x2 x3 x4 (ix3 e r d)
      = ffn (fun k => val_main_v38 (F := Ideal) x0 x1 (ix3 e r k)) (fun k f => x2 (ix4 1 e k f)) (fun k f => x3 (ix4 1 e k f))
          (fun f d => x4 (ix4 1 e f d)) (val_main_values_1 (F := Ideal) x1 (ix2 e r)) d := by
  generalize hX : val_main_v38 (F := Ideal) x0 x1 = X
  generalize hG : val_main_values_1 (F := Ideal) x1 = G
  unfold val_main_v46 val_main_v45 val_main_v44 val_main_v43 val_main_v42 val_main_v41 val_main_v40 val_main_call1_v5 val_main_call1_v4 val_main_call1_cst_0 val_main_call1_v3 val_main_call1_v2 val_main_call1_cst val_main_call1_v1 val_main_call1_v0 val_main_v39 val_main_v31 val_main_v30 val_main_v29 val_main_v28 val_main_v27 val_main_v26
  rw [hX, hG]
  pointwise
  rfl

theorem gather_g1 (x : FVec Ideal S16384x1024 .f32) (idx : IVec S16x2048x1 32) (e : Fin 16) (r : Fin 2048) (k : Fin 1024)
    (p : Fin 16384) (hp : (idx (ix3 e r 0)).toInt = (p.val : ℤ)) :
    Host.gather gather_S16384x1024_S16x2048x1_S16x2048x1024_2_0_n_n_0_2_11024 x idx (ix3 e r k) = x (ix2 p k) :=
  Cert.Routing.gather_row _ x idx e r k p hp

theorem gather_g2 (x : FVec Ideal S65536x1024 .f32) (idx : IVec S16x8192x1 32) (e : Fin 16) (r : Fin 8192) (k : Fin 1024)
    (p : Fin 65536) (hp : (idx (ix3 e r 0)).toInt = (p.val : ℤ)) :
    Host.gather gather_S65536x1024_S16x8192x1_S16x8192x1024_2_0_n_n_0_2_11024 x idx (ix3 e r k) = x (ix2 p k) :=
  Cert.Routing.gather_row _ x idx e r k p hp

theorem toks_first (e : Fin 16) (r : Fin 2048) (k : Fin 1024) (p : Fin 16384)
    (hp : val_main_indices (F := Ideal) x1 (ix2 e r) = BitVec.ofNat 32 p.val) :
    val_main_v15 (F := Ideal) x0 x1 (ix3 e r k) = x0 (ix2 ⟨p.val, by have := p.isLt; omega⟩ k) := by
  have hl := p.isLt
  unfold val_main_v15
  have hi : val_main_v14 (F := Ideal) x1 (ix3 e r 0) = BitVec.ofNat 32 p.val := by
    generalize hG : val_main_indices (F := Ideal) x1 = G at hp
    unfold val_main_v14 val_main_v13 val_main_v12 val_main_v11 val_main_v10 val_main_v9 val_main_c val_main_c_0
    rw [hG]
    pointwise
    rw [hp]
    exact Cert.Routing.wrap_word p.val _ (by omega)
  refine (gather_g1 _ _ e r k p (by rw [hi, Cert.Routing.toInt_small p.val (by omega)])).trans ?_
  unfold val_main_v1 val_main_v0
  pointwise

theorem toks_second (e : Fin 16) (r : Fin 8192) (k : Fin 1024) (p : Fin 65536)
    (hp : val_main_indices_2 (F := Ideal) x1 (ix2 e r) = BitVec.ofNat 32 p.val) :
    val_main_v38 (F := Ideal) x0 x1 (ix3 e r k) = x0 (ix2 ⟨p.val + 16384, by have := p.isLt; omega⟩ k) := by
  have hl := p.isLt
  unfold val_main_v38
  have hi : val_main_v37 (F := Ideal) x1 (ix3 e r 0) = BitVec.ofNat 32 p.val := by
    generalize hG : val_main_indices_2 (F := Ideal) x1 = G at hp
    unfold val_main_v37 val_main_v36 val_main_v35 val_main_v34 val_main_v33 val_main_v32 val_main_c_3 val_main_c_4
    rw [hG]
    pointwise
    rw [hp]
    exact Cert.Routing.wrap_word p.val _ (by omega)
  refine (gather_g2 _ _ e r k p (by rw [hi, Cert.Routing.toInt_small p.val (by omega)])).trans ?_
  unfold val_main_v24 val_main_v0
  pointwise
  exact congrArg (fun q => x0 (ix2 q k)) (Fin.ext (Nat.add_comm _ _))

theorem reference_first (e : Fin 16) (r : Fin 10240) (h : r.val < 2048) (d : Fin 1024) :
    val_main_v48 (F := Ideal) x0 x1 x2 x3 x4 (ix3 e r d) = val_main_v23 (F := Ideal) x0 x1 x2 x3 x4 (ix3 e ⟨r.val, h⟩ d) := by
  unfold val_main_v48 val_main_v47
  pointwise
  rw [dif_pos h]

theorem reference_second (e : Fin 16) (r : Fin 10240) (h : ¬ r.val < 2048) (d : Fin 1024) :
    val_main_v48 (F := Ideal) x0 x1 x2 x3 x4 (ix3 e r d)
      = val_main_v46 (F := Ideal) x0 x1 x2 x3 x4 (ix3 e ⟨r.val - 2048, by have := r.isLt; omega⟩ d) := by
  unfold val_main_v48 val_main_v47
  pointwise
  rw [dif_neg h]

/-- The kernel's result array is the reference's, on the same arguments. -/
theorem same (m : (ℓ : Loc Cert.Moe1Ideal.nD Cert.Moe1Ideal.τ Cert.Moe1Ideal.sig) → Buf (Elt Ideal) ℓ) (c : Dev Cert.Moe1Ideal.nD)
    (e : Fin 16) (r : Fin 10240) (d : Fin 1024) :
    Cert.Moe1Ideal.Value.G5 m c (ix3 e r d)
      = val_main_v48 (F := Ideal) (m (c, Proc.tc.devRef Cert.Moe1Ideal.main_arg0)) (m (c, Proc.tc.devRef Cert.Moe1Ideal.main_arg1))
          (m (c, Proc.tc.devRef Cert.Moe1Ideal.main_arg2)) (m (c, Proc.tc.devRef Cert.Moe1Ideal.main_arg3))
          (m (c, Proc.tc.devRef Cert.Moe1Ideal.main_arg4)) (ix3 e r d) := by
  rw [Cert.Moe1Ideal.Experts.result_ffn m c e r d]
  by_cases h : r.val < 2048
  · rw [reference_first _ _ _ _ _ e r h d, group_first]
    obtain ⟨p, hp⟩ := Cert.Routing.topK_index (FloatOps.cmpfTotal (F := Ideal) .gt)
      (val_main_v2 (F := Ideal) (m (c, Proc.tc.devRef Cert.Moe1Ideal.main_arg1))) sliceFits_S16x16384_S16x2048 (ix2 e ⟨r.val, h⟩)
    have hx : (fun k => Cert.Moe1Ideal.Gen.V m c Cert.Moe1Ideal.main_v13 (ix3 e r k))
        = fun k => val_main_v15 (F := Ideal) (m (c, Proc.tc.devRef Cert.Moe1Ideal.main_arg0)) (m (c, Proc.tc.devRef Cert.Moe1Ideal.main_arg1))
            (ix3 e ⟨r.val, h⟩ k) := by
      funext k
      rw [toks_first _ _ e ⟨r.val, h⟩ k p hp]
      exact Cert.Moe1Ideal.Experts.toks_first m c e r k h p hp
    rw [Cert.Moe1Ideal.Experts.gates_first m c e r h]
    exact congrArg (fun x => ffn x _ _ _ _ d) hx
  · rw [reference_second _ _ _ _ _ e r h d, group_second]
    have hr := r.isLt
    obtain ⟨p, hp⟩ := Cert.Routing.topK_index (FloatOps.cmpfTotal (F := Ideal) .gt)
      (val_main_v25 (F := Ideal) (m (c, Proc.tc.devRef Cert.Moe1Ideal.main_arg1))) sliceFits_S16x65536_S16x8192
      (ix2 e ⟨r.val - 2048, by omega⟩)
    have hx : (fun k => Cert.Moe1Ideal.Gen.V m c Cert.Moe1Ideal.main_v13 (ix3 e r k))
        = fun k => val_main_v38 (F := Ideal) (m (c, Proc.tc.devRef Cert.Moe1Ideal.main_arg0)) (m (c, Proc.tc.devRef Cert.Moe1Ideal.main_arg1))
            (ix3 e ⟨r.val - 2048, by omega⟩ k) := by
      funext k
      rw [toks_second _ _ e ⟨r.val - 2048, by omega⟩ k p hp]
      exact Cert.Moe1Ideal.Experts.toks_second m c e r k h p hp
    rw [Cert.Moe1Ideal.Experts.gates_second m c e r h]
    exact congrArg (fun x => ffn x _ _ _ _ d) hx

end Cert.Moe1ReferenceIdeal.Experts

end
-- ==== Proof.Layer2.Cases.lean ====
module

public import proofs.«01_k».proof.Proof.Gen.Moe2Ideal.Value

@[expose] public section

set_option maxRecDepth 16384

/-! # What one grid point of the expert FFN leaves behind

The first tile of an expert casts the three weight blocks into scratch and then computes its tile from them; the
other tiles of the expert compute from the scratch as they find it. So after every point the scratch holds the casts
of the point's own weight blocks, and the output block is the tile formula of the point's own input blocks. -/

noncomputable section

namespace Cert.Moe2Ideal.Experts

open Cert.Moe2Ideal Cert.Moe2Ideal.Gen Cert.Moe2Ideal.Value
open Idealize.ShloMosaic Idealize.ShloMosaic.TcCoe Idealize.ShloMosaic.Tactic Idealize.SL.Sem

variable {F : FTy → Type} [FloatOps F]

theorem offs2 : (![0, 0] : Fin S1024x1024.rank → ℕ) = fun _ => 0 := by funext a; fin_cases a <;> rfl
theorem offs3 : (![0, 0, 0] : Fin S1x512x1024.rank → ℕ) = fun _ => 0 := by funext a; fin_cases a <;> rfl
theorem offs3g : (![0, 0, 0] : Fin S1x1x512.rank → ℕ) = fun _ => 0 := by funext a; fin_cases a <;> rfl
theorem offs4 : (![0, 0, 0, 0] : Fin S1x1x1024x1024.rank → ℕ) = fun _ => 0 := by funext a; fin_cases a <;> rfl

/-- A first tile leaves in scratch 0 the cast of its weight block. -/
theorem scratch_A_0 (c : Dev nD) (i : grid0.Coords)
    (a2 : Memref sig .tc .vmem S1x512x1024 .bf16) (h2 : a2.IsWhole)
    (a3 : Memref sig .tc .vmem S1x1x512 .f32) (h3 : a3.IsWhole)
    (a4 : Memref sig .tc .vmem S1x1x1024x1024 .f32) (h4 : a4.IsWhole)
    (a5 : Memref sig .tc .vmem S1x1x1024x1024 .f32) (h5 : a5.IsWhole)
    (a6 : Memref sig .tc .vmem S1x1x1024x1024 .f32) (h6 : a6.IsWhole)
    (a7 : Memref sig .tc .vmem S1x512x1024 .bf16) (h7 : a7.IsWhole)
    (a8 : Memref sig .tc .vmem S1024x1024 .bf16) (h8 : a8.IsWhole)
    (a9 : Memref sig .tc .vmem S1024x1024 .bf16) (h9 : a9.IsWhole)
    (a10 : Memref sig .tc .vmem S1024x1024 .bf16) (h10 : a10.IsWhole)
    (hc : cond0_0 i)
    (x0 : Vec F S1x512x1024 .bf16) (x1 : Vec F S1x1x512 .f32) (x2 x3 x4 : Vec F S1x1x1024x1024 .f32) :
    sout0_A_0 c i a2 h2 a3 h3 a4 h4 a5 h5 a6 h6 a7 h7 a8 h8 a9 h9 a10 h10 hc x0 x1 x2 x3 x4 = k0_pay1 x2 := by
  unfold sout0_A_0
  rw [View.read_writes_eq_canon _ _ _ (scover0_A_0 c i a2 h2 a3 h3 a4 h4 a5 h5 a6 h6 a7 h7 a8 h8 a9 h9 a10 h10 hc x0 x1 x2 x3 x4)]
  unfold kernelRun0_A
  dsimp only
  sl_unfold_words
  rw [View.canon_unit_zero (S := S1024x1024) offs2]
  simp only [View.readAt_eq_ld, h2.read_unread, h3.read_unread, h4.read_unread, h5.read_unread, h6.read_unread, View.ld_unit_zero (S := S1x512x1024) offs3,
    View.ld_unit_zero (S := S1x1x512) offs3g, View.ld_unit_zero (S := S1x1x1024x1024) offs4]

/-- A first tile leaves in scratch 1 the cast of its weight block. -/
theorem scratch_A_1 (c : Dev nD) (i : grid0.Coords)
    (a2 : Memref sig .tc .vmem S1x512x1024 .bf16) (h2 : a2.IsWhole)
    (a3 : Memref sig .tc .vmem S1x1x512 .f32) (h3 : a3.IsWhole)
    (a4 : Memref sig .tc .vmem S1x1x1024x1024 .f32) (h4 : a4.IsWhole)
    (a5 : Memref sig .tc .vmem S1x1x1024x1024 .f32) (h5 : a5.IsWhole)
    (a6 : Memref sig .tc .vmem S1x1x1024x1024 .f32) (h6 : a6.IsWhole)
    (a7 : Memref sig .tc .vmem S1x512x1024 .bf16) (h7 : a7.IsWhole)
    (a8 : Memref sig .tc .vmem S1024x1024 .bf16) (h8 : a8.IsWhole)
    (a9 : Memref sig .tc .vmem S1024x1024 .bf16) (h9 : a9.IsWhole)
    (a10 : Memref sig .tc .vmem S1024x1024 .bf16) (h10 : a10.IsWhole)
    (hc : cond0_0 i)
    (x0 : Vec F S1x512x1024 .bf16) (x1 : Vec F S1x1x512 .f32) (x2 x3 x4 : Vec F S1x1x1024x1024 .f32) :
    sout0_A_1 c i a2 h2 a3 h3 a4 h4 a5 h5 a6 h6 a7 h7 a8 h8 a9 h9 a10 h10 hc x0 x1 x2 x3 x4 = k0_pay2 x3 := by
  unfold sout0_A_1
  rw [View.read_writes_eq_canon _ _ _ (scover0_A_1 c i a2 h2 a3 h3 a4 h4 a5 h5 a6 h6 a7 h7 a8 h8 a9 h9 a10 h10 hc x0 x1 x2 x3 x4)]
  unfold kernelRun0_A
  dsimp only
  sl_unfold_words
  rw [View.canon_unit_zero (S := S1024x1024) offs2]
  simp only [View.readAt_eq_ld, h2.read_unread, h3.read_unread, h4.read_unread, h5.read_unread, h6.read_unread, View.ld_unit_zero (S := S1x512x1024) offs3,
    View.ld_unit_zero (S := S1x1x512) offs3g, View.ld_unit_zero (S := S1x1x1024x1024) offs4]

/-- A first tile leaves in scratch 2 the cast of its weight block. -/
theorem scratch_A_2 (c : Dev nD) (i : grid0.Coords)
    (a2 : Memref sig .tc .vmem S1x512x1024 .bf16) (h2 : a2.IsWhole)
    (a3 : Memref sig .tc .vmem S1x1x512 .f32) (h3 : a3.IsWhole)
    (a4 : Memref sig .tc .vmem S1x1x1024x1024 .f32) (h4 : a4.IsWhole)
    (a5 : Memref sig .tc .vmem S1x1x1024x1024 .f32) (h5 : a5.IsWhole)
    (a6 : Memref sig .tc .vmem S1x1x1024x1024 .f32) (h6 : a6.IsWhole)
    (a7 : Memref sig .tc .vmem S1x512x1024 .bf16) (h7 : a7.IsWhole)
    (a8 : Memref sig .tc .vmem S1024x1024 .bf16) (h8 : a8.IsWhole)
    (a9 : Memref sig .tc .vmem S1024x1024 .bf16) (h9 : a9.IsWhole)
    (a10 : Memref sig .tc .vmem S1024x1024 .bf16) (h10 : a10.IsWhole)
    (hc : cond0_0 i)
    (x0 : Vec F S1x512x1024 .bf16) (x1 : Vec F S1x1x512 .f32) (x2 x3 x4 : Vec F S1x1x1024x1024 .f32) :
    sout0_A_2 c i a2 h2 a3 h3 a4 h4 a5 h5 a6 h6 a7 h7 a8 h8 a9 h9 a10 h10 hc x0 x1 x2 x3 x4 = k0_pay3 x4 := by
  unfold sout0_A_2
  rw [View.read_writes_eq_canon _ _ _ (scover0_A_2 c i a2 h2 a3 h3 a4 h4 a5 h5 a6 h6 a7 h7 a8 h8 a9 h9 a10 h10 hc x0 x1 x2 x3 x4)]
  unfold kernelRun0_A
  dsimp only
  sl_unfold_words
  rw [View.canon_unit_zero (S := S1024x1024) offs2]
  simp only [View.readAt_eq_ld, h2.read_unread, h3.read_unread, h4.read_unread, h5.read_unread, h6.read_unread, View.ld_unit_zero (S := S1x512x1024) offs3,
    View.ld_unit_zero (S := S1x1x512) offs3g, View.ld_unit_zero (S := S1x1x1024x1024) offs4]

/-- A first tile's output: the tile formula over the weights it has just cast. -/
theorem tile_A (c : Dev nD) (i : grid0.Coords)
    (a2 : Memref sig .tc .vmem S1x512x1024 .bf16) (h2 : a2.IsWhole)
    (a3 : Memref sig .tc .vmem S1x1x512 .f32) (h3 : a3.IsWhole)
    (a4 : Memref sig .tc .vmem S1x1x1024x1024 .f32) (h4 : a4.IsWhole)
    (a5 : Memref sig .tc .vmem S1x1x1024x1024 .f32) (h5 : a5.IsWhole)
    (a6 : Memref sig .tc .vmem S1x1x1024x1024 .f32) (h6 : a6.IsWhole)
    (a7 : Memref sig .tc .vmem S1x512x1024 .bf16) (h7 : a7.IsWhole)
    (a8 : Memref sig .tc .vmem S1024x1024 .bf16) (h8 : a8.IsWhole)
    (a9 : Memref sig .tc .vmem S1024x1024 .bf16) (h9 : a9.IsWhole)
    (a10 : Memref sig .tc .vmem S1024x1024 .bf16) (h10 : a10.IsWhole)
    (hc : cond0_0 i)
    (x0 : Vec F S1x512x1024 .bf16) (x1 : Vec F S1x1x512 .f32) (x2 x3 x4 : Vec F S1x1x1024x1024 .f32) :
    out0_A_5 c i a2 h2 a3 h3 a4 h4 a5 h5 a6 h6 a7 h7 a8 h8 a9 h9 a10 h10 hc x0 x1 x2 x3 x4 = k0_pay4 x0 (k0_pay1 x2) (k0_pay2 x3) x1 (k0_pay3 x4) := by
  unfold out0_A_5
  rw [View.read_writes_eq_canon _ _ _ (cover0_A_5 c i a2 h2 a3 h3 a4 h4 a5 h5 a6 h6 a7 h7 a8 h8 a9 h9 a10 h10 hc x0 x1 x2 x3 x4)]
  unfold kernelRun0_A
  dsimp only
  sl_unfold_words
  rw [View.canon_unit_zero (S := S1x512x1024) offs3]
  simp only [View.readCov_unit_zero (S := S1024x1024) _ offs2]
  simp only [View.readAt_eq_ld, h2.read_unread, h3.read_unread, h4.read_unread, h5.read_unread, h6.read_unread, View.ld_unit_zero (S := S1x512x1024) offs3,
    View.ld_unit_zero (S := S1x1x512) offs3g, View.ld_unit_zero (S := S1x1x1024x1024) offs4]

/-- Any other tile's output: the tile formula over the scratch it finds. -/
theorem tile_B (c : Dev nD) (i : grid0.Coords)
    (a2 : Memref sig .tc .vmem S1x512x1024 .bf16) (h2 : a2.IsWhole)
    (a3 : Memref sig .tc .vmem S1x1x512 .f32) (h3 : a3.IsWhole)
    (a4 : Memref sig .tc .vmem S1x1x1024x1024 .f32) (h4 : a4.IsWhole)
    (a5 : Memref sig .tc .vmem S1x1x1024x1024 .f32) (h5 : a5.IsWhole)
    (a6 : Memref sig .tc .vmem S1x1x1024x1024 .f32) (h6 : a6.IsWhole)
    (a7 : Memref sig .tc .vmem S1x512x1024 .bf16) (h7 : a7.IsWhole)
    (a8 : Memref sig .tc .vmem S1024x1024 .bf16) (h8 : a8.IsWhole)
    (a9 : Memref sig .tc .vmem S1024x1024 .bf16) (h9 : a9.IsWhole)
    (a10 : Memref sig .tc .vmem S1024x1024 .bf16) (h10 : a10.IsWhole)
    (hc : ¬cond0_0 i)
    (x0 : Vec F S1x512x1024 .bf16) (x1 : Vec F S1x1x512 .f32) (x2 x3 x4 : Vec F S1x1x1024x1024 .f32)
    (y0 y1 y2 : Vec F S1024x1024 .bf16) :
    out0_B_5 c i a2 h2 a3 h3 a4 h4 a5 h5 a6 h6 a7 h7 a8 h8 a9 h9 a10 h10 hc x0 x1 x2 x3 x4 y0 y1 y2 = k0_pay4 x0 y0 y1 x1 y2 := by
  unfold out0_B_5
  rw [View.read_writes_eq_canon _ _ _ (cover0_B_5 c i a2 h2 a3 h3 a4 h4 a5 h5 a6 h6 a7 h7 a8 h8 a9 h9 a10 h10 hc x0 x1 x2 x3 x4 y0 y1 y2)]
  unfold kernelRun0_B
  dsimp only
  sl_unfold_words
  rw [View.canon_unit_zero (S := S1x512x1024) offs3]
  simp only [View.readAt_eq_ld, h2.read_unread, h3.read_unread, h4.read_unread, h5.read_unread, h6.read_unread, h8.read_unread, h9.read_unread, h10.read_unread, View.ld_unit_zero (S := S1x512x1024) offs3,
    View.ld_unit_zero (S := S1x1x512) offs3g, View.ld_unit_zero (S := S1024x1024) offs2, View.ld_unit_zero (S := S1x1x1024x1024) offs4]

variable (m : (ℓ : Loc nD τ sig) → Buf (Elt F) ℓ)

/-- The tile formula of point `t`'s input blocks, with the casts of its weight blocks. -/
def tile (c : Dev nD) (t : Fin cfg0.N) : Vec F S1x512x1024 .bf16 :=
  k0_pay4 (iblk m c 0 t) (k0_pay1 (iblk m c 2 t)) (k0_pay2 (iblk m c 3 t)) (iblk m c 1 t) (k0_pay3 (iblk m c 4 t))

/-- The printed index maps over the grid: point `t` is tile `t % 20` of expert `t / 20`. -/
theorem idx0 : ∀ t : Fin cfg0.N, win0_0.index t (0 : Fin 3) = t.val / 20 ∧ win0_0.index t (1 : Fin 3) = t.val % 20
    ∧ win0_0.index t (2 : Fin 3) = 0 := (by decide +kernel : ∀ t : Fin grid0.N, _)
theorem idx1 : ∀ t : Fin cfg0.N, win0_1.index t (0 : Fin 3) = t.val / 20 ∧ win0_1.index t (1 : Fin 3) = 0
    ∧ win0_1.index t (2 : Fin 3) = t.val % 20 := (by decide +kernel : ∀ t : Fin grid0.N, _)
theorem idx2 : ∀ t : Fin cfg0.N, win0_2.index t (0 : Fin 4) = 2 ∧ win0_2.index t (1 : Fin 4) = t.val / 20
    ∧ win0_2.index t (2 : Fin 4) = 0 ∧ win0_2.index t (3 : Fin 4) = 0 := (by decide +kernel : ∀ t : Fin grid0.N, _)
theorem idx3 : ∀ t : Fin cfg0.N, win0_3.index t (0 : Fin 4) = 2 ∧ win0_3.index t (1 : Fin 4) = t.val / 20
    ∧ win0_3.index t (2 : Fin 4) = 0 ∧ win0_3.index t (3 : Fin 4) = 0 := (by decide +kernel : ∀ t : Fin grid0.N, _)
theorem idx4 : ∀ t : Fin cfg0.N, win0_4.index t (0 : Fin 4) = 2 ∧ win0_4.index t (1 : Fin 4) = t.val / 20
    ∧ win0_4.index t (2 : Fin 4) = 0 ∧ win0_4.index t (3 : Fin 4) = 0 := (by decide +kernel : ∀ t : Fin grid0.N, _)

/-- Window 0's block at point `t`, read at an index. -/
theorem blk0 (c : Dev nD) (t : Fin cfg0.N) (z : S1x512x1024.Idx) (y : (S16x10240x1024).Idx)
    (hy0 : (y 0).val = t.val / 20)
    (hy1 : (y 1).val = 512 * (t.val % 20) + (z 1).val)
    (hy2 : (y 2).val = (z 2).val) :
    iblk m c 0 t z = V m c main_v13 y := by
  obtain ⟨e0, e1, e2⟩ := idx0 t
  have b0 : (((cfg0.win 0).blk t).view.emb z 0).val = win0_0.index t (0 : Fin 3) * 1 + 1 * (z 0).val := rfl
  have b1 : (((cfg0.win 0).blk t).view.emb z 1).val = win0_0.index t (1 : Fin 3) * 512 + 1 * (z 1).val := rfl
  have b2 : (((cfg0.win 0).blk t).view.emb z 2).val = win0_0.index t (2 : Fin 3) * 1024 + 1 * (z 2).val := rfl
  have z0 : (z 0).val < 1 := (z 0).isLt
  have z1 : (z 1).val < 512 := (z 1).isLt
  have z2 : (z 2).val < 1024 := (z 2).isLt
  have c0 : (((cfg0.win 0).blk t).view.emb z 0).val = (y 0).val := by rw [b0, hy0]; omega
  have c1 : (((cfg0.win 0).blk t).view.emb z 1).val = (y 1).val := by rw [b1, hy1]; omega
  have c2 : (((cfg0.win 0).blk t).view.emb z 2).val = (y 2).val := by rw [b2, hy2]; omega
  show V m c main_v13 (((cfg0.win 0).blk t).view.emb z) = V m c main_v13 y
  refine congrArg _ (funext fun a => Fin.ext ?_)
  match a with
  | ⟨0, _⟩ => exact c0
  | ⟨1, _⟩ => exact c1
  | ⟨2, _⟩ => exact c2

/-- Window 1's block at point `t`, read at an index. -/
theorem blk1 (c : Dev nD) (t : Fin cfg0.N) (z : S1x1x512.Idx) (y : (S16x1x10240).Idx)
    (hy0 : (y 0).val = t.val / 20)
    (hy1 : (y 1).val = 0)
    (hy2 : (y 2).val = 512 * (t.val % 20) + (z 2).val) :
    iblk m c 1 t z = V m c main_v15 y := by
  obtain ⟨e0, e1, e2⟩ := idx1 t
  have b0 : (((cfg0.win 1).blk t).view.emb z 0).val = win0_1.index t (0 : Fin 3) * 1 + 1 * (z 0).val := rfl
  have b1 : (((cfg0.win 1).blk t).view.emb z 1).val = win0_1.index t (1 : Fin 3) * 1 + 1 * (z 1).val := rfl
  have b2 : (((cfg0.win 1).blk t).view.emb z 2).val = win0_1.index t (2 : Fin 3) * 512 + 1 * (z 2).val := rfl
  have z0 : (z 0).val < 1 := (z 0).isLt
  have z1 : (z 1).val < 1 := (z 1).isLt
  have z2 : (z 2).val < 512 := (z 2).isLt
  have c0 : (((cfg0.win 1).blk t).view.emb z 0).val = (y 0).val := by rw [b0, hy0]; omega
  have c1 : (((cfg0.win 1).blk t).view.emb z 1).val = (y 1).val := by rw [b1, hy1]; omega
  have c2 : (((cfg0.win 1).blk t).view.emb z 2).val = (y 2).val := by rw [b2, hy2]; omega
  show V m c main_v15 (((cfg0.win 1).blk t).view.emb z) = V m c main_v15 y
  refine congrArg _ (funext fun a => Fin.ext ?_)
  match a with
  | ⟨0, _⟩ => exact c0
  | ⟨1, _⟩ => exact c1
  | ⟨2, _⟩ => exact c2

/-- Window 2's block at point `t`, read at an index. -/
theorem blk2 (c : Dev nD) (t : Fin cfg0.N) (z : S1x1x1024x1024.Idx) (y : (S4x16x1024x1024).Idx)
    (hy0 : (y 0).val = 2)
    (hy1 : (y 1).val = t.val / 20)
    (hy2 : (y 2).val = (z 2).val)
    (hy3 : (y 3).val = (z 3).val) :
    iblk m c 2 t z = V m c main_arg2 y := by
  obtain ⟨e0, e1, e2, e3⟩ := idx2 t
  have b0 : (((cfg0.win 2).blk t).view.emb z 0).val = win0_2.index t (0 : Fin 4) * 1 + 1 * (z 0).val := rfl
  have b1 : (((cfg0.win 2).blk t).view.emb z 1).val = win0_2.index t (1 : Fin 4) * 1 + 1 * (z 1).val := rfl
  have b2 : (((cfg0.win 2).blk t).view.emb z 2).val = win0_2.index t (2 : Fin 4) * 1024 + 1 * (z 2).val := rfl
  have b3 : (((cfg0.win 2).blk t).view.emb z 3).val = win0_2.index t (3 : Fin 4) * 1024 + 1 * (z 3).val := rfl
  have z0 : (z 0).val < 1 := (z 0).isLt
  have z1 : (z 1).val < 1 := (z 1).isLt
  have z2 : (z 2).val < 1024 := (z 2).isLt
  have z3 : (z 3).val < 1024 := (z 3).isLt
  have c0 : (((cfg0.win 2).blk t).view.emb z 0).val = (y 0).val := by rw [b0, hy0]; omega
  have c1 : (((cfg0.win 2).blk t).view.emb z 1).val = (y 1).val := by rw [b1, hy1]; omega
  have c2 : (((cfg0.win 2).blk t).view.emb z 2).val = (y 2).val := by rw [b2, hy2]; omega
  have c3 : (((cfg0.win 2).blk t).view.emb z 3).val = (y 3).val := by rw [b3, hy3]; omega
  show V m c main_arg2 (((cfg0.win 2).blk t).view.emb z) = V m c main_arg2 y
  refine congrArg _ (funext fun a => Fin.ext ?_)
  match a with
  | ⟨0, _⟩ => exact c0
  | ⟨1, _⟩ => exact c1
  | ⟨2, _⟩ => exact c2
  | ⟨3, _⟩ => exact c3

/-- Window 3's block at point `t`, read at an index. -/
theorem blk3 (c : Dev nD) (t : Fin cfg0.N) (z : S1x1x1024x1024.Idx) (y : (S4x16x1024x1024).Idx)
    (hy0 : (y 0).val = 2)
    (hy1 : (y 1).val = t.val / 20)
    (hy2 : (y 2).val = (z 2).val)
    (hy3 : (y 3).val = (z 3).val) :
    iblk m c 3 t z = V m c main_arg3 y := by
  obtain ⟨e0, e1, e2, e3⟩ := idx3 t
  have b0 : (((cfg0.win 3).blk t).view.emb z 0).val = win0_3.index t (0 : Fin 4) * 1 + 1 * (z 0).val := rfl
  have b1 : (((cfg0.win 3).blk t).view.emb z 1).val = win0_3.index t (1 : Fin 4) * 1 + 1 * (z 1).val := rfl
  have b2 : (((cfg0.win 3).blk t).view.emb z 2).val = win0_3.index t (2 : Fin 4) * 1024 + 1 * (z 2).val := rfl
  have b3 : (((cfg0.win 3).blk t).view.emb z 3).val = win0_3.index t (3 : Fin 4) * 1024 + 1 * (z 3).val := rfl
  have z0 : (z 0).val < 1 := (z 0).isLt
  have z1 : (z 1).val < 1 := (z 1).isLt
  have z2 : (z 2).val < 1024 := (z 2).isLt
  have z3 : (z 3).val < 1024 := (z 3).isLt
  have c0 : (((cfg0.win 3).blk t).view.emb z 0).val = (y 0).val := by rw [b0, hy0]; omega
  have c1 : (((cfg0.win 3).blk t).view.emb z 1).val = (y 1).val := by rw [b1, hy1]; omega
  have c2 : (((cfg0.win 3).blk t).view.emb z 2).val = (y 2).val := by rw [b2, hy2]; omega
  have c3 : (((cfg0.win 3).blk t).view.emb z 3).val = (y 3).val := by rw [b3, hy3]; omega
  show V m c main_arg3 (((cfg0.win 3).blk t).view.emb z) = V m c main_arg3 y
  refine congrArg _ (funext fun a => Fin.ext ?_)
  match a with
  | ⟨0, _⟩ => exact c0
  | ⟨1, _⟩ => exact c1
  | ⟨2, _⟩ => exact c2
  | ⟨3, _⟩ => exact c3

/-- Window 4's block at point `t`, read at an index. -/
theorem blk4 (c : Dev nD) (t : Fin cfg0.N) (z : S1x1x1024x1024.Idx) (y : (S4x16x1024x1024).Idx)
    (hy0 : (y 0).val = 2)
    (hy1 : (y 1).val = t.val / 20)
    (hy2 : (y 2).val = (z 2).val)
    (hy3 : (y 3).val = (z 3).val) :
    iblk m c 4 t z = V m c main_arg4 y := by
  obtain ⟨e0, e1, e2, e3⟩ := idx4 t
  have b0 : (((cfg0.win 4).blk t).view.emb z 0).val = win0_4.index t (0 : Fin 4) * 1 + 1 * (z 0).val := rfl
  have b1 : (((cfg0.win 4).blk t).view.emb z 1).val = win0_4.index t (1 : Fin 4) * 1 + 1 * (z 1).val := rfl
  have b2 : (((cfg0.win 4).blk t).view.emb z 2).val = win0_4.index t (2 : Fin 4) * 1024 + 1 * (z 2).val := rfl
  have b3 : (((cfg0.win 4).blk t).view.emb z 3).val = win0_4.index t (3 : Fin 4) * 1024 + 1 * (z 3).val := rfl
  have z0 : (z 0).val < 1 := (z 0).isLt
  have z1 : (z 1).val < 1 := (z 1).isLt
  have z2 : (z 2).val < 1024 := (z 2).isLt
  have z3 : (z 3).val < 1024 := (z 3).isLt
  have c0 : (((cfg0.win 4).blk t).view.emb z 0).val = (y 0).val := by rw [b0, hy0]; omega
  have c1 : (((cfg0.win 4).blk t).view.emb z 1).val = (y 1).val := by rw [b1, hy1]; omega
  have c2 : (((cfg0.win 4).blk t).view.emb z 2).val = (y 2).val := by rw [b2, hy2]; omega
  have c3 : (((cfg0.win 4).blk t).view.emb z 3).val = (y 3).val := by rw [b3, hy3]; omega
  show V m c main_arg4 (((cfg0.win 4).blk t).view.emb z) = V m c main_arg4 y
  refine congrArg _ (funext fun a => Fin.ext ?_)
  match a with
  | ⟨0, _⟩ => exact c0
  | ⟨1, _⟩ => exact c1
  | ⟨2, _⟩ => exact c2
  | ⟨3, _⟩ => exact c3

/-- Two points of one expert read the same block of window 2. -/
theorem same2 (c : Dev nD) (t t' : Fin cfg0.N) (h : t.val / 20 = t'.val / 20) : iblk m c 2 t = iblk m c 2 t' := by
  funext z
  have ht : t.val < 320 := lt_of_lt_of_eq t.isLt (show cfg0.N = 320 from N_0)
  let y : S4x16x1024x1024.Idx := fun a => match a with
    | ⟨0, _⟩ => ⟨2, by show 2 < 4; omega⟩
    | ⟨1, _⟩ => ⟨t.val / 20, by show t.val / 20 < 16; omega⟩
    | ⟨2, _⟩ => z 2
    | ⟨3, _⟩ => z 3
  exact (blk2 m c t z y rfl rfl rfl rfl).trans (blk2 m c t' z y rfl h rfl rfl).symm

/-- Two points of one expert read the same block of window 3. -/
theorem same3 (c : Dev nD) (t t' : Fin cfg0.N) (h : t.val / 20 = t'.val / 20) : iblk m c 3 t = iblk m c 3 t' := by
  funext z
  have ht : t.val < 320 := lt_of_lt_of_eq t.isLt (show cfg0.N = 320 from N_0)
  let y : S4x16x1024x1024.Idx := fun a => match a with
    | ⟨0, _⟩ => ⟨2, by show 2 < 4; omega⟩
    | ⟨1, _⟩ => ⟨t.val / 20, by show t.val / 20 < 16; omega⟩
    | ⟨2, _⟩ => z 2
    | ⟨3, _⟩ => z 3
  exact (blk3 m c t z y rfl rfl rfl rfl).trans (blk3 m c t' z y rfl h rfl rfl).symm

/-- Two points of one expert read the same block of window 4. -/
theorem same4 (c : Dev nD) (t t' : Fin cfg0.N) (h : t.val / 20 = t'.val / 20) : iblk m c 4 t = iblk m c 4 t' := by
  funext z
  have ht : t.val < 320 := lt_of_lt_of_eq t.isLt (show cfg0.N = 320 from N_0)
  let y : S4x16x1024x1024.Idx := fun a => match a with
    | ⟨0, _⟩ => ⟨2, by show 2 < 4; omega⟩
    | ⟨1, _⟩ => ⟨t.val / 20, by show t.val / 20 < 16; omega⟩
    | ⟨2, _⟩ => z 2
    | ⟨3, _⟩ => z 3
  exact (blk4 m c t z y rfl rfl rfl rfl).trans (blk4 m c t' z y rfl h rfl rfl).symm

/-- After every point: the tile formula in the output block, the casts of the weight blocks in scratch. -/
theorem outs_eq (c : Dev nD) : ∀ (n : ℕ) (h : n < cfg0.N), outsAt0 m c n h
    = (tile m c ⟨n, h⟩, k0_pay1 (iblk m c 2 ⟨n, h⟩), k0_pay2 (iblk m c 3 ⟨n, h⟩), k0_pay3 (iblk m c 4 ⟨n, h⟩)) := by
  have first : ∀ t : Fin cfg0.N, t.val % 20 = 0 → outsAt0 m c t.val t.isLt
      = (tile m c t, k0_pay1 (iblk m c 2 t), k0_pay2 (iblk m c 3 t), k0_pay3 (iblk m c 4 t)) := fun t h0 => by
    rw [outsAt0_A m c t h0, tile_A, scratch_A_0, scratch_A_1, scratch_A_2]
    rfl
  intro n
  induction n with
  | zero => exact fun h => first ⟨0, h⟩ rfl
  | succ n ih =>
    intro h
    by_cases h0 : (n + 1) % 20 = 0
    · exact first ⟨n + 1, h⟩ h0
    · have hd : (⟨n, Nat.lt_of_succ_lt h⟩ : Fin cfg0.N).val / 20 = (⟨n + 1, h⟩ : Fin cfg0.N).val / 20 := by
        show n / 20 = (n + 1) / 20
        omega
      rw [outsAt0_B m c ⟨n + 1, h⟩ h0, tile_B]
      unfold sout0_B_0 sout0_B_1 sout0_B_2 tile
      simp only [Nat.add_sub_cancel, ih (Nat.lt_of_succ_lt h), same2 m c _ _ hd, same3 m c _ _ hd, same4 m c _ _ hd]

/-- The result array at `(e, r, d)`: tile `r / 512` of expert `e`, at row `r % 512`. -/
theorem result_at (c : Dev nD) (i : S16x10240x1024.Idx) (t : Fin cfg0.N) (z : S1x512x1024.Idx)
    (ht : t.val = 20 * (i 0).val + (i 1).val / 512) (hz1 : (z 1).val = (i 1).val % 512) (hz2 : (z 2).val = (i 2).val) :
    G5 m c i = tile m c t z := by
  have i2 : (i 2).val < 1024 := (i 2).isLt
  have z0 : (z 0).val < 1 := (z 0).isLt
  have hp : pt5Of i = t.val := by
    show 20 * ((i 0).val / 1 - 0) + 1 * ((i 1).val / 512 - 0) + 1 * ((i 2).val / 1024 - 0) = t.val
    omega
  have hl : loc5Of i = z := funext fun a => Fin.ext (by
    match a with
    | ⟨0, _⟩ => show (i 0).val % 1 = (z 0).val; omega
    | ⟨1, _⟩ => exact hz1.symm
    | ⟨2, _⟩ => show (i 2).val % 1024 = (z 2).val; omega)
  unfold G5
  rw [dif_pos (by rw [hp]; exact t.isLt), hl, fold0_congr m c _ _ _ (by simpa using t.isLt) hp,
    ← outsAt0_sweep m c t.val t.isLt, outs_eq m c t.val t.isLt]

end Cert.Moe2Ideal.Experts

end
-- ==== Proof.Layer2.Tile.lean ====
module

public import proofs.«01_k».proof.Proof.Layer2.Cases
public import proofs.«01_k».proof.Proof.Experts.Tile
public import Idealize.ShloMosaic.Lib.Pointwise

@[expose] public section

set_option maxRecDepth 16384

/-! # The tile formula at an index, over the extended reals -/

noncomputable section

namespace Cert.Moe2Ideal.Experts

open Cert.Moe2Ideal Cert.Moe2Ideal.Gen
open Idealize.ShloMosaic
open Cert.MoeIdeal.Experts (ffn diag_sum)

theorem pay4_at (x : Vec Ideal S1x512x1024 .bf16) (a b w : Vec Ideal S1024x1024 .bf16) (g : Vec Ideal S1x1x512 .f32)
    (r : Fin 512) (d : Fin 1024) :
    k0_pay4 (F := Ideal) x a b g w (ix3 0 r d)
      = ffn (fun k => x (ix3 0 r k)) (fun k f => a (ix2 k f)) (fun k f => b (ix2 k f)) (fun f d => w (ix2 f d))
          (g (ix3 0 0 r)) d := by
  pointwise [k0_pay4]
  rw [diag_sum (fun k => g (ix3 0 0 k)) r]
  rfl

theorem pay1_at (x : Vec Ideal S1x1x1024x1024 .f32) (r d : Fin 1024) :
    k0_pay1 (F := Ideal) x (ix2 r d) = x (ix4 0 0 r d) := by pointwise [k0_pay1]
theorem pay2_at (x : Vec Ideal S1x1x1024x1024 .f32) (r d : Fin 1024) :
    k0_pay2 (F := Ideal) x (ix2 r d) = x (ix4 0 0 r d) := by pointwise [k0_pay2]
theorem pay3_at (x : Vec Ideal S1x1x1024x1024 .f32) (r d : Fin 1024) :
    k0_pay3 (F := Ideal) x (ix2 r d) = x (ix4 0 0 r d) := by pointwise [k0_pay3]

variable (m : (ℓ : Loc nD τ sig) → Buf (Elt Ideal) ℓ)

/-- The result array at `(e, r, d)`: the token gathered for that place, through expert `e`'s weights. -/
theorem result_ffn (c : Dev nD) (e : Fin 16) (r : Fin 10240) (d : Fin 1024) :
    Value.G5 m c (ix3 e r d)
      = ffn (fun k => V m c main_v13 (ix3 e r k)) (fun k f => V m c main_arg2 (ix4 2 e k f))
          (fun k f => V m c main_arg3 (ix4 2 e k f)) (fun f d => V m c main_arg4 (ix4 2 e f d))
          (V m c main_v15 (ix3 e 0 r)) d := by
  have he := e.isLt
  have hr := r.isLt
  have hd := Nat.div_add_mod r.val 512
  let t : Fin cfg0.N := ⟨20 * e.val + r.val / 512, lt_of_lt_of_eq (by omega) (show cfg0.N = 320 from N_0).symm⟩
  have tq : t.val / 20 = e.val := by show (20 * e.val + r.val / 512) / 20 = e.val; omega
  have tr : t.val % 20 = r.val / 512 := by show (20 * e.val + r.val / 512) % 20 = r.val / 512; omega
  let r' : Fin 512 := ⟨r.val % 512, Nat.mod_lt _ (by decide)⟩
  have row : 512 * (t.val % 20) + r'.val = r.val := by rw [tr]; exact hd
  rw [result_at m c (ix3 e r d) t (ix3 0 r' d) rfl rfl rfl]
  unfold tile
  rw [pay4_at]
  simp only [pay1_at, pay2_at, pay3_at]
  rw [show (fun k => iblk m c 0 t (ix3 0 r' k)) = fun k => V m c main_v13 (ix3 e r k) from
      funext fun k => blk0 m c t (ix3 0 r' k) (ix3 e r k) tq.symm row.symm rfl,
    show (fun k f => iblk m c 2 t (ix4 0 0 k f)) = fun k f => V m c main_arg2 (ix4 2 e k f) from
      funext fun k => funext fun f => blk2 m c t (ix4 0 0 k f) (ix4 2 e k f) rfl tq.symm rfl rfl,
    show (fun k f => iblk m c 3 t (ix4 0 0 k f)) = fun k f => V m c main_arg3 (ix4 2 e k f) from
      funext fun k => funext fun f => blk3 m c t (ix4 0 0 k f) (ix4 2 e k f) rfl tq.symm rfl rfl,
    show (fun f d => iblk m c 4 t (ix4 0 0 f d)) = fun f d => V m c main_arg4 (ix4 2 e f d) from
      funext fun k => funext fun f => blk4 m c t (ix4 0 0 k f) (ix4 2 e k f) rfl tq.symm rfl rfl,
    show iblk m c 1 t (ix3 0 0 r') = V m c main_v15 (ix3 e 0 r) from
      blk1 m c t (ix3 0 0 r') (ix3 e 0 r) tq.symm rfl row.symm]

end Cert.Moe2Ideal.Experts

end
-- ==== Proof.Layer2.Entry.lean ====
module

public import proofs.«01_k».proof.Proof.Layer2.Tile
public import proofs.«01_k».proof.Proof.Experts.Route
public import proofs.«01_k».proof.Proof.Gen.Moe2ReferenceIdeal.Read
public import Idealize.ShloMosaic.Lib.Claim

@[expose] public section

set_option maxRecDepth 16384

/-! # What the kernel's call finds: the gathered tokens and their gates

The kernel gathers from all tokens at once, at each group's positions shifted by the group's start. -/

noncomputable section

namespace Cert.Moe2Ideal.Experts

open Cert.Moe2Ideal Cert.Moe2Ideal.Gen
open Idealize.ShloMosaic
open Cert.Moe2ReferenceIdeal.Read (val_main_values val_main_values_1 val_main_indices val_main_indices_2)

variable (m : (ℓ : Loc nD τ sig) → Buf (Elt Ideal) ℓ)

/-- The arguments, as plain arrays. -/
abbrev tokens (c : Dev nD) : FVec Ideal S81920x1024 .bf16 := m (c, Proc.tc.devRef main_arg0)
abbrev scores (c : Dev nD) : FVec Ideal S16x81920 .f32 := m (c, Proc.tc.devRef main_arg1)

theorem gates_first (c : Dev nD) (e : Fin 16) (r : Fin 10240) (h : r.val < 2048) :
    V m c main_v15 (ix3 e 0 r) = val_main_values (F := Ideal) (scores m c) (ix2 e ⟨r.val, h⟩) := by
  entry_read
  pointwise
  rw [dif_pos h]
  rfl

theorem gates_second (c : Dev nD) (e : Fin 16) (r : Fin 10240) (h : ¬ r.val < 2048) :
    V m c main_v15 (ix3 e 0 r)
      = val_main_values_1 (F := Ideal) (scores m c) (ix2 e ⟨r.val - 2048, by have := r.isLt; omega⟩) := by
  entry_read
  pointwise
  rw [dif_neg h]
  rfl

theorem gather_all (x : FVec Ideal S81920x1024 .bf16) (idx : IVec S16x10240x1 32) (e : Fin 16) (r : Fin 10240) (k : Fin 1024)
    (p : Fin 81920) (hp : (idx (ix3 e r 0)).toInt = (p.val : ℤ)) :
    Host.gather gather_S81920x1024_S16x10240x1_S16x10240x1024_2_0_n_n_0_2_11024 x idx (ix3 e r k) = x (ix2 p k) :=
  Cert.Routing.gather_row _ x idx e r k p hp

/-- The two groups' positions side by side, each shifted by its group's start. -/
abbrev places (A : IVec S16x2048 32) (B : IVec S16x8192 32) : IVec S16x10240 32 :=
  concatenate S16x10240 1
    [⟨S16x2048, addi A (broadcastInDim S16x2048 ![] bcast_S_S16x2048 (constantI S_ 32 0#32))⟩,
      ⟨S16x8192, addi B (broadcastInDim S16x8192 ![] bcast_S_S16x8192 (constantI S_ 32 16384#32))⟩]
    concatenates_S16x2048_S16x8192_S16x10240_d1

/-- The index the gather reads: negative positions would count from the end. -/
abbrev wrapped (C : IVec S16x10240 32) : IVec S16x10240x1 32 :=
  broadcastInDim S16x10240x1 ![0, 1] bcast_S16x10240_S16x10240x1_0_1
    (select (cmpi CmpIPredicate.slt C (broadcastInDim S16x10240 ![] bcast_S_S16x10240 (constantI S_ 32 0#32)))
      (addi C (broadcastInDim S16x10240 ![] bcast_S_S16x10240 (constantI S_ 32 81920#32))) C)

theorem wrapped_at (C : IVec S16x10240 32) (e : Fin 16) (r : Fin 10240) (p : ℕ) (hp : p < 2 ^ 31)
    (h : C (ix2 e r) = BitVec.ofNat 32 p) : (wrapped C (ix3 e r 0)).toInt = (p : ℤ) := by
  have hw : wrapped C (ix3 e r 0) = BitVec.ofNat 32 p := by
    unfold wrapped
    pointwise
    rw [h]
    exact Cert.Routing.wrap_word p _ hp
  rw [hw, Cert.Routing.toInt_small p hp]

theorem places_first (A : IVec S16x2048 32) (B : IVec S16x8192 32) (e : Fin 16) (r : Fin 10240) (h : r.val < 2048) (p : ℕ)
    (hA : A (ix2 e ⟨r.val, h⟩) = BitVec.ofNat 32 p) : places A B (ix2 e r) = BitVec.ofNat 32 p := by
  unfold places
  pointwise
  rw [dif_pos h, hA]
  exact BitVec.add_zero _

theorem places_second (A : IVec S16x2048 32) (B : IVec S16x8192 32) (e : Fin 16) (r : Fin 10240) (h : ¬ r.val < 2048) (p : ℕ)
    (hB : B (ix2 e ⟨r.val - 2048, by have := r.isLt; omega⟩) = BitVec.ofNat 32 p) :
    places A B (ix2 e r) = BitVec.ofNat 32 (p + 16384) := by
  unfold places
  pointwise
  rw [dif_neg h, hB]
  exact (BitVec.ofNat_add p 16384).symm

theorem toks_first (c : Dev nD) (e : Fin 16) (r : Fin 10240) (k : Fin 1024) (h : r.val < 2048) (p : Fin 16384)
    (hp : val_main_indices (F := Ideal) (scores m c) (ix2 e ⟨r.val, h⟩) = BitVec.ofNat 32 p.val) :
    V m c main_v13 (ix3 e r k) = tokens m c (ix2 ⟨p.val, by have := p.isLt; omega⟩ k) := by
  have hl := p.isLt
  entry_read
  have key := fun idx => gather_all (tokens m c) idx e r k ⟨p.val, by omega⟩
  refine key _ ?_
  exact wrapped_at (places _ _) e r p.val (by omega) (places_first _ _ e r h p.val hp)

theorem toks_second (c : Dev nD) (e : Fin 16) (r : Fin 10240) (k : Fin 1024) (h : ¬ r.val < 2048) (p : Fin 65536)
    (hp : val_main_indices_2 (F := Ideal) (scores m c) (ix2 e ⟨r.val - 2048, by have := r.isLt; omega⟩) = BitVec.ofNat 32 p.val) :
    V m c main_v13 (ix3 e r k) = tokens m c (ix2 ⟨p.val + 16384, by have := p.isLt; omega⟩ k) := by
  have hl := p.isLt
  entry_read
  have key := fun idx => gather_all (tokens m c) idx e r k ⟨p.val + 16384, by omega⟩
  refine key _ ?_
  exact wrapped_at (places _ _) e r (p.val + 16384) (by omega) (places_second _ _ e r h p.val hp)

end Cert.Moe2Ideal.Experts

end
-- ==== Proof.Layer2.Reference.lean ====
module

public import proofs.«01_k».proof.Proof.Layer2.Entry

@[expose] public section

set_option maxRecDepth 16384

/-! # The reference at an index: each group's tokens through their expert -/

noncomputable section

namespace Cert.Moe2ReferenceIdeal.Experts

open Cert.Moe2ReferenceIdeal Cert.Moe2ReferenceIdeal.Gen Cert.Moe2ReferenceIdeal.Read
open Idealize.ShloMosaic
open Cert.MoeIdeal.Experts (ffn)

variable (x0 : FVec Ideal S81920x1024 .bf16) (x1 : FVec Ideal S16x81920 .f32) (x2 x3 x4 : FVec Ideal S4x16x1024x1024 .f32)

theorem group_first (e : Fin 16) (r : Fin 2048) (d : Fin 1024) :
    val_main_v23 (F := Ideal) x0 x1 x2 x3 x4 (ix3 e r d)
      = ffn (fun k => val_main_v15 (F := Ideal) x0 x1 (ix3 e r k)) (fun k f => x2 (ix4 2 e k f)) (fun k f => x3 (ix4 2 e k f))
          (fun f d => x4 (ix4 2 e f d)) (val_main_values (F := Ideal) x1 (ix2 e r)) d := by
  generalize hX : val_main_v15 (F := Ideal) x0 x1 = X
  generalize hG : val_main_values (F := Ideal) x1 = G
  unfold val_main_v23 val_main_v22 val_main_v21 val_main_v20 val_main_v19 val_main_v18 val_main_v17 val_main_call0_v5 val_main_call0_v4 val_main_call0_cst_0 val_main_call0_v3 val_main_call0_v2 val_main_call0_cst val_main_call0_v1 val_main_call0_v0 val_main_v16 val_main_v8 val_main_v7 val_main_v6 val_main_v5 val_main_v4 val_main_v3
  rw [hX, hG]
  pointwise
  rfl

theorem group_second (e : Fin 16) (r : Fin 8192) (d : Fin 1024) :
    val_main_v46 (F := Ideal) x0 x1 x2 x3 x4 (ix3 e r d)
      = ffn (fun k => val_main_v38 (F := Ideal) x0 x1 (ix3 e r k)) (fun k f => x2 (ix4 2 e k f)) (fun k f => x3 (ix4 2 e k f))
          (fun f d => x4 (ix4 2 e f d)) (val_main_values_1 (F := Ideal) x1 (ix2 e r)) d := by
  generalize hX : val_main_v38 (F := Ideal) x0 x1 = X
  generalize hG : val_main_values_1 (F := Ideal) x1 = G
  unfold val_main_v46 val_main_v45 val_main_v44 val_main_v43 val_main_v42 val_main_v41 val_main_v40 val_main_call1_v5 val_main_call1_v4 val_main_call1_cst_0 val_main_call1_v3 val_main_call1_v2 val_main_call1_cst val_main_call1_v1 val_main_call1_v0 val_main_v39 val_main_v31 val_main_v30 val_main_v29 val_main_v28 val_main_v27 val_main_v26
  rw [hX, hG]
  pointwise
  rfl

theorem gather_g1 (x : FVec Ideal S16384x1024 .f32) (idx : IVec S16x2048x1 32) (e : Fin 16) (r : Fin 2048) (k : Fin 1024)
    (p : Fin 16384) (hp : (idx (ix3 e r 0)).toInt = (p.val : ℤ)) :
    Host.gather gather_S16384x1024_S16x2048x1_S16x2048x1024_2_0_n_n_0_2_11024 x idx (ix3 e r k) = x (ix2 p k) :=
  Cert.Routing.gather_row _ x idx e r k p hp

theorem gather_g2 (x : FVec Ideal S65536x1024 .f32) (idx : IVec S16x8192x1 32) (e : Fin 16) (r : Fin 8192) (k : Fin 1024)
    (p : Fin 65536) (hp : (idx (ix3 e r 0)).toInt = (p.val : ℤ)) :
    Host.gather gather_S65536x1024_S16x8192x1_S16x8192x1024_2_0_n_n_0_2_11024 x idx (ix3 e r k) = x (ix2 p k) :=
  Cert.Routing.gather_row _ x idx e r k p hp

theorem toks_first (e : Fin 16) (r : Fin 2048) (k : Fin 1024) (p : Fin 16384)
    (hp : val_main_indices (F := Ideal) x1 (ix2 e r) = BitVec.ofNat 32 p.val) :
    val_main_v15 (F := Ideal) x0 x1 (ix3 e r k) = x0 (ix2 ⟨p.val, by have := p.isLt; omega⟩ k) := by
  have hl := p.isLt
  unfold val_main_v15
  have hi : val_main_v14 (F := Ideal) x1 (ix3 e r 0) = BitVec.ofNat 32 p.val := by
    generalize hG : val_main_indices (F := Ideal) x1 = G at hp
    unfold val_main_v14 val_main_v13 val_main_v12 val_main_v11 val_main_v10 val_main_v9 val_main_c val_main_c_0
    rw [hG]
    pointwise
    rw [hp]
    exact Cert.Routing.wrap_word p.val _ (by omega)
  refine (gather_g1 _ _ e r k p (by rw [hi, Cert.Routing.toInt_small p.val (by omega)])).trans ?_
  unfold val_main_v1 val_main_v0
  pointwise

theorem toks_second (e : Fin 16) (r : Fin 8192) (k : Fin 1024) (p : Fin 65536)
    (hp : val_main_indices_2 (F := Ideal) x1 (ix2 e r) = BitVec.ofNat 32 p.val) :
    val_main_v38 (F := Ideal) x0 x1 (ix3 e r k) = x0 (ix2 ⟨p.val + 16384, by have := p.isLt; omega⟩ k) := by
  have hl := p.isLt
  unfold val_main_v38
  have hi : val_main_v37 (F := Ideal) x1 (ix3 e r 0) = BitVec.ofNat 32 p.val := by
    generalize hG : val_main_indices_2 (F := Ideal) x1 = G at hp
    unfold val_main_v37 val_main_v36 val_main_v35 val_main_v34 val_main_v33 val_main_v32 val_main_c_3 val_main_c_4
    rw [hG]
    pointwise
    rw [hp]
    exact Cert.Routing.wrap_word p.val _ (by omega)
  refine (gather_g2 _ _ e r k p (by rw [hi, Cert.Routing.toInt_small p.val (by omega)])).trans ?_
  unfold val_main_v24 val_main_v0
  pointwise
  exact congrArg (fun q => x0 (ix2 q k)) (Fin.ext (Nat.add_comm _ _))

theorem reference_first (e : Fin 16) (r : Fin 10240) (h : r.val < 2048) (d : Fin 1024) :
    val_main_v48 (F := Ideal) x0 x1 x2 x3 x4 (ix3 e r d) = val_main_v23 (F := Ideal) x0 x1 x2 x3 x4 (ix3 e ⟨r.val, h⟩ d) := by
  unfold val_main_v48 val_main_v47
  pointwise
  rw [dif_pos h]

theorem reference_second (e : Fin 16) (r : Fin 10240) (h : ¬ r.val < 2048) (d : Fin 1024) :
    val_main_v48 (F := Ideal) x0 x1 x2 x3 x4 (ix3 e r d)
      = val_main_v46 (F := Ideal) x0 x1 x2 x3 x4 (ix3 e ⟨r.val - 2048, by have := r.isLt; omega⟩ d) := by
  unfold val_main_v48 val_main_v47
  pointwise
  rw [dif_neg h]

/-- The kernel's result array is the reference's, on the same arguments. -/
theorem same (m : (ℓ : Loc Cert.Moe2Ideal.nD Cert.Moe2Ideal.τ Cert.Moe2Ideal.sig) → Buf (Elt Ideal) ℓ) (c : Dev Cert.Moe2Ideal.nD)
    (e : Fin 16) (r : Fin 10240) (d : Fin 1024) :
    Cert.Moe2Ideal.Value.G5 m c (ix3 e r d)
      = val_main_v48 (F := Ideal) (m (c, Proc.tc.devRef Cert.Moe2Ideal.main_arg0)) (m (c, Proc.tc.devRef Cert.Moe2Ideal.main_arg1))
          (m (c, Proc.tc.devRef Cert.Moe2Ideal.main_arg2)) (m (c, Proc.tc.devRef Cert.Moe2Ideal.main_arg3))
          (m (c, Proc.tc.devRef Cert.Moe2Ideal.main_arg4)) (ix3 e r d) := by
  rw [Cert.Moe2Ideal.Experts.result_ffn m c e r d]
  by_cases h : r.val < 2048
  · rw [reference_first _ _ _ _ _ e r h d, group_first]
    obtain ⟨p, hp⟩ := Cert.Routing.topK_index (FloatOps.cmpfTotal (F := Ideal) .gt)
      (val_main_v2 (F := Ideal) (m (c, Proc.tc.devRef Cert.Moe2Ideal.main_arg1))) sliceFits_S16x16384_S16x2048 (ix2 e ⟨r.val, h⟩)
    have hx : (fun k => Cert.Moe2Ideal.Gen.V m c Cert.Moe2Ideal.main_v13 (ix3 e r k))
        = fun k => val_main_v15 (F := Ideal) (m (c, Proc.tc.devRef Cert.Moe2Ideal.main_arg0)) (m (c, Proc.tc.devRef Cert.Moe2Ideal.main_arg1))
            (ix3 e ⟨r.val, h⟩ k) := by
      funext k
      rw [toks_first _ _ e ⟨r.val, h⟩ k p hp]
      exact Cert.Moe2Ideal.Experts.toks_first m c e r k h p hp
    rw [Cert.Moe2Ideal.Experts.gates_first m c e r h]
    exact congrArg (fun x => ffn x _ _ _ _ d) hx
  · rw [reference_second _ _ _ _ _ e r h d, group_second]
    have hr := r.isLt
    obtain ⟨p, hp⟩ := Cert.Routing.topK_index (FloatOps.cmpfTotal (F := Ideal) .gt)
      (val_main_v25 (F := Ideal) (m (c, Proc.tc.devRef Cert.Moe2Ideal.main_arg1))) sliceFits_S16x65536_S16x8192
      (ix2 e ⟨r.val - 2048, by omega⟩)
    have hx : (fun k => Cert.Moe2Ideal.Gen.V m c Cert.Moe2Ideal.main_v13 (ix3 e r k))
        = fun k => val_main_v38 (F := Ideal) (m (c, Proc.tc.devRef Cert.Moe2Ideal.main_arg0)) (m (c, Proc.tc.devRef Cert.Moe2Ideal.main_arg1))
            (ix3 e ⟨r.val - 2048, by omega⟩ k) := by
      funext k
      rw [toks_second _ _ e ⟨r.val - 2048, by omega⟩ k p hp]
      exact Cert.Moe2Ideal.Experts.toks_second m c e r k h p hp
    rw [Cert.Moe2Ideal.Experts.gates_second m c e r h]
    exact congrArg (fun x => ffn x _ _ _ _ d) hx

end Cert.Moe2ReferenceIdeal.Experts

end
-- ==== Proof.Layer3.Cases.lean ====
module

public import proofs.«01_k».proof.Proof.Gen.Moe3Ideal.Value

@[expose] public section

set_option maxRecDepth 16384

/-! # What one grid point of the expert FFN leaves behind

The first tile of an expert casts the three weight blocks into scratch and then computes its tile from them; the
other tiles of the expert compute from the scratch as they find it. So after every point the scratch holds the casts
of the point's own weight blocks, and the output block is the tile formula of the point's own input blocks. -/

noncomputable section

namespace Cert.Moe3Ideal.Experts

open Cert.Moe3Ideal Cert.Moe3Ideal.Gen Cert.Moe3Ideal.Value
open Idealize.ShloMosaic Idealize.ShloMosaic.TcCoe Idealize.ShloMosaic.Tactic Idealize.SL.Sem

variable {F : FTy → Type} [FloatOps F]

theorem offs2 : (![0, 0] : Fin S1024x1024.rank → ℕ) = fun _ => 0 := by funext a; fin_cases a <;> rfl
theorem offs3 : (![0, 0, 0] : Fin S1x512x1024.rank → ℕ) = fun _ => 0 := by funext a; fin_cases a <;> rfl
theorem offs3g : (![0, 0, 0] : Fin S1x1x512.rank → ℕ) = fun _ => 0 := by funext a; fin_cases a <;> rfl
theorem offs4 : (![0, 0, 0, 0] : Fin S1x1x1024x1024.rank → ℕ) = fun _ => 0 := by funext a; fin_cases a <;> rfl

/-- A first tile leaves in scratch 0 the cast of its weight block. -/
theorem scratch_A_0 (c : Dev nD) (i : grid0.Coords)
    (a2 : Memref sig .tc .vmem S1x512x1024 .bf16) (h2 : a2.IsWhole)
    (a3 : Memref sig .tc .vmem S1x1x512 .f32) (h3 : a3.IsWhole)
    (a4 : Memref sig .tc .vmem S1x1x1024x1024 .f32) (h4 : a4.IsWhole)
    (a5 : Memref sig .tc .vmem S1x1x1024x1024 .f32) (h5 : a5.IsWhole)
    (a6 : Memref sig .tc .vmem S1x1x1024x1024 .f32) (h6 : a6.IsWhole)
    (a7 : Memref sig .tc .vmem S1x512x1024 .bf16) (h7 : a7.IsWhole)
    (a8 : Memref sig .tc .vmem S1024x1024 .bf16) (h8 : a8.IsWhole)
    (a9 : Memref sig .tc .vmem S1024x1024 .bf16) (h9 : a9.IsWhole)
    (a10 : Memref sig .tc .vmem S1024x1024 .bf16) (h10 : a10.IsWhole)
    (hc : cond0_0 i)
    (x0 : Vec F S1x512x1024 .bf16) (x1 : Vec F S1x1x512 .f32) (x2 x3 x4 : Vec F S1x1x1024x1024 .f32) :
    sout0_A_0 c i a2 h2 a3 h3 a4 h4 a5 h5 a6 h6 a7 h7 a8 h8 a9 h9 a10 h10 hc x0 x1 x2 x3 x4 = k0_pay1 x2 := by
  unfold sout0_A_0
  rw [View.read_writes_eq_canon _ _ _ (scover0_A_0 c i a2 h2 a3 h3 a4 h4 a5 h5 a6 h6 a7 h7 a8 h8 a9 h9 a10 h10 hc x0 x1 x2 x3 x4)]
  unfold kernelRun0_A
  dsimp only
  sl_unfold_words
  rw [View.canon_unit_zero (S := S1024x1024) offs2]
  simp only [View.readAt_eq_ld, h2.read_unread, h3.read_unread, h4.read_unread, h5.read_unread, h6.read_unread, View.ld_unit_zero (S := S1x512x1024) offs3,
    View.ld_unit_zero (S := S1x1x512) offs3g, View.ld_unit_zero (S := S1x1x1024x1024) offs4]

/-- A first tile leaves in scratch 1 the cast of its weight block. -/
theorem scratch_A_1 (c : Dev nD) (i : grid0.Coords)
    (a2 : Memref sig .tc .vmem S1x512x1024 .bf16) (h2 : a2.IsWhole)
    (a3 : Memref sig .tc .vmem S1x1x512 .f32) (h3 : a3.IsWhole)
    (a4 : Memref sig .tc .vmem S1x1x1024x1024 .f32) (h4 : a4.IsWhole)
    (a5 : Memref sig .tc .vmem S1x1x1024x1024 .f32) (h5 : a5.IsWhole)
    (a6 : Memref sig .tc .vmem S1x1x1024x1024 .f32) (h6 : a6.IsWhole)
    (a7 : Memref sig .tc .vmem S1x512x1024 .bf16) (h7 : a7.IsWhole)
    (a8 : Memref sig .tc .vmem S1024x1024 .bf16) (h8 : a8.IsWhole)
    (a9 : Memref sig .tc .vmem S1024x1024 .bf16) (h9 : a9.IsWhole)
    (a10 : Memref sig .tc .vmem S1024x1024 .bf16) (h10 : a10.IsWhole)
    (hc : cond0_0 i)
    (x0 : Vec F S1x512x1024 .bf16) (x1 : Vec F S1x1x512 .f32) (x2 x3 x4 : Vec F S1x1x1024x1024 .f32) :
    sout0_A_1 c i a2 h2 a3 h3 a4 h4 a5 h5 a6 h6 a7 h7 a8 h8 a9 h9 a10 h10 hc x0 x1 x2 x3 x4 = k0_pay2 x3 := by
  unfold sout0_A_1
  rw [View.read_writes_eq_canon _ _ _ (scover0_A_1 c i a2 h2 a3 h3 a4 h4 a5 h5 a6 h6 a7 h7 a8 h8 a9 h9 a10 h10 hc x0 x1 x2 x3 x4)]
  unfold kernelRun0_A
  dsimp only
  sl_unfold_words
  rw [View.canon_unit_zero (S := S1024x1024) offs2]
  simp only [View.readAt_eq_ld, h2.read_unread, h3.read_unread, h4.read_unread, h5.read_unread, h6.read_unread, View.ld_unit_zero (S := S1x512x1024) offs3,
    View.ld_unit_zero (S := S1x1x512) offs3g, View.ld_unit_zero (S := S1x1x1024x1024) offs4]

/-- A first tile leaves in scratch 2 the cast of its weight block. -/
theorem scratch_A_2 (c : Dev nD) (i : grid0.Coords)
    (a2 : Memref sig .tc .vmem S1x512x1024 .bf16) (h2 : a2.IsWhole)
    (a3 : Memref sig .tc .vmem S1x1x512 .f32) (h3 : a3.IsWhole)
    (a4 : Memref sig .tc .vmem S1x1x1024x1024 .f32) (h4 : a4.IsWhole)
    (a5 : Memref sig .tc .vmem S1x1x1024x1024 .f32) (h5 : a5.IsWhole)
    (a6 : Memref sig .tc .vmem S1x1x1024x1024 .f32) (h6 : a6.IsWhole)
    (a7 : Memref sig .tc .vmem S1x512x1024 .bf16) (h7 : a7.IsWhole)
    (a8 : Memref sig .tc .vmem S1024x1024 .bf16) (h8 : a8.IsWhole)
    (a9 : Memref sig .tc .vmem S1024x1024 .bf16) (h9 : a9.IsWhole)
    (a10 : Memref sig .tc .vmem S1024x1024 .bf16) (h10 : a10.IsWhole)
    (hc : cond0_0 i)
    (x0 : Vec F S1x512x1024 .bf16) (x1 : Vec F S1x1x512 .f32) (x2 x3 x4 : Vec F S1x1x1024x1024 .f32) :
    sout0_A_2 c i a2 h2 a3 h3 a4 h4 a5 h5 a6 h6 a7 h7 a8 h8 a9 h9 a10 h10 hc x0 x1 x2 x3 x4 = k0_pay3 x4 := by
  unfold sout0_A_2
  rw [View.read_writes_eq_canon _ _ _ (scover0_A_2 c i a2 h2 a3 h3 a4 h4 a5 h5 a6 h6 a7 h7 a8 h8 a9 h9 a10 h10 hc x0 x1 x2 x3 x4)]
  unfold kernelRun0_A
  dsimp only
  sl_unfold_words
  rw [View.canon_unit_zero (S := S1024x1024) offs2]
  simp only [View.readAt_eq_ld, h2.read_unread, h3.read_unread, h4.read_unread, h5.read_unread, h6.read_unread, View.ld_unit_zero (S := S1x512x1024) offs3,
    View.ld_unit_zero (S := S1x1x512) offs3g, View.ld_unit_zero (S := S1x1x1024x1024) offs4]

/-- A first tile's output: the tile formula over the weights it has just cast. -/
theorem tile_A (c : Dev nD) (i : grid0.Coords)
    (a2 : Memref sig .tc .vmem S1x512x1024 .bf16) (h2 : a2.IsWhole)
    (a3 : Memref sig .tc .vmem S1x1x512 .f32) (h3 : a3.IsWhole)
    (a4 : Memref sig .tc .vmem S1x1x1024x1024 .f32) (h4 : a4.IsWhole)
    (a5 : Memref sig .tc .vmem S1x1x1024x1024 .f32) (h5 : a5.IsWhole)
    (a6 : Memref sig .tc .vmem S1x1x1024x1024 .f32) (h6 : a6.IsWhole)
    (a7 : Memref sig .tc .vmem S1x512x1024 .bf16) (h7 : a7.IsWhole)
    (a8 : Memref sig .tc .vmem S1024x1024 .bf16) (h8 : a8.IsWhole)
    (a9 : Memref sig .tc .vmem S1024x1024 .bf16) (h9 : a9.IsWhole)
    (a10 : Memref sig .tc .vmem S1024x1024 .bf16) (h10 : a10.IsWhole)
    (hc : cond0_0 i)
    (x0 : Vec F S1x512x1024 .bf16) (x1 : Vec F S1x1x512 .f32) (x2 x3 x4 : Vec F S1x1x1024x1024 .f32) :
    out0_A_5 c i a2 h2 a3 h3 a4 h4 a5 h5 a6 h6 a7 h7 a8 h8 a9 h9 a10 h10 hc x0 x1 x2 x3 x4 = k0_pay4 x0 (k0_pay1 x2) (k0_pay2 x3) x1 (k0_pay3 x4) := by
  unfold out0_A_5
  rw [View.read_writes_eq_canon _ _ _ (cover0_A_5 c i a2 h2 a3 h3 a4 h4 a5 h5 a6 h6 a7 h7 a8 h8 a9 h9 a10 h10 hc x0 x1 x2 x3 x4)]
  unfold kernelRun0_A
  dsimp only
  sl_unfold_words
  rw [View.canon_unit_zero (S := S1x512x1024) offs3]
  simp only [View.readCov_unit_zero (S := S1024x1024) _ offs2]
  simp only [View.readAt_eq_ld, h2.read_unread, h3.read_unread, h4.read_unread, h5.read_unread, h6.read_unread, View.ld_unit_zero (S := S1x512x1024) offs3,
    View.ld_unit_zero (S := S1x1x512) offs3g, View.ld_unit_zero (S := S1x1x1024x1024) offs4]

/-- Any other tile's output: the tile formula over the scratch it finds. -/
theorem tile_B (c : Dev nD) (i : grid0.Coords)
    (a2 : Memref sig .tc .vmem S1x512x1024 .bf16) (h2 : a2.IsWhole)
    (a3 : Memref sig .tc .vmem S1x1x512 .f32) (h3 : a3.IsWhole)
    (a4 : Memref sig .tc .vmem S1x1x1024x1024 .f32) (h4 : a4.IsWhole)
    (a5 : Memref sig .tc .vmem S1x1x1024x1024 .f32) (h5 : a5.IsWhole)
    (a6 : Memref sig .tc .vmem S1x1x1024x1024 .f32) (h6 : a6.IsWhole)
    (a7 : Memref sig .tc .vmem S1x512x1024 .bf16) (h7 : a7.IsWhole)
    (a8 : Memref sig .tc .vmem S1024x1024 .bf16) (h8 : a8.IsWhole)
    (a9 : Memref sig .tc .vmem S1024x1024 .bf16) (h9 : a9.IsWhole)
    (a10 : Memref sig .tc .vmem S1024x1024 .bf16) (h10 : a10.IsWhole)
    (hc : ¬cond0_0 i)
    (x0 : Vec F S1x512x1024 .bf16) (x1 : Vec F S1x1x512 .f32) (x2 x3 x4 : Vec F S1x1x1024x1024 .f32)
    (y0 y1 y2 : Vec F S1024x1024 .bf16) :
    out0_B_5 c i a2 h2 a3 h3 a4 h4 a5 h5 a6 h6 a7 h7 a8 h8 a9 h9 a10 h10 hc x0 x1 x2 x3 x4 y0 y1 y2 = k0_pay4 x0 y0 y1 x1 y2 := by
  unfold out0_B_5
  rw [View.read_writes_eq_canon _ _ _ (cover0_B_5 c i a2 h2 a3 h3 a4 h4 a5 h5 a6 h6 a7 h7 a8 h8 a9 h9 a10 h10 hc x0 x1 x2 x3 x4 y0 y1 y2)]
  unfold kernelRun0_B
  dsimp only
  sl_unfold_words
  rw [View.canon_unit_zero (S := S1x512x1024) offs3]
  simp only [View.readAt_eq_ld, h2.read_unread, h3.read_unread, h4.read_unread, h5.read_unread, h6.read_unread, h8.read_unread, h9.read_unread, h10.read_unread, View.ld_unit_zero (S := S1x512x1024) offs3,
    View.ld_unit_zero (S := S1x1x512) offs3g, View.ld_unit_zero (S := S1024x1024) offs2, View.ld_unit_zero (S := S1x1x1024x1024) offs4]

variable (m : (ℓ : Loc nD τ sig) → Buf (Elt F) ℓ)

/-- The tile formula of point `t`'s input blocks, with the casts of its weight blocks. -/
def tile (c : Dev nD) (t : Fin cfg0.N) : Vec F S1x512x1024 .bf16 :=
  k0_pay4 (iblk m c 0 t) (k0_pay1 (iblk m c 2 t)) (k0_pay2 (iblk m c 3 t)) (iblk m c 1 t) (k0_pay3 (iblk m c 4 t))

/-- The printed index maps over the grid: point `t` is tile `t % 20` of expert `t / 20`. -/
theorem idx0 : ∀ t : Fin cfg0.N, win0_0.index t (0 : Fin 3) = t.val / 20 ∧ win0_0.index t (1 : Fin 3) = t.val % 20
    ∧ win0_0.index t (2 : Fin 3) = 0 := (by decide +kernel : ∀ t : Fin grid0.N, _)
theorem idx1 : ∀ t : Fin cfg0.N, win0_1.index t (0 : Fin 3) = t.val / 20 ∧ win0_1.index t (1 : Fin 3) = 0
    ∧ win0_1.index t (2 : Fin 3) = t.val % 20 := (by decide +kernel : ∀ t : Fin grid0.N, _)
theorem idx2 : ∀ t : Fin cfg0.N, win0_2.index t (0 : Fin 4) = 3 ∧ win0_2.index t (1 : Fin 4) = t.val / 20
    ∧ win0_2.index t (2 : Fin 4) = 0 ∧ win0_2.index t (3 : Fin 4) = 0 := (by decide +kernel : ∀ t : Fin grid0.N, _)
theorem idx3 : ∀ t : Fin cfg0.N, win0_3.index t (0 : Fin 4) = 3 ∧ win0_3.index t (1 : Fin 4) = t.val / 20
    ∧ win0_3.index t (2 : Fin 4) = 0 ∧ win0_3.index t (3 : Fin 4) = 0 := (by decide +kernel : ∀ t : Fin grid0.N, _)
theorem idx4 : ∀ t : Fin cfg0.N, win0_4.index t (0 : Fin 4) = 3 ∧ win0_4.index t (1 : Fin 4) = t.val / 20
    ∧ win0_4.index t (2 : Fin 4) = 0 ∧ win0_4.index t (3 : Fin 4) = 0 := (by decide +kernel : ∀ t : Fin grid0.N, _)

/-- Window 0's block at point `t`, read at an index. -/
theorem blk0 (c : Dev nD) (t : Fin cfg0.N) (z : S1x512x1024.Idx) (y : (S16x10240x1024).Idx)
    (hy0 : (y 0).val = t.val / 20)
    (hy1 : (y 1).val = 512 * (t.val % 20) + (z 1).val)
    (hy2 : (y 2).val = (z 2).val) :
    iblk m c 0 t z = V m c main_v13 y := by
  obtain ⟨e0, e1, e2⟩ := idx0 t
  have b0 : (((cfg0.win 0).blk t).view.emb z 0).val = win0_0.index t (0 : Fin 3) * 1 + 1 * (z 0).val := rfl
  have b1 : (((cfg0.win 0).blk t).view.emb z 1).val = win0_0.index t (1 : Fin 3) * 512 + 1 * (z 1).val := rfl
  have b2 : (((cfg0.win 0).blk t).view.emb z 2).val = win0_0.index t (2 : Fin 3) * 1024 + 1 * (z 2).val := rfl
  have z0 : (z 0).val < 1 := (z 0).isLt
  have z1 : (z 1).val < 512 := (z 1).isLt
  have z2 : (z 2).val < 1024 := (z 2).isLt
  have c0 : (((cfg0.win 0).blk t).view.emb z 0).val = (y 0).val := by rw [b0, hy0]; omega
  have c1 : (((cfg0.win 0).blk t).view.emb z 1).val = (y 1).val := by rw [b1, hy1]; omega
  have c2 : (((cfg0.win 0).blk t).view.emb z 2).val = (y 2).val := by rw [b2, hy2]; omega
  show V m c main_v13 (((cfg0.win 0).blk t).view.emb z) = V m c main_v13 y
  refine congrArg _ (funext fun a => Fin.ext ?_)
  match a with
  | ⟨0, _⟩ => exact c0
  | ⟨1, _⟩ => exact c1
  | ⟨2, _⟩ => exact c2

/-- Window 1's block at point `t`, read at an index. -/
theorem blk1 (c : Dev nD) (t : Fin cfg0.N) (z : S1x1x512.Idx) (y : (S16x1x10240).Idx)
    (hy0 : (y 0).val = t.val / 20)
    (hy1 : (y 1).val = 0)
    (hy2 : (y 2).val = 512 * (t.val % 20) + (z 2).val) :
    iblk m c 1 t z = V m c main_v15 y := by
  obtain ⟨e0, e1, e2⟩ := idx1 t
  have b0 : (((cfg0.win 1).blk t).view.emb z 0).val = win0_1.index t (0 : Fin 3) * 1 + 1 * (z 0).val := rfl
  have b1 : (((cfg0.win 1).blk t).view.emb z 1).val = win0_1.index t (1 : Fin 3) * 1 + 1 * (z 1).val := rfl
  have b2 : (((cfg0.win 1).blk t).view.emb z 2).val = win0_1.index t (2 : Fin 3) * 512 + 1 * (z 2).val := rfl
  have z0 : (z 0).val < 1 := (z 0).isLt
  have z1 : (z 1).val < 1 := (z 1).isLt
  have z2 : (z 2).val < 512 := (z 2).isLt
  have c0 : (((cfg0.win 1).blk t).view.emb z 0).val = (y 0).val := by rw [b0, hy0]; omega
  have c1 : (((cfg0.win 1).blk t).view.emb z 1).val = (y 1).val := by rw [b1, hy1]; omega
  have c2 : (((cfg0.win 1).blk t).view.emb z 2).val = (y 2).val := by rw [b2, hy2]; omega
  show V m c main_v15 (((cfg0.win 1).blk t).view.emb z) = V m c main_v15 y
  refine congrArg _ (funext fun a => Fin.ext ?_)
  match a with
  | ⟨0, _⟩ => exact c0
  | ⟨1, _⟩ => exact c1
  | ⟨2, _⟩ => exact c2

/-- Window 2's block at point `t`, read at an index. -/
theorem blk2 (c : Dev nD) (t : Fin cfg0.N) (z : S1x1x1024x1024.Idx) (y : (S4x16x1024x1024).Idx)
    (hy0 : (y 0).val = 3)
    (hy1 : (y 1).val = t.val / 20)
    (hy2 : (y 2).val = (z 2).val)
    (hy3 : (y 3).val = (z 3).val) :
    iblk m c 2 t z = V m c main_arg2 y := by
  obtain ⟨e0, e1, e2, e3⟩ := idx2 t
  have b0 : (((cfg0.win 2).blk t).view.emb z 0).val = win0_2.index t (0 : Fin 4) * 1 + 1 * (z 0).val := rfl
  have b1 : (((cfg0.win 2).blk t).view.emb z 1).val = win0_2.index t (1 : Fin 4) * 1 + 1 * (z 1).val := rfl
  have b2 : (((cfg0.win 2).blk t).view.emb z 2).val = win0_2.index t (2 : Fin 4) * 1024 + 1 * (z 2).val := rfl
  have b3 : (((cfg0.win 2).blk t).view.emb z 3).val = win0_2.index t (3 : Fin 4) * 1024 + 1 * (z 3).val := rfl
  have z0 : (z 0).val < 1 := (z 0).isLt
  have z1 : (z 1).val < 1 := (z 1).isLt
  have z2 : (z 2).val < 1024 := (z 2).isLt
  have z3 : (z 3).val < 1024 := (z 3).isLt
  have c0 : (((cfg0.win 2).blk t).view.emb z 0).val = (y 0).val := by rw [b0, hy0]; omega
  have c1 : (((cfg0.win 2).blk t).view.emb z 1).val = (y 1).val := by rw [b1, hy1]; omega
  have c2 : (((cfg0.win 2).blk t).view.emb z 2).val = (y 2).val := by rw [b2, hy2]; omega
  have c3 : (((cfg0.win 2).blk t).view.emb z 3).val = (y 3).val := by rw [b3, hy3]; omega
  show V m c main_arg2 (((cfg0.win 2).blk t).view.emb z) = V m c main_arg2 y
  refine congrArg _ (funext fun a => Fin.ext ?_)
  match a with
  | ⟨0, _⟩ => exact c0
  | ⟨1, _⟩ => exact c1
  | ⟨2, _⟩ => exact c2
  | ⟨3, _⟩ => exact c3

/-- Window 3's block at point `t`, read at an index. -/
theorem blk3 (c : Dev nD) (t : Fin cfg0.N) (z : S1x1x1024x1024.Idx) (y : (S4x16x1024x1024).Idx)
    (hy0 : (y 0).val = 3)
    (hy1 : (y 1).val = t.val / 20)
    (hy2 : (y 2).val = (z 2).val)
    (hy3 : (y 3).val = (z 3).val) :
    iblk m c 3 t z = V m c main_arg3 y := by
  obtain ⟨e0, e1, e2, e3⟩ := idx3 t
  have b0 : (((cfg0.win 3).blk t).view.emb z 0).val = win0_3.index t (0 : Fin 4) * 1 + 1 * (z 0).val := rfl
  have b1 : (((cfg0.win 3).blk t).view.emb z 1).val = win0_3.index t (1 : Fin 4) * 1 + 1 * (z 1).val := rfl
  have b2 : (((cfg0.win 3).blk t).view.emb z 2).val = win0_3.index t (2 : Fin 4) * 1024 + 1 * (z 2).val := rfl
  have b3 : (((cfg0.win 3).blk t).view.emb z 3).val = win0_3.index t (3 : Fin 4) * 1024 + 1 * (z 3).val := rfl
  have z0 : (z 0).val < 1 := (z 0).isLt
  have z1 : (z 1).val < 1 := (z 1).isLt
  have z2 : (z 2).val < 1024 := (z 2).isLt
  have z3 : (z 3).val < 1024 := (z 3).isLt
  have c0 : (((cfg0.win 3).blk t).view.emb z 0).val = (y 0).val := by rw [b0, hy0]; omega
  have c1 : (((cfg0.win 3).blk t).view.emb z 1).val = (y 1).val := by rw [b1, hy1]; omega
  have c2 : (((cfg0.win 3).blk t).view.emb z 2).val = (y 2).val := by rw [b2, hy2]; omega
  have c3 : (((cfg0.win 3).blk t).view.emb z 3).val = (y 3).val := by rw [b3, hy3]; omega
  show V m c main_arg3 (((cfg0.win 3).blk t).view.emb z) = V m c main_arg3 y
  refine congrArg _ (funext fun a => Fin.ext ?_)
  match a with
  | ⟨0, _⟩ => exact c0
  | ⟨1, _⟩ => exact c1
  | ⟨2, _⟩ => exact c2
  | ⟨3, _⟩ => exact c3

/-- Window 4's block at point `t`, read at an index. -/
theorem blk4 (c : Dev nD) (t : Fin cfg0.N) (z : S1x1x1024x1024.Idx) (y : (S4x16x1024x1024).Idx)
    (hy0 : (y 0).val = 3)
    (hy1 : (y 1).val = t.val / 20)
    (hy2 : (y 2).val = (z 2).val)
    (hy3 : (y 3).val = (z 3).val) :
    iblk m c 4 t z = V m c main_arg4 y := by
  obtain ⟨e0, e1, e2, e3⟩ := idx4 t
  have b0 : (((cfg0.win 4).blk t).view.emb z 0).val = win0_4.index t (0 : Fin 4) * 1 + 1 * (z 0).val := rfl
  have b1 : (((cfg0.win 4).blk t).view.emb z 1).val = win0_4.index t (1 : Fin 4) * 1 + 1 * (z 1).val := rfl
  have b2 : (((cfg0.win 4).blk t).view.emb z 2).val = win0_4.index t (2 : Fin 4) * 1024 + 1 * (z 2).val := rfl
  have b3 : (((cfg0.win 4).blk t).view.emb z 3).val = win0_4.index t (3 : Fin 4) * 1024 + 1 * (z 3).val := rfl
  have z0 : (z 0).val < 1 := (z 0).isLt
  have z1 : (z 1).val < 1 := (z 1).isLt
  have z2 : (z 2).val < 1024 := (z 2).isLt
  have z3 : (z 3).val < 1024 := (z 3).isLt
  have c0 : (((cfg0.win 4).blk t).view.emb z 0).val = (y 0).val := by rw [b0, hy0]; omega
  have c1 : (((cfg0.win 4).blk t).view.emb z 1).val = (y 1).val := by rw [b1, hy1]; omega
  have c2 : (((cfg0.win 4).blk t).view.emb z 2).val = (y 2).val := by rw [b2, hy2]; omega
  have c3 : (((cfg0.win 4).blk t).view.emb z 3).val = (y 3).val := by rw [b3, hy3]; omega
  show V m c main_arg4 (((cfg0.win 4).blk t).view.emb z) = V m c main_arg4 y
  refine congrArg _ (funext fun a => Fin.ext ?_)
  match a with
  | ⟨0, _⟩ => exact c0
  | ⟨1, _⟩ => exact c1
  | ⟨2, _⟩ => exact c2
  | ⟨3, _⟩ => exact c3

/-- Two points of one expert read the same block of window 2. -/
theorem same2 (c : Dev nD) (t t' : Fin cfg0.N) (h : t.val / 20 = t'.val / 20) : iblk m c 2 t = iblk m c 2 t' := by
  funext z
  have ht : t.val < 320 := lt_of_lt_of_eq t.isLt (show cfg0.N = 320 from N_0)
  let y : S4x16x1024x1024.Idx := fun a => match a with
    | ⟨0, _⟩ => ⟨3, by show 3 < 4; omega⟩
    | ⟨1, _⟩ => ⟨t.val / 20, by show t.val / 20 < 16; omega⟩
    | ⟨2, _⟩ => z 2
    | ⟨3, _⟩ => z 3
  exact (blk2 m c t z y rfl rfl rfl rfl).trans (blk2 m c t' z y rfl h rfl rfl).symm

/-- Two points of one expert read the same block of window 3. -/
theorem same3 (c : Dev nD) (t t' : Fin cfg0.N) (h : t.val / 20 = t'.val / 20) : iblk m c 3 t = iblk m c 3 t' := by
  funext z
  have ht : t.val < 320 := lt_of_lt_of_eq t.isLt (show cfg0.N = 320 from N_0)
  let y : S4x16x1024x1024.Idx := fun a => match a with
    | ⟨0, _⟩ => ⟨3, by show 3 < 4; omega⟩
    | ⟨1, _⟩ => ⟨t.val / 20, by show t.val / 20 < 16; omega⟩
    | ⟨2, _⟩ => z 2
    | ⟨3, _⟩ => z 3
  exact (blk3 m c t z y rfl rfl rfl rfl).trans (blk3 m c t' z y rfl h rfl rfl).symm

/-- Two points of one expert read the same block of window 4. -/
theorem same4 (c : Dev nD) (t t' : Fin cfg0.N) (h : t.val / 20 = t'.val / 20) : iblk m c 4 t = iblk m c 4 t' := by
  funext z
  have ht : t.val < 320 := lt_of_lt_of_eq t.isLt (show cfg0.N = 320 from N_0)
  let y : S4x16x1024x1024.Idx := fun a => match a with
    | ⟨0, _⟩ => ⟨3, by show 3 < 4; omega⟩
    | ⟨1, _⟩ => ⟨t.val / 20, by show t.val / 20 < 16; omega⟩
    | ⟨2, _⟩ => z 2
    | ⟨3, _⟩ => z 3
  exact (blk4 m c t z y rfl rfl rfl rfl).trans (blk4 m c t' z y rfl h rfl rfl).symm

/-- After every point: the tile formula in the output block, the casts of the weight blocks in scratch. -/
theorem outs_eq (c : Dev nD) : ∀ (n : ℕ) (h : n < cfg0.N), outsAt0 m c n h
    = (tile m c ⟨n, h⟩, k0_pay1 (iblk m c 2 ⟨n, h⟩), k0_pay2 (iblk m c 3 ⟨n, h⟩), k0_pay3 (iblk m c 4 ⟨n, h⟩)) := by
  have first : ∀ t : Fin cfg0.N, t.val % 20 = 0 → outsAt0 m c t.val t.isLt
      = (tile m c t, k0_pay1 (iblk m c 2 t), k0_pay2 (iblk m c 3 t), k0_pay3 (iblk m c 4 t)) := fun t h0 => by
    rw [outsAt0_A m c t h0, tile_A, scratch_A_0, scratch_A_1, scratch_A_2]
    rfl
  intro n
  induction n with
  | zero => exact fun h => first ⟨0, h⟩ rfl
  | succ n ih =>
    intro h
    by_cases h0 : (n + 1) % 20 = 0
    · exact first ⟨n + 1, h⟩ h0
    · have hd : (⟨n, Nat.lt_of_succ_lt h⟩ : Fin cfg0.N).val / 20 = (⟨n + 1, h⟩ : Fin cfg0.N).val / 20 := by
        show n / 20 = (n + 1) / 20
        omega
      rw [outsAt0_B m c ⟨n + 1, h⟩ h0, tile_B]
      unfold sout0_B_0 sout0_B_1 sout0_B_2 tile
      simp only [Nat.add_sub_cancel, ih (Nat.lt_of_succ_lt h), same2 m c _ _ hd, same3 m c _ _ hd, same4 m c _ _ hd]

/-- The result array at `(e, r, d)`: tile `r / 512` of expert `e`, at row `r % 512`. -/
theorem result_at (c : Dev nD) (i : S16x10240x1024.Idx) (t : Fin cfg0.N) (z : S1x512x1024.Idx)
    (ht : t.val = 20 * (i 0).val + (i 1).val / 512) (hz1 : (z 1).val = (i 1).val % 512) (hz2 : (z 2).val = (i 2).val) :
    G5 m c i = tile m c t z := by
  have i2 : (i 2).val < 1024 := (i 2).isLt
  have z0 : (z 0).val < 1 := (z 0).isLt
  have hp : pt5Of i = t.val := by
    show 20 * ((i 0).val / 1 - 0) + 1 * ((i 1).val / 512 - 0) + 1 * ((i 2).val / 1024 - 0) = t.val
    omega
  have hl : loc5Of i = z := funext fun a => Fin.ext (by
    match a with
    | ⟨0, _⟩ => show (i 0).val % 1 = (z 0).val; omega
    | ⟨1, _⟩ => exact hz1.symm
    | ⟨2, _⟩ => show (i 2).val % 1024 = (z 2).val; omega)
  unfold G5
  rw [dif_pos (by rw [hp]; exact t.isLt), hl, fold0_congr m c _ _ _ (by simpa using t.isLt) hp,
    ← outsAt0_sweep m c t.val t.isLt, outs_eq m c t.val t.isLt]

end Cert.Moe3Ideal.Experts

end
-- ==== Proof.Layer3.Tile.lean ====
module

public import proofs.«01_k».proof.Proof.Layer3.Cases
public import proofs.«01_k».proof.Proof.Experts.Tile
public import Idealize.ShloMosaic.Lib.Pointwise

@[expose] public section

set_option maxRecDepth 16384

/-! # The tile formula at an index, over the extended reals -/

noncomputable section

namespace Cert.Moe3Ideal.Experts

open Cert.Moe3Ideal Cert.Moe3Ideal.Gen
open Idealize.ShloMosaic
open Cert.MoeIdeal.Experts (ffn diag_sum)

theorem pay4_at (x : Vec Ideal S1x512x1024 .bf16) (a b w : Vec Ideal S1024x1024 .bf16) (g : Vec Ideal S1x1x512 .f32)
    (r : Fin 512) (d : Fin 1024) :
    k0_pay4 (F := Ideal) x a b g w (ix3 0 r d)
      = ffn (fun k => x (ix3 0 r k)) (fun k f => a (ix2 k f)) (fun k f => b (ix2 k f)) (fun f d => w (ix2 f d))
          (g (ix3 0 0 r)) d := by
  pointwise [k0_pay4]
  rw [diag_sum (fun k => g (ix3 0 0 k)) r]
  rfl

theorem pay1_at (x : Vec Ideal S1x1x1024x1024 .f32) (r d : Fin 1024) :
    k0_pay1 (F := Ideal) x (ix2 r d) = x (ix4 0 0 r d) := by pointwise [k0_pay1]
theorem pay2_at (x : Vec Ideal S1x1x1024x1024 .f32) (r d : Fin 1024) :
    k0_pay2 (F := Ideal) x (ix2 r d) = x (ix4 0 0 r d) := by pointwise [k0_pay2]
theorem pay3_at (x : Vec Ideal S1x1x1024x1024 .f32) (r d : Fin 1024) :
    k0_pay3 (F := Ideal) x (ix2 r d) = x (ix4 0 0 r d) := by pointwise [k0_pay3]

variable (m : (ℓ : Loc nD τ sig) → Buf (Elt Ideal) ℓ)

/-- The result array at `(e, r, d)`: the token gathered for that place, through expert `e`'s weights. -/
theorem result_ffn (c : Dev nD) (e : Fin 16) (r : Fin 10240) (d : Fin 1024) :
    Value.G5 m c (ix3 e r d)
      = ffn (fun k => V m c main_v13 (ix3 e r k)) (fun k f => V m c main_arg2 (ix4 3 e k f))
          (fun k f => V m c main_arg3 (ix4 3 e k f)) (fun f d => V m c main_arg4 (ix4 3 e f d))
          (V m c main_v15 (ix3 e 0 r)) d := by
  have he := e.isLt
  have hr := r.isLt
  have hd := Nat.div_add_mod r.val 512
  let t : Fin cfg0.N := ⟨20 * e.val + r.val / 512, lt_of_lt_of_eq (by omega) (show cfg0.N = 320 from N_0).symm⟩
  have tq : t.val / 20 = e.val := by show (20 * e.val + r.val / 512) / 20 = e.val; omega
  have tr : t.val % 20 = r.val / 512 := by show (20 * e.val + r.val / 512) % 20 = r.val / 512; omega
  let r' : Fin 512 := ⟨r.val % 512, Nat.mod_lt _ (by decide)⟩
  have row : 512 * (t.val % 20) + r'.val = r.val := by rw [tr]; exact hd
  rw [result_at m c (ix3 e r d) t (ix3 0 r' d) rfl rfl rfl]
  unfold tile
  rw [pay4_at]
  simp only [pay1_at, pay2_at, pay3_at]
  rw [show (fun k => iblk m c 0 t (ix3 0 r' k)) = fun k => V m c main_v13 (ix3 e r k) from
      funext fun k => blk0 m c t (ix3 0 r' k) (ix3 e r k) tq.symm row.symm rfl,
    show (fun k f => iblk m c 2 t (ix4 0 0 k f)) = fun k f => V m c main_arg2 (ix4 3 e k f) from
      funext fun k => funext fun f => blk2 m c t (ix4 0 0 k f) (ix4 3 e k f) rfl tq.symm rfl rfl,
    show (fun k f => iblk m c 3 t (ix4 0 0 k f)) = fun k f => V m c main_arg3 (ix4 3 e k f) from
      funext fun k => funext fun f => blk3 m c t (ix4 0 0 k f) (ix4 3 e k f) rfl tq.symm rfl rfl,
    show (fun f d => iblk m c 4 t (ix4 0 0 f d)) = fun f d => V m c main_arg4 (ix4 3 e f d) from
      funext fun k => funext fun f => blk4 m c t (ix4 0 0 k f) (ix4 3 e k f) rfl tq.symm rfl rfl,
    show iblk m c 1 t (ix3 0 0 r') = V m c main_v15 (ix3 e 0 r) from
      blk1 m c t (ix3 0 0 r') (ix3 e 0 r) tq.symm rfl row.symm]

end Cert.Moe3Ideal.Experts

end
-- ==== Proof.Layer3.Entry.lean ====
module

public import proofs.«01_k».proof.Proof.Layer3.Tile
public import proofs.«01_k».proof.Proof.Experts.Route
public import proofs.«01_k».proof.Proof.Gen.Moe3ReferenceIdeal.Read
public import Idealize.ShloMosaic.Lib.Claim

@[expose] public section

set_option maxRecDepth 16384

/-! # What the kernel's call finds: the gathered tokens and their gates

The kernel gathers from all tokens at once, at each group's positions shifted by the group's start. -/

noncomputable section

namespace Cert.Moe3Ideal.Experts

open Cert.Moe3Ideal Cert.Moe3Ideal.Gen
open Idealize.ShloMosaic
open Cert.Moe3ReferenceIdeal.Read (val_main_values val_main_values_1 val_main_indices val_main_indices_2)

variable (m : (ℓ : Loc nD τ sig) → Buf (Elt Ideal) ℓ)

/-- The arguments, as plain arrays. -/
abbrev tokens (c : Dev nD) : FVec Ideal S81920x1024 .bf16 := m (c, Proc.tc.devRef main_arg0)
abbrev scores (c : Dev nD) : FVec Ideal S16x81920 .f32 := m (c, Proc.tc.devRef main_arg1)

theorem gates_first (c : Dev nD) (e : Fin 16) (r : Fin 10240) (h : r.val < 2048) :
    V m c main_v15 (ix3 e 0 r) = val_main_values (F := Ideal) (scores m c) (ix2 e ⟨r.val, h⟩) := by
  entry_read
  pointwise
  rw [dif_pos h]
  rfl

theorem gates_second (c : Dev nD) (e : Fin 16) (r : Fin 10240) (h : ¬ r.val < 2048) :
    V m c main_v15 (ix3 e 0 r)
      = val_main_values_1 (F := Ideal) (scores m c) (ix2 e ⟨r.val - 2048, by have := r.isLt; omega⟩) := by
  entry_read
  pointwise
  rw [dif_neg h]
  rfl

theorem gather_all (x : FVec Ideal S81920x1024 .bf16) (idx : IVec S16x10240x1 32) (e : Fin 16) (r : Fin 10240) (k : Fin 1024)
    (p : Fin 81920) (hp : (idx (ix3 e r 0)).toInt = (p.val : ℤ)) :
    Host.gather gather_S81920x1024_S16x10240x1_S16x10240x1024_2_0_n_n_0_2_11024 x idx (ix3 e r k) = x (ix2 p k) :=
  Cert.Routing.gather_row _ x idx e r k p hp

/-- The two groups' positions side by side, each shifted by its group's start. -/
abbrev places (A : IVec S16x2048 32) (B : IVec S16x8192 32) : IVec S16x10240 32 :=
  concatenate S16x10240 1
    [⟨S16x2048, addi A (broadcastInDim S16x2048 ![] bcast_S_S16x2048 (constantI S_ 32 0#32))⟩,
      ⟨S16x8192, addi B (broadcastInDim S16x8192 ![] bcast_S_S16x8192 (constantI S_ 32 16384#32))⟩]
    concatenates_S16x2048_S16x8192_S16x10240_d1

/-- The index the gather reads: negative positions would count from the end. -/
abbrev wrapped (C : IVec S16x10240 32) : IVec S16x10240x1 32 :=
  broadcastInDim S16x10240x1 ![0, 1] bcast_S16x10240_S16x10240x1_0_1
    (select (cmpi CmpIPredicate.slt C (broadcastInDim S16x10240 ![] bcast_S_S16x10240 (constantI S_ 32 0#32)))
      (addi C (broadcastInDim S16x10240 ![] bcast_S_S16x10240 (constantI S_ 32 81920#32))) C)

theorem wrapped_at (C : IVec S16x10240 32) (e : Fin 16) (r : Fin 10240) (p : ℕ) (hp : p < 2 ^ 31)
    (h : C (ix2 e r) = BitVec.ofNat 32 p) : (wrapped C (ix3 e r 0)).toInt = (p : ℤ) := by
  have hw : wrapped C (ix3 e r 0) = BitVec.ofNat 32 p := by
    unfold wrapped
    pointwise
    rw [h]
    exact Cert.Routing.wrap_word p _ hp
  rw [hw, Cert.Routing.toInt_small p hp]

theorem places_first (A : IVec S16x2048 32) (B : IVec S16x8192 32) (e : Fin 16) (r : Fin 10240) (h : r.val < 2048) (p : ℕ)
    (hA : A (ix2 e ⟨r.val, h⟩) = BitVec.ofNat 32 p) : places A B (ix2 e r) = BitVec.ofNat 32 p := by
  unfold places
  pointwise
  rw [dif_pos h, hA]
  exact BitVec.add_zero _

theorem places_second (A : IVec S16x2048 32) (B : IVec S16x8192 32) (e : Fin 16) (r : Fin 10240) (h : ¬ r.val < 2048) (p : ℕ)
    (hB : B (ix2 e ⟨r.val - 2048, by have := r.isLt; omega⟩) = BitVec.ofNat 32 p) :
    places A B (ix2 e r) = BitVec.ofNat 32 (p + 16384) := by
  unfold places
  pointwise
  rw [dif_neg h, hB]
  exact (BitVec.ofNat_add p 16384).symm

theorem toks_first (c : Dev nD) (e : Fin 16) (r : Fin 10240) (k : Fin 1024) (h : r.val < 2048) (p : Fin 16384)
    (hp : val_main_indices (F := Ideal) (scores m c) (ix2 e ⟨r.val, h⟩) = BitVec.ofNat 32 p.val) :
    V m c main_v13 (ix3 e r k) = tokens m c (ix2 ⟨p.val, by have := p.isLt; omega⟩ k) := by
  have hl := p.isLt
  entry_read
  have key := fun idx => gather_all (tokens m c) idx e r k ⟨p.val, by omega⟩
  refine key _ ?_
  exact wrapped_at (places _ _) e r p.val (by omega) (places_first _ _ e r h p.val hp)

theorem toks_second (c : Dev nD) (e : Fin 16) (r : Fin 10240) (k : Fin 1024) (h : ¬ r.val < 2048) (p : Fin 65536)
    (hp : val_main_indices_2 (F := Ideal) (scores m c) (ix2 e ⟨r.val - 2048, by have := r.isLt; omega⟩) = BitVec.ofNat 32 p.val) :
    V m c main_v13 (ix3 e r k) = tokens m c (ix2 ⟨p.val + 16384, by have := p.isLt; omega⟩ k) := by
  have hl := p.isLt
  entry_read
  have key := fun idx => gather_all (tokens m c) idx e r k ⟨p.val + 16384, by omega⟩
  refine key _ ?_
  exact wrapped_at (places _ _) e r (p.val + 16384) (by omega) (places_second _ _ e r h p.val hp)

end Cert.Moe3Ideal.Experts

end
-- ==== Proof.Layer3.Reference.lean ====
module

public import proofs.«01_k».proof.Proof.Layer3.Entry

@[expose] public section

set_option maxRecDepth 16384

/-! # The reference at an index: each group's tokens through their expert -/

noncomputable section

namespace Cert.Moe3ReferenceIdeal.Experts

open Cert.Moe3ReferenceIdeal Cert.Moe3ReferenceIdeal.Gen Cert.Moe3ReferenceIdeal.Read
open Idealize.ShloMosaic
open Cert.MoeIdeal.Experts (ffn)

variable (x0 : FVec Ideal S81920x1024 .bf16) (x1 : FVec Ideal S16x81920 .f32) (x2 x3 x4 : FVec Ideal S4x16x1024x1024 .f32)

theorem group_first (e : Fin 16) (r : Fin 2048) (d : Fin 1024) :
    val_main_v23 (F := Ideal) x0 x1 x2 x3 x4 (ix3 e r d)
      = ffn (fun k => val_main_v15 (F := Ideal) x0 x1 (ix3 e r k)) (fun k f => x2 (ix4 3 e k f)) (fun k f => x3 (ix4 3 e k f))
          (fun f d => x4 (ix4 3 e f d)) (val_main_values (F := Ideal) x1 (ix2 e r)) d := by
  generalize hX : val_main_v15 (F := Ideal) x0 x1 = X
  generalize hG : val_main_values (F := Ideal) x1 = G
  unfold val_main_v23 val_main_v22 val_main_v21 val_main_v20 val_main_v19 val_main_v18 val_main_v17 val_main_call0_v5 val_main_call0_v4 val_main_call0_cst_0 val_main_call0_v3 val_main_call0_v2 val_main_call0_cst val_main_call0_v1 val_main_call0_v0 val_main_v16 val_main_v8 val_main_v7 val_main_v6 val_main_v5 val_main_v4 val_main_v3
  rw [hX, hG]
  pointwise
  rfl

theorem group_second (e : Fin 16) (r : Fin 8192) (d : Fin 1024) :
    val_main_v46 (F := Ideal) x0 x1 x2 x3 x4 (ix3 e r d)
      = ffn (fun k => val_main_v38 (F := Ideal) x0 x1 (ix3 e r k)) (fun k f => x2 (ix4 3 e k f)) (fun k f => x3 (ix4 3 e k f))
          (fun f d => x4 (ix4 3 e f d)) (val_main_values_1 (F := Ideal) x1 (ix2 e r)) d := by
  generalize hX : val_main_v38 (F := Ideal) x0 x1 = X
  generalize hG : val_main_values_1 (F := Ideal) x1 = G
  unfold val_main_v46 val_main_v45 val_main_v44 val_main_v43 val_main_v42 val_main_v41 val_main_v40 val_main_call1_v5 val_main_call1_v4 val_main_call1_cst_0 val_main_call1_v3 val_main_call1_v2 val_main_call1_cst val_main_call1_v1 val_main_call1_v0 val_main_v39 val_main_v31 val_main_v30 val_main_v29 val_main_v28 val_main_v27 val_main_v26
  rw [hX, hG]
  pointwise
  rfl

theorem gather_g1 (x : FVec Ideal S16384x1024 .f32) (idx : IVec S16x2048x1 32) (e : Fin 16) (r : Fin 2048) (k : Fin 1024)
    (p : Fin 16384) (hp : (idx (ix3 e r 0)).toInt = (p.val : ℤ)) :
    Host.gather gather_S16384x1024_S16x2048x1_S16x2048x1024_2_0_n_n_0_2_11024 x idx (ix3 e r k) = x (ix2 p k) :=
  Cert.Routing.gather_row _ x idx e r k p hp

theorem gather_g2 (x : FVec Ideal S65536x1024 .f32) (idx : IVec S16x8192x1 32) (e : Fin 16) (r : Fin 8192) (k : Fin 1024)
    (p : Fin 65536) (hp : (idx (ix3 e r 0)).toInt = (p.val : ℤ)) :
    Host.gather gather_S65536x1024_S16x8192x1_S16x8192x1024_2_0_n_n_0_2_11024 x idx (ix3 e r k) = x (ix2 p k) :=
  Cert.Routing.gather_row _ x idx e r k p hp

theorem toks_first (e : Fin 16) (r : Fin 2048) (k : Fin 1024) (p : Fin 16384)
    (hp : val_main_indices (F := Ideal) x1 (ix2 e r) = BitVec.ofNat 32 p.val) :
    val_main_v15 (F := Ideal) x0 x1 (ix3 e r k) = x0 (ix2 ⟨p.val, by have := p.isLt; omega⟩ k) := by
  have hl := p.isLt
  unfold val_main_v15
  have hi : val_main_v14 (F := Ideal) x1 (ix3 e r 0) = BitVec.ofNat 32 p.val := by
    generalize hG : val_main_indices (F := Ideal) x1 = G at hp
    unfold val_main_v14 val_main_v13 val_main_v12 val_main_v11 val_main_v10 val_main_v9 val_main_c val_main_c_0
    rw [hG]
    pointwise
    rw [hp]
    exact Cert.Routing.wrap_word p.val _ (by omega)
  refine (gather_g1 _ _ e r k p (by rw [hi, Cert.Routing.toInt_small p.val (by omega)])).trans ?_
  unfold val_main_v1 val_main_v0
  pointwise

theorem toks_second (e : Fin 16) (r : Fin 8192) (k : Fin 1024) (p : Fin 65536)
    (hp : val_main_indices_2 (F := Ideal) x1 (ix2 e r) = BitVec.ofNat 32 p.val) :
    val_main_v38 (F := Ideal) x0 x1 (ix3 e r k) = x0 (ix2 ⟨p.val + 16384, by have := p.isLt; omega⟩ k) := by
  have hl := p.isLt
  unfold val_main_v38
  have hi : val_main_v37 (F := Ideal) x1 (ix3 e r 0) = BitVec.ofNat 32 p.val := by
    generalize hG : val_main_indices_2 (F := Ideal) x1 = G at hp
    unfold val_main_v37 val_main_v36 val_main_v35 val_main_v34 val_main_v33 val_main_v32 val_main_c_3 val_main_c_4
    rw [hG]
    pointwise
    rw [hp]
    exact Cert.Routing.wrap_word p.val _ (by omega)
  refine (gather_g2 _ _ e r k p (by rw [hi, Cert.Routing.toInt_small p.val (by omega)])).trans ?_
  unfold val_main_v24 val_main_v0
  pointwise
  exact congrArg (fun q => x0 (ix2 q k)) (Fin.ext (Nat.add_comm _ _))

theorem reference_first (e : Fin 16) (r : Fin 10240) (h : r.val < 2048) (d : Fin 1024) :
    val_main_v48 (F := Ideal) x0 x1 x2 x3 x4 (ix3 e r d) = val_main_v23 (F := Ideal) x0 x1 x2 x3 x4 (ix3 e ⟨r.val, h⟩ d) := by
  unfold val_main_v48 val_main_v47
  pointwise
  rw [dif_pos h]

theorem reference_second (e : Fin 16) (r : Fin 10240) (h : ¬ r.val < 2048) (d : Fin 1024) :
    val_main_v48 (F := Ideal) x0 x1 x2 x3 x4 (ix3 e r d)
      = val_main_v46 (F := Ideal) x0 x1 x2 x3 x4 (ix3 e ⟨r.val - 2048, by have := r.isLt; omega⟩ d) := by
  unfold val_main_v48 val_main_v47
  pointwise
  rw [dif_neg h]

/-- The kernel's result array is the reference's, on the same arguments. -/
theorem same (m : (ℓ : Loc Cert.Moe3Ideal.nD Cert.Moe3Ideal.τ Cert.Moe3Ideal.sig) → Buf (Elt Ideal) ℓ) (c : Dev Cert.Moe3Ideal.nD)
    (e : Fin 16) (r : Fin 10240) (d : Fin 1024) :
    Cert.Moe3Ideal.Value.G5 m c (ix3 e r d)
      = val_main_v48 (F := Ideal) (m (c, Proc.tc.devRef Cert.Moe3Ideal.main_arg0)) (m (c, Proc.tc.devRef Cert.Moe3Ideal.main_arg1))
          (m (c, Proc.tc.devRef Cert.Moe3Ideal.main_arg2)) (m (c, Proc.tc.devRef Cert.Moe3Ideal.main_arg3))
          (m (c, Proc.tc.devRef Cert.Moe3Ideal.main_arg4)) (ix3 e r d) := by
  rw [Cert.Moe3Ideal.Experts.result_ffn m c e r d]
  by_cases h : r.val < 2048
  · rw [reference_first _ _ _ _ _ e r h d, group_first]
    obtain ⟨p, hp⟩ := Cert.Routing.topK_index (FloatOps.cmpfTotal (F := Ideal) .gt)
      (val_main_v2 (F := Ideal) (m (c, Proc.tc.devRef Cert.Moe3Ideal.main_arg1))) sliceFits_S16x16384_S16x2048 (ix2 e ⟨r.val, h⟩)
    have hx : (fun k => Cert.Moe3Ideal.Gen.V m c Cert.Moe3Ideal.main_v13 (ix3 e r k))
        = fun k => val_main_v15 (F := Ideal) (m (c, Proc.tc.devRef Cert.Moe3Ideal.main_arg0)) (m (c, Proc.tc.devRef Cert.Moe3Ideal.main_arg1))
            (ix3 e ⟨r.val, h⟩ k) := by
      funext k
      rw [toks_first _ _ e ⟨r.val, h⟩ k p hp]
      exact Cert.Moe3Ideal.Experts.toks_first m c e r k h p hp
    rw [Cert.Moe3Ideal.Experts.gates_first m c e r h]
    exact congrArg (fun x => ffn x _ _ _ _ d) hx
  · rw [reference_second _ _ _ _ _ e r h d, group_second]
    have hr := r.isLt
    obtain ⟨p, hp⟩ := Cert.Routing.topK_index (FloatOps.cmpfTotal (F := Ideal) .gt)
      (val_main_v25 (F := Ideal) (m (c, Proc.tc.devRef Cert.Moe3Ideal.main_arg1))) sliceFits_S16x65536_S16x8192
      (ix2 e ⟨r.val - 2048, by omega⟩)
    have hx : (fun k => Cert.Moe3Ideal.Gen.V m c Cert.Moe3Ideal.main_v13 (ix3 e r k))
        = fun k => val_main_v38 (F := Ideal) (m (c, Proc.tc.devRef Cert.Moe3Ideal.main_arg0)) (m (c, Proc.tc.devRef Cert.Moe3Ideal.main_arg1))
            (ix3 e ⟨r.val - 2048, by omega⟩ k) := by
      funext k
      rw [toks_second _ _ e ⟨r.val - 2048, by omega⟩ k p hp]
      exact Cert.Moe3Ideal.Experts.toks_second m c e r k h p hp
    rw [Cert.Moe3Ideal.Experts.gates_second m c e r h]
    exact congrArg (fun x => ffn x _ _ _ _ d) hx

end Cert.Moe3ReferenceIdeal.Experts

end
-- ==== Proof.Filter.Spec.lean ====
module

public import Idealize.ShloMosaic.PureOps.IdealRules
public import Idealize.ShloMosaic.Lib.Pointwise

@[expose] public section

/-! # The Hyena input projection's three filtered groups, as mathematics -/

noncomputable section

namespace Cert.Filter

open Idealize.ShloMosaic

/-- A row scaled to root mean square one, times the gain. -/
def unitRow (x g : Fin 1024 → EReal) (k : Fin 1024) : EReal :=
  x k * Ideal.rsqrt (Ideal.div (∑ y : Fin 1024, x y * x y) (Ideal.ofBits .f32 0x44800000#32) + Ideal.ofBits .f32 0x358637BD#32) * g k

variable (X : Fin 81920 → Fin 1024 → EReal) (g : Fin 1024 → EReal) (W : Fin 1024 → Fin 3072 → EReal) (b : Fin 3072 → EReal)
  (w : Fin 3 → Fin 3072 → EReal) (c : Fin 3072 → EReal)

/-- The projection of token `R`'s scaled row. -/
def projected (R : Fin 81920) (f : Fin 3072) : EReal := (∑ k : Fin 1024, unitRow (X R) g k * W k f) + b f

/-- The three-tap filter over the tokens of one request, nothing beyond its ends. -/
def filtered (R : Fin 81920) (f : Fin 3072) : EReal :=
  (if R.val % 8192 = 0 then 0 else projected X g W b ⟨R.val - 1, by have := R.isLt; omega⟩ f) * w 0 f
    + projected X g W b R f * w 1 f
    + (if h : R.val % 8192 = 8191 then 0 else projected X g W b ⟨R.val + 1, by have := R.isLt; omega⟩ f) * w 2 f
    + c f

end Cert.Filter

end
-- ==== Proof.Filter.Block.lean ====
module

public import proofs.«01_k».proof.Proof.Gen.HyenaIdeal.Value
public import proofs.«01_k».proof.Proof.Filter.Spec
public import Idealize.ShloMosaic.Lib.Pointwise
public import Idealize.ShloMosaic.Lib.Pipeline.Value

@[expose] public section

set_option maxRecDepth 16384

/-! # What one grid point of the Hyena input projection leaves, as one formula per group of columns -/

noncomputable section

namespace Cert.HyenaIdeal.Filter

open Cert.HyenaIdeal Cert.HyenaIdeal.Gen Cert.Filter
open Idealize.ShloMosaic

section Formula

variable {F : FTy → Type} [FloatOps F]

/-- The projection of the point's rows and of the sixteen rows around them. -/
def proj (xb : FVec F S528x1024 .bf16) (w : Vec F S1024x512 .bf16) (b : Vec F S1x512 .f32) : FVec F S528x512 .f32 :=
  addf (matmul dot_S528x1024_S1024x512_S528x512_1_0_0_1_n_n none xb (shapeCast S1024x512 w shapeCasts_S1024x512_S1024x512)
      (constant S528x512 .f32 0x00000000#32))
    (broadcastTo S528x512 (shapeCast S1x512 b shapeCasts_S1x512_S1x512) broadcasts_S1x512_S528x512)

/-- The rows whose number is `n`, as a mask. -/
def isRow (n : BitVec 32) : IVec S512x512 1 :=
  broadcastTo S512x512 (shapeCast S512x1 (cmpi .eq (iota .tc S512x1 32 [0] iota_S512x1_d0_w32) (broadcast S512x1 n))
    shapeCasts_S512x1_S512x1) broadcasts_S512x1_S512x512

/-- A row over all the rows. -/
def down (x : FVec F S1x512 .f32) : FVec F S512x512 .f32 := broadcastTo S512x512 x broadcasts_S1x512_S512x512

/-- The point's own rows of the projection. -/
def own (P : FVec F S528x512 .f32) : FVec F S512x512 .f32 := extractStridedSlice S512x512 ![0, 0] P slices_S528x512_o0_0_S512x512

/-- The rows one up; over the first row the last of the rows before, times `p`. -/
def above (p : F .f32) (P : FVec F S528x512 .f32) : FVec F S512x512 .f32 :=
  select (isRow 0#32) (down (shapeCast S1x512 (mulf (extractStridedSlice S1x512 ![519, 0] P slices_S528x512_o519_0_S1x512)
    (broadcast S1x512 p)) shapeCasts_S1x512_S1x512)) (dynamicRotate 0 1#32 none (own P) rotates_S512x512_d0)

/-- The rows one down; over the last row the first of the rows after, times `q`. -/
def below (q : F .f32) (P : FVec F S528x512 .f32) : FVec F S512x512 .f32 :=
  select (isRow 511#32) (down (shapeCast S1x512 (mulf (extractStridedSlice S1x512 ![520, 0] P slices_S528x512_o520_0_S1x512)
    (broadcast S1x512 q)) shapeCasts_S1x512_S1x512)) (dynamicRotate 0 511#32 none (own P) rotates_S512x512_d0)

/-- The three-tap filter of the point's rows. -/
def mix (p q : F .f32) (P : FVec F S528x512 .f32) (cw : Vec F S3x512 .f32) (cb : Vec F S1x512 .f32) : FVec F S512x512 .f32 :=
  addf (addf (addf (mulf (above p P) (down (extractStridedSlice S1x512 ![0, 0] cw slices_S3x512_o0_0_S1x512)))
      (mulf (own P) (down (extractStridedSlice S1x512 ![1, 0] cw slices_S3x512_o1_0_S1x512))))
      (mulf (below q P) (down (extractStridedSlice S1x512 ![2, 0] cw slices_S3x512_o2_0_S1x512))))
    (down (shapeCast S1x512 cb shapeCasts_S1x512_S1x512))

variable (i : grid0.Coords) (x0 : Vec F S512x1024 .f32) (x1 : Vec F S8x1024 .f32) (x2 : Vec F S8x1024 .f32) (x3 : Vec F S1x1024 .f32)
  (x4 : Vec F S1024x3072 .bf16) (x5 : Vec F S1x3072 .f32) (x6 : Vec F S3x3072 .f32) (x7 : Vec F S1x3072 .f32)

/-- The normalised rows. -/
def rows : FVec F S528x1024 .bf16 := k0_pay5 (k0_pay4 (View.ld x3 r0_0)) (View.ld x0 r0_1) (View.ld x1 r0_2) (View.ld x2 r0_2)

theorem out8_eq : out0_8 i x0 x1 x2 x3 x4 x5 x6 x7 = View.canon
    [⟨r0_16, mix (k0_pay2 i) (k0_pay3 i) (proj (rows x0 x1 x2 x3) (View.ld x4 r0_13) (View.ld x5 r0_14)) (View.ld x6 r0_15) (View.ld x7 r0_14)⟩,
     ⟨r0_6, mix (k0_pay2 i) (k0_pay3 i) (proj (rows x0 x1 x2 x3) (View.ld x4 r0_3) (View.ld x5 r0_4)) (View.ld x6 r0_5) (View.ld x7 r0_4)⟩] := rfl

theorem out9_eq : out0_9 i x0 x1 x2 x3 x4 x5 x6 x7 = View.canon
    [⟨r0_16, mulf (mix (k0_pay2 i) (k0_pay3 i) (proj (rows x0 x1 x2 x3) (View.ld x4 r0_17) (View.ld x5 r0_18)) (View.ld x6 r0_19) (View.ld x7 r0_18))
      (mix (k0_pay2 i) (k0_pay3 i) (proj (rows x0 x1 x2 x3) (View.ld x4 r0_20) (View.ld x5 r0_21)) (View.ld x6 r0_22) (View.ld x7 r0_21))⟩,
     ⟨r0_6, mulf (mix (k0_pay2 i) (k0_pay3 i) (proj (rows x0 x1 x2 x3) (View.ld x4 r0_7) (View.ld x5 r0_8)) (View.ld x6 r0_9) (View.ld x7 r0_8))
      (mix (k0_pay2 i) (k0_pay3 i) (proj (rows x0 x1 x2 x3) (View.ld x4 r0_10) (View.ld x5 r0_11)) (View.ld x6 r0_12) (View.ld x7 r0_11))⟩] := rfl

end Formula

/-! ## At the ideal numbers, read at an index -/

section At

theorem proj_at (xb : FVec Ideal S528x1024 .bf16) (w : Vec Ideal S1024x512 .bf16) (b : Vec Ideal S1x512 .f32) (x : Fin 528) (f : Fin 512) :
    proj xb w b (ix2 x f) = (∑ k : Fin 1024, xb (ix2 x k) * w (ix2 k f)) + b (ix2 0 f) := by
  pointwise [proj]

theorem mix_at (p q : EReal) (P : FVec Ideal S528x512 .f32) (cw : Vec Ideal S3x512 .f32) (cb : Vec Ideal S1x512 .f32) (r f : Fin 512) :
    mix (F := Ideal) p q P cw cb (ix2 r f) = above p P (ix2 r f) * cw (ix2 0 f) + own P (ix2 r f) * cw (ix2 1 f)
      + below q P (ix2 r f) * cw (ix2 2 f) + cb (ix2 0 f) := by
  unfold mix
  generalize above p P = a
  generalize below q P = b
  generalize own P = o
  pointwise [down]

theorem own_at (P : FVec Ideal S528x512 .f32) (r f : Fin 512) : own P (ix2 r f) = P (ix2 ⟨r.val, by have := r.isLt; omega⟩ f) := by
  pointwise [own]

/-- A choice on equality with a row number. -/
theorem choose_row {α : Type} (r n : ℕ) (hr : r < 512) (hn : n < 512) (x y : α) :
    Scalar.select (IntOp.cmpi .eq (BitVec.ofNat 32 r) (BitVec.ofNat 32 n)) x y = if r = n then x else y := by
  have e : BitVec.ofNat 32 r = BitVec.ofNat 32 n ↔ r = n := by
    rw [← BitVec.toNat_inj, BitVec.toNat_ofNat, BitVec.toNat_ofNat, Nat.mod_eq_of_lt (by omega), Nat.mod_eq_of_lt (by omega)]
  by_cases h : r = n
  · subst h; simp [Scalar.select, IntOp.cmpi]
  · have e' : (BitVec.ofNat 32 r == BitVec.ofNat 32 n) = false := beq_eq_false_iff_ne.mpr fun he => h (e.mp he)
    simp [Scalar.select, IntOp.cmpi, e', h]

theorem above_at (p : EReal) (P : FVec Ideal S528x512 .f32) (r f : Fin 512) : above (F := Ideal) p P (ix2 r f)
    = if r.val = 0 then P (ix2 519 f) * p else P (ix2 ⟨r.val - 1, by have := r.isLt; omega⟩ f) := by
  have hr := r.isLt
  pointwise [above, isRow, down, own]
  rw [choose_row r.val 0 hr (by decide)]
  by_cases h : r.val = 0
  · rw [if_pos h, if_pos h]
  · rw [if_neg h, if_neg h]
    exact congrArg (fun z => P (ix2 z f)) (Fin.ext (by show (r.val + 512 - 1) % 512 = r.val - 1; omega))

theorem below_at (q : EReal) (P : FVec Ideal S528x512 .f32) (r f : Fin 512) : below (F := Ideal) q P (ix2 r f)
    = if r.val = 511 then P (ix2 520 f) * q else P (ix2 ⟨r.val + 1, by have := r.isLt; omega⟩ f) := by
  have hr := r.isLt
  pointwise [below, isRow, down, own]
  rw [choose_row r.val 511 hr (by decide)]
  by_cases h : r.val = 511
  · rw [if_pos h, if_pos h]
  · rw [if_neg h, if_neg h]
    exact congrArg (fun z => P (ix2 z f)) (Fin.ext (by show (r.val + 512 - 511) % 512 = r.val + 1; omega))

/-- Row `x` of the point's rows, then the eight before and the eight after. -/
def stacked (a : Vec Ideal S512x1024 .f32) (b c : Vec Ideal S8x1024 .f32) (x : Fin 528) (k : Fin 1024) : EReal :=
  if h : x.val < 512 then a (ix2 ⟨x.val, h⟩ k)
  else if h : x.val - 512 < 8 then b (ix2 ⟨x.val - 512, h⟩ k) else c (ix2 ⟨x.val - 512 - 8, by have := x.isLt; omega⟩ k)

theorem pay5_at (g : FVec Ideal S1x1024 .f32) (a : Vec Ideal S512x1024 .f32) (b c : Vec Ideal S8x1024 .f32) (x : Fin 528) (k : Fin 1024) :
    k0_pay5 (F := Ideal) g a b c (ix2 x k) = unitRow (stacked a b c x) (fun k => g (ix2 0 k)) k := by
  pointwise [k0_pay5]
  rfl

/-- A load of 512 columns from column `o` on. -/
theorem ld_at {A : ℕ} {e : EltTy} (o : ℕ) (x : Vec Ideal ⟨2, ![A, 3072]⟩ e) (inb) (k : Fin A) (f : Fin 512) (h : o + f.val < 3072) :
    View.ld x (Rect.unit (s := ⟨2, ![A, 3072]⟩) ![0, o] (⟨2, ![A, 512]⟩ : Shape).size inb) (ix2 k f) = x (ix2 k ⟨o + f.val, h⟩) := by
  show x _ = x _
  congr 1
  funext a
  match a with
  | ⟨0, _⟩ => exact Fin.ext (by show 0 + 1 * k.val = k.val; omega)
  | ⟨1, _⟩ => exact Fin.ext (by show o + 1 * f.val = o + f.val; omega)

variable (i : grid0.Coords) (x0 : Vec Ideal S512x1024 .f32) (x1 : Vec Ideal S8x1024 .f32) (x2 : Vec Ideal S8x1024 .f32)
  (x3 : Vec Ideal S1x1024 .f32) (x4 : Vec Ideal S1024x3072 .bf16) (x5 : Vec Ideal S1x3072 .f32) (x6 : Vec Ideal S3x3072 .f32)
  (x7 : Vec Ideal S1x3072 .f32)

theorem rows_at (x : Fin 528) (k : Fin 1024) :
    rows x0 x1 x2 x3 (ix2 x k) = unitRow (stacked x0 x1 x2 x) (fun k => x3 (ix2 0 k)) k := by
  unfold rows
  have hz : (![0, 0] : Fin 2 → Nat) = fun _ => 0 := by funext a; match a with | ⟨0, _⟩ => rfl | ⟨1, _⟩ => rfl
  rw [pay5_at, View.ld_unit_zero (S := S512x1024) hz, View.ld_unit_zero (S := S8x1024) hz, View.ld_unit_zero (S := S8x1024) hz,
    View.ld_unit_zero (S := S1x1024) hz]
  congr 1
  funext k
  pointwise [k0_pay4]

/-- Column `C` of the projection of row `x` of the stack. -/
def line (x : Fin 528) (C : Fin 3072) : EReal :=
  (∑ k : Fin 1024, unitRow (stacked x0 x1 x2 x) (fun k => x3 (ix2 0 k)) k * x4 (ix2 k C)) + x5 (ix2 0 C)

/-- Column `C` of the filter of the point's row `r`. -/
def taps (r : Fin 512) (C : Fin 3072) : EReal :=
  (if r.val = 0 then line x0 x1 x2 x3 x4 x5 519 C * k0_pay2 (F := Ideal) i
      else line x0 x1 x2 x3 x4 x5 ⟨r.val - 1, by have := r.isLt; omega⟩ C) * x6 (ix2 0 C)
    + line x0 x1 x2 x3 x4 x5 ⟨r.val, by have := r.isLt; omega⟩ C * x6 (ix2 1 C)
    + (if r.val = 511 then line x0 x1 x2 x3 x4 x5 520 C * k0_pay3 (F := Ideal) i
      else line x0 x1 x2 x3 x4 x5 ⟨r.val + 1, by have := r.isLt; omega⟩ C) * x6 (ix2 2 C)
    + x7 (ix2 0 C)

theorem group_at (o : ℕ) (i4) (i5) (i6) (r f : Fin 512) (h : o + f.val < 3072) :
    mix (F := Ideal) (k0_pay2 i) (k0_pay3 i) (proj (rows x0 x1 x2 x3)
        (View.ld x4 (Rect.unit (s := S1024x3072) ![0, o] S1024x512.size i4)) (View.ld x5 (Rect.unit (s := S1x3072) ![0, o] S1x512.size i5)))
      (View.ld x6 (Rect.unit (s := S3x3072) ![0, o] S3x512.size i6)) (View.ld x7 (Rect.unit (s := S1x3072) ![0, o] S1x512.size i5)) (ix2 r f)
    = taps i x0 x1 x2 x3 x4 x5 x6 x7 r ⟨o + f.val, h⟩ := by
  have hp : ∀ x : Fin 528, proj (rows x0 x1 x2 x3) (View.ld x4 (Rect.unit (s := S1024x3072) ![0, o] S1024x512.size i4))
      (View.ld x5 (Rect.unit (s := S1x3072) ![0, o] S1x512.size i5)) (ix2 x f) = line x0 x1 x2 x3 x4 x5 x ⟨o + f.val, h⟩ := fun x => by
    rw [proj_at]
    exact congrArg₂ (· + ·) (Finset.sum_congr rfl fun k _ => congrArg₂ (· * ·) (rows_at x0 x1 x2 x3 x k) (ld_at o x4 i4 k f h)) (ld_at o x5 i5 0 f h)
  rw [mix_at, above_at, own_at, below_at, hp, hp, hp, hp, hp]
  exact congrArg₂ (· + ·) (congrArg₂ (· + ·) (congrArg₂ (· + ·) (congrArg (_ * ·) (ld_at o x6 i6 0 f h)) (congrArg (_ * ·) (ld_at o x6 i6 1 f h)))
    (congrArg (_ * ·) (ld_at o x6 i6 2 f h))) (ld_at o x7 i5 0 f h)

/-- The column of a store's column `f` from column `o` on. -/
theorem emb_at (o : ℕ) (inb) (r f : Fin 512) (h : o + f.val < 1024) :
    (Rect.unit (s := S512x1024) ![0, o] S512x512.size inb).emb (ix2 r f) = ix2 r ⟨o + f.val, h⟩ := by
  funext a
  match a with
  | ⟨0, _⟩ => exact Fin.ext (by show 0 + 1 * r.val = r.val; omega)
  | ⟨1, _⟩ => exact Fin.ext (by show o + 1 * f.val = o + f.val; omega)

/-- Two stores side by side hold a function that each of them holds. -/
theorem sides (G : Fin 512 → Fin 1024 → EReal) (p q : FVec Ideal S512x512 .f32)
    (hp : ∀ r f : Fin 512, p (ix2 r f) = G r ⟨512 + f.val, by have := f.isLt; omega⟩)
    (hq : ∀ r f : Fin 512, q (ix2 r f) = G r ⟨0 + f.val, by have := f.isLt; omega⟩) (r : Fin 512) (C : Fin 1024) :
    View.canon (Val := Elt Ideal) (s := S512x1024) (e := .f32) [⟨r0_16, p⟩, ⟨r0_6, q⟩] (ix2 r C) = G r C := by
  refine View.canon_apply_of_pieces (Val := Elt Ideal) (e := .f32) (fun y : S512x1024.Idx => G (y 0) (y 1)) _ ?_ _ (cover0_8 (F := Ideal) p q (ix2 r C))
  intro pc hpc x
  have put : ∀ (o : ℕ) (inb) (w : FVec Ideal S512x512 .f32) (_ : ∀ r f : Fin 512, ∃ h, w (ix2 r f) = G r ⟨o + f.val, h⟩)
      (x : (Rect.unit (s := S512x1024) ![0, o] S512x512.size inb).shape.Idx),
      w x = G ((Rect.unit (s := S512x1024) ![0, o] S512x512.size inb).emb x 0) ((Rect.unit (s := S512x1024) ![0, o] S512x512.size inb).emb x 1) := by
    intro o inb w hw x
    obtain ⟨r, f, rfl⟩ : ∃ r f : Fin 512, x = ix2 r f := ⟨x 0, x 1, by funext a; match a with | ⟨0, _⟩ => rfl | ⟨1, _⟩ => rfl⟩
    obtain ⟨h, e⟩ := hw r f
    rw [emb_at o inb r f h]
    exact e
  rcases List.mem_cons.mp hpc with rfl | hpc
  · exact put 512 inb_S512x1024_S512x512_0_512 p (fun r f => ⟨_, hp r f⟩) x
  · obtain rfl := List.mem_singleton.mp hpc
    exact put 0 inb_S512x1024_S512x512_0_0 q (fun r f => ⟨_, hq r f⟩) x

theorem out8_at (r : Fin 512) (C : Fin 1024) : out0_8 i x0 x1 x2 x3 x4 x5 x6 x7 (ix2 r C)
    = taps i x0 x1 x2 x3 x4 x5 x6 x7 r ⟨C.val, by have := C.isLt; omega⟩ := by
  rw [out8_eq]
  exact sides (fun r C => taps i x0 x1 x2 x3 x4 x5 x6 x7 r ⟨C.val, by have := C.isLt; omega⟩) _ _
    (fun r f => group_at i x0 x1 x2 x3 x4 x5 x6 x7 512 _ _ _ r f (by have := f.isLt; omega))
    (fun r f => group_at i x0 x1 x2 x3 x4 x5 x6 x7 0 _ _ _ r f (by have := f.isLt; omega)) r C

theorem out9_at (r : Fin 512) (C : Fin 1024) : out0_9 i x0 x1 x2 x3 x4 x5 x6 x7 (ix2 r C)
    = taps i x0 x1 x2 x3 x4 x5 x6 x7 r ⟨2048 + C.val, by have := C.isLt; omega⟩
      * taps i x0 x1 x2 x3 x4 x5 x6 x7 r ⟨1024 + C.val, by have := C.isLt; omega⟩ := by
  rw [out9_eq]
  refine sides (fun r C => taps i x0 x1 x2 x3 x4 x5 x6 x7 r ⟨2048 + C.val, by have := C.isLt; omega⟩
      * taps i x0 x1 x2 x3 x4 x5 x6 x7 r ⟨1024 + C.val, by have := C.isLt; omega⟩) _ _ (fun r f => ?_) (fun r f => ?_) r C
  · refine (congrArg₂ (· * ·) (group_at i x0 x1 x2 x3 x4 x5 x6 x7 2560 _ _ _ r f (by have := f.isLt; omega))
      (group_at i x0 x1 x2 x3 x4 x5 x6 x7 1536 _ _ _ r f (by have := f.isLt; omega))).trans ?_
    exact congrArg₂ (fun a b => taps i x0 x1 x2 x3 x4 x5 x6 x7 r a * taps i x0 x1 x2 x3 x4 x5 x6 x7 r b)
      (Fin.ext (by show 2560 + f.val = 2048 + (512 + f.val); omega)) (Fin.ext (by show 1536 + f.val = 1024 + (512 + f.val); omega))
  · refine (congrArg₂ (· * ·) (group_at i x0 x1 x2 x3 x4 x5 x6 x7 2048 _ _ _ r f (by have := f.isLt; omega))
      (group_at i x0 x1 x2 x3 x4 x5 x6 x7 1024 _ _ _ r f (by have := f.isLt; omega))).trans ?_
    exact congrArg₂ (fun a b => taps i x0 x1 x2 x3 x4 x5 x6 x7 r a * taps i x0 x1 x2 x3 x4 x5 x6 x7 r b)
      (Fin.ext (by show 2048 + f.val = 2048 + (0 + f.val); omega)) (Fin.ext (by show 1024 + f.val = 1024 + (0 + f.val); omega))

end At

end Cert.HyenaIdeal.Filter

end
-- ==== Proof.Filter.Output.lean ====
module

public import proofs.«01_k».proof.Proof.Filter.Block
public import proofs.«01_k».proof.Proof.Gen.HyenaIdeal.Points

@[expose] public section

set_option maxRecDepth 16384

/-! # The launch's results are the filter of the whole arrays -/

noncomputable section

namespace Cert.HyenaIdeal.Filter

open Cert.HyenaIdeal Cert.HyenaIdeal.Gen Cert.Filter
open Idealize.ShloMosaic Idealize.ShloMosaic.TcCoe Idealize.SL.Sem

variable (m : (ℓ : Loc nD τ sig) → Buf (Elt Ideal) ℓ) (ρ : Dev nD → PrngReg) (c : Dev nD)

theorem lt_N (t : Fin cfg0.N) : t.val < 160 := Nat.lt_of_lt_of_eq t.isLt N_0

/-! ## The arguments as functions of their indices -/

abbrev tokens (R : Fin 81920) (k : Fin 1024) : EReal := m ((c : Thread nD τ).loc main_arg0) (ix2 R k)
abbrev gain (k : Fin 1024) : EReal := m ((c : Thread nD τ).loc main_arg1) (ix1 k)
abbrev weights (k : Fin 1024) (f : Fin 3072) : EReal := m ((c : Thread nD τ).loc main_arg2) (ix2 k f)
abbrev bias (f : Fin 3072) : EReal := m ((c : Thread nD τ).loc main_arg3) (ix1 f)
abbrev tap (j : Fin 3) (f : Fin 3072) : EReal := m ((c : Thread nD τ).loc main_arg4) (ix2 j f)
abbrev shift (f : Fin 3072) : EReal := m ((c : Thread nD τ).loc main_arg5) (ix1 f)

theorem entry_gain (k : Fin 1024) : V m c main_v0 (ix2 0 k) = gain m c k := by
  entry_read
  pointwise
theorem entry_weights (k : Fin 1024) (f : Fin 3072) : V m c main_v1 (ix2 k f) = weights m c k f := by
  entry_read
  pointwise
theorem entry_bias (f : Fin 3072) : V m c main_v2 (ix2 0 f) = bias m c f := by
  entry_read
  pointwise
theorem entry_shift (f : Fin 3072) : V m c main_v3 (ix2 0 f) = shift m c f := by
  entry_read
  pointwise

/-! ## The blocks -/

/-- Where each window's block begins: the point's rows, the eight rows before and after them, and the whole of the rest. -/
theorem starts : ∀ t : Fin cfg0.N, win0_0.index t (0 : Fin 2) = t.val ∧ win0_0.index t (1 : Fin 2) = 0
    ∧ win0_1.index t (0 : Fin 2) = 64 * t.val - 1 ∧ win0_1.index t (1 : Fin 2) = 0
    ∧ win0_2.index t (0 : Fin 2) = min (64 * t.val + 64) 10239 ∧ win0_2.index t (1 : Fin 2) = 0
    ∧ (∀ a, win0_3.index t a = 0) ∧ (∀ a, win0_4.index t a = 0) ∧ (∀ a, win0_5.index t a = 0)
    ∧ (∀ a, win0_6.index t a = 0) ∧ (∀ a, win0_7.index t a = 0)
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- Whether a word is a multiple of 8192, by the remainder whose sign is the divisor's. -/
def multiple (x : BitVec 32) : BitVec 1 :=
  let d : BitVec 32 := Scalar.select (Scalar.cmpi .eq 8192#32 0#32) 1#32 8192#32
  let y : BitVec 32 := Scalar.remsi x d
  Scalar.cmpi .eq (Scalar.select (Scalar.andi (Scalar.xori (Scalar.cmpi .slt y 0#32) (Scalar.cmpi .slt d 0#32)) (Scalar.cmpi .ne y 0#32))
    (Scalar.addi y d) y) 0#32

theorem multiples : ∀ t : Fin cfg0.N,
    multiple (Scalar.muli (BitVec.ofNat 32 (grid0.coords t 0).val) 512#32) = (if t.val % 16 = 0 then 1#1 else 0#1)
    ∧ multiple (Scalar.addi (Scalar.muli (BitVec.ofNat 32 (grid0.coords t 0).val) 512#32) 512#32) = (if t.val % 16 = 15 then 1#1 else 0#1) :=
  (by decide +kernel : ∀ t : Fin grid0.N, _)

theorem choose_edge (p : Prop) [Decidable p] : Scalar.select (if p then 1#1 else 0#1) (Scalar.ofBits (F := Ideal) .f32 0x00000000#32)
    (Scalar.ofBits (F := Ideal) .f32 0x3F800000#32) = if p then (0 : EReal) else 1 := by
  have h0 : Scalar.ofBits (F := Ideal) .f32 0x00000000#32 = (0 : EReal) := by pointwise
  have h1 : Scalar.ofBits (F := Ideal) .f32 0x3F800000#32 = (1 : EReal) := by pointwise
  rw [h0, h1]
  by_cases h : p
  · rw [if_pos h, if_pos h]; rfl
  · rw [if_neg h, if_neg h]; rfl

/-- The two edge factors: nothing before the first point of a request, nothing after its last. -/
theorem edges (t : Fin cfg0.N) : k0_pay2 (F := Ideal) (grid0.coords t) = (if t.val % 16 = 0 then (0 : EReal) else 1)
    ∧ k0_pay3 (F := Ideal) (grid0.coords t) = (if t.val % 16 = 15 then (0 : EReal) else 1) := by
  obtain ⟨h, h'⟩ := multiples t
  have e : k0_pay2 (F := Ideal) (grid0.coords t) = Scalar.select (multiple (Scalar.muli (BitVec.ofNat 32 (grid0.coords t 0).val) 512#32))
      (Scalar.ofBits (F := Ideal) .f32 0x00000000#32) (Scalar.ofBits (F := Ideal) .f32 0x3F800000#32) := rfl
  have e' : k0_pay3 (F := Ideal) (grid0.coords t) = Scalar.select
      (multiple (Scalar.addi (Scalar.muli (BitVec.ofNat 32 (grid0.coords t 0).val) 512#32) 512#32))
      (Scalar.ofBits (F := Ideal) .f32 0x00000000#32) (Scalar.ofBits (F := Ideal) .f32 0x3F800000#32) := rfl
  rw [e, e', h, h']
  exact ⟨choose_edge _, choose_edge _⟩

/-- The array row of row `r` of point `t`. -/
def row (t : Fin cfg0.N) (r : Fin 512) : Fin 81920 := ⟨512 * t.val + r.val, by have := lt_N t; have := r.isLt; omega⟩

theorem iblk_own (t : Fin cfg0.N) (r : Fin 512) (k : Fin 1024) : iblk m c 0 t (ix2 r k) = tokens m c (row t r) k := by
  obtain ⟨e0, e1, -⟩ := starts t
  refine (congrFun (V_main_arg0 m c) _).trans (congrArg (m ((c : Thread nD τ).loc main_arg0)) (funext fun a => ?_))
  match a with
  | ⟨0, _⟩ => exact Fin.ext (by show win0_0.index t (0 : Fin 2) * 512 + 1 * r.val = 512 * t.val + r.val; rw [e0]; omega)
  | ⟨1, _⟩ => exact Fin.ext (by show win0_0.index t (1 : Fin 2) * 1024 + 1 * k.val = k.val; rw [e1]; omega)

theorem iblk_before (t : Fin cfg0.N) (r : Fin 8) (k : Fin 1024) (R : Fin 81920) (hR : R.val = 8 * (64 * t.val - 1) + r.val) :
    iblk m c 1 t (ix2 r k) = tokens m c R k := by
  obtain ⟨-, -, e0, e1, -⟩ := starts t
  refine (congrFun (V_main_arg0 m c) _).trans (congrArg (m ((c : Thread nD τ).loc main_arg0)) (funext fun a => ?_))
  match a with
  | ⟨0, _⟩ => exact Fin.ext (by show win0_1.index t (0 : Fin 2) * 8 + 1 * r.val = R.val; rw [e0]; omega)
  | ⟨1, _⟩ => exact Fin.ext (by show win0_1.index t (1 : Fin 2) * 1024 + 1 * k.val = k.val; rw [e1]; omega)

theorem iblk_after (t : Fin cfg0.N) (r : Fin 8) (k : Fin 1024) (R : Fin 81920) (hR : R.val = 8 * min (64 * t.val + 64) 10239 + r.val) :
    iblk m c 2 t (ix2 r k) = tokens m c R k := by
  obtain ⟨-, -, -, -, e0, e1, -⟩ := starts t
  refine (congrFun (V_main_arg0 m c) _).trans (congrArg (m ((c : Thread nD τ).loc main_arg0)) (funext fun a => ?_))
  match a with
  | ⟨0, _⟩ => exact Fin.ext (by show win0_2.index t (0 : Fin 2) * 8 + 1 * r.val = R.val; rw [e0]; omega)
  | ⟨1, _⟩ => exact Fin.ext (by show win0_2.index t (1 : Fin 2) * 1024 + 1 * k.val = k.val; rw [e1]; omega)

theorem iblk_gain (t : Fin cfg0.N) (k : Fin 1024) : iblk m c 3 t (ix2 0 k) = gain m c k := by
  obtain ⟨-, -, -, -, -, -, e, -⟩ := starts t
  refine Eq.trans (congrArg (V m c main_v0) (funext fun a => ?_)) (entry_gain m c k)
  match a with
  | ⟨0, _⟩ => exact Fin.ext (by show win0_3.index t (0 : Fin 2) * 1 + 1 * 0 = 0; rw [e])
  | ⟨1, _⟩ => exact Fin.ext (by show win0_3.index t (1 : Fin 2) * 1024 + 1 * k.val = k.val; rw [e]; omega)

theorem iblk_weights (t : Fin cfg0.N) (k : Fin 1024) (f : Fin 3072) : iblk m c 4 t (ix2 k f) = weights m c k f := by
  obtain ⟨-, -, -, -, -, -, -, e, -⟩ := starts t
  refine Eq.trans (congrArg (V m c main_v1) (funext fun a => ?_)) (entry_weights m c k f)
  match a with
  | ⟨0, _⟩ => exact Fin.ext (by show win0_4.index t (0 : Fin 2) * 1024 + 1 * k.val = k.val; rw [e]; omega)
  | ⟨1, _⟩ => exact Fin.ext (by show win0_4.index t (1 : Fin 2) * 3072 + 1 * f.val = f.val; rw [e]; omega)

theorem iblk_bias (t : Fin cfg0.N) (f : Fin 3072) : iblk m c 5 t (ix2 0 f) = bias m c f := by
  obtain ⟨-, -, -, -, -, -, -, -, e, -⟩ := starts t
  refine Eq.trans (congrArg (V m c main_v2) (funext fun a => ?_)) (entry_bias m c f)
  match a with
  | ⟨0, _⟩ => exact Fin.ext (by show win0_5.index t (0 : Fin 2) * 1 + 1 * 0 = 0; rw [e])
  | ⟨1, _⟩ => exact Fin.ext (by show win0_5.index t (1 : Fin 2) * 3072 + 1 * f.val = f.val; rw [e]; omega)

theorem iblk_tap (t : Fin cfg0.N) (j : Fin 3) (f : Fin 3072) : iblk m c 6 t (ix2 j f) = tap m c j f := by
  obtain ⟨-, -, -, -, -, -, -, -, -, e, -⟩ := starts t
  refine (congrFun (V_main_arg4 m c) _).trans (congrArg (m ((c : Thread nD τ).loc main_arg4)) (funext fun a => ?_))
  match a with
  | ⟨0, _⟩ => exact Fin.ext (by show win0_6.index t (0 : Fin 2) * 3 + 1 * j.val = j.val; rw [e]; omega)
  | ⟨1, _⟩ => exact Fin.ext (by show win0_6.index t (1 : Fin 2) * 3072 + 1 * f.val = f.val; rw [e]; omega)

theorem iblk_shift (t : Fin cfg0.N) (f : Fin 3072) : iblk m c 7 t (ix2 0 f) = shift m c f := by
  obtain ⟨-, -, -, -, -, -, -, -, -, -, e, -⟩ := starts t
  refine Eq.trans (congrArg (V m c main_v3) (funext fun a => ?_)) (entry_shift m c f)
  match a with
  | ⟨0, _⟩ => exact Fin.ext (by show win0_7.index t (0 : Fin 2) * 1 + 1 * 0 = 0; rw [e])
  | ⟨1, _⟩ => exact Fin.ext (by show win0_7.index t (1 : Fin 2) * 3072 + 1 * f.val = f.val; rw [e]; omega)

/-! ## What a point leaves -/

/-- The projection of the whole arrays. -/
abbrev projection (R : Fin 81920) (f : Fin 3072) : EReal := projected (tokens m c) (gain m c) (weights m c) (bias m c) R f

theorem line_at (t : Fin cfg0.N) (x : Fin 528) (f : Fin 3072) (R : Fin 81920)
    (hx : ∀ k, stacked (iblk m c 0 t) (iblk m c 1 t) (iblk m c 2 t) x k = tokens m c R k) :
    line (iblk m c 0 t) (iblk m c 1 t) (iblk m c 2 t) (iblk m c 3 t) (iblk m c 4 t) (iblk m c 5 t) x f = projection m c R f := by
  unfold line projection projected
  refine congrArg₂ (· + ·) (Finset.sum_congr rfl fun k _ => congrArg₂ (· * ·) ?_ (iblk_weights m c t k f)) (iblk_bias m c t f)
  exact congrArg₂ (fun x g => unitRow x g k) (funext hx) (funext fun k => iblk_gain m c t k)

theorem line_own (t : Fin cfg0.N) (x : Fin 528) (f : Fin 3072) (h : x.val < 512) :
    line (iblk m c 0 t) (iblk m c 1 t) (iblk m c 2 t) (iblk m c 3 t) (iblk m c 4 t) (iblk m c 5 t) x f = projection m c (row t ⟨x.val, h⟩) f :=
  line_at m c t x f _ fun k => by
    unfold stacked
    rw [dif_pos h]
    exact iblk_own m c t ⟨x.val, h⟩ k

theorem taps_at (t : Fin cfg0.N) (r : Fin 512) (f : Fin 3072) :
    taps (grid0.coords t) (iblk m c 0 t) (iblk m c 1 t) (iblk m c 2 t) (iblk m c 3 t) (iblk m c 4 t) (iblk m c 5 t) (iblk m c 6 t) (iblk m c 7 t) r f
      = filtered (tokens m c) (gain m c) (weights m c) (bias m c) (tap m c) (shift m c) (row t r) f := by
  have ht := lt_N t
  have hr := r.isLt
  have hR : (row t r).val = 512 * t.val + r.val := rfl
  obtain ⟨p, q⟩ := edges t
  unfold taps filtered
  rw [p, q, iblk_tap, iblk_tap, iblk_tap, iblk_shift]
  refine congrArg (· + _) (congrArg₂ (· + ·) (congrArg₂ (· + ·) (congrArg (· * _) ?_) (congrArg (· * _) (line_own m c t _ f hr))) (congrArg (· * _) ?_))
  · by_cases h : r.val = 0
    · rw [if_pos h]
      by_cases h' : t.val % 16 = 0
      · rw [if_pos h', if_pos (by omega), mul_zero]
      · rw [if_neg h', if_neg (by omega), mul_one]
        refine line_at m c t 519 f _ fun k => ?_
        unfold stacked
        rw [dif_neg (by decide), dif_pos (by decide)]
        exact iblk_before m c t _ k _ (by show (row t r).val - 1 = 8 * (64 * t.val - 1) + 7; omega)
    · rw [if_neg h, if_neg (by omega)]
      refine (line_own m c t _ f (by show r.val - 1 < 512; omega)).trans (congrArg (fun R => projection m c R f) (Fin.ext ?_))
      show 512 * t.val + (r.val - 1) = (row t r).val - 1
      omega
  · by_cases h : r.val = 511
    · rw [if_pos h]
      by_cases h' : t.val % 16 = 15
      · rw [if_pos h', dif_pos (by omega), mul_zero]
      · rw [if_neg h', dif_neg (by omega), mul_one]
        refine line_at m c t 520 f _ fun k => ?_
        unfold stacked
        rw [dif_neg (by decide), dif_neg (by decide)]
        exact iblk_after m c t _ k _ (by show (row t r).val + 1 = 8 * min (64 * t.val + 64) 10239 + 0; omega)
    · rw [if_neg h, dif_neg (by omega)]
      exact line_own m c t _ f (by show r.val + 1 < 512; omega)

/-! ## The whole arrays -/

/-- The filter of the whole arrays. -/
abbrev answer (R : Fin 81920) (f : Fin 3072) : EReal :=
  filtered (tokens m c) (gain m c) (weights m c) (bias m c) (tap m c) (shift m c) R f

/-- The first result: the filter's first group of columns. -/
def whole8 : Buf (Elt Ideal) ((c : Thread nD τ).loc main_v4_0) := fun i =>
  answer m c (i 0) ⟨(i 1).val, by have : (i 1).val < 1024 := (i 1).isLt; omega⟩
/-- The second: the third group times the second. -/
def whole9 : Buf (Elt Ideal) ((c : Thread nD τ).loc main_v4_1) := fun i =>
  answer m c (i 0) ⟨2048 + (i 1).val, by have : (i 1).val < 1024 := (i 1).isLt; omega⟩
    * answer m c (i 0) ⟨1024 + (i 1).val, by have : (i 1).val < 1024 := (i 1).isLt; omega⟩

theorem flushed8_eq (t : Fin cfg0.N) (hf : (cfg0.win 8).flush t = true) :
    (dats m 0 c).flushed 8 t = ((cfg0.win 8).blk t).view.read (Elt Ideal) (whole8 m c) := by
  rw [Cert.HyenaIdeal.Value.flushed8]
  obtain ⟨-, -, -, -, -, -, -, -, -, -, -, e0, e1, -⟩ := starts t
  funext y
  obtain ⟨r, C, rfl⟩ : ∃ (r : Fin 512) (C : Fin 1024), y = ix2 r C :=
    ⟨y 0, y 1, by funext a; match a with | ⟨0, _⟩ => rfl | ⟨1, _⟩ => rfl⟩
  refine (out8_at _ _ _ _ _ _ _ _ _ r C).trans ((taps_at m c t r _).trans ?_)
  refine congrArg₂ (answer m c) (Fin.ext ?_) (Fin.ext ?_)
  · show 512 * t.val + r.val = win0_8.index t (0 : Fin 2) * 512 + 1 * r.val
    rw [e0]; omega
  · show C.val = win0_8.index t (1 : Fin 2) * 1024 + 1 * C.val
    rw [e1]; omega

theorem flushed9_eq (t : Fin cfg0.N) (hf : (cfg0.win 9).flush t = true) :
    (dats m 0 c).flushed 9 t = ((cfg0.win 9).blk t).view.read (Elt Ideal) (whole9 m c) := by
  rw [Cert.HyenaIdeal.Value.flushed9]
  obtain ⟨-, -, -, -, -, -, -, -, -, -, -, -, -, e0, e1⟩ := starts t
  funext y
  obtain ⟨r, C, rfl⟩ : ∃ (r : Fin 512) (C : Fin 1024), y = ix2 r C :=
    ⟨y 0, y 1, by funext a; match a with | ⟨0, _⟩ => rfl | ⟨1, _⟩ => rfl⟩
  refine (out9_at _ _ _ _ _ _ _ _ _ r C).trans ((congrArg₂ (· * ·) (taps_at m c t r _) (taps_at m c t r _)).trans ?_)
  have h0 : row t r = ((cfg0.win 9).blk t).view.emb (ix2 r C) 0 := Fin.ext (by
    show 512 * t.val + r.val = win0_9.index t (0 : Fin 2) * 512 + 1 * r.val
    rw [e0]; omega)
  have h1 : C.val = (((cfg0.win 9).blk t).view.emb (ix2 r C) 1).val := by
    show C.val = win0_9.index t (1 : Fin 2) * 1024 + 1 * C.val
    rw [e1]; omega
  exact congrArg₂ (· * ·) (congrArg₂ (answer m c) h0 (Fin.ext (congrArg (2048 + ·) h1))) (congrArg₂ (answer m c) h0 (Fin.ext (congrArg (1024 + ·) h1)))

/-- Every row lies in the block of its point. -/
theorem within (i : S81920x1024.Idx) : ∃ t : Fin cfg0.N, 512 * t.val ≤ (i 0).val ∧ (i 0).val < 512 * t.val + 512 ∧ (i 1).val < 1024 := by
  have h0 : (i 0).val < 81920 := (i 0).isLt
  have hl : (i 0).val / 512 < 160 := by omega
  exact ⟨⟨(i 0).val / 512, Nat.lt_of_lt_of_eq hl N_0.symm⟩, by show 512 * ((i 0).val / 512) ≤ _; omega,
    by show _ < 512 * ((i 0).val / 512) + 512; omega, (i 1).isLt⟩

theorem covered8 (i : S81920x1024.Idx) : ∃ t : Fin cfg0.N, (cfg0.win 8).flush t = true ∧ i ∈ ((cfg0.win 8).blk t).view.set := by
  obtain ⟨t, h0, h1, h2⟩ := within i
  obtain ⟨-, -, -, -, -, -, -, -, -, -, -, e0, e1, -⟩ := starts t
  refine ⟨t, flush0_8 t, ?_⟩
  show i ∈ ((View.whole main_v4_0).slice (win0_8.rect t)).set
  rw [View.set_slice_whole, Rect.mem_set_unit]
  intro a
  match a with
  | ⟨0, _⟩ => show win0_8.index t (0 : Fin 2) * 512 ≤ (i 0).val ∧ (i 0).val < win0_8.index t (0 : Fin 2) * 512 + 512; omega
  | ⟨1, _⟩ => show win0_8.index t (1 : Fin 2) * 1024 ≤ (i 1).val ∧ (i 1).val < win0_8.index t (1 : Fin 2) * 1024 + 1024; omega

theorem covered9 (i : S81920x1024.Idx) : ∃ t : Fin cfg0.N, (cfg0.win 9).flush t = true ∧ i ∈ ((cfg0.win 9).blk t).view.set := by
  obtain ⟨t, h0, h1, h2⟩ := within i
  obtain ⟨-, -, -, -, -, -, -, -, -, -, -, -, -, e0, e1⟩ := starts t
  refine ⟨t, flush0_9 t, ?_⟩
  show i ∈ ((View.whole main_v4_1).slice (win0_9.rect t)).set
  rw [View.set_slice_whole, Rect.mem_set_unit]
  intro a
  match a with
  | ⟨0, _⟩ => show win0_9.index t (0 : Fin 2) * 512 ≤ (i 0).val ∧ (i 0).val < win0_9.index t (0 : Fin 2) * 512 + 512; omega
  | ⟨1, _⟩ => show win0_9.index t (1 : Fin 2) * 1024 ≤ (i 1).val ∧ (i 1).val < win0_9.index t (1 : Fin 2) * 1024 + 1024; omega

theorem array8 : (dats m 0 c).arrAt 8 cfg0.N = whole8 m c :=
  (dats m 0 c).arrAt_eq_of_cover 8 _ (flushed8_eq m c) covered8
theorem array9 : (dats m 0 c).arrAt 9 cfg0.N = whole9 m c :=
  (dats m 0 c).arrAt_eq_of_cover 9 _ (flushed9_eq m c) covered9

/-- The run: the results are the filter, the arguments unchanged. -/
theorem run : θ_run defs (onTc (τ := τ) (main (F := Ideal))) ⟨m, fun _ => 0, ρ⟩ (fun r => ∀ c : Dev nD,
    r.2.mem ((c.tc : Thread nD τ).loc main_v4_0) = whole8 m c
    ∧ r.2.mem ((c.tc : Thread nD τ).loc main_v4_1) = whole9 m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) :=
  (θ_run defs _ _).mono (fun _ h c => ⟨(h c).1.trans (array8 m c), (h c).2.1.trans (array9 m c), (h c).2.2⟩)
    (Cert.HyenaIdeal.Value.run_blocks m ρ)

end Cert.HyenaIdeal.Filter

end
-- ==== Proof.Filter.Reference.lean ====
module

public import proofs.«01_k».proof.Proof.Filter.Spec
public import proofs.«01_k».proof.Proof.Gen.HyenaReferenceIdeal.Read

@[expose] public section

set_option maxRecDepth 16384

/-! # The reference's results are the filter of the whole arrays -/

noncomputable section

namespace Cert.HyenaReferenceIdeal.Filter

open Cert.HyenaReferenceIdeal Cert.HyenaReferenceIdeal.Read Cert.Filter
open Idealize.ShloMosaic

variable (x0 : (⟨S81920x1024, .f32⟩ : BufTy).Contents (Elt Ideal)) (x1 : (⟨S1024, .f32⟩ : BufTy).Contents (Elt Ideal))
  (x2 : (⟨S1024x3072, .f32⟩ : BufTy).Contents (Elt Ideal)) (x3 : (⟨S3072, .f32⟩ : BufTy).Contents (Elt Ideal))
  (x4 : (⟨S3x3072, .f32⟩ : BufTy).Contents (Elt Ideal)) (x5 : (⟨S3072, .f32⟩ : BufTy).Contents (Elt Ideal))

/-- Token `l` of request `a`, among all tokens. -/
def tokenOf (a : Fin 10) (l : Fin 8192) : Fin 81920 := ⟨8192 * a.val + l.val, by have := a.isLt; have := l.isLt; omega⟩

theorem tokens_at (a : Fin 10) (l : Fin 8192) (k : Fin 1024) : val_main_v0 (F := Ideal) x0 (ix3 a l k) = x0 (ix2 (tokenOf a l) k) := by
  pointwise [val_main_v0]
  exact congrArg (fun R => x0 (ix2 R k)) (Fin.ext (by show a.val * 8192 + l.val = 8192 * a.val + l.val; omega))

theorem scaled_at (a : Fin 10) (l : Fin 8192) (k : Fin 1024) : val_main_v13 (F := Ideal) x0 x1 (ix3 a l k)
    = unitRow (fun k => x0 (ix2 (tokenOf a l) k)) (fun k => x1 (ix1 k)) k := by
  unfold unitRow val_main_v13 val_main_v12 val_main_v11 val_main_v10 val_main_v9 val_main_v8 val_main_v7 val_main_v6 val_main_v5 val_main_v4
    val_main_v3 val_main_v2 val_main_v1 val_main_cst val_main_cst_0 val_main_cst_1
  have h := tokens_at x0
  generalize val_main_v0 (F := Ideal) x0 = y at *
  pointwise
  simp only [h]

theorem projected_at (a : Fin 10) (l : Fin 8192) (f : Fin 3072) : val_main_v17 (F := Ideal) x0 x1 x2 x3 (ix3 a l f)
    = projected (fun R k => x0 (ix2 R k)) (fun k => x1 (ix1 k)) (fun k f => x2 (ix2 k f)) (fun f => x3 (ix1 f)) (tokenOf a l) f := by
  unfold projected val_main_v17 val_main_v16 val_main_v15 val_main_v14
  have h := scaled_at x0 x1
  generalize val_main_v13 (F := Ideal) x0 x1 = y at *
  pointwise
  simp only [h]

/-- The padded projection, one row on. -/
theorem padded_at (a : Fin 10) (l : Fin 8194) (f : Fin 3072) : val_main_v18 (F := Ideal) x0 x1 x2 x3 (ix3 a l f)
    = if h : 1 ≤ l.val ∧ l.val - 1 < 8192 then val_main_v17 (F := Ideal) x0 x1 x2 x3 (ix3 a ⟨l.val - 1, h.2⟩ f) else 0 := by
  unfold val_main_v18 val_main_call0_v0 val_main_c
  generalize val_main_v17 (F := Ideal) x0 x1 x2 x3 = y
  pointwise
  have zero : FloatOps.sitofp (F := Ideal) FTy.f32 0#32 = (0 : EReal) := by
    show (((0#32 : BitVec 32).toInt : ℝ) : EReal) = 0
    norm_num
  rw [zero]

theorem filtered_at (a : Fin 10) (l : Fin 8192) (f : Fin 3072) : val_main_v40 (F := Ideal) x0 x1 x2 x3 x4 x5 (ix3 a l f)
    = filtered (fun R k => x0 (ix2 R k)) (fun k => x1 (ix1 k)) (fun k f => x2 (ix2 k f)) (fun f => x3 (ix1 f)) (fun j f => x4 (ix2 j f))
      (fun f => x5 (ix1 f)) (tokenOf a l) f := by
  have hl := l.isLt
  have ha := a.isLt
  have hR : (tokenOf a l).val = 8192 * a.val + l.val := rfl
  unfold filtered val_main_v40 val_main_v39 val_main_v38 val_main_v37 val_main_v36 val_main_v35 val_main_v34 val_main_v33 val_main_v32 val_main_v31
    val_main_v30 val_main_v29 val_main_v28 val_main_v27 val_main_v26 val_main_v25 val_main_v24 val_main_v23 val_main_v22 val_main_v21
    val_main_v20 val_main_v19
  have h := projected_at x0 x1 x2 x3
  have h' := padded_at x0 x1 x2 x3
  generalize val_main_v18 (F := Ideal) x0 x1 x2 x3 = z at *
  generalize val_main_v17 (F := Ideal) x0 x1 x2 x3 = y at *
  pointwise
  rw [h', h']
  simp only [h]
  refine congrArg (· + _) (congrArg₂ (· + ·) (congrArg (· + _) (congrArg (· * _) ?_)) (congrArg (· * _) ?_))
  · by_cases e : l.val = 0
    · rw [dif_neg (by show ¬(1 ≤ l.val ∧ _); omega), if_pos (by omega)]
    · rw [dif_pos (by show 1 ≤ l.val ∧ l.val - 1 < 8192; omega), if_neg (by omega)]
      exact congrArg (fun R => projected _ _ _ _ R f) (Fin.ext (by show 8192 * a.val + (l.val - 1) = (tokenOf a l).val - 1; omega))
  · by_cases e : l.val = 8191
    · rw [dif_neg (by show ¬(1 ≤ 2 + l.val ∧ 2 + l.val - 1 < 8192); omega), dif_pos (by omega)]
    · rw [dif_pos (by show 1 ≤ 2 + l.val ∧ 2 + l.val - 1 < 8192; omega), dif_neg (by omega)]
      exact congrArg (fun R => projected _ _ _ _ R f) (Fin.ext (by show 8192 * a.val + (2 + l.val - 1) = (tokenOf a l).val + 1; omega))

/-- A token's request and its place there. -/
theorem of_token (R : Fin 81920) : tokenOf ⟨R.val / 8192, by have := R.isLt; omega⟩ ⟨R.val % 8192, Nat.mod_lt _ (by decide)⟩ = R :=
  Fin.ext (Nat.div_add_mod R.val 8192)

/-- The filter of the whole arrays. -/
abbrev answer (R : Fin 81920) (f : Fin 3072) : EReal :=
  filtered (fun R k => x0 (ix2 R k)) (fun k => x1 (ix1 k)) (fun k f => x2 (ix2 k f)) (fun f => x3 (ix1 f)) (fun j f => x4 (ix2 j f))
    (fun f => x5 (ix1 f)) R f

theorem first_at (R : Fin 81920) (C : Fin 1024) : val_main_v44 (F := Ideal) x0 x1 x2 x3 x4 x5 (ix2 R C)
    = answer x0 x1 x2 x3 x4 x5 R ⟨C.val, by have := C.isLt; omega⟩ := by
  have h := filtered_at x0 x1 x2 x3 x4 x5
  unfold val_main_v44 val_main_v41
  generalize val_main_v40 (F := Ideal) x0 x1 x2 x3 x4 x5 = y at *
  pointwise
  rw [h, of_token]

theorem second_at (R : Fin 81920) (C : Fin 1024) : val_main_v46 (F := Ideal) x0 x1 x2 x3 x4 x5 (ix2 R C)
    = answer x0 x1 x2 x3 x4 x5 R ⟨2048 + C.val, by have := C.isLt; omega⟩ * answer x0 x1 x2 x3 x4 x5 R ⟨1024 + C.val, by have := C.isLt; omega⟩ := by
  have h := filtered_at x0 x1 x2 x3 x4 x5
  unfold val_main_v46 val_main_v45 val_main_v43 val_main_v42
  generalize val_main_v40 (F := Ideal) x0 x1 x2 x3 x4 x5 = y at *
  pointwise
  rw [h, h, of_token]

end Cert.HyenaReferenceIdeal.Filter

end
-- ==== Proof.Out.Spec.lean ====
module

public import proofs.«01_k».proof.Proof.Filter.Spec

@[expose] public section

/-! # What a mixer's output hands on: the scaled row and the experts' shares, as mathematics -/

noncomputable section

namespace Cert.Out

open Cert.Filter Idealize.ShloMosaic

variable (x g : Fin 1024 → EReal) (W : Fin 1024 → Fin 16 → EReal)

/-- The router's score of a row for expert `e`. -/
def score (e : Fin 16) : EReal := ∑ k : Fin 1024, unitRow x g k * W k e

/-- The greatest score. -/
def greatest : EReal := Finset.fold max ⊥ (fun e : Fin 16 => score x g W e) Finset.univ

/-- Expert `e`'s share: the softmax of the scores. -/
def share (e : Fin 16) : EReal :=
  Ideal.div (Ideal.exp (score x g W e - greatest x g W)) (∑ e' : Fin 16, Ideal.exp (score x g W e' - greatest x g W))

/-- Column `y` of the head of column `C`: the 2048 columns are four heads of 512. -/
def inHead (C : Fin 2048) (y : Fin 512) : Fin 2048 := ⟨512 * (C.val / 512) + y.val, by have := C.isLt; have := y.isLt; omega⟩

/-- A row scaled to root mean square one within each head, times the gain. -/
def headRow (v g : Fin 2048 → EReal) (C : Fin 2048) : EReal :=
  v C * Ideal.rsqrt (Ideal.div (∑ y : Fin 512, v (inHead C y) * v (inHead C y)) (Ideal.ofBits .f32 0x44000000#32) + Ideal.ofBits .f32 0x358637BD#32) * g C

/-- The same from the columns of one head. -/
theorem headRow_eq (v g : Fin 2048 → EReal) (C : Fin 2048) (at' : Fin 512 → Fin 2048) (f : Fin 512) (hC : at' f = C)
    (hh : ∀ y, (at' y).val = 512 * (C.val / 512) + y.val) :
    v (at' f) * Ideal.rsqrt (Ideal.div (∑ y : Fin 512, v (at' y) * v (at' y)) (Ideal.ofBits .f32 0x44000000#32) + Ideal.ofBits .f32 0x358637BD#32) * g (at' f)
      = headRow v g C := by
  obtain rfl : at' = inHead C := funext fun y => Fin.ext (hh y)
  rw [hC]
  rfl

theorem word_bottom : Ideal.ofBits .f32 0xFF800000#32 = ⊥ := by simp [Ideal.ofBits, Ideal.ieee]

end Cert.Out

end
-- ==== Proof.Out.Halves.lean ====
module

public import Idealize.ShloMosaic.Lib.Pointwise
public import Idealize.ShloMosaic.Lib.Pipeline.Value
public import Idealize.ShloMosaic.Lib.Pipeline.FrameBody

@[expose] public section

/-! # A block of 1024 columns stored and loaded in two halves -/

noncomputable section

namespace Cert.Out

open Idealize.ShloMosaic

variable {A : ℕ}

/-- Loading the whole of a block gives what its stores leave. -/
theorem load_whole {F : FTy → Type} [FloatOps F] {sig : RefSig} {κ : Kind} {sp : Space} {e : EltTy}
    (v : View sig κ sp ⟨2, ![A, 1024]⟩ e) (L : List (View.Piece (Elt F) ⟨2, ![A, 1024]⟩ e)) (inb) :
    v.readCov L (Rect.unit (s := ⟨2, ![A, 1024]⟩) ![0, 0] (⟨2, ![A, 1024]⟩ : Shape).size inb).toLoadRect = View.canon L := by
  rw [View.readCov_eq_canon']
  funext j
  refine congrArg (View.canon L) (funext fun a => Fin.ext ?_)
  match a with
  | ⟨0, _⟩ => show 0 + 1 * (j 0).val = (j 0).val; omega
  | ⟨1, _⟩ => show 0 + 1 * (j 1).val = (j 1).val; omega

/-- A load of 512 columns from column `o` on. -/
theorem ld_half {e : EltTy} (o : ℕ) (x : Vec Ideal ⟨2, ![A, 1024]⟩ e) (inb) (k : Fin A) (f : Fin 512) (h : o + f.val < 1024) :
    View.ld x (Rect.unit (s := ⟨2, ![A, 1024]⟩) ![0, o] (⟨2, ![A, 512]⟩ : Shape).size inb) (ix2 k f) = x (ix2 k ⟨o + f.val, h⟩) := by
  show x _ = x _
  congr 1
  funext a
  match a with
  | ⟨0, _⟩ => exact Fin.ext (by show 0 + 1 * k.val = k.val; omega)
  | ⟨1, _⟩ => exact Fin.ext (by show o + 1 * f.val = o + f.val; omega)

/-- Two stores side by side hold a function that each of them holds. -/
theorem halves (G : Fin A → Fin 1024 → EReal) (p q : FVec Ideal ⟨2, ![A, 512]⟩ .f32) (ip) (iq)
    (hp : ∀ (r : Fin A) (f : Fin 512), p (ix2 r f) = G r ⟨512 + f.val, by have := f.isLt; omega⟩)
    (hq : ∀ (r : Fin A) (f : Fin 512), q (ix2 r f) = G r ⟨0 + f.val, by have := f.isLt; omega⟩) (r : Fin A) (C : Fin 1024) :
    View.canon (Val := Elt Ideal) (s := ⟨2, ![A, 1024]⟩) (e := .f32)
      [⟨Rect.unit (s := ⟨2, ![A, 1024]⟩) ![0, 512] (⟨2, ![A, 512]⟩ : Shape).size ip, p⟩,
       ⟨Rect.unit (s := ⟨2, ![A, 1024]⟩) ![0, 0] (⟨2, ![A, 512]⟩ : Shape).size iq, q⟩] (ix2 r C) = G r C := by
  have put : ∀ (o : ℕ) (inb) (w : FVec Ideal ⟨2, ![A, 512]⟩ .f32) (_ : ∀ (r : Fin A) (f : Fin 512), ∃ h, w (ix2 r f) = G r ⟨o + f.val, h⟩)
      (x : (Rect.unit (s := ⟨2, ![A, 1024]⟩) ![0, o] (⟨2, ![A, 512]⟩ : Shape).size inb).shape.Idx),
      w x = G ((Rect.unit (s := ⟨2, ![A, 1024]⟩) ![0, o] (⟨2, ![A, 512]⟩ : Shape).size inb).emb x 0)
        ((Rect.unit (s := ⟨2, ![A, 1024]⟩) ![0, o] (⟨2, ![A, 512]⟩ : Shape).size inb).emb x 1) := by
    intro o inb w hw x
    obtain ⟨r, f, rfl⟩ : ∃ (r : Fin A) (f : Fin 512), x = ix2 r f := ⟨x 0, x 1, by funext a; match a with | ⟨0, _⟩ => rfl | ⟨1, _⟩ => rfl⟩
    obtain ⟨h, e⟩ := hw r f
    refine e.trans (congrArg₂ G (Fin.ext ?_) (Fin.ext ?_))
    · show r.val = 0 + 1 * r.val; omega
    · show o + f.val = o + 1 * f.val; omega
  refine View.canon_apply_of_pieces (Val := Elt Ideal) (e := .f32) (fun y : (⟨2, ![A, 1024]⟩ : Shape).Idx => G (y 0) (y 1)) _ ?_ _ ?_
  · intro pc hpc x
    rcases List.mem_cons.mp hpc with rfl | hpc
    · exact put 512 ip p (fun r f => ⟨_, hp r f⟩) x
    · obtain rfl := List.mem_singleton.mp hpc
      exact put 0 iq q (fun r f => ⟨_, hq r f⟩) x
  · have hr := r.isLt
    have hC := C.isLt
    by_cases h : 512 ≤ C.val
    · refine ⟨_, List.mem_cons_self, ?_⟩
      rw [Rect.mem_set_unit]
      intro a
      match a with
      | ⟨0, _⟩ => show 0 ≤ r.val ∧ r.val < 0 + A; omega
      | ⟨1, _⟩ => show 512 ≤ C.val ∧ C.val < 512 + 512; omega
    · refine ⟨_, List.mem_cons_of_mem _ List.mem_cons_self, ?_⟩
      rw [Rect.mem_set_unit]
      intro a
      match a with
      | ⟨0, _⟩ => show 0 ≤ r.val ∧ r.val < 0 + A; omega
      | ⟨1, _⟩ => show 0 ≤ C.val ∧ C.val < 0 + 512; omega

end Cert.Out

end
-- ==== Proof.Out.Gqa.lean ====
module

public import proofs.«01_k».proof.Proof.Gen.GqaIdeal.Value
public import proofs.«01_k».proof.Proof.Out.Spec
public import proofs.«01_k».proof.Proof.Out.Halves
public import Idealize.ShloMosaic.Lib.Pointwise
public import Idealize.ShloMosaic.Lib.Pipeline.Value

@[expose] public section

set_option maxRecDepth 16384

/-! # What one grid point of the attention's output projection leaves -/

noncomputable section

namespace Cert.GqaIdeal.Out

open Cert.GqaIdeal Cert.GqaIdeal.Gen Cert.GqaIdeal.Value Cert.Filter Cert.Out
open Idealize.ShloMosaic Idealize.ShloMosaic.TcCoe Idealize.ShloMosaic.Tactic Idealize.SL.Sem

section Formula

variable {F : FTy → Type} [FloatOps F]

theorem offs : (![0, 0] : Fin 2 → Nat) = fun _ => 0 := by funext a; match a with | ⟨0, _⟩ => rfl | ⟨1, _⟩ => rfl

variable (c : Dev nD) (i : grid0.Coords)
    (a1 : Memref sig .tc .vmem S512x1024 .bf16) (h1 : a1.IsWhole) (a2 : Memref sig .tc .vmem S1024x1024 .bf16) (h2 : a2.IsWhole)
    (a3 : Memref sig .tc .vmem S1x1024 .f32) (h3 : a3.IsWhole) (a4 : Memref sig .tc .vmem S512x1024 .f32) (h4 : a4.IsWhole)
    (a5 : Memref sig .tc .vmem S1x1024 .f32) (h5 : a5.IsWhole) (a6 : Memref sig .tc .vmem S16x1024 .f32) (h6 : a6.IsWhole)
    (a7 : Memref sig .tc .vmem S512x1024 .f32) (h7 : a7.IsWhole) (a8 : Memref sig .tc .vmem S512x1024 .bf16) (h8 : a8.IsWhole)
    (a9 : Memref sig .tc .vmem S16x512 .f32) (h9 : a9.IsWhole)
    (x0 : Vec F S512x1024 .bf16) (x1 : Vec F S1024x1024 .bf16) (x2 : Vec F S1x1024 .f32) (x3 : Vec F S512x1024 .f32)
    (x4 : Vec F S1x1024 .f32) (x5 : Vec F S16x1024 .f32)

/-- The new rows: the old ones, the bias and the product, in two halves of the columns. -/
def fresh : Vec F S512x1024 .f32 := View.canon
  [⟨Rect.unit (s := S512x1024) ![0, 512] S512x512.size inb_S512x1024_S512x512_0_512,
      k0_pay5 x0 (View.ld x3 (Rect.unit (s := S512x1024) ![0, 512] S512x512.size inb_S512x1024_S512x512_0_512))
        (View.ld x2 (Rect.unit (s := S1x1024) ![0, 512] S1x512.size inb_S1x1024_S1x512_0_512))
        (View.ld x1 (Rect.unit (s := S1024x1024) ![0, 512] S1024x512.size inb_S1024x1024_S1024x512_0_512))⟩,
   ⟨Rect.unit (s := S512x1024) ![0, 0] S512x512.size inb_S512x1024_S512x512_0_0,
      k0_pay4 x0 (View.ld x3 (Rect.unit (s := S512x1024) ![0, 0] S512x512.size inb_S512x1024_S512x512_0_0))
        (View.ld x2 (Rect.unit (s := S1x1024) ![0, 0] S1x512.size inb_S1x1024_S1x512_0_0))
        (View.ld x1 (Rect.unit (s := S1024x1024) ![0, 0] S1024x512.size inb_S1024x1024_S1024x512_0_0))⟩]

theorem out6_eq : out0_A_6 c i a1 h1 a2 h2 a3 h3 a4 h4 a5 h5 a6 h6 a7 h7 a8 h8 a9 h9 x0 x1 x2 x3 x4 x5 = fresh x0 x1 x2 x3 := by
  unfold out0_A_6
  rw [View.read_writes_eq_canon _ _ _ (cover0_A_6 c i a1 h1 a2 h2 a3 h3 a4 h4 a5 h5 a6 h6 a7 h7 a8 h8 a9 h9 x0 x1 x2 x3 x4 x5)]
  unfold kernelRun0_A fresh
  dsimp only
  sl_unfold_words
  simp only [View.readAt_eq_ld, h1.read_unread, h2.read_unread, h3.read_unread, h4.read_unread, View.ld_unit_zero (S := S512x1024) offs]

theorem out7_eq : out0_A_7 c i a1 h1 a2 h2 a3 h3 a4 h4 a5 h5 a6 h6 a7 h7 a8 h8 a9 h9 x0 x1 x2 x3 x4 x5
    = k0_pay2 (k0_pay6 (fresh x0 x1 x2 x3)) (k0_pay7 x4) (k0_pay8 (fresh x0 x1 x2 x3)) (Scalar.ofBits .f32 0x358637BD#32) := by
  unfold out0_A_7
  rw [View.read_writes_eq_canon _ _ _ (cover0_A_7 c i a1 h1 a2 h2 a3 h3 a4 h4 a5 h5 a6 h6 a7 h7 a8 h8 a9 h9 x0 x1 x2 x3 x4 x5)]
  unfold kernelRun0_A fresh
  dsimp only
  sl_unfold_words
  rw [View.canon_unit_zero (S := S512x1024) offs]
  simp only [View.readAt_eq_ld, h1.read_unread, h2.read_unread, h3.read_unread, h4.read_unread, h5.read_unread, View.ld_unit_zero (S := S512x1024) offs,
    View.ld_unit_zero (S := S1x1024) offs]
  exact congrArg (fun z => k0_pay2 (k0_pay6 z) (k0_pay7 x4) (k0_pay8 z) (Scalar.ofBits .f32 0x358637BD#32)) (load_whole a7.view _ _)

theorem out8_eq : out0_A_8 c i a1 h1 a2 h2 a3 h3 a4 h4 a5 h5 a6 h6 a7 h7 a8 h8 a9 h9 x0 x1 x2 x3 x4 x5
    = k0_pay3 (k0_pay6 (fresh x0 x1 x2 x3)) (k0_pay7 x4) (k0_pay8 (fresh x0 x1 x2 x3)) (Scalar.ofBits .f32 0x358637BD#32) x5 := by
  unfold out0_A_8
  rw [View.read_writes_eq_canon _ _ _ (cover0_A_8 c i a1 h1 a2 h2 a3 h3 a4 h4 a5 h5 a6 h6 a7 h7 a8 h8 a9 h9 x0 x1 x2 x3 x4 x5)]
  unfold kernelRun0_A fresh
  dsimp only
  sl_unfold_words
  rw [View.canon_unit_zero (S := S16x512) offs]
  simp only [View.readAt_eq_ld, h1.read_unread, h2.read_unread, h3.read_unread, h4.read_unread, h5.read_unread, h6.read_unread, View.ld_unit_zero (S := S512x1024) offs,
    View.ld_unit_zero (S := S1x1024) offs, View.ld_unit_zero (S := S16x1024) offs]
  exact congrArg (fun z => k0_pay3 (k0_pay6 z) (k0_pay7 x4) (k0_pay8 z) (Scalar.ofBits .f32 0x358637BD#32) x5) (load_whole a7.view _ _)

end Formula

/-! ## The route at the ideal numbers, read at an index -/

section At

variable (y : FVec Ideal S512x1024 .f32) (g : FVec Ideal S1x1024 .f32) (w : Vec Ideal S16x1024 .f32)

theorem pay1_at (r : Fin 512) (k : Fin 1024) :
    k0_pay1 (F := Ideal) (k0_pay6 y) (k0_pay7 g) (k0_pay8 y) (Scalar.ofBits .f32 0x358637BD#32) (ix2 r k)
      = unitRow (fun k => y (ix2 r k)) (fun k => g (ix2 0 k)) k := by
  unfold unitRow
  pointwise [k0_pay1, k0_pay6, k0_pay7, k0_pay8]

theorem pay2_at (r : Fin 512) (k : Fin 1024) :
    k0_pay2 (F := Ideal) (k0_pay6 y) (k0_pay7 g) (k0_pay8 y) (Scalar.ofBits .f32 0x358637BD#32) (ix2 r k)
      = unitRow (fun k => y (ix2 r k)) (fun k => g (ix2 0 k)) k := by
  rw [← pay1_at]
  rfl

theorem pay3_at (e : Fin 16) (r : Fin 512) :
    k0_pay3 (F := Ideal) (k0_pay6 y) (k0_pay7 g) (k0_pay8 y) (Scalar.ofBits .f32 0x358637BD#32) w (ix2 e r)
      = share (fun k => y (ix2 r k)) (fun k => g (ix2 0 k)) (fun k e => w (ix2 e k)) e := by
  have h := fun k => pay1_at y g r k
  unfold share greatest score k0_pay3
  generalize k0_pay1 (F := Ideal) (k0_pay6 y) (k0_pay7 g) (k0_pay8 y) (Scalar.ofBits .f32 0x358637BD#32) = z at *
  pointwise
  simp only [h, word_bottom, mul_comm]

theorem pay4_at (a : Vec Ideal S512x1024 .bf16) (x : Vec Ideal S512x512 .f32) (b : Vec Ideal S1x512 .f32) (w : Vec Ideal S1024x512 .bf16) (r f : Fin 512) :
    k0_pay4 a x b w (ix2 r f) = x (ix2 r f) + b (ix2 0 f) + ∑ k : Fin 1024, a (ix2 r k) * w (ix2 k f) := by
  pointwise [k0_pay4]

/-- Column `C` of the point's new row `r`. -/
def line (x0 : Vec Ideal S512x1024 .bf16) (x1 : Vec Ideal S1024x1024 .bf16) (x2 : Vec Ideal S1x1024 .f32) (x3 : Vec Ideal S512x1024 .f32)
    (r : Fin 512) (C : Fin 1024) : EReal := x3 (ix2 r C) + x2 (ix2 0 C) + ∑ k : Fin 1024, x0 (ix2 r k) * x1 (ix2 k C)

variable (x0 : Vec Ideal S512x1024 .bf16) (x1 : Vec Ideal S1024x1024 .bf16) (x2 : Vec Ideal S1x1024 .f32) (x3 : Vec Ideal S512x1024 .f32)

theorem fresh_at (r : Fin 512) (C : Fin 1024) : fresh x0 x1 x2 x3 (ix2 r C) = line x0 x1 x2 x3 r C := by
  have side : ∀ (o : ℕ) (i3) (i2) (i1) (r f : Fin 512) (h : o + f.val < 1024),
      k0_pay4 x0 (View.ld x3 (Rect.unit (s := S512x1024) ![0, o] S512x512.size i3)) (View.ld x2 (Rect.unit (s := S1x1024) ![0, o] S1x512.size i2))
        (View.ld x1 (Rect.unit (s := S1024x1024) ![0, o] S1024x512.size i1)) (ix2 r f) = line x0 x1 x2 x3 r ⟨o + f.val, h⟩ := fun o i3 i2 i1 r f h => by
    rw [pay4_at]
    exact congrArg₂ (· + ·) (congrArg₂ (· + ·) (ld_half o x3 i3 r f h) (ld_half o x2 i2 0 f h))
      (Finset.sum_congr rfl fun k _ => congrArg (_ * ·) (ld_half o x1 i1 k f h))
  exact halves (line x0 x1 x2 x3) _ _ inb_S512x1024_S512x512_0_512 inb_S512x1024_S512x512_0_0
    (fun r f => side 512 _ _ _ r f (by have := f.isLt; omega)) (fun r f => side 0 _ _ _ r f (by have := f.isLt; omega)) r C

end At

end Cert.GqaIdeal.Out

end
-- ==== Proof.Out.GqaOutput.lean ====
module

public import proofs.«01_k».proof.Proof.Out.Gqa
public import proofs.«01_k».proof.Proof.Gen.GqaIdeal.Points

@[expose] public section

set_option maxRecDepth 16384

/-! # The launch's results are the output projection of the whole arrays -/

noncomputable section

namespace Cert.GqaIdeal.Out

open Cert.GqaIdeal Cert.GqaIdeal.Gen Cert.GqaIdeal.Value Cert.Filter Cert.Out
open Idealize.ShloMosaic Idealize.ShloMosaic.TcCoe Idealize.SL.Sem

variable (m : (ℓ : Loc nD τ sig) → Buf (Elt Ideal) ℓ) (ρ : Dev nD → PrngReg) (c : Dev nD)

theorem lt_N (t : Fin cfg0.N) : t.val < 160 := Nat.lt_of_lt_of_eq t.isLt N_0

/-! ## The arguments as functions of their indices -/

abbrev heads (R : Fin 81920) (k : Fin 1024) : EReal := m ((c : Thread nD τ).loc main_arg0) (ix2 R k)
abbrev weights (k C : Fin 1024) : EReal := m ((c : Thread nD τ).loc main_arg1) (ix2 k C)
abbrev tokens (R : Fin 81920) (k : Fin 1024) : EReal := m ((c : Thread nD τ).loc main_arg2) (ix2 R k)
abbrev gain (k : Fin 1024) : EReal := m ((c : Thread nD τ).loc main_arg3) (ix1 k)
abbrev router (k : Fin 1024) (e : Fin 16) : EReal := m ((c : Thread nD τ).loc main_arg4) (ix2 k e)

/-- Row `R` after the projection is added. -/
abbrev added (R : Fin 81920) (C : Fin 1024) : EReal := tokens m c R C + ∑ k : Fin 1024, heads m c R k * weights m c k C

theorem entry_zero (k : Fin 1024) : V m c main_v0 (ix2 0 k) = (0 : EReal) := by
  entry_read
  pointwise
theorem entry_weights (k C : Fin 1024) : V m c main_v1 (ix2 k C) = weights m c k C := by
  entry_read
  pointwise
theorem entry_gain (k : Fin 1024) : V m c main_v2 (ix2 0 k) = gain m c k := by
  entry_read
  pointwise
theorem entry_router (e : Fin 16) (k : Fin 1024) : V m c main_v3 (ix2 e k) = router m c k e := by
  entry_read
  pointwise

/-! ## The blocks -/

/-- Where each window's block begins: the point's rows, or the whole. -/
theorem starts : ∀ t : Fin cfg0.N, (win0_0.index t (0 : Fin 2) = t.val ∧ win0_0.index t (1 : Fin 2) = 0)
    ∧ (∀ a, win0_1.index t a = 0) ∧ (∀ a, win0_2.index t a = 0)
    ∧ (win0_3.index t (0 : Fin 2) = t.val ∧ win0_3.index t (1 : Fin 2) = 0) ∧ (∀ a, win0_4.index t a = 0) ∧ (∀ a, win0_5.index t a = 0)
    ∧ (win0_6.index t (0 : Fin 2) = t.val ∧ win0_6.index t (1 : Fin 2) = 0) ∧ (win0_7.index t (0 : Fin 2) = t.val ∧ win0_7.index t (1 : Fin 2) = 0)
    ∧ win0_8.index t (0 : Fin 2) = 0 ∧ win0_8.index t (1 : Fin 2) = t.val :=
  (by decide +kernel : ∀ t : Fin grid0.N, _)

/-- The array row of row `r` of point `t`. -/
def row (t : Fin cfg0.N) (r : Fin 512) : Fin 81920 := ⟨512 * t.val + r.val, by have := lt_N t; have := r.isLt; omega⟩

theorem iblk_heads (t : Fin cfg0.N) (r : Fin 512) (k : Fin 1024) : iblk m c 0 t (ix2 r k) = heads m c (row t r) k := by
  obtain ⟨e0, e1⟩ := (starts t).1
  refine (congrFun (V_main_arg0 m c) _).trans (congrArg (m ((c : Thread nD τ).loc main_arg0)) (funext fun a => ?_))
  match a with
  | ⟨0, _⟩ => exact Fin.ext (by show win0_0.index t (0 : Fin 2) * 512 + 1 * r.val = 512 * t.val + r.val; rw [e0]; omega)
  | ⟨1, _⟩ => exact Fin.ext (by show win0_0.index t (1 : Fin 2) * 1024 + 1 * k.val = k.val; rw [e1]; omega)

theorem iblk_weights (t : Fin cfg0.N) (k C : Fin 1024) : iblk m c 1 t (ix2 k C) = weights m c k C := by
  have e := (starts t).2.1
  refine Eq.trans (congrArg (V m c main_v1) (funext fun a => ?_)) (entry_weights m c k C)
  match a with
  | ⟨0, _⟩ => exact Fin.ext (by show win0_1.index t (0 : Fin 2) * 1024 + 1 * k.val = k.val; rw [e]; omega)
  | ⟨1, _⟩ => exact Fin.ext (by show win0_1.index t (1 : Fin 2) * 1024 + 1 * C.val = C.val; rw [e]; omega)

theorem iblk_zero (t : Fin cfg0.N) (k : Fin 1024) : iblk m c 2 t (ix2 0 k) = (0 : EReal) := by
  have e := (starts t).2.2.1
  refine Eq.trans (congrArg (V m c main_v0) (funext fun a => ?_)) (entry_zero m c k)
  match a with
  | ⟨0, _⟩ => exact Fin.ext (by show win0_2.index t (0 : Fin 2) * 1 + 1 * 0 = 0; rw [e])
  | ⟨1, _⟩ => exact Fin.ext (by show win0_2.index t (1 : Fin 2) * 1024 + 1 * k.val = k.val; rw [e]; omega)

theorem iblk_tokens (t : Fin cfg0.N) (r : Fin 512) (k : Fin 1024) : iblk m c 3 t (ix2 r k) = tokens m c (row t r) k := by
  obtain ⟨e0, e1⟩ := (starts t).2.2.2.1
  refine (congrFun (V_main_arg2 m c) _).trans (congrArg (m ((c : Thread nD τ).loc main_arg2)) (funext fun a => ?_))
  match a with
  | ⟨0, _⟩ => exact Fin.ext (by show win0_3.index t (0 : Fin 2) * 512 + 1 * r.val = 512 * t.val + r.val; rw [e0]; omega)
  | ⟨1, _⟩ => exact Fin.ext (by show win0_3.index t (1 : Fin 2) * 1024 + 1 * k.val = k.val; rw [e1]; omega)

theorem iblk_gain (t : Fin cfg0.N) (k : Fin 1024) : iblk m c 4 t (ix2 0 k) = gain m c k := by
  have e := (starts t).2.2.2.2.1
  refine Eq.trans (congrArg (V m c main_v2) (funext fun a => ?_)) (entry_gain m c k)
  match a with
  | ⟨0, _⟩ => exact Fin.ext (by show win0_4.index t (0 : Fin 2) * 1 + 1 * 0 = 0; rw [e])
  | ⟨1, _⟩ => exact Fin.ext (by show win0_4.index t (1 : Fin 2) * 1024 + 1 * k.val = k.val; rw [e]; omega)

theorem iblk_router (t : Fin cfg0.N) (e' : Fin 16) (k : Fin 1024) : iblk m c 5 t (ix2 e' k) = router m c k e' := by
  have e := (starts t).2.2.2.2.2.1
  refine Eq.trans (congrArg (V m c main_v3) (funext fun a => ?_)) (entry_router m c e' k)
  match a with
  | ⟨0, _⟩ => exact Fin.ext (by show win0_5.index t (0 : Fin 2) * 16 + 1 * e'.val = e'.val; rw [e]; omega)
  | ⟨1, _⟩ => exact Fin.ext (by show win0_5.index t (1 : Fin 2) * 1024 + 1 * k.val = k.val; rw [e]; omega)

/-! ## What a point leaves -/

theorem fresh_row (t : Fin cfg0.N) (r : Fin 512) (C : Fin 1024) :
    fresh (iblk m c 0 t) (iblk m c 1 t) (iblk m c 2 t) (iblk m c 3 t) (ix2 r C) = added m c (row t r) C := by
  rw [fresh_at]
  unfold line added
  rw [iblk_tokens, iblk_zero, add_zero]
  exact congrArg (_ + ·) (Finset.sum_congr rfl fun k _ => congrArg₂ (· * ·) (iblk_heads m c t r k) (iblk_weights m c t k C))

/-- The three results: the rows, the scaled rows and the shares, by expert and row. -/
def whole6 : Buf (Elt Ideal) ((c : Thread nD τ).loc main_v4_0) := fun i => added m c (i 0) (i 1)
def whole7 : Buf (Elt Ideal) ((c : Thread nD τ).loc main_v4_1) := fun i => unitRow (added m c (i 0)) (gain m c) (i 1)
def whole8 : Buf (Elt Ideal) ((c : Thread nD τ).loc main_v4_2) := fun i => share (added m c (i 1)) (gain m c) (router m c) (i 0)

theorem flushed6_eq (t : Fin cfg0.N) (hf : (cfg0.win 6).flush t = true) :
    (dats m 0 c).flushed 6 t = ((cfg0.win 6).blk t).view.read (Elt Ideal) (whole6 m c) := by
  rw [flushed6_A, out6_eq]
  obtain ⟨e0, e1⟩ := (starts t).2.2.2.2.2.2.1
  funext y
  obtain ⟨r, C, rfl⟩ : ∃ (r : Fin 512) (C : Fin 1024), y = ix2 r C :=
    ⟨y 0, y 1, by funext a; match a with | ⟨0, _⟩ => rfl | ⟨1, _⟩ => rfl⟩
  refine (fresh_row m c t r C).trans (congrArg₂ (added m c) (Fin.ext ?_) (Fin.ext ?_))
  · show 512 * t.val + r.val = win0_6.index t (0 : Fin 2) * 512 + 1 * r.val
    rw [e0]; omega
  · show C.val = win0_6.index t (1 : Fin 2) * 1024 + 1 * C.val
    rw [e1]; omega

theorem flushed7_eq (t : Fin cfg0.N) (hf : (cfg0.win 7).flush t = true) :
    (dats m 0 c).flushed 7 t = ((cfg0.win 7).blk t).view.read (Elt Ideal) (whole7 m c) := by
  rw [flushed7_A, out7_eq]
  obtain ⟨e0, e1⟩ := (starts t).2.2.2.2.2.2.2.1
  funext y
  obtain ⟨r, C, rfl⟩ : ∃ (r : Fin 512) (C : Fin 1024), y = ix2 r C :=
    ⟨y 0, y 1, by funext a; match a with | ⟨0, _⟩ => rfl | ⟨1, _⟩ => rfl⟩
  refine (pay2_at _ _ r C).trans ((congrArg₂ (fun y g => unitRow y g C) (funext (fresh_row m c t r)) (funext (iblk_gain m c t))).trans ?_)
  refine congrArg₂ (fun R C => unitRow (added m c R) (gain m c) C) (Fin.ext ?_) (Fin.ext ?_)
  · show 512 * t.val + r.val = win0_7.index t (0 : Fin 2) * 512 + 1 * r.val
    rw [e0]; omega
  · show C.val = win0_7.index t (1 : Fin 2) * 1024 + 1 * C.val
    rw [e1]; omega

theorem flushed8_eq (t : Fin cfg0.N) (hf : (cfg0.win 8).flush t = true) :
    (dats m 0 c).flushed 8 t = ((cfg0.win 8).blk t).view.read (Elt Ideal) (whole8 m c) := by
  rw [flushed8_A, out8_eq]
  obtain ⟨e0, e1⟩ := (starts t).2.2.2.2.2.2.2.2
  funext y
  obtain ⟨e, r, rfl⟩ : ∃ (e : Fin 16) (r : Fin 512), y = ix2 e r :=
    ⟨y 0, y 1, by funext a; match a with | ⟨0, _⟩ => rfl | ⟨1, _⟩ => rfl⟩
  refine (pay3_at _ _ _ e r).trans ((congr (congrArg₂ share (funext (fresh_row m c t r)) (funext (iblk_gain m c t)))
    (funext₂ fun k e => iblk_router m c t e k)).symm ▸ ?_)
  refine congrArg₂ (fun R e => share (added m c R) (gain m c) (router m c) e) (Fin.ext ?_) (Fin.ext ?_)
  · show 512 * t.val + r.val = win0_8.index t (1 : Fin 2) * 512 + 1 * r.val
    rw [e1]; omega
  · show e.val = win0_8.index t (0 : Fin 2) * 16 + 1 * e.val
    rw [e0]; omega

/-! ## The whole arrays -/

/-- Every row lies in the block of its point. -/
theorem within (R : Fin 81920) : ∃ t : Fin cfg0.N, 512 * t.val ≤ R.val ∧ R.val < 512 * t.val + 512 := by
  have h0 := R.isLt
  have hl : R.val / 512 < 160 := by omega
  exact ⟨⟨R.val / 512, Nat.lt_of_lt_of_eq hl N_0.symm⟩, by show 512 * (R.val / 512) ≤ _; omega,
    by show _ < 512 * (R.val / 512) + 512; omega⟩

theorem covered6 (i : S81920x1024.Idx) : ∃ t : Fin cfg0.N, (cfg0.win 6).flush t = true ∧ i ∈ ((cfg0.win 6).blk t).view.set := by
  obtain ⟨t, h0, h1⟩ := within (i 0)
  obtain ⟨e0, e1⟩ := (starts t).2.2.2.2.2.2.1
  have h2 : (i 1).val < 1024 := (i 1).isLt
  refine ⟨t, flush0_6 t, ?_⟩
  show i ∈ ((View.whole main_v4_0).slice (win0_6.rect t)).set
  rw [View.set_slice_whole, Rect.mem_set_unit]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 1024 ≤ (i 1).val ∧ (i 1).val < win0_6.index t (1 : Fin 2) * 1024 + 1024; omega

theorem covered7 (i : S81920x1024.Idx) : ∃ t : Fin cfg0.N, (cfg0.win 7).flush t = true ∧ i ∈ ((cfg0.win 7).blk t).view.set := by
  obtain ⟨t, h0, h1⟩ := within (i 0)
  obtain ⟨e0, e1⟩ := (starts t).2.2.2.2.2.2.2.1
  have h2 : (i 1).val < 1024 := (i 1).isLt
  refine ⟨t, flush0_7 t, ?_⟩
  show i ∈ ((View.whole main_v4_1).slice (win0_7.rect t)).set
  rw [View.set_slice_whole, Rect.mem_set_unit]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 1024 ≤ (i 1).val ∧ (i 1).val < win0_7.index t (1 : Fin 2) * 1024 + 1024; omega

theorem covered8 (i : S16x81920.Idx) : ∃ t : Fin cfg0.N, (cfg0.win 8).flush t = true ∧ i ∈ ((cfg0.win 8).blk t).view.set := by
  obtain ⟨t, h0, h1⟩ := within (i 1)
  obtain ⟨e0, e1⟩ := (starts t).2.2.2.2.2.2.2.2
  have h2 : (i 0).val < 16 := (i 0).isLt
  refine ⟨t, flush0_8 t, ?_⟩
  show i ∈ ((View.whole main_v4_2).slice (win0_8.rect t)).set
  rw [View.set_slice_whole, Rect.mem_set_unit]
  intro a
  match a with
  | ⟨0, _⟩ => show win0_8.index t (0 : Fin 2) * 16 ≤ (i 0).val ∧ (i 0).val < win0_8.index t (0 : Fin 2) * 16 + 16; omega
  | ⟨1, _⟩ => show win0_8.index t (1 : Fin 2) * 512 ≤ (i 1).val ∧ (i 1).val < win0_8.index t (1 : Fin 2) * 512 + 512; omega

theorem array6 : (dats m 0 c).arrAt 6 cfg0.N = whole6 m c := (dats m 0 c).arrAt_eq_of_cover 6 _ (flushed6_eq m c) covered6
theorem array7 : (dats m 0 c).arrAt 7 cfg0.N = whole7 m c := (dats m 0 c).arrAt_eq_of_cover 7 _ (flushed7_eq m c) covered7
theorem array8 : (dats m 0 c).arrAt 8 cfg0.N = whole8 m c := (dats m 0 c).arrAt_eq_of_cover 8 _ (flushed8_eq m c) covered8

/-- The run: the results are the projection, the arguments unchanged. -/
theorem run : θ_run defs (onTc (τ := τ) (main (F := Ideal))) ⟨m, fun _ => 0, ρ⟩ (fun r => ∀ c : Dev nD,
    r.2.mem ((c.tc : Thread nD τ).loc main_v4_0) = whole6 m c
    ∧ r.2.mem ((c.tc : Thread nD τ).loc main_v4_1) = whole7 m c
    ∧ r.2.mem ((c.tc : Thread nD τ).loc main_v4_2) = whole8 m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) :=
  (θ_run defs _ _).mono (fun _ h c => ⟨(h c).1.trans (array6 m c), (h c).2.1.trans (array7 m c), (h c).2.2.1.trans (array8 m c), (h c).2.2.2⟩)
    (run_blocks m ρ)

end Cert.GqaIdeal.Out

end
-- ==== Proof.Out.GqaReference.lean ====
module

public import proofs.«01_k».proof.Proof.Gen.GqaReferenceIdeal.Read
public import proofs.«01_k».proof.Proof.Out.Spec
public import Idealize.ShloMosaic.Lib.Pointwise

@[expose] public section

set_option maxRecDepth 16384

/-! # What the reference of the attention's output projection computes -/

noncomputable section

namespace Cert.GqaReferenceIdeal.Out

open Cert.GqaReferenceIdeal Cert.GqaReferenceIdeal.Gen Cert.GqaReferenceIdeal.Read Cert.Filter Cert.Out
open Idealize.ShloMosaic Idealize.ShloMosaic.TcCoe Idealize.SL.Sem

variable (x0 : (⟨S81920x1024, .bf16⟩ : BufTy).Contents (Elt Ideal)) (x1 : (⟨S1024x1024, .f32⟩ : BufTy).Contents (Elt Ideal))
  (x2 : (⟨S81920x1024, .f32⟩ : BufTy).Contents (Elt Ideal)) (x3 : (⟨S1024, .f32⟩ : BufTy).Contents (Elt Ideal))
  (x4 : (⟨S1024x16, .f32⟩ : BufTy).Contents (Elt Ideal))

/-- Row `R` after the projection is added. -/
abbrev added (R : Fin 81920) (C : Fin 1024) : EReal := x2 (ix2 R C) + ∑ k : Fin 1024, x0 (ix2 R k) * x1 (ix2 k C)

theorem added_at (R : Fin 81920) (C : Fin 1024) : val_main_v2 (F := Ideal) x0 x1 x2 (ix2 R C) = added x0 x1 x2 R C := by
  unfold val_main_v2 val_main_v1 val_main_v0
  pointwise

theorem scaled_at (R : Fin 81920) (C : Fin 1024) : val_main_v15 (F := Ideal) x0 x1 x2 x3 (ix2 R C)
    = unitRow (added x0 x1 x2 R) (fun k => x3 (ix1 k)) C := by
  have h := added_at x0 x1 x2 R
  unfold unitRow val_main_v15 val_main_v14 val_main_v13 val_main_v12 val_main_v11 val_main_v10 val_main_v9 val_main_v8 val_main_v7 val_main_v6
    val_main_v5 val_main_v4 val_main_v3 val_main_cst val_main_cst_0 val_main_cst_1
  generalize val_main_v2 (F := Ideal) x0 x1 x2 = z at *
  pointwise
  simp only [h]

theorem rounded_at (R : Fin 81920) (C : Fin 1024) : val_main_v28 (F := Ideal) x0 x1 x2 x3 (ix2 R C)
    = unitRow (added x0 x1 x2 R) (fun k => x3 (ix1 k)) C := scaled_at x0 x1 x2 x3 R C

theorem greatest_at (X : FVec Ideal S81920x16 .f32) (R : Fin 81920) :
    Host.reduce FloatOps.maximumf X (val_main_cst_2 (F := Ideal)) reducesTo_S81920x16_S81920_d1 h_S_ (ix1 R)
      = Finset.fold max ⊥ (fun e : Fin 16 => X (ix2 R e)) Finset.univ := by
  unfold val_main_cst_2
  pointwise
  rw [word_bottom]

theorem shares_at (e : Fin 16) (R : Fin 81920) : val_main_v29 (F := Ideal) x0 x1 x2 x3 x4 (ix2 e R)
    = share (added x0 x1 x2 R) (fun k => x3 (ix1 k)) (fun k e => x4 (ix2 k e)) e := by
  have h := scaled_at x0 x1 x2 x3 R
  have s : ∀ e, val_main_v16 (F := Ideal) x0 x1 x2 x3 x4 (ix2 R e) = score (added x0 x1 x2 R) (fun k => x3 (ix1 k)) (fun k e => x4 (ix2 k e)) e := by
    intro e
    unfold score val_main_v16
    generalize val_main_v15 (F := Ideal) x0 x1 x2 x3 = z at *
    pointwise
    simp only [h]
  have g : val_main_v19 (F := Ideal) x0 x1 x2 x3 x4 (ix1 R) = greatest (added x0 x1 x2 R) (fun k => x3 (ix1 k)) (fun k e => x4 (ix2 k e)) := by
    rw [val_main_v19_apply, val_main_v18_apply, val_main_cst_3_apply]
    unfold val_main_v17 greatest
    rw [greatest_at]
    simp only [s]
    show max (Ideal.ofBits .f32 0xFF800000#32) _ = _
    rw [word_bottom]
    exact max_eq_right bot_le
  unfold share val_main_v29 val_main_v27 val_main_v26 val_main_v25 val_main_v24 val_main_v23 val_main_v22 val_main_v21 val_main_v20 val_main_cst_4
  generalize val_main_v19 (F := Ideal) x0 x1 x2 x3 x4 = y at *
  generalize val_main_v16 (F := Ideal) x0 x1 x2 x3 x4 = z at *
  pointwise
  simp only [s, g]

end Cert.GqaReferenceIdeal.Out

end
-- ==== Proof.Out.Mlstm.lean ====
module

public import proofs.«01_k».proof.Proof.Gen.MlstmIdeal.Value
public import proofs.«01_k».proof.Proof.Out.Spec
public import proofs.«01_k».proof.Proof.Out.Halves
public import Idealize.ShloMosaic.Lib.Pointwise
public import Idealize.ShloMosaic.Lib.Pipeline.Value

@[expose] public section

set_option maxRecDepth 16384

/-! # What one grid point of the gated cell's output projection leaves -/

noncomputable section

namespace Cert.MlstmIdeal.Out

open Cert.MlstmIdeal Cert.MlstmIdeal.Gen Cert.MlstmIdeal.Value Cert.Filter Cert.Out
open Idealize.ShloMosaic Idealize.ShloMosaic.TcCoe Idealize.ShloMosaic.Tactic Idealize.SL.Sem

section Formula

variable {F : FTy → Type} [FloatOps F]

theorem offs : (![0, 0] : Fin 2 → Nat) = fun _ => 0 := by funext a; match a with | ⟨0, _⟩ => rfl | ⟨1, _⟩ => rfl

variable (c : Dev nD) (i : grid0.Coords)
    (a1 : Memref sig .tc .vmem S256x2048 .f32) (h1 : a1.IsWhole) (a2 : Memref sig .tc .vmem S256x2048 .f32) (h2 : a2.IsWhole)
    (a3 : Memref sig .tc .vmem S256x2048 .f32) (h3 : a3.IsWhole) (a4 : Memref sig .tc .vmem S256x2048 .f32) (h4 : a4.IsWhole)
    (a5 : Memref sig .tc .vmem S1x2048 .f32) (h5 : a5.IsWhole) (a6 : Memref sig .tc .vmem S1x2048 .f32) (h6 : a6.IsWhole)
    (a7 : Memref sig .tc .vmem S2048x1024 .bf16) (h7 : a7.IsWhole) (a8 : Memref sig .tc .vmem S1x1024 .f32) (h8 : a8.IsWhole)
    (a9 : Memref sig .tc .vmem S256x1024 .f32) (h9 : a9.IsWhole) (a10 : Memref sig .tc .vmem S1x1024 .f32) (h10 : a10.IsWhole)
    (a11 : Memref sig .tc .vmem S16x1024 .f32) (h11 : a11.IsWhole) (a12 : Memref sig .tc .vmem S256x1024 .f32) (h12 : a12.IsWhole)
    (a13 : Memref sig .tc .vmem S256x1024 .bf16) (h13 : a13.IsWhole) (a14 : Memref sig .tc .vmem S16x256 .f32) (h14 : a14.IsWhole)
    (x0 : Vec F S256x2048 .f32) (x1 : Vec F S256x2048 .f32) (x2 : Vec F S256x2048 .f32) (x3 : Vec F S256x2048 .f32)
    (x4 : Vec F S1x2048 .f32) (x5 : Vec F S1x2048 .f32) (x6 : Vec F S2048x1024 .bf16) (x7 : Vec F S1x1024 .f32)
    (x8 : Vec F S256x1024 .f32) (x9 : Vec F S1x1024 .f32) (x10 : Vec F S16x1024 .f32)

/-- The rows that are projected. -/
def mixed : FVec F S256x2048 .bf16 := k0_pay10 x2 x3 (k0_pay2 x4) (k0_pay3 x5) (k0_pay4 x0 x1) (k0_pay5 x0 x1 x4) (k0_pay6 x0 x1 x4) (k0_pay7 x0 x1)
  (k0_pay8 x4) (k0_pay9 x0 x1)

/-- The new rows: the old ones, the bias and the product, in two halves of the columns. -/
def fresh : Vec F S256x1024 .f32 := View.canon
  [⟨Rect.unit (s := S256x1024) ![0, 512] S256x512.size inb_S256x1024_S256x512_0_512,
      k0_pay12 (mixed x0 x1 x2 x3 x4 x5) (View.ld x8 (Rect.unit (s := S256x1024) ![0, 512] S256x512.size inb_S256x1024_S256x512_0_512))
        (View.ld x7 (Rect.unit (s := S1x1024) ![0, 512] S1x512.size inb_S1x1024_S1x512_0_512))
        (View.ld x6 (Rect.unit (s := S2048x1024) ![0, 512] S2048x512.size inb_S2048x1024_S2048x512_0_512))⟩,
   ⟨Rect.unit (s := S256x1024) ![0, 0] S256x512.size inb_S256x1024_S256x512_0_0,
      k0_pay12 (mixed x0 x1 x2 x3 x4 x5) (View.ld x8 (Rect.unit (s := S256x1024) ![0, 0] S256x512.size inb_S256x1024_S256x512_0_0))
        (View.ld x7 (Rect.unit (s := S1x1024) ![0, 0] S1x512.size inb_S1x1024_S1x512_0_0))
        (View.ld x6 (Rect.unit (s := S2048x1024) ![0, 0] S2048x512.size inb_S2048x1024_S2048x512_0_0))⟩]

theorem out11_eq : out0_A_11 c i a1 h1 a2 h2 a3 h3 a4 h4 a5 h5 a6 h6 a7 h7 a8 h8 a9 h9 a10 h10 a11 h11 a12 h12 a13 h13 a14 h14 x0 x1 x2 x3 x4 x5 x6 x7 x8 x9 x10
    = fresh x0 x1 x2 x3 x4 x5 x6 x7 x8 := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 x0 x1 x2 x3 x4 x5 x6 x7 x8 x9 x10)]
  unfold kernelRun0_A fresh mixed
  dsimp only
  sl_unfold_words
  simp only [View.readAt_eq_ld, h1.read_unread, h2.read_unread, h3.read_unread, h4.read_unread, h5.read_unread, h6.read_unread, h7.read_unread, h8.read_unread, h9.read_unread, h10.read_unread, h11.read_unread,
    View.ld_unit_zero (S := S256x2048) offs, View.ld_unit_zero (S := S1x2048) offs]
  exact rfl

theorem out12_eq : out0_A_12 c i a1 h1 a2 h2 a3 h3 a4 h4 a5 h5 a6 h6 a7 h7 a8 h8 a9 h9 a10 h10 a11 h11 a12 h12 a13 h13 a14 h14 x0 x1 x2 x3 x4 x5 x6 x7 x8 x9 x10
    = k0_pay14 (fresh x0 x1 x2 x3 x4 x5 x6 x7 x8) x9 := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 x0 x1 x2 x3 x4 x5 x6 x7 x8 x9 x10)]
  unfold kernelRun0_A fresh mixed
  dsimp only
  sl_unfold_words
  rw [View.canon_unit_zero (S := S256x1024) offs]
  simp only [View.readAt_eq_ld, h1.read_unread, h2.read_unread, h3.read_unread, h4.read_unread, h5.read_unread, h6.read_unread, h7.read_unread, h8.read_unread, h9.read_unread, h10.read_unread, h11.read_unread,
    View.ld_unit_zero (S := S256x2048) offs, View.ld_unit_zero (S := S1x2048) offs, View.ld_unit_zero (S := S1x1024) offs]
  exact congrArg (fun z => k0_pay14 z x9) (load_whole a12.view _ _)

theorem out13_eq : out0_A_13 c i a1 h1 a2 h2 a3 h3 a4 h4 a5 h5 a6 h6 a7 h7 a8 h8 a9 h9 a10 h10 a11 h11 a12 h12 a13 h13 a14 h14 x0 x1 x2 x3 x4 x5 x6 x7 x8 x9 x10
    = k0_pay1 (k0_pay15 (fresh x0 x1 x2 x3 x4 x5 x6 x7 x8) x9 x10) (k0_pay16 (fresh x0 x1 x2 x3 x4 x5 x6 x7 x8) x9 x10) := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 x0 x1 x2 x3 x4 x5 x6 x7 x8 x9 x10)]
  unfold kernelRun0_A fresh mixed
  dsimp only
  sl_unfold_words
  rw [View.canon_unit_zero (S := S16x256) offs]
  simp only [View.readAt_eq_ld, h1.read_unread, h2.read_unread, h3.read_unread, h4.read_unread, h5.read_unread, h6.read_unread, h7.read_unread, h8.read_unread, h9.read_unread, h10.read_unread, h11.read_unread,
    View.ld_unit_zero (S := S256x2048) offs, View.ld_unit_zero (S := S1x2048) offs, View.ld_unit_zero (S := S1x1024) offs, View.ld_unit_zero (S := S16x1024) offs]
  exact congrArg (fun z => k0_pay1 (k0_pay15 z x9 x10) (k0_pay16 z x9 x10)) (load_whole a12.view _ _)

end Formula

/-! ## At the ideal numbers, read at an index -/

section At

variable (y : FVec Ideal S256x1024 .f32) (g : FVec Ideal S1x1024 .f32) (w : Vec Ideal S16x1024 .f32)

theorem pay13_at (r : Fin 256) (k : Fin 1024) : k0_pay13 (F := Ideal) y g (ix2 r k) = unitRow (fun k => y (ix2 r k)) (fun k => g (ix2 0 k)) k := by
  unfold unitRow
  pointwise [k0_pay13]

theorem pay14_at (r : Fin 256) (k : Fin 1024) : k0_pay14 (F := Ideal) y g (ix2 r k) = unitRow (fun k => y (ix2 r k)) (fun k => g (ix2 0 k)) k := by
  rw [← pay13_at]
  rfl

theorem shares_at (e : Fin 16) (r : Fin 256) : k0_pay1 (F := Ideal) (k0_pay15 y g w) (k0_pay16 y g w) (ix2 e r)
    = share (fun k => y (ix2 r k)) (fun k => g (ix2 0 k)) (fun k e => w (ix2 e k)) e := by
  have h := fun k => pay13_at y g r k
  unfold share greatest score k0_pay1 k0_pay16 k0_pay15
  generalize k0_pay13 (F := Ideal) y g = z at *
  pointwise
  simp only [h, word_bottom, mul_comm]

variable (x0 x1 x2 x3 : Vec Ideal S256x2048 .f32) (x4 x5 : Vec Ideal S1x2048 .f32) (x6 : Vec Ideal S2048x1024 .bf16) (x7 : Vec Ideal S1x1024 .f32)
  (x8 : Vec Ideal S256x1024 .f32)

/-- The row that is projected: the two directions' sum, scaled within each head, with the skip, gated. -/
def mix (r : Fin 256) (k : Fin 2048) : EReal :=
  (headRow (fun j => x0 (ix2 r j) + x1 (ix2 r j)) (fun j => x4 (ix2 0 j)) k + x5 (ix2 0 k) * x2 (ix2 r k)) * x3 (ix2 r k)

theorem mixed_at (r : Fin 256) (k : Fin 2048) : mixed x0 x1 x2 x3 x4 x5 (ix2 r k) = mix x0 x1 x2 x3 x4 x5 r k := by
  have hk := k.isLt
  unfold mixed mix
  pointwise [k0_pay10, k0_pay9, k0_pay8, k0_pay7, k0_pay6, k0_pay5, k0_pay4, k0_pay3, k0_pay2]
  refine congrArg (· * _) (congrArg (· + _) ?_)
  have part := headRow_eq (fun j => x0 (ix2 r j) + x1 (ix2 r j)) (fun j => x4 (ix2 0 j)) k
  by_cases h : k.val < 512
  · rw [dif_pos h]
    exact part (fun y => ⟨y.val, by have := y.isLt; omega⟩) ⟨k.val, by omega⟩ rfl (fun y => by show y.val = 512 * (k.val / 512) + y.val; omega)
  rw [dif_neg h]
  by_cases h' : k.val - 512 < 512
  · rw [dif_pos h']
    exact part (fun y => ⟨512 + y.val, by have := y.isLt; omega⟩) ⟨k.val - 512, by omega⟩ (Fin.ext (by show 512 + (k.val - 512) = k.val; omega))
      (fun y => by show 512 + y.val = 512 * (k.val / 512) + y.val; omega)
  rw [dif_neg h']
  by_cases h'' : k.val - 512 - 512 < 512
  · rw [dif_pos h'']
    exact part (fun y => ⟨1024 + y.val, by have := y.isLt; omega⟩) ⟨k.val - 512 - 512, by omega⟩
      (Fin.ext (by show 1024 + (k.val - 512 - 512) = k.val; omega)) (fun y => by show 1024 + y.val = 512 * (k.val / 512) + y.val; omega)
  rw [dif_neg h'']
  exact part (fun y => ⟨1536 + y.val, by have := y.isLt; omega⟩) ⟨k.val - 512 - 512 - 512, by omega⟩
    (Fin.ext (by show 1536 + (k.val - 512 - 512 - 512) = k.val; omega)) (fun y => by show 1536 + y.val = 512 * (k.val / 512) + y.val; omega)

theorem pay12_at (a : FVec Ideal S256x2048 .bf16) (x : Vec Ideal S256x512 .f32) (b : Vec Ideal S1x512 .f32) (w : Vec Ideal S2048x512 .bf16)
    (r : Fin 256) (f : Fin 512) : k0_pay12 a x b w (ix2 r f) = x (ix2 r f) + b (ix2 0 f) + ∑ k : Fin 2048, a (ix2 r k) * w (ix2 k f) := by
  pointwise [k0_pay12]

/-- Column `C` of the point's new row `r`. -/
def line (r : Fin 256) (C : Fin 1024) : EReal := x8 (ix2 r C) + x7 (ix2 0 C) + ∑ k : Fin 2048, mix x0 x1 x2 x3 x4 x5 r k * x6 (ix2 k C)

theorem fresh_at (r : Fin 256) (C : Fin 1024) : fresh x0 x1 x2 x3 x4 x5 x6 x7 x8 (ix2 r C) = line x0 x1 x2 x3 x4 x5 x6 x7 x8 r C := by
  have side : ∀ (o : ℕ) (i8) (i7) (i6) (r : Fin 256) (f : Fin 512) (h : o + f.val < 1024),
      k0_pay12 (mixed x0 x1 x2 x3 x4 x5) (View.ld x8 (Rect.unit (s := S256x1024) ![0, o] S256x512.size i8))
        (View.ld x7 (Rect.unit (s := S1x1024) ![0, o] S1x512.size i7)) (View.ld x6 (Rect.unit (s := S2048x1024) ![0, o] S2048x512.size i6)) (ix2 r f)
        = line x0 x1 x2 x3 x4 x5 x6 x7 x8 r ⟨o + f.val, h⟩ := fun o i8 i7 i6 r f h => by
    rw [pay12_at]
    exact congrArg₂ (· + ·) (congrArg₂ (· + ·) (ld_half o x8 i8 r f h) (ld_half o x7 i7 0 f h))
      (Finset.sum_congr rfl fun k _ => congrArg₂ (· * ·) (mixed_at x0 x1 x2 x3 x4 x5 r k) (ld_half o x6 i6 k f h))
  exact halves (line x0 x1 x2 x3 x4 x5 x6 x7 x8) _ _ inb_S256x1024_S256x512_0_512 inb_S256x1024_S256x512_0_0
    (fun r f => side 512 _ _ _ r f (by have := f.isLt; omega)) (fun r f => side 0 _ _ _ r f (by have := f.isLt; omega)) r C

end At

end Cert.MlstmIdeal.Out

end
-- ==== Proof.Out.MlstmOutput.lean ====
module

public import proofs.«01_k».proof.Proof.Out.Mlstm
public import proofs.«01_k».proof.Proof.Gen.MlstmIdeal.Points

@[expose] public section

set_option maxRecDepth 16384

/-! # The launch's results are the output projection of the whole arrays -/

noncomputable section

namespace Cert.MlstmIdeal.Out

open Cert.MlstmIdeal Cert.MlstmIdeal.Gen Cert.MlstmIdeal.Value Cert.Filter Cert.Out
open Idealize.ShloMosaic Idealize.ShloMosaic.TcCoe Idealize.SL.Sem

variable (m : (ℓ : Loc nD τ sig) → Buf (Elt Ideal) ℓ) (ρ : Dev nD → PrngReg) (c : Dev nD)

theorem lt_N (t : Fin cfg0.N) : t.val < 320 := Nat.lt_of_lt_of_eq t.isLt N_0

/-! ## The arguments as functions of their indices -/

abbrev forth (R : Fin 81920) (k : Fin 2048) : EReal := m ((c : Thread nD τ).loc main_arg0) (ix2 R k)
abbrev back (R : Fin 81920) (k : Fin 2048) : EReal := m ((c : Thread nD τ).loc main_arg1) (ix2 R k)
abbrev conv (R : Fin 81920) (k : Fin 2048) : EReal := m ((c : Thread nD τ).loc main_arg2) (ix2 R k)
abbrev gate (R : Fin 81920) (k : Fin 2048) : EReal := m ((c : Thread nD τ).loc main_arg3) (ix2 R k)
abbrev scale (k : Fin 2048) : EReal := m ((c : Thread nD τ).loc main_arg4) (ix1 k)
abbrev skip (k : Fin 2048) : EReal := m ((c : Thread nD τ).loc main_arg5) (ix1 k)
abbrev weights (k : Fin 2048) (C : Fin 1024) : EReal := m ((c : Thread nD τ).loc main_arg6) (ix2 k C)
abbrev tokens (R : Fin 81920) (k : Fin 1024) : EReal := m ((c : Thread nD τ).loc main_arg7) (ix2 R k)
abbrev gain (k : Fin 1024) : EReal := m ((c : Thread nD τ).loc main_arg8) (ix1 k)
abbrev router (k : Fin 1024) (e : Fin 16) : EReal := m ((c : Thread nD τ).loc main_arg9) (ix2 k e)

/-- Row `R` after the projection of the gated row is added. -/
abbrev added (R : Fin 81920) (C : Fin 1024) : EReal :=
  tokens m c R C + ∑ k : Fin 2048,
    (headRow (fun j => forth m c R j + back m c R j) (scale m c) k + skip m c k * conv m c R k) * gate m c R k * weights m c k C

theorem entry_scale (k : Fin 2048) : V m c main_v0 (ix2 0 k) = scale m c k := by
  entry_read
  pointwise
theorem entry_skip (k : Fin 2048) : V m c main_v1 (ix2 0 k) = skip m c k := by
  entry_read
  pointwise
theorem entry_zero (k : Fin 1024) : V m c main_v2 (ix2 0 k) = (0 : EReal) := by
  entry_read
  pointwise
theorem entry_weights (k : Fin 2048) (C : Fin 1024) : V m c main_v3 (ix2 k C) = weights m c k C := by
  entry_read
  pointwise
theorem entry_gain (k : Fin 1024) : V m c main_v4 (ix2 0 k) = gain m c k := by
  entry_read
  pointwise
theorem entry_router (e : Fin 16) (k : Fin 1024) : V m c main_v5 (ix2 e k) = router m c k e := by
  entry_read
  pointwise

/-! ## The blocks -/

/-- Where each window's block begins: the point's rows, or the whole. -/
theorem starts : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (∀ a, win0_4.index t a = 0)
    ∧ (∀ a, win0_5.index t a = 0)
    ∧ (∀ a, win0_6.index t a = 0)
    ∧ (∀ a, win0_7.index t a = 0)
    ∧ (win0_8.index t (0 : Fin 2) = t.val ∧ win0_8.index t (1 : Fin 2) = 0)
    ∧ (∀ a, win0_9.index t a = 0)
    ∧ (∀ a, win0_10.index t a = 0)
    ∧ (win0_11.index t (0 : Fin 2) = t.val ∧ win0_11.index t (1 : Fin 2) = 0)
    ∧ (win0_12.index t (0 : Fin 2) = t.val ∧ win0_12.index t (1 : Fin 2) = 0)
    ∧ win0_13.index t (0 : Fin 2) = 0 ∧ win0_13.index t (1 : Fin 2) = t.val :=
  (by decide +kernel : ∀ t : Fin grid0.N, _)

/-- The array row of row `r` of point `t`. -/
def row (t : Fin cfg0.N) (r : Fin 256) : Fin 81920 := ⟨256 * t.val + r.val, by have := lt_N t; have := r.isLt; omega⟩

theorem iblk_forth (t : Fin cfg0.N) (r : Fin 256) (k : Fin 2048) : iblk m c 0 t (ix2 r k) = forth m c (row t r) k := by
  obtain ⟨e0, e1⟩ := (starts t).1
  refine (congrFun (V_main_arg0 m c) _).trans (congrArg (m ((c : Thread nD τ).loc main_arg0)) (funext fun a => ?_))
  match a with
  | ⟨0, _⟩ => exact Fin.ext (by show win0_0.index t (0 : Fin 2) * 256 + 1 * r.val = 256 * t.val + r.val; rw [e0]; omega)
  | ⟨1, _⟩ => exact Fin.ext (by show win0_0.index t (1 : Fin 2) * 2048 + 1 * k.val = k.val; rw [e1]; omega)

theorem iblk_back (t : Fin cfg0.N) (r : Fin 256) (k : Fin 2048) : iblk m c 1 t (ix2 r k) = back m c (row t r) k := by
  obtain ⟨e0, e1⟩ := (starts t).2.1
  refine (congrFun (V_main_arg1 m c) _).trans (congrArg (m ((c : Thread nD τ).loc main_arg1)) (funext fun a => ?_))
  match a with
  | ⟨0, _⟩ => exact Fin.ext (by show win0_1.index t (0 : Fin 2) * 256 + 1 * r.val = 256 * t.val + r.val; rw [e0]; omega)
  | ⟨1, _⟩ => exact Fin.ext (by show win0_1.index t (1 : Fin 2) * 2048 + 1 * k.val = k.val; rw [e1]; omega)

theorem iblk_conv (t : Fin cfg0.N) (r : Fin 256) (k : Fin 2048) : iblk m c 2 t (ix2 r k) = conv m c (row t r) k := by
  obtain ⟨e0, e1⟩ := (starts t).2.2.1
  refine (congrFun (V_main_arg2 m c) _).trans (congrArg (m ((c : Thread nD τ).loc main_arg2)) (funext fun a => ?_))
  match a with
  | ⟨0, _⟩ => exact Fin.ext (by show win0_2.index t (0 : Fin 2) * 256 + 1 * r.val = 256 * t.val + r.val; rw [e0]; omega)
  | ⟨1, _⟩ => exact Fin.ext (by show win0_2.index t (1 : Fin 2) * 2048 + 1 * k.val = k.val; rw [e1]; omega)

theorem iblk_gate (t : Fin cfg0.N) (r : Fin 256) (k : Fin 2048) : iblk m c 3 t (ix2 r k) = gate m c (row t r) k := by
  obtain ⟨e0, e1⟩ := (starts t).2.2.2.1
  refine (congrFun (V_main_arg3 m c) _).trans (congrArg (m ((c : Thread nD τ).loc main_arg3)) (funext fun a => ?_))
  match a with
  | ⟨0, _⟩ => exact Fin.ext (by show win0_3.index t (0 : Fin 2) * 256 + 1 * r.val = 256 * t.val + r.val; rw [e0]; omega)
  | ⟨1, _⟩ => exact Fin.ext (by show win0_3.index t (1 : Fin 2) * 2048 + 1 * k.val = k.val; rw [e1]; omega)

theorem iblk_scale (t : Fin cfg0.N) (k : Fin 2048) : iblk m c 4 t (ix2 0 k) = scale m c k := by
  have e := (starts t).2.2.2.2.1
  refine Eq.trans (congrArg (V m c main_v0) (funext fun a => ?_)) (entry_scale m c k)
  match a with
  | ⟨0, _⟩ => exact Fin.ext (by show win0_4.index t (0 : Fin 2) * 1 + 1 * 0 = 0; rw [e])
  | ⟨1, _⟩ => exact Fin.ext (by show win0_4.index t (1 : Fin 2) * 2048 + 1 * k.val = k.val; rw [e]; omega)

theorem iblk_skip (t : Fin cfg0.N) (k : Fin 2048) : iblk m c 5 t (ix2 0 k) = skip m c k := by
  have e := (starts t).2.2.2.2.2.1
  refine Eq.trans (congrArg (V m c main_v1) (funext fun a => ?_)) (entry_skip m c k)
  match a with
  | ⟨0, _⟩ => exact Fin.ext (by show win0_5.index t (0 : Fin 2) * 1 + 1 * 0 = 0; rw [e])
  | ⟨1, _⟩ => exact Fin.ext (by show win0_5.index t (1 : Fin 2) * 2048 + 1 * k.val = k.val; rw [e]; omega)

theorem iblk_weights (t : Fin cfg0.N) (p : Fin 2048) (k : Fin 1024) : iblk m c 6 t (ix2 p k) = weights m c p k := by
  have e := (starts t).2.2.2.2.2.2.1
  refine Eq.trans (congrArg (V m c main_v3) (funext fun a => ?_)) (entry_weights m c p k)
  match a with
  | ⟨0, _⟩ => exact Fin.ext (by show win0_6.index t (0 : Fin 2) * 2048 + 1 * p.val = p.val; rw [e]; omega)
  | ⟨1, _⟩ => exact Fin.ext (by show win0_6.index t (1 : Fin 2) * 1024 + 1 * k.val = k.val; rw [e]; omega)

theorem iblk_zero (t : Fin cfg0.N) (k : Fin 1024) : iblk m c 7 t (ix2 0 k) = (0 : EReal) := by
  have e := (starts t).2.2.2.2.2.2.2.1
  refine Eq.trans (congrArg (V m c main_v2) (funext fun a => ?_)) (entry_zero m c k)
  match a with
  | ⟨0, _⟩ => exact Fin.ext (by show win0_7.index t (0 : Fin 2) * 1 + 1 * 0 = 0; rw [e])
  | ⟨1, _⟩ => exact Fin.ext (by show win0_7.index t (1 : Fin 2) * 1024 + 1 * k.val = k.val; rw [e]; omega)

theorem iblk_tokens (t : Fin cfg0.N) (r : Fin 256) (k : Fin 1024) : iblk m c 8 t (ix2 r k) = tokens m c (row t r) k := by
  obtain ⟨e0, e1⟩ := (starts t).2.2.2.2.2.2.2.2.1
  refine (congrFun (V_main_arg7 m c) _).trans (congrArg (m ((c : Thread nD τ).loc main_arg7)) (funext fun a => ?_))
  match a with
  | ⟨0, _⟩ => exact Fin.ext (by show win0_8.index t (0 : Fin 2) * 256 + 1 * r.val = 256 * t.val + r.val; rw [e0]; omega)
  | ⟨1, _⟩ => exact Fin.ext (by show win0_8.index t (1 : Fin 2) * 1024 + 1 * k.val = k.val; rw [e1]; omega)

theorem iblk_gain (t : Fin cfg0.N) (k : Fin 1024) : iblk m c 9 t (ix2 0 k) = gain m c k := by
  have e := (starts t).2.2.2.2.2.2.2.2.2.1
  refine Eq.trans (congrArg (V m c main_v4) (funext fun a => ?_)) (entry_gain m c k)
  match a with
  | ⟨0, _⟩ => exact Fin.ext (by show win0_9.index t (0 : Fin 2) * 1 + 1 * 0 = 0; rw [e])
  | ⟨1, _⟩ => exact Fin.ext (by show win0_9.index t (1 : Fin 2) * 1024 + 1 * k.val = k.val; rw [e]; omega)

theorem iblk_router (t : Fin cfg0.N) (p : Fin 16) (k : Fin 1024) : iblk m c 10 t (ix2 p k) = router m c k p := by
  have e := (starts t).2.2.2.2.2.2.2.2.2.2.1
  refine Eq.trans (congrArg (V m c main_v5) (funext fun a => ?_)) (entry_router m c p k)
  match a with
  | ⟨0, _⟩ => exact Fin.ext (by show win0_10.index t (0 : Fin 2) * 16 + 1 * p.val = p.val; rw [e]; omega)
  | ⟨1, _⟩ => exact Fin.ext (by show win0_10.index t (1 : Fin 2) * 1024 + 1 * k.val = k.val; rw [e]; omega)

/-! ## What a point leaves -/

theorem fresh_row (t : Fin cfg0.N) (r : Fin 256) (C : Fin 1024) :
    fresh (iblk m c 0 t) (iblk m c 1 t) (iblk m c 2 t) (iblk m c 3 t) (iblk m c 4 t) (iblk m c 5 t) (iblk m c 6 t) (iblk m c 7 t) (iblk m c 8 t) (ix2 r C) = added m c (row t r) C := by
  rw [fresh_at]
  unfold line mix added
  rw [iblk_tokens, iblk_zero, add_zero]
  refine congrArg (_ + ·) (Finset.sum_congr rfl fun k _ => ?_)
  rw [iblk_conv, iblk_gate, iblk_skip, iblk_weights]
  refine congrArg (· * _) (congrArg (· * _) (congrArg (· + _) (congrArg₂ (fun v g => headRow v g k) (funext fun j => ?_) (funext (iblk_scale m c t)))))
  exact congrArg₂ (· + ·) (iblk_forth m c t r j) (iblk_back m c t r j)

/-- The three results: the rows, the scaled rows and the shares, by expert and row. -/
def whole11 : Buf (Elt Ideal) ((c : Thread nD τ).loc main_v6_0) := fun i => added m c (i 0) (i 1)
def whole12 : Buf (Elt Ideal) ((c : Thread nD τ).loc main_v6_1) := fun i => unitRow (added m c (i 0)) (gain m c) (i 1)
def whole13 : Buf (Elt Ideal) ((c : Thread nD τ).loc main_v6_2) := fun i => share (added m c (i 1)) (gain m c) (router m c) (i 0)

theorem flushed11_eq (t : Fin cfg0.N) (hf : (cfg0.win 11).flush t = true) :
    (dats m 0 c).flushed 11 t = ((cfg0.win 11).blk t).view.read (Elt Ideal) (whole11 m c) := by
  rw [flushed11_A, out11_eq]
  obtain ⟨e0, e1⟩ := (starts t).2.2.2.2.2.2.2.2.2.2.2.1
  funext y
  obtain ⟨r, C, rfl⟩ : ∃ (r : Fin 256) (C : Fin 1024), y = ix2 r C :=
    ⟨y 0, y 1, by funext a; match a with | ⟨0, _⟩ => rfl | ⟨1, _⟩ => rfl⟩
  refine (fresh_row m c t r C).trans (congrArg₂ (added m c) (Fin.ext ?_) (Fin.ext ?_))
  · show 256 * t.val + r.val = win0_11.index t (0 : Fin 2) * 256 + 1 * r.val
    rw [e0]; omega
  · show C.val = win0_11.index t (1 : Fin 2) * 1024 + 1 * C.val
    rw [e1]; omega

theorem flushed12_eq (t : Fin cfg0.N) (hf : (cfg0.win 12).flush t = true) :
    (dats m 0 c).flushed 12 t = ((cfg0.win 12).blk t).view.read (Elt Ideal) (whole12 m c) := by
  rw [flushed12_A, out12_eq]
  obtain ⟨e0, e1⟩ := (starts t).2.2.2.2.2.2.2.2.2.2.2.2.1
  funext y
  obtain ⟨r, C, rfl⟩ : ∃ (r : Fin 256) (C : Fin 1024), y = ix2 r C :=
    ⟨y 0, y 1, by funext a; match a with | ⟨0, _⟩ => rfl | ⟨1, _⟩ => rfl⟩
  refine (pay14_at _ _ r C).trans ((congrArg₂ (fun y g => unitRow y g C) (funext (fresh_row m c t r)) (funext (iblk_gain m c t))).trans ?_)
  refine congrArg₂ (fun R C => unitRow (added m c R) (gain m c) C) (Fin.ext ?_) (Fin.ext ?_)
  · show 256 * t.val + r.val = win0_12.index t (0 : Fin 2) * 256 + 1 * r.val
    rw [e0]; omega
  · show C.val = win0_12.index t (1 : Fin 2) * 1024 + 1 * C.val
    rw [e1]; omega

theorem flushed13_eq (t : Fin cfg0.N) (hf : (cfg0.win 13).flush t = true) :
    (dats m 0 c).flushed 13 t = ((cfg0.win 13).blk t).view.read (Elt Ideal) (whole13 m c) := by
  rw [flushed13_A, out13_eq]
  obtain ⟨e0, e1⟩ := (starts t).2.2.2.2.2.2.2.2.2.2.2.2.2
  funext y
  obtain ⟨e, r, rfl⟩ : ∃ (e : Fin 16) (r : Fin 256), y = ix2 e r :=
    ⟨y 0, y 1, by funext a; match a with | ⟨0, _⟩ => rfl | ⟨1, _⟩ => rfl⟩
  refine (shares_at _ _ _ e r).trans ((congr (congrArg₂ share (funext (fresh_row m c t r)) (funext (iblk_gain m c t)))
    (funext₂ fun k e => iblk_router m c t e k)).symm ▸ ?_)
  refine congrArg₂ (fun R e => share (added m c R) (gain m c) (router m c) e) (Fin.ext ?_) (Fin.ext ?_)
  · show 256 * t.val + r.val = win0_13.index t (1 : Fin 2) * 256 + 1 * r.val
    rw [e1]; omega
  · show e.val = win0_13.index t (0 : Fin 2) * 16 + 1 * e.val
    rw [e0]; omega

/-! ## The whole arrays -/

/-- Every row lies in the block of its point. -/
theorem within (R : Fin 81920) : ∃ t : Fin cfg0.N, 256 * t.val ≤ R.val ∧ R.val < 256 * t.val + 256 := by
  have h0 := R.isLt
  have hl : R.val / 256 < 320 := by omega
  exact ⟨⟨R.val / 256, Nat.lt_of_lt_of_eq hl N_0.symm⟩, by show 256 * (R.val / 256) ≤ _; omega,
    by show _ < 256 * (R.val / 256) + 256; omega⟩

theorem covered11 (i : S81920x1024.Idx) : ∃ t : Fin cfg0.N, (cfg0.win 11).flush t = true ∧ i ∈ ((cfg0.win 11).blk t).view.set := by
  obtain ⟨t, h0, h1⟩ := within (i 0)
  obtain ⟨e0, e1⟩ := (starts t).2.2.2.2.2.2.2.2.2.2.2.1
  have h2 : (i 1).val < 1024 := (i 1).isLt
  refine ⟨t, flush0_11 t, ?_⟩
  show i ∈ ((View.whole main_v6_0).slice (win0_11.rect t)).set
  rw [View.set_slice_whole, Rect.mem_set_unit]
  intro a
  match a with
  | ⟨0, _⟩ => show win0_11.index t (0 : Fin 2) * 256 ≤ (i 0).val ∧ (i 0).val < win0_11.index t (0 : Fin 2) * 256 + 256; omega
  | ⟨1, _⟩ => show win0_11.index t (1 : Fin 2) * 1024 ≤ (i 1).val ∧ (i 1).val < win0_11.index t (1 : Fin 2) * 1024 + 1024; omega

theorem covered12 (i : S81920x1024.Idx) : ∃ t : Fin cfg0.N, (cfg0.win 12).flush t = true ∧ i ∈ ((cfg0.win 12).blk t).view.set := by
  obtain ⟨t, h0, h1⟩ := within (i 0)
  obtain ⟨e0, e1⟩ := (starts t).2.2.2.2.2.2.2.2.2.2.2.2.1
  have h2 : (i 1).val < 1024 := (i 1).isLt
  refine ⟨t, flush0_12 t, ?_⟩
  show i ∈ ((View.whole main_v6_1).slice (win0_12.rect t)).set
  rw [View.set_slice_whole, Rect.mem_set_unit]
  intro a
  match a with
  | ⟨0, _⟩ => show win0_12.index t (0 : Fin 2) * 256 ≤ (i 0).val ∧ (i 0).val < win0_12.index t (0 : Fin 2) * 256 + 256; omega
  | ⟨1, _⟩ => show win0_12.index t (1 : Fin 2) * 1024 ≤ (i 1).val ∧ (i 1).val < win0_12.index t (1 : Fin 2) * 1024 + 1024; omega

theorem covered13 (i : S16x81920.Idx) : ∃ t : Fin cfg0.N, (cfg0.win 13).flush t = true ∧ i ∈ ((cfg0.win 13).blk t).view.set := by
  obtain ⟨t, h0, h1⟩ := within (i 1)
  obtain ⟨e0, e1⟩ := (starts t).2.2.2.2.2.2.2.2.2.2.2.2.2
  have h2 : (i 0).val < 16 := (i 0).isLt
  refine ⟨t, flush0_13 t, ?_⟩
  show i ∈ ((View.whole main_v6_2).slice (win0_13.rect t)).set
  rw [View.set_slice_whole, Rect.mem_set_unit]
  intro a
  match a with
  | ⟨0, _⟩ => show win0_13.index t (0 : Fin 2) * 16 ≤ (i 0).val ∧ (i 0).val < win0_13.index t (0 : Fin 2) * 16 + 16; omega
  | ⟨1, _⟩ => show win0_13.index t (1 : Fin 2) * 256 ≤ (i 1).val ∧ (i 1).val < win0_13.index t (1 : Fin 2) * 256 + 256; omega

theorem array11 : (dats m 0 c).arrAt 11 cfg0.N = whole11 m c := (dats m 0 c).arrAt_eq_of_cover 11 _ (flushed11_eq m c) covered11
theorem array12 : (dats m 0 c).arrAt 12 cfg0.N = whole12 m c := (dats m 0 c).arrAt_eq_of_cover 12 _ (flushed12_eq m c) covered12
theorem array13 : (dats m 0 c).arrAt 13 cfg0.N = whole13 m c := (dats m 0 c).arrAt_eq_of_cover 13 _ (flushed13_eq m c) covered13

/-- The run: the results are the projection, the arguments unchanged. -/
theorem run : θ_run defs (onTc (τ := τ) (main (F := Ideal))) ⟨m, fun _ => 0, ρ⟩ (fun r => ∀ c : Dev nD,
    r.2.mem ((c.tc : Thread nD τ).loc main_v6_0) = whole11 m c
    ∧ r.2.mem ((c.tc : Thread nD τ).loc main_v6_1) = whole12 m c
    ∧ r.2.mem ((c.tc : Thread nD τ).loc main_v6_2) = whole13 m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)) :=
  (θ_run defs _ _).mono (fun _ h c => ⟨(h c).1.trans (array11 m c), (h c).2.1.trans (array12 m c), (h c).2.2.1.trans (array13 m c), (h c).2.2.2⟩)
    (run_blocks m ρ)

end Cert.MlstmIdeal.Out

end
-- ==== Proof.Out.MlstmReference.lean ====
module

public import proofs.«01_k».proof.Proof.Gen.MlstmReferenceIdeal.Read
public import proofs.«01_k».proof.Proof.Out.Spec
public import Idealize.ShloMosaic.Lib.Pointwise

@[expose] public section

set_option maxRecDepth 16384

/-! # What the reference of the gated cell's output projection computes -/

noncomputable section

namespace Cert.MlstmReferenceIdeal.Out

open Cert.MlstmReferenceIdeal Cert.MlstmReferenceIdeal.Gen Cert.MlstmReferenceIdeal.Read Cert.Filter Cert.Out
open Idealize.ShloMosaic Idealize.ShloMosaic.TcCoe Idealize.SL.Sem

variable (x0 x1 x2 x3 : (⟨S81920x2048, .f32⟩ : BufTy).Contents (Elt Ideal)) (x4 x5 : (⟨S2048, .f32⟩ : BufTy).Contents (Elt Ideal)) (x6 : (⟨S2048x1024, .f32⟩ : BufTy).Contents (Elt Ideal))
  (x7 : (⟨S81920x1024, .f32⟩ : BufTy).Contents (Elt Ideal)) (x8 : (⟨S1024, .f32⟩ : BufTy).Contents (Elt Ideal)) (x9 : (⟨S1024x16, .f32⟩ : BufTy).Contents (Elt Ideal))

/-- Row `R` after the projection of the gated row is added. -/
abbrev added (R : Fin 81920) (C : Fin 1024) : EReal :=
  x7 (ix2 R C) + ∑ k : Fin 2048,
    (headRow (fun j => x0 (ix2 R j) + x1 (ix2 R j)) (fun j => x4 (ix1 j)) k + x5 (ix1 k) * x2 (ix2 R k)) * x3 (ix2 R k) * x6 (ix2 k C)

theorem headed_at (R : Fin 81920) (k : Fin 2048) : val_main_v16 (F := Ideal) x0 x1 x4 (ix2 R k)
    = headRow (fun j => x0 (ix2 R j) + x1 (ix2 R j)) (fun j => x4 (ix1 j)) k := by
  unfold headRow val_main_v16 val_main_v15 val_main_v14 val_main_v13 val_main_v12 val_main_v11 val_main_v10 val_main_v9 val_main_v8 val_main_v7 val_main_v6
    val_main_v5 val_main_v4 val_main_v3 val_main_v2 val_main_v1 val_main_v0 val_main_cst val_main_cst_0 val_main_cst_1
  pointwise
  have e : ∀ (y : Fin 512) (h), (⟨k.val / 512 * 512 + y.val, h⟩ : Fin 2048) = inHead k y := fun y _ => Fin.ext (congrArg (· + y.val) (Nat.mul_comm _ _))
  simp only [e]

theorem added_at (R : Fin 81920) (C : Fin 1024) : val_main_v23 (F := Ideal) x0 x1 x2 x3 x4 x5 x6 x7 (ix2 R C) = added x0 x1 x2 x3 x4 x5 x6 x7 R C := by
  have h := headed_at x0 x1 x4 R
  unfold val_main_v23 val_main_v22 val_main_v21 val_main_v20 val_main_v19 val_main_v18 val_main_v17
  generalize val_main_v16 (F := Ideal) x0 x1 x4 = z at *
  pointwise
  simp only [h]

theorem scaled_at (R : Fin 81920) (C : Fin 1024) : val_main_v36 (F := Ideal) x0 x1 x2 x3 x4 x5 x6 x7 x8 (ix2 R C)
    = unitRow (added x0 x1 x2 x3 x4 x5 x6 x7 R) (fun k => x8 (ix1 k)) C := by
  have h := added_at x0 x1 x2 x3 x4 x5 x6 x7 R
  unfold unitRow val_main_v36 val_main_v35 val_main_v34 val_main_v33 val_main_v32 val_main_v31 val_main_v30 val_main_v29 val_main_v28 val_main_v27
    val_main_v26 val_main_v25 val_main_v24 val_main_cst_2 val_main_cst_3 val_main_cst_4
  generalize val_main_v23 (F := Ideal) x0 x1 x2 x3 x4 x5 x6 x7 = z at *
  pointwise
  simp only [h]

theorem rounded_at (R : Fin 81920) (C : Fin 1024) : val_main_v49 (F := Ideal) x0 x1 x2 x3 x4 x5 x6 x7 x8 (ix2 R C)
    = unitRow (added x0 x1 x2 x3 x4 x5 x6 x7 R) (fun k => x8 (ix1 k)) C := scaled_at x0 x1 x2 x3 x4 x5 x6 x7 x8 R C

theorem greatest_at (X : FVec Ideal S81920x16 .f32) (R : Fin 81920) :
    Host.reduce FloatOps.maximumf X (val_main_cst_5 (F := Ideal)) reducesTo_S81920x16_S81920_d1 h_S_ (ix1 R)
      = Finset.fold max ⊥ (fun e : Fin 16 => X (ix2 R e)) Finset.univ := by
  unfold val_main_cst_5
  pointwise
  rw [word_bottom]

theorem shares_at (e : Fin 16) (R : Fin 81920) : val_main_v50 (F := Ideal) x0 x1 x2 x3 x4 x5 x6 x7 x8 x9 (ix2 e R)
    = share (added x0 x1 x2 x3 x4 x5 x6 x7 R) (fun k => x8 (ix1 k)) (fun k e => x9 (ix2 k e)) e := by
  have h := scaled_at x0 x1 x2 x3 x4 x5 x6 x7 x8 R
  have s : ∀ e, val_main_v37 (F := Ideal) x0 x1 x2 x3 x4 x5 x6 x7 x8 x9 (ix2 R e) = score (added x0 x1 x2 x3 x4 x5 x6 x7 R) (fun k => x8 (ix1 k)) (fun k e => x9 (ix2 k e)) e := by
    intro e
    unfold score val_main_v37
    generalize val_main_v36 (F := Ideal) x0 x1 x2 x3 x4 x5 x6 x7 x8 = z at *
    pointwise
    simp only [h]
  have g : val_main_v40 (F := Ideal) x0 x1 x2 x3 x4 x5 x6 x7 x8 x9 (ix1 R) = greatest (added x0 x1 x2 x3 x4 x5 x6 x7 R) (fun k => x8 (ix1 k)) (fun k e => x9 (ix2 k e)) := by
    rw [val_main_v40_apply, val_main_v39_apply, val_main_cst_6_apply]
    unfold val_main_v38 greatest
    rw [greatest_at]
    simp only [s]
    show max (Ideal.ofBits .f32 0xFF800000#32) _ = _
    rw [word_bottom]
    exact max_eq_right bot_le
  unfold share val_main_v50 val_main_v48 val_main_v47 val_main_v46 val_main_v45 val_main_v44 val_main_v43 val_main_v42 val_main_v41 val_main_cst_7
  generalize val_main_v40 (F := Ideal) x0 x1 x2 x3 x4 x5 x6 x7 x8 x9 = y at *
  generalize val_main_v37 (F := Ideal) x0 x1 x2 x3 x4 x5 x6 x7 x8 x9 = z at *
  pointwise
  simp only [s, g]

end Cert.MlstmReferenceIdeal.Out

end
-- ==== Proof.Out.Gate.lean ====
module

public import proofs.«01_k».proof.Proof.Gen.GateIdeal.Value
public import proofs.«01_k».proof.Proof.Out.Spec
public import proofs.«01_k».proof.Proof.Out.Halves
public import Idealize.ShloMosaic.Lib.Pointwise
public import Idealize.ShloMosaic.Lib.Pipeline.Value

@[expose] public section

set_option maxRecDepth 16384

/-! # What one grid point of the Hyena output projection leaves -/

noncomputable section

namespace Cert.GateIdeal.Out

open Cert.GateIdeal Cert.GateIdeal.Gen Cert.GateIdeal.Value Cert.Filter Cert.Out
open Idealize.ShloMosaic Idealize.ShloMosaic.TcCoe Idealize.ShloMosaic.Tactic Idealize.SL.Sem

section Formula

variable {F : FTy → Type} [FloatOps F]

theorem offs : (![0, 0] : Fin 2 → Nat) = fun _ => 0 := by funext a; match a with | ⟨0, _⟩ => rfl | ⟨1, _⟩ => rfl

variable (c : Dev nD) (i : grid0.Coords)
    (a1 : Memref sig .tc .vmem S512x1024 .f32) (h1 : a1.IsWhole) (a2 : Memref sig .tc .vmem S512x1024 .f32) (h2 : a2.IsWhole)
    (a3 : Memref sig .tc .vmem S512x1024 .f32) (h3 : a3.IsWhole) (a4 : Memref sig .tc .vmem S1x1024 .f32) (h4 : a4.IsWhole)
    (a5 : Memref sig .tc .vmem S1024x1024 .bf16) (h5 : a5.IsWhole) (a6 : Memref sig .tc .vmem S1x1024 .f32) (h6 : a6.IsWhole)
    (a7 : Memref sig .tc .vmem S512x1024 .f32) (h7 : a7.IsWhole) (a8 : Memref sig .tc .vmem S1x1024 .f32) (h8 : a8.IsWhole)
    (a9 : Memref sig .tc .vmem S16x1024 .f32) (h9 : a9.IsWhole) (a10 : Memref sig .tc .vmem S512x1024 .f32) (h10 : a10.IsWhole)
    (a11 : Memref sig .tc .vmem S512x1024 .bf16) (h11 : a11.IsWhole) (a12 : Memref sig .tc .vmem S16x512 .f32) (h12 : a12.IsWhole)
    (x0 : Vec F S512x1024 .f32) (x1 : Vec F S512x1024 .f32) (x2 : Vec F S512x1024 .f32) (x3 : Vec F S1x1024 .f32)
    (x4 : Vec F S1024x1024 .bf16) (x5 : Vec F S1x1024 .f32) (x6 : Vec F S512x1024 .f32) (x7 : Vec F S1x1024 .f32)
    (x8 : Vec F S16x1024 .f32)

/-- The new rows: the old ones, the bias and the product, in two halves of the columns. -/
def fresh : Vec F S512x1024 .f32 := View.canon
  [⟨Rect.unit (s := S512x1024) ![0, 512] S512x512.size inb_S512x1024_S512x512_0_512,
      k0_pay6 x0 x1 x2 x3 (View.ld x6 (Rect.unit (s := S512x1024) ![0, 512] S512x512.size inb_S512x1024_S512x512_0_512))
        (View.ld x5 (Rect.unit (s := S1x1024) ![0, 512] S1x512.size inb_S1x1024_S1x512_0_512))
        (View.ld x4 (Rect.unit (s := S1024x1024) ![0, 512] S1024x512.size inb_S1024x1024_S1024x512_0_512))⟩,
   ⟨Rect.unit (s := S512x1024) ![0, 0] S512x512.size inb_S512x1024_S512x512_0_0,
      k0_pay5 x0 x1 x2 x3 (View.ld x6 (Rect.unit (s := S512x1024) ![0, 0] S512x512.size inb_S512x1024_S512x512_0_0))
        (View.ld x5 (Rect.unit (s := S1x1024) ![0, 0] S1x512.size inb_S1x1024_S1x512_0_0))
        (View.ld x4 (Rect.unit (s := S1024x1024) ![0, 0] S1024x512.size inb_S1024x1024_S1024x512_0_0))⟩]

theorem out9_eq : out0_A_9 c i a1 h1 a2 h2 a3 h3 a4 h4 a5 h5 a6 h6 a7 h7 a8 h8 a9 h9 a10 h10 a11 h11 a12 h12 x0 x1 x2 x3 x4 x5 x6 x7 x8
    = fresh x0 x1 x2 x3 x4 x5 x6 := by
  unfold out0_A_9
  rw [View.read_writes_eq_canon _ _ _ (cover0_A_9 c i a1 h1 a2 h2 a3 h3 a4 h4 a5 h5 a6 h6 a7 h7 a8 h8 a9 h9 a10 h10 a11 h11 a12 h12 x0 x1 x2 x3 x4 x5 x6 x7 x8)]
  unfold kernelRun0_A fresh
  dsimp only
  sl_unfold_words
  simp only [View.readAt_eq_ld, h1.read_unread, h2.read_unread, h3.read_unread, h4.read_unread, h5.read_unread, h6.read_unread, h7.read_unread, h8.read_unread, h9.read_unread,
    View.ld_unit_zero (S := S512x1024) offs, View.ld_unit_zero (S := S1x1024) offs]

theorem out10_eq : out0_A_10 c i a1 h1 a2 h2 a3 h3 a4 h4 a5 h5 a6 h6 a7 h7 a8 h8 a9 h9 a10 h10 a11 h11 a12 h12 x0 x1 x2 x3 x4 x5 x6 x7 x8
    = k0_pay2 (fresh x0 x1 x2 x3 x4 x5 x6) x7 := by
  unfold out0_A_10
  rw [View.read_writes_eq_canon _ _ _ (cover0_A_10 c i a1 h1 a2 h2 a3 h3 a4 h4 a5 h5 a6 h6 a7 h7 a8 h8 a9 h9 a10 h10 a11 h11 a12 h12 x0 x1 x2 x3 x4 x5 x6 x7 x8)]
  unfold kernelRun0_A fresh
  dsimp only
  sl_unfold_words
  rw [View.canon_unit_zero (S := S512x1024) offs]
  simp only [View.readAt_eq_ld, h1.read_unread, h2.read_unread, h3.read_unread, h4.read_unread, h5.read_unread, h6.read_unread, h7.read_unread, h8.read_unread, h9.read_unread,
    View.ld_unit_zero (S := S512x1024) offs, View.ld_unit_zero (S := S1x1024) offs]
  exact congrArg (fun z => k0_pay2 z x7) (load_whole a10.view _ _)

theorem out11_eq : out0_A_11 c i a1 h1 a2 h2 a3 h3 a4 h4 a5 h5 a6 h6 a7 h7 a8 h8 a9 h9 a10 h10 a11 h11 a12 h12 x0 x1 x2 x3 x4 x5 x6 x7 x8
    = k0_pay3 (fresh x0 x1 x2 x3 x4 x5 x6) x7 x8 := by
  unfold out0_A_11
  rw [View.read_writes_eq_canon _ _ _ (cover0_A_11 c i a1 h1 a2 h2 a3 h3 a4 h4 a5 h5 a6 h6 a7 h7 a8 h8 a9 h9 a10 h10 a11 h11 a12 h12 x0 x1 x2 x3 x4 x5 x6 x7 x8)]
  unfold kernelRun0_A fresh
  dsimp only
  sl_unfold_words
  rw [View.canon_unit_zero (S := S16x512) offs]
  simp only [View.readAt_eq_ld, h1.read_unread, h2.read_unread, h3.read_unread, h4.read_unread, h5.read_unread, h6.read_unread, h7.read_unread, h8.read_unread, h9.read_unread,
    View.ld_unit_zero (S := S512x1024) offs, View.ld_unit_zero (S := S1x1024) offs, View.ld_unit_zero (S := S16x1024) offs]
  exact congrArg (fun z => k0_pay3 z x7 x8) (load_whole a10.view _ _)

end Formula

/-! ## At the ideal numbers, read at an index -/

section At

variable (y : FVec Ideal S512x1024 .f32) (g : FVec Ideal S1x1024 .f32) (w : Vec Ideal S16x1024 .f32)

theorem pay1_at (r : Fin 512) (k : Fin 1024) : k0_pay1 (F := Ideal) y g (ix2 r k) = unitRow (fun k => y (ix2 r k)) (fun k => g (ix2 0 k)) k := by
  unfold unitRow
  pointwise [k0_pay1]

theorem pay2_at (r : Fin 512) (k : Fin 1024) : k0_pay2 (F := Ideal) y g (ix2 r k) = unitRow (fun k => y (ix2 r k)) (fun k => g (ix2 0 k)) k := by
  rw [← pay1_at]
  rfl

theorem pay3_at (e : Fin 16) (r : Fin 512) :
    k0_pay3 (F := Ideal) y g w (ix2 e r) = share (fun k => y (ix2 r k)) (fun k => g (ix2 0 k)) (fun k e => w (ix2 e k)) e := by
  have h := fun k => pay1_at y g r k
  unfold share greatest score k0_pay3
  generalize k0_pay1 (F := Ideal) y g = z at *
  pointwise
  simp only [h, word_bottom, mul_comm]

variable (x0 x1 x2 : Vec Ideal S512x1024 .f32) (x3 : Vec Ideal S1x1024 .f32) (x4 : Vec Ideal S1024x1024 .bf16) (x5 : Vec Ideal S1x1024 .f32)
  (x6 : Vec Ideal S512x1024 .f32)

/-- The gated row that is projected. -/
def gated (r : Fin 512) (k : Fin 1024) : EReal := (x0 (ix2 r k) + x1 (ix2 r k) * x3 (ix2 0 k)) * x2 (ix2 r k)

theorem pay5_at (x : Vec Ideal S512x512 .f32) (b : Vec Ideal S1x512 .f32) (w : Vec Ideal S1024x512 .bf16) (r f : Fin 512) :
    k0_pay5 x0 x1 x2 x3 x b w (ix2 r f) = x (ix2 r f) + b (ix2 0 f) + ∑ k : Fin 1024, gated x0 x1 x2 x3 r k * w (ix2 k f) := by
  unfold gated
  pointwise [k0_pay5, k0_pay4]

/-- Column `C` of the point's new row `r`. -/
def line (r : Fin 512) (C : Fin 1024) : EReal := x6 (ix2 r C) + x5 (ix2 0 C) + ∑ k : Fin 1024, gated x0 x1 x2 x3 r k * x4 (ix2 k C)

theorem fresh_at (r : Fin 512) (C : Fin 1024) : fresh x0 x1 x2 x3 x4 x5 x6 (ix2 r C) = line x0 x1 x2 x3 x4 x5 x6 r C := by
  have side : ∀ (o : ℕ) (i6) (i5) (i4) (r f : Fin 512) (h : o + f.val < 1024),
      k0_pay5 x0 x1 x2 x3 (View.ld x6 (Rect.unit (s := S512x1024) ![0, o] S512x512.size i6)) (View.ld x5 (Rect.unit (s := S1x1024) ![0, o] S1x512.size i5))
        (View.ld x4 (Rect.unit (s := S1024x1024) ![0, o] S1024x512.size i4)) (ix2 r f) = line x0 x1 x2 x3 x4 x5 x6 r ⟨o + f.val, h⟩ := fun o i6 i5 i4 r f h => by
    rw [pay5_at]
    exact congrArg₂ (· + ·) (congrArg₂ (· + ·) (ld_half o x6 i6 r f h) (ld_half o x5 i5 0 f h))
      (Finset.sum_congr rfl fun k _ => congrArg (_ * ·) (ld_half o x4 i4 k f h))
  exact halves (line x0 x1 x2 x3 x4 x5 x6) _ _ inb_S512x1024_S512x512_0_512 inb_S512x1024_S512x512_0_0
    (fun r f => side 512 _ _ _ r f (by have := f.isLt; omega)) (fun r f => side 0 _ _ _ r f (by have := f.isLt; omega)) r C

end At

end Cert.GateIdeal.Out

end
-- ==== Proof.Out.GateOutput.lean ====
module

public import proofs.«01_k».proof.Proof.Out.Gate
public import proofs.«01_k».proof.Proof.Gen.GateIdeal.Points

@[expose] public section

set_option maxRecDepth 16384

/-! # The launch's results are the output projection of the whole arrays -/

noncomputable section

namespace Cert.GateIdeal.Out

open Cert.GateIdeal Cert.GateIdeal.Gen Cert.GateIdeal.Value Cert.Filter Cert.Out
open Idealize.ShloMosaic Idealize.ShloMosaic.TcCoe Idealize.SL.Sem

variable (m : (ℓ : Loc nD τ sig) → Buf (Elt Ideal) ℓ) (ρ : Dev nD → PrngReg) (c : Dev nD)

theorem lt_N (t : Fin cfg0.N) : t.val < 160 := Nat.lt_of_lt_of_eq t.isLt N_0

/-! ## The arguments as functions of their indices -/

abbrev conv (R : Fin 81920) (k : Fin 1024) : EReal := m ((c : Thread nD τ).loc main_arg0) (ix2 R k)
abbrev value (R : Fin 81920) (k : Fin 1024) : EReal := m ((c : Thread nD τ).loc main_arg1) (ix2 R k)
abbrev first (R : Fin 81920) (k : Fin 1024) : EReal := m ((c : Thread nD τ).loc main_arg2) (ix2 R k)
abbrev skip (k : Fin 1024) : EReal := m ((c : Thread nD τ).loc main_arg3) (ix1 k)
abbrev weights (k C : Fin 1024) : EReal := m ((c : Thread nD τ).loc main_arg4) (ix2 k C)
abbrev bias (C : Fin 1024) : EReal := m ((c : Thread nD τ).loc main_arg5) (ix1 C)
abbrev tokens (R : Fin 81920) (k : Fin 1024) : EReal := m ((c : Thread nD τ).loc main_arg6) (ix2 R k)
abbrev gain (k : Fin 1024) : EReal := m ((c : Thread nD τ).loc main_arg7) (ix1 k)
abbrev router (k : Fin 1024) (e : Fin 16) : EReal := m ((c : Thread nD τ).loc main_arg8) (ix2 k e)

/-- Row `R` after the projection of the gated row is added. -/
abbrev added (R : Fin 81920) (C : Fin 1024) : EReal :=
  tokens m c R C + ((∑ k : Fin 1024, (conv m c R k + value m c R k * skip m c k) * first m c R k * weights m c k C) + bias m c C)

theorem entry_skip (k : Fin 1024) : V m c main_v0 (ix2 0 k) = skip m c k := by
  entry_read
  pointwise
theorem entry_weights (k C : Fin 1024) : V m c main_v1 (ix2 k C) = weights m c k C := by
  entry_read
  pointwise
theorem entry_bias (k : Fin 1024) : V m c main_v2 (ix2 0 k) = bias m c k := by
  entry_read
  pointwise
theorem entry_gain (k : Fin 1024) : V m c main_v3 (ix2 0 k) = gain m c k := by
  entry_read
  pointwise
theorem entry_router (e : Fin 16) (k : Fin 1024) : V m c main_v4 (ix2 e k) = router m c k e := by
  entry_read
  pointwise

/-! ## The blocks -/

/-- Where each window's block begins: the point's rows, or the whole. -/
theorem starts : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (∀ a, win0_3.index t a = 0)
    ∧ (∀ a, win0_4.index t a = 0)
    ∧ (∀ a, win0_5.index t a = 0)
    ∧ (win0_6.index t (0 : Fin 2) = t.val ∧ win0_6.index t (1 : Fin 2) = 0)
    ∧ (∀ a, win0_7.index t a = 0)
    ∧ (∀ a, win0_8.index t a = 0)
    ∧ (win0_9.index t (0 : Fin 2) = t.val ∧ win0_9.index t (1 : Fin 2) = 0)
    ∧ (win0_10.index t (0 : Fin 2) = t.val ∧ win0_10.index t (1 : Fin 2) = 0)
    ∧ win0_11.index t (0 : Fin 2) = 0 ∧ win0_11.index t (1 : Fin 2) = t.val :=
  (by decide +kernel : ∀ t : Fin grid0.N, _)

/-- The array row of row `r` of point `t`. -/
def row (t : Fin cfg0.N) (r : Fin 512) : Fin 81920 := ⟨512 * t.val + r.val, by have := lt_N t; have := r.isLt; omega⟩

theorem iblk_conv (t : Fin cfg0.N) (r : Fin 512) (k : Fin 1024) : iblk m c 0 t (ix2 r k) = conv m c (row t r) k := by
  obtain ⟨e0, e1⟩ := (starts t).1
  refine (congrFun (V_main_arg0 m c) _).trans (congrArg (m ((c : Thread nD τ).loc main_arg0)) (funext fun a => ?_))
  match a with
  | ⟨0, _⟩ => exact Fin.ext (by show win0_0.index t (0 : Fin 2) * 512 + 1 * r.val = 512 * t.val + r.val; rw [e0]; omega)
  | ⟨1, _⟩ => exact Fin.ext (by show win0_0.index t (1 : Fin 2) * 1024 + 1 * k.val = k.val; rw [e1]; omega)

theorem iblk_value (t : Fin cfg0.N) (r : Fin 512) (k : Fin 1024) : iblk m c 1 t (ix2 r k) = value m c (row t r) k := by
  obtain ⟨e0, e1⟩ := (starts t).2.1
  refine (congrFun (V_main_arg1 m c) _).trans (congrArg (m ((c : Thread nD τ).loc main_arg1)) (funext fun a => ?_))
  match a with
  | ⟨0, _⟩ => exact Fin.ext (by show win0_1.index t (0 : Fin 2) * 512 + 1 * r.val = 512 * t.val + r.val; rw [e0]; omega)
  | ⟨1, _⟩ => exact Fin.ext (by show win0_1.index t (1 : Fin 2) * 1024 + 1 * k.val = k.val; rw [e1]; omega)

theorem iblk_first (t : Fin cfg0.N) (r : Fin 512) (k : Fin 1024) : iblk m c 2 t (ix2 r k) = first m c (row t r) k := by
  obtain ⟨e0, e1⟩ := (starts t).2.2.1
  refine (congrFun (V_main_arg2 m c) _).trans (congrArg (m ((c : Thread nD τ).loc main_arg2)) (funext fun a => ?_))
  match a with
  | ⟨0, _⟩ => exact Fin.ext (by show win0_2.index t (0 : Fin 2) * 512 + 1 * r.val = 512 * t.val + r.val; rw [e0]; omega)
  | ⟨1, _⟩ => exact Fin.ext (by show win0_2.index t (1 : Fin 2) * 1024 + 1 * k.val = k.val; rw [e1]; omega)

theorem iblk_skip (t : Fin cfg0.N) (k : Fin 1024) : iblk m c 3 t (ix2 0 k) = skip m c k := by
  have e := (starts t).2.2.2.1
  refine Eq.trans (congrArg (V m c main_v0) (funext fun a => ?_)) (entry_skip m c k)
  match a with
  | ⟨0, _⟩ => exact Fin.ext (by show win0_3.index t (0 : Fin 2) * 1 + 1 * 0 = 0; rw [e])
  | ⟨1, _⟩ => exact Fin.ext (by show win0_3.index t (1 : Fin 2) * 1024 + 1 * k.val = k.val; rw [e]; omega)

theorem iblk_weights (t : Fin cfg0.N) (p : Fin 1024) (k : Fin 1024) : iblk m c 4 t (ix2 p k) = weights m c p k := by
  have e := (starts t).2.2.2.2.1
  refine Eq.trans (congrArg (V m c main_v1) (funext fun a => ?_)) (entry_weights m c p k)
  match a with
  | ⟨0, _⟩ => exact Fin.ext (by show win0_4.index t (0 : Fin 2) * 1024 + 1 * p.val = p.val; rw [e]; omega)
  | ⟨1, _⟩ => exact Fin.ext (by show win0_4.index t (1 : Fin 2) * 1024 + 1 * k.val = k.val; rw [e]; omega)

theorem iblk_bias (t : Fin cfg0.N) (k : Fin 1024) : iblk m c 5 t (ix2 0 k) = bias m c k := by
  have e := (starts t).2.2.2.2.2.1
  refine Eq.trans (congrArg (V m c main_v2) (funext fun a => ?_)) (entry_bias m c k)
  match a with
  | ⟨0, _⟩ => exact Fin.ext (by show win0_5.index t (0 : Fin 2) * 1 + 1 * 0 = 0; rw [e])
  | ⟨1, _⟩ => exact Fin.ext (by show win0_5.index t (1 : Fin 2) * 1024 + 1 * k.val = k.val; rw [e]; omega)

theorem iblk_tokens (t : Fin cfg0.N) (r : Fin 512) (k : Fin 1024) : iblk m c 6 t (ix2 r k) = tokens m c (row t r) k := by
  obtain ⟨e0, e1⟩ := (starts t).2.2.2.2.2.2.1
  refine (congrFun (V_main_arg6 m c) _).trans (congrArg (m ((c : Thread nD τ).loc main_arg6)) (funext fun a => ?_))
  match a with
  | ⟨0, _⟩ => exact Fin.ext (by show win0_6.index t (0 : Fin 2) * 512 + 1 * r.val = 512 * t.val + r.val; rw [e0]; omega)
  | ⟨1, _⟩ => exact Fin.ext (by show win0_6.index t (1 : Fin 2) * 1024 + 1 * k.val = k.val; rw [e1]; omega)

theorem iblk_gain (t : Fin cfg0.N) (k : Fin 1024) : iblk m c 7 t (ix2 0 k) = gain m c k := by
  have e := (starts t).2.2.2.2.2.2.2.1
  refine Eq.trans (congrArg (V m c main_v3) (funext fun a => ?_)) (entry_gain m c k)
  match a with
  | ⟨0, _⟩ => exact Fin.ext (by show win0_7.index t (0 : Fin 2) * 1 + 1 * 0 = 0; rw [e])
  | ⟨1, _⟩ => exact Fin.ext (by show win0_7.index t (1 : Fin 2) * 1024 + 1 * k.val = k.val; rw [e]; omega)

theorem iblk_router (t : Fin cfg0.N) (p : Fin 16) (k : Fin 1024) : iblk m c 8 t (ix2 p k) = router m c k p := by
  have e := (starts t).2.2.2.2.2.2.2.2.1
  refine Eq.trans (congrArg (V m c main_v4) (funext fun a => ?_)) (entry_router m c p k)
  match a with
  | ⟨0, _⟩ => exact Fin.ext (by show win0_8.index t (0 : Fin 2) * 16 + 1 * p.val = p.val; rw [e]; omega)
  | ⟨1, _⟩ => exact Fin.ext (by show win0_8.index t (1 : Fin 2) * 1024 + 1 * k.val = k.val; rw [e]; omega)

/-! ## What a point leaves -/

theorem fresh_row (t : Fin cfg0.N) (r : Fin 512) (C : Fin 1024) :
    fresh (iblk m c 0 t) (iblk m c 1 t) (iblk m c 2 t) (iblk m c 3 t) (iblk m c 4 t) (iblk m c 5 t) (iblk m c 6 t) (ix2 r C) = added m c (row t r) C := by
  rw [fresh_at]
  unfold line gated added
  rw [iblk_tokens, iblk_bias, add_assoc, add_comm (bias m c C)]
  refine congrArg (_ + ·) (congrArg (· + _) (Finset.sum_congr rfl fun k _ => ?_))
  rw [iblk_conv, iblk_value, iblk_first, iblk_skip, iblk_weights]

/-- The three results: the rows, the scaled rows and the shares, by expert and row. -/
def whole9 : Buf (Elt Ideal) ((c : Thread nD τ).loc main_v5_0) := fun i => added m c (i 0) (i 1)
def whole10 : Buf (Elt Ideal) ((c : Thread nD τ).loc main_v5_1) := fun i => unitRow (added m c (i 0)) (gain m c) (i 1)
def whole11 : Buf (Elt Ideal) ((c : Thread nD τ).loc main_v5_2) := fun i => share (added m c (i 1)) (gain m c) (router m c) (i 0)

theorem flushed9_eq (t : Fin cfg0.N) (hf : (cfg0.win 9).flush t = true) :
    (dats m 0 c).flushed 9 t = ((cfg0.win 9).blk t).view.read (Elt Ideal) (whole9 m c) := by
  rw [flushed9_A, out9_eq]
  obtain ⟨e0, e1⟩ := (starts t).2.2.2.2.2.2.2.2.2.1
  funext y
  obtain ⟨r, C, rfl⟩ : ∃ (r : Fin 512) (C : Fin 1024), y = ix2 r C :=
    ⟨y 0, y 1, by funext a; match a with | ⟨0, _⟩ => rfl | ⟨1, _⟩ => rfl⟩
  refine (fresh_row m c t r C).trans (congrArg₂ (added m c) (Fin.ext ?_) (Fin.ext ?_))
  · show 512 * t.val + r.val = win0_9.index t (0 : Fin 2) * 512 + 1 * r.val
    rw [e0]; omega
  · show C.val = win0_9.index t (1 : Fin 2) * 1024 + 1 * C.val
    rw [e1]; omega

theorem flushed10_eq (t : Fin cfg0.N) (hf : (cfg0.win 10).flush t = true) :
    (dats m 0 c).flushed 10 t = ((cfg0.win 10).blk t).view.read (Elt Ideal) (whole10 m c) := by
  rw [flushed10_A, out10_eq]
  obtain ⟨e0, e1⟩ := (starts t).2.2.2.2.2.2.2.2.2.2.1
  funext y
  obtain ⟨r, C, rfl⟩ : ∃ (r : Fin 512) (C : Fin 1024), y = ix2 r C :=
    ⟨y 0, y 1, by funext a; match a with | ⟨0, _⟩ => rfl | ⟨1, _⟩ => rfl⟩
  refine (pay2_at _ _ r C).trans ((congrArg₂ (fun y g => unitRow y g C) (funext (fresh_row m c t r)) (funext (iblk_gain m c t))).trans ?_)
  refine congrArg₂ (fun R C => unitRow (added m c R) (gain m c) C) (Fin.ext ?_) (Fin.ext ?_)
  · show 512 * t.val + r.val = win0_10.index t (0 : Fin 2) * 512 + 1 * r.val
    rw [e0]; omega
  · show C.val = win0_10.index t (1 : Fin 2) * 1024 + 1 * C.val
    rw [e1]; omega

theorem flushed11_eq (t : Fin cfg0.N) (hf : (cfg0.win 11).flush t = true) :
    (dats m 0 c).flushed 11 t = ((cfg0.win 11).blk t).view.read (Elt Ideal) (whole11 m c) := by
  rw [flushed11_A, out11_eq]
  obtain ⟨e0, e1⟩ := (starts t).2.2.2.2.2.2.2.2.2.2.2
  funext y
  obtain ⟨e, r, rfl⟩ : ∃ (e : Fin 16) (r : Fin 512), y = ix2 e r :=
    ⟨y 0, y 1, by funext a; match a with | ⟨0, _⟩ => rfl | ⟨1, _⟩ => rfl⟩
  refine (pay3_at _ _ _ e r).trans ((congr (congrArg₂ share (funext (fresh_row m c t r)) (funext (iblk_gain m c t)))
    (funext₂ fun k e => iblk_router m c t e k)).symm ▸ ?_)
  refine congrArg₂ (fun R e => share (added m c R) (gain m c) (router m c) e) (Fin.ext ?_) (Fin.ext ?_)
  · show 512 * t.val + r.val = win0_11.index t (1 : Fin 2) * 512 + 1 * r.val
    rw [e1]; omega
  · show e.val = win0_11.index t (0 : Fin 2) * 16 + 1 * e.val
    rw [e0]; omega

/-! ## The whole arrays -/

/-- Every row lies in the block of its point. -/
theorem within (R : Fin 81920) : ∃ t : Fin cfg0.N, 512 * t.val ≤ R.val ∧ R.val < 512 * t.val + 512 := by
  have h0 := R.isLt
  have hl : R.val / 512 < 160 := by omega
  exact ⟨⟨R.val / 512, Nat.lt_of_lt_of_eq hl N_0.symm⟩, by show 512 * (R.val / 512) ≤ _; omega,
    by show _ < 512 * (R.val / 512) + 512; omega⟩

theorem covered9 (i : S81920x1024.Idx) : ∃ t : Fin cfg0.N, (cfg0.win 9).flush t = true ∧ i ∈ ((cfg0.win 9).blk t).view.set := by
  obtain ⟨t, h0, h1⟩ := within (i 0)
  obtain ⟨e0, e1⟩ := (starts t).2.2.2.2.2.2.2.2.2.1
  have h2 : (i 1).val < 1024 := (i 1).isLt
  refine ⟨t, flush0_9 t, ?_⟩
  show i ∈ ((View.whole main_v5_0).slice (win0_9.rect t)).set
  rw [View.set_slice_whole, Rect.mem_set_unit]
  intro a
  match a with
  | ⟨0, _⟩ => show win0_9.index t (0 : Fin 2) * 512 ≤ (i 0).val ∧ (i 0).val < win0_9.index t (0 : Fin 2) * 512 + 512; omega
  | ⟨1, _⟩ => show win0_9.index t (1 : Fin 2) * 1024 ≤ (i 1).val ∧ (i 1).val < win0_9.index t (1 : Fin 2) * 1024 + 1024; omega

theorem covered10 (i : S81920x1024.Idx) : ∃ t : Fin cfg0.N, (cfg0.win 10).flush t = true ∧ i ∈ ((cfg0.win 10).blk t).view.set := by
  obtain ⟨t, h0, h1⟩ := within (i 0)
  obtain ⟨e0, e1⟩ := (starts t).2.2.2.2.2.2.2.2.2.2.1
  have h2 : (i 1).val < 1024 := (i 1).isLt
  refine ⟨t, flush0_10 t, ?_⟩
  show i ∈ ((View.whole main_v5_1).slice (win0_10.rect t)).set
  rw [View.set_slice_whole, Rect.mem_set_unit]
  intro a
  match a with
  | ⟨0, _⟩ => show win0_10.index t (0 : Fin 2) * 512 ≤ (i 0).val ∧ (i 0).val < win0_10.index t (0 : Fin 2) * 512 + 512; omega
  | ⟨1, _⟩ => show win0_10.index t (1 : Fin 2) * 1024 ≤ (i 1).val ∧ (i 1).val < win0_10.index t (1 : Fin 2) * 1024 + 1024; omega

theorem covered11 (i : S16x81920.Idx) : ∃ t : Fin cfg0.N, (cfg0.win 11).flush t = true ∧ i ∈ ((cfg0.win 11).blk t).view.set := by
  obtain ⟨t, h0, h1⟩ := within (i 1)
  obtain ⟨e0, e1⟩ := (starts t).2.2.2.2.2.2.2.2.2.2.2
  have h2 : (i 0).val < 16 := (i 0).isLt
  refine ⟨t, flush0_11 t, ?_⟩
  show i ∈ ((View.whole main_v5_2).slice (win0_11.rect t)).set
  rw [View.set_slice_whole, Rect.mem_set_unit]
  intro a
  match a with
  | ⟨0, _⟩ => show win0_11.index t (0 : Fin 2) * 16 ≤ (i 0).val ∧ (i 0).val < win0_11.index t (0 : Fin 2) * 16 + 16; omega
  | ⟨1, _⟩ => show win0_11.index t (1 : Fin 2) * 512 ≤ (i 1).val ∧ (i 1).val < win0_11.index t (1 : Fin 2) * 512 + 512; omega

theorem array9 : (dats m 0 c).arrAt 9 cfg0.N = whole9 m c := (dats m 0 c).arrAt_eq_of_cover 9 _ (flushed9_eq m c) covered9
theorem array10 : (dats m 0 c).arrAt 10 cfg0.N = whole10 m c := (dats m 0 c).arrAt_eq_of_cover 10 _ (flushed10_eq m c) covered10
theorem array11 : (dats m 0 c).arrAt 11 cfg0.N = whole11 m c := (dats m 0 c).arrAt_eq_of_cover 11 _ (flushed11_eq m c) covered11

/-- The run: the results are the projection, the arguments unchanged. -/
theorem run : θ_run defs (onTc (τ := τ) (main (F := Ideal))) ⟨m, fun _ => 0, ρ⟩ (fun r => ∀ c : Dev nD,
    r.2.mem ((c.tc : Thread nD τ).loc main_v5_0) = whole9 m c
    ∧ r.2.mem ((c.tc : Thread nD τ).loc main_v5_1) = whole10 m c
    ∧ r.2.mem ((c.tc : Thread nD τ).loc main_v5_2) = whole11 m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)) :=
  (θ_run defs _ _).mono (fun _ h c => ⟨(h c).1.trans (array9 m c), (h c).2.1.trans (array10 m c), (h c).2.2.1.trans (array11 m c), (h c).2.2.2⟩)
    (run_blocks m ρ)

end Cert.GateIdeal.Out

end
-- ==== Proof.Out.GateReference.lean ====
module

public import proofs.«01_k».proof.Proof.Gen.GateReferenceIdeal.Read
public import proofs.«01_k».proof.Proof.Out.Spec
public import Idealize.ShloMosaic.Lib.Pointwise

@[expose] public section

set_option maxRecDepth 16384

/-! # What the reference of the Hyena output projection computes -/

noncomputable section

namespace Cert.GateReferenceIdeal.Out

open Cert.GateReferenceIdeal Cert.GateReferenceIdeal.Gen Cert.GateReferenceIdeal.Read Cert.Filter Cert.Out
open Idealize.ShloMosaic Idealize.ShloMosaic.TcCoe Idealize.SL.Sem

variable (x0 x1 x2 : (⟨S81920x1024, .f32⟩ : BufTy).Contents (Elt Ideal)) (x3 : (⟨S1024, .f32⟩ : BufTy).Contents (Elt Ideal)) (x4 : (⟨S1024x1024, .f32⟩ : BufTy).Contents (Elt Ideal))
  (x5 : (⟨S1024, .f32⟩ : BufTy).Contents (Elt Ideal)) (x6 : (⟨S81920x1024, .f32⟩ : BufTy).Contents (Elt Ideal)) (x7 : (⟨S1024, .f32⟩ : BufTy).Contents (Elt Ideal)) (x8 : (⟨S1024x16, .f32⟩ : BufTy).Contents (Elt Ideal))

/-- Row `R` after the projection of the gated row is added. -/
abbrev added (R : Fin 81920) (C : Fin 1024) : EReal :=
  x6 (ix2 R C) + ((∑ k : Fin 1024, (x0 (ix2 R k) + x1 (ix2 R k) * x3 (ix1 k)) * x2 (ix2 R k) * x4 (ix2 k C)) + x5 (ix1 C))

theorem added_at (R : Fin 81920) (C : Fin 1024) : val_main_v9 (F := Ideal) x0 x1 x2 x3 x4 x5 x6 (ix2 R C) = added x0 x1 x2 x3 x4 x5 x6 R C := by
  unfold val_main_v9 val_main_v8 val_main_v7 val_main_v6 val_main_v5 val_main_v4 val_main_v3 val_main_v2 val_main_v1 val_main_v0
  pointwise

theorem scaled_at (R : Fin 81920) (C : Fin 1024) : val_main_v22 (F := Ideal) x0 x1 x2 x3 x4 x5 x6 x7 (ix2 R C)
    = unitRow (added x0 x1 x2 x3 x4 x5 x6 R) (fun k => x7 (ix1 k)) C := by
  have h := added_at x0 x1 x2 x3 x4 x5 x6 R
  unfold unitRow val_main_v22 val_main_v21 val_main_v20 val_main_v19 val_main_v18 val_main_v17 val_main_v16 val_main_v15 val_main_v14 val_main_v13
    val_main_v12 val_main_v11 val_main_v10 val_main_cst val_main_cst_0 val_main_cst_1
  generalize val_main_v9 (F := Ideal) x0 x1 x2 x3 x4 x5 x6 = z at *
  pointwise
  simp only [h]

theorem rounded_at (R : Fin 81920) (C : Fin 1024) : val_main_v35 (F := Ideal) x0 x1 x2 x3 x4 x5 x6 x7 (ix2 R C)
    = unitRow (added x0 x1 x2 x3 x4 x5 x6 R) (fun k => x7 (ix1 k)) C := scaled_at x0 x1 x2 x3 x4 x5 x6 x7 R C

theorem greatest_at (X : FVec Ideal S81920x16 .f32) (R : Fin 81920) :
    Host.reduce FloatOps.maximumf X (val_main_cst_2 (F := Ideal)) reducesTo_S81920x16_S81920_d1 h_S_ (ix1 R)
      = Finset.fold max ⊥ (fun e : Fin 16 => X (ix2 R e)) Finset.univ := by
  unfold val_main_cst_2
  pointwise
  rw [word_bottom]

theorem shares_at (e : Fin 16) (R : Fin 81920) : val_main_v36 (F := Ideal) x0 x1 x2 x3 x4 x5 x6 x7 x8 (ix2 e R)
    = share (added x0 x1 x2 x3 x4 x5 x6 R) (fun k => x7 (ix1 k)) (fun k e => x8 (ix2 k e)) e := by
  have h := scaled_at x0 x1 x2 x3 x4 x5 x6 x7 R
  have s : ∀ e, val_main_v23 (F := Ideal) x0 x1 x2 x3 x4 x5 x6 x7 x8 (ix2 R e) = score (added x0 x1 x2 x3 x4 x5 x6 R) (fun k => x7 (ix1 k)) (fun k e => x8 (ix2 k e)) e := by
    intro e
    unfold score val_main_v23
    generalize val_main_v22 (F := Ideal) x0 x1 x2 x3 x4 x5 x6 x7 = z at *
    pointwise
    simp only [h]
  have g : val_main_v26 (F := Ideal) x0 x1 x2 x3 x4 x5 x6 x7 x8 (ix1 R) = greatest (added x0 x1 x2 x3 x4 x5 x6 R) (fun k => x7 (ix1 k)) (fun k e => x8 (ix2 k e)) := by
    rw [val_main_v26_apply, val_main_v25_apply, val_main_cst_3_apply]
    unfold val_main_v24 greatest
    rw [greatest_at]
    simp only [s]
    show max (Ideal.ofBits .f32 0xFF800000#32) _ = _
    rw [word_bottom]
    exact max_eq_right bot_le
  unfold share val_main_v36 val_main_v34 val_main_v33 val_main_v32 val_main_v31 val_main_v30 val_main_v29 val_main_v28 val_main_v27 val_main_cst_4
  generalize val_main_v26 (F := Ideal) x0 x1 x2 x3 x4 x5 x6 x7 x8 = y at *
  generalize val_main_v23 (F := Ideal) x0 x1 x2 x3 x4 x5 x6 x7 x8 = z at *
  pointwise
  simp only [s, g]

end Cert.GateReferenceIdeal.Out

end
-- ==== Proof.lean ====
module

public import proofs.«01_k».proof.Proof.Gen.Kernel.Frame
public import proofs.«01_k».proof.Proof.Gen.KernelIdeal.Frame
public import proofs.«01_k».proof.Proof.Gen.KernelIdeal.Loops
public import proofs.«01_k».proof.Proof.Gen.KernelIdeal.Points
public import proofs.«01_k».proof.Proof.Gen.ReferenceIdeal.Run
public import proofs.«01_k».proof.Proof.Gen.ReferenceIdeal.Read
public import proofs.«01_k».proof.Proof.Gen.Pre_finite
public import proofs.«01_k».proof.Proof.Flash.Frames
public import proofs.«01_k».proof.Proof.Flash.Output
public import proofs.«01_k».proof.Proof.Flash.Reference
public import proofs.«01_k».proof.Proof.Flash.Finite
public import proofs.«01_k».proof.Defs
public import proofs.«01_k».proof.Proof.Gen.Moe.Frame
public import proofs.«01_k».proof.Proof.Gen.MoeIdeal.Value
public import proofs.«01_k».proof.Proof.Gen.MoeReferenceIdeal.Run
public import proofs.«01_k».proof.Proof.Gen.MoeReferenceIdeal.Read
public import proofs.«01_k».proof.Proof.Experts.Reference
public import proofs.«01_k».proof.Proof.Gen.Moe1.Frame
public import proofs.«01_k».proof.Proof.Gen.Moe1Ideal.Value
public import proofs.«01_k».proof.Proof.Gen.Moe1ReferenceIdeal.Run
public import proofs.«01_k».proof.Proof.Gen.Moe1ReferenceIdeal.Read
public import proofs.«01_k».proof.Proof.Layer1.Reference
public import proofs.«01_k».proof.Proof.Gen.Moe2.Frame
public import proofs.«01_k».proof.Proof.Gen.Moe2Ideal.Value
public import proofs.«01_k».proof.Proof.Gen.Moe2ReferenceIdeal.Run
public import proofs.«01_k».proof.Proof.Gen.Moe2ReferenceIdeal.Read
public import proofs.«01_k».proof.Proof.Layer2.Reference
public import proofs.«01_k».proof.Proof.Gen.Moe3.Frame
public import proofs.«01_k».proof.Proof.Gen.Moe3Ideal.Value
public import proofs.«01_k».proof.Proof.Gen.Moe3ReferenceIdeal.Run
public import proofs.«01_k».proof.Proof.Gen.Moe3ReferenceIdeal.Read
public import proofs.«01_k».proof.Proof.Layer3.Reference
public import proofs.«01_k».proof.Proof.Gen.Gqa.Frame
public import proofs.«01_k».proof.Proof.Gen.GqaIdeal.Value
public import proofs.«01_k».proof.Proof.Gen.GqaReferenceIdeal.Run
public import proofs.«01_k».proof.Proof.Gen.GqaReferenceIdeal.Read
public import proofs.«01_k».proof.Proof.Gen.Mlstm.Frame
public import proofs.«01_k».proof.Proof.Gen.MlstmIdeal.Value
public import proofs.«01_k».proof.Proof.Gen.MlstmReferenceIdeal.Run
public import proofs.«01_k».proof.Proof.Gen.MlstmReferenceIdeal.Read
public import proofs.«01_k».proof.Proof.Gen.Gate.Frame
public import proofs.«01_k».proof.Proof.Gen.GateIdeal.Value
public import proofs.«01_k».proof.Proof.Gen.GateReferenceIdeal.Run
public import proofs.«01_k».proof.Proof.Gen.GateReferenceIdeal.Read
public import proofs.«01_k».proof.Proof.Gen.Hyena.Frame
public import proofs.«01_k».proof.Proof.Gen.HyenaIdeal.Value
public import proofs.«01_k».proof.Proof.Gen.HyenaReferenceIdeal.Run
public import proofs.«01_k».proof.Proof.Gen.HyenaReferenceIdeal.Read
public import proofs.«01_k».proof.Proof.Filter.Output
public import proofs.«01_k».proof.Proof.Filter.Reference
public import proofs.«01_k».proof.Proof.Out.GqaOutput
public import proofs.«01_k».proof.Proof.Out.GqaReference
public import proofs.«01_k».proof.Proof.Out.MlstmOutput
public import proofs.«01_k».proof.Proof.Out.MlstmReference
public import proofs.«01_k».proof.Proof.Out.GateOutput
public import proofs.«01_k».proof.Proof.Out.GateReference
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves_Kernel_KernelIdeal : preserves_Kernel_KernelIdeal :=
  ⟨IdealRules.named_const.statement Cert.KernelIdeal.κ "exp2_scale" .f32 0x3E0293EE#32 _ rfl,
    IdealRules.named_const.statement Cert.KernelIdeal.κ "scale" .f32 0x3DB504F3#32 _ rfl⟩

theorem algebraic_KernelIdeal_ReferenceIdeal_pre_finite : algebraic_KernelIdeal_ReferenceIdeal_pre_finite := by
  intro m ρ m' ρ' hpre hagree
  choose Q hQ using fun c => Cert.Pre_finite.Flash.query_real _ _ _ (hpre c)
  choose K hK using fun c => Cert.Pre_finite.Flash.key_real _ _ _ (hpre c)
  refine ⟨_, Cert.KernelIdeal.Flash.run m ρ Q K hQ hK, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v23_eq]
  obtain ⟨h0, h1, h2⟩ := hagree c
  rw [h0, h1, h2]
  funext i
  obtain ⟨R, C, rfl⟩ : ∃ (R : Fin 81920) (C : Fin 1024), i = ix2 R C :=
    ⟨i 0, i 1, by funext a; match a with | ⟨0, _⟩ => rfl | ⟨1, _⟩ => rfl⟩
  exact Cert.ReferenceIdeal.Flash.result_at _ _ _ (Q c) (K c) (hQ c) (hK c) R C

theorem quiescent_MoeReferenceIdeal : quiescent_MoeReferenceIdeal := fun m ρ _ =>
  (θ_run Cert.MoeReferenceIdeal.defs _ _).mono (fun r h => ⟨fun c => (h c).2, sem_eq_zero_of_no_sems (by decide) r.2⟩)
    (Cert.MoeReferenceIdeal.Value.run (F := Ideal) m ρ)

theorem algebraic_MoeIdeal_MoeReferenceIdeal : algebraic_MoeIdeal_MoeReferenceIdeal := by
  intro m ρ m' ρ' _ hagree
  refine ⟨_, Cert.MoeIdeal.Value.run (F := Ideal) m ρ, ?_⟩
  refine (θ_run Cert.MoeReferenceIdeal.defs _ _).mono (fun _ h c => ⟨?_, (h c).2⟩) (Cert.MoeReferenceIdeal.Value.run (F := Ideal) m' ρ')
  rw [(h c).1, Cert.MoeReferenceIdeal.Read.val_main_v48_eq]
  obtain ⟨h0, h1, h2, h3, h4⟩ := hagree c
  rw [h0, h1, h2, h3, h4]
  funext i
  obtain ⟨e, r, d, rfl⟩ : ∃ (e : Fin 16) (r : Fin 10240) (d : Fin 1024), i = ix3 e r d :=
    ⟨i 0, i 1, i 2, by funext a; match a with | ⟨0, _⟩ => rfl | ⟨1, _⟩ => rfl | ⟨2, _⟩ => rfl⟩
  exact (Cert.MoeReferenceIdeal.Experts.same m c e r d).symm

theorem quiescent_Moe1ReferenceIdeal : quiescent_Moe1ReferenceIdeal := fun m ρ _ =>
  (θ_run Cert.Moe1ReferenceIdeal.defs _ _).mono (fun r h => ⟨fun c => (h c).2, sem_eq_zero_of_no_sems (by decide) r.2⟩)
    (Cert.Moe1ReferenceIdeal.Value.run (F := Ideal) m ρ)

theorem algebraic_Moe1Ideal_Moe1ReferenceIdeal : algebraic_Moe1Ideal_Moe1ReferenceIdeal := by
  intro m ρ m' ρ' _ hagree
  refine ⟨_, Cert.Moe1Ideal.Value.run (F := Ideal) m ρ, ?_⟩
  refine (θ_run Cert.Moe1ReferenceIdeal.defs _ _).mono (fun _ h c => ⟨?_, (h c).2⟩) (Cert.Moe1ReferenceIdeal.Value.run (F := Ideal) m' ρ')
  rw [(h c).1, Cert.Moe1ReferenceIdeal.Read.val_main_v48_eq]
  obtain ⟨h0, h1, h2, h3, h4⟩ := hagree c
  rw [h0, h1, h2, h3, h4]
  funext i
  obtain ⟨e, r, d, rfl⟩ : ∃ (e : Fin 16) (r : Fin 10240) (d : Fin 1024), i = ix3 e r d :=
    ⟨i 0, i 1, i 2, by funext a; match a with | ⟨0, _⟩ => rfl | ⟨1, _⟩ => rfl | ⟨2, _⟩ => rfl⟩
  exact (Cert.Moe1ReferenceIdeal.Experts.same m c e r d).symm

theorem quiescent_Moe2ReferenceIdeal : quiescent_Moe2ReferenceIdeal := fun m ρ _ =>
  (θ_run Cert.Moe2ReferenceIdeal.defs _ _).mono (fun r h => ⟨fun c => (h c).2, sem_eq_zero_of_no_sems (by decide) r.2⟩)
    (Cert.Moe2ReferenceIdeal.Value.run (F := Ideal) m ρ)

theorem algebraic_Moe2Ideal_Moe2ReferenceIdeal : algebraic_Moe2Ideal_Moe2ReferenceIdeal := by
  intro m ρ m' ρ' _ hagree
  refine ⟨_, Cert.Moe2Ideal.Value.run (F := Ideal) m ρ, ?_⟩
  refine (θ_run Cert.Moe2ReferenceIdeal.defs _ _).mono (fun _ h c => ⟨?_, (h c).2⟩) (Cert.Moe2ReferenceIdeal.Value.run (F := Ideal) m' ρ')
  rw [(h c).1, Cert.Moe2ReferenceIdeal.Read.val_main_v48_eq]
  obtain ⟨h0, h1, h2, h3, h4⟩ := hagree c
  rw [h0, h1, h2, h3, h4]
  funext i
  obtain ⟨e, r, d, rfl⟩ : ∃ (e : Fin 16) (r : Fin 10240) (d : Fin 1024), i = ix3 e r d :=
    ⟨i 0, i 1, i 2, by funext a; match a with | ⟨0, _⟩ => rfl | ⟨1, _⟩ => rfl | ⟨2, _⟩ => rfl⟩
  exact (Cert.Moe2ReferenceIdeal.Experts.same m c e r d).symm

theorem quiescent_Moe3ReferenceIdeal : quiescent_Moe3ReferenceIdeal := fun m ρ _ =>
  (θ_run Cert.Moe3ReferenceIdeal.defs _ _).mono (fun r h => ⟨fun c => (h c).2, sem_eq_zero_of_no_sems (by decide) r.2⟩)
    (Cert.Moe3ReferenceIdeal.Value.run (F := Ideal) m ρ)

theorem algebraic_Moe3Ideal_Moe3ReferenceIdeal : algebraic_Moe3Ideal_Moe3ReferenceIdeal := by
  intro m ρ m' ρ' _ hagree
  refine ⟨_, Cert.Moe3Ideal.Value.run (F := Ideal) m ρ, ?_⟩
  refine (θ_run Cert.Moe3ReferenceIdeal.defs _ _).mono (fun _ h c => ⟨?_, (h c).2⟩) (Cert.Moe3ReferenceIdeal.Value.run (F := Ideal) m' ρ')
  rw [(h c).1, Cert.Moe3ReferenceIdeal.Read.val_main_v48_eq]
  obtain ⟨h0, h1, h2, h3, h4⟩ := hagree c
  rw [h0, h1, h2, h3, h4]
  funext i
  obtain ⟨e, r, d, rfl⟩ : ∃ (e : Fin 16) (r : Fin 10240) (d : Fin 1024), i = ix3 e r d :=
    ⟨i 0, i 1, i 2, by funext a; match a with | ⟨0, _⟩ => rfl | ⟨1, _⟩ => rfl | ⟨2, _⟩ => rfl⟩
  exact (Cert.Moe3ReferenceIdeal.Experts.same m c e r d).symm

theorem quiescent_HyenaReferenceIdeal : quiescent_HyenaReferenceIdeal := fun m ρ _ =>
  (θ_run Cert.HyenaReferenceIdeal.defs _ _).mono (fun r h => ⟨fun c => (h c).2.2, sem_eq_zero_of_no_sems (by decide) r.2⟩)
    (Cert.HyenaReferenceIdeal.Value.run (F := Ideal) m ρ)

theorem algebraic_HyenaIdeal_HyenaReferenceIdeal : algebraic_HyenaIdeal_HyenaReferenceIdeal := by
  intro m ρ m' ρ' _ hagree
  refine ⟨_, _, Cert.HyenaIdeal.Filter.run m ρ, ?_⟩
  refine (θ_run Cert.HyenaReferenceIdeal.defs _ _).mono (fun _ h c => ⟨?_, ?_, (h c).2.2⟩) (Cert.HyenaReferenceIdeal.Value.run (F := Ideal) m' ρ')
  all_goals obtain ⟨h0, h1, h2, h3, h4, h5⟩ := hagree c
  · rw [(h c).1, Cert.HyenaReferenceIdeal.Read.val_main_v44_eq, h0, h1, h2, h3, h4, h5]
    funext i
    obtain ⟨R, C, rfl⟩ : ∃ (R : Fin 81920) (C : Fin 1024), i = ix2 R C :=
      ⟨i 0, i 1, by funext a; match a with | ⟨0, _⟩ => rfl | ⟨1, _⟩ => rfl⟩
    exact Cert.HyenaReferenceIdeal.Filter.first_at _ _ _ _ _ _ R C
  · rw [(h c).2.1, Cert.HyenaReferenceIdeal.Read.val_main_v46_eq, h0, h1, h2, h3, h4, h5]
    funext i
    obtain ⟨R, C, rfl⟩ : ∃ (R : Fin 81920) (C : Fin 1024), i = ix2 R C :=
      ⟨i 0, i 1, by funext a; match a with | ⟨0, _⟩ => rfl | ⟨1, _⟩ => rfl⟩
    exact Cert.HyenaReferenceIdeal.Filter.second_at _ _ _ _ _ _ R C

theorem quiescent_GqaReferenceIdeal : quiescent_GqaReferenceIdeal := fun m ρ _ =>
  (θ_run Cert.GqaReferenceIdeal.defs _ _).mono (fun r h => ⟨fun c => (h c).2.2.2, sem_eq_zero_of_no_sems (by decide) r.2⟩)
    (Cert.GqaReferenceIdeal.Value.run (F := Ideal) m ρ)

theorem algebraic_GqaIdeal_GqaReferenceIdeal : algebraic_GqaIdeal_GqaReferenceIdeal := by
  intro m ρ m' ρ' _ hagree
  refine ⟨_, _, _, Cert.GqaIdeal.Out.run m ρ, ?_⟩
  refine (θ_run Cert.GqaReferenceIdeal.defs _ _).mono (fun _ h c => ⟨?_, ?_, ?_, (h c).2.2.2⟩) (Cert.GqaReferenceIdeal.Value.run (F := Ideal) m' ρ')
  all_goals obtain ⟨h0, h1, h2, h3, h4⟩ := hagree c
  · rw [(h c).1, Cert.GqaReferenceIdeal.Read.val_main_v2_eq, h0, h1, h2]
    funext i
    obtain ⟨R, C, rfl⟩ : ∃ (R : Fin 81920) (C : Fin 1024), i = ix2 R C :=
      ⟨i 0, i 1, by funext a; match a with | ⟨0, _⟩ => rfl | ⟨1, _⟩ => rfl⟩
    exact Cert.GqaReferenceIdeal.Out.added_at _ _ _ R C
  · rw [(h c).2.1, Cert.GqaReferenceIdeal.Read.val_main_v28_eq, h0, h1, h2, h3]
    funext i
    obtain ⟨R, C, rfl⟩ : ∃ (R : Fin 81920) (C : Fin 1024), i = ix2 R C :=
      ⟨i 0, i 1, by funext a; match a with | ⟨0, _⟩ => rfl | ⟨1, _⟩ => rfl⟩
    exact Cert.GqaReferenceIdeal.Out.rounded_at _ _ _ _ R C
  · rw [(h c).2.2.1, Cert.GqaReferenceIdeal.Read.val_main_v29_eq, h0, h1, h2, h3, h4]
    funext i
    obtain ⟨e, R, rfl⟩ : ∃ (e : Fin 16) (R : Fin 81920), i = ix2 e R :=
      ⟨i 0, i 1, by funext a; match a with | ⟨0, _⟩ => rfl | ⟨1, _⟩ => rfl⟩
    exact Cert.GqaReferenceIdeal.Out.shares_at _ _ _ _ _ e R

theorem quiescent_MlstmReferenceIdeal : quiescent_MlstmReferenceIdeal := fun m ρ _ =>
  (θ_run Cert.MlstmReferenceIdeal.defs _ _).mono (fun r h => ⟨fun c => (h c).2.2.2, sem_eq_zero_of_no_sems (by decide) r.2⟩)
    (Cert.MlstmReferenceIdeal.Value.run (F := Ideal) m ρ)

theorem algebraic_MlstmIdeal_MlstmReferenceIdeal : algebraic_MlstmIdeal_MlstmReferenceIdeal := by
  intro m ρ m' ρ' _ hagree
  refine ⟨_, _, _, Cert.MlstmIdeal.Out.run m ρ, ?_⟩
  refine (θ_run Cert.MlstmReferenceIdeal.defs _ _).mono (fun _ h c => ⟨?_, ?_, ?_, (h c).2.2.2⟩) (Cert.MlstmReferenceIdeal.Value.run (F := Ideal) m' ρ')
  all_goals obtain ⟨h0, h1, h2, h3, h4, h5, h6, h7, h8, h9⟩ := hagree c
  · rw [(h c).1, Cert.MlstmReferenceIdeal.Read.val_main_v23_eq, h0, h1, h2, h3, h4, h5, h6, h7]
    funext i
    obtain ⟨R, C, rfl⟩ : ∃ (R : Fin 81920) (C : Fin 1024), i = ix2 R C :=
      ⟨i 0, i 1, by funext a; match a with | ⟨0, _⟩ => rfl | ⟨1, _⟩ => rfl⟩
    exact Cert.MlstmReferenceIdeal.Out.added_at _ _ _ _ _ _ _ _ R C
  · rw [(h c).2.1, Cert.MlstmReferenceIdeal.Read.val_main_v49_eq, h0, h1, h2, h3, h4, h5, h6, h7, h8]
    funext i
    obtain ⟨R, C, rfl⟩ : ∃ (R : Fin 81920) (C : Fin 1024), i = ix2 R C :=
      ⟨i 0, i 1, by funext a; match a with | ⟨0, _⟩ => rfl | ⟨1, _⟩ => rfl⟩
    exact Cert.MlstmReferenceIdeal.Out.rounded_at _ _ _ _ _ _ _ _ _ R C
  · rw [(h c).2.2.1, Cert.MlstmReferenceIdeal.Read.val_main_v50_eq, h0, h1, h2, h3, h4, h5, h6, h7, h8, h9]
    funext i
    obtain ⟨e, R, rfl⟩ : ∃ (e : Fin 16) (R : Fin 81920), i = ix2 e R :=
      ⟨i 0, i 1, by funext a; match a with | ⟨0, _⟩ => rfl | ⟨1, _⟩ => rfl⟩
    exact Cert.MlstmReferenceIdeal.Out.shares_at _ _ _ _ _ _ _ _ _ _ e R

theorem quiescent_GateReferenceIdeal : quiescent_GateReferenceIdeal := fun m ρ _ =>
  (θ_run Cert.GateReferenceIdeal.defs _ _).mono (fun r h => ⟨fun c => (h c).2.2.2, sem_eq_zero_of_no_sems (by decide) r.2⟩)
    (Cert.GateReferenceIdeal.Value.run (F := Ideal) m ρ)

theorem algebraic_GateIdeal_GateReferenceIdeal : algebraic_GateIdeal_GateReferenceIdeal := by
  intro m ρ m' ρ' _ hagree
  refine ⟨_, _, _, Cert.GateIdeal.Out.run m ρ, ?_⟩
  refine (θ_run Cert.GateReferenceIdeal.defs _ _).mono (fun _ h c => ⟨?_, ?_, ?_, (h c).2.2.2⟩) (Cert.GateReferenceIdeal.Value.run (F := Ideal) m' ρ')
  all_goals obtain ⟨h0, h1, h2, h3, h4, h5, h6, h7, h8⟩ := hagree c
  · rw [(h c).1, Cert.GateReferenceIdeal.Read.val_main_v9_eq, h0, h1, h2, h3, h4, h5, h6]
    funext i
    obtain ⟨R, C, rfl⟩ : ∃ (R : Fin 81920) (C : Fin 1024), i = ix2 R C :=
      ⟨i 0, i 1, by funext a; match a with | ⟨0, _⟩ => rfl | ⟨1, _⟩ => rfl⟩
    exact Cert.GateReferenceIdeal.Out.added_at _ _ _ _ _ _ _ R C
  · rw [(h c).2.1, Cert.GateReferenceIdeal.Read.val_main_v35_eq, h0, h1, h2, h3, h4, h5, h6, h7]
    funext i
    obtain ⟨R, C, rfl⟩ : ∃ (R : Fin 81920) (C : Fin 1024), i = ix2 R C :=
      ⟨i 0, i 1, by funext a; match a with | ⟨0, _⟩ => rfl | ⟨1, _⟩ => rfl⟩
    exact Cert.GateReferenceIdeal.Out.rounded_at _ _ _ _ _ _ _ _ R C
  · rw [(h c).2.2.1, Cert.GateReferenceIdeal.Read.val_main_v36_eq, h0, h1, h2, h3, h4, h5, h6, h7, h8]
    funext i
    obtain ⟨e, R, rfl⟩ : ∃ (e : Fin 16) (R : Fin 81920), i = ix2 e R :=
      ⟨i 0, i 1, by funext a; match a with | ⟨0, _⟩ => rfl | ⟨1, _⟩ => rfl⟩
    exact Cert.GateReferenceIdeal.Out.shares_at _ _ _ _ _ _ _ _ _ e R

theorem claim : Cert.Claim := ⟨Cert.Kernel.Gen.facts, Cert.KernelIdeal.Gen.facts, Cert.ReferenceIdeal.Gen.facts, Cert.Moe.Gen.facts, Cert.MoeIdeal.Gen.facts, Cert.MoeReferenceIdeal.Gen.facts, Cert.Moe1.Gen.facts, Cert.Moe1Ideal.Gen.facts, Cert.Moe1ReferenceIdeal.Gen.facts, Cert.Moe2.Gen.facts, Cert.Moe2Ideal.Gen.facts, Cert.Moe2ReferenceIdeal.Gen.facts, Cert.Moe3.Gen.facts, Cert.Moe3Ideal.Gen.facts, Cert.Moe3ReferenceIdeal.Gen.facts,
  Cert.Hyena.Gen.facts, Cert.HyenaIdeal.Gen.facts, Cert.HyenaReferenceIdeal.Gen.facts,
  Cert.Gqa.Gen.facts, Cert.GqaIdeal.Gen.facts, Cert.GqaReferenceIdeal.Gen.facts,
  Cert.Mlstm.Gen.facts, Cert.MlstmIdeal.Gen.facts, Cert.MlstmReferenceIdeal.Gen.facts,
  Cert.Gate.Gen.facts, Cert.GateIdeal.Gen.facts, Cert.GateReferenceIdeal.Gen.facts, Cert.Pre_finite.Gen.facts,
  Cert.KernelIdeal.Flash.quiescent_bits, fun m ρ _ => Cert.KernelIdeal.Flash.frame (F := Ideal) m ρ,
  fun m ρ _ => Cert.KernelIdeal.Flash.frame (F := Ideal) m ρ, quiescent_ReferenceIdeal, fun m ρ _ => quiescent_ReferenceIdeal m ρ trivial,
  fun m ρ _ => Cert.Moe.Gen.frame m ρ, fun m ρ _ => Cert.MoeIdeal.Gen.frame m ρ, quiescent_MoeReferenceIdeal,
  fun m ρ _ => Cert.Moe1.Gen.frame m ρ, fun m ρ _ => Cert.Moe1Ideal.Gen.frame m ρ, quiescent_Moe1ReferenceIdeal,
  fun m ρ _ => Cert.Moe2.Gen.frame m ρ, fun m ρ _ => Cert.Moe2Ideal.Gen.frame m ρ, quiescent_Moe2ReferenceIdeal,
  fun m ρ _ => Cert.Moe3.Gen.frame m ρ, fun m ρ _ => Cert.Moe3Ideal.Gen.frame m ρ, quiescent_Moe3ReferenceIdeal,
  fun m ρ _ => Cert.Hyena.Gen.frame m ρ, fun m ρ _ => Cert.HyenaIdeal.Gen.frame m ρ, quiescent_HyenaReferenceIdeal,
  fun m ρ _ => Cert.Gqa.Gen.frame m ρ, fun m ρ _ => Cert.GqaIdeal.Gen.frame m ρ, quiescent_GqaReferenceIdeal,
  fun m ρ _ => Cert.Mlstm.Gen.frame m ρ, fun m ρ _ => Cert.MlstmIdeal.Gen.frame m ρ, quiescent_MlstmReferenceIdeal,
  fun m ρ _ => Cert.Gate.Gen.frame m ρ, fun m ρ _ => Cert.GateIdeal.Gen.frame m ρ, quiescent_GateReferenceIdeal,
  preserves_Kernel_KernelIdeal, algebraic_KernelIdeal_ReferenceIdeal_pre_finite,
  (trivial : preserves_Moe_MoeIdeal), algebraic_MoeIdeal_MoeReferenceIdeal,
  (trivial : preserves_Moe1_Moe1Ideal), algebraic_Moe1Ideal_Moe1ReferenceIdeal,
  (trivial : preserves_Moe2_Moe2Ideal), algebraic_Moe2Ideal_Moe2ReferenceIdeal,
  (trivial : preserves_Moe3_Moe3Ideal), algebraic_Moe3Ideal_Moe3ReferenceIdeal,
  (trivial : preserves_Hyena_HyenaIdeal), algebraic_HyenaIdeal_HyenaReferenceIdeal,
  (trivial : preserves_Gqa_GqaIdeal), algebraic_GqaIdeal_GqaReferenceIdeal,
  (trivial : preserves_Mlstm_MlstmIdeal), algebraic_MlstmIdeal_MlstmReferenceIdeal,
  (trivial : preserves_Gate_GateIdeal), algebraic_GateIdeal_GateReferenceIdeal⟩

end Cert.Proof

end
